-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_tame2 [hPre_tame2 : Cert.Pre_tame2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tame2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tame2 [hPre_tame2 : Cert.Pre_tame2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tame2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_tame7 [hPre_tame7 : Cert.Pre_tame7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_tame7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_tame7 [hPre_tame7 : Cert.Pre_tame7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_tame7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_tame2 [hKernel2Ideal : Cert.Kernel2Ideal.Facts] [hPre_tame2 : Cert.Pre_tame2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_tame2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tame2 [hReference2Ideal : Cert.Reference2Ideal.Facts] [hPre_tame2 : Cert.Pre_tame2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tame2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Kernel7Ideal_pre_tame7 [hKernel7Ideal : Cert.Kernel7Ideal.Facts] [hPre_tame7 : Cert.Pre_tame7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_tame7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Reference7Ideal_pre_tame7 [hReference7Ideal : Cert.Reference7Ideal.Facts] [hPre_tame7 : Cert.Pre_tame7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_tame7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v55_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v55_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_v167) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_tame2 [hKernel2Ideal : Cert.Kernel2Ideal.Facts] [hReference2Ideal : Cert.Reference2Ideal.Facts] [hPre_tame2 : Cert.Pre_tame2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_tame2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)) (v3 : (c : Dev Cert.Kernel2Ideal.nD) → Buf (Elt Ideal) ((c.tc : Thread Cert.Kernel2Ideal.nD Cert.Kernel2Ideal.τ).loc Cert.Kernel2Ideal.main_v30)) (v4 : (c : Dev Cert.Kernel2Ideal.nD) → Buf (Elt Ideal) ((c.tc : Thread Cert.Kernel2Ideal.nD Cert.Kernel2Ideal.τ).loc Cert.Kernel2Ideal.main_v31)) (v5 : (c : Dev Cert.Kernel2Ideal.nD) → Buf (Elt Ideal) ((c.tc : Thread Cert.Kernel2Ideal.nD Cert.Kernel2Ideal.τ).loc Cert.Kernel2Ideal.main_v26)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_v30) = v3 c
          ∧ r.2.mem ((c.tc : Thread Cert.Kernel2Ideal.nD Cert.Kernel2Ideal.τ).loc Cert.Kernel2Ideal.main_v31) = v4 c
          ∧ r.2.mem ((c.tc : Thread Cert.Kernel2Ideal.nD Cert.Kernel2Ideal.τ).loc Cert.Kernel2Ideal.main_v26) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v54) = v0 c
          ∧ r.2.mem ((c.tc : Thread Cert.Reference2Ideal.nD Cert.Reference2Ideal.τ).loc Cert.Reference2Ideal.main_v55) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v57) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_v60) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v13)) (v1 : (c : Dev Cert.Kernel3Ideal.nD) → Buf (Elt Ideal) ((c.tc : Thread Cert.Kernel3Ideal.nD Cert.Kernel3Ideal.τ).loc Cert.Kernel3Ideal.main_v26)) (v2 : (c : Dev Cert.Kernel3Ideal.nD) → Buf (Elt Ideal) ((c.tc : Thread Cert.Kernel3Ideal.nD Cert.Kernel3Ideal.τ).loc Cert.Kernel3Ideal.main_v15)) (v3 : (c : Dev Cert.Kernel3Ideal.nD) → Buf (Elt Ideal) ((c.tc : Thread Cert.Kernel3Ideal.nD Cert.Kernel3Ideal.τ).loc Cert.Kernel3Ideal.main_v16)) (v4 : (c : Dev Cert.Kernel3Ideal.nD) → Buf (Elt Ideal) ((c.tc : Thread Cert.Kernel3Ideal.nD Cert.Kernel3Ideal.τ).loc Cert.Kernel3Ideal.main_v17)) (v5 : (c : Dev Cert.Kernel3Ideal.nD) → Buf (Elt Ideal) ((c.tc : Thread Cert.Kernel3Ideal.nD Cert.Kernel3Ideal.τ).loc Cert.Kernel3Ideal.main_v27)) (v6 : (c : Dev Cert.Kernel3Ideal.nD) → Buf (Elt Ideal) ((c.tc : Thread Cert.Kernel3Ideal.nD Cert.Kernel3Ideal.τ).loc Cert.Kernel3Ideal.main_v19)) (v7 : (c : Dev Cert.Kernel3Ideal.nD) → Buf (Elt Ideal) ((c.tc : Thread Cert.Kernel3Ideal.nD Cert.Kernel3Ideal.τ).loc Cert.Kernel3Ideal.main_v20)) (v8 : (c : Dev Cert.Kernel3Ideal.nD) → Buf (Elt Ideal) ((c.tc : Thread Cert.Kernel3Ideal.nD Cert.Kernel3Ideal.τ).loc Cert.Kernel3Ideal.main_v21)) (v9 : (c : Dev Cert.Kernel3Ideal.nD) → Buf (Elt Ideal) ((c.tc : Thread Cert.Kernel3Ideal.nD Cert.Kernel3Ideal.τ).loc Cert.Kernel3Ideal.main_v22)) (v10 : (c : Dev Cert.Kernel3Ideal.nD) → Buf (Elt Ideal) ((c.tc : Thread Cert.Kernel3Ideal.nD Cert.Kernel3Ideal.τ).loc Cert.Kernel3Ideal.main_v23)) (v11 : (c : Dev Cert.Kernel3Ideal.nD) → Buf (Elt Ideal) ((c.tc : Thread Cert.Kernel3Ideal.nD Cert.Kernel3Ideal.τ).loc Cert.Kernel3Ideal.main_v24)) (v12 : (c : Dev Cert.Kernel3Ideal.nD) → Buf (Elt Ideal) ((c.tc : Thread Cert.Kernel3Ideal.nD Cert.Kernel3Ideal.τ).loc Cert.Kernel3Ideal.main_v25)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_v26) = v1 c
          ∧ r.2.mem ((c.tc : Thread Cert.Kernel3Ideal.nD Cert.Kernel3Ideal.τ).loc Cert.Kernel3Ideal.main_v15) = v2 c
          ∧ r.2.mem ((c.tc : Thread Cert.Kernel3Ideal.nD Cert.Kernel3Ideal.τ).loc Cert.Kernel3Ideal.main_v16) = v3 c
          ∧ r.2.mem ((c.tc : Thread Cert.Kernel3Ideal.nD Cert.Kernel3Ideal.τ).loc Cert.Kernel3Ideal.main_v17) = v4 c
          ∧ r.2.mem ((c.tc : Thread Cert.Kernel3Ideal.nD Cert.Kernel3Ideal.τ).loc Cert.Kernel3Ideal.main_v27) = v5 c
          ∧ r.2.mem ((c.tc : Thread Cert.Kernel3Ideal.nD Cert.Kernel3Ideal.τ).loc Cert.Kernel3Ideal.main_v19) = v6 c
          ∧ r.2.mem ((c.tc : Thread Cert.Kernel3Ideal.nD Cert.Kernel3Ideal.τ).loc Cert.Kernel3Ideal.main_v20) = v7 c
          ∧ r.2.mem ((c.tc : Thread Cert.Kernel3Ideal.nD Cert.Kernel3Ideal.τ).loc Cert.Kernel3Ideal.main_v21) = v8 c
          ∧ r.2.mem ((c.tc : Thread Cert.Kernel3Ideal.nD Cert.Kernel3Ideal.τ).loc Cert.Kernel3Ideal.main_v22) = v9 c
          ∧ r.2.mem ((c.tc : Thread Cert.Kernel3Ideal.nD Cert.Kernel3Ideal.τ).loc Cert.Kernel3Ideal.main_v23) = v10 c
          ∧ r.2.mem ((c.tc : Thread Cert.Kernel3Ideal.nD Cert.Kernel3Ideal.τ).loc Cert.Kernel3Ideal.main_v24) = v11 c
          ∧ r.2.mem ((c.tc : Thread Cert.Kernel3Ideal.nD Cert.Kernel3Ideal.τ).loc Cert.Kernel3Ideal.main_v25) = v12 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v12) = v1 c
          ∧ r.2.mem ((c.tc : Thread Cert.Reference3Ideal.nD Cert.Reference3Ideal.τ).loc Cert.Reference3Ideal.main_v14) = v2 c
          ∧ r.2.mem ((c.tc : Thread Cert.Reference3Ideal.nD Cert.Reference3Ideal.τ).loc Cert.Reference3Ideal.main_v28) = v3 c
          ∧ r.2.mem ((c.tc : Thread Cert.Reference3Ideal.nD Cert.Reference3Ideal.τ).loc Cert.Reference3Ideal.main_v36) = v4 c
          ∧ r.2.mem ((c.tc : Thread Cert.Reference3Ideal.nD Cert.Reference3Ideal.τ).loc Cert.Reference3Ideal.main_v37) = v5 c
          ∧ r.2.mem ((c.tc : Thread Cert.Reference3Ideal.nD Cert.Reference3Ideal.τ).loc Cert.Reference3Ideal.main_v17) = v6 c
          ∧ r.2.mem ((c.tc : Thread Cert.Reference3Ideal.nD Cert.Reference3Ideal.τ).loc Cert.Reference3Ideal.main_v21) = v7 c
          ∧ r.2.mem ((c.tc : Thread Cert.Reference3Ideal.nD Cert.Reference3Ideal.τ).loc Cert.Reference3Ideal.main_v34) = v8 c
          ∧ r.2.mem ((c.tc : Thread Cert.Reference3Ideal.nD Cert.Reference3Ideal.τ).loc Cert.Reference3Ideal.main_v38) = v9 c
          ∧ r.2.mem ((c.tc : Thread Cert.Reference3Ideal.nD Cert.Reference3Ideal.τ).loc Cert.Reference3Ideal.main_v31) = v10 c
          ∧ r.2.mem ((c.tc : Thread Cert.Reference3Ideal.nD Cert.Reference3Ideal.τ).loc Cert.Reference3Ideal.main_v39) = v11 c
          ∧ r.2.mem ((c.tc : Thread Cert.Reference3Ideal.nD Cert.Reference3Ideal.τ).loc Cert.Reference3Ideal.main_v23) = v12 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v19) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_v19) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_tame7 [hKernel7Ideal : Cert.Kernel7Ideal.Facts] [hReference7Ideal : Cert.Reference7Ideal.Facts] [hPre_tame7 : Cert.Pre_tame7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_tame7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v53) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_v60) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_tame : Cert.Pre_tame.Facts) (hPre_tame2 : Cert.Pre_tame2.Facts) (hPre_tame7 : Cert.Pre_tame7.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ quiescent_Kernel2 (hKernel2 := hKernel2)
    ∧ quiescent_Kernel2Ideal (hKernel2Ideal := hKernel2Ideal)
    ∧ quiescent_Kernel2Ideal_pre_tame2 (hKernel2Ideal := hKernel2Ideal) (hPre_tame2 := hPre_tame2)
    ∧ quiescent_Reference2Ideal (hReference2Ideal := hReference2Ideal)
    ∧ quiescent_Reference2Ideal_pre_tame2 (hReference2Ideal := hReference2Ideal) (hPre_tame2 := hPre_tame2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_tame7 (hKernel7Ideal := hKernel7Ideal) (hPre_tame7 := hPre_tame7)
    ∧ quiescent_Reference7Ideal (hReference7Ideal := hReference7Ideal)
    ∧ quiescent_Reference7Ideal_pre_tame7 (hReference7Ideal := hReference7Ideal) (hPre_tame7 := hPre_tame7)
    ∧ preserves_Kernel_KernelIdeal
    ∧ algebraic_KernelIdeal_ReferenceIdeal_pre_tame (hKernelIdeal := hKernelIdeal) (hReferenceIdeal := hReferenceIdeal) (hPre_tame := hPre_tame)
    ∧ preserves_Kernel2_Kernel2Ideal
    ∧ algebraic_Kernel2Ideal_Reference2Ideal_pre_tame2 (hKernel2Ideal := hKernel2Ideal) (hReference2Ideal := hReference2Ideal) (hPre_tame2 := hPre_tame2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_tame7 (hKernel7Ideal := hKernel7Ideal) (hReference7Ideal := hReference7Ideal) (hPre_tame7 := hPre_tame7)
-- ==== Pre_tame.lean ====
abbrev S2048x2048 : Shape := ⟨2, ![2048, 2048]⟩
abbrev S2048x3072 : Shape := ⟨2, ![2048, 3072]⟩
abbrev S2048x32 : Shape := ⟨2, ![2048, 32]⟩
abbrev S1x2048 : Shape := ⟨2, ![1, 2048]⟩
abbrev S_ : Shape := ⟨0, ![]⟩
abbrev S2048x7232 : Shape := ⟨2, ![2048, 7232]⟩

class Facts : Prop where
  bcast_S_S2048x2048 : S_.BroadcastsInDim S2048x2048 (![] : Fin 0 → Fin S2048x2048.rank)
  bcast_S_S2048x3072 : S_.BroadcastsInDim S2048x3072 (![] : Fin 0 → Fin S2048x3072.rank)
  bcast_S_S2048x32 : S_.BroadcastsInDim S2048x32 (![] : Fin 0 → Fin S2048x32.rank)
  bcast_S_S1x2048 : S_.BroadcastsInDim S1x2048 (![] : Fin 0 → Fin S1x2048.rank)
  bcast_S1x2048_S2048x2048_0_1 : S1x2048.BroadcastsInDim S2048x2048 (![0, 1] : Fin 2 → Fin S2048x2048.rank)
  concatenates_S2048x2048_S2048x3072_S2048x32_S2048x32_S2048x2048_S2048x7232_d1 : Shape.Concatenates [S2048x2048, S2048x3072, S2048x32, S2048x32, S2048x2048] S2048x7232 1

variable [Facts]

def fn_part1 {F : FTy → Type} [FloatOps F] (main_v2 : IVec S2048x2048 1) (main_v5 : IVec S2048x3072 1) (main_v8 : IVec S2048x32 1) (main_v14 : IVec S2048x32 1) (main_v17 : IVec S1x2048 1) : IVec S2048x7232 1 :=
  let main_v18 : IVec S2048x2048 1 := broadcastInDim S2048x2048 ![0, 1] bcast_S1x2048_S2048x2048_0_1 main_v17
  let main_v19 : IVec S2048x7232 1 := concatenate S2048x7232 1 [⟨S2048x2048, main_v2⟩, ⟨S2048x3072, main_v5⟩, ⟨S2048x32, main_v8⟩, ⟨S2048x32, main_v14⟩, ⟨S2048x2048, main_v18⟩] concatenates_S2048x2048_S2048x3072_S2048x32_S2048x32_S2048x2048_S2048x7232_d1
  main_v19

def fn {F : FTy → Type} [FloatOps F] (main_arg0 : FVec F S2048x2048 .f32) (main_arg1 : FVec F S2048x3072 .f32) (main_arg2 : FVec F S2048x32 .f32) (main_arg3 : FVec F S2048x32 .f32) (main_arg4 : FVec F S1x2048 .f32) : IVec S2048x7232 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x3072 .f32 := Host.absf main_arg1
  let main_cst_0 : FVec F S_ .f32 := constant S_ .f32 0x7F800000#32
  let main_v4 : FVec F S2048x3072 .f32 := broadcastInDim S2048x3072 ![] bcast_S_S2048x3072 main_cst_0
  let main_v5 : IVec S2048x3072 1 := cmpf .olt main_v3 main_v4
  let main_v6 : FVec F S2048x32 .f32 := Host.absf main_arg2
  let main_cst_1 : FVec F S_ .f32 := constant S_ .f32 0x7F800000#32
  let main_v7 : FVec F S2048x32 .f32 := broadcastInDim S2048x32 ![] bcast_S_S2048x32 main_cst_1
  let main_v8 : IVec S2048x32 1 := cmpf .olt main_v6 main_v7
  let main_v9 : FVec F S2048x32 .f32 := Host.absf main_arg3
  let main_cst_2 : FVec F S_ .f32 := constant S_ .f32 0x7F800000#32
  let main_v10 : FVec F S2048x32 .f32 := broadcastInDim S2048x32 ![] bcast_S_S2048x32 main_cst_2
  let main_v11 : IVec S2048x32 1 := cmpf .olt main_v9 main_v10
  let main_cst_3 : FVec F S_ .f32 := constant S_ .f32 0x00000000#32
  let main_v12 : FVec F S2048x32 .f32 := broadcastInDim S2048x32 ![] bcast_S_S2048x32 main_cst_3
  let main_v13 : IVec S2048x32 1 := cmpf .ole main_arg3 main_v12
  let main_v14 : IVec S2048x32 1 := andi main_v11 main_v13
  let main_v15 : FVec F S1x2048 .f32 := Host.absf main_arg4
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  fn_part1 (F := F) main_v2 main_v5 main_v8 main_v14 main_v17
-- ==== Pre_tame2.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S12545x1024 : Shape := ⟨2, ![12545, 1024]⟩

class Facts : Prop where
  transposes_S1024x2816_S2816x1024_1_0 : S1024x2816.Transposes [1, 0] S2816x1024
  bcast_S_S2048x1024 : S_.BroadcastsInDim S2048x1024 (![] : Fin 0 → Fin S2048x1024.rank)
  bcast_S_S1x1024 : S_.BroadcastsInDim S1x1024 (![] : Fin 0 → Fin S1x1024.rank)
  bcast_S_S2816x1024 : S_.BroadcastsInDim S2816x1024 (![] : Fin 0 → Fin S2816x1024.rank)
  concatenates_S2048x1024_S2048x1024_S1x1024_S2816x1024_S2816x1024_S2816x1024_S12545x1024_d0 : Shape.Concatenates [S2048x1024, S2048x1024, S1x1024, S2816x1024, S2816x1024, S2816x1024] S12545x1024 0

variable [Facts]

def fn_part1 {F : FTy → Type} [FloatOps F] (main_v4 : IVec S2048x1024 1) (main_v7 : IVec S2048x1024 1) (main_v10 : IVec S1x1024 1) (main_v13 : IVec S2816x1024 1) (main_v16 : IVec S2816x1024 1) (main_v17 : FVec F S2816x1024 .f32) (main_cst_4 : FVec F S_ .f32) : IVec S12545x1024 1 :=
  let main_v18 : FVec F S2816x1024 .f32 := broadcastInDim S2816x1024 ![] bcast_S_S2816x1024 main_cst_4
  let main_v19 : IVec S2816x1024 1 := cmpf .olt main_v17 main_v18
  let main_v20 : IVec S12545x1024 1 := concatenate S12545x1024 0 [⟨S2048x1024, main_v4⟩, ⟨S2048x1024, main_v7⟩, ⟨S1x1024, main_v10⟩, ⟨S2816x1024, main_v13⟩, ⟨S2816x1024, main_v16⟩, ⟨S2816x1024, main_v19⟩] concatenates_S2048x1024_S2048x1024_S1x1024_S2816x1024_S2816x1024_S2816x1024_S12545x1024_d0
  main_v20

def fn {F : FTy → Type} [FloatOps F] (main_arg0 : FVec F S2048x1024 .f32) (main_arg1 : FVec F S2048x1024 .f32) (main_arg2 : FVec F S1x1024 .f32) (main_arg3 : FVec F S1024x2816 .f32) (main_arg4 : FVec F S1024x2816 .f32) (main_arg5 : FVec F S2816x1024 .f32) : IVec S12545x1024 1 :=
  let main_v0 : FVec F S2816x1024 .f32 := (transpose S2816x1024 [1, 0] · transposes_S1024x2816_S2816x1024_1_0) main_arg3
  let main_v1 : FVec F S2816x1024 .f32 := (transpose S2816x1024 [1, 0] · transposes_S1024x2816_S2816x1024_1_0) main_arg4
  let main_v2 : FVec F S2048x1024 .f32 := Host.absf main_arg0
  let main_cst : FVec F S_ .f32 := constant S_ .f32 0x7F800000#32
  let main_v3 : FVec F S2048x1024 .f32 := broadcastInDim S2048x1024 ![] bcast_S_S2048x1024 main_cst
  let main_v4 : IVec S2048x1024 1 := cmpf .olt main_v2 main_v3
  let main_v5 : FVec F S2048x1024 .f32 := Host.absf main_arg1
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_v8 : FVec F S1x1024 .f32 := Host.absf main_arg2
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S2816x1024 .f32 := Host.absf main_v0
  let main_cst_2 : FVec F S_ .f32 := constant S_ .f32 0x7F800000#32
  let main_v12 : FVec F S2816x1024 .f32 := broadcastInDim S2816x1024 ![] bcast_S_S2816x1024 main_cst_2
  let main_v13 : IVec S2816x1024 1 := cmpf .olt main_v11 main_v12
  let main_v14 : FVec F S2816x1024 .f32 := Host.absf main_v1
  let main_cst_3 : FVec F S_ .f32 := constant S_ .f32 0x7F800000#32
  let main_v15 : FVec F S2816x1024 .f32 := broadcastInDim S2816x1024 ![] bcast_S_S2816x1024 main_cst_3
  let main_v16 : IVec S2816x1024 1 := cmpf .olt main_v14 main_v15
  let main_v17 : FVec F S2816x1024 .f32 := Host.absf main_arg5
  let main_cst_4 : FVec F S_ .f32 := constant S_ .f32 0x7F800000#32
  fn_part1 (F := F) main_v4 main_v7 main_v10 main_v13 main_v16 main_v17 main_cst_4
-- ==== Pre_tame7.lean ====
abbrev S2048x1024 : Shape := ⟨2, ![2048, 1024]⟩
abbrev S1x1024 : Shape := ⟨2, ![1, 1024]⟩
abbrev S_ : Shape := ⟨0, ![]⟩
abbrev S2049x1024 : Shape := ⟨2, ![2049, 1024]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  concatenates_S2048x1024_S1x1024_S2049x1024_d0 : Shape.Concatenates [S2048x1024, S1x1024] S2049x1024 0

variable [Facts]

def fn {F : FTy → Type} [FloatOps F] (main_arg0 : FVec F S2048x1024 .f32) (main_arg1 : FVec F S2048x1024 .f32) (main_arg2 : FVec F S2048x1024 .f32) (main_arg3 : FVec F S1x1024 .f32) (main_arg4 : FVec F S1x1024 .f32) : IVec S2049x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg3
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S2049x1024 1 := (fun a b => concatenate S2049x1024 0 [⟨S2048x1024, a⟩, ⟨S1x1024, b⟩] concatenates_S2048x1024_S1x1024_S2049x1024_d0) main_v2 main_v5
  main_v6
-- ==== Kernel.lean ====
abbrev S2048x2048 : Shape := ⟨2, ![2048, 2048]⟩
abbrev S2048x3072 : Shape := ⟨2, ![2048, 3072]⟩
abbrev S2048x32 : Shape := ⟨2, ![2048, 32]⟩
abbrev S1x2048 : Shape := ⟨2, ![1, 2048]⟩
abbrev S2048x512 : Shape := ⟨2, ![2048, 512]⟩
abbrev S2048x32x64 : Shape := ⟨3, ![2048, 32, 64]⟩
abbrev S2048x32x1 : Shape := ⟨3, ![2048, 32, 1]⟩
abbrev S16x128x4x8x64 : Shape := ⟨5, ![16, 128, 4, 8, 64]⟩
abbrev S16x128x4x128 : Shape := ⟨4, ![16, 128, 4, 128]⟩
abbrev S16x128x4x8 : Shape := ⟨4, ![16, 128, 4, 8]⟩
abbrev S4x8x16x128 : Shape := ⟨4, ![4, 8, 16, 128]⟩
abbrev S_ : Shape := ⟨0, ![]⟩
abbrev S4x8x16x1 : Shape := ⟨4, ![4, 8, 16, 1]⟩
abbrev S16x128x4x8x1 : Shape := ⟨5, ![16, 128, 4, 8, 1]⟩
abbrev S16x4x8x64x128 : Shape := ⟨5, ![16, 4, 8, 64, 128]⟩
abbrev S4x8x1 : Shape := ⟨3, ![4, 8, 1]⟩
abbrev S4x8x16 : Shape := ⟨3, ![4, 8, 16]⟩
abbrev S4x8x17 : Shape := ⟨3, ![4, 8, 17]⟩
abbrev S4x8x17x1 : Shape := ⟨4, ![4, 8, 17, 1]⟩
abbrev S4x8x17x17 : Shape := ⟨4, ![4, 8, 17, 17]⟩
abbrev S17x17 : Shape := ⟨2, ![17, 17]⟩
abbrev S4x8x16x16 : Shape := ⟨4, ![4, 8, 16, 16]⟩
abbrev S4x8x64x128x16 : Shape := ⟨5, ![4, 8, 64, 128, 16]⟩
abbrev S16x128x2048 : Shape := ⟨3, ![16, 128, 2048]⟩
abbrev S32x2048 : Shape := ⟨2, ![32, 2048]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S4x512x128 : Shape := ⟨3, ![4, 512, 128]⟩
abbrev S128x2048 : Shape := ⟨2, ![128, 2048]⟩
abbrev S128x3072 : Shape := ⟨2, ![128, 3072]⟩
abbrev S32x128 : Shape := ⟨2, ![32, 128]⟩
abbrev S1x128x2048 : Shape := ⟨3, ![1, 128, 2048]⟩
abbrev S128x128 : Shape := ⟨2, ![128, 128]⟩
abbrev S128x512 : Shape := ⟨2, ![128, 512]⟩
abbrev S1x512 : Shape := ⟨2, ![1, 512]⟩
abbrev S1x128x512 : Shape := ⟨3, ![1, 128, 512]⟩
abbrev S512 : Shape := ⟨1, ![512]⟩
abbrev S1x512x128 : Shape := ⟨3, ![1, 512, 128]⟩
abbrev S512x128 : Shape := ⟨2, ![512, 128]⟩
abbrev S8x512 : Shape := ⟨2, ![8, 512]⟩
abbrev S8x128 : Shape := ⟨2, ![8, 128]⟩
abbrev S128x1 : Shape := ⟨2, ![128, 1]⟩
abbrev S128x64 : Shape := ⟨2, ![128, 64]⟩

abbrev nBuf : Space → Nat
  | .hbm => 112
  | .vmem => 22
  | .smem => 0
  | _ => 0

abbrev bufTy : (tb : Table) → Fin (tcTables nBuf tb) → BufTy
  | .hbm, ⟨0, _⟩ => ⟨S2048x2048, .f32⟩
  | .hbm, ⟨1, _⟩ => ⟨S2048x3072, .f32⟩
  | .hbm, ⟨2, _⟩ => ⟨S2048x32, .f32⟩
  | .hbm, ⟨3, _⟩ => ⟨S2048x32, .f32⟩
  | .hbm, ⟨4, _⟩ => ⟨S1x2048, .f32⟩
  | .hbm, ⟨5, _⟩ => ⟨S2048x2048, .f32⟩
  | .hbm, ⟨6, _⟩ => ⟨S2048x512, .f32⟩
  | .hbm, ⟨7, _⟩ => ⟨S2048x512, .f32⟩
  | .hbm, ⟨8, _⟩ => ⟨S2048x32x64, .f32⟩
  | .hbm, ⟨9, _⟩ => ⟨S2048x32x1, .f32⟩
  | .hbm, ⟨10, _⟩ => ⟨S2048x32x64, .f32⟩
  | .hbm, ⟨11, _⟩ => ⟨S2048x32x64, .f32⟩
  | .hbm, ⟨12, _⟩ => ⟨S16x128x4x8x64, .f32⟩
  | .hbm, ⟨13, _⟩ => ⟨S16x128x4x128, .f32⟩
  | .hbm, ⟨14, _⟩ => ⟨S16x128x4x8, .f32⟩
  | .hbm, ⟨15, _⟩ => ⟨S4x8x16x128, .f32⟩
  | .hbm, ⟨16, _⟩ => ⟨S_, .f32⟩
  | .hbm, ⟨17, _⟩ => ⟨S_, .f32⟩
  | .hbm, ⟨18, _⟩ => ⟨S4x8x16x128, .f32⟩
  | .hbm, ⟨19, _⟩ => ⟨S4x8x16x1, .f32⟩
  | .hbm, ⟨20, _⟩ => ⟨S4x8x16x128, .f32⟩
  | .hbm, ⟨21, _⟩ => ⟨S4x8x16x128, .f32⟩
  | .hbm, ⟨22, _⟩ => ⟨S4x8x16x128, .f32⟩
  | .hbm, ⟨23, _⟩ => ⟨S16x128x4x8, .f32⟩
  | .hbm, ⟨24, _⟩ => ⟨S16x128x4x8x1, .f32⟩
  | .hbm, ⟨25, _⟩ => ⟨S16x128x4x8x64, .f32⟩
  | .hbm, ⟨26, _⟩ => ⟨S16x128x4x8x64, .f32⟩
  | .hbm, ⟨27, _⟩ => ⟨S16x4x8x64x128, .f32⟩
  | .hbm, ⟨28, _⟩ => ⟨S_, .f32⟩
  | .hbm, ⟨29, _⟩ => ⟨S4x8x1, .f32⟩
  | .hbm, ⟨30, _⟩ => ⟨S4x8x16x1, .f32⟩
  | .hbm, ⟨31, _⟩ => ⟨S4x8x16, .f32⟩
  | .hbm, ⟨32, _⟩ => ⟨S4x8x17, .f32⟩
  | .hbm, ⟨33, _⟩ => ⟨S4x8x17x1, .f32⟩
  | .hbm, ⟨34, _⟩ => ⟨S4x8x17x17, .f32⟩
  | .hbm, ⟨35, _⟩ => ⟨S_, .i1⟩
  | .hbm, ⟨36, _⟩ => ⟨S17x17, .i1⟩
  | .hbm, ⟨37, _⟩ => ⟨S17x17, .i32⟩
  | .hbm, ⟨38, _⟩ => ⟨S_, .i32⟩
  | .hbm, ⟨39, _⟩ => ⟨S17x17, .i32⟩
  | .hbm, ⟨40, _⟩ => ⟨S17x17, .i32⟩
  | .hbm, ⟨41, _⟩ => ⟨S17x17, .i32⟩
  | .hbm, ⟨42, _⟩ => ⟨S17x17, .i1⟩
  | .hbm, ⟨43, _⟩ => ⟨S_, .i1⟩
  | .hbm, ⟨44, _⟩ => ⟨S17x17, .i1⟩
  | .hbm, ⟨45, _⟩ => ⟨S17x17, .i1⟩
  | .hbm, ⟨46, _⟩ => ⟨S_, .f32⟩
  | .hbm, ⟨47, _⟩ => ⟨S_, .f32⟩
  | .hbm, ⟨48, _⟩ => ⟨S4x8x17x17, .i1⟩
  | .hbm, ⟨49, _⟩ => ⟨S4x8x17x17, .f32⟩
  | .hbm, ⟨50, _⟩ => ⟨S4x8x17x17, .f32⟩
  | .hbm, ⟨51, _⟩ => ⟨S_, .f32⟩
  | .hbm, ⟨52, _⟩ => ⟨S_, .f32⟩
  | .hbm, ⟨53, _⟩ => ⟨S4x8x17x17, .f32⟩
  | .hbm, ⟨54, _⟩ => ⟨S_, .i1⟩
  | .hbm, ⟨55, _⟩ => ⟨S17x17, .i1⟩
  | .hbm, ⟨56, _⟩ => ⟨S17x17, .i32⟩
  | .hbm, ⟨57, _⟩ => ⟨S_, .i32⟩
  | .hbm, ⟨58, _⟩ => ⟨S17x17, .i32⟩
  | .hbm, ⟨59, _⟩ => ⟨S17x17, .i32⟩
  | .hbm, ⟨60, _⟩ => ⟨S17x17, .i32⟩
  | .hbm, ⟨61, _⟩ => ⟨S17x17, .i1⟩
  | .hbm, ⟨62, _⟩ => ⟨S_, .i1⟩
  | .hbm, ⟨63, _⟩ => ⟨S17x17, .i1⟩
  | .hbm, ⟨64, _⟩ => ⟨S17x17, .i1⟩
  | .hbm, ⟨65, _⟩ => ⟨S_, .f32⟩
  | .hbm, ⟨66, _⟩ => ⟨S_, .f32⟩
  | .hbm, ⟨67, _⟩ => ⟨S4x8x17x17, .i1⟩
  | .hbm, ⟨68, _⟩ => ⟨S4x8x17x17, .f32⟩
  | .hbm, ⟨69, _⟩ => ⟨S4x8x17x17, .f32⟩
  | .hbm, ⟨70, _⟩ => ⟨S4x8x17x17, .f32⟩
  | .hbm, ⟨71, _⟩ => ⟨S4x8x16x16, .f32⟩
  | .hbm, ⟨72, _⟩ => ⟨S4x8x64x128x16, .f32⟩
  | .hbm, ⟨73, _⟩ => ⟨S16x4x8x64x128, .f32⟩
  | .hbm, ⟨74, _⟩ => ⟨S16x128x4x8x64, .f32⟩
  | .hbm, ⟨75, _⟩ => ⟨S16x128x2048, .f32⟩
  | .hbm, ⟨76, _⟩ => ⟨S2048x32x64, .f32⟩
  | .hbm, ⟨77, _⟩ => ⟨S2048x2048, .f32⟩
  | .hbm, ⟨78, _⟩ => ⟨S2048x32x64, .f32⟩
  | .hbm, ⟨79, _⟩ => ⟨S2048x2048, .f32⟩
  | .hbm, ⟨80, _⟩ => ⟨S32x2048, .f32⟩
  | .hbm, ⟨81, _⟩ => ⟨S2048, .i32⟩
  | .hbm, ⟨82, _⟩ => ⟨S2048x1, .i32⟩
  | .hbm, ⟨83, _⟩ => ⟨S_, .i32⟩
  | .hbm, ⟨84, _⟩ => ⟨S_, .i32⟩
  | .hbm, ⟨85, _⟩ => ⟨S2048x1, .i32⟩
  | .hbm, ⟨86, _⟩ => ⟨S2048x1, .i32⟩
  | .hbm, ⟨87, _⟩ => ⟨S2048x1, .i32⟩
  | .hbm, ⟨88, _⟩ => ⟨S_, .i32⟩
  | .hbm, ⟨89, _⟩ => ⟨S2048x1, .i32⟩
  | .hbm, ⟨90, _⟩ => ⟨S2048x1, .i1⟩
  | .hbm, ⟨91, _⟩ => ⟨S2048x1, .i32⟩
  | .hbm, ⟨92, _⟩ => ⟨S2048x1, .i32⟩
  | .hbm, ⟨93, _⟩ => ⟨S_, .i32⟩
  | .hbm, ⟨94, _⟩ => ⟨S2048x1, .i32⟩
  | .hbm, ⟨95, _⟩ => ⟨S2048x1, .i1⟩
  | .hbm, ⟨96, _⟩ => ⟨S2048x1, .i1⟩
  | .hbm, ⟨97, _⟩ => ⟨S_, .i32⟩
  | .hbm, ⟨98, _⟩ => ⟨S2048x1, .i32⟩
  | .hbm, ⟨99, _⟩ => ⟨S2048x1, .i32⟩
  | .hbm, ⟨100, _⟩ => ⟨S2048x1, .i32⟩
  | .hbm, ⟨101, _⟩ => ⟨S128, .i32⟩
  | .hbm, ⟨102, _⟩ => ⟨S1x128, .i32⟩
  | .hbm, ⟨103, _⟩ => ⟨S2048x128, .i32⟩
  | .hbm, ⟨104, _⟩ => ⟨S2048x128, .i32⟩
  | .hbm, ⟨105, _⟩ => ⟨S2048x128, .i1⟩
  | .hbm, ⟨106, _⟩ => ⟨S2048x128, .bf16⟩
  | .hbm, ⟨107, _⟩ => ⟨S4x512x128, .bf16⟩
  | .hbm, ⟨108, _⟩ => ⟨S2048x3072, .f32⟩
  | .hbm, ⟨109, _⟩ => ⟨S2048x128, .f32⟩
  | .hbm, ⟨110, _⟩ => ⟨S2048x128, .f32⟩
  | .hbm, ⟨111, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x3072, .f32⟩
  | .local _ .vmem, ⟨3, _⟩ => ⟨S128x3072, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S32x128, .f32⟩
  | .local _ .vmem, ⟨9, _⟩ => ⟨S32x128, .f32⟩
  | .local _ .vmem, ⟨10, _⟩ => ⟨S1x2048, .f32⟩
  | .local _ .vmem, ⟨11, _⟩ => ⟨S1x128x2048, .f32⟩
  | .local _ .vmem, ⟨12, _⟩ => ⟨S1x128x2048, .f32⟩
  | .local _ .vmem, ⟨13, _⟩ => ⟨S4x512x128, .bf16⟩
  | .local _ .vmem, ⟨14, _⟩ => ⟨S128x3072, .f32⟩
  | .local _ .vmem, ⟨15, _⟩ => ⟨S128x3072, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S1x2048, .f32⟩
  | .local _ .vmem, ⟨21, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_v27 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_0 : Ref sig .tc := ⟨.hbm, 43, rfl⟩
abbrev main_call1_v5 : Ref sig .tc := ⟨.hbm, 44, rfl⟩
abbrev main_v28 : Ref sig .tc := ⟨.hbm, 45, rfl⟩
abbrev main_cst_0 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_v29 : Ref sig .tc := ⟨.hbm, 50, rfl⟩
abbrev main_call3_call0_cst : Ref sig .tc := ⟨.hbm, 51, rfl⟩
abbrev main_call3_call0_v0 : Ref sig .tc := ⟨.hbm, 52, rfl⟩
abbrev main_v30 : Ref sig .tc := ⟨.hbm, 53, rfl⟩
abbrev main_c_1 : Ref sig .tc := ⟨.hbm, 54, rfl⟩
abbrev main_v31 : Ref sig .tc := ⟨.hbm, 55, rfl⟩
abbrev main_call4_v0 : Ref sig .tc := ⟨.hbm, 56, rfl⟩
abbrev main_call4_c : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_c_0 : Ref sig .tc := ⟨.hbm, 62, rfl⟩
abbrev main_call4_v5 : Ref sig .tc := ⟨.hbm, 63, rfl⟩
abbrev main_v32 : Ref sig .tc := ⟨.hbm, 64, rfl⟩
abbrev main_cst_2 : Ref sig .tc := ⟨.hbm, 65, rfl⟩
abbrev main_call5_v0 : Ref sig .tc := ⟨.hbm, 66, rfl⟩
abbrev main_call5_v1 : Ref sig .tc := ⟨.hbm, 67, rfl⟩
abbrev main_call5_v2 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_c_3 : Ref sig .tc := ⟨.hbm, 83, rfl⟩
abbrev main_call6_v0 : Ref sig .tc := ⟨.hbm, 84, rfl⟩
abbrev main_call6_v1 : Ref sig .tc := ⟨.hbm, 85, rfl⟩
abbrev main_call6_v2 : Ref sig .tc := ⟨.hbm, 86, rfl⟩
abbrev main_call6_v3 : Ref sig .tc := ⟨.hbm, 87, rfl⟩
abbrev main_call6_v4 : Ref sig .tc := ⟨.hbm, 88, rfl⟩
abbrev main_call6_v5 : Ref sig .tc := ⟨.hbm, 89, rfl⟩
abbrev main_call6_v6 : Ref sig .tc := ⟨.hbm, 90, rfl⟩
abbrev main_call6_v7 : Ref sig .tc := ⟨.hbm, 91, rfl⟩
abbrev main_call6_v8 : Ref sig .tc := ⟨.hbm, 92, rfl⟩
abbrev main_call6_c : Ref sig .tc := ⟨.hbm, 93, rfl⟩
abbrev main_call6_v9 : Ref sig .tc := ⟨.hbm, 94, rfl⟩
abbrev main_call6_v10 : Ref sig .tc := ⟨.hbm, 95, rfl⟩
abbrev main_call6_v11 : Ref sig .tc := ⟨.hbm, 96, rfl⟩
abbrev main_call6_c_0 : Ref sig .tc := ⟨.hbm, 97, rfl⟩
abbrev main_call6_v12 : Ref sig .tc := ⟨.hbm, 98, rfl⟩
abbrev main_call6_v13 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55_0 : Ref sig .tc := ⟨.hbm, 108, rfl⟩
abbrev main_v55_1 : Ref sig .tc := ⟨.hbm, 109, rfl⟩
abbrev main_v55_2 : Ref sig .tc := ⟨.hbm, 110, rfl⟩
abbrev main_v55_3 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x2048 : Shape := ⟨2, ![2048, 2048]⟩
abbrev S2048x3072 : Shape := ⟨2, ![2048, 3072]⟩
abbrev S2048x32 : Shape := ⟨2, ![2048, 32]⟩
abbrev S1x2048 : Shape := ⟨2, ![1, 2048]⟩
abbrev S2048x512 : Shape := ⟨2, ![2048, 512]⟩
abbrev S2048x32x64 : Shape := ⟨3, ![2048, 32, 64]⟩
abbrev S2048x32x1 : Shape := ⟨3, ![2048, 32, 1]⟩
abbrev S16x128x4x8x64 : Shape := ⟨5, ![16, 128, 4, 8, 64]⟩
abbrev S16x128x4x128 : Shape := ⟨4, ![16, 128, 4, 128]⟩
abbrev S16x128x4x8 : Shape := ⟨4, ![16, 128, 4, 8]⟩
abbrev S4x8x16x128 : Shape := ⟨4, ![4, 8, 16, 128]⟩
abbrev S_ : Shape := ⟨0, ![]⟩
abbrev S4x8x16x128x1 : Shape := ⟨5, ![4, 8, 16, 128, 1]⟩
abbrev S4x8x16x128x128 : Shape := ⟨5, ![4, 8, 16, 128, 128]⟩
abbrev S128x128 : Shape := ⟨2, ![128, 128]⟩
abbrev S4x16x128x128 : Shape := ⟨4, ![4, 16, 128, 128]⟩
abbrev S4x1x16x128x128 : Shape := ⟨5, ![4, 1, 16, 128, 128]⟩
abbrev S16x4x8x64x128 : Shape := ⟨5, ![16, 4, 8, 64, 128]⟩
abbrev S4x8x16x1 : Shape := ⟨4, ![4, 8, 16, 1]⟩
abbrev S16x128x4x8x1 : Shape := ⟨5, ![16, 128, 4, 8, 1]⟩
abbrev S4x8x1 : Shape := ⟨3, ![4, 8, 1]⟩
abbrev S4x8x16 : Shape := ⟨3, ![4, 8, 16]⟩
abbrev S4x8x17 : Shape := ⟨3, ![4, 8, 17]⟩
abbrev S4x8x17x1 : Shape := ⟨4, ![4, 8, 17, 1]⟩
abbrev S4x8x17x17 : Shape := ⟨4, ![4, 8, 17, 17]⟩
abbrev S17x17 : Shape := ⟨2, ![17, 17]⟩
abbrev S4x8x16x16 : Shape := ⟨4, ![4, 8, 16, 16]⟩
abbrev S4x8x64x128x16 : Shape := ⟨5, ![4, 8, 64, 128, 16]⟩
abbrev S2048 : Shape := ⟨1, ![2048]⟩
abbrev S16x4x128x128 : Shape := ⟨4, ![16, 4, 128, 128]⟩
abbrev S16x4x8x128x128 : Shape := ⟨5, ![16, 4, 8, 128, 128]⟩
abbrev S2048x128 : Shape := ⟨2, ![2048, 128]⟩

abbrev nBuf : Space → Nat
  | .hbm => 276
  | .vmem => 0
  | .smem => 0
  | _ => 0

abbrev hbmTy0_0 (i : Nat) : BufTy := match i % 128 with
  | 0 => ⟨S2048x2048, .f32⟩
  | 1 => ⟨S2048x3072, .f32⟩
  | 2 => ⟨S2048x32, .f32⟩
  | 3 => ⟨S2048x32, .f32⟩
  | 4 => ⟨S1x2048, .f32⟩
  | 5 => ⟨S2048x2048, .f32⟩
  | 6 => ⟨S2048x512, .f32⟩
  | 7 => ⟨S2048x512, .f32⟩
  | 8 => ⟨S2048x32x64, .f32⟩
  | 9 => ⟨S2048x32x1, .f32⟩
  | 10 => ⟨S2048x32x64, .f32⟩
  | 11 => ⟨S2048x32x64, .f32⟩
  | 12 => ⟨S16x128x4x8x64, .f32⟩
  | 13 => ⟨S16x128x4x128, .f32⟩
  | 14 => ⟨S16x128x4x128, .f32⟩
  | 15 => ⟨S16x128x4x8, .f32⟩
  | 16 => ⟨S4x8x16x128, .f32⟩
  | 17 => ⟨S_, .f32⟩
  | 18 => ⟨S_, .f32⟩
  | 19 => ⟨S4x8x16x128, .f32⟩
  | 20 => ⟨S4x8x16x128x1, .f32⟩
  | 21 => ⟨S4x8x16x128x128, .f32⟩
  | 22 => ⟨S_, .i1⟩
  | 23 => ⟨S128x128, .i1⟩
  | 24 => ⟨S128x128, .i32⟩
  | 25 => ⟨S_, .i32⟩
  | 26 => ⟨S128x128, .i32⟩
  | 27 => ⟨S128x128, .i32⟩
  | 28 => ⟨S128x128, .i32⟩
  | 29 => ⟨S128x128, .i1⟩
  | 30 => ⟨S_, .i1⟩
  | 31 => ⟨S128x128, .i1⟩
  | 32 => ⟨S128x128, .i1⟩
  | 33 => ⟨S_, .f32⟩
  | 34 => ⟨S_, .f32⟩
  | 35 => ⟨S4x8x16x128x128, .i1⟩
  | 36 => ⟨S4x8x16x128x128, .f32⟩
  | 37 => ⟨S4x8x16x128x128, .f32⟩
  | 38 => ⟨S_, .f32⟩
  | 39 => ⟨S4x8x16x128x128, .f32⟩
  | 40 => ⟨S_, .f32⟩
  | 41 => ⟨S_, .f32⟩
  | 42 => ⟨S4x8x16x128x128, .f32⟩
  | 43 => ⟨S_, .i1⟩
  | 44 => ⟨S128x128, .i1⟩
  | 45 => ⟨S128x128, .i32⟩
  | 46 => ⟨S_, .i32⟩
  | 47 => ⟨S128x128, .i32⟩
  | 48 => ⟨S128x128, .i32⟩
  | 49 => ⟨S128x128, .i32⟩
  | 50 => ⟨S128x128, .i1⟩
  | 51 => ⟨S_, .i1⟩
  | 52 => ⟨S128x128, .i1⟩
  | 53 => ⟨S128x128, .i1⟩
  | 54 => ⟨S_, .f32⟩
  | 55 => ⟨S_, .f32⟩
  | 56 => ⟨S4x8x16x128x128, .i1⟩
  | 57 => ⟨S4x8x16x128x128, .f32⟩
  | 58 => ⟨S4x8x16x128x128, .f32⟩
  | 59 => ⟨S_, .f32⟩
  | 60 => ⟨S4x8x16x128x128, .f32⟩
  | 61 => ⟨S4x8x16x128x128, .f32⟩
  | 62 => ⟨S4x16x128x128, .f32⟩
  | 63 => ⟨S4x1x16x128x128, .f32⟩
  | 64 => ⟨S4x8x16x128x128, .f32⟩
  | 65 => ⟨S4x8x16x128x128, .f32⟩
  | 66 => ⟨S16x4x8x64x128, .f32⟩
  | 67 => ⟨S16x128x4x8x64, .f32⟩
  | 68 => ⟨S4x8x16x1, .f32⟩
  | 69 => ⟨S4x8x16x128, .f32⟩
  | 70 => ⟨S4x8x16x128, .f32⟩
  | 71 => ⟨S4x8x16x128, .f32⟩
  | 72 => ⟨S16x128x4x8, .f32⟩
  | 73 => ⟨S16x128x4x8x1, .f32⟩
  | 74 => ⟨S16x128x4x8x64, .f32⟩
  | 75 => ⟨S16x128x4x8x64, .f32⟩
  | 76 => ⟨S16x4x8x64x128, .f32⟩
  | 77 => ⟨S_, .f32⟩
  | 78 => ⟨S4x8x1, .f32⟩
  | 79 => ⟨S4x8x16x1, .f32⟩
  | 80 => ⟨S4x8x16, .f32⟩
  | 81 => ⟨S4x8x17, .f32⟩
  | 82 => ⟨S_, .f32⟩
  | 83 => ⟨S4x8x1, .f32⟩
  | 84 => ⟨S4x8x17x1, .f32⟩
  | 85 => ⟨S4x8x17x17, .f32⟩
  | 86 => ⟨S_, .i1⟩
  | 87 => ⟨S17x17, .i1⟩
  | 88 => ⟨S17x17, .i32⟩
  | 89 => ⟨S_, .i32⟩
  | 90 => ⟨S17x17, .i32⟩
  | 91 => ⟨S17x17, .i32⟩
  | 92 => ⟨S17x17, .i32⟩
  | 93 => ⟨S17x17, .i1⟩
  | 94 => ⟨S_, .i1⟩
  | 95 => ⟨S17x17, .i1⟩
  | 96 => ⟨S17x17, .i1⟩
  | 97 => ⟨S_, .f32⟩
  | 98 => ⟨S_, .f32⟩
  | 99 => ⟨S4x8x17x17, .i1⟩
  | 100 => ⟨S4x8x17x17, .f32⟩
  | 101 => ⟨S4x8x17x17, .f32⟩
  | 102 => ⟨S_, .f32⟩
  | 103 => ⟨S4x8x17x17, .f32⟩
  | 104 => ⟨S_, .f32⟩
  | 105 => ⟨S_, .f32⟩
  | 106 => ⟨S4x8x17x17, .f32⟩
  | 107 => ⟨S_, .i1⟩
  | 108 => ⟨S17x17, .i1⟩
  | 109 => ⟨S17x17, .i32⟩
  | 110 => ⟨S_, .i32⟩
  | 111 => ⟨S17x17, .i32⟩
  | 112 => ⟨S17x17, .i32⟩
  | 113 => ⟨S17x17, .i32⟩
  | 114 => ⟨S17x17, .i1⟩
  | 115 => ⟨S_, .i1⟩
  | 116 => ⟨S17x17, .i1⟩
  | 117 => ⟨S17x17, .i1⟩
  | 118 => ⟨S_, .f32⟩
  | 119 => ⟨S_, .f32⟩
  | 120 => ⟨S4x8x17x17, .i1⟩
  | 121 => ⟨S4x8x17x17, .f32⟩
  | 122 => ⟨S4x8x17x17, .f32⟩
  | 123 => ⟨S_, .f32⟩
  | 124 => ⟨S4x8x17x17, .f32⟩
  | 125 => ⟨S4x8x17x17, .f32⟩
  | 126 => ⟨S4x8x16x16, .f32⟩
  | 127 => ⟨S4x8x64x128x16, .f32⟩
  | _ => ⟨S2048x2048, .f32⟩

abbrev hbmTy0_1 (i : Nat) : BufTy := match i % 128 with
  | 0 => ⟨S16x4x8x64x128, .f32⟩
  | 1 => ⟨S4x8x16x128, .f32⟩
  | 2 => ⟨S16x128x4x8, .f32⟩
  | 3 => ⟨S16x4x8x64x128, .f32⟩
  | 4 => ⟨S16x128x4x8x64, .f32⟩
  | 5 => ⟨S16x128x4x8x1, .f32⟩
  | 6 => ⟨S16x128x4x8x64, .f32⟩
  | 7 => ⟨S16x128x4x8x64, .f32⟩
  | 8 => ⟨S16x128x4x8x64, .f32⟩
  | 9 => ⟨S2048x2048, .f32⟩
  | 10 => ⟨S2048x2048, .f32⟩
  | 11 => ⟨S2048x2048, .f32⟩
  | 12 => ⟨S2048x2048, .f32⟩
  | 13 => ⟨S2048x2048, .f32⟩
  | 14 => ⟨S2048x2048, .f32⟩
  | 15 => ⟨S2048x2048, .f32⟩
  | 16 => ⟨S2048x2048, .f32⟩
  | 17 => ⟨S_, .f32⟩
  | 18 => ⟨S2048, .f32⟩
  | 19 => ⟨S1x2048, .f32⟩
  | 20 => ⟨S2048x2048, .f32⟩
  | 21 => ⟨S2048x2048, .f32⟩
  | 22 => ⟨S2048x32x64, .f32⟩
  | 23 => ⟨S16x128x4x8x64, .f32⟩
  | 24 => ⟨S16x128x4x8x64, .f32⟩
  | 25 => ⟨S_, .f32⟩
  | 26 => ⟨S16x128x4x8, .f32⟩
  | 27 => ⟨S16x128x4x8x1, .f32⟩
  | 28 => ⟨S16x128x4x8x64, .f32⟩
  | 29 => ⟨S16x128x4x8x64, .f32⟩
  | 30 => ⟨S_, .f32⟩
  | 31 => ⟨S16x128x4x8, .f32⟩
  | 32 => ⟨S16x4x8x64x128, .f32⟩
  | 33 => ⟨S16x4x128x128, .f32⟩
  | 34 => ⟨S16x128x4x128, .f32⟩
  | 35 => ⟨S16x4x8x64x128, .f32⟩
  | 36 => ⟨S4x8x16x128, .f32⟩
  | 37 => ⟨S4x8x16x128, .f32⟩
  | 38 => ⟨S4x8x64x128x16, .f32⟩
  | 39 => ⟨S4x8x16x16, .f32⟩
  | 40 => ⟨S4x8x64x128x16, .f32⟩
  | 41 => ⟨S16x4x8x64x128, .f32⟩
  | 42 => ⟨S_, .f32⟩
  | 43 => ⟨S4x8x17x17, .f32⟩
  | 44 => ⟨S4x8x17x17, .f32⟩
  | 45 => ⟨S_, .f32⟩
  | 46 => ⟨S4x8x17x17, .f32⟩
  | 47 => ⟨S4x8x17x17, .f32⟩
  | 48 => ⟨S_, .f32⟩
  | 49 => ⟨S_, .f32⟩
  | 50 => ⟨S4x8x17x17, .f32⟩
  | 51 => ⟨S_, .f32⟩
  | 52 => ⟨S4x8x17x17, .f32⟩
  | 53 => ⟨S4x8x17x17, .f32⟩
  | 54 => ⟨S_, .f32⟩
  | 55 => ⟨S4x8x17, .f32⟩
  | 56 => ⟨S4x8x17x1, .f32⟩
  | 57 => ⟨S_, .f32⟩
  | 58 => ⟨S4x8x17, .f32⟩
  | 59 => ⟨S4x8x1, .f32⟩
  | 60 => ⟨S4x8x16, .f32⟩
  | 61 => ⟨S4x8x16x1, .f32⟩
  | 62 => ⟨S_, .f32⟩
  | 63 => ⟨S4x8x16x128, .f32⟩
  | 64 => ⟨S4x8x16x128, .f32⟩
  | 65 => ⟨S16x4x128x128, .f32⟩
  | 66 => ⟨S16x128x4x128, .f32⟩
  | 67 => ⟨S16x4x8x64x128, .f32⟩
  | 68 => ⟨S16x128x4x8x64, .f32⟩
  | 69 => ⟨S16x128x4x8x64, .f32⟩
  | 70 => ⟨S_, .f32⟩
  | 71 => ⟨S16x128x4x8, .f32⟩
  | 72 => ⟨S16x128x4x8x1, .f32⟩
  | 73 => ⟨S16x128x4x8x64, .f32⟩
  | 74 => ⟨S16x128x4x8x64, .f32⟩
  | 75 => ⟨S_, .f32⟩
  | 76 => ⟨S16x128x4x8, .f32⟩
  | 77 => ⟨S4x8x16x128, .f32⟩
  | 78 => ⟨S4x8x16x128, .f32⟩
  | 79 => ⟨S_, .f32⟩
  | 80 => ⟨S4x8x16, .f32⟩
  | 81 => ⟨S4x8x16x1, .f32⟩
  | 82 => ⟨S4x8x16x128, .f32⟩
  | 83 => ⟨S4x8x16x128, .f32⟩
  | 84 => ⟨S_, .f32⟩
  | 85 => ⟨S4x8x16x128, .f32⟩
  | 86 => ⟨S4x8x16x128, .f32⟩
  | 87 => ⟨S16x4x8x64x128, .f32⟩
  | 88 => ⟨S16x4x8x128x128, .f32⟩
  | 89 => ⟨S4x8x16x128x128, .f32⟩
  | 90 => ⟨S16x4x8x64x128, .f32⟩
  | 91 => ⟨S16x128x4x8x64, .f32⟩
  | 92 => ⟨S16x128x4x8x64, .f32⟩
  | 93 => ⟨S4x8x16x128x128, .f32⟩
  | 94 => ⟨S4x8x16x128x128, .f32⟩
  | 95 => ⟨S4x8x16x128x128, .f32⟩
  | 96 => ⟨S_, .f32⟩
  | 97 => ⟨S4x16x128x128, .f32⟩
  | 98 => ⟨S4x1x16x128x128, .f32⟩
  | 99 => ⟨S_, .f32⟩
  | 100 => ⟨S4x16x128x128, .f32⟩
  | 101 => ⟨S4x16x128x128, .f32⟩
  | 102 => ⟨S16x128x4x128, .f32⟩
  | 103 => ⟨S16x128x4x128, .f32⟩
  | 104 => ⟨S4x16x128x128, .f32⟩
  | 105 => ⟨S16x128x4x128, .f32⟩
  | 106 => ⟨S16x128x4x128, .f32⟩
  | 107 => ⟨S4x8x16x128x128, .f32⟩
  | 108 => ⟨S_, .f32⟩
  | 109 => ⟨S4x8x16x128x128, .f32⟩
  | 110 => ⟨S4x8x16x128x128, .f32⟩
  | 111 => ⟨S_, .f32⟩
  | 112 => ⟨S_, .f32⟩
  | 113 => ⟨S4x8x16x128x128, .f32⟩
  | 114 => ⟨S_, .f32⟩
  | 115 => ⟨S4x8x16x128x128, .f32⟩
  | 116 => ⟨S4x8x16x128x128, .f32⟩
  | 117 => ⟨S_, .f32⟩
  | 118 => ⟨S4x8x16x128, .f32⟩
  | 119 => ⟨S4x8x16x128x1, .f32⟩
  | 120 => ⟨S_, .f32⟩
  | 121 => ⟨S4x8x16x128, .f32⟩
  | 122 => ⟨S_, .f32⟩
  | 123 => ⟨S_, .f32⟩
  | 124 => ⟨S4x8x16x128, .f32⟩
  | 125 => ⟨S4x8x16x128, .f32⟩
  | 126 => ⟨S16x128x4x8, .f32⟩
  | 127 => ⟨S2048x32, .f32⟩
  | _ => ⟨S2048x2048, .f32⟩

abbrev hbmTy0_2 (i : Nat) : BufTy := match i % 128 with
  | 0 => ⟨S2048x512, .f32⟩
  | 1 => ⟨S2048x512, .f32⟩
  | 2 => ⟨S2048x32x64, .f32⟩
  | 3 => ⟨S2048x32x64, .f32⟩
  | 4 => ⟨S_, .f32⟩
  | 5 => ⟨S2048x32, .f32⟩
  | 6 => ⟨S2048x32x1, .f32⟩
  | 7 => ⟨S2048x32x64, .f32⟩
  | 8 => ⟨S2048x32x64, .f32⟩
  | 9 => ⟨S2048x32x64, .f32⟩
  | 10 => ⟨S_, .f32⟩
  | 11 => ⟨S2048x32, .f32⟩
  | 12 => ⟨S2048x2048, .f32⟩
  | 13 => ⟨S2048x3072, .f32⟩
  | 14 => ⟨S_, .i32⟩
  | 15 => ⟨S_, .f32⟩
  | 16 => ⟨S2048x128, .f32⟩
  | 17 => ⟨S_, .i32⟩
  | 18 => ⟨S_, .f32⟩
  | 19 => ⟨S2048x128, .f32⟩
  | _ => ⟨S2048x2048, .f32⟩

abbrev hbmTy (i : Nat) : BufTy := match i / 128 with
  | 0 => hbmTy0_0 i
  | 1 => hbmTy0_1 i
  | 2 => hbmTy0_2 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_call0_cst : Ref sig .tc := ⟨.hbm, 17, rfl⟩
abbrev main_call0_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_0 : Ref sig .tc := ⟨.hbm, 30, rfl⟩
abbrev main_call1_v5 : Ref sig .tc := ⟨.hbm, 31, rfl⟩
abbrev main_v16 : Ref sig .tc := ⟨.hbm, 32, rfl⟩
abbrev main_cst : Ref sig .tc := ⟨.hbm, 33, rfl⟩
abbrev main_call2_v0 : Ref sig .tc := ⟨.hbm, 34, rfl⟩
abbrev main_v17_1 : Ref sig .tc := ⟨.hbm, 35, rfl⟩
abbrev main_call2_v2 : Ref sig .tc := ⟨.hbm, 36, rfl⟩
abbrev main_v17_0 : Ref sig .tc := ⟨.hbm, 37, rfl⟩
abbrev main_call2_cst : Ref sig .tc := ⟨.hbm, 38, rfl⟩
abbrev main_v17_2 : Ref sig .tc := ⟨.hbm, 39, rfl⟩
abbrev main_call3_call0_cst : Ref sig .tc := ⟨.hbm, 40, rfl⟩
abbrev main_call3_call0_v0 : Ref sig .tc := ⟨.hbm, 41, rfl⟩
abbrev main_v18 : Ref sig .tc := ⟨.hbm, 42, rfl⟩
abbrev main_c_0 : Ref sig .tc := ⟨.hbm, 43, rfl⟩
abbrev main_v19 : Ref sig .tc := ⟨.hbm, 44, rfl⟩
abbrev main_call4_v0 : Ref sig .tc := ⟨.hbm, 45, rfl⟩
abbrev main_call4_c : Ref sig .tc := ⟨.hbm, 46, rfl⟩
abbrev main_call4_v1 : Ref sig .tc := ⟨.hbm, 47, rfl⟩
abbrev main_call4_v2 : Ref sig .tc := ⟨.hbm, 48, rfl⟩
abbrev main_call4_v3 : Ref sig .tc := ⟨.hbm, 49, rfl⟩
abbrev main_call4_v4 : Ref sig .tc := ⟨.hbm, 50, rfl⟩
abbrev main_call4_c_0 : Ref sig .tc := ⟨.hbm, 51, rfl⟩
abbrev main_call4_v5 : Ref sig .tc := ⟨.hbm, 52, rfl⟩
abbrev main_v20 : Ref sig .tc := ⟨.hbm, 53, rfl⟩
abbrev main_cst_1 : Ref sig .tc := ⟨.hbm, 54, rfl⟩
abbrev main_call5_v0 : Ref sig .tc := ⟨.hbm, 55, rfl⟩
abbrev main_v21_1 : Ref sig .tc := ⟨.hbm, 56, rfl⟩
abbrev main_call5_v2 : Ref sig .tc := ⟨.hbm, 57, rfl⟩
abbrev main_v21_0 : Ref sig .tc := ⟨.hbm, 58, rfl⟩
abbrev main_call5_cst : Ref sig .tc := ⟨.hbm, 59, rfl⟩
abbrev main_v21_2 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_2 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_cst_3 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_c_4 : Ref sig .tc := ⟨.hbm, 86, rfl⟩
abbrev main_v45 : Ref sig .tc := ⟨.hbm, 87, rfl⟩
abbrev main_call6_v0 : Ref sig .tc := ⟨.hbm, 88, rfl⟩
abbrev main_call6_c : Ref sig .tc := ⟨.hbm, 89, rfl⟩
abbrev main_call6_v1 : Ref sig .tc := ⟨.hbm, 90, rfl⟩
abbrev main_call6_v2 : Ref sig .tc := ⟨.hbm, 91, rfl⟩
abbrev main_call6_v3 : Ref sig .tc := ⟨.hbm, 92, rfl⟩
abbrev main_call6_v4 : Ref sig .tc := ⟨.hbm, 93, rfl⟩
abbrev main_call6_c_0 : Ref sig .tc := ⟨.hbm, 94, rfl⟩
abbrev main_call6_v5 : Ref sig .tc := ⟨.hbm, 95, rfl⟩
abbrev main_v46 : Ref sig .tc := ⟨.hbm, 96, rfl⟩
abbrev main_cst_5 : Ref sig .tc := ⟨.hbm, 97, rfl⟩
abbrev main_call7_v0 : Ref sig .tc := ⟨.hbm, 98, rfl⟩
abbrev main_v47_1 : Ref sig .tc := ⟨.hbm, 99, rfl⟩
abbrev main_call7_v2 : Ref sig .tc := ⟨.hbm, 100, rfl⟩
abbrev main_v47_0 : Ref sig .tc := ⟨.hbm, 101, rfl⟩
abbrev main_call7_cst : Ref sig .tc := ⟨.hbm, 102, rfl⟩
abbrev main_v47_2 : Ref sig .tc := ⟨.hbm, 103, rfl⟩
abbrev main_call8_call0_cst : Ref sig .tc := ⟨.hbm, 104, rfl⟩
abbrev main_call8_call0_v0 : Ref sig .tc := ⟨.hbm, 105, rfl⟩
abbrev main_v48 : Ref sig .tc := ⟨.hbm, 106, rfl⟩
abbrev main_c_6 : Ref sig .tc := ⟨.hbm, 107, rfl⟩
abbrev main_v49 : Ref sig .tc := ⟨.hbm, 108, rfl⟩
abbrev main_call9_v0 : Ref sig .tc := ⟨.hbm, 109, rfl⟩
abbrev main_call9_c : Ref sig .tc := ⟨.hbm, 110, rfl⟩
abbrev main_call9_v1 : Ref sig .tc := ⟨.hbm, 111, rfl⟩
abbrev main_call9_v2 : Ref sig .tc := ⟨.hbm, 112, rfl⟩
abbrev main_call9_v3 : Ref sig .tc := ⟨.hbm, 113, rfl⟩
abbrev main_call9_v4 : Ref sig .tc := ⟨.hbm, 114, rfl⟩
abbrev main_call9_c_0 : Ref sig .tc := ⟨.hbm, 115, rfl⟩
abbrev main_call9_v5 : Ref sig .tc := ⟨.hbm, 116, rfl⟩
abbrev main_v50 : Ref sig .tc := ⟨.hbm, 117, rfl⟩
abbrev main_cst_7 : Ref sig .tc := ⟨.hbm, 118, rfl⟩
abbrev main_call10_v0 : Ref sig .tc := ⟨.hbm, 119, rfl⟩
abbrev main_v51_1 : Ref sig .tc := ⟨.hbm, 120, rfl⟩
abbrev main_call10_v2 : Ref sig .tc := ⟨.hbm, 121, rfl⟩
abbrev main_v51_0 : Ref sig .tc := ⟨.hbm, 122, rfl⟩
abbrev main_call10_cst : Ref sig .tc := ⟨.hbm, 123, rfl⟩
abbrev main_v51_2 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_cst_8 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_cst_9 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_10 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_cst_11 : Ref sig .tc := ⟨.hbm, 170, rfl⟩
abbrev main_v94 : Ref sig .tc := ⟨.hbm, 171, rfl⟩
abbrev main_v95 : Ref sig .tc := ⟨.hbm, 172, rfl⟩
abbrev main_call11_cst : Ref sig .tc := ⟨.hbm, 173, rfl⟩
abbrev main_call11_v0 : Ref sig .tc := ⟨.hbm, 174, rfl⟩
abbrev main_v96 : Ref sig .tc := ⟨.hbm, 175, rfl⟩
abbrev main_call12_call0_cst : Ref sig .tc := ⟨.hbm, 176, rfl⟩
abbrev main_call12_call0_v0 : Ref sig .tc := ⟨.hbm, 177, rfl⟩
abbrev main_v97 : Ref sig .tc := ⟨.hbm, 178, rfl⟩
abbrev main_call13_cst : Ref sig .tc := ⟨.hbm, 179, rfl⟩
abbrev main_call13_v0 : Ref sig .tc := ⟨.hbm, 180, rfl⟩
abbrev main_v98 : Ref sig .tc := ⟨.hbm, 181, rfl⟩
abbrev main_cst_12 : Ref sig .tc := ⟨.hbm, 182, rfl⟩
abbrev main_v99 : Ref sig .tc := ⟨.hbm, 183, rfl⟩
abbrev main_v100 : Ref sig .tc := ⟨.hbm, 184, rfl⟩
abbrev main_cst_13 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_cst_14 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_15 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_cst_16 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_17 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_18 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_cst_19 : Ref sig .tc := ⟨.hbm, 224, rfl⟩
abbrev main_v134 : Ref sig .tc := ⟨.hbm, 225, rfl⟩
abbrev main_v135 : Ref sig .tc := ⟨.hbm, 226, rfl⟩
abbrev main_cst_20 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_call14_cst : Ref sig .tc := ⟨.hbm, 236, rfl⟩
abbrev main_call14_v0 : Ref sig .tc := ⟨.hbm, 237, rfl⟩
abbrev main_v144 : Ref sig .tc := ⟨.hbm, 238, rfl⟩
abbrev main_call15_call0_cst : Ref sig .tc := ⟨.hbm, 239, rfl⟩
abbrev main_call15_call0_v0 : Ref sig .tc := ⟨.hbm, 240, rfl⟩
abbrev main_v145 : Ref sig .tc := ⟨.hbm, 241, rfl⟩
abbrev main_call16_cst : Ref sig .tc := ⟨.hbm, 242, rfl⟩
abbrev main_call16_v0 : Ref sig .tc := ⟨.hbm, 243, rfl⟩
abbrev main_v146 : Ref sig .tc := ⟨.hbm, 244, rfl⟩
abbrev main_cst_21 : Ref sig .tc := ⟨.hbm, 245, rfl⟩
abbrev main_v147 : Ref sig .tc := ⟨.hbm, 246, rfl⟩
abbrev main_v148 : Ref sig .tc := ⟨.hbm, 247, rfl⟩
abbrev main_cst_22 : Ref sig .tc := ⟨.hbm, 248, rfl⟩
abbrev main_v149 : Ref sig .tc := ⟨.hbm, 249, rfl⟩
abbrev main_call17_call0_cst : Ref sig .tc := ⟨.hbm, 250, rfl⟩
abbrev main_call17_call0_v0 : Ref sig .tc := ⟨.hbm, 251, rfl⟩
abbrev main_v150 : Ref sig .tc := ⟨.hbm, 252, rfl⟩
abbrev main_v151 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_cst_23 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_cst_24 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_c_25 : Ref sig .tc := ⟨.hbm, 270, rfl⟩
abbrev main_call18_v0 : Ref sig .tc := ⟨.hbm, 271, rfl⟩
abbrev main_v166 : Ref sig .tc := ⟨.hbm, 272, rfl⟩
abbrev main_c_26 : Ref sig .tc := ⟨.hbm, 273, rfl⟩
abbrev main_call19_v0 : Ref sig .tc := ⟨.hbm, 274, rfl⟩
abbrev main_v167 : Ref sig .tc := ⟨.hbm, 275, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S2048x1408 : Shape := ⟨2, ![2048, 1408]⟩
abbrev S1408x1024 : Shape := ⟨2, ![1408, 1024]⟩
abbrev S256x1024 : Shape := ⟨2, ![256, 1024]⟩
abbrev S2048x256 : Shape := ⟨2, ![2048, 256]⟩
abbrev S1024x1024 : Shape := ⟨2, ![1024, 1024]⟩
abbrev S1024x256 : Shape := ⟨2, ![1024, 256]⟩
abbrev S2816x512 : Shape := ⟨2, ![2816, 512]⟩
abbrev S2048x512 : Shape := ⟨2, ![2048, 512]⟩
abbrev S2816x256 : Shape := ⟨2, ![2816, 256]⟩
abbrev S256 : Shape := ⟨1, ![256]⟩
abbrev S256x1 : Shape := ⟨2, ![256, 1]⟩
abbrev S1024 : Shape := ⟨1, ![1024]⟩

abbrev nBuf : Space → Nat
  | .hbm => 53
  | .vmem => 50
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S_, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x1024, .bf16⟩
  | .hbm, ⟨34, _⟩ => ⟨S2048x2816, .bf16⟩
  | .hbm, ⟨35, _⟩ => ⟨S2048x2816, .bf16⟩
  | .hbm, ⟨36, _⟩ => ⟨S2048x2816, .bf16⟩
  | .hbm, ⟨37, _⟩ => ⟨S2816x1024, .f32⟩
  | .hbm, ⟨38, _⟩ => ⟨S2816x1024, .bf16⟩
  | .hbm, ⟨39, _⟩ => ⟨S2816x1024, .f32⟩
  | .hbm, ⟨40, _⟩ => ⟨S2816x1024, .bf16⟩
  | .hbm, ⟨41, _⟩ => ⟨S2816x1024, .bf16⟩
  | .hbm, ⟨42, _⟩ => ⟨S2048x1024, .bf16⟩
  | .hbm, ⟨43, _⟩ => ⟨S2816x1024, .bf16⟩
  | .hbm, ⟨44, _⟩ => ⟨S2048x2816, .bf16⟩
  | .hbm, ⟨45, _⟩ => ⟨S2048x2816, .bf16⟩
  | .hbm, ⟨46, _⟩ => ⟨S2048x1024, .f32⟩
  | .hbm, ⟨47, _⟩ => ⟨S2048x1024, .f32⟩
  | .hbm, ⟨48, _⟩ => ⟨S2816x1024, .bf16⟩
  | .hbm, ⟨49, _⟩ => ⟨S2816x1024, .bf16⟩
  | .hbm, ⟨50, _⟩ => ⟨S2048x1024, .f32⟩
  | .hbm, ⟨51, _⟩ => ⟨S2048x1024, .bf16⟩
  | .hbm, ⟨52, _⟩ => ⟨S1x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | .local _ .vmem, ⟨5, _⟩ => ⟨S2048x1024, .bf16⟩
  | .local _ .vmem, ⟨6, _⟩ => ⟨S256x1024, .bf16⟩
  | .local _ .vmem, ⟨7, _⟩ => ⟨S256x1024, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x2816, .bf16⟩
  | .local _ .vmem, ⟨17, _⟩ => ⟨S2816x512, .bf16⟩
  | .local _ .vmem, ⟨18, _⟩ => ⟨S2816x512, .bf16⟩
  | .local _ .vmem, ⟨19, _⟩ => ⟨S2048x512, .f32⟩
  | .local _ .vmem, ⟨20, _⟩ => ⟨S2048x512, .f32⟩
  | .local _ .vmem, ⟨21, _⟩ => ⟨S2048x2816, .bf16⟩
  | .local _ .vmem, ⟨22, _⟩ => ⟨S2816x256, .bf16⟩
  | .local _ .vmem, ⟨23, _⟩ => ⟨S2816x256, .bf16⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S2048x1408, .bf16⟩
  | .local _ .vmem, ⟨29, _⟩ => ⟨S2048x1408, .bf16⟩
  | .local _ .vmem, ⟨30, _⟩ => ⟨S2048x1024, .bf16⟩
  | .local _ .vmem, ⟨31, _⟩ => ⟨S1408x1024, .bf16⟩
  | .local _ .vmem, ⟨32, _⟩ => ⟨S1408x1024, .bf16⟩
  | .local _ .vmem, ⟨33, _⟩ => ⟨S2048x1408, .bf16⟩
  | .local _ .vmem, ⟨34, _⟩ => ⟨S2048x1408, .bf16⟩
  | .local _ .vmem, ⟨35, _⟩ => ⟨S2048x1024, .bf16⟩
  | .local _ .vmem, ⟨36, _⟩ => ⟨S1408x1024, .bf16⟩
  | .local _ .vmem, ⟨37, _⟩ => ⟨S1408x1024, .bf16⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S256x1024, .f32⟩
  | .local _ .vmem, ⟨44, _⟩ => ⟨S1x1024, .f32⟩
  | .local _ .vmem, ⟨45, _⟩ => ⟨S256x1024, .f32⟩
  | .local _ .vmem, ⟨46, _⟩ => ⟨S256x1024, .f32⟩
  | .local _ .vmem, ⟨47, _⟩ => ⟨S256x1024, .bf16⟩
  | .local _ .vmem, ⟨48, _⟩ => ⟨S256x1024, .bf16⟩
  | .local _ .vmem, ⟨49, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg4_1 : Ref sig .tc := ⟨.vmem, 46, rfl⟩
abbrev cc6_stg5_0 : Ref sig .tc := ⟨.vmem, 47, rfl⟩
abbrev cc6_stg5_1 : Ref sig .tc := ⟨.vmem, 48, rfl⟩
abbrev cc6_stg6_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem4_0 : DmaSem sig := 45
abbrev cc6_sem4_1 : DmaSem sig := 46
abbrev cc6_sem5_0 : DmaSem sig := 47
abbrev cc6_sem5_1 : DmaSem sig := 48
abbrev cc6_sem6_0 : DmaSem sig := 49

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2816 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2816x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x2816 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2816x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S2048x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨3, ![2, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S2048x1408 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1408x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 1, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S2048x1408 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S2048x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1408x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x1024 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S256x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S256x1024 .bf16 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]
-- ==== Reference2Ideal.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S_, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S1024x2816, .f32⟩
  | .hbm, ⟨45, _⟩ => ⟨S2816x1024, .f32⟩
  | .hbm, ⟨46, _⟩ => ⟨S2048x2816, .f32⟩
  | .hbm, ⟨47, _⟩ => ⟨S2048x2816, .f32⟩
  | .hbm, ⟨48, _⟩ => ⟨S2048x2816, .f32⟩
  | .hbm, ⟨49, _⟩ => ⟨S2816x1024, .f32⟩
  | .hbm, ⟨50, _⟩ => ⟨S1024x2816, .f32⟩
  | .hbm, ⟨51, _⟩ => ⟨S2048x1024, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2816x1024, .f32⟩
  | .hbm, ⟨57, _⟩ => ⟨S1024x2816, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S_, .f32⟩
  | .hbm, ⟨68, _⟩ => ⟨S2048, .f32⟩
  | .hbm, ⟨69, _⟩ => ⟨S2048x1, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S_, .f32⟩
  | .hbm, ⟨78, _⟩ => ⟨S2048, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S2048x1024, .bf16⟩
  | .hbm, ⟨85, _⟩ => ⟨S2816x1024, .f32⟩
  | .hbm, ⟨86, _⟩ => ⟨S2816x1024, .bf16⟩
  | .hbm, ⟨87, _⟩ => ⟨S2816x1024, .f32⟩
  | .hbm, ⟨88, _⟩ => ⟨S2816x1024, .bf16⟩
  | .hbm, ⟨89, _⟩ => ⟨S2816x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_3 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_4 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_5 : Ref sig .tc := ⟨.hbm, 74, rfl⟩
abbrev main_v47 : Ref sig .tc := ⟨.hbm, 75, rfl⟩
abbrev main_v48 : Ref sig .tc := ⟨.hbm, 76, rfl⟩
abbrev main_cst_6 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Kernel3.lean ====
abbrev S2048x1024 : Shape := ⟨2, ![2048, 1024]⟩
abbrev S1x1024 : Shape := ⟨2, ![1, 1024]⟩
abbrev S1024x5152 : Shape := ⟨2, ![1024, 5152]⟩
abbrev S2048x2048 : Shape := ⟨2, ![2048, 2048]⟩
abbrev S2048x5152 : Shape := ⟨2, ![2048, 5152]⟩
abbrev S1024x2048 : Shape := ⟨2, ![1024, 2048]⟩
abbrev S1x2048 : Shape := ⟨2, ![1, 2048]⟩
abbrev S1024x1024 : Shape := ⟨2, ![1024, 1024]⟩
abbrev S2048x2816 : Shape := ⟨2, ![2048, 2816]⟩
abbrev S2816x1024 : Shape := ⟨2, ![2816, 1024]⟩
abbrev S_ : Shape := ⟨0, ![]⟩
abbrev S1024x5376 : Shape := ⟨2, ![1024, 5376]⟩
abbrev S2048x5376 : Shape := ⟨2, ![2048, 5376]⟩
abbrev S256x1024 : Shape := ⟨2, ![256, 1024]⟩
abbrev S256 : Shape := ⟨1, ![256]⟩
abbrev S256x1 : Shape := ⟨2, ![256, 1]⟩
abbrev S1024x768 : Shape := ⟨2, ![1024, 768]⟩
abbrev S2048x768 : Shape := ⟨2, ![2048, 768]⟩
abbrev S2048x512 : Shape := ⟨2, ![2048, 512]⟩
abbrev S1024x512 : Shape := ⟨2, ![1024, 512]⟩
abbrev S1x512 : Shape := ⟨2, ![1, 512]⟩
abbrev S512x2048 : Shape := ⟨2, ![512, 2048]⟩
abbrev S2816x256 : Shape := ⟨2, ![2816, 256]⟩
abbrev S2048x256 : Shape := ⟨2, ![2048, 256]⟩

abbrev nBuf : Space → Nat
  | .hbm => 47
  | .vmem => 69
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5152, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x5152, .f32⟩
  | .hbm, ⟨7, _⟩ => ⟨S1024x2048, .f32⟩
  | .hbm, ⟨8, _⟩ => ⟨S1x2048, .f32⟩
  | .hbm, ⟨9, _⟩ => ⟨S2048x1024, .f32⟩
  | .hbm, ⟨10, _⟩ => ⟨S1024x1024, .f32⟩
  | .hbm, ⟨11, _⟩ => ⟨S1x1024, .f32⟩
  | .hbm, ⟨12, _⟩ => ⟨S2048x2048, .f32⟩
  | .hbm, ⟨13, _⟩ => ⟨S2048x2816, .f32⟩
  | .hbm, ⟨14, _⟩ => ⟨S2816x1024, .f32⟩
  | .hbm, ⟨15, _⟩ => ⟨S_, .i32⟩
  | .hbm, ⟨16, _⟩ => ⟨S_, .f32⟩
  | .hbm, ⟨17, _⟩ => ⟨S1024x5376, .f32⟩
  | .hbm, ⟨18, _⟩ => ⟨S_, .i32⟩
  | .hbm, ⟨19, _⟩ => ⟨S_, .f32⟩
  | .hbm, ⟨20, _⟩ => ⟨S2048x5376, .f32⟩
  | .hbm, ⟨21, _⟩ => ⟨S1024x5376, .bf16⟩
  | .hbm, ⟨22, _⟩ => ⟨S2048x2048, .bf16⟩
  | .hbm, ⟨23, _⟩ => ⟨S2048x1024, .bf16⟩
  | .hbm, ⟨24, _⟩ => ⟨S2048x1024, .bf16⟩
  | .hbm, ⟨25, _⟩ => ⟨S2048x5376, .bf16⟩
  | .hbm, ⟨26, _⟩ => ⟨S1024x2048, .bf16⟩
  | .hbm, ⟨27, _⟩ => ⟨S2048x1024, .bf16⟩
  | .hbm, ⟨28, _⟩ => ⟨S1024x1024, .bf16⟩
  | .hbm, ⟨29, _⟩ => ⟨S2048x2048, .bf16⟩
  | .hbm, ⟨30, _⟩ => ⟨S2048x2816, .bf16⟩
  | .hbm, ⟨31, _⟩ => ⟨S2816x1024, .bf16⟩
  | .hbm, ⟨32, _⟩ => ⟨S2048x1024, .bf16⟩
  | .hbm, ⟨33, _⟩ => ⟨S2048x5376, .f32⟩
  | .hbm, ⟨34, _⟩ => ⟨S2048x1024, .f32⟩
  | .hbm, ⟨35, _⟩ => ⟨S2048x2048, .f32⟩
  | .hbm, ⟨36, _⟩ => ⟨S2048x1024, .bf16⟩
  | .hbm, ⟨37, _⟩ => ⟨S1024x5376, .bf16⟩
  | .hbm, ⟨38, _⟩ => ⟨S2048x2048, .f32⟩
  | .hbm, ⟨39, _⟩ => ⟨S2048x1024, .f32⟩
  | .hbm, ⟨40, _⟩ => ⟨S2048x1024, .f32⟩
  | .hbm, ⟨41, _⟩ => ⟨S1024x1024, .bf16⟩
  | .hbm, ⟨42, _⟩ => ⟨S2048x1024, .f32⟩
  | .hbm, ⟨43, _⟩ => ⟨S1024x2048, .bf16⟩
  | .hbm, ⟨44, _⟩ => ⟨S2048x1024, .f32⟩
  | .hbm, ⟨45, _⟩ => ⟨S2048x5152, .f32⟩
  | .hbm, ⟨46, _⟩ => ⟨S1024x5152, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | .local _ .vmem, ⟨5, _⟩ => ⟨S2048x1024, .bf16⟩
  | .local _ .vmem, ⟨6, _⟩ => ⟨S1024x768, .bf16⟩
  | .local _ .vmem, ⟨7, _⟩ => ⟨S1024x768, .bf16⟩
  | .local _ .vmem, ⟨8, _⟩ => ⟨S2048x768, .f32⟩
  | .local _ .vmem, ⟨9, _⟩ => ⟨S2048x768, .f32⟩
  | .local _ .vmem, ⟨10, _⟩ => ⟨S2048x2048, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .f32⟩
  | .local _ .vmem, ⟨14, _⟩ => ⟨S2048x512, .f32⟩
  | .local _ .vmem, ⟨15, _⟩ => ⟨S2048x512, .f32⟩
  | .local _ .vmem, ⟨16, _⟩ => ⟨S2048x512, .f32⟩
  | .local _ .vmem, ⟨17, _⟩ => ⟨S2048x1024, .bf16⟩
  | .local _ .vmem, ⟨18, _⟩ => ⟨S1024x1024, .bf16⟩
  | .local _ .vmem, ⟨19, _⟩ => ⟨S1024x1024, .bf16⟩
  | .local _ .vmem, ⟨20, _⟩ => ⟨S2048x1024, .f32⟩
  | .local _ .vmem, ⟨21, _⟩ => ⟨S2048x1024, .f32⟩
  | .local _ .vmem, ⟨22, _⟩ => ⟨S2048x2048, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S2048x768, .bf16⟩
  | .local _ .vmem, ⟨27, _⟩ => ⟨S2048x768, .bf16⟩
  | .local _ .vmem, ⟨28, _⟩ => ⟨S1024x768, .bf16⟩
  | .local _ .vmem, ⟨29, _⟩ => ⟨S1024x768, .bf16⟩
  | .local _ .vmem, ⟨30, _⟩ => ⟨S2048x1024, .bf16⟩
  | .local _ .vmem, ⟨31, _⟩ => ⟨S1024x1024, .bf16⟩
  | .local _ .vmem, ⟨32, _⟩ => ⟨S1024x1024, .bf16⟩
  | .local _ .vmem, ⟨33, _⟩ => ⟨S1x1024, .f32⟩
  | .local _ .vmem, ⟨34, _⟩ => ⟨S1x1024, .f32⟩
  | .local _ .vmem, ⟨35, _⟩ => ⟨S2048x1024, .f32⟩
  | .local _ .vmem, ⟨36, _⟩ => ⟨S2048x1024, .f32⟩
  | .local _ .vmem, ⟨37, _⟩ => ⟨S2048x1024, .bf16⟩
  | .local _ .vmem, ⟨38, _⟩ => ⟨S1024x512, .bf16⟩
  | .local _ .vmem, ⟨39, _⟩ => ⟨S1024x512, .bf16⟩
  | .local _ .vmem, ⟨40, _⟩ => ⟨S1x512, .f32⟩
  | .local _ .vmem, ⟨41, _⟩ => ⟨S1x512, .f32⟩
  | .local _ .vmem, ⟨42, _⟩ => ⟨S2048x512, .f32⟩
  | .local _ .vmem, ⟨43, _⟩ => ⟨S2048x512, .f32⟩
  | .local _ .vmem, ⟨44, _⟩ => ⟨S2048x512, .f32⟩
  | .local _ .vmem, ⟨45, _⟩ => ⟨S2048x512, .f32⟩
  | .local _ .vmem, ⟨46, _⟩ => ⟨S2048x1024, .bf16⟩
  | .local _ .vmem, ⟨47, _⟩ => ⟨S1024x1024, .bf16⟩
  | .local _ .vmem, ⟨48, _⟩ => ⟨S2048x1024, .f32⟩
  | .local _ .vmem, ⟨49, _⟩ => ⟨S2048x1024, .bf16⟩
  | .local _ .vmem, ⟨50, _⟩ => ⟨S2048x1024, .bf16⟩
  | .local _ .vmem, ⟨51, _⟩ => ⟨S1024x1024, .bf16⟩
  | .local _ .vmem, ⟨52, _⟩ => ⟨S2048x2048, .bf16⟩
  | .local _ .vmem, ⟨53, _⟩ => ⟨S512x2048, .bf16⟩
  | .local _ .vmem, ⟨54, _⟩ => ⟨S512x2048, .bf16⟩
  | .local _ .vmem, ⟨55, _⟩ => ⟨S2048x512, .f32⟩
  | .local _ .vmem, ⟨56, _⟩ => ⟨S2048x512, .f32⟩
  | .local _ .vmem, ⟨57, _⟩ => ⟨S2048x1024, .bf16⟩
  | .local _ .vmem, ⟨58, _⟩ => ⟨S2048x1024, .bf16⟩
  | .local _ .vmem, ⟨59, _⟩ => ⟨S2048x1024, .bf16⟩
  | .local _ .vmem, ⟨60, _⟩ => ⟨S1024x1024, .bf16⟩
  | .local _ .vmem, ⟨61, _⟩ => ⟨S1024x1024, .bf16⟩
  | .local _ .vmem, ⟨62, _⟩ => ⟨S2048x2816, .bf16⟩
  | .local _ .vmem, ⟨63, _⟩ => ⟨S2816x256, .bf16⟩
  | .local _ .vmem, ⟨64, _⟩ => ⟨S2816x256, .bf16⟩
  | .local _ .vmem, ⟨65, _⟩ => ⟨S2048x256, .f32⟩
  | .local _ .vmem, ⟨66, _⟩ => ⟨S2048x256, .f32⟩
  | .local _ .vmem, ⟨67, _⟩ => ⟨S2048x256, .f32⟩
  | .local _ .vmem, ⟨68, _⟩ => ⟨S2048x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_c_0 : Ref sig .tc := ⟨.hbm, 18, rfl⟩
abbrev main_call1_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg1_0 : Ref sig .tc := ⟨.vmem, 26, rfl⟩
abbrev cc5_stg1_1 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg1_1 : Ref sig .tc := ⟨.vmem, 32, rfl⟩
abbrev cc6_stg2_0 : Ref sig .tc := ⟨.vmem, 33, rfl⟩
abbrev cc6_stg2_1 : Ref sig .tc := ⟨.vmem, 34, rfl⟩
abbrev cc6_stg3_0 : Ref sig .tc := ⟨.vmem, 35, rfl⟩
abbrev cc6_stg3_1 : Ref sig .tc := ⟨.vmem, 36, rfl⟩
abbrev cc7_stg0_0 : Ref sig .tc := ⟨.vmem, 37, rfl⟩
abbrev cc7_stg1_0 : Ref sig .tc := ⟨.vmem, 38, rfl⟩
abbrev cc7_stg1_1 : Ref sig .tc := ⟨.vmem, 39, rfl⟩
abbrev cc7_stg2_0 : Ref sig .tc := ⟨.vmem, 40, rfl⟩
abbrev cc7_stg2_1 : Ref sig .tc := ⟨.vmem, 41, rfl⟩
abbrev cc7_stg3_0 : Ref sig .tc := ⟨.vmem, 42, rfl⟩
abbrev cc7_stg3_1 : Ref sig .tc := ⟨.vmem, 43, rfl⟩
abbrev cc7_stg4_0 : Ref sig .tc := ⟨.vmem, 44, rfl⟩
abbrev cc7_stg4_1 : Ref sig .tc := ⟨.vmem, 45, rfl⟩
abbrev cc8_stg0_0 : Ref sig .tc := ⟨.vmem, 46, rfl⟩
abbrev cc8_stg1_0 : Ref sig .tc := ⟨.vmem, 47, rfl⟩
abbrev cc8_stg2_0 : Ref sig .tc := ⟨.vmem, 48, rfl⟩
abbrev cc9_stg0_0 : Ref sig .tc := ⟨.vmem, 49, rfl⟩
abbrev cc9_stg1_0 : Ref sig .tc := ⟨.vmem, 50, rfl⟩
abbrev cc9_stg2_0 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg1_1 : Ref sig .tc := ⟨.vmem, 54, rfl⟩
abbrev cc10_stg2_0 : Ref sig .tc := ⟨.vmem, 55, rfl⟩
abbrev cc10_stg2_1 : Ref sig .tc := ⟨.vmem, 56, rfl⟩
abbrev cc11_stg0_0 : Ref sig .tc := ⟨.vmem, 57, rfl⟩
abbrev cc11_stg1_0 : Ref sig .tc := ⟨.vmem, 58, rfl⟩
abbrev cc11_stg1_1 : Ref sig .tc := ⟨.vmem, 59, rfl⟩
abbrev cc11_stg2_0 : Ref sig .tc := ⟨.vmem, 60, rfl⟩
abbrev cc11_stg2_1 : Ref sig .tc := ⟨.vmem, 61, rfl⟩
abbrev cc12_stg0_0 : Ref sig .tc := ⟨.vmem, 62, rfl⟩
abbrev cc12_stg1_0 : Ref sig .tc := ⟨.vmem, 63, rfl⟩
abbrev cc12_stg1_1 : Ref sig .tc := ⟨.vmem, 64, rfl⟩
abbrev cc12_stg2_0 : Ref sig .tc := ⟨.vmem, 65, rfl⟩
abbrev cc12_stg2_1 : Ref sig .tc := ⟨.vmem, 66, rfl⟩
abbrev cc12_stg3_0 : Ref sig .tc := ⟨.vmem, 67, rfl⟩
abbrev cc12_stg3_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem2_1 : DmaSem sig := 14
abbrev cc2_sem3_0 : DmaSem sig := 15
abbrev cc2_sem3_1 : DmaSem sig := 16
abbrev cc3_sem0_0 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem2_0 : DmaSem sig := 24
abbrev cc5_sem0_0 : DmaSem sig := 25
abbrev cc5_sem1_0 : DmaSem sig := 26
abbrev cc5_sem1_1 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem1_1 : DmaSem sig := 32
abbrev cc6_sem2_0 : DmaSem sig := 33
abbrev cc6_sem2_1 : DmaSem sig := 34
abbrev cc6_sem3_0 : DmaSem sig := 35
abbrev cc6_sem3_1 : DmaSem sig := 36
abbrev cc7_sem0_0 : DmaSem sig := 37
abbrev cc7_sem1_0 : DmaSem sig := 38
abbrev cc7_sem1_1 : DmaSem sig := 39
abbrev cc7_sem2_0 : DmaSem sig := 40
abbrev cc7_sem2_1 : DmaSem sig := 41
abbrev cc7_sem3_0 : DmaSem sig := 42
abbrev cc7_sem3_1 : DmaSem sig := 43
abbrev cc7_sem4_0 : DmaSem sig := 44
abbrev cc7_sem4_1 : DmaSem sig := 45
abbrev cc8_sem0_0 : DmaSem sig := 46
abbrev cc8_sem1_0 : DmaSem sig := 47
abbrev cc8_sem2_0 : DmaSem sig := 48
abbrev cc9_sem0_0 : DmaSem sig := 49
abbrev cc9_sem1_0 : DmaSem sig := 50
abbrev cc9_sem2_0 : DmaSem sig := 51
abbrev cc10_sem0_0 : DmaSem sig := 52
abbrev cc10_sem1_0 : DmaSem sig := 53
abbrev cc10_sem1_1 : DmaSem sig := 54
abbrev cc10_sem2_0 : DmaSem sig := 55
abbrev cc10_sem2_1 : DmaSem sig := 56
abbrev cc11_sem0_0 : DmaSem sig := 57
abbrev cc11_sem1_0 : DmaSem sig := 58
abbrev cc11_sem1_1 : DmaSem sig := 59
abbrev cc11_sem2_0 : DmaSem sig := 60
abbrev cc11_sem2_1 : DmaSem sig := 61
abbrev cc12_sem0_0 : DmaSem sig := 62
abbrev cc12_sem1_0 : DmaSem sig := 63
abbrev cc12_sem1_1 : DmaSem sig := 64
abbrev cc12_sem2_0 : DmaSem sig := 65
abbrev cc12_sem2_1 : DmaSem sig := 66
abbrev cc12_sem3_0 : DmaSem sig := 67
abbrev cc12_sem3_1 : DmaSem sig := 68

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![1, 7, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S1024x768 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S2048x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![1, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S2048x2048 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S2048x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 1 → Memref sig .tc .vmem S2048x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true, false]

abbrev grid5 : Pipeline.Grid := ⟨3, ![1, 7, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .vmem S2048x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false, true]

abbrev stage5_1 : Fin 2 → Memref sig .tc .vmem S2048x768 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x768 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, false]

abbrev stage6_3 : Fin 2 → Memref sig .tc .vmem S2048x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_4 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S2048x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S1024x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S1x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, false]

abbrev stage7_3 : Fin 2 → Memref sig .tc .vmem S2048x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev stage7_4 : Fin 2 → Memref sig .tc .vmem S2048x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true, false]

abbrev grid8 : Pipeline.Grid := ⟨3, ![1, 1, 1], ![false, false, false]⟩

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .vmem S2048x1024 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false, true]

abbrev stage8_1 : Fin 1 → Memref sig .tc .vmem S1024x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false, true, true]

abbrev stage8_2 : Fin 1 → Memref sig .tc .vmem S2048x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true, true, false]

abbrev grid9 : Pipeline.Grid := ⟨3, ![1, 1, 1], ![false, false, false]⟩

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 1 → Memref sig .tc .vmem S2048x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false, true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true, true]

abbrev stage9_2 : Fin 1 → Memref sig .tc .vmem S1024x1024 .bf16 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true, true, false]

abbrev grid10 : Pipeline.Grid := ⟨3, ![1, 2, 1], ![false, false, false]⟩

def cc10_transform_0 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc10_transform_1 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc10_transform_2 (i : grid10.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage10_0 : Fin 1 → Memref sig .tc .vmem S2048x2048 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true, false, true]

abbrev stage10_1 : Fin 2 → Memref sig .tc .vmem S512x2048 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true, true]

abbrev stage10_2 : Fin 2 → Memref sig .tc .vmem S2048x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true, false]

abbrev grid11 : Pipeline.Grid := ⟨3, ![1, 2, 1], ![false, false, false]⟩

def cc11_transform_0 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc11_transform_1 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc11_transform_2 (i : grid11.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage11_0 : Fin 1 → Memref sig .tc .vmem S2048x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false, true]

abbrev stage11_1 : Fin 2 → Memref sig .tc .vmem S2048x1024 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true, true]

abbrev stage11_2 : Fin 2 → Memref sig .tc .vmem S1024x1024 .bf16 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true, false]

abbrev grid12 : Pipeline.Grid := ⟨3, ![1, 4, 1], ![false, false, false]⟩

def cc12_transform_0 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc12_transform_1 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc12_transform_2 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc12_transform_3 (i : grid12.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage12_0 : Fin 1 → Memref sig .tc .vmem S2048x2816 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false, true]

abbrev stage12_1 : Fin 2 → Memref sig .tc .vmem S2816x256 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true, true]

abbrev stage12_2 : Fin 2 → Memref sig .tc .vmem S2048x256 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true, false]

abbrev stage12_3 : Fin 2 → Memref sig .tc .vmem S2048x256 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true, false]
-- ==== Reference3Ideal.lean ====
abbrev S2048x1024 : Shape := ⟨2, ![2048, 1024]⟩
abbrev S1x1024 : Shape := ⟨2, ![1, 1024]⟩
abbrev S1024x5152 : Shape := ⟨2, ![1024, 5152]⟩
abbrev S2048x2048 : Shape := ⟨2, ![2048, 2048]⟩
abbrev S2048x5152 : Shape := ⟨2, ![2048, 5152]⟩
abbrev S1024x2048 : Shape := ⟨2, ![1024, 2048]⟩
abbrev S1x2048 : Shape := ⟨2, ![1, 2048]⟩
abbrev S1024x1024 : Shape := ⟨2, ![1024, 1024]⟩
abbrev S2048x2816 : Shape := ⟨2, ![2048, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S5152x1024 : Shape := ⟨2, ![5152, 1024]⟩

abbrev nBuf : Space → Nat
  | .hbm => 58
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x5152, .f32⟩
  | .hbm, ⟨3, _⟩ => ⟨S2048x2048, .f32⟩
  | .hbm, ⟨4, _⟩ => ⟨S2048x1024, .f32⟩
  | .hbm, ⟨5, _⟩ => ⟨S2048x1024, .f32⟩
  | .hbm, ⟨6, _⟩ => ⟨S2048x5152, .f32⟩
  | .hbm, ⟨7, _⟩ => ⟨S1024x2048, .f32⟩
  | .hbm, ⟨8, _⟩ => ⟨S1x2048, .f32⟩
  | .hbm, ⟨9, _⟩ => ⟨S2048x1024, .f32⟩
  | .hbm, ⟨10, _⟩ => ⟨S1024x1024, .f32⟩
  | .hbm, ⟨11, _⟩ => ⟨S1x1024, .f32⟩
  | .hbm, ⟨12, _⟩ => ⟨S2048x2048, .f32⟩
  | .hbm, ⟨13, _⟩ => ⟨S2048x2816, .f32⟩
  | .hbm, ⟨14, _⟩ => ⟨S2816x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x5152, .f32⟩
  | .hbm, ⟨31, _⟩ => ⟨S2048x1024, .f32⟩
  | .hbm, ⟨32, _⟩ => ⟨S2048x1024, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S5152x1024, .f32⟩
  | .hbm, ⟨43, _⟩ => ⟨S1024x5152, .f32⟩
  | .hbm, ⟨44, _⟩ => ⟨S1024x2048, .f32⟩
  | .hbm, ⟨45, _⟩ => ⟨S2048x1024, .f32⟩
  | .hbm, ⟨46, _⟩ => ⟨S2048x2048, .f32⟩
  | .hbm, ⟨47, _⟩ => ⟨S2048x1024, .f32⟩
  | .hbm, ⟨48, _⟩ => ⟨S1024x2048, .f32⟩
  | .hbm, ⟨49, _⟩ => ⟨S2048x1024, .f32⟩
  | .hbm, ⟨50, _⟩ => ⟨S1024x1024, .f32⟩
  | .hbm, ⟨51, _⟩ => ⟨S1024x1024, .f32⟩
  | .hbm, ⟨52, _⟩ => ⟨S2048x1024, .f32⟩
  | .hbm, ⟨53, _⟩ => ⟨S2048x1024, .bf16⟩
  | .hbm, ⟨54, _⟩ => ⟨S2048x1024, .bf16⟩
  | .hbm, ⟨55, _⟩ => ⟨S1024x5152, .bf16⟩
  | .hbm, ⟨56, _⟩ => ⟨S1024x1024, .bf16⟩
  | .hbm, ⟨57, _⟩ => ⟨S1024x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== Kernel4.lean ====
abbrev S2048x1024 : Shape := ⟨2, ![2048, 1024]⟩
abbrev S1x1024 : Shape := ⟨2, ![1, 1024]⟩
abbrev S1024x2816 : Shape := ⟨2, ![1024, 2816]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩
abbrev S2048 : Shape := ⟨1, ![2048]⟩
abbrev S2048x1 : Shape := ⟨2, ![2048, 1]⟩
abbrev S1024x1024 : Shape := ⟨2, ![1024, 1024]⟩
abbrev S1024x256 : Shape := ⟨2, ![1024, 256]⟩

abbrev nBuf : Space → Nat
  | .hbm => 12
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S2048x1024, .bf16⟩
  | .hbm, ⟨9, _⟩ => ⟨S2048x2816, .bf16⟩
  | .hbm, ⟨10, _⟩ => ⟨S2048x2816, .bf16⟩
  | .hbm, ⟨11, _⟩ => ⟨S2048x2816, .bf16⟩
  | .local _ .vmem, ⟨0, _⟩ => ⟨S2048x1024, .f32⟩
  | .local _ .vmem, ⟨1, _⟩ => ⟨S1x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S2048x1024, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S2048x1024 : Shape := ⟨2, ![2048, 1024]⟩
abbrev S1x1024 : Shape := ⟨2, ![1, 1024]⟩
abbrev S1024x2816 : Shape := ⟨2, ![1024, 2816]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S_, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x1024, .bf16⟩
  | .hbm, ⟨32, _⟩ => ⟨S2048x2816, .bf16⟩
  | .hbm, ⟨33, _⟩ => ⟨S2048x2816, .bf16⟩
  | .hbm, ⟨34, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel5.lean ====
abbrev S2048x5152 : Shape := ⟨2, ![2048, 5152]⟩
abbrev S1024x5152 : Shape := ⟨2, ![1024, 5152]⟩
abbrev S_ : Shape := ⟨0, ![]⟩
abbrev S2048x5376 : Shape := ⟨2, ![2048, 5376]⟩
abbrev S1024x5376 : Shape := ⟨2, ![1024, 5376]⟩
abbrev S2048x1024 : Shape := ⟨2, ![2048, 1024]⟩
abbrev S1024x2688 : Shape := ⟨2, ![1024, 2688]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2048x5152, .f32⟩
  | .hbm, ⟨1, _⟩ => ⟨S1024x5152, .f32⟩
  | .hbm, ⟨2, _⟩ => ⟨S_, .i32⟩
  | .hbm, ⟨3, _⟩ => ⟨S_, .f32⟩
  | .hbm, ⟨4, _⟩ => ⟨S2048x5376, .f32⟩
  | .hbm, ⟨5, _⟩ => ⟨S2048x5376, .bf16⟩
  | .hbm, ⟨6, _⟩ => ⟨S_, .i32⟩
  | .hbm, ⟨7, _⟩ => ⟨S_, .f32⟩
  | .hbm, ⟨8, _⟩ => ⟨S1024x5376, .f32⟩
  | .hbm, ⟨9, _⟩ => ⟨S1024x5376, .bf16⟩
  | .hbm, ⟨10, _⟩ => ⟨S2048x1024, .f32⟩
  | .local _ .vmem, ⟨0, _⟩ => ⟨S1024x2688, .bf16⟩
  | .local _ .vmem, ⟨1, _⟩ => ⟨S1024x2688, .bf16⟩
  | .local _ .vmem, ⟨2, _⟩ => ⟨S1024x2688, .bf16⟩
  | .local _ .vmem, ⟨3, _⟩ => ⟨S1024x2688, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call1_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x5152 : Shape := ⟨2, ![2048, 5152]⟩
abbrev S1024x5152 : Shape := ⟨2, ![1024, 5152]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x5152, .f32⟩
  | .hbm, ⟨1, _⟩ => ⟨S1024x5152, .f32⟩
  | .hbm, ⟨2, _⟩ => ⟨S_, .f32⟩
  | .hbm, ⟨3, _⟩ => ⟨S2048x1024, .f32⟩
  | .hbm, ⟨4, _⟩ => ⟨S2048x5152, .f32⟩
  | .hbm, ⟨5, _⟩ => ⟨S2048x1024, .f32⟩
  | _, _ => ⟨S2048x5152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S2048x1024 : Shape := ⟨2, ![2048, 1024]⟩
abbrev S2048x2048 : Shape := ⟨2, ![2048, 2048]⟩
abbrev S1x2048 : Shape := ⟨2, ![1, 2048]⟩
abbrev S256x1024 : Shape := ⟨2, ![256, 1024]⟩
abbrev S256x2048 : Shape := ⟨2, ![256, 2048]⟩
abbrev S2048 : Shape := ⟨1, ![2048]⟩

abbrev nBuf : Space → Nat
  | .hbm => 7
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference6Ideal.lean ====
abbrev S2048x1024 : Shape := ⟨2, ![2048, 1024]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel7.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S_, .f32⟩
  | .hbm, ⟨82, _⟩ => ⟨S2048x1, .f32⟩
  | .hbm, ⟨83, _⟩ => ⟨S2048x1, .f32⟩
  | .hbm, ⟨84, _⟩ => ⟨S_, .f32⟩
  | .hbm, ⟨85, _⟩ => ⟨S2048, .f32⟩
  | .hbm, ⟨86, _⟩ => ⟨S2048x1024, .f32⟩
  | .hbm, ⟨87, _⟩ => ⟨S2048x1024, .f32⟩
  | .hbm, ⟨88, _⟩ => ⟨S_, .f32⟩
  | .hbm, ⟨89, _⟩ => ⟨S2048x1024, .f32⟩
  | .hbm, ⟨90, _⟩ => ⟨S_, .f32⟩
  | .hbm, ⟨91, _⟩ => ⟨S1x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S_, .f32⟩
  | .hbm, ⟨96, _⟩ => ⟨S1024, .f32⟩
  | .hbm, ⟨97, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_cst_14 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_15 : Ref sig .tc := ⟨.hbm, 95, rfl⟩
abbrev main_v59 : Ref sig .tc := ⟨.hbm, 96, rfl⟩
abbrev main_v60 : Ref sig .tc := ⟨.hbm, 97, rfl⟩

abbrev nD : Nat := 1
abbrev τ : Topo := Topo.v7x

variable {F : FTy → Type} [FloatOps F]
-- ==== Proof.Mirror.lean ====
/-
  The body of `dssd` at one grid point, group by group and head by head, as functions of the vectors it loads.
  The printed body has the four groups and the eight heads of each written out; here a group is a structure of the
  vectors it loads and a head is a number, so that one lemma speaks of all thirty-two.
-/
module

public import proofs.«01_k».proof.Proof.Gen.KernelIdeal

@[expose] public section

noncomputable section

namespace Cert.KernelIdeal.Body

open Cert.KernelIdeal Cert.KernelIdeal.Gen Idealize.ShloMosaic

variable {F : FTy → Type} [FloatOps F]

/-! ## Slices at a numbered offset -/

theorem col1_slices (o : ℕ) (h : o + 1 ≤ 512) : S128x512.Slices ![0, o] S128x1 :=
  ⟨rfl, fun a => by fin_cases a <;> simp [Fin.cast] <;> omega⟩

theorem col64_slices (o : ℕ) (h : o + 64 ≤ 512) : S128x512.Slices ![0, o] S128x64 :=
  ⟨rfl, fun a => by fin_cases a <;> simp [Fin.cast] <;> omega⟩

theorem row1_slices (o : ℕ) (h : o + 1 ≤ 32) : S32x128.Slices ![o, 0] S1x128 :=
  ⟨rfl, fun a => by fin_cases a <;> simp [Fin.cast] <;> omega⟩

/-! ## The scans -/

/-- One doubling step of the running sum down the rows. -/
def stepDown (k : BitVec 32) (x : FVec F S128x512 .f32) : FVec F S128x512 .f32 :=
  addf x (select (cmpi .sge (iota .tc S128x512 32 [0] iota_S128x512_d0_w32) (broadcast S128x512 k))
    (dynamicRotate 0 k none x rotates_S128x512_d0) (broadcast S128x512 (Scalar.ofBits .f32 0x00000000#32)))

/-- The running sum down the rows of a group's columns. -/
def scanDown (x : FVec F S128x512 .f32) : FVec F S128x512 .f32 :=
  stepDown 64#32 (stepDown 32#32 (stepDown 16#32 (stepDown 8#32 (stepDown 4#32 (stepDown 2#32 (stepDown 1#32 x))))))

/-- One doubling step of the running sum along the lanes. -/
def stepRight (k : BitVec 32) (x : FVec F S32x128 .f32) : FVec F S32x128 .f32 :=
  addf x (select (cmpi .sge (iota .tc S32x128 32 [1] iota_S32x128_d1_w32) (broadcast S32x128 k))
    (dynamicRotate 1 k none x rotates_S32x128_d1) (broadcast S32x128 (Scalar.ofBits .f32 0x00000000#32)))

/-- The running sum along the lanes, one row per head. -/
def scanRight (x : FVec F S32x128 .f32) : FVec F S32x128 .f32 :=
  stepRight 64#32 (stepRight 32#32 (stepRight 16#32 (stepRight 8#32 (stepRight 4#32 (stepRight 2#32 (stepRight 1#32 x))))))

/-- One doubling step of the running sum up the rows: by `k`, the rotation being by `128 - k`. -/
def stepUp (k : BitVec 32) (x : FVec F S128x128 .f32) : FVec F S128x128 .f32 :=
  addf x (select (cmpi .slt (iota .tc S128x128 32 [0] iota_S128x128_d0_w32) (broadcast S128x128 k))
    (dynamicRotate 0 k none x rotates_S128x128_d0) (broadcast S128x128 (Scalar.ofBits .f32 0x00000000#32)))

/-- The running sum up the rows. -/
def scanUp (x : FVec F S128x128 .f32) : FVec F S128x128 .f32 :=
  stepUp 64#32 (stepUp 96#32 (stepUp 112#32 (stepUp 120#32 (stepUp 124#32 (stepUp 126#32 (stepUp 127#32 x))))))

/-! ## Rounding to bf16, and a product of a value split in two bf16 parts -/

def bf {s : Shape} (x : FVec F s .f32) : FVec F s .bf16 := truncf .bf16 x bitsLt_bf16_f32

/-- What rounding to bf16 leaves out. -/
def lo {s : Shape} (x : FVec F s .f32) : FVec F s .f32 := subf x (extf .f32 (bf x) bitsLt_bf16_f32)

/-- `x`'s sums over the columns a 0/1 matrix gathers: 512 columns. -/
def spread (x : FVec F S128x512 .f32) (e : FVec F S512x128 .bf16) : FVec F S128x128 .f32 :=
  addf (matmul dot_S128x512_S512x128_S128x128_1_0_0_1_n_n none (bf x) e (constant S128x128 .f32 0x00000000#32))
    (matmul dot_S128x512_S512x128_S128x128_1_0_0_1_n_n none (bf (lo x)) e (constant S128x128 .f32 0x00000000#32))

/-- The same of eight rows. -/
def spread8 (x : FVec F S8x512 .f32) (e : FVec F S512x128 .bf16) : FVec F S8x128 .f32 :=
  addf (matmul dot_S8x512_S512x128_S8x128_1_0_0_1_n_n none (bf x) e (constant S8x128 .f32 0x00000000#32))
    (matmul dot_S8x512_S512x128_S8x128_1_0_0_1_n_n none (bf (lo x)) e (constant S8x128 .f32 0x00000000#32))

/-- The same of 128 columns. -/
def spread1 (x : FVec F S128x128 .f32) (e : FVec F S128x128 .bf16) : FVec F S128x128 .f32 :=
  addf (matmul dot_S128x128_S128x128_S128x128_1_0_0_1_n_n none (bf x) e (constant S128x128 .f32 0x00000000#32))
    (matmul dot_S128x128_S128x128_S128x128_1_0_0_1_n_n none (bf (lo x)) e (constant S128x128 .f32 0x00000000#32))

/-- The column sums of 512 columns, as a row. -/
def colSum (x : FVec F S128x512 .f32) : FVec F S1x512 .f32 :=
  shapeCast S1x512 (multiReduction .add [0] S512 x 0x00000000#32 reduces_S128x512_S512 (.inl rfl) rfl) shapeCasts_S512_S1x512

def zeros {s : Shape} : FVec F s .f32 := broadcast s (Scalar.ofBits .f32 0x00000000#32)

def rowIx : IVec S128x128 32 := iota .tc S128x128 32 [0] iota_S128x128_d0_w32
def laneIx : IVec S128x128 32 := iota .tc S128x128 32 [1] iota_S128x128_d1_w32

/-! ## One group -/

variable (F) in
/-- The vectors a group loads. -/
structure Group where
  xs : FVec F S128x512 .f32
  dtx : FVec F S128x512 .f32
  dax : FVec F S128x512 .f32
  b : FVec F S128x128 .f32
  c : FVec F S128x128 .f32
  sin : FVec F S1x128x512 .f32
  dy : FVec F S128x512 .f32
  dso : FVec F S128x512 .f32
  df : FVec F S1x512 .f32
  hs : FVec F S1x512x128 .bf16

namespace Group

variable (G : Group F)

def acs : FVec F S128x512 .f32 := scanDown (shapeCast S128x512 G.dax shapeCasts_S128x512_S128x512)
def dtxc : FVec F S128x512 .f32 := shapeCast S128x512 G.dtx shapeCasts_S128x512_S128x512
def xdt : FVec F S128x512 .f32 := mulf G.xs G.dtxc
def atot : FVec F S1x512 .f32 := extractStridedSlice S1x512 ![127, 0] G.acs slices_S128x512_o127_0_S1x512
def sinc : FVec F S128x512 .f32 := shapeCast S128x512 G.sin shapeCasts_S1x128x512_S128x512
def etot : FVec F S1x512 .f32 := exp G.atot
def dec : FVec F S128x512 .f32 := exp (subf (broadcastTo S128x512 G.atot broadcasts_S1x512_S128x512) G.acs)
def dy0 : FVec F S128x512 .f32 := mulf G.dy (exp G.acs)
def dxs : FVec F S128x512 .f32 := mulf G.dy (broadcastTo S128x512 G.df broadcasts_S1x512_S128x512)
def dc0 : FVec F S128x128 .f32 :=
  matmul dot_S128x512_S128x512_S128x128_1_1_0_0_n_n none (bf G.dy0) (bf G.sinc) (constant S128x128 .f32 0x00000000#32)
def dsn : FVec F S128x512 .f32 :=
  shapeCast S128x512 (addf
    (matmul dot_S128x128_S128x512_S128x512_0_0_1_1_n_n none (bf G.c) (bf G.dy0) (constant S128x512 .f32 0x00000000#32))
    (mulf (broadcastTo S128x512 G.etot broadcasts_S1x512_S128x512) G.dso)) shapeCasts_S128x512_S128x512
def xd : FVec F S128x512 .f32 := mulf G.xdt G.dec
def dxd : FVec F S128x512 .f32 :=
  matmul dot_S128x128_S128x512_S128x512_1_0_0_1_n_n none (bf G.b) (bf G.dso) (constant S128x512 .f32 0x00000000#32)
def db0 : FVec F S128x128 .f32 :=
  matmul dot_S128x512_S128x512_S128x128_1_1_0_0_n_n none (bf G.xd) (bf G.dso) (constant S128x128 .f32 0x00000000#32)
def dxdt0 : FVec F S128x512 .f32 := mulf G.dxd G.dec
def gq : FVec F S128x512 .f32 := mulf G.dxd G.xd
def cs : FVec F S128x512 .f32 :=
  matmul dot_S128x128_S128x512_S128x512_1_0_0_1_n_n none (bf G.c) (bf G.sinc) (constant S128x512 .f32 0x00000000#32)
def dacsx : FVec F S128x512 .f32 := subf (mulf G.dy0 G.cs) G.gq
def datot : FVec F S1x512 .f32 := addf (mulf (colSum (mulf G.dso G.sinc)) G.etot) (colSum G.gq)
def hsc : FVec F S512x128 .bf16 := shapeCast S512x128 G.hs shapeCasts_S1x512x128_S512x128
def tot8 : FVec F S8x128 .f32 :=
  spread8 (broadcastTo S8x512 (shapeCast S1x512 G.datot shapeCasts_S1x512_S1x512) broadcasts_S1x512_S8x512) G.hsc
def totRow : FVec F S128x128 .f32 :=
  broadcastTo S128x128 (shapeCast S1x128 (extractStridedSlice S1x128 ![0, 0] G.tot8 slices_S8x128_o0_0_S1x128)
    shapeCasts_S1x128_S1x128) broadcasts_S1x128_S128x128
/-- The log-decays' gradient over the groups before, with this group's part from the states. -/
def dacs0 (acc : FVec F S128x128 .f32) : FVec F S128x128 .f32 :=
  addf (addf acc (spread G.dacsx G.hsc))
    (select (cmpi .eq rowIx (broadcast S128x128 127#32)) G.totRow zeros)
def cb : FVec F S128x128 .f32 :=
  matmul dot_S128x128_S128x128_S128x128_1_1_0_0_n_n none (bf G.c) (bf G.b) (constant S128x128 .f32 0x00000000#32)
/-- What one more step leaves of the skip weights' gradient. -/
def ddn (acc : FVec F S1x512 .f32) : FVec F S1x512 .f32 :=
  addf (shapeCast S1x512 acc shapeCasts_S1x512_S1x512) (colSum (mulf G.dy G.xs))

/-! ### One head of the group: `r` its place in the group, `h` its number, `acsT` the running sums along the lanes -/

variable (acsT : FVec F S32x128 .f32)

def lm (r h : ℕ) (hr : 64 * r + 1 ≤ 512) (hh : h + 1 ≤ 32) : FVec F S128x128 .f32 :=
  select (cmpi .sge rowIx laneIx)
    (exp (minimumf (subf
      (broadcastTo S128x128 (extractStridedSlice S128x1 ![0, 64 * r] G.acs (col1_slices (64 * r) hr)) broadcasts_S128x1_S128x128)
      (broadcastTo S128x128 (extractStridedSlice S1x128 ![h, 0] acsT (row1_slices h hh)) broadcasts_S1x128_S128x128)) zeros))
    zeros

def dyr (r : ℕ) (hr : 64 * r + 64 ≤ 512) : FVec F S128x64 .bf16 :=
  extractStridedSlice S128x64 ![0, 64 * r] (bf G.dy) (col64_slices (64 * r) hr)
def xdtr (r : ℕ) (hr : 64 * r + 64 ≤ 512) : FVec F S128x64 .bf16 :=
  extractStridedSlice S128x64 ![0, 64 * r] (bf G.xdt) (col64_slices (64 * r) hr)

def dml (r h : ℕ) (hr : 64 * r + 64 ≤ 512) (hh : h + 1 ≤ 32) : FVec F S128x128 .f32 :=
  mulf (matmul dot_S128x64_S128x64_S128x128_1_1_0_0_n_n none (G.dyr r hr) (G.xdtr r hr) (constant S128x128 .f32 0x00000000#32))
    (G.lm acsT r h (by omega) hh)

/-- The head's part of the gradient of `x·dt` from inside the chunk. -/
def piece (r h : ℕ) (hr : 64 * r + 64 ≤ 512) (hh : h + 1 ≤ 32) : FVec F S128x64 .f32 :=
  matmul dot_S128x128_S128x64_S128x64_0_0_1_1_n_n none (bf (mulf G.cb (G.lm acsT r h (by omega) hh))) (G.dyr r hr)
    (constant S128x64 .f32 0x00000000#32)

def dseg (r h : ℕ) (hr : 64 * r + 64 ≤ 512) (hh : h + 1 ≤ 32) : FVec F S128x128 .f32 := mulf (G.dml acsT r h hr hh) G.cb

/-- A step of the log-decays' gradient: the head's row sums go to its lane. -/
def dacsH (acc : FVec F S128x128 .f32) (r h : ℕ) (hr : 64 * r + 64 ≤ 512) (hh : h + 1 ≤ 32) : FVec F S128x128 .f32 :=
  addf acc (spread1 (G.dseg acsT r h hr hh)
    (bf (sitofp .f32 (extui 32 (cmpi .eq laneIx (broadcast S128x128 (BitVec.ofNat 32 h))) natLt_1_32))))

/-- A step of the column sums: the head's go to its row. -/
def colH (acc : FVec F S128x128 .f32) (r h : ℕ) (hr : 64 * r + 64 ≤ 512) (hh : h + 1 ≤ 32) : FVec F S128x128 .f32 :=
  addf acc (select (cmpi .eq rowIx (broadcast S128x128 (BitVec.ofNat 32 h)))
    (broadcastTo S128x128 (shapeCast S1x128
      (shapeCast S1x128 (multiReduction .add [0] S128 (G.dseg acsT r h hr hh) 0x00000000#32 reduces_S128x128_S128 (.inl rfl) rfl)
        shapeCasts_S128_S1x128) shapeCasts_S1x128_S1x128) broadcasts_S1x128_S128x128)
    zeros)

/-- The gradient of the product `C·Bᵀ` after the group's first `n` heads; `h` the number of the first. -/
def dcb (h : ℕ) (hh : h + 8 ≤ 32) : (n : ℕ) → n ≤ 8 → FVec F S128x128 .f32
  | 0, _ => zeros
  | n + 1, hn => addf (dcb h hh n (by omega)) (G.dml acsT n (h + n) (by omega) (by omega))

/-- The log-decays' gradient after the group's first `n` heads. -/
def dacs (acc : FVec F S128x128 .f32) (h : ℕ) (hh : h + 8 ≤ 32) : (n : ℕ) → n ≤ 8 → FVec F S128x128 .f32
  | 0, _ => G.dacs0 acc
  | n + 1, hn => G.dacsH acsT (dacs acc h hh n (by omega)) n (h + n) (by omega) (by omega)

/-- The column sums after the group's first `n` heads. -/
def col (acc : FVec F S128x128 .f32) (h : ℕ) (hh : h + 8 ≤ 32) : (n : ℕ) → n ≤ 8 → FVec F S128x128 .f32
  | 0, _ => acc
  | n + 1, hn => G.colH acsT (col acc h hh n (by omega)) n (h + n) (by omega) (by omega)

/-! ### What the group leaves: `q` is the group's eight pieces side by side -/

def dxdt (q : FVec F S128x512 .f32) : FVec F S128x512 .f32 :=
  addf G.dxdt0 (shapeCast S128x512 q shapeCasts_S128x512_S128x512)
def ddt (acc : FVec F S128x128 .f32) (q : FVec F S128x512 .f32) : FVec F S128x128 .f32 :=
  addf acc (spread (mulf (G.dxdt q) G.xs) G.hsc)
def outX (q : FVec F S128x512 .f32) : FVec F S128x512 .f32 := addf G.dxs (mulf (G.dxdt q) G.dtxc)
def outB (h : ℕ) (hh : h + 8 ≤ 32) : FVec F S128x128 .f32 :=
  addf G.db0 (matmul dot_S128x128_S128x128_S128x128_0_0_1_1_n_n none (bf (G.dcb acsT h hh 8 le_rfl)) (bf G.c)
    (constant S128x128 .f32 0x00000000#32))
def outC (h : ℕ) (hh : h + 8 ≤ 32) : FVec F S128x128 .f32 :=
  addf G.dc0 (matmul dot_S128x128_S128x128_S128x128_1_0_0_1_n_n none (bf (G.dcb acsT h hh 8 le_rfl)) (bf G.b)
    (constant S128x128 .f32 0x00000000#32))

end Group

/-! ## The four groups in order -/

section Groups

variable (G : Fin 4 → Group F) (acsT : FVec F S32x128 .f32)

/-- The log-decays' gradient after the first `g` groups. -/
def dacsAll : (g : ℕ) → g ≤ 4 → FVec F S128x128 .f32
  | 0, _ => zeros
  | g + 1, hg => (G ⟨g, hg⟩).dacs acsT (dacsAll g (by omega)) (8 * g) (by omega) 8 le_rfl

/-- The column sums after the first `g` groups. -/
def colAll : (g : ℕ) → g ≤ 4 → FVec F S128x128 .f32
  | 0, _ => zeros
  | g + 1, hg => (G ⟨g, hg⟩).col acsT (colAll g (by omega)) (8 * g) (by omega) 8 le_rfl

/-- The steps' gradient after the first `g` groups; `q` each group's pieces side by side. -/
def ddtAll (q : Fin 4 → FVec F S128x512 .f32) : (g : ℕ) → g ≤ 4 → FVec F S128x128 .f32
  | 0, _ => zeros
  | g + 1, hg => (G ⟨g, hg⟩).ddt (ddtAll q g (by omega)) (q ⟨g, hg⟩)

/-- The log-decays' gradient of the chunk. -/
def ddaOut : FVec F S128x128 .f32 :=
  scanUp (subf (dacsAll G acsT 4 le_rfl) (transpose S128x128 [1, 0] (colAll G acsT 4 le_rfl) transposes_S128x128_p1_0_S128x128))

/-! The pieces the body stores of `dxbc`, the last first. -/

theorem x64_inb (g n : ℕ) (hg : g < 4) (hn : n < 8) :
    ∀ a, (![0, 512 * g + 64 * n] : Fin 2 → ℕ) a + S128x64.size a ≤ S128x3072.size a := by
  intro a; fin_cases a <;> simp <;> omega

theorem x512_inb (g : ℕ) (hg : g < 4) : ∀ a, (![0, 512 * g] : Fin 2 → ℕ) a + S128x512.size a ≤ S128x3072.size a := by
  intro a; fin_cases a <;> simp <;> omega

theorem x128_inb (o : ℕ) (ho : o + 128 ≤ 3072) : ∀ a, (![0, o] : Fin 2 → ℕ) a + S128x128.size a ≤ S128x3072.size a := by
  intro a; fin_cases a <;> simp <;> omega

/-- A group's first `n` heads' pieces over the pieces before. -/
def heads (g : ℕ) (hg : g < 4) (L : List (View.Piece (Elt F) S128x3072 .f32)) : (n : ℕ) → n ≤ 8 → List (View.Piece (Elt F) S128x3072 .f32)
  | 0, _ => L
  | n + 1, hn => ⟨Rect.unit ![0, 512 * g + 64 * n] S128x64.size (x64_inb g n hg hn),
      (G ⟨g, hg⟩).piece acsT n (8 * g + n) (by omega) (by omega)⟩ :: heads g hg L n (by omega)

/-- What the group reads back of its pieces. -/
def back (arg9 : Memref sig .tc .vmem S128x3072 .f32) (g : ℕ) (hg : g < 4) (L : List (View.Piece (Elt F) S128x3072 .f32)) :
    FVec F S128x512 .f32 :=
  arg9.view.readCov (heads G acsT g hg L 8 le_rfl) (Rect.unit (s := S128x3072) ![0, 512 * g] S128x512.size (x512_inb g hg)).toLoadRect

/-- The pieces of the first `g` groups. -/
def pieces (arg9 : Memref sig .tc .vmem S128x3072 .f32) : (g : ℕ) → g ≤ 4 → List (View.Piece (Elt F) S128x3072 .f32)
  | 0, _ => []
  | g + 1, hg =>
    ⟨Rect.unit ![0, 2560 + 128 * g] S128x128.size (x128_inb _ (by omega)), (G ⟨g, hg⟩).outC acsT (8 * g) (by omega)⟩ ::
    ⟨Rect.unit ![0, 2048 + 128 * g] S128x128.size (x128_inb _ (by omega)), (G ⟨g, hg⟩).outB acsT (8 * g) (by omega)⟩ ::
    ⟨Rect.unit ![0, 512 * g] S128x512.size (x512_inb g hg),
      (G ⟨g, hg⟩).outX (back G acsT arg9 g hg (pieces arg9 g (by omega)))⟩ ::
    heads G acsT g hg (pieces arg9 g (by omega)) 8 le_rfl

end Groups

end Cert.KernelIdeal.Body
-- ==== Proof.RunBody.lean ====
/-
  What the body's run leaves in each buffer is the groups' functions of what the groups load.
-/
module

public import proofs.«01_k».proof.Proof.Gen.KernelIdeal.Value
public import proofs.«01_k».proof.Proof.Mirror

@[expose] public section

set_option maxRecDepth 16384

noncomputable section

namespace Cert.KernelIdeal.Body

open Cert.KernelIdeal Cert.KernelIdeal.Gen Idealize.ShloMosaic Idealize.ShloMosaic.TcCoe
open Idealize.ShloMosaic.Tactic

variable {F : FTy → Type} [FloatOps F]

theorem l512_inb (g : ℕ) (hg : g < 4) : ∀ a, (![0, 512 * g] : Fin 2 → ℕ) a + S128x512.size a ≤ S128x2048.size a := by
  intro a; fin_cases a <;> simp <;> omega

theorem r512_inb (g : ℕ) (hg : g < 4) : ∀ a, (![0, 512 * g] : Fin 2 → ℕ) a + S1x512.size a ≤ S1x2048.size a := by
  intro a; fin_cases a <;> simp <;> omega

theorem s512_inb (g : ℕ) (hg : g < 4) : ∀ a, (![0, 0, 512 * g] : Fin 3 → ℕ) a + S1x128x512.size a ≤ S1x128x2048.size a := by
  intro a; fin_cases a <;> simp <;> omega

theorem h512_inb (g : ℕ) (hg : g < 4) : ∀ a, (![g, 0, 0] : Fin 3 → ℕ) a + S1x512x128.size a ≤ S4x512x128.size a := by
  intro a; fin_cases a <;> simp <;> omega

variable (c : Dev nD) (i : grid0.Coords)
  (arg1 : Memref sig .tc .vmem S128x2048 .f32) (harg1 : arg1.IsWhole) (arg2 : Memref sig .tc .vmem S128x3072 .f32) (harg2 : arg2.IsWhole)
  (arg3 : Memref sig .tc .vmem S128x2048 .f32) (harg3 : arg3.IsWhole) (arg4 : Memref sig .tc .vmem S128x2048 .f32) (harg4 : arg4.IsWhole)
  (arg5 : Memref sig .tc .vmem S32x128 .f32) (harg5 : arg5.IsWhole) (arg6 : Memref sig .tc .vmem S1x2048 .f32) (harg6 : arg6.IsWhole)
  (arg7 : Memref sig .tc .vmem S1x128x2048 .f32) (harg7 : arg7.IsWhole) (arg8 : Memref sig .tc .vmem S4x512x128 .bf16) (harg8 : arg8.IsWhole)
  (arg9 : Memref sig .tc .vmem S128x3072 .f32) (harg9 : arg9.IsWhole) (arg10 : Memref sig .tc .vmem S128x128 .f32) (harg10 : arg10.IsWhole)
  (arg11 : Memref sig .tc .vmem S128x128 .f32) (harg11 : arg11.IsWhole) (arg12 : Memref sig .tc .vmem S1x2048 .f32) (harg12 : arg12.IsWhole)
  (arg13 : Memref sig .tc .vmem S128x2048 .f32) (harg13 : arg13.IsWhole)
  (x0 : Vec F S128x2048 .f32) (x1 : Vec F S128x3072 .f32) (x2 : Vec F S128x2048 .f32) (x3 : Vec F S128x2048 .f32) (x4 : Vec F S32x128 .f32)
  (x5 : Vec F S1x2048 .f32) (x6 : Vec F S1x128x2048 .f32) (x7 : Vec F S4x512x128 .bf16) (xo11 : Vec F S1x2048 .f32) (xs0 : Vec F S128x2048 .f32)

/-- What group `g` loads; `s` the group's columns of the carried gradient. -/
def rawGroup (s : Fin 4 → FVec F S128x512 .f32) (g : Fin 4) : Group F where
  xs := arg2.view.readAt (Elt F) (Rect.unit (s := S128x3072) ![0, 512 * g.val] S128x512.size (x512_inb g.val g.isLt)).toLoadRect (harg2.unread x1)
  dtx := arg3.view.readAt (Elt F) (Rect.unit (s := S128x2048) ![0, 512 * g.val] S128x512.size (l512_inb g.val g.isLt)).toLoadRect (harg3.unread x2)
  dax := arg4.view.readAt (Elt F) (Rect.unit (s := S128x2048) ![0, 512 * g.val] S128x512.size (l512_inb g.val g.isLt)).toLoadRect (harg4.unread x3)
  b := arg2.view.readAt (Elt F) (Rect.unit (s := S128x3072) ![0, 2048 + 128 * g.val] S128x128.size (x128_inb _ (by omega))).toLoadRect (harg2.unread x1)
  c := arg2.view.readAt (Elt F) (Rect.unit (s := S128x3072) ![0, 2560 + 128 * g.val] S128x128.size (x128_inb _ (by omega))).toLoadRect (harg2.unread x1)
  sin := arg7.view.readAt (Elt F) (Rect.unit (s := S1x128x2048) ![0, 0, 512 * g.val] S1x128x512.size (s512_inb g.val g.isLt)).toLoadRect (harg7.unread x6)
  dy := arg1.view.readAt (Elt F) (Rect.unit (s := S128x2048) ![0, 512 * g.val] S128x512.size (l512_inb g.val g.isLt)).toLoadRect (harg1.unread x0)
  dso := s g
  df := arg6.view.readAt (Elt F) (Rect.unit (s := S1x2048) ![0, 512 * g.val] S1x512.size (r512_inb g.val g.isLt)).toLoadRect (harg6.unread x5)
  hs := arg8.view.readAt (Elt F) (Rect.unit (s := S4x512x128) ![g.val, 0, 0] S1x512x128.size (h512_inb g.val g.isLt)).toLoadRect (harg8.unread x7)

/-- The running sums along the lanes. -/
def rawAcsT : FVec F S32x128 .f32 :=
  scanRight (shapeCast S32x128 (arg5.view.readAt (Elt F) (Rect.unit (s := S32x128) ![0, 0] S32x128.size inb_S32x128_S32x128_0_0).toLoadRect (harg5.unread x4))
    shapeCasts_S32x128_S32x128)

/-- The carried gradient as a later grid point reads it. -/
def rawDsB (g : Fin 4) : FVec F S128x512 .f32 :=
  arg13.view.readAt (Elt F) (Rect.unit (s := S128x2048) ![0, 512 * g.val] S128x512.size (l512_inb g.val g.isLt)).toLoadRect (harg13.unread xs0)

/-- The carried gradient's pieces at the first grid point, after its first `g` groups. -/
def sPiecesA : (g : ℕ) → g ≤ 4 → List (View.Piece (Elt F) S128x2048 .f32)
  | 0, _ => [⟨Rect.unit (s := S128x2048) ![0, 0] S128x2048.size inb_S128x2048_S128x2048_0_0, k0_pay2 (F := F)⟩]
  | g + 1, hg =>
    ⟨Rect.unit (s := S128x2048) ![0, 512 * g] S128x512.size (l512_inb g hg),
      (rawGroup arg1 harg1 arg2 harg2 arg3 harg3 arg4 harg4 arg6 harg6 arg7 harg7 arg8 harg8 x0 x1 x2 x3 x5 x6 x7
        (fun _ => arg13.view.readCov (sPiecesA g (by omega))
          (Rect.unit (s := S128x2048) ![0, 512 * g] S128x512.size (l512_inb g hg)).toLoadRect) ⟨g, hg⟩).dsn⟩ :: sPiecesA g (by omega)

/-- The carried gradient as the first grid point reads it. -/
def rawDsA (g : Fin 4) : FVec F S128x512 .f32 :=
  arg13.view.readCov (sPiecesA arg1 harg1 arg2 harg2 arg3 harg3 arg4 harg4 arg6 harg6 arg7 harg7 arg8 harg8 arg13 x0 x1 x2 x3 x5 x6 x7 g.val (by omega))
    (Rect.unit (s := S128x2048) ![0, 512 * g.val] S128x512.size (l512_inb g.val g.isLt)).toLoadRect

/-- The groups at a later grid point. -/
def groupsB : Fin 4 → Group F :=
  rawGroup arg1 harg1 arg2 harg2 arg3 harg3 arg4 harg4 arg6 harg6 arg7 harg7 arg8 harg8 x0 x1 x2 x3 x5 x6 x7 (rawDsB arg13 harg13 xs0)

/-- The groups at the first grid point. -/
def groupsA : Fin 4 → Group F :=
  rawGroup arg1 harg1 arg2 harg2 arg3 harg3 arg4 harg4 arg6 harg6 arg7 harg7 arg8 harg8 x0 x1 x2 x3 x5 x6 x7 (rawDsA arg1 harg1 arg2 harg2 arg3 harg3 arg4 harg4 arg6 harg6 arg7 harg7 arg8 harg8 arg13 x0 x1 x2 x3 x5 x6 x7)

/-- The carried gradient's pieces at a later grid point. -/
def sPieces (Gs : Fin 4 → Group F) : (g : ℕ) → g ≤ 4 → List (View.Piece (Elt F) S128x2048 .f32)
  | 0, _ => []
  | g + 1, hg => ⟨Rect.unit (s := S128x2048) ![0, 512 * g] S128x512.size (l512_inb g hg), (Gs ⟨g, hg⟩).dsn⟩ :: sPieces Gs g (by omega)

/-- The skip weights' gradient's pieces at a later grid point. -/
def dPiecesB (Gs : Fin 4 → Group F) : (g : ℕ) → g ≤ 4 → List (View.Piece (Elt F) S1x2048 .f32)
  | 0, _ => []
  | g + 1, hg =>
    ⟨Rect.unit (s := S1x2048) ![0, 512 * g] S1x512.size (r512_inb g hg),
      (Gs ⟨g, hg⟩).ddn (arg12.view.readAt (Elt F) (Rect.unit (s := S1x2048) ![0, 512 * g] S1x512.size (r512_inb g hg)).toLoadRect
        (harg12.unread xo11))⟩ :: dPiecesB Gs g (by omega)

/-- The skip weights' gradient's pieces at the first grid point. -/
def dPiecesA (Gs : Fin 4 → Group F) : (g : ℕ) → g ≤ 4 → List (View.Piece (Elt F) S1x2048 .f32)
  | 0, _ => [⟨Rect.unit (s := S1x2048) ![0, 0] S1x2048.size inb_S1x2048_S1x2048_0_0, k0_pay3 (F := F)⟩]
  | g + 1, hg =>
    ⟨Rect.unit (s := S1x2048) ![0, 512 * g] S1x512.size (r512_inb g hg),
      (Gs ⟨g, hg⟩).ddn (arg12.view.readCov (dPiecesA Gs g (by omega))
        (Rect.unit (s := S1x2048) ![0, 512 * g] S1x512.size (r512_inb g hg)).toLoadRect)⟩ :: dPiecesA Gs g (by omega)

/-- Each group's pieces as it reads them back. -/
def backs (Gs : Fin 4 → Group F) (acsT : FVec F S32x128 .f32) (g : Fin 4) : FVec F S128x512 .f32 :=
  back Gs acsT arg9 g.val g.isLt (pieces Gs acsT arg9 g.val (by omega))

theorem pieces8_B (hc0 : ¬cond0_0 i) :
    (kernelRun0_B c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7 xo11 xs0).1
      = pieces (groupsB arg1 harg1 arg2 harg2 arg3 harg3 arg4 harg4 arg6 harg6 arg7 harg7 arg8 harg8 arg13 harg13 x0 x1 x2 x3 x5 x6 x7 xs0) (rawAcsT arg5 harg5 x4) arg9 4 le_rfl := by
  sl_kernel_rfl

theorem pieces9_B (hc0 : ¬cond0_0 i) :
    (kernelRun0_B c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7 xo11 xs0).2.1
      = [⟨Rect.unit (s := S128x128) ![0, 0] S128x128.size inb_S128x128_S128x128_0_0,
          ddtAll (groupsB arg1 harg1 arg2 harg2 arg3 harg3 arg4 harg4 arg6 harg6 arg7 harg7 arg8 harg8 arg13 harg13 x0 x1 x2 x3 x5 x6 x7 xs0)
            (backs arg9 (groupsB arg1 harg1 arg2 harg2 arg3 harg3 arg4 harg4 arg6 harg6 arg7 harg7 arg8 harg8 arg13 harg13 x0 x1 x2 x3 x5 x6 x7 xs0) (rawAcsT arg5 harg5 x4)) 4 le_rfl⟩] := by
  sl_kernel_rfl

theorem pieces10_B (hc0 : ¬cond0_0 i) :
    (kernelRun0_B c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7 xo11 xs0).2.2.1
      = [⟨Rect.unit (s := S128x128) ![0, 0] S128x128.size inb_S128x128_S128x128_0_0,
          ddaOut (groupsB arg1 harg1 arg2 harg2 arg3 harg3 arg4 harg4 arg6 harg6 arg7 harg7 arg8 harg8 arg13 harg13 x0 x1 x2 x3 x5 x6 x7 xs0) (rawAcsT arg5 harg5 x4)⟩] := by
  sl_kernel_rfl

theorem pieces11_B (hc0 : ¬cond0_0 i) :
    (kernelRun0_B c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7 xo11 xs0).2.2.2.1
      = dPiecesB arg12 harg12 xo11 (groupsB arg1 harg1 arg2 harg2 arg3 harg3 arg4 harg4 arg6 harg6 arg7 harg7 arg8 harg8 arg13 harg13 x0 x1 x2 x3 x5 x6 x7 xs0) 4 le_rfl := by
  sl_kernel_rfl

theorem piecesS_B (hc0 : ¬cond0_0 i) :
    (kernelRun0_B c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7 xo11 xs0).2.2.2.2.1
      = sPieces (groupsB arg1 harg1 arg2 harg2 arg3 harg3 arg4 harg4 arg6 harg6 arg7 harg7 arg8 harg8 arg13 harg13 x0 x1 x2 x3 x5 x6 x7 xs0) 4 le_rfl := by
  sl_kernel_rfl

theorem pieces8_A (hc0 : cond0_0 i) :
    (kernelRun0_A c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7).1
      = pieces (groupsA arg1 harg1 arg2 harg2 arg3 harg3 arg4 harg4 arg6 harg6 arg7 harg7 arg8 harg8 arg13 x0 x1 x2 x3 x5 x6 x7) (rawAcsT arg5 harg5 x4) arg9 4 le_rfl := by
  sl_kernel_rfl

theorem pieces9_A (hc0 : cond0_0 i) :
    (kernelRun0_A c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7).2.1
      = [⟨Rect.unit (s := S128x128) ![0, 0] S128x128.size inb_S128x128_S128x128_0_0,
          ddtAll (groupsA arg1 harg1 arg2 harg2 arg3 harg3 arg4 harg4 arg6 harg6 arg7 harg7 arg8 harg8 arg13 x0 x1 x2 x3 x5 x6 x7)
            (backs arg9 (groupsA arg1 harg1 arg2 harg2 arg3 harg3 arg4 harg4 arg6 harg6 arg7 harg7 arg8 harg8 arg13 x0 x1 x2 x3 x5 x6 x7) (rawAcsT arg5 harg5 x4)) 4 le_rfl⟩] := by
  sl_kernel_rfl

theorem pieces10_A (hc0 : cond0_0 i) :
    (kernelRun0_A c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7).2.2.1
      = [⟨Rect.unit (s := S128x128) ![0, 0] S128x128.size inb_S128x128_S128x128_0_0,
          ddaOut (groupsA arg1 harg1 arg2 harg2 arg3 harg3 arg4 harg4 arg6 harg6 arg7 harg7 arg8 harg8 arg13 x0 x1 x2 x3 x5 x6 x7) (rawAcsT arg5 harg5 x4)⟩] := by
  sl_kernel_rfl

theorem pieces11_A (hc0 : cond0_0 i) :
    (kernelRun0_A c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7).2.2.2.1
      = dPiecesA arg12 (groupsA arg1 harg1 arg2 harg2 arg3 harg3 arg4 harg4 arg6 harg6 arg7 harg7 arg8 harg8 arg13 x0 x1 x2 x3 x5 x6 x7) 4 le_rfl := by
  sl_kernel_rfl

theorem piecesS_A (hc0 : cond0_0 i) :
    (kernelRun0_A c i arg1 harg1 arg2 harg2 arg3 harg3 arg4 harg4 arg5 harg5 arg6 harg6 arg7 harg7 arg8 harg8 arg9 harg9 arg10 harg10
      arg11 harg11 arg12 harg12 arg13 harg13 hc0 x0 x1 x2 x3 x4 x5 x6 x7).2.2.2.2.1
      = sPiecesA arg1 harg1 arg2 harg2 arg3 harg3 arg4 harg4 arg6 harg6 arg7 harg7 arg8 harg8 arg13 x0 x1 x2 x3 x5 x6 x7 4 le_rfl := by
  sl_kernel_rfl

end Cert.KernelIdeal.Body
-- ==== Proof.Lift.lean ====
/-
  The vectors of the body at real values: a vector's entries are given as a real function of two natural numbers, and
  each step of a group is read as the real operation it is.
-/
module

public import proofs.«01_k».proof.Proof.RunBody
public import Idealize.ShloMosaic.Lib.Pointwise

@[expose] public section

set_option maxRecDepth 16384

noncomputable section

namespace Cert.KernelIdeal.Body

open Cert.KernelIdeal Cert.KernelIdeal.Gen Idealize.ShloMosaic
open Finset (range)

/-! ## Reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_exp (x : ℝ) : ((Real.exp x : ℝ) : EReal) = Ideal.exp (x : EReal) := rfl

theorem coe_min (x y : ℝ) : ((min x y : ℝ) : EReal) = min (x : EReal) (y : EReal) :=
  EReal.coe_strictMono.monotone.map_min

theorem coe_ite (p : Prop) [Decidable p] (x y : ℝ) : ((if p then x else y : ℝ) : EReal) = if p then (x : EReal) else (y : EReal) := by
  split <;> rfl

theorem coe_sub_self (x : ℝ) : (x : EReal) - (x : EReal) = 0 := by rw [← EReal.coe_sub, sub_self, EReal.coe_zero]

/-- The entries of `v` are those of the real function `f`. -/
def IsV {a b : ℕ} {φ : FTy} (v : FVec Ideal ⟨2, ![a, b]⟩ φ) (f : ℕ → ℕ → ℝ) : Prop :=
  ∀ (r : Fin a) (l : Fin b), v (ix2 r l) = ((f r.val l.val : ℝ) : EReal)

/-! ## Masks -/

theorem cmpi_sge_nat (a b : ℕ) (ha : a < 2 ^ 31) (hb : b < 2 ^ 31) :
    IntOp.cmpi .sge (BitVec.ofNat 32 a) (BitVec.ofNat 32 b) = BitVec.ofBool (decide (b ≤ a)) := by
  exact WordCmp.cmpi_sge_ofNat ha hb

theorem cmpi_slt_nat (a b : ℕ) (ha : a < 2 ^ 31) (hb : b < 2 ^ 31) :
    IntOp.cmpi .slt (BitVec.ofNat 32 a) (BitVec.ofNat 32 b) = BitVec.ofBool (decide (a < b)) := by
  exact WordCmp.cmpi_slt_ofNat ha hb

theorem cmpi_eq_nat (a b : ℕ) (ha : a < 2 ^ 32) (hb : b < 2 ^ 32) :
    IntOp.cmpi .eq (BitVec.ofNat 32 a) (BitVec.ofNat 32 b) = BitVec.ofBool (decide (a = b)) := by
  exact WordCmp.cmpi_eq_ofNat ha hb

theorem select_ofBool' {α : Type} (p : Prop) [Decidable p] (x y : α) :
    Scalar.select (BitVec.ofBool (decide p)) x y = if p then x else y := by
  by_cases h : p <;> simp [h, Scalar.select]

/-! ## Running sums -/

/-- The sum of the first `n` values. -/
def psum (x : ℕ → ℝ) (n : ℕ) : ℝ := ∑ i ∈ range n, x i

/-- The sum of the last `k` values up to `j`. -/
def win (x : ℕ → ℝ) (k j : ℕ) : ℝ := psum x (j + 1) - psum x (j + 1 - k)

theorem win_one (x : ℕ → ℝ) (j : ℕ) : win x 1 j = x j := by
  simp [win, psum, Finset.sum_range_succ]

theorem win_add (x : ℕ → ℝ) (k j : ℕ) :
    win x (k + k) j = win x k j + if k ≤ j then win x k (j - k) else 0 := by
  unfold win
  split
  · rename_i h
    have h1 : j - k + 1 = j + 1 - k := by omega
    have h2 : j + 1 - (k + k) = j + 1 - k - k := by omega
    rw [h1, h2]; ring
  · rename_i h
    have h1 : j + 1 - k = 0 := by omega
    have h2 : j + 1 - (k + k) = 0 := by omega
    rw [h1, h2]; ring

theorem win_all (x : ℕ → ℝ) (k j : ℕ) (h : j < k) : win x k j = psum x (j + 1) := by
  have h1 : j + 1 - k = 0 := by omega
  simp [win, h1, psum]

/-- The sum of the `k` values from `j` on, below `n`. -/
def winUp (x : ℕ → ℝ) (n k j : ℕ) : ℝ := psum x (min (j + k) n) - psum x j

theorem winUp_one (x : ℕ → ℝ) (n j : ℕ) (h : j < n) : winUp x n 1 j = x j := by
  have h1 : min (j + 1) n = j + 1 := by omega
  simp [winUp, h1, psum, Finset.sum_range_succ]

theorem winUp_add (x : ℕ → ℝ) (n k j : ℕ) (hj : j ≤ n) :
    winUp x n (k + k) j = winUp x n k j + if j < n - k then winUp x n k (j + k) else 0 := by
  unfold winUp
  split
  · rename_i h
    have h1 : min (j + k) n = j + k := by omega
    have h2 : min (j + k + k) n = min (j + (k + k)) n := by congr 1; omega
    rw [h1, h2]; ring
  · rename_i h
    have h1 : min (j + k) n = n := by omega
    have h2 : min (j + (k + k)) n = n := by omega
    rw [h1, h2]; ring

theorem winUp_all (x : ℕ → ℝ) (n k j : ℕ) (h : n ≤ k) : winUp x n k j = psum x n - psum x j := by
  have h1 : min (j + k) n = n := by omega
  simp [winUp, h1]

theorem stepDown_is (k : ℕ) (hk : k < 128) {x : FVec Ideal S128x512 .f32} {f : ℕ → ℕ → ℝ}
    (hx : IsV x fun j l => win (fun i => f i l) k j) :
    IsV (stepDown (BitVec.ofNat 32 k) x) fun j l => win (fun i => f i l) (k + k) j := by
  intro r l
  have hr := r.isLt
  have hn : (BitVec.ofNat 32 k).toNat = k := by simp; omega
  pointwise [stepDown]
  rw [cmpi_sge_nat _ _ (by omega) (by omega), select_ofBool', win_add, EReal.coe_add, coe_ite, hx]
  congr 1
  refine if_ctx_congr Iff.rfl (fun h => ?_) fun _ => rfl
  rw [hx]
  congr 3
  simp only [hn]
  omega

theorem scanDown_is {x : FVec Ideal S128x512 .f32} {f : ℕ → ℕ → ℝ} (hx : IsV x f) :
    IsV (scanDown x) fun j l => psum (fun i => f i l) (j + 1) := by
  have h0 : IsV x fun j l => win (fun i => f i l) 1 j := fun r l => by beta_reduce; rw [win_one]; exact hx r l
  have h7 := stepDown_is 64 (by norm_num) (stepDown_is 32 (by norm_num) (stepDown_is 16 (by norm_num) (stepDown_is 8 (by norm_num)
    (stepDown_is 4 (by norm_num) (stepDown_is 2 (by norm_num) (stepDown_is 1 (by norm_num) h0))))))
  intro r l
  have := h7 r l
  beta_reduce at this ⊢
  rw [win_all _ _ _ (by omega)] at this
  exact this

theorem stepRight_is (k : ℕ) (hk : k < 128) {x : FVec Ideal S32x128 .f32} {f : ℕ → ℕ → ℝ}
    (hx : IsV x fun h l => win (f h) k l) :
    IsV (stepRight (BitVec.ofNat 32 k) x) fun h l => win (f h) (k + k) l := by
  intro r l
  have hl := l.isLt
  have hn : (BitVec.ofNat 32 k).toNat = k := by simp; omega
  pointwise [stepRight]
  rw [cmpi_sge_nat _ _ (by omega) (by omega), select_ofBool', win_add, EReal.coe_add, coe_ite, hx]
  congr 1
  refine if_ctx_congr Iff.rfl (fun h => ?_) fun _ => rfl
  rw [hx]
  congr 2
  simp only [hn]
  omega

theorem scanRight_is {x : FVec Ideal S32x128 .f32} {f : ℕ → ℕ → ℝ} (hx : IsV x f) :
    IsV (scanRight x) fun h l => psum (f h) (l + 1) := by
  have h0 : IsV x fun h l => win (f h) 1 l := fun r l => by beta_reduce; rw [win_one]; exact hx r l
  have h7 := stepRight_is 64 (by norm_num) (stepRight_is 32 (by norm_num) (stepRight_is 16 (by norm_num) (stepRight_is 8 (by norm_num)
    (stepRight_is 4 (by norm_num) (stepRight_is 2 (by norm_num) (stepRight_is 1 (by norm_num) h0))))))
  intro r l
  have := h7 r l
  beta_reduce at this ⊢
  rw [win_all _ _ _ (by omega)] at this
  exact this

theorem stepUp_is (k : ℕ) (h1 : 1 ≤ k) (hk : k < 128) {x : FVec Ideal S128x128 .f32} {f : ℕ → ℕ → ℝ}
    (hx : IsV x fun j l => winUp (fun i => f i l) 128 k j) :
    IsV (stepUp (BitVec.ofNat 32 (128 - k)) x) fun j l => winUp (fun i => f i l) 128 (k + k) j := by
  intro r l
  have hr := r.isLt
  have hn : (BitVec.ofNat 32 (128 - k)).toNat = 128 - k := by rw [BitVec.toNat_ofNat]; omega
  pointwise [stepUp]
  rw [cmpi_slt_nat _ _ (by omega) (by omega), select_ofBool', winUp_add _ _ _ _ (by omega), EReal.coe_add, coe_ite, hx]
  congr 1
  refine if_ctx_congr Iff.rfl (fun h => ?_) fun _ => rfl
  rw [hx]
  congr 3
  simp only [hn]
  omega

theorem scanUp_is {x : FVec Ideal S128x128 .f32} {f : ℕ → ℕ → ℝ} (hx : IsV x f) :
    IsV (scanUp x) fun j l => psum (fun i => f i l) 128 - psum (fun i => f i l) j := by
  have h0 : IsV x fun j l => winUp (fun i => f i l) 128 1 j := fun r l => by beta_reduce; rw [winUp_one _ _ _ r.isLt]; exact hx r l
  have h7 := stepUp_is 64 (by norm_num) (by norm_num) (stepUp_is 32 (by norm_num) (by norm_num) (stepUp_is 16 (by norm_num) (by norm_num)
    (stepUp_is 8 (by norm_num) (by norm_num) (stepUp_is 4 (by norm_num) (by norm_num) (stepUp_is 2 (by norm_num) (by norm_num)
      (stepUp_is 1 (by norm_num) (by norm_num) h0))))))
  intro r l
  have := h7 r l
  beta_reduce at this ⊢
  rw [winUp_all _ _ _ _ (by omega)] at this
  exact this

/-! ## One group of reals -/

/-- The real entries of the vectors a group loads. -/
structure RG where
  xs : ℕ → ℕ → ℝ
  dtx : ℕ → ℕ → ℝ
  dax : ℕ → ℕ → ℝ
  b : ℕ → ℕ → ℝ
  c : ℕ → ℕ → ℝ
  sin : ℕ → ℕ → ℝ
  dy : ℕ → ℕ → ℝ
  dso : ℕ → ℕ → ℝ
  df : ℕ → ℝ

/-- Column `l` of group `g` belongs to head `n`. -/
def one (g l n : ℕ) : ℝ := if n = 8 * g + l / 64 then 1 else 0

namespace RG

variable (X : RG)

def acs (j l : ℕ) : ℝ := psum (fun i => X.dax i l) (j + 1)
def xdt (j l : ℕ) : ℝ := X.xs j l * X.dtx j l
def etot (l : ℕ) : ℝ := Real.exp (X.acs 127 l)
def dec (j l : ℕ) : ℝ := Real.exp (X.acs 127 l - X.acs j l)
def dy0 (j l : ℕ) : ℝ := X.dy j l * Real.exp (X.acs j l)
def dc0 (j n : ℕ) : ℝ := ∑ l ∈ range 512, X.dy0 j l * X.sin n l
def dsn (n l : ℕ) : ℝ := ∑ t ∈ range 128, X.c t n * X.dy0 t l + X.etot l * X.dso n l
def xd (j l : ℕ) : ℝ := X.xdt j l * X.dec j l
def dxd (j l : ℕ) : ℝ := ∑ n ∈ range 128, X.b j n * X.dso n l
def db0 (j n : ℕ) : ℝ := ∑ l ∈ range 512, X.xd j l * X.dso n l
def gq (j l : ℕ) : ℝ := X.dxd j l * X.xd j l
def cs (j l : ℕ) : ℝ := ∑ n ∈ range 128, X.c j n * X.sin n l
def dacsx (j l : ℕ) : ℝ := X.dy0 j l * X.cs j l - X.gq j l
def datot (l : ℕ) : ℝ := (∑ n ∈ range 128, X.dso n l * X.sin n l) * X.etot l + ∑ j ∈ range 128, X.gq j l
def cb (j t : ℕ) : ℝ := ∑ n ∈ range 128, X.c j n * X.b t n
def dd (l : ℕ) : ℝ := ∑ j ∈ range 128, X.dy j l * X.xs j l

variable (aT : ℕ → ℕ → ℝ)

def lm (r h j t : ℕ) : ℝ := if t ≤ j then Real.exp (min (X.acs j (64 * r) - aT h t) 0) else 0
def dml (r h j t : ℕ) : ℝ := (∑ p ∈ range 64, X.dy j (64 * r + p) * X.xdt t (64 * r + p)) * X.lm aT r h j t
def piece (r h t p : ℕ) : ℝ := ∑ j ∈ range 128, X.cb j t * X.lm aT r h j t * X.dy j (64 * r + p)
def dseg (r h j t : ℕ) : ℝ := X.dml aT r h j t * X.cb j t
def dcb (h n j t : ℕ) : ℝ := ∑ r ∈ range n, X.dml aT r (h + r) j t
def dxdt (g j l : ℕ) : ℝ := X.dxd j l * X.dec j l + X.piece aT (l / 64) (8 * g + l / 64) j (l % 64)
def outX (g j l : ℕ) : ℝ := X.dy j l * X.df l + X.dxdt aT g j l * X.dtx j l
def outB (g j n : ℕ) : ℝ := X.db0 j n + ∑ t ∈ range 128, X.dcb aT (8 * g) 8 t j * X.c t n
def outC (g j n : ℕ) : ℝ := X.dc0 j n + ∑ t ∈ range 128, X.dcb aT (8 * g) 8 j t * X.b t n
def dacs0 (g j n : ℕ) : ℝ :=
  ∑ l ∈ range 512, X.dacsx j l * one g l n + if j = 127 then ∑ l ∈ range 512, X.datot l * one g l n else 0
def dacs (g k j n : ℕ) : ℝ :=
  X.dacs0 g j n + ∑ r ∈ range k, ∑ t ∈ range 128, X.dseg aT r (8 * g + r) j t * if n = 8 * g + r then 1 else 0
def col (g k j t : ℕ) : ℝ := ∑ r ∈ range k, if j = 8 * g + r then ∑ i ∈ range 128, X.dseg aT r (8 * g + r) i t else 0
def ddt (g j n : ℕ) : ℝ := ∑ l ∈ range 512, X.dxdt aT g j l * X.xs j l * one g l n

end RG

/-- The group's loads have the real entries `X`. -/
structure Group.Is (G : Group Ideal) (X : RG) (g : ℕ) : Prop where
  xs : IsV G.xs X.xs
  dtx : IsV G.dtx X.dtx
  dax : IsV G.dax X.dax
  b : IsV G.b X.b
  c : IsV G.c X.c
  sin : ∀ (n : Fin 128) (l : Fin 512), G.sin (ix3 0 n l) = ((X.sin n.val l.val : ℝ) : EReal)
  dy : IsV G.dy X.dy
  dso : IsV G.dso X.dso
  df : ∀ l : Fin 512, G.df (ix2 0 l) = ((X.df l.val : ℝ) : EReal)
  hs : ∀ (l : Fin 512) (n : Fin 128), G.hs (ix3 0 l n) = ((one g l.val n.val : ℝ) : EReal)

theorem IsV.shapeCast_self {a b : ℕ} {v : FVec Ideal ⟨2, ![a, b]⟩ .f32} {f : ℕ → ℕ → ℝ} (hv : IsV v f) (h) :
    IsV (shapeCast ⟨2, ![a, b]⟩ v h) f := by
  rw [Idealize.ShloMosaic.shapeCast_self]; exact hv

theorem spread_is {x : FVec Ideal S128x512 .f32} {f : ℕ → ℕ → ℝ} (hx : IsV x f) {e : FVec Ideal S512x128 .bf16}
    {w : ℕ → ℕ → ℝ} (he : IsV e w) : IsV (spread x e) fun j n => ∑ l ∈ range 512, f j l * w l n := by
  intro r l
  pointwise [spread, bf, lo]
  simp only [hx r _, he _ l, coe_sub_self, zero_mul, Finset.sum_const_zero, add_zero, Finset.sum_range, coe_sum, EReal.coe_mul]

theorem spread8_is {x : FVec Ideal S8x512 .f32} {f : ℕ → ℕ → ℝ} (hx : IsV x f) {e : FVec Ideal S512x128 .bf16}
    {w : ℕ → ℕ → ℝ} (he : IsV e w) : IsV (spread8 x e) fun j n => ∑ l ∈ range 512, f j l * w l n := by
  intro r l
  pointwise [spread8, bf, lo]
  simp only [hx r _, he _ l, coe_sub_self, zero_mul, Finset.sum_const_zero, add_zero, Finset.sum_range, coe_sum, EReal.coe_mul]

theorem spread1_is {x : FVec Ideal S128x128 .f32} {f : ℕ → ℕ → ℝ} (hx : IsV x f) {e : FVec Ideal S128x128 .bf16}
    {w : ℕ → ℕ → ℝ} (he : IsV e w) : IsV (spread1 x e) fun j n => ∑ l ∈ range 128, f j l * w l n := by
  intro r l
  pointwise [spread1, bf, lo]
  simp only [hx r _, he _ l, coe_sub_self, zero_mul, Finset.sum_const_zero, add_zero, Finset.sum_range, coe_sum, EReal.coe_mul]

namespace Group.Is

variable {G : Group Ideal} {X : RG} {g : ℕ} (H : G.Is X g)
include H

theorem acs : IsV G.acs X.acs := scanDown_is (H.dax.shapeCast_self _)

theorem dtxc : IsV G.dtxc X.dtx := H.dtx.shapeCast_self _

theorem xdt : IsV G.xdt X.xdt := by
  intro r l
  pointwise [Group.xdt]
  rw [H.xs, H.dtxc, RG.xdt, EReal.coe_mul]

theorem atot (r : Fin 1) (l : Fin 512) : G.atot (ix2 r l) = ((X.acs 127 l.val : ℝ) : EReal) := by
  pointwise [Group.atot]
  exact H.acs 127 l

theorem sinc : IsV G.sinc X.sin := by
  intro r l
  pointwise [Group.sinc]
  exact H.sin r l

theorem etot (r : Fin 1) (l : Fin 512) : G.etot (ix2 r l) = ((X.etot l.val : ℝ) : EReal) := by
  pointwise [Group.etot]
  rw [H.atot, RG.etot, coe_exp]

theorem dec : IsV G.dec X.dec := by
  intro r l
  pointwise [Group.dec]
  rw [H.atot, H.acs, RG.dec, coe_exp, EReal.coe_sub]

theorem dy0 : IsV G.dy0 X.dy0 := by
  intro r l
  pointwise [Group.dy0]
  rw [H.dy, H.acs, RG.dy0, EReal.coe_mul, coe_exp]

theorem dxs : IsV G.dxs fun j l => X.dy j l * X.df l := by
  intro r l
  pointwise [Group.dxs]
  rw [H.dy, H.df, EReal.coe_mul]

theorem dc0 : IsV G.dc0 X.dc0 := by
  intro r l
  pointwise [Group.dc0, bf]
  simp only [H.dy0 r _, H.sinc l _, RG.dc0, Finset.sum_range, coe_sum, EReal.coe_mul]

theorem dsn : IsV G.dsn X.dsn := by
  intro r l
  pointwise [Group.dsn, bf]
  simp only [H.c _ r, H.dy0 _ l, H.etot 0 l, H.dso r l, RG.dsn, Finset.sum_range, coe_sum, EReal.coe_mul, EReal.coe_add]

theorem xd : IsV G.xd X.xd := by
  intro r l
  pointwise [Group.xd]
  rw [H.xdt, H.dec, RG.xd, EReal.coe_mul]

theorem dxd : IsV G.dxd X.dxd := by
  intro r l
  pointwise [Group.dxd, bf]
  simp only [H.b r _, H.dso _ l, RG.dxd, Finset.sum_range, coe_sum, EReal.coe_mul]

theorem db0 : IsV G.db0 X.db0 := by
  intro r l
  pointwise [Group.db0, bf]
  simp only [H.xd r _, H.dso l _, RG.db0, Finset.sum_range, coe_sum, EReal.coe_mul]

theorem dxdt0 : IsV G.dxdt0 fun j l => X.dxd j l * X.dec j l := by
  intro r l
  pointwise [Group.dxdt0]
  rw [H.dxd, H.dec, EReal.coe_mul]

theorem gq : IsV G.gq X.gq := by
  intro r l
  pointwise [Group.gq]
  rw [H.dxd, H.xd, RG.gq, EReal.coe_mul]

theorem cs : IsV G.cs X.cs := by
  intro r l
  pointwise [Group.cs, bf]
  simp only [H.c r _, H.sinc _ l, RG.cs, Finset.sum_range, coe_sum, EReal.coe_mul]

theorem dacsx : IsV G.dacsx X.dacsx := by
  intro r l
  pointwise [Group.dacsx]
  rw [H.dy0, H.cs, H.gq, RG.dacsx, EReal.coe_sub, EReal.coe_mul]

theorem datot (r : Fin 1) (l : Fin 512) : G.datot (ix2 r l) = ((X.datot l.val : ℝ) : EReal) := by
  pointwise [Group.datot, colSum]
  simp only [H.dso _ l, H.sinc _ l, H.etot _ l, H.gq _ l, RG.datot, Finset.sum_range, coe_sum, EReal.coe_mul, EReal.coe_add]

theorem hsc : IsV G.hsc (one g) := by
  intro r l
  pointwise [Group.hsc]
  exact H.hs r l

theorem tot8 : IsV G.tot8 fun _ n => ∑ l ∈ range 512, X.datot l * one g l n := by
  refine spread8_is (f := fun _ l => X.datot l) (fun r l => ?_) H.hsc
  pointwise
  exact H.datot 0 l

theorem totRow : IsV G.totRow fun _ n => ∑ l ∈ range 512, X.datot l * one g l n := by
  intro r l
  pointwise [Group.totRow]
  exact H.tot8 0 l

theorem dacs0 {acc : FVec Ideal S128x128 .f32} {f : ℕ → ℕ → ℝ} (ha : IsV acc f) :
    IsV (G.dacs0 acc) fun j n => f j n + X.dacs0 g j n := by
  intro r l
  have hr := r.isLt
  pointwise [Group.dacs0, rowIx, zeros]
  rw [cmpi_eq_nat _ _ (by omega) (by omega), select_ofBool', spread_is H.dacsx H.hsc, H.totRow, ha, RG.dacs0, EReal.coe_add,
    EReal.coe_add, coe_ite, EReal.coe_zero, add_assoc]

theorem cb : IsV G.cb X.cb := by
  intro r l
  pointwise [Group.cb, bf]
  simp only [H.c r _, H.b l _, RG.cb, Finset.sum_range, coe_sum, EReal.coe_mul]

theorem ddn {acc : FVec Ideal S1x512 .f32} {f : ℕ → ℝ} (ha : ∀ l : Fin 512, acc (ix2 0 l) = ((f l.val : ℝ) : EReal))
    (l : Fin 512) : G.ddn acc (ix2 0 l) = ((f l.val + X.dd l.val : ℝ) : EReal) := by
  pointwise [Group.ddn, colSum]
  simp only [ha l, H.dy _ l, H.xs _ l, RG.dd, Finset.sum_range, coe_sum, EReal.coe_mul, EReal.coe_add]

variable {acsT : FVec Ideal S32x128 .f32} {aT : ℕ → ℕ → ℝ} (A : IsV acsT aT)
include A

theorem lm (r h : ℕ) (hr hh) : IsV (G.lm acsT r h hr hh) (X.lm aT r h) := by
  intro j t
  have hj := j.isLt
  have ht := t.isLt
  pointwise [Group.lm, zeros, rowIx, laneIx]
  rw [cmpi_sge_nat _ _ (by omega) (by omega), select_ofBool', H.acs, A, RG.lm, coe_ite, coe_exp, coe_min, EReal.coe_sub, EReal.coe_zero]

theorem dml (r h : ℕ) (hr hh) : IsV (G.dml acsT r h hr hh) (X.dml aT r h) := by
  intro j t
  pointwise [Group.dml, Group.dyr, Group.xdtr, bf]
  rw [H.lm A]
  simp only [H.dy j _, H.xdt t _, RG.dml, Finset.sum_range, coe_sum, EReal.coe_mul]

theorem piece (r h : ℕ) (hr hh) : IsV (G.piece acsT r h hr hh) (X.piece aT r h) := by
  intro j t
  pointwise [Group.piece, Group.dyr, bf]
  simp only [H.cb _ j, H.lm A r h _ hh _ j, H.dy _ _, RG.piece, Finset.sum_range, coe_sum, EReal.coe_mul]

theorem dseg (r h : ℕ) (hr hh) : IsV (G.dseg acsT r h hr hh) (X.dseg aT r h) := by
  intro j t
  pointwise [Group.dseg]
  rw [H.dml A, H.cb, RG.dseg, EReal.coe_mul]

theorem dcb (h : ℕ) (hh) (n : ℕ) (hn) : IsV (G.dcb acsT h hh n hn) (X.dcb aT h n) := by
  induction n with
  | zero => intro j t; pointwise [Group.dcb, zeros]; simp [RG.dcb]
  | succ n ih =>
    intro j t
    pointwise [Group.dcb]
    rw [ih, H.dml A, RG.dcb, RG.dcb, Finset.sum_range_succ, EReal.coe_add]

theorem dacs {acc : FVec Ideal S128x128 .f32} {f : ℕ → ℕ → ℝ} (ha : IsV acc f) (hh) (n : ℕ) (hn) :
    IsV (G.dacs acsT acc (8 * g) hh n hn) fun j l => f j l + X.dacs aT g n j l := by
  induction n with
  | zero =>
    intro j t
    rw [Group.dacs, H.dacs0 ha]
    simp [RG.dacs]
  | succ n ih =>
    intro j t
    have hw : IsV (bf (F := Ideal) (sitofp .f32 (extui 32 (cmpi .eq laneIx (broadcast S128x128 (BitVec.ofNat 32 (8 * g + n)))) natLt_1_32)))
        fun _ l => if l = 8 * g + n then 1 else 0 := by
      intro a b
      have hb := b.isLt
      pointwise [bf, laneIx]
      rw [cmpi_eq_nat _ _ (by omega) (by omega)]
      by_cases h : b.val = 8 * g + n
      · simp only [h, decide_true, if_true]
        show (((1#32 : BitVec 32).toInt : ℝ) : EReal) = _
        norm_num
      · simp only [h, decide_false, if_false]
        show (((0#32 : BitVec 32).toInt : ℝ) : EReal) = _
        norm_num
    pointwise [Group.dacs, Group.dacsH]
    have e : X.dacs aT g (n + 1) j.val t.val = X.dacs aT g n j.val t.val
        + ∑ i ∈ range 128, X.dseg aT n (8 * g + n) j i * if t.val = 8 * g + n then 1 else 0 := by
      rw [RG.dacs, Finset.sum_range_succ, RG.dacs, add_assoc]
    rw [ih, spread1_is (H.dseg A _ _ _ _) hw, e, ← EReal.coe_add, add_assoc]

theorem col {acc : FVec Ideal S128x128 .f32} {f : ℕ → ℕ → ℝ} (ha : IsV acc f) (hh) (n : ℕ) (hn) :
    IsV (G.col acsT acc (8 * g) hh n hn) fun j t => f j t + X.col aT g n j t := by
  induction n with
  | zero =>
    intro j t
    rw [Group.col, ha]
    simp [RG.col]
  | succ n ih =>
    intro j t
    have hj := j.isLt
    pointwise [Group.col, Group.colH, rowIx, zeros]
    rw [cmpi_eq_nat _ _ (by omega) (by omega), select_ofBool', ih]
    have e : X.col aT g (n + 1) j.val t.val = X.col aT g n j.val t.val
        + if j.val = 8 * g + n then ∑ i ∈ range 128, X.dseg aT n (8 * g + n) i t.val else 0 := by
      rw [RG.col, Finset.sum_range_succ, RG.col]
    rw [e]
    simp only [H.dseg A _ _ _ _ _ t, EReal.coe_add, coe_ite, EReal.coe_zero, add_assoc, Finset.sum_range, coe_sum]

theorem outB (hh) : IsV (G.outB acsT (8 * g) hh) (X.outB aT g) := by
  intro j n
  pointwise [Group.outB, bf]
  simp only [H.db0 j n, H.dcb A _ hh 8 le_rfl _ j, H.c _ n, RG.outB, EReal.coe_add, Finset.sum_range, coe_sum, EReal.coe_mul]

theorem outC (hh) : IsV (G.outC acsT (8 * g) hh) (X.outC aT g) := by
  intro j n
  pointwise [Group.outC, bf]
  simp only [H.dc0 j n, H.dcb A _ hh 8 le_rfl j _, H.b _ n, RG.outC, EReal.coe_add, Finset.sum_range, coe_sum, EReal.coe_mul]

omit A in
theorem dxdt {q : FVec Ideal S128x512 .f32}
    (hq : IsV q fun j l => X.piece aT (l / 64) (8 * g + l / 64) j (l % 64)) : IsV (G.dxdt q) (X.dxdt aT g) := by
  intro j l
  pointwise [Group.dxdt]
  rw [H.dxdt0, hq, RG.dxdt, EReal.coe_add]

omit A in
theorem outX {q : FVec Ideal S128x512 .f32}
    (hq : IsV q fun j l => X.piece aT (l / 64) (8 * g + l / 64) j (l % 64)) : IsV (G.outX q) (X.outX aT g) := by
  intro j l
  pointwise [Group.outX]
  rw [H.dxs, H.dxdt hq, H.dtxc, RG.outX, EReal.coe_add, EReal.coe_mul (X.dxdt aT g _ _)]

omit A in
theorem ddt {q : FVec Ideal S128x512 .f32} {acc : FVec Ideal S128x128 .f32} {f : ℕ → ℕ → ℝ} (ha : IsV acc f)
    (hq : IsV q fun j l => X.piece aT (l / 64) (8 * g + l / 64) j (l % 64)) :
    IsV (G.ddt acc q) fun j n => f j n + X.ddt aT g j n := by
  intro j n
  have hm : IsV (mulf (G.dxdt q) G.xs) fun j l => X.dxdt aT g j l * X.xs j l := by
    intro r l
    pointwise
    rw [H.dxdt hq, H.xs, EReal.coe_mul]
  pointwise [Group.ddt]
  rw [ha, spread_is hm H.hsc, RG.ddt, EReal.coe_add]

end Group.Is

end Cert.KernelIdeal.Body
-- ==== Proof.Points.lean ====
/-
  What the pieces of a grid point leave at an index, and the real entries of what a grid point leaves in each buffer.
-/
module

public import proofs.«01_k».proof.Proof.Lift

@[expose] public section

set_option maxRecDepth 16384

noncomputable section

namespace Cert.KernelIdeal.Body

open Cert.KernelIdeal Cert.KernelIdeal.Gen Idealize.ShloMosaic
open Finset (range)

/-- A store of the columns from `o` on, last: those columns are the payload's, the others what was there. -/
theorem canon_cols {Val : EltTy → Type} [∀ e, Nonempty (Val e)] {e : EltTy} {a N w o : ℕ}
    (inb : ∀ x, (![0, o] : Fin 2 → ℕ) x + (![a, w] : Fin 2 → ℕ) x ≤ (⟨2, ![a, N]⟩ : Shape).size x)
    (v : (⟨2, ![a, w]⟩ : Shape).Idx → Val e) (L : List (View.Piece Val ⟨2, ![a, N]⟩ e)) (j : Fin a) (l : Fin N) :
    View.canon ((⟨Rect.unit (s := ⟨2, ![a, N]⟩) ![0, o] ![a, w] inb, v⟩ : View.Piece Val ⟨2, ![a, N]⟩ e) :: L) (ix2 j l)
      = if h : o ≤ l.val ∧ l.val < o + w then v (ix2 j ⟨l.val - o, by omega⟩) else View.canon L (ix2 j l) := by
  split
  · rename_i h
    have e1 := View.canon_cons_emb (Val := Val) (Rect.unit (s := ⟨2, ![a, N]⟩) ![0, o] ![a, w] inb) v L (ix2 j ⟨l.val - o, by omega⟩)
    rw [← e1]
    congr 1
    funext x
    apply Fin.ext
    fin_cases x
    · show j.val = 0 + 1 * j.val; omega
    · show l.val = o + 1 * (l.val - o); omega
  · rename_i h
    refine View.canon_cons_of_not_mem _ _ fun hm => h ?_
    obtain ⟨x, hx⟩ := (Rect.unit (s := ⟨2, ![a, N]⟩) ![0, o] ![a, w] inb).exists_idx_of_mem hm
    have h1 : o + 1 * (x 1).val = l.val := congrArg Fin.val (congrFun hx 1)
    have h2 : (x 1).val < w := (x 1).isLt
    omega

/-- A load of the columns from `o` on. -/
theorem idx_cols {a N w o : ℕ}
    (inb : ∀ x, (![0, o] : Fin 2 → ℕ) x + (![a, w] : Fin 2 → ℕ) x ≤ (⟨2, ![a, N]⟩ : Shape).size x) (j : Fin a) (l : Fin w)
    (h : o + l.val < N) :
    (Rect.unit (s := ⟨2, ![a, N]⟩) ![0, o] ![a, w] inb).toLoadRect.idx (ix2 j l) = ix2 j ⟨o + l.val, h⟩ := by
  funext x
  apply Fin.ext
  fin_cases x
  · show 0 + 1 * j.val = j.val; omega
  · show o + 1 * l.val = o + l.val; omega

/-- A load of columns of a whole buffer's contents. -/
theorem read_cols {sig : RefSig} {κ : Kind} {F : FTy → Type} [FloatOps F] {a N w o : ℕ} {φ : EltTy}
    (arg : Memref sig κ .vmem ⟨2, ![a, N]⟩ φ) (harg : arg.IsWhole) (x : Vec F ⟨2, ![a, N]⟩ φ)
    (inb : ∀ x, (![0, o] : Fin 2 → ℕ) x + (![a, w] : Fin 2 → ℕ) x ≤ (⟨2, ![a, N]⟩ : Shape).size x) (j : Fin a) (l : Fin w)
    (h : o + l.val < N) :
    arg.view.readAt (Elt F) (Rect.unit (s := ⟨2, ![a, N]⟩) ![0, o] ![a, w] inb).toLoadRect (harg.unread x) (ix2 j l)
      = x (ix2 j ⟨o + l.val, h⟩) := by
  have e := congrFun (harg.read_unread x) ((Rect.unit (s := ⟨2, ![a, N]⟩) ![0, o] ![a, w] inb).toLoadRect.idx (ix2 j l))
  rw [idx_cols inb j l h] at e
  rw [← e, ← idx_cols inb j l h]
  rfl

section Pieces

variable {Gs : Fin 4 → Group Ideal} {X : ℕ → RG} (H : ∀ g : Fin 4, (Gs g).Is (X g.val) g.val)
  {acsT : FVec Ideal S32x128 .f32} {aT : ℕ → ℕ → ℝ} (A : IsV acsT aT)

include H A

theorem canon_heads (g : ℕ) (hg : g < 4) (L : List (View.Piece (Elt Ideal) S128x3072 .f32)) (n : ℕ) (hn : n ≤ 8)
    (j : Fin 128) (l : Fin 3072) :
    View.canon (heads Gs acsT g hg L n hn) (ix2 j l)
      = if 512 * g ≤ l.val ∧ l.val < 512 * g + 64 * n then
          (((X g).piece aT ((l.val - 512 * g) / 64) (8 * g + (l.val - 512 * g) / 64) j.val ((l.val - 512 * g) % 64) : ℝ) : EReal)
        else View.canon L (ix2 j l) := by
  induction n with
  | zero => rw [heads, if_neg (by omega)]
  | succ n ih =>
    rw [heads]
    refine (canon_cols (a := 128) (N := 3072) (w := 64) (x64_inb g n hg (by omega)) _ _ j l).trans ?_
    split
    · rename_i h
      rw [if_pos (by omega), (H ⟨g, hg⟩).piece A]
      have e1 : (l.val - 512 * g) / 64 = n := by omega
      have e2 : (l.val - 512 * g) % 64 = l.val - (512 * g + 64 * n) := by omega
      simp only [e1, e2]
    · rename_i h
      rw [ih]
      exact if_congr (by omega) rfl rfl

theorem back_is (arg9 : Memref sig .tc .vmem S128x3072 .f32) (g : ℕ) (hg : g < 4) (L : List (View.Piece (Elt Ideal) S128x3072 .f32)) :
    IsV (back Gs acsT arg9 g hg L) fun j l => (X g).piece aT (l / 64) (8 * g + l / 64) j (l % 64) := by
  intro j l
  have hl := l.isLt
  rw [back, View.readCov_eq_canon']
  show View.canon _ ((Rect.unit (s := ⟨2, ![128, 3072]⟩) ![0, 512 * g] ![128, 512] (x512_inb g hg)).toLoadRect.idx (ix2 j l)) = _
  rw [idx_cols (x512_inb g hg) j l (by omega), canon_heads H A, if_pos (by simp only; omega)]
  simp only [Nat.add_sub_cancel_left]

variable (X) (aT) in
/-- The gradient of `xbc` that a grid point leaves. -/
def out8 (j l : ℕ) : ℝ :=
  if l < 2048 then (X (l / 512)).outX aT (l / 512) j (l % 512)
  else if l < 2560 then (X ((l - 2048) / 128)).outB aT ((l - 2048) / 128) j ((l - 2048) % 128)
  else (X ((l - 2560) / 128)).outC aT ((l - 2560) / 128) j ((l - 2560) % 128)

theorem pieces_is (arg9 : Memref sig .tc .vmem S128x3072 .f32) (g : ℕ) (hg : g ≤ 4) (j : Fin 128) (l : Fin 3072)
    (hl : l.val < 512 * g ∨ (2048 ≤ l.val ∧ l.val < 2048 + 128 * g) ∨ (2560 ≤ l.val ∧ l.val < 2560 + 128 * g)) :
    View.canon (pieces Gs acsT arg9 g hg) (ix2 j l) = ((out8 X aT j.val l.val : ℝ) : EReal) := by
  induction g with
  | zero => omega
  | succ g ih =>
    rw [pieces]
    refine (canon_cols (a := 128) (N := 3072) (w := 128) (x128_inb _ (by omega)) _ _ j l).trans ?_
    split
    · rename_i h
      rw [(H ⟨g, hg⟩).outC A, out8, if_neg (by omega), if_neg (by omega)]
      have e1 : (l.val - 2560) / 128 = g := by omega
      have e2 : (l.val - 2560) % 128 = l.val - (2560 + 128 * g) := by omega
      simp only [e1, e2]
    rename_i h1
    refine (canon_cols (a := 128) (N := 3072) (w := 128) (x128_inb _ (by omega)) _ _ j l).trans ?_
    split
    · rename_i h
      rw [(H ⟨g, hg⟩).outB A, out8, if_neg (by omega), if_pos (by omega)]
      have e1 : (l.val - 2048) / 128 = g := by omega
      have e2 : (l.val - 2048) % 128 = l.val - (2048 + 128 * g) := by omega
      simp only [e1, e2]
    rename_i h2
    refine (canon_cols (a := 128) (N := 3072) (w := 512) (x512_inb g hg) _ _ j l).trans ?_
    split
    · rename_i h
      rw [(H ⟨g, hg⟩).outX (back_is H A arg9 g hg _), out8, if_pos (by omega)]
      have e1 : l.val / 512 = g := by omega
      have e2 : l.val % 512 = l.val - 512 * g := by omega
      simp only [e1, e2]
    rename_i h3
    rw [canon_heads H A, if_neg (by omega)]
    exact ih (by omega) (by omega)

variable (X) (aT) in
/-- The gradient of `dt` that a grid point leaves. -/
def out9 (j n : ℕ) : ℝ := ∑ g ∈ range 4, (X g).ddt aT g j n

variable (X) (aT) in
def dacsR (j n : ℕ) : ℝ := ∑ g ∈ range 4, (X g).dacs aT g 8 j n

variable (X) (aT) in
def colR (j t : ℕ) : ℝ := ∑ g ∈ range 4, (X g).col aT g 8 j t

variable (X) (aT) in
/-- The gradient of `da` that a grid point leaves. -/
def out10 (j n : ℕ) : ℝ :=
  psum (fun i => dacsR X aT i n - colR X aT n i) 128 - psum (fun i => dacsR X aT i n - colR X aT n i) j

theorem ddtAll_is (arg9 : Memref sig .tc .vmem S128x3072 .f32) (g : ℕ) (hg : g ≤ 4) :
    IsV (ddtAll Gs (backs arg9 Gs acsT) g hg) fun j n => ∑ k ∈ range g, (X k).ddt aT k j n := by
  induction g with
  | zero => intro j n; rw [ddtAll]; pointwise [zeros]; simp
  | succ g ih =>
    intro j n
    rw [ddtAll, (H ⟨g, hg⟩).ddt (q := backs arg9 Gs acsT ⟨g, hg⟩) (acc := ddtAll Gs (backs arg9 Gs acsT) g (by omega)) (ih _) (back_is H A arg9 g hg _)]
    beta_reduce
    rw [Finset.sum_range_succ]

theorem dacsAll_is (g : ℕ) (hg : g ≤ 4) :
    IsV (dacsAll Gs acsT g hg) fun j n => ∑ k ∈ range g, (X k).dacs aT k 8 j n := by
  induction g with
  | zero => intro j n; rw [dacsAll]; pointwise [zeros]; simp
  | succ g ih =>
    intro j n
    rw [dacsAll, (H ⟨g, hg⟩).dacs A (ih _)]
    beta_reduce
    rw [Finset.sum_range_succ]

theorem colAll_is (g : ℕ) (hg : g ≤ 4) :
    IsV (colAll Gs acsT g hg) fun j n => ∑ k ∈ range g, (X k).col aT k 8 j n := by
  induction g with
  | zero => intro j n; rw [colAll]; pointwise [zeros]; simp
  | succ g ih =>
    intro j n
    rw [colAll, (H ⟨g, hg⟩).col A (ih _)]
    beta_reduce
    rw [Finset.sum_range_succ]

theorem ddaOut_is : IsV (ddaOut Gs acsT) (out10 X aT) := by
  refine scanUp_is (f := fun j n => dacsR X aT j n - colR X aT n j) fun j n => ?_
  pointwise
  rw [dacsAll_is H A, colAll_is H A, EReal.coe_sub, dacsR, colR]

omit A in
/-- The carried gradient's pieces at a later grid point. -/
theorem sPieces_is (g : ℕ) (hg : g ≤ 4) (n : Fin 128) (l : Fin 2048) (hl : l.val < 512 * g) :
    View.canon (sPieces Gs g hg) (ix2 n l) = (((X (l.val / 512)).dsn n.val (l.val % 512) : ℝ) : EReal) := by
  induction g with
  | zero => omega
  | succ g ih =>
    rw [sPieces]
    refine (canon_cols (a := 128) (N := 2048) (w := 512) (l512_inb g hg) _ _ n l).trans ?_
    split
    · rename_i h
      rw [(H ⟨g, hg⟩).dsn]
      have e1 : l.val / 512 = g := by omega
      have e2 : l.val % 512 = l.val - 512 * g := by omega
      simp only [e1, e2]
    · exact ih (by omega) (by omega)

end Pieces

end Cert.KernelIdeal.Body
-- ==== Proof.PointOut.lean ====
/-
  A grid point's outputs as real functions of the real entries of its blocks.
-/
module

public import proofs.«01_k».proof.Proof.Points

@[expose] public section

set_option maxRecDepth 16384

noncomputable section

namespace Cert.KernelIdeal.Body

open Cert.KernelIdeal Cert.KernelIdeal.Gen Idealize.ShloMosaic Idealize.ShloMosaic.TcCoe
open Finset (range)

/-- The real entries of a grid point's input blocks. -/
structure RB where
  dy : ℕ → ℕ → ℝ
  xbc : ℕ → ℕ → ℝ
  dtx : ℕ → ℕ → ℝ
  dax : ℕ → ℕ → ℝ
  daT : ℕ → ℕ → ℝ
  df : ℕ → ℝ
  sin : ℕ → ℕ → ℝ

/-- What group `g` loads; `s` the carried gradient. -/
def RB.grp (B : RB) (s : ℕ → ℕ → ℝ) (g : ℕ) : RG where
  xs j l := B.xbc j (512 * g + l)
  dtx j l := B.dtx j (512 * g + l)
  dax j l := B.dax j (512 * g + l)
  b j n := B.xbc j (2048 + 128 * g + n)
  c j n := B.xbc j (2560 + 128 * g + n)
  sin n l := B.sin n (512 * g + l)
  dy j l := B.dy j (512 * g + l)
  dso n l := s n (512 * g + l)
  df l := B.df (512 * g + l)

/-- The running sums along the lanes. -/
def RB.aT (B : RB) (h t : ℕ) : ℝ := psum (B.daT h) (t + 1)

/-- The carried gradient a grid point leaves. -/
def RB.next (B : RB) (s : ℕ → ℕ → ℝ) (n l : ℕ) : ℝ := (B.grp s (l / 512)).dsn n (l % 512)

/-- The grid point's part of the skip weights' gradient. -/
def RB.dd (B : RB) (l : ℕ) : ℝ := ∑ j ∈ range 128, B.dy j l * B.xbc j l

/-- The blocks have the real entries `B`. -/
structure RB.Is (B : RB) (x0 : Vec Ideal S128x2048 .f32) (x1 : Vec Ideal S128x3072 .f32) (x2 : Vec Ideal S128x2048 .f32)
    (x3 : Vec Ideal S128x2048 .f32) (x4 : Vec Ideal S32x128 .f32) (x5 : Vec Ideal S1x2048 .f32) (x6 : Vec Ideal S1x128x2048 .f32)
    (x7 : Vec Ideal S4x512x128 .bf16) : Prop where
  dy : IsV (φ := .f32) x0 B.dy
  xbc : IsV (φ := .f32) x1 B.xbc
  dtx : IsV (φ := .f32) x2 B.dtx
  dax : IsV (φ := .f32) x3 B.dax
  daT : IsV (φ := .f32) x4 B.daT
  df : ∀ l : Fin 2048, x5 (ix2 0 l) = ((B.df l.val : ℝ) : EReal)
  sin : ∀ (n : Fin 128) (l : Fin 2048), x6 (ix3 0 n l) = ((B.sin n.val l.val : ℝ) : EReal)
  hs : ∀ (g : Fin 4) (l : Fin 512) (n : Fin 128), x7 (ix3 g l n) = ((one g.val l.val n.val : ℝ) : EReal)

theorem zero2048 (n : Fin 128) (l : Fin 2048) : k0_pay2 (F := Ideal) (ix2 n l) = (((0 : ℝ)) : EReal) := by
  pointwise [k0_pay2]
  rfl

theorem zero1 (n : Fin 1) (l : Fin 2048) : k0_pay3 (F := Ideal) (ix2 n l) = (((0 : ℝ)) : EReal) := by
  pointwise [k0_pay3]
  rfl

variable (c : Dev nD) (i : grid0.Coords)
  (arg1 : Memref sig .tc .vmem S128x2048 .f32) (harg1 : arg1.IsWhole) (arg2 : Memref sig .tc .vmem S128x3072 .f32) (harg2 : arg2.IsWhole)
  (arg3 : Memref sig .tc .vmem S128x2048 .f32) (harg3 : arg3.IsWhole) (arg4 : Memref sig .tc .vmem S128x2048 .f32) (harg4 : arg4.IsWhole)
  (arg5 : Memref sig .tc .vmem S32x128 .f32) (harg5 : arg5.IsWhole) (arg6 : Memref sig .tc .vmem S1x2048 .f32) (harg6 : arg6.IsWhole)
  (arg7 : Memref sig .tc .vmem S1x128x2048 .f32) (harg7 : arg7.IsWhole) (arg8 : Memref sig .tc .vmem S4x512x128 .bf16) (harg8 : arg8.IsWhole)
  (arg9 : Memref sig .tc .vmem S128x3072 .f32) (harg9 : arg9.IsWhole) (arg10 : Memref sig .tc .vmem S128x128 .f32) (harg10 : arg10.IsWhole)
  (arg11 : Memref sig .tc .vmem S128x128 .f32) (harg11 : arg11.IsWhole) (arg12 : Memref sig .tc .vmem S1x2048 .f32) (harg12 : arg12.IsWhole)
  (arg13 : Memref sig .tc .vmem S128x2048 .f32) (harg13 : arg13.IsWhole)
  (x0 : Vec Ideal S128x2048 .f32) (x1 : Vec Ideal S128x3072 .f32) (x2 : Vec Ideal S128x2048 .f32) (x3 : Vec Ideal S128x2048 .f32) (x4 : Vec Ideal S32x128 .f32)
  (x5 : Vec Ideal S1x2048 .f32) (x6 : Vec Ideal S1x128x2048 .f32) (x7 : Vec Ideal S4x512x128 .bf16) (xo11 : Vec Ideal S1x2048 .f32) (xs0 : Vec Ideal S128x2048 .f32)
  {B : RB} (H : B.Is x0 x1 x2 x3 x4 x5 x6 x7)

include H

set_option maxHeartbeats 4000000 in
theorem rawGroup_is {s : Fin 4 → FVec Ideal S128x512 .f32} {fs : ℕ → ℕ → ℝ} (g : Fin 4)
    (hs : IsV (s g) fun n l => fs n (512 * g.val + l)) :
    (rawGroup arg1 harg1 arg2 harg2 arg3 harg3 arg4 harg4 arg6 harg6 arg7 harg7 arg8 harg8 x0 x1 x2 x3 x5 x6 x7 s g).Is (B.grp fs g.val) g.val where
  xs := fun r l => (read_cols arg2 harg2 x1 (x512_inb g.val g.isLt) r l (by omega)).trans (H.xbc _ _)
  dtx := fun r l => (read_cols arg3 harg3 x2 (l512_inb g.val g.isLt) r l (by omega)).trans (H.dtx _ _)
  dax := fun r l => (read_cols arg4 harg4 x3 (l512_inb g.val g.isLt) r l (by omega)).trans (H.dax _ _)
  b := fun r l => (read_cols arg2 harg2 x1 (x128_inb (2048 + 128 * g.val) (by omega)) r l (by omega)).trans (H.xbc _ _)
  c := fun r l => (read_cols arg2 harg2 x1 (x128_inb (2560 + 128 * g.val) (by omega)) r l (by omega)).trans (H.xbc _ _)
  sin := fun n l => by
    have e := congrFun (harg7.read_unread x6) ((Rect.unit (s := S1x128x2048) ![0, 0, 512 * g.val] S1x128x512.size (s512_inb g.val g.isLt)).toLoadRect.idx (ix3 0 n l))
    refine Eq.trans e ((congrArg x6 ?_).trans (H.sin n ⟨512 * g.val + l.val, by omega⟩))
    funext x
    apply Fin.ext
    fin_cases x
    · rfl
    · show 0 + 1 * n.val = n.val; omega
    · show 512 * g.val + 1 * l.val = 512 * g.val + l.val; omega
  dy := fun r l => (read_cols arg1 harg1 x0 (l512_inb g.val g.isLt) r l (by omega)).trans (H.dy _ _)
  dso := hs
  df := fun l => (read_cols arg6 harg6 x5 (r512_inb g.val g.isLt) 0 l (by omega)).trans (H.df _)
  hs := fun l n => by
    have e := congrFun (harg8.read_unread x7) ((Rect.unit (s := S4x512x128) ![g.val, 0, 0] S1x512x128.size (h512_inb g.val g.isLt)).toLoadRect.idx (ix3 0 l n))
    refine Eq.trans e ((congrArg x7 ?_).trans (H.hs g l n))
    funext x
    apply Fin.ext
    fin_cases x
    · show g.val + 1 * 0 = g.val; omega
    · show 0 + 1 * l.val = l.val; omega
    · show 0 + 1 * n.val = n.val; omega

theorem rawAcsT_is : IsV (rawAcsT arg5 harg5 x4) B.aT := by
  refine scanRight_is (f := B.daT) (IsV.shapeCast_self (fun r l => ?_) _)
  refine (read_cols (a := 32) (N := 128) (w := 128) (o := 0) arg5 harg5 x4 inb_S32x128_S32x128_0_0 r l (by omega)).trans ?_
  rw [H.daT]
  simp

/-! ## A later grid point -/

section B

variable {fs : ℕ → ℕ → ℝ} (S : IsV (φ := .f32) xs0 fs) {fd : ℕ → ℝ} (D : ∀ l : Fin 2048, xo11 (ix2 0 l) = ((fd l.val : ℝ) : EReal))

include S

theorem groupsB_is (g : Fin 4) : (groupsB arg1 harg1 arg2 harg2 arg3 harg3 arg4 harg4 arg6 harg6 arg7 harg7 arg8 harg8 arg13 harg13 x0 x1 x2 x3 x5 x6 x7 xs0 g).Is (B.grp fs g.val) g.val :=
  rawGroup_is (H := H) (g := g) (hs := fun n l => (read_cols arg13 harg13 xs0 (l512_inb g.val g.isLt) n l (by omega)).trans (S _ _)) ..

theorem out8_B (hc0 : ¬cond0_0 i) : IsV (φ := .f32) (out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0) (out8 (B.grp fs) B.aT) := by
  intro j l
  rw [out0_B_8, View.read_writes_junk_eq_canon, pieces8_B]
  exact pieces_is (fun g => groupsB_is (H := H) (S := S) (g := g) ..) (rawAcsT_is arg5 harg5 x0 x1 x2 x3 x4 x5 x6 x7 H) arg9 4 le_rfl j l (by omega)

theorem out9_B (hc0 : ¬cond0_0 i) : IsV (φ := .f32) (out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0) (out9 (B.grp fs) B.aT) := by
  rw [out0_B_9, View.read_writes_junk_eq_canon, pieces9_B, View.canon_unit_zero (by funext x; fin_cases x <;> rfl)]
  exact ddtAll_is (fun g => groupsB_is (H := H) (S := S) (g := g) ..) (rawAcsT_is arg5 harg5 x0 x1 x2 x3 x4 x5 x6 x7 H) arg9 4 le_rfl

theorem out10_B (hc0 : ¬cond0_0 i) : IsV (φ := .f32) (out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0) (out10 (B.grp fs) B.aT) := by
  rw [out0_B_10, View.read_writes_junk_eq_canon, pieces10_B, View.canon_unit_zero (by funext x; fin_cases x <;> rfl)]
  exact ddaOut_is (fun g => groupsB_is (H := H) (S := S) (g := g) ..) (rawAcsT_is arg5 harg5 x0 x1 x2 x3 x4 x5 x6 x7 H)

theorem outS_B (hc0 : ¬cond0_0 i) : IsV (φ := .f32) (sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0) (B.next fs) := by
  intro n l
  rw [sout0_B_0, View.read_writes_junk_eq_canon, piecesS_B]
  exact sPieces_is (fun g => groupsB_is (H := H) (S := S) (g := g) ..) 4 le_rfl n l (by omega)

include D in
theorem dPiecesB_is (g : ℕ) (hg : g ≤ 4) (l : Fin 2048) (hl : l.val < 512 * g) :
    View.canon (dPiecesB arg12 harg12 xo11 (groupsB arg1 harg1 arg2 harg2 arg3 harg3 arg4 harg4 arg6 harg6 arg7 harg7 arg8 harg8 arg13 harg13 x0 x1 x2 x3 x5 x6 x7 xs0) g hg) (ix2 0 l) = ((fd l.val + B.dd l.val : ℝ) : EReal) := by
  induction g with
  | zero => omega
  | succ g ih =>
    rw [dPiecesB]
    refine (canon_cols (a := 1) (N := 2048) (w := 512) (r512_inb g hg) _ _ 0 l).trans ?_
    split
    · rename_i h
      rw [Group.Is.ddn (groupsB_is (H := H) (S := S) (g := ⟨g, hg⟩) ..) (f := fun l => fd (512 * g + l)) fun l => ?_]
      · have e2 : 512 * g + (l.val - 512 * g) = l.val := by omega
        simp only [e2, RG.dd, RB.dd, RB.grp]
      · exact (read_cols arg12 harg12 xo11 (r512_inb g hg) 0 l (by omega)).trans (D _)
    · exact ih (by omega) (by omega)

include D in
theorem out11_B (hc0 : ¬cond0_0 i) (l : Fin 2048) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xo11 xs0 (ix2 0 l) = ((fd l.val + B.dd l.val : ℝ) : EReal) := by
  rw [out0_B_11, View.read_writes_junk_eq_canon, pieces11_B]
  exact dPiecesB_is (H := H) (S := S) (D := D) (g := 4) (hg := le_rfl) (l := l) (hl := by omega) ..

end B

/-! ## The first grid point -/

section A

theorem sPiecesA_is (g : ℕ) (hg : g ≤ 4) (n : Fin 128) (l : Fin 2048) :
    View.canon (sPiecesA arg1 harg1 arg2 harg2 arg3 harg3 arg4 harg4 arg6 harg6 arg7 harg7 arg8 harg8 arg13 x0 x1 x2 x3 x5 x6 x7 g hg) (ix2 n l)
      = ((if l.val < 512 * g then B.next (fun _ _ => 0) n.val l.val else 0 : ℝ) : EReal) := by
  induction g generalizing n l with
  | zero =>
    rw [sPiecesA, View.canon_unit_zero (by funext x; fin_cases x <;> rfl), if_neg (by omega)]
    exact zero2048 n l
  | succ g ih =>
    rw [sPiecesA]
    refine (canon_cols (a := 128) (N := 2048) (w := 512) (l512_inb g hg) _ _ n l).trans ?_
    split
    · rename_i h
      rw [if_pos (by omega)]
      have e1 : l.val / 512 = g := by omega
      have e2 : l.val % 512 = l.val - 512 * g := by omega
      rw [Group.Is.dsn (rawGroup_is (H := H) (g := ⟨g, hg⟩) (fs := fun _ _ => 0) (hs := fun n l => ?_) ..), RB.next, e1, e2]
      have hl := l.isLt
      rw [View.readCov_eq_canon']
      show View.canon _ ((Rect.unit (s := ⟨2, ![128, 2048]⟩) ![0, 512 * g] ![128, 512] (l512_inb g hg)).toLoadRect.idx (ix2 n l)) = _
      rw [idx_cols (l512_inb g hg) n l (by omega), ih, if_neg (by simp only; omega)]
    · rw [ih]
      congr 1
      exact if_congr (by omega) rfl rfl

theorem groupsA_is (g : Fin 4) : (groupsA arg1 harg1 arg2 harg2 arg3 harg3 arg4 harg4 arg6 harg6 arg7 harg7 arg8 harg8 arg13 x0 x1 x2 x3 x5 x6 x7 g).Is (B.grp (fun _ _ => 0) g.val) g.val := by
  refine rawGroup_is (H := H) (g := g) (fs := fun _ _ => 0) (hs := fun n l => ?_) ..
  have hl := l.isLt
  have hg := g.isLt
  rw [rawDsA, View.readCov_eq_canon']
  show View.canon _ ((Rect.unit (s := ⟨2, ![128, 2048]⟩) ![0, 512 * g.val] ![128, 512] (l512_inb g.val hg)).toLoadRect.idx (ix2 n l)) = _
  rw [idx_cols (l512_inb g.val hg) n l (by omega), sPiecesA_is (H := H), if_neg (by simp only; omega)]

theorem out8_A (hc0 : cond0_0 i) : IsV (φ := .f32) (out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (out8 (B.grp fun _ _ => 0) B.aT) := by
  intro j l
  rw [out0_A_8, View.read_writes_junk_eq_canon, pieces8_A]
  exact pieces_is (fun g => groupsA_is (H := H) (g := g) ..) (rawAcsT_is arg5 harg5 x0 x1 x2 x3 x4 x5 x6 x7 H) arg9 4 le_rfl j l (by omega)

theorem out9_A (hc0 : cond0_0 i) : IsV (φ := .f32) (out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (out9 (B.grp fun _ _ => 0) B.aT) := by
  rw [out0_A_9, View.read_writes_junk_eq_canon, pieces9_A, View.canon_unit_zero (by funext x; fin_cases x <;> rfl)]
  exact ddtAll_is (fun g => groupsA_is (H := H) (g := g) ..) (rawAcsT_is arg5 harg5 x0 x1 x2 x3 x4 x5 x6 x7 H) arg9 4 le_rfl

theorem out10_A (hc0 : cond0_0 i) : IsV (φ := .f32) (out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (out10 (B.grp fun _ _ => 0) B.aT) := by
  rw [out0_A_10, View.read_writes_junk_eq_canon, pieces10_A, View.canon_unit_zero (by funext x; fin_cases x <;> rfl)]
  exact ddaOut_is (fun g => groupsA_is (H := H) (g := g) ..) (rawAcsT_is arg5 harg5 x0 x1 x2 x3 x4 x5 x6 x7 H)

theorem outS_A (hc0 : cond0_0 i) : IsV (φ := .f32) (sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7) (B.next fun _ _ => 0) := by
  intro n l
  rw [sout0_A_0, View.read_writes_junk_eq_canon, piecesS_A, sPiecesA_is (H := H), if_pos (by omega)]

theorem dPiecesA_is (g : ℕ) (hg : g ≤ 4) (l : Fin 2048) :
    View.canon (dPiecesA arg12 (groupsA arg1 harg1 arg2 harg2 arg3 harg3 arg4 harg4 arg6 harg6 arg7 harg7 arg8 harg8 arg13 x0 x1 x2 x3 x5 x6 x7) g hg) (ix2 0 l) = ((if l.val < 512 * g then B.dd l.val else 0 : ℝ) : EReal) := by
  induction g generalizing l with
  | zero =>
    rw [dPiecesA, View.canon_unit_zero (by funext x; fin_cases x <;> rfl), if_neg (by omega)]
    exact zero1 0 l
  | succ g ih =>
    rw [dPiecesA]
    refine (canon_cols (a := 1) (N := 2048) (w := 512) (r512_inb g hg) _ _ 0 l).trans ?_
    split
    · rename_i h
      rw [if_pos (by omega), Group.Is.ddn (groupsA_is (H := H) (g := ⟨g, hg⟩) ..) (f := fun l => 0) fun l => ?_]
      · have e2 : 512 * g + (l.val - 512 * g) = l.val := by omega
        simp only [e2, RG.dd, RB.dd, RB.grp, zero_add]
      · have hl := l.isLt
        rw [View.readCov_eq_canon']
        show View.canon _ ((Rect.unit (s := ⟨2, ![1, 2048]⟩) ![0, 512 * g] ![1, 512] (r512_inb g hg)).toLoadRect.idx (ix2 0 l)) = _
        rw [idx_cols (r512_inb g hg) 0 l (by omega), ih, if_neg (by simp only; omega)]
    · rw [ih]
      congr 1
      exact if_congr (by omega) rfl rfl

theorem out11_A (hc0 : cond0_0 i) (l : Fin 2048) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 (ix2 0 l) = ((B.dd l.val : ℝ) : EReal) := by
  rw [out0_A_11, View.read_writes_junk_eq_canon, pieces11_A, dPiecesA_is (H := H), if_pos (by omega)]

end A

end Cert.KernelIdeal.Body
-- ==== Proof.Grid.lean ====
/-
  The grid: what each point's blocks are of the arrays the region finds, and what each point leaves, by induction on
  the point. Point `t` takes the chunk `15 - t` of 128 time steps.
-/
module

public import proofs.«01_k».proof.Proof.PointOut

@[expose] public section

set_option maxRecDepth 16384

noncomputable section

namespace Cert.KernelIdeal.Body

open Cert.KernelIdeal Cert.KernelIdeal.Gen Idealize.ShloMosaic Idealize.ShloMosaic.TcCoe
open Finset (range)

/-- The real entries of the five arguments. -/
structure RA where
  dy : ℕ → ℕ → ℝ
  xbc : ℕ → ℕ → ℝ
  dt : ℕ → ℕ → ℝ
  da : ℕ → ℕ → ℝ
  d : ℕ → ℝ

namespace RA

variable (X : RA)

/-- The decay exponents' running sum in chunk `k`. -/
def acs (k h j : ℕ) : ℝ := psum (fun i => X.da (128 * k + i) h) (j + 1)

/-- A chunk's whole decay exponent. -/
def tot (k h : ℕ) : ℝ := X.acs k h 127

/-- The scaled inputs. -/
def xdt (t l : ℕ) : ℝ := X.xbc t l * X.dt t (l / 64)

/-- What chunk `k` adds to the state. -/
def st (k n l : ℕ) : ℝ := ∑ j ∈ range 128, X.xdt (128 * k + j) l * Real.exp (X.tot k (l / 64) - X.acs k (l / 64) j) * X.xbc (128 * k + j) (2048 + 128 * (l / 512) + n)

/-- The sum of `f` over the indices in `(k, z]`. -/
def seg (f : ℕ → ℝ) (z k : ℕ) : ℝ := ∑ i ∈ range (z + 1), if k < i then f i else 0

/-- The chunks' decay exponents behind a zero. -/
def ct (h i : ℕ) : ℝ := if i < 1 then 0 else X.tot (i - 1) h

/-- The decay from chunk `k`'s end to chunk `z`'s start. -/
def dch (h z k : ℕ) : ℝ := if k + 1 ≤ z then Real.exp (seg (X.ct h) z (k + 1)) else 0

/-- The state that enters chunk `z`. -/
def sin (z n l : ℕ) : ℝ := ∑ j ∈ range 16, X.st j n l * X.dch (l / 64) z j

/-- A grid point's blocks: those of chunk `k`. -/
def chunk (k : ℕ) : RB where
  dy j l := X.dy (128 * k + j) l
  xbc j l := X.xbc (128 * k + j) l
  dtx j l := X.dt (128 * k + j) (l / 64)
  dax j l := X.da (128 * k + j) (l / 64)
  daT h t := X.da (128 * k + t) h
  df l := X.d l
  sin n l := X.sin k n l

/-- The gradient of the state that `t` chunks, the last ones, leave. -/
def S : ℕ → ℕ → ℕ → ℝ
  | 0 => fun _ _ => 0
  | t + 1 => (X.chunk (15 - t)).next (S t)

/-- The skip weights' gradient after `t` points. -/
def Dd : ℕ → ℕ → ℝ
  | 0 => fun _ => 0
  | t + 1 => fun l => Dd t l + (X.chunk (15 - t)).dd l

/-- What point `t` leaves in the three chunked results. -/
def o8 (t : ℕ) : ℕ → ℕ → ℝ := out8 ((X.chunk (15 - t)).grp (X.S t)) (X.chunk (15 - t)).aT
def o9 (t : ℕ) : ℕ → ℕ → ℝ := out9 ((X.chunk (15 - t)).grp (X.S t)) (X.chunk (15 - t)).aT
def o10 (t : ℕ) : ℕ → ℕ → ℝ := out10 ((X.chunk (15 - t)).grp (X.S t)) (X.chunk (15 - t)).aT

end RA

variable (m : (ℓ : Loc nD τ sig) → Buf (Elt Ideal) ℓ) (c : Dev nD)

/-- The arrays the region finds have the real entries that `X` gives. -/
structure HostIs (X : RA) : Prop where
  dy : IsV (a := 2048) (b := 2048) (φ := .f32) (V m c main_arg0) X.dy
  xbc : IsV (a := 2048) (b := 3072) (φ := .f32) (V m c main_arg1) X.xbc
  dtx : IsV (a := 2048) (b := 2048) (φ := .f32) (V m c main_v41) fun t l => X.dt t (l / 64)
  dax : IsV (a := 2048) (b := 2048) (φ := .f32) (V m c main_v43) fun t l => X.da t (l / 64)
  daT : IsV (a := 32) (b := 2048) (φ := .f32) (V m c main_v44) fun h t => X.da t h
  d : IsV (a := 1) (b := 2048) (φ := .f32) (V m c main_arg4) fun _ l => X.d l
  sin : ∀ (k : Fin 16) (n : Fin 128) (l : Fin 2048), V m c main_v39 (ix3 k n l) = ((X.sin k.val n.val l.val : ℝ) : EReal)
  hs : ∀ (g : Fin 4) (l : Fin 512) (n : Fin 128), V m c main_v54 (ix3 g l n) = ((one g.val l.val n.val : ℝ) : EReal)

theorem idx0 (t : Fin grid0.N) : win0_0.index t 0 = 15 - t.val ∧ win0_0.index t 1 = 0 := by revert t; decide +kernel
theorem idx1 (t : Fin grid0.N) : win0_1.index t 0 = 15 - t.val ∧ win0_1.index t 1 = 0 := by revert t; decide +kernel
theorem idx2 (t : Fin grid0.N) : win0_2.index t 0 = 15 - t.val ∧ win0_2.index t 1 = 0 := by revert t; decide +kernel
theorem idx3 (t : Fin grid0.N) : win0_3.index t 0 = 15 - t.val ∧ win0_3.index t 1 = 0 := by revert t; decide +kernel
theorem idx4 (t : Fin grid0.N) : win0_4.index t 0 = 0 ∧ win0_4.index t 1 = 15 - t.val := by revert t; decide +kernel
theorem idx5 (t : Fin grid0.N) : win0_5.index t 0 = 0 ∧ win0_5.index t 1 = 0 := by revert t; decide +kernel
theorem idx6 (t : Fin grid0.N) : win0_6.index t 0 = 15 - t.val ∧ win0_6.index t 1 = 0 ∧ win0_6.index t 2 = 0 := by revert t; decide +kernel
theorem idx7 (t : Fin grid0.N) : win0_7.index t 0 = 0 ∧ win0_7.index t 1 = 0 ∧ win0_7.index t 2 = 0 := by revert t; decide +kernel

theorem val_lt (t : Fin cfg0.N) : t.val < 16 := Nat.lt_of_lt_of_eq t.isLt N_0

theorem read0 (t : Fin cfg0.N) (f : Vec Ideal S2048x2048 .f32) (r : Fin 128) (l : Fin 2048) (h : 128 * (15 - t.val) + r.val < 2048) :
    ((cfg0.win 0).blk t).view.read (Elt Ideal) f (ix2 r l) = f (ix2 ⟨128 * (15 - t.val) + r.val, h⟩ l) := by
  have ht := val_lt t
  rw [View.read_apply]
  refine congrArg f ?_
  funext a
  apply Fin.ext
  match a with
  | ⟨0, _⟩ => show win0_0.index t 0 * 128 + 1 * r.val = 128 * (15 - t.val) + r.val; rw [(idx0 t).1]; omega
  | ⟨1, _⟩ => show win0_0.index t 1 * 2048 + 1 * l.val = l.val; rw [(idx0 t).2]; omega

theorem read1 (t : Fin cfg0.N) (f : Vec Ideal S2048x3072 .f32) (r : Fin 128) (l : Fin 3072) (h : 128 * (15 - t.val) + r.val < 2048) :
    ((cfg0.win 1).blk t).view.read (Elt Ideal) f (ix2 r l) = f (ix2 ⟨128 * (15 - t.val) + r.val, h⟩ l) := by
  have ht := val_lt t
  rw [View.read_apply]
  refine congrArg f ?_
  funext a
  apply Fin.ext
  match a with
  | ⟨0, _⟩ => show win0_1.index t 0 * 128 + 1 * r.val = 128 * (15 - t.val) + r.val; rw [(idx1 t).1]; omega
  | ⟨1, _⟩ => show win0_1.index t 1 * 3072 + 1 * l.val = l.val; rw [(idx1 t).2]; omega

theorem read2 (t : Fin cfg0.N) (f : Vec Ideal S2048x2048 .f32) (r : Fin 128) (l : Fin 2048) (h : 128 * (15 - t.val) + r.val < 2048) :
    ((cfg0.win 2).blk t).view.read (Elt Ideal) f (ix2 r l) = f (ix2 ⟨128 * (15 - t.val) + r.val, h⟩ l) := by
  have ht := val_lt t
  rw [View.read_apply]
  refine congrArg f ?_
  funext a
  apply Fin.ext
  match a with
  | ⟨0, _⟩ => show win0_2.index t 0 * 128 + 1 * r.val = 128 * (15 - t.val) + r.val; rw [(idx2 t).1]; omega
  | ⟨1, _⟩ => show win0_2.index t 1 * 2048 + 1 * l.val = l.val; rw [(idx2 t).2]; omega

theorem read3 (t : Fin cfg0.N) (f : Vec Ideal S2048x2048 .f32) (r : Fin 128) (l : Fin 2048) (h : 128 * (15 - t.val) + r.val < 2048) :
    ((cfg0.win 3).blk t).view.read (Elt Ideal) f (ix2 r l) = f (ix2 ⟨128 * (15 - t.val) + r.val, h⟩ l) := by
  have ht := val_lt t
  rw [View.read_apply]
  refine congrArg f ?_
  funext a
  apply Fin.ext
  match a with
  | ⟨0, _⟩ => show win0_3.index t 0 * 128 + 1 * r.val = 128 * (15 - t.val) + r.val; rw [(idx3 t).1]; omega
  | ⟨1, _⟩ => show win0_3.index t 1 * 2048 + 1 * l.val = l.val; rw [(idx3 t).2]; omega

theorem read4 (t : Fin cfg0.N) (f : Vec Ideal S32x2048 .f32) (r : Fin 32) (l : Fin 128) (h : 128 * (15 - t.val) + l.val < 2048) :
    ((cfg0.win 4).blk t).view.read (Elt Ideal) f (ix2 r l) = f (ix2 r ⟨128 * (15 - t.val) + l.val, h⟩) := by
  have ht := val_lt t
  rw [View.read_apply]
  refine congrArg f ?_
  funext a
  apply Fin.ext
  match a with
  | ⟨0, _⟩ => show win0_4.index t 0 * 32 + 1 * r.val = r.val; rw [(idx4 t).1]; omega
  | ⟨1, _⟩ => show win0_4.index t 1 * 128 + 1 * l.val = 128 * (15 - t.val) + l.val; rw [(idx4 t).2]; omega

theorem read5 (t : Fin cfg0.N) (f : Vec Ideal S1x2048 .f32) (r : Fin 1) (l : Fin 2048) :
    ((cfg0.win 5).blk t).view.read (Elt Ideal) f (ix2 r l) = f (ix2 r l) := by
  have ht := val_lt t
  rw [View.read_apply]
  refine congrArg f ?_
  funext a
  apply Fin.ext
  match a with
  | ⟨0, _⟩ => show win0_5.index t 0 * 1 + 1 * r.val = r.val; rw [(idx5 t).1]; omega
  | ⟨1, _⟩ => show win0_5.index t 1 * 2048 + 1 * l.val = l.val; rw [(idx5 t).2]; omega

theorem read6 (t : Fin cfg0.N) (f : Vec Ideal S16x128x2048 .f32) (n : Fin 128) (l : Fin 2048) (h : 15 - t.val < 16) :
    ((cfg0.win 6).blk t).view.read (Elt Ideal) f (ix3 0 n l) = f (ix3 ⟨15 - t.val, h⟩ n l) := by
  rw [View.read_apply]
  refine congrArg f ?_
  funext a
  apply Fin.ext
  match a with
  | ⟨0, _⟩ => show win0_6.index t 0 * 1 + 1 * 0 = 15 - t.val; rw [(idx6 t).1]; omega
  | ⟨1, _⟩ => show win0_6.index t 1 * 128 + 1 * n.val = n.val; rw [(idx6 t).2.1]; omega
  | ⟨2, _⟩ => show win0_6.index t 2 * 2048 + 1 * l.val = l.val; rw [(idx6 t).2.2]; omega

theorem read7 (t : Fin cfg0.N) (f : Vec Ideal S4x512x128 .bf16) (g : Fin 4) (l : Fin 512) (n : Fin 128) :
    ((cfg0.win 7).blk t).view.read (Elt Ideal) f (ix3 g l n) = f (ix3 g l n) := by
  rw [View.read_apply]
  refine congrArg f ?_
  funext a
  apply Fin.ext
  match a with
  | ⟨0, _⟩ => show win0_7.index t 0 * 4 + 1 * g.val = g.val; rw [(idx7 t).1]; omega
  | ⟨1, _⟩ => show win0_7.index t 1 * 512 + 1 * l.val = l.val; rw [(idx7 t).2.1]; omega
  | ⟨2, _⟩ => show win0_7.index t 2 * 128 + 1 * n.val = n.val; rw [(idx7 t).2.2]; omega

/-- The blocks at point `t` are chunk `15 - t`'s. -/
theorem blocks_is {X : RA} (H : HostIs m c X) (t : Fin cfg0.N) :
    (X.chunk (15 - t.val)).Is (iblk m c 0 t) (iblk m c 1 t) (iblk m c 2 t) (iblk m c 3 t) (iblk m c 4 t) (iblk m c 5 t) (iblk m c 6 t) (iblk m c 7 t) := by
  have ht := val_lt t
  refine ⟨fun r l => ?_, fun r l => ?_, fun r l => ?_, fun r l => ?_, fun r l => ?_, fun l => ?_, fun n l => ?_, fun g l n => ?_⟩ <;> unfold iblk
  · exact (read0 t _ r l (by omega)).trans (H.dy _ _)
  · exact (read1 t _ r l (by omega)).trans (H.xbc _ _)
  · exact (read2 t _ r l (by omega)).trans (H.dtx _ _)
  · exact (read3 t _ r l (by omega)).trans (H.dax _ _)
  · exact (read4 t _ r l (by omega)).trans (H.daT _ _)
  · exact (read5 t _ 0 l).trans (H.d _ _)
  · exact (read6 t _ n l (by omega)).trans (H.sin _ _ _)
  · exact (read7 t _ g l n).trans (H.hs _ _ _)

/-- What the first point and what a later point leaves in the carried scratch and the skip weights' gradient. -/
theorem carried {X : RA} (H : HostIs m c X) : ∀ (n : ℕ) (h : n < cfg0.N),
    IsV (φ := .f32) (outsAt0 m c n h).2.2.2.2 (X.S (n + 1)) ∧ ∀ l : Fin 2048, (outsAt0 m c n h).2.2.2.1 (ix2 0 l) = ((X.Dd (n + 1) l.val : ℝ) : EReal)
  | 0, h => by
    rw [show outsAt0 m c 0 h = _ from outsAt0_A m c ⟨0, h⟩ rfl]
    dsimp only
    refine ⟨(fun r l => outS_A (H := blocks_is m c H ⟨0, h⟩) ..), fun l => ?_⟩
    rw [out11_A (H := blocks_is m c H ⟨0, h⟩)]
    simp [RA.Dd]
  | n + 1, h => by
    have hN : n + 1 < 16 := val_lt ⟨n + 1, h⟩
    have hB : ¬(⟨n + 1, h⟩ : Fin cfg0.N).val % 16 = 0 := by dsimp only; omega
    obtain ⟨iS, iD⟩ := carried H n (Nat.lt_of_succ_lt h)
    rw [show outsAt0 m c (n + 1) h = _ from outsAt0_B m c ⟨n + 1, h⟩ hB]
    dsimp only
    refine ⟨(fun r l => outS_B (H := blocks_is m c H ⟨n + 1, h⟩) (S := iS) ..), fun l => ?_⟩
    exact (out11_B (H := blocks_is m c H ⟨n + 1, h⟩) (S := iS) (D := iD) ..).trans rfl

theorem chunked {X : RA} (H : HostIs m c X) (n : ℕ) (h : n < cfg0.N) :
    IsV (φ := .f32) (outsAt0 m c n h).1 (X.o8 n) ∧ IsV (φ := .f32) (outsAt0 m c n h).2.1 (X.o9 n) ∧ IsV (φ := .f32) (outsAt0 m c n h).2.2.1 (X.o10 n) := by
  cases n with
  | zero =>
    rw [show outsAt0 m c 0 h = _ from outsAt0_A m c ⟨0, h⟩ rfl]
    dsimp only
    exact ⟨(fun r l => out8_A (H := blocks_is m c H ⟨0, h⟩) ..), (fun r l => out9_A (H := blocks_is m c H ⟨0, h⟩) ..), (fun r l => out10_A (H := blocks_is m c H ⟨0, h⟩) ..)⟩
  | succ n =>
    have hN : n + 1 < 16 := val_lt ⟨n + 1, h⟩
    have hB : ¬(⟨n + 1, h⟩ : Fin cfg0.N).val % 16 = 0 := by dsimp only; omega
    have iS := (carried m c H n (Nat.lt_of_succ_lt h)).1
    rw [show outsAt0 m c (n + 1) h = _ from outsAt0_B m c ⟨n + 1, h⟩ hB]
    dsimp only
    exact ⟨(fun r l => out8_B (H := blocks_is m c H ⟨n + 1, h⟩) (S := iS) ..), (fun r l => out9_B (H := blocks_is m c H ⟨n + 1, h⟩) (S := iS) ..), (fun r l => out10_B (H := blocks_is m c H ⟨n + 1, h⟩) (S := iS) ..)⟩

end Cert.KernelIdeal.Body
-- ==== Proof.Arrays.lean ====
/-
  The kernel's results after the run: each array element by the point that wrote its block.
-/
module

public import proofs.«01_k».proof.Proof.Grid
public import proofs.«01_k».proof.Proof.Gen.KernelIdeal.Value

@[expose] public section

set_option maxRecDepth 16384

noncomputable section

namespace Cert.KernelIdeal.Body

open Cert.KernelIdeal Cert.KernelIdeal.Gen Cert.KernelIdeal.Value Idealize.ShloMosaic Idealize.ShloMosaic.TcCoe
open Finset (range)

variable (m : (ℓ : Loc nD τ sig) → Buf (Elt Ideal) ℓ) (c : Dev nD)

theorem idx8 (t : Fin grid0.N) : win0_8.index t 0 = 15 - t.val ∧ win0_8.index t 1 = 0 := by revert t; decide +kernel
theorem idx9 (t : Fin grid0.N) : win0_9.index t 0 = 15 - t.val ∧ win0_9.index t 1 = 0 := by revert t; decide +kernel
theorem idx10 (t : Fin grid0.N) : win0_10.index t 0 = 15 - t.val ∧ win0_10.index t 1 = 0 := by revert t; decide +kernel

theorem read8 (t : Fin cfg0.N) (f : Vec Ideal S2048x3072 .f32) (r : Fin 128) (l : Fin 3072) (h : 128 * (15 - t.val) + r.val < 2048) :
    ((cfg0.win 8).blk t).view.read (Elt Ideal) f (ix2 r l) = f (ix2 ⟨128 * (15 - t.val) + r.val, h⟩ l) := by
  rw [View.read_apply]
  refine congrArg f ?_
  funext a
  apply Fin.ext
  match a with
  | ⟨0, _⟩ => show win0_8.index t 0 * 128 + 1 * r.val = 128 * (15 - t.val) + r.val; rw [(idx8 t).1]; omega
  | ⟨1, _⟩ => show win0_8.index t 1 * 3072 + 1 * l.val = l.val; rw [(idx8 t).2]; omega

theorem read9 (t : Fin cfg0.N) (f : Vec Ideal S2048x128 .f32) (r : Fin 128) (l : Fin 128) (h : 128 * (15 - t.val) + r.val < 2048) :
    ((cfg0.win 9).blk t).view.read (Elt Ideal) f (ix2 r l) = f (ix2 ⟨128 * (15 - t.val) + r.val, h⟩ l) := by
  rw [View.read_apply]
  refine congrArg f ?_
  funext a
  apply Fin.ext
  match a with
  | ⟨0, _⟩ => show win0_9.index t 0 * 128 + 1 * r.val = 128 * (15 - t.val) + r.val; rw [(idx9 t).1]; omega
  | ⟨1, _⟩ => show win0_9.index t 1 * 128 + 1 * l.val = l.val; rw [(idx9 t).2]; omega

theorem read10 (t : Fin cfg0.N) (f : Vec Ideal S2048x128 .f32) (r : Fin 128) (l : Fin 128) (h : 128 * (15 - t.val) + r.val < 2048) :
    ((cfg0.win 10).blk t).view.read (Elt Ideal) f (ix2 r l) = f (ix2 ⟨128 * (15 - t.val) + r.val, h⟩ l) := by
  rw [View.read_apply]
  refine congrArg f ?_
  funext a
  apply Fin.ext
  match a with
  | ⟨0, _⟩ => show win0_10.index t 0 * 128 + 1 * r.val = 128 * (15 - t.val) + r.val; rw [(idx10 t).1]; omega
  | ⟨1, _⟩ => show win0_10.index t 1 * 128 + 1 * l.val = l.val; rw [(idx10 t).2]; omega

/-- The point that writes time step `t`'s chunk. -/
def ptOf (t : ℕ) : Fin cfg0.N := ⟨15 - t / 128, by rw [show cfg0.N = 16 from N_0]; omega⟩

theorem arr8 {X : RA} (H : HostIs m c X) :
    IsV (a := 2048) (b := 3072) (φ := .f32) ((dats m 0 c).arrAt 8 cfg0.N) fun t l => X.o8 (15 - t / 128) (t % 128) l := by
  intro t l
  have e := congrFun ((blocks8 m c (ptOf t.val) (flush0_8 _)).trans (flushed8 m c (ptOf t.val))) (ix2 ⟨t.val % 128, by omega⟩ l)
  have hp : 128 * (15 - (ptOf t.val).val) + t.val % 128 = t.val := by show 128 * (15 - (15 - t.val / 128)) + t.val % 128 = t.val; omega
  have e2 := read8 (ptOf t.val) ((dats m 0 c).arrAt 8 cfg0.N) ⟨t.val % 128, by omega⟩ l (lt_of_eq_of_lt hp t.isLt)
  have ei : (⟨128 * (15 - (ptOf t.val).val) + t.val % 128, lt_of_eq_of_lt hp t.isLt⟩ : Fin 2048) = t := Fin.ext hp
  rw [ei] at e2
  exact e2.symm.trans (e.trans ((chunked m c H (ptOf t.val).val (ptOf t.val).isLt).1 ⟨t.val % 128, by omega⟩ l))

theorem arr9 {X : RA} (H : HostIs m c X) :
    IsV (a := 2048) (b := 128) (φ := .f32) ((dats m 0 c).arrAt 9 cfg0.N) fun t l => X.o9 (15 - t / 128) (t % 128) l := by
  intro t l
  have e := congrFun ((blocks9 m c (ptOf t.val) (flush0_9 _)).trans (flushed9 m c (ptOf t.val))) (ix2 ⟨t.val % 128, by omega⟩ l)
  have hp : 128 * (15 - (ptOf t.val).val) + t.val % 128 = t.val := by show 128 * (15 - (15 - t.val / 128)) + t.val % 128 = t.val; omega
  have e2 := read9 (ptOf t.val) ((dats m 0 c).arrAt 9 cfg0.N) ⟨t.val % 128, by omega⟩ l (lt_of_eq_of_lt hp t.isLt)
  have ei : (⟨128 * (15 - (ptOf t.val).val) + t.val % 128, lt_of_eq_of_lt hp t.isLt⟩ : Fin 2048) = t := Fin.ext hp
  rw [ei] at e2
  exact e2.symm.trans (e.trans ((chunked m c H (ptOf t.val).val (ptOf t.val).isLt).2.1 ⟨t.val % 128, by omega⟩ l))

theorem arr10 {X : RA} (H : HostIs m c X) :
    IsV (a := 2048) (b := 128) (φ := .f32) ((dats m 0 c).arrAt 10 cfg0.N) fun t l => X.o10 (15 - t / 128) (t % 128) l := by
  intro t l
  have e := congrFun ((blocks10 m c (ptOf t.val) (flush0_10 _)).trans (flushed10 m c (ptOf t.val))) (ix2 ⟨t.val % 128, by omega⟩ l)
  have hp : 128 * (15 - (ptOf t.val).val) + t.val % 128 = t.val := by show 128 * (15 - (15 - t.val / 128)) + t.val % 128 = t.val; omega
  have e2 := read10 (ptOf t.val) ((dats m 0 c).arrAt 10 cfg0.N) ⟨t.val % 128, by omega⟩ l (lt_of_eq_of_lt hp t.isLt)
  have ei : (⟨128 * (15 - (ptOf t.val).val) + t.val % 128, lt_of_eq_of_lt hp t.isLt⟩ : Fin 2048) = t := Fin.ext hp
  rw [ei] at e2
  exact e2.symm.trans (e.trans ((chunked m c H (ptOf t.val).val (ptOf t.val).isLt).2.2 ⟨t.val % 128, by omega⟩ l))

/-! ## The skip weights' gradient: one block, written back after the last point -/

/-- What the last point leaves. -/
abbrev res11 : Vec Ideal S1x2048 .f32 := (outsAt0 m c t0_15.val t0_15.isLt).2.2.2.1

theorem flushed11_eq (t : Fin cfg0.N) (hf : (cfg0.win 11).flush t = true) :
    (dats m 0 c).flushed 11 t = ((cfg0.win 11).blk t).view.read (Elt Ideal) (res11 m c) := by
  have h3 : t.val = 15 := by have := (flush0_11 t).mp hf; have := val_lt t; omega
  obtain rfl : t = t0_15 := Fin.ext h3
  rw [flushed11]
  have hz' : (fun a => win0_11.index t0_15 a * main_v55_3.ty.shape.size a) = fun _ => 0 := funext fun a => by fin_cases a <;> decide
  exact (Memref.read_access_unit_zero (Elt Ideal) main_v55_3 hz' (fun a => by rw [congrFun hz' a]; simp) (res11 m c)).symm

theorem arr11_eq : (dats m 0 c).arrAt 11 cfg0.N = res11 m c :=
  (dats m 0 c).arrAt_eq_of_cover 11 (res11 m c) (flushed11_eq m c) fun i =>
    ⟨t0_15, (flush0_11 t0_15).mpr rfl, by
      show i ∈ ((View.whole main_v55_3).slice (win0_11.rect t0_15)).set
      rw [View.set_slice_whole, Rect.mem_set_unit]
      intro a
      have h0 : (i 0 : Nat) < 1 := (i 0).isLt
      have h1 : (i 1 : Nat) < 2048 := (i 1).isLt
      match a with
      | ⟨0, _⟩ => show win0_11.index t0_15 0 * win0_11.size 0 ≤ (i 0 : Nat) ∧ (i 0 : Nat) < win0_11.index t0_15 0 * win0_11.size 0 + win0_11.xsize (grid0.coords t0_15) 0
                  rw [show win0_11.index t0_15 0 * win0_11.size 0 = 0 from by decide +kernel, show win0_11.xsize (grid0.coords t0_15) 0 = 1 from by decide +kernel]; omega
      | ⟨1, _⟩ => show win0_11.index t0_15 1 * win0_11.size 1 ≤ (i 1 : Nat) ∧ (i 1 : Nat) < win0_11.index t0_15 1 * win0_11.size 1 + win0_11.xsize (grid0.coords t0_15) 1
                  rw [show win0_11.index t0_15 1 * win0_11.size 1 = 0 from by decide +kernel, show win0_11.xsize (grid0.coords t0_15) 1 = 2048 from by decide +kernel]; omega⟩

theorem arr11 {X : RA} (H : HostIs m c X) :
    IsV (a := 1) (b := 2048) (φ := .f32) ((dats m 0 c).arrAt 11 cfg0.N) fun _ l => X.Dd 16 l := by
  intro z l
  obtain rfl : z = 0 := Subsingleton.elim _ _
  rw [show (dats m 0 c).arrAt 11 cfg0.N = res11 m c from arr11_eq m c]
  exact (carried m c H t0_15.val t0_15.isLt).2 l

end Cert.KernelIdeal.Body
-- ==== Proof.Window.lean ====
/-
  Running sums of the host, read at an index: a window that spans an axis and is padded on one side of it sums the
  elements up to, or from, its own place.
-/
module

public import proofs.«01_k».proof.Proof.Arrays
public import Idealize.ShloMosaic.Lib.Pointwise

@[expose] public section

set_option maxRecDepth 16384

noncomputable section

namespace Cert.Window

open Idealize.ShloMosaic Idealize.ShloMosaic.TcCoe Cert.KernelIdeal.Body
open Finset (range)

theorem foldl_add_sum {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-- A window's sum is the initial value plus the sum over the window's places. -/
theorem reduceWindowAdd_apply {s t u : Shape} (w st lo hi : Fin s.rank → ℕ) (x : FVec Ideal s .f32) (init : FVec Ideal u .f32)
    (h : s.ReduceWindows w st lo hi t) (hu : 0 < u.numel) (j : t.Idx) :
    Host.reduceWindowAdd (F := Ideal) w st lo hi x init h hu j
      = init (Shape.Idx.first hu) + ∑ q : (⟨s.rank, w⟩ : Shape).Idx,
        (if hin : ∀ a, lo a ≤ (j (a.cast h.1.symm)).val * st a + (q a).val ∧ (j (a.cast h.1.symm)).val * st a + (q a).val - lo a < s.size a
          then x (fun a => ⟨(j (a.cast h.1.symm)).val * st a + (q a).val - lo a, (hin a).2⟩) else init (Shape.Idx.first hu)) := by
  show Host.reduceWindow (fun a b : EReal => a + b) w st lo hi x (fun _ : (⟨0, ![]⟩ : Shape).Idx => init (Shape.Idx.first hu)) h (by decide) j = _
  unfold Host.reduceWindow
  dsimp only
  rw [foldl_add_sum, ← List.ofFn_eq_map, List.sum_ofFn]
  congr 1
  refine Eq.trans ?_ (Equiv.sum_comp (⟨s.rank, w⟩ : Shape).rowMajor.symm (fun q => (if hin : ∀ a, lo a ≤ (j (a.cast h.1.symm)).val * st a + (q a).val ∧ (j (a.cast h.1.symm)).val * st a + (q a).val - lo a < s.size a
          then x (fun a => ⟨(j (a.cast h.1.symm)).val * st a + (q a).val - lo a, (hin a).2⟩) else init (Shape.Idx.first hu))))
  refine Finset.sum_congr rfl fun i _ => ?_
  by_cases hin : ∀ a, lo a ≤ (j (a.cast h.1.symm)).val * st a + ((⟨s.rank, w⟩ : Shape).rowMajor.symm i a).val ∧ (j (a.cast h.1.symm)).val * st a + ((⟨s.rank, w⟩ : Shape).rowMajor.symm i a).val - lo a < s.size a
  · rw [dif_pos hin]
    split
    · rfl
    · exact absurd hin ‹_›
  · rw [dif_neg hin]
    split
    · exact absurd ‹_› hin
    · rfl

theorem sum_up (N j : ℕ) (hj : j < N) (f : ℕ → ℝ) :
    ∑ k ∈ range N, (if N - 1 ≤ j + k ∧ j + k - (N - 1) < N then f (j + k - (N - 1)) else 0) = ∑ i ∈ range N, if i ≤ j then f i else 0 := by
  rw [← Finset.sum_filter, ← Finset.sum_filter]
  refine Finset.sum_nbij' (fun k => j + k - (N - 1)) (fun i => i + (N - 1) - j) ?_ ?_ ?_ ?_ ?_
  all_goals intro a ha
  all_goals simp only [Finset.mem_filter, Finset.mem_range] at ha ⊢
  all_goals omega

theorem sum_down (N j : ℕ) (f : ℕ → ℝ) :
    ∑ k ∈ range N, (if j + k < N then f (j + k) else 0) = ∑ i ∈ range N, if j ≤ i then f i else 0 := by
  rw [← Finset.sum_filter, ← Finset.sum_filter]
  refine Finset.sum_nbij' (fun k => j + k) (fun i => i - j) ?_ ?_ ?_ ?_ ?_
  all_goals intro a ha
  all_goals simp only [Finset.mem_filter, Finset.mem_range] at ha ⊢
  all_goals first | omega | rfl

theorem sumFin (N : ℕ) (f : ℕ → ℝ) : ∑ k : Fin N, ((f k.val : ℝ) : EReal) = ((∑ k ∈ range N, f k : ℝ) : EReal) := by
  rw [coe_sum, Finset.sum_range]

section Axis

variable {n0 n1 n2 n3 n4 : ℕ} {u : Shape} {init : FVec Ideal u .f32} (hu : 0 < u.numel) (hz : ∀ i, init i = 0)
include hz

/-- Along the last of four axes, up to the place. -/
theorem up4_3 {x : FVec Ideal ⟨4, ![n0, n1, n2, n3]⟩ .f32} (h) (a : Fin n0) (b : Fin n1) (c : Fin n2) (d : Fin n3) (f : ℕ → ℝ)
    (hx : ∀ d : Fin n3, x (ix4 a b c d) = ((f d.val : ℝ) : EReal)) :
    Host.reduceWindowAdd (F := Ideal) (t := ⟨4, ![n0, n1, n2, n3]⟩) ![1, 1, 1, n3] ![1, 1, 1, 1] ![0, 0, 0, n3 - 1] ![0, 0, 0, 0] x init h hu (ix4 a b c d)
      = ((∑ i ∈ range n3, (if i ≤ d.val then f i else 0) : ℝ) : EReal) := by
  rw [reduceWindowAdd_apply, hz, zero_add, sum_idx4, Fin.sum_univ_one, Fin.sum_univ_one, Fin.sum_univ_one, ← sum_up _ _ d.isLt, ← sumFin]
  refine Finset.sum_congr rfl fun k _ => ?_
  rw [coe_ite]
  by_cases hk : n3 - 1 ≤ d.val + k.val ∧ d.val + k.val - (n3 - 1) < n3
  · rw [if_pos hk, dif_pos, ← hx ⟨_, hk.2⟩]
    · refine congrArg x (funext fun y => Fin.ext ?_)
      fin_cases y
      · show a.val * 1 + 0 - 0 = a.val; omega
      · show b.val * 1 + 0 - 0 = b.val; omega
      · show c.val * 1 + 0 - 0 = c.val; omega
      · show d.val * 1 + k.val - (n3 - 1) = d.val + k.val - (n3 - 1); omega
    · intro y
      fin_cases y
      · show 0 ≤ a.val * 1 + 0 ∧ a.val * 1 + 0 - 0 < n0; have := a.isLt; omega
      · show 0 ≤ b.val * 1 + 0 ∧ b.val * 1 + 0 - 0 < n1; have := b.isLt; omega
      · show 0 ≤ c.val * 1 + 0 ∧ c.val * 1 + 0 - 0 < n2; have := c.isLt; omega
      · show n3 - 1 ≤ d.val * 1 + k.val ∧ d.val * 1 + k.val - (n3 - 1) < n3; omega
  · rw [if_neg hk, dif_neg]
    · rfl
    · intro hh
      have := hh (3 : Fin 4)
      have h3 : n3 - 1 ≤ d.val * 1 + k.val ∧ d.val * 1 + k.val - (n3 - 1) < n3 := this
      exact hk (by omega)

/-- Along the last of four axes, from the place on. -/
theorem down4_3 {x : FVec Ideal ⟨4, ![n0, n1, n2, n3]⟩ .f32} (h) (a : Fin n0) (b : Fin n1) (c : Fin n2) (d : Fin n3) (f : ℕ → ℝ)
    (hx : ∀ d : Fin n3, x (ix4 a b c d) = ((f d.val : ℝ) : EReal)) :
    Host.reduceWindowAdd (F := Ideal) (t := ⟨4, ![n0, n1, n2, n3]⟩) ![1, 1, 1, n3] ![1, 1, 1, 1] ![0, 0, 0, 0] ![0, 0, 0, n3 - 1] x init h hu (ix4 a b c d)
      = ((∑ i ∈ range n3, (if d.val ≤ i then f i else 0) : ℝ) : EReal) := by
  rw [reduceWindowAdd_apply, hz, zero_add, sum_idx4, Fin.sum_univ_one, Fin.sum_univ_one, Fin.sum_univ_one, ← sum_down _ _, ← sumFin]
  refine Finset.sum_congr rfl fun k _ => ?_
  rw [coe_ite]
  by_cases hk : d.val + k.val < n3
  · rw [if_pos hk, dif_pos, ← hx ⟨_, hk⟩]
    · refine congrArg x (funext fun y => Fin.ext ?_)
      fin_cases y
      · show a.val * 1 + 0 - 0 = a.val; omega
      · show b.val * 1 + 0 - 0 = b.val; omega
      · show c.val * 1 + 0 - 0 = c.val; omega
      · show d.val * 1 + k.val - 0 = d.val + k.val; omega
    · intro y
      fin_cases y
      · show 0 ≤ a.val * 1 + 0 ∧ a.val * 1 + 0 - 0 < n0; have := a.isLt; omega
      · show 0 ≤ b.val * 1 + 0 ∧ b.val * 1 + 0 - 0 < n1; have := b.isLt; omega
      · show 0 ≤ c.val * 1 + 0 ∧ c.val * 1 + 0 - 0 < n2; have := c.isLt; omega
      · show 0 ≤ d.val * 1 + k.val ∧ d.val * 1 + k.val - 0 < n3; omega
  · rw [if_neg hk, dif_neg]
    · rfl
    · intro hh
      have := hh (3 : Fin 4)
      have h3 : 0 ≤ d.val * 1 + k.val ∧ d.val * 1 + k.val - 0 < n3 := this
      exact hk (by omega)

/-- Along the third of four axes, up to the place. -/
theorem up4_2 {x : FVec Ideal ⟨4, ![n0, n1, n2, n3]⟩ .f32} (h) (a : Fin n0) (b : Fin n1) (c : Fin n2) (d : Fin n3) (f : ℕ → ℝ)
    (hx : ∀ c : Fin n2, x (ix4 a b c d) = ((f c.val : ℝ) : EReal)) :
    Host.reduceWindowAdd (F := Ideal) (t := ⟨4, ![n0, n1, n2, n3]⟩) ![1, 1, n2, 1] ![1, 1, 1, 1] ![0, 0, n2 - 1, 0] ![0, 0, 0, 0] x init h hu (ix4 a b c d)
      = ((∑ i ∈ range n2, (if i ≤ c.val then f i else 0) : ℝ) : EReal) := by
  rw [reduceWindowAdd_apply, hz, zero_add, sum_idx4, Fin.sum_univ_one, Fin.sum_univ_one]
  simp only [Fin.sum_univ_one]
  rw [← sum_up _ _ c.isLt, ← sumFin]
  refine Finset.sum_congr rfl fun k _ => ?_
  rw [coe_ite]
  by_cases hk : n2 - 1 ≤ c.val + k.val ∧ c.val + k.val - (n2 - 1) < n2
  · rw [if_pos hk, dif_pos, ← hx ⟨_, hk.2⟩]
    · refine congrArg x (funext fun y => Fin.ext ?_)
      fin_cases y
      · show a.val * 1 + 0 - 0 = a.val; omega
      · show b.val * 1 + 0 - 0 = b.val; omega
      · show c.val * 1 + k.val - (n2 - 1) = c.val + k.val - (n2 - 1); omega
      · show d.val * 1 + 0 - 0 = d.val; omega
    · intro y
      fin_cases y
      · show 0 ≤ a.val * 1 + 0 ∧ a.val * 1 + 0 - 0 < n0; have := a.isLt; omega
      · show 0 ≤ b.val * 1 + 0 ∧ b.val * 1 + 0 - 0 < n1; have := b.isLt; omega
      · show n2 - 1 ≤ c.val * 1 + k.val ∧ c.val * 1 + k.val - (n2 - 1) < n2; omega
      · show 0 ≤ d.val * 1 + 0 ∧ d.val * 1 + 0 - 0 < n3; have := d.isLt; omega
  · rw [if_neg hk, dif_neg]
    · rfl
    · intro hh
      have := hh (2 : Fin 4)
      have h3 : n2 - 1 ≤ c.val * 1 + k.val ∧ c.val * 1 + k.val - (n2 - 1) < n2 := this
      exact hk (by omega)

/-- Along the third of four axes, from the place on. -/
theorem down4_2 {x : FVec Ideal ⟨4, ![n0, n1, n2, n3]⟩ .f32} (h) (a : Fin n0) (b : Fin n1) (c : Fin n2) (d : Fin n3) (f : ℕ → ℝ)
    (hx : ∀ c : Fin n2, x (ix4 a b c d) = ((f c.val : ℝ) : EReal)) :
    Host.reduceWindowAdd (F := Ideal) (t := ⟨4, ![n0, n1, n2, n3]⟩) ![1, 1, n2, 1] ![1, 1, 1, 1] ![0, 0, 0, 0] ![0, 0, n2 - 1, 0] x init h hu (ix4 a b c d)
      = ((∑ i ∈ range n2, (if c.val ≤ i then f i else 0) : ℝ) : EReal) := by
  rw [reduceWindowAdd_apply, hz, zero_add, sum_idx4, Fin.sum_univ_one, Fin.sum_univ_one]
  simp only [Fin.sum_univ_one]
  rw [← sum_down _ _, ← sumFin]
  refine Finset.sum_congr rfl fun k _ => ?_
  rw [coe_ite]
  by_cases hk : c.val + k.val < n2
  · rw [if_pos hk, dif_pos, ← hx ⟨_, hk⟩]
    · refine congrArg x (funext fun y => Fin.ext ?_)
      fin_cases y
      · show a.val * 1 + 0 - 0 = a.val; omega
      · show b.val * 1 + 0 - 0 = b.val; omega
      · show c.val * 1 + k.val - 0 = c.val + k.val; omega
      · show d.val * 1 + 0 - 0 = d.val; omega
    · intro y
      fin_cases y
      · show 0 ≤ a.val * 1 + 0 ∧ a.val * 1 + 0 - 0 < n0; have := a.isLt; omega
      · show 0 ≤ b.val * 1 + 0 ∧ b.val * 1 + 0 - 0 < n1; have := b.isLt; omega
      · show 0 ≤ c.val * 1 + k.val ∧ c.val * 1 + k.val - 0 < n2; omega
      · show 0 ≤ d.val * 1 + 0 ∧ d.val * 1 + 0 - 0 < n3; have := d.isLt; omega
  · rw [if_neg hk, dif_neg]
    · rfl
    · intro hh
      have := hh (2 : Fin 4)
      have h3 : 0 ≤ c.val * 1 + k.val ∧ c.val * 1 + k.val - 0 < n2 := this
      exact hk (by omega)

/-- Along the fourth of five axes, up to the place. -/
theorem up5_3 {x : FVec Ideal ⟨5, ![n0, n1, n2, n3, n4]⟩ .f32} (h) (a : Fin n0) (b : Fin n1) (c : Fin n2) (d : Fin n3) (e : Fin n4) (f : ℕ → ℝ)
    (hx : ∀ d : Fin n3, x (ix5 a b c d e) = ((f d.val : ℝ) : EReal)) :
    Host.reduceWindowAdd (F := Ideal) (t := ⟨5, ![n0, n1, n2, n3, n4]⟩) ![1, 1, 1, n3, 1] ![1, 1, 1, 1, 1] ![0, 0, 0, n3 - 1, 0] ![0, 0, 0, 0, 0] x init h hu (ix5 a b c d e)
      = ((∑ i ∈ range n3, (if i ≤ d.val then f i else 0) : ℝ) : EReal) := by
  rw [reduceWindowAdd_apply, hz, zero_add, sum_idx5, Fin.sum_univ_one, Fin.sum_univ_one, Fin.sum_univ_one]
  simp only [Fin.sum_univ_one]
  rw [← sum_up _ _ d.isLt, ← sumFin]
  refine Finset.sum_congr rfl fun k _ => ?_
  rw [coe_ite]
  by_cases hk : n3 - 1 ≤ d.val + k.val ∧ d.val + k.val - (n3 - 1) < n3
  · rw [if_pos hk, dif_pos, ← hx ⟨_, hk.2⟩]
    · refine congrArg x (funext fun y => Fin.ext ?_)
      fin_cases y
      · show a.val * 1 + 0 - 0 = a.val; omega
      · show b.val * 1 + 0 - 0 = b.val; omega
      · show c.val * 1 + 0 - 0 = c.val; omega
      · show d.val * 1 + k.val - (n3 - 1) = d.val + k.val - (n3 - 1); omega
      · show e.val * 1 + 0 - 0 = e.val; omega
    · intro y
      fin_cases y
      · show 0 ≤ a.val * 1 + 0 ∧ a.val * 1 + 0 - 0 < n0; have := a.isLt; omega
      · show 0 ≤ b.val * 1 + 0 ∧ b.val * 1 + 0 - 0 < n1; have := b.isLt; omega
      · show 0 ≤ c.val * 1 + 0 ∧ c.val * 1 + 0 - 0 < n2; have := c.isLt; omega
      · show n3 - 1 ≤ d.val * 1 + k.val ∧ d.val * 1 + k.val - (n3 - 1) < n3; omega
      · show 0 ≤ e.val * 1 + 0 ∧ e.val * 1 + 0 - 0 < n4; have := e.isLt; omega
  · rw [if_neg hk, dif_neg]
    · rfl
    · intro hh
      have := hh (3 : Fin 5)
      have h3 : n3 - 1 ≤ d.val * 1 + k.val ∧ d.val * 1 + k.val - (n3 - 1) < n3 := this
      exact hk (by omega)

/-- Along the fourth of five axes, from the place on. -/
theorem down5_3 {x : FVec Ideal ⟨5, ![n0, n1, n2, n3, n4]⟩ .f32} (h) (a : Fin n0) (b : Fin n1) (c : Fin n2) (d : Fin n3) (e : Fin n4) (f : ℕ → ℝ)
    (hx : ∀ d : Fin n3, x (ix5 a b c d e) = ((f d.val : ℝ) : EReal)) :
    Host.reduceWindowAdd (F := Ideal) (t := ⟨5, ![n0, n1, n2, n3, n4]⟩) ![1, 1, 1, n3, 1] ![1, 1, 1, 1, 1] ![0, 0, 0, 0, 0] ![0, 0, 0, n3 - 1, 0] x init h hu (ix5 a b c d e)
      = ((∑ i ∈ range n3, (if d.val ≤ i then f i else 0) : ℝ) : EReal) := by
  rw [reduceWindowAdd_apply, hz, zero_add, sum_idx5, Fin.sum_univ_one, Fin.sum_univ_one, Fin.sum_univ_one]
  simp only [Fin.sum_univ_one]
  rw [← sum_down _ _, ← sumFin]
  refine Finset.sum_congr rfl fun k _ => ?_
  rw [coe_ite]
  by_cases hk : d.val + k.val < n3
  · rw [if_pos hk, dif_pos, ← hx ⟨_, hk⟩]
    · refine congrArg x (funext fun y => Fin.ext ?_)
      fin_cases y
      · show a.val * 1 + 0 - 0 = a.val; omega
      · show b.val * 1 + 0 - 0 = b.val; omega
      · show c.val * 1 + 0 - 0 = c.val; omega
      · show d.val * 1 + k.val - 0 = d.val + k.val; omega
      · show e.val * 1 + 0 - 0 = e.val; omega
    · intro y
      fin_cases y
      · show 0 ≤ a.val * 1 + 0 ∧ a.val * 1 + 0 - 0 < n0; have := a.isLt; omega
      · show 0 ≤ b.val * 1 + 0 ∧ b.val * 1 + 0 - 0 < n1; have := b.isLt; omega
      · show 0 ≤ c.val * 1 + 0 ∧ c.val * 1 + 0 - 0 < n2; have := c.isLt; omega
      · show 0 ≤ d.val * 1 + k.val ∧ d.val * 1 + k.val - 0 < n3; omega
      · show 0 ≤ e.val * 1 + 0 ∧ e.val * 1 + 0 - 0 < n4; have := e.isLt; omega
  · rw [if_neg hk, dif_neg]
    · rfl
    · intro hh
      have := hh (3 : Fin 5)
      have h3 : 0 ≤ d.val * 1 + k.val ∧ d.val * 1 + k.val - 0 < n3 := this
      exact hk (by omega)

end Axis

/-! ## The triangular masks -/

theorem toInt_nat (b : ℕ) (hb : b < 2 ^ 31) : (BitVec.ofNat 32 b).toInt = (b : ℤ) := by
  have h3 : (BitVec.ofNat 32 b).toNat = b := by rw [BitVec.toNat_ofNat]; exact Nat.mod_eq_of_lt (by omega)
  rw [BitVec.toInt_eq_toNat_of_lt (by rw [h3]; omega), h3]

theorem addi_pred (a : ℕ) (h : 0 < a) (ha : a < 2 ^ 31) : IntOp.addi (BitVec.ofNat 32 a) (4294967295#32) = BitVec.ofNat 32 (a - 1) := by
  apply BitVec.eq_of_toNat_eq
  show (BitVec.ofNat 32 a + 4294967295#32).toNat = _
  rw [BitVec.toNat_add, BitVec.toNat_ofNat, BitVec.toNat_ofNat, BitVec.toNat_ofNat]
  omega

theorem sge_pred (a b : ℕ) (ha : a < 2 ^ 31) (hb : b < 2 ^ 31) :
    IntOp.cmpi .sge (IntOp.addi (BitVec.ofNat 32 a) (4294967295#32)) (BitVec.ofNat 32 b) = BitVec.ofBool (decide (b < a)) := by
  rcases Nat.eq_zero_or_pos a with h0 | h
  · subst h0
    have e : IntOp.addi (BitVec.ofNat 32 0) (4294967295#32) = 4294967295#32 := BitVec.zero_add _
    have h1 : (4294967295#32 : BitVec 32).toInt = -1 := by rfl
    rw [e]
    show BitVec.ofBool (decide ((BitVec.ofNat 32 b).toInt ≤ (4294967295#32 : BitVec 32).toInt)) = _
    rw [h1, toInt_nat b hb]
    congr 1
    exact decide_eq_decide.mpr ⟨fun h => by omega, fun h => by omega⟩
  · rw [addi_pred a h ha, cmpi_sge_nat _ _ (by omega) hb]
    congr 1
    exact decide_eq_decide.mpr ⟨fun h => by omega, fun h => by omega⟩

theorem sge_zero (a b : ℕ) (ha : a < 2 ^ 31) (hb : b < 2 ^ 31) :
    IntOp.cmpi .sge (IntOp.addi (BitVec.ofNat 32 a) (0#32)) (BitVec.ofNat 32 b) = BitVec.ofBool (decide (b ≤ a)) := by
  have e : IntOp.addi (BitVec.ofNat 32 a) (0#32) = BitVec.ofNat 32 a := BitVec.add_zero _
  rw [e, cmpi_sge_nat _ _ ha hb]

end Cert.Window
-- ==== Proof.RefVal.lean ====
/-
  The reference's values as real functions of the real entries of the arguments, one operation after another.
-/
module

public import proofs.«01_k».proof.Proof.Window
public import proofs.«01_k».proof.Proof.Gen.ReferenceIdeal.Read

@[expose] public section

set_option maxRecDepth 16384

noncomputable section

namespace Cert.RefVal

open Cert.ReferenceIdeal Cert.ReferenceIdeal.Read Idealize.ShloMosaic Idealize.ShloMosaic.TcCoe Cert.KernelIdeal.Body Cert.Window
open Finset (range)

/-- The arguments have the real entries that `X` gives. -/
structure Args (X : RA) (x0 : FVec Ideal S2048x2048 .f32) (x1 : FVec Ideal S2048x3072 .f32) (x2 x3 : FVec Ideal S2048x32 .f32) (x4 : FVec Ideal S1x2048 .f32) : Prop where
  h0 : IsV x0 X.dy
  h1 : IsV x1 X.xbc
  h2 : IsV x2 X.dt
  h3 : IsV x3 X.da
  h4 : IsV x4 fun _ l => X.d l

/-- A triangular mask's choice, summed. -/
def ifle (i j : ℕ) (x : ℝ) : ℝ := if i ≤ j then x else 0
def iflt (i j : ℕ) (x : ℝ) : ℝ := if i < j then x else 0

variable (X : RA)

def f7 (c j g r p : ℕ) : ℝ := X.xbc (c * 128 + j) ((g * 8 + r) * 64 + p) * X.dt (c * 128 + j) (g * 8 + r)
def f8 (c j g n : ℕ) : ℝ := X.xbc (c * 128 + j) (2048 + (g * 128 + n))
def f9 (c j g n : ℕ) : ℝ := X.xbc (c * 128 + j) (2560 + (g * 128 + n))
def f11 (g r c j : ℕ) : ℝ := X.da (c * 128 + j) (g * 8 + r)
def f12 (g r c j : ℕ) : ℝ := ∑ i ∈ range 128, if i ≤ j then f11 X g r c i else 0
def f18 (g r c j t : ℕ) : ℝ := ∑ i ∈ range 128, if i ≤ j then iflt t i (f11 X g r c i) else 0
def f22 (g r c j t : ℕ) : ℝ := ifle t j (Real.exp (f18 X g r c j t))
def f23 (g c j t : ℕ) : ℝ := ∑ n ∈ range 128, f9 X c j g n * f8 X c t g n
def f26 (g r c j t : ℕ) : ℝ := f23 X g c j t * f22 X g r c j t
def f32 (g r c j : ℕ) : ℝ := Real.exp (f12 X g r c 127 - f12 X g r c j)
def f36 (c j g r p : ℕ) : ℝ := f7 X c j g r p * f32 X g r c j
def f37 (c g r p n : ℕ) : ℝ := ∑ j ∈ range 128, f36 X c j g r p * f8 X c j g n
def f41 (g r i : ℕ) : ℝ := if i < 1 then 0 else f12 X g r (i - 1) 127
def f48 (g r z k : ℕ) : ℝ := ∑ i ∈ range 17, if i ≤ z then iflt k i (f41 X g r i) else 0
def f52 (g r z k : ℕ) : ℝ := ifle k z (Real.exp (f48 X g r z k))
def f55 (z g r p n : ℕ) : ℝ := ∑ j ∈ range 16, f37 X j g r p n * f52 X g r z (1 + j)
def f56 (g r c j : ℕ) : ℝ := Real.exp (f12 X g r c j)
def f59 (c j g r p : ℕ) : ℝ := ∑ n ∈ range 128, f55 X c g r p n * f9 X c j g n
def f73 (l : ℕ) : ℝ := ∑ t ∈ range 2048, X.xbc t l * X.dy t l
def f77 (c j g r p : ℕ) : ℝ := X.dy (c * 128 + j) ((g * 8 + r) * 64 + p)
def f83 (c j g r : ℕ) : ℝ := ∑ p ∈ range 64, f59 X c j g r p * f77 X c j g r p
def f82 (c j g r p : ℕ) : ℝ := f77 X c j g r p * f56 X g r c j
def f86 (c j g n : ℕ) : ℝ := ∑ r ∈ range 8, ∑ p ∈ range 64, f82 X c j g r p * f55 X c g r p n
def f87 (z g r p n : ℕ) : ℝ := ∑ j ∈ range 128, f82 X z j g r p * f9 X z j g n
def f89 (g r c j : ℕ) : ℝ := f83 X c j g r * f56 X g r c j
def f91 (g r z j : ℕ) : ℝ := ∑ p ∈ range 64, ∑ n ∈ range 128, f87 X z g r p n * f37 X j g r p n
def f93 (c g r p n : ℕ) : ℝ := ∑ z ∈ range 16, f87 X z g r p n * f52 X g r z (1 + c)
def f94 (g r z k : ℕ) : ℝ := if z < 16 ∧ 1 ≤ k then f91 X g r z (k - 1) else 0
def f96 (g r z k : ℕ) : ℝ := ifle k z (f94 X g r z k * f52 X g r z k)
def f97 (g r i k : ℕ) : ℝ := ∑ z ∈ range 17, if i ≤ z then f96 X g r z k else 0
def f99 (g r i : ℕ) : ℝ := ∑ k ∈ range 17, iflt k i (f97 X g r i k)
def f105 (g r c j : ℕ) : ℝ := if 127 ≤ j then f99 X g r (1 + c) else 0
def f106 (g r c j : ℕ) : ℝ := f89 X g r c j + f105 X g r c j
def f108 (c j g n : ℕ) : ℝ := ∑ r ∈ range 8, ∑ p ∈ range 64, f93 X c g r p n * f36 X c j g r p
def f110 (c j g r p : ℕ) : ℝ := ∑ n ∈ range 128, f93 X c g r p n * f8 X c j g n
def f116 (c j g r : ℕ) : ℝ := ∑ p ∈ range 64, f7 X c j g r p * f110 X c j g r p
def f118 (g r c j : ℕ) : ℝ := f116 X c j g r * f32 X g r c j
def f123 (g r c j : ℕ) : ℝ := if 127 ≤ j then ∑ i ∈ range 128, f118 X g r c i else 0
def f124 (g r c j : ℕ) : ℝ := f106 X g r c j + -(f118 X g r c j) + f123 X g r c j
def f115 (c j g r p : ℕ) : ℝ := f110 X c j g r p * f32 X g r c j
def f127 (g r c j t : ℕ) : ℝ := ∑ p ∈ range 64, f77 X c j g r p * f7 X c t g r p
def f129 (c t g r p : ℕ) : ℝ := ∑ j ∈ range 128, f77 X c j g r p * f26 X g r c j t
def f130 (c j g r p : ℕ) : ℝ := f115 X c j g r p + f129 X c j g r p
def f132 (g r c j t : ℕ) : ℝ := f23 X g c j t * f127 X g r c j t
def f136 (g c j t : ℕ) : ℝ := ∑ r ∈ range 8, f127 X g r c j t * f22 X g r c j t
def f139 (c t g n : ℕ) : ℝ := f108 X c t g n + ∑ j ∈ range 128, f136 X g c j t * f9 X c j g n
def f142 (c j g n : ℕ) : ℝ := f86 X c j g n + ∑ t ∈ range 128, f136 X g c j t * f8 X c t g n
def f144 (g r c j t : ℕ) : ℝ := ifle t j (f132 X g r c j t * f22 X g r c j t)
def f145 (g r c i t : ℕ) : ℝ := ∑ j ∈ range 128, if i ≤ j then f144 X g r c j t else 0
def f149 (g r c i : ℕ) : ℝ := ∑ t ∈ range 128, iflt t i (f145 X g r c i t)
def f150 (g r c i : ℕ) : ℝ := ∑ j ∈ range 128, if i ≤ j then f124 X g r c j else 0
def f151 (g r c i : ℕ) : ℝ := f149 X g r c i + f150 X g r c i
def f158 (c j g r : ℕ) : ℝ := ∑ p ∈ range 64, X.xbc (c * 128 + j) ((g * 8 + r) * 64 + p) * f130 X c j g r p
def f162 (c j g r p : ℕ) : ℝ := X.dy (c * 128 + j) ((g * 8 + r) * 64 + p) * X.d ((g * 8 + r) * 64 + p) + f130 X c j g r p * X.dt (c * 128 + j) (g * 8 + r)

variable {X} {x0 : FVec Ideal S2048x2048 .f32} {x1 : FVec Ideal S2048x3072 .f32} {x2 x3 : FVec Ideal S2048x32 .f32} {x4 : FVec Ideal S1x2048 .f32}
  (H : Args X x0 x1 x2 x3 x4)

/-! ## The masks -/

theorem m16 (j t : Fin 128) : val_main_v16 (F := Ideal) (ix2 j t) = BitVec.ofBool (decide (t.val < j.val)) := by
  pointwise [val_main_v16, val_main_call1_v4, val_main_call1_v2, val_main_call1_v3, val_main_call1_v0, val_main_call1_v1, val_main_call1_c, val_main_v15, val_main_c, val_main_call1_v5, val_main_call1_c_0]
  rw [sge_pred _ _ (by omega) (by omega)]
  by_cases h : t.val < j.val <;> simp [h, Scalar.select]

theorem m20 (j t : Fin 128) : val_main_v20 (F := Ideal) (ix2 j t) = BitVec.ofBool (decide (t.val ≤ j.val)) := by
  pointwise [val_main_v20, val_main_call4_v4, val_main_call4_v2, val_main_call4_v3, val_main_call4_v0, val_main_call4_v1, val_main_call4_c, val_main_v19, val_main_c_0, val_main_call4_v5, val_main_call4_c_0]
  rw [sge_zero _ _ (by omega) (by omega)]
  by_cases h : t.val ≤ j.val <;> simp [h, Scalar.select]

theorem m46 (j t : Fin 17) : val_main_v46 (F := Ideal) (ix2 j t) = BitVec.ofBool (decide (t.val < j.val)) := by
  pointwise [val_main_v46, val_main_call6_v4, val_main_call6_v2, val_main_call6_v3, val_main_call6_v0, val_main_call6_v1, val_main_call6_c, val_main_v45, val_main_c_4, val_main_call6_v5, val_main_call6_c_0]
  rw [sge_pred _ _ (by omega) (by omega)]
  by_cases h : t.val < j.val <;> simp [h, Scalar.select]

theorem m50 (j t : Fin 17) : val_main_v50 (F := Ideal) (ix2 j t) = BitVec.ofBool (decide (t.val ≤ j.val)) := by
  pointwise [val_main_v50, val_main_call9_v4, val_main_call9_v2, val_main_call9_v3, val_main_call9_v0, val_main_call9_v1, val_main_call9_c, val_main_v49, val_main_c_6, val_main_call9_v5, val_main_call9_c_0]
  rw [sge_zero _ _ (by omega) (by omega)]
  by_cases h : t.val ≤ j.val <;> simp [h, Scalar.select]

theorem sel_lt (i j : ℕ) (x : ℝ) : Scalar.select (BitVec.ofBool (decide (i < j))) (x : EReal) 0 = ((iflt i j x : ℝ) : EReal) := by
  rw [select_ofBool', iflt, coe_ite]; rfl

theorem sel_le (i j : ℕ) (x : ℝ) : Scalar.select (BitVec.ofBool (decide (i ≤ j))) (x : EReal) 0 = ((ifle i j x : ℝ) : EReal) := by
  rw [select_ofBool', ifle, coe_ite]; rfl

theorem c0 : id (constant (F := Ideal) S_ .f32 0#32) ix0 = (0 : EReal) := by
  show constant (F := Ideal) S_ .f32 0#32 ix0 = (0 : EReal)
  pointwise

theorem cbot : Ideal.exp (id (constant (F := Ideal) S_ .f32 4286578688#32) ix0) = ((0 : ℝ) : EReal) := by
  show Ideal.exp (Ideal.ofBits FTy.f32 4286578688#32) = ((0 : ℝ) : EReal)
  rfl

include H

theorem a0 (t l : Fin 2048) : x0 (ix2 t l) = ((X.dy t l : ℝ) : EReal) := H.h0 t l
theorem a1 (t : Fin 2048) (l : Fin 3072) : x1 (ix2 t l) = ((X.xbc t l : ℝ) : EReal) := H.h1 t l
theorem a2 (t : Fin 2048) (l : Fin 32) : x2 (ix2 t l) = ((X.dt t l : ℝ) : EReal) := H.h2 t l
theorem a4 (t : Fin 1) (l : Fin 2048) : x4 (ix2 t l) = ((X.d l : ℝ) : EReal) := H.h4 t l

theorem r7 (c : Fin 16) (j : Fin 128) (g : Fin 4) (r : Fin 8) (p : Fin 64) : val_main_v7 (F := Ideal) x1 x2 (ix5 c j g r p) = ((f7 X c j g r p : ℝ) : EReal) := by
  pointwise [val_main_v7, val_main_v6, val_main_v5, val_main_v4, val_main_v3, val_main_v0]
  rw [H.h1, H.h2, f7, EReal.coe_mul]

theorem r8 (c : Fin 16) (j : Fin 128) (g : Fin 4) (n : Fin 128) : val_main_v8 (F := Ideal) x1 (ix4 c j g n) = ((f8 X c j g n : ℝ) : EReal) := by
  pointwise [val_main_v8, val_main_v1]
  rw [H.h1, f8]

theorem r9 (c : Fin 16) (j : Fin 128) (g : Fin 4) (n : Fin 128) : val_main_v9 (F := Ideal) x1 (ix4 c j g n) = ((f9 X c j g n : ℝ) : EReal) := by
  pointwise [val_main_v9, val_main_v2]
  rw [H.h1, f9]

theorem r11 (g : Fin 4) (r : Fin 8) (c : Fin 16) (j : Fin 128) : val_main_v11 (F := Ideal) x3 (ix4 g r c j) = ((f11 X g r c j : ℝ) : EReal) := by
  pointwise [val_main_v11, val_main_v10]
  rw [H.h3, f11]

theorem r12 (g : Fin 4) (r : Fin 8) (c : Fin 16) (j : Fin 128) : val_main_v12 (F := Ideal) x3 (ix4 g r c j) = ((f12 X g r c j : ℝ) : EReal) := by
  unfold val_main_v12
  exact up4_3 _ (fun i => by pointwise [val_main_call0_call0_v0, val_main_call0_call0_cst]) _ g r c j (f11 X g r c) (fun d => r11 H g r c d)

theorem r17 (g : Fin 4) (r : Fin 8) (c : Fin 16) (j t : Fin 128) : val_main_v17_0 (F := Ideal) x3 (ix5 g r c j t) = ((iflt t j (f11 X g r c j) : ℝ) : EReal) := by
  pointwise [val_main_v17_0, val_main_v17_1, val_main_v14, val_main_v13, val_main_call2_v2, val_main_call2_v0, val_main_cst]
  rw [m16, r11 H, c0]
  exact sel_lt _ _ _

theorem r18 (g : Fin 4) (r : Fin 8) (c : Fin 16) (j t : Fin 128) : val_main_v18 (F := Ideal) x3 (ix5 g r c j t) = ((f18 X g r c j t : ℝ) : EReal) := by
  unfold val_main_v18
  exact up5_3 _ (fun i => by pointwise [val_main_call3_call0_v0, val_main_call3_call0_cst]) _ g r c j t (fun i => iflt t i (f11 X g r c i)) (fun d => r17 H g r c d t)

theorem r22 (g : Fin 4) (r : Fin 8) (c : Fin 16) (j t : Fin 128) : val_main_v22 (F := Ideal) x3 (ix5 g r c j t) = ((f22 X g r c j t : ℝ) : EReal) := by
  pointwise [val_main_v22, val_main_v21_0, val_main_v21_1, val_main_call5_v2, val_main_call5_v0, val_main_cst_1]
  rw [m20, r18 H, select_ofBool', f22, ifle, coe_ite]
  split
  · rfl
  · exact cbot

theorem r23 (g : Fin 4) (c : Fin 16) (j t : Fin 128) : val_main_v23 (F := Ideal) x1 (ix4 g c j t) = ((f23 X g c j t : ℝ) : EReal) := by
  pointwise [val_main_v23]
  simp only [f23, ← sumFin, EReal.coe_mul, r8 H, r9 H]

theorem r26 (g : Fin 4) (r : Fin 8) (c : Fin 16) (j t : Fin 128) : val_main_v26 (F := Ideal) x1 x3 (ix5 g r c j t) = ((f26 X g r c j t : ℝ) : EReal) := by
  pointwise [val_main_v26, val_main_v25, val_main_v24]
  simp only [f26, EReal.coe_mul, r23 H, r22 H]

theorem r32 (g : Fin 4) (r : Fin 8) (c : Fin 16) (j : Fin 128) : val_main_v32 (F := Ideal) x3 (ix4 g r c j) = ((f32 X g r c j : ℝ) : EReal) := by
  pointwise [val_main_v32, val_main_v31, val_main_v30, val_main_v29]
  simp only [f32, coe_exp, EReal.coe_sub, r12 H]
  rfl

theorem r36 (c : Fin 16) (j : Fin 128) (g : Fin 4) (r : Fin 8) (p : Fin 64) : val_main_v36 (F := Ideal) x1 x2 x3 (ix5 c j g r p) = ((f36 X c j g r p : ℝ) : EReal) := by
  pointwise [val_main_v36, val_main_v35, val_main_v34, val_main_v33]
  simp only [f36, EReal.coe_mul, r7 H, r32 H]

theorem r37 (c : Fin 16) (g : Fin 4) (r : Fin 8) (p : Fin 64) (n : Fin 128) : val_main_v37 (F := Ideal) x1 x2 x3 (ix5 c g r p n) = ((f37 X c g r p n : ℝ) : EReal) := by
  pointwise [val_main_v37]
  simp only [f37, ← sumFin, EReal.coe_mul, r36 H, r8 H]

theorem r41 (g : Fin 4) (r : Fin 8) (i : Fin 17) : val_main_v41 (F := Ideal) x3 (ix3 g r i) = ((f41 X g r i : ℝ) : EReal) := by
  pointwise [val_main_v41, val_main_v38, val_main_cst_2, val_main_v40, val_main_v39]
  rw [f41]
  split
  · rfl
  · rw [r12 H]; rfl

theorem r47 (g : Fin 4) (r : Fin 8) (z k : Fin 17) : val_main_v47_0 (F := Ideal) x3 (ix4 g r z k) = ((iflt k z (f41 X g r z) : ℝ) : EReal) := by
  pointwise [val_main_v47_0, val_main_v47_1, val_main_v44, val_main_v43, val_main_call7_v2, val_main_call7_v0, val_main_cst_5]
  rw [m46, r41 H, c0]
  exact sel_lt _ _ _

theorem r48 (g : Fin 4) (r : Fin 8) (z k : Fin 17) : val_main_v48 (F := Ideal) x3 (ix4 g r z k) = ((f48 X g r z k : ℝ) : EReal) := by
  unfold val_main_v48
  exact up4_2 _ (fun i => by pointwise [val_main_call8_call0_v0, val_main_call8_call0_cst]) _ g r z k (fun i => iflt k i (f41 X g r i)) (fun d => r47 H g r d k)

theorem r52 (g : Fin 4) (r : Fin 8) (z k : Fin 17) : val_main_v52 (F := Ideal) x3 (ix4 g r z k) = ((f52 X g r z k : ℝ) : EReal) := by
  pointwise [val_main_v52, val_main_v51_0, val_main_v51_1, val_main_call10_v2, val_main_call10_v0, val_main_cst_7]
  rw [m50, r48 H, select_ofBool', f52, ifle, coe_ite]
  split
  · rfl
  · exact cbot

theorem r53 (g : Fin 4) (r : Fin 8) (z k : Fin 16) : val_main_v53 (F := Ideal) x3 (ix4 g r z k) = ((f52 X g r z (1 + k) : ℝ) : EReal) := by
  pointwise [val_main_v53]
  rw [r52 H]

theorem r55 (z : Fin 16) (g : Fin 4) (r : Fin 8) (p : Fin 64) (n : Fin 128) : val_main_v55 (F := Ideal) x1 x2 x3 (ix5 z g r p n) = ((f55 X z g r p n : ℝ) : EReal) := by
  pointwise [val_main_v55, val_main_v54]
  simp only [f55, ← sumFin, EReal.coe_mul, r37 H, r53 H]

theorem r56 (g : Fin 4) (r : Fin 8) (c : Fin 16) (j : Fin 128) : val_main_v56 (F := Ideal) x3 (ix4 g r c j) = ((f56 X g r c j : ℝ) : EReal) := by
  pointwise [val_main_v56]
  simp only [f56, coe_exp, r12 H]

theorem r59 (c : Fin 16) (j : Fin 128) (g : Fin 4) (r : Fin 8) (p : Fin 64) : val_main_v59 (F := Ideal) x1 x2 x3 (ix5 c j g r p) = ((f59 X c j g r p : ℝ) : EReal) := by
  pointwise [val_main_v59, val_main_v58]
  simp only [f59, ← sumFin, EReal.coe_mul, r55 H, r9 H]

theorem r73 (z : Fin 1) (l : Fin 2048) : val_main_v73 (F := Ideal) x0 x1 (ix2 z l) = ((f73 X l : ℝ) : EReal) := by
  pointwise [val_main_v73, val_main_v72, val_main_cst_8, val_main_v71, val_main_v65, val_main_v3, val_main_v0, val_main_v70]
  simp only [f73, ← sumFin, EReal.coe_mul, a0 H, a1 H]

end Cert.RefVal
-- ==== Proof.RefVal2.lean ====
/-
  The reference's values in its backward part, as real functions of the real entries of the arguments.
-/
module

public import proofs.«01_k».proof.Proof.RefVal

@[expose] public section

set_option maxRecDepth 16384

noncomputable section

namespace Cert.RefVal

open Cert.ReferenceIdeal Cert.ReferenceIdeal.Read Idealize.ShloMosaic Idealize.ShloMosaic.TcCoe Cert.KernelIdeal.Body Cert.Window
open Finset (range)

theorem sit0 : FloatOps.sitofp (F := Ideal) FTy.f32 0#32 = (0 : EReal) := by
  show (((0#32 : BitVec 32).toInt : ℝ) : EReal) = 0
  simp

theorem sum_one (f : EReal) : ∑ _x : Fin 1, f = f := by simp

variable {X : RA} {x0 : FVec Ideal S2048x2048 .f32} {x1 : FVec Ideal S2048x3072 .f32} {x2 x3 : FVec Ideal S2048x32 .f32} {x4 : FVec Ideal S1x2048 .f32}
  (H : Args X x0 x1 x2 x3 x4)
include H

theorem r77 (c : Fin 16) (j : Fin 128) (g : Fin 4) (r : Fin 8) (p : Fin 64) : val_main_v77 (F := Ideal) x0 (ix5 c j g r p) = ((f77 X c j g r p : ℝ) : EReal) := by
  pointwise [val_main_v77, val_main_v69]
  rw [H.h0, f77]
  congr 2
  all_goals dsimp only
  all_goals omega

theorem r83 (c : Fin 16) (j : Fin 128) (g : Fin 4) (r : Fin 8) : val_main_v83 (F := Ideal) x0 x1 x2 x3 (ix4 c j g r) = ((f83 X c j g r : ℝ) : EReal) := by
  pointwise [val_main_v83, val_main_cst_10, val_main_v80, val_main_v79, val_main_cst_9, val_main_v78]
  simp only [f83, ← sumFin, coe_exp, EReal.coe_mul, EReal.coe_add, EReal.coe_neg, sum_one, r59 H, r77 H]

theorem r82 (c : Fin 16) (j : Fin 128) (g : Fin 4) (r : Fin 8) (p : Fin 64) : val_main_v82 (F := Ideal) x0 x3 (ix5 c j g r p) = ((f82 X c j g r p : ℝ) : EReal) := by
  pointwise [val_main_v82, val_main_v81, val_main_v60, val_main_v57]
  simp only [f82, ← sumFin, coe_exp, EReal.coe_mul, EReal.coe_add, EReal.coe_neg, sum_one, r77 H, r56 H]

theorem r86 (c : Fin 16) (j : Fin 128) (g : Fin 4) (n : Fin 128) : val_main_v86 (F := Ideal) x0 x1 x2 x3 (ix4 c j g n) = ((f86 X c j g n : ℝ) : EReal) := by
  pointwise [val_main_v86, val_main_v85, val_main_v84]
  simp only [f86, ← sumFin, coe_exp, EReal.coe_mul, EReal.coe_add, EReal.coe_neg, sum_one, r82 H, r55 H]

theorem r87 (z : Fin 16) (g : Fin 4) (r : Fin 8) (p : Fin 64) (n : Fin 128) : val_main_v87 (F := Ideal) x0 x1 x3 (ix5 z g r p n) = ((f87 X z g r p n : ℝ) : EReal) := by
  pointwise [val_main_v87, val_main_v84]
  simp only [f87, ← sumFin, coe_exp, EReal.coe_mul, EReal.coe_add, EReal.coe_neg, sum_one, r82 H, r9 H]

theorem r89 (g : Fin 4) (r : Fin 8) (c : Fin 16) (j : Fin 128) : val_main_v89 (F := Ideal) x0 x1 x2 x3 (ix4 g r c j) = ((f89 X g r c j : ℝ) : EReal) := by
  pointwise [val_main_v89, val_main_v88]
  simp only [f89, ← sumFin, coe_exp, EReal.coe_mul, EReal.coe_add, EReal.coe_neg, sum_one, r83 H, r56 H]

theorem r91 (g : Fin 4) (r : Fin 8) (z : Fin 16) (j : Fin 16) : val_main_v91 (F := Ideal) x0 x1 x2 x3 (ix4 g r z j) = ((f91 X g r z j : ℝ) : EReal) := by
  pointwise [val_main_v91, val_main_v90]
  simp only [f91, ← sumFin, coe_exp, EReal.coe_mul, EReal.coe_add, EReal.coe_neg, sum_one, r87 H, r37 H]

theorem r93 (c : Fin 16) (g : Fin 4) (r : Fin 8) (p : Fin 64) (n : Fin 128) : val_main_v93 (F := Ideal) x0 x1 x3 (ix5 c g r p n) = ((f93 X c g r p n : ℝ) : EReal) := by
  pointwise [val_main_v93, val_main_v92, val_main_v90]
  simp only [f93, ← sumFin, coe_exp, EReal.coe_mul, EReal.coe_add, EReal.coe_neg, sum_one, r87 H, r53 H]

theorem r94 (g : Fin 4) (r : Fin 8) (z : Fin 17) (k : Fin 17) : val_main_v94 (F := Ideal) x0 x1 x2 x3 (ix4 g r z k) = ((f94 X g r z k : ℝ) : EReal) := by
  pointwise [val_main_v94, val_main_cst_11]
  rw [f94, coe_ite]
  simp only [r91 H]
  split <;> split <;> first | rfl | (exfalso; omega)

theorem r96 (g : Fin 4) (r : Fin 8) (z : Fin 17) (k : Fin 17) : val_main_v96 (F := Ideal) x0 x1 x2 x3 (ix4 g r z k) = ((f96 X g r z k : ℝ) : EReal) := by
  pointwise [val_main_v96, val_main_call11_v0, val_main_call11_cst, val_main_v95, val_main_v51_1]
  rw [m50, r94 H, r52 H, ← EReal.coe_mul]
  exact sel_le _ _ _

theorem r97 (g : Fin 4) (r : Fin 8) (i : Fin 17) (k : Fin 17) : val_main_v97 (F := Ideal) x0 x1 x2 x3 (ix4 g r i k) = ((f97 X g r i k : ℝ) : EReal) := by
  unfold val_main_v97
  exact down4_2 _ (fun i => by pointwise [val_main_call12_call0_v0, val_main_call12_call0_cst]) _ g r i k (fun z => f96 X g r z k) (fun d => r96 H g r d k)

theorem r98 (g : Fin 4) (r : Fin 8) (i : Fin 17) (k : Fin 17) : val_main_v98 (F := Ideal) x0 x1 x2 x3 (ix4 g r i k) = ((iflt k i (f97 X g r i k) : ℝ) : EReal) := by
  pointwise [val_main_v98, val_main_call13_v0, val_main_call13_cst, val_main_v47_1]
  rw [m46, r97 H]
  exact sel_lt _ _ _

theorem r101 (g : Fin 4) (r : Fin 8) (i : Fin 17) : val_main_v101 (F := Ideal) x0 x1 x2 x3 (ix3 g r i) = ((f99 X g r i : ℝ) : EReal) := by
  pointwise [val_main_v101, val_main_cst_13, val_main_v100, val_main_v99, val_main_cst_12]
  simp only [f99, ← sumFin, coe_exp, EReal.coe_mul, EReal.coe_add, EReal.coe_neg, sum_one, r98 H]

theorem r105 (g : Fin 4) (r : Fin 8) (c : Fin 16) (j : Fin 128) : val_main_v105 (F := Ideal) x0 x1 x2 x3 (ix4 g r c j) = ((f105 X g r c j : ℝ) : EReal) := by
  pointwise [val_main_v105, val_main_cst_14, val_main_v104, val_main_v103]
  rw [f105, coe_ite]
  simp only [r101 H]
  split <;> split <;> first | rfl | (exfalso; omega)

theorem r106 (g : Fin 4) (r : Fin 8) (c : Fin 16) (j : Fin 128) : val_main_v106 (F := Ideal) x0 x1 x2 x3 (ix4 g r c j) = ((f106 X g r c j : ℝ) : EReal) := by
  pointwise [val_main_v106]
  simp only [f106, ← sumFin, coe_exp, EReal.coe_mul, EReal.coe_add, EReal.coe_neg, sum_one, r89 H, r105 H]

theorem r108 (c : Fin 16) (j : Fin 128) (g : Fin 4) (n : Fin 128) : val_main_v108 (F := Ideal) x0 x1 x2 x3 (ix4 c j g n) = ((f108 X c j g n : ℝ) : EReal) := by
  pointwise [val_main_v108, val_main_v107]
  simp only [f108, ← sumFin, coe_exp, EReal.coe_mul, EReal.coe_add, EReal.coe_neg, sum_one, r93 H, r36 H]

theorem r110 (c : Fin 16) (j : Fin 128) (g : Fin 4) (r : Fin 8) (p : Fin 64) : val_main_v110 (F := Ideal) x0 x1 x3 (ix5 c j g r p) = ((f110 X c j g r p : ℝ) : EReal) := by
  pointwise [val_main_v110, val_main_v109]
  simp only [f110, ← sumFin, coe_exp, EReal.coe_mul, EReal.coe_add, EReal.coe_neg, sum_one, r93 H, r8 H]

theorem r116 (c : Fin 16) (j : Fin 128) (g : Fin 4) (r : Fin 8) : val_main_v116 (F := Ideal) x0 x1 x2 x3 (ix4 c j g r) = ((f116 X c j g r : ℝ) : EReal) := by
  pointwise [val_main_v116, val_main_cst_16, val_main_v113, val_main_v112, val_main_cst_15, val_main_v111]
  simp only [f116, ← sumFin, coe_exp, EReal.coe_mul, EReal.coe_add, EReal.coe_neg, sum_one, r7 H, r110 H]

theorem r118 (g : Fin 4) (r : Fin 8) (c : Fin 16) (j : Fin 128) : val_main_v118 (F := Ideal) x0 x1 x2 x3 (ix4 g r c j) = ((f118 X g r c j : ℝ) : EReal) := by
  pointwise [val_main_v118, val_main_v117]
  simp only [f118, ← sumFin, coe_exp, EReal.coe_mul, EReal.coe_add, EReal.coe_neg, sum_one, r116 H, r32 H]

theorem r119 (g : Fin 4) (r : Fin 8) (c : Fin 16) : val_main_v119 (F := Ideal) x0 x1 x2 x3 (ix3 g r c) = ((∑ i ∈ range 128, f118 X g r c i : ℝ) : EReal) := by
  pointwise [val_main_v119, val_main_cst_17]
  simp only [← sumFin, coe_exp, EReal.coe_mul, EReal.coe_add, EReal.coe_neg, sum_one, r118 H]

theorem r123 (g : Fin 4) (r : Fin 8) (c : Fin 16) (j : Fin 128) : val_main_v123 (F := Ideal) x0 x1 x2 x3 (ix4 g r c j) = ((f123 X g r c j : ℝ) : EReal) := by
  pointwise [val_main_v123, val_main_cst_18, val_main_v120]
  rw [f123, coe_ite]
  simp only [r119 H]
  split <;> split <;> first | rfl | (exfalso; omega)

theorem r124 (g : Fin 4) (r : Fin 8) (c : Fin 16) (j : Fin 128) : val_main_v124 (F := Ideal) x0 x1 x2 x3 (ix4 g r c j) = ((f124 X g r c j : ℝ) : EReal) := by
  pointwise [val_main_v124, val_main_v122, val_main_v121]
  simp only [f124, ← sumFin, coe_exp, EReal.coe_mul, EReal.coe_add, EReal.coe_neg, sum_one, r106 H, r118 H, r123 H]

theorem r115 (c : Fin 16) (j : Fin 128) (g : Fin 4) (r : Fin 8) (p : Fin 64) : val_main_v115 (F := Ideal) x0 x1 x3 (ix5 c j g r p) = ((f115 X c j g r p : ℝ) : EReal) := by
  pointwise [val_main_v115, val_main_v114, val_main_v34, val_main_v33]
  simp only [f115, ← sumFin, coe_exp, EReal.coe_mul, EReal.coe_add, EReal.coe_neg, sum_one, r110 H, r32 H]

theorem r127 (g : Fin 4) (r : Fin 8) (c : Fin 16) (j : Fin 128) (t : Fin 128) : val_main_v127 (F := Ideal) x0 x1 x2 (ix5 g r c j t) = ((f127 X g r c j t : ℝ) : EReal) := by
  pointwise [val_main_v127, val_main_v126, val_main_v125]
  simp only [f127, ← sumFin, coe_exp, EReal.coe_mul, EReal.coe_add, EReal.coe_neg, sum_one, r77 H, r7 H]

theorem r129 (c : Fin 16) (t : Fin 128) (g : Fin 4) (r : Fin 8) (p : Fin 64) : val_main_v129 (F := Ideal) x0 x1 x3 (ix5 c t g r p) = ((f129 X c t g r p : ℝ) : EReal) := by
  pointwise [val_main_v129, val_main_v128, val_main_v125]
  simp only [f129, ← sumFin, coe_exp, EReal.coe_mul, EReal.coe_add, EReal.coe_neg, sum_one, r77 H, r26 H]

theorem r130 (c : Fin 16) (j : Fin 128) (g : Fin 4) (r : Fin 8) (p : Fin 64) : val_main_v130 (F := Ideal) x0 x1 x3 (ix5 c j g r p) = ((f130 X c j g r p : ℝ) : EReal) := by
  pointwise [val_main_v130]
  simp only [f130, ← sumFin, coe_exp, EReal.coe_mul, EReal.coe_add, EReal.coe_neg, sum_one, r115 H, r129 H]

theorem r132 (g : Fin 4) (r : Fin 8) (c : Fin 16) (j : Fin 128) (t : Fin 128) : val_main_v132 (F := Ideal) x0 x1 x2 (ix5 g r c j t) = ((f132 X g r c j t : ℝ) : EReal) := by
  pointwise [val_main_v132, val_main_v131, val_main_v24]
  simp only [f132, ← sumFin, coe_exp, EReal.coe_mul, EReal.coe_add, EReal.coe_neg, sum_one, r23 H, r127 H]

theorem r136 (g : Fin 4) (c : Fin 16) (j : Fin 128) (t : Fin 128) : val_main_v136 (F := Ideal) x0 x1 x2 x3 (ix4 g c j t) = ((f136 X g c j t : ℝ) : EReal) := by
  pointwise [val_main_v136, val_main_cst_20, val_main_v135, val_main_v134, val_main_cst_19, val_main_v133]
  simp only [f136, ← sumFin, coe_exp, EReal.coe_mul, EReal.coe_add, EReal.coe_neg, sum_one, r127 H, r22 H]

theorem r139 (c : Fin 16) (t : Fin 128) (g : Fin 4) (n : Fin 128) : val_main_v139 (F := Ideal) x0 x1 x2 x3 (ix4 c t g n) = ((f139 X c t g n : ℝ) : EReal) := by
  pointwise [val_main_v139, val_main_v138, val_main_v137]
  simp only [f139, ← sumFin, coe_exp, EReal.coe_mul, EReal.coe_add, EReal.coe_neg, sum_one, r108 H, r136 H, r9 H]

theorem r142 (c : Fin 16) (j : Fin 128) (g : Fin 4) (n : Fin 128) : val_main_v142 (F := Ideal) x0 x1 x2 x3 (ix4 c j g n) = ((f142 X c j g n : ℝ) : EReal) := by
  pointwise [val_main_v142, val_main_v141, val_main_v140]
  simp only [f142, ← sumFin, coe_exp, EReal.coe_mul, EReal.coe_add, EReal.coe_neg, sum_one, r86 H, r136 H, r8 H]

theorem r144 (g : Fin 4) (r : Fin 8) (c : Fin 16) (j : Fin 128) (t : Fin 128) : val_main_v144 (F := Ideal) x0 x1 x2 x3 (ix5 g r c j t) = ((f144 X g r c j t : ℝ) : EReal) := by
  pointwise [val_main_v144, val_main_call14_v0, val_main_call14_cst, val_main_v143, val_main_v21_1]
  rw [m20, r132 H, r22 H, ← EReal.coe_mul]
  exact sel_le _ _ _

theorem r145 (g : Fin 4) (r : Fin 8) (c : Fin 16) (i : Fin 128) (t : Fin 128) : val_main_v145 (F := Ideal) x0 x1 x2 x3 (ix5 g r c i t) = ((f145 X g r c i t : ℝ) : EReal) := by
  unfold val_main_v145
  exact down5_3 _ (fun i => by pointwise [val_main_call15_call0_v0, val_main_call15_call0_cst]) _ g r c i t (fun j => f144 X g r c j t) (fun d => r144 H g r c d t)

theorem r146 (g : Fin 4) (r : Fin 8) (c : Fin 16) (i : Fin 128) (t : Fin 128) : val_main_v146 (F := Ideal) x0 x1 x2 x3 (ix5 g r c i t) = ((iflt t i (f145 X g r c i t) : ℝ) : EReal) := by
  pointwise [val_main_v146, val_main_call16_v0, val_main_call16_cst, val_main_v17_1]
  rw [m16, r145 H]
  exact sel_lt _ _ _

theorem r149 (g : Fin 4) (r : Fin 8) (c : Fin 16) (i : Fin 128) : val_main_v149 (F := Ideal) x0 x1 x2 x3 (ix4 g r c i) = ((f149 X g r c i : ℝ) : EReal) := by
  pointwise [val_main_v149, val_main_cst_22, val_main_v148, val_main_v147, val_main_cst_21]
  simp only [f149, ← sumFin, coe_exp, EReal.coe_mul, EReal.coe_add, EReal.coe_neg, sum_one, r146 H]

theorem r150 (g : Fin 4) (r : Fin 8) (c : Fin 16) (i : Fin 128) : val_main_v150 (F := Ideal) x0 x1 x2 x3 (ix4 g r c i) = ((f150 X g r c i : ℝ) : EReal) := by
  unfold val_main_v150
  exact down4_3 _ (fun i => by pointwise [val_main_call17_call0_v0, val_main_call17_call0_cst]) _ g r c i (fun j => f124 X g r c j) (fun d => r124 H g r c d)

theorem r151 (g : Fin 4) (r : Fin 8) (c : Fin 16) (i : Fin 128) : val_main_v151 (F := Ideal) x0 x1 x2 x3 (ix4 g r c i) = ((f151 X g r c i : ℝ) : EReal) := by
  pointwise [val_main_v151]
  simp only [f151, ← sumFin, coe_exp, EReal.coe_mul, EReal.coe_add, EReal.coe_neg, sum_one, r149 H, r150 H]

theorem r130' (t : Fin 2048) (h : Fin 32) (p : Fin 64) : val_main_v156 (F := Ideal) x0 x1 x3 (ix3 t h p)
    = ((f130 X (t / 128) (t % 128) (h / 8) (h % 8) p : ℝ) : EReal) := by
  pointwise [val_main_v156]
  rw [r130 H]

/-- The gradient of the convolution's output, by the real entries. -/
def ref8 (X : RA) (t l : ℕ) : ℝ :=
  if l < 2048 then X.dy t l * X.d l + f130 X (t / 128) (t % 128) (l / 64 / 8) (l / 64 % 8) (l % 64) * X.dt t (l / 64)
  else if l < 2560 then f139 X (t / 128) (t % 128) ((l - 2048) / 128) ((l - 2048) % 128)
  else f142 X (t / 128) (t % 128) ((l - 2560) / 128) ((l - 2560) % 128)

/-- The gradient of the step sizes. -/
def ref9 (X : RA) (t h : ℕ) : ℝ :=
  if h < 32 then ∑ p ∈ range 64, X.xbc t (h * 64 + p) * f130 X (t / 128) (t % 128) (h / 8) (h % 8) p else 0

/-- The gradient of the log-decays. -/
def ref10 (X : RA) (t h : ℕ) : ℝ := if h < 32 then f151 X (h / 8) (h % 8) (t / 128) (t % 128) else 0

theorem r164 (t l : Fin 2048) : val_main_v164 (F := Ideal) x0 x1 x2 x3 x4 (ix2 t l)
    = ((X.dy t l * X.d l + f130 X (t / 128) (t % 128) (l / 64 / 8) (l / 64 % 8) (l % 64) * X.dt t (l / 64) : ℝ) : EReal) := by
  pointwise [val_main_v164, val_main_v162, val_main_v161, val_main_v160, val_main_v4, val_main_v76, val_main_v75, val_main_v74, val_main_v70]
  rw [r130' H, EReal.coe_add, EReal.coe_mul, EReal.coe_mul]
  simp only [a0 H, a2 H, a4 H]

theorem r165 : IsV (φ := .f32) (a := 2048) (b := 3072) (val_main_v165 (F := Ideal) x0 x1 x2 x3 x4) (ref8 X) := by
  intro t l
  pointwise [val_main_v165, val_main_v155, val_main_v154]
  simp only [r164 H, r139 H, r142 H]
  rw [ref8, coe_ite, coe_ite]
  split
  · rfl
  · simp only [show l.val - 2048 - 512 = l.val - 2560 by omega]
    split <;> split <;> first | rfl | (exfalso; omega)

theorem r158 (t : Fin 2048) (h : Fin 32) : val_main_v163 (F := Ideal) x0 x1 x3 (ix2 t h)
    = ((∑ p ∈ range 64, X.xbc t (h * 64 + p) * f130 X (t / 128) (t % 128) (h / 8) (h % 8) p : ℝ) : EReal) := by
  pointwise [val_main_v163, val_main_cst_24, val_main_v159, val_main_v158, val_main_cst_23, val_main_v157, val_main_v3, val_main_v0]
  simp only [r130' H, a1 H, ← sumFin, EReal.coe_mul, sum_one]

theorem r166 : IsV (φ := .f32) (a := 2048) (b := 128) (val_main_v166 (F := Ideal) x0 x1 x3) (ref9 X) := by
  intro t h
  pointwise [val_main_v166, val_main_call18_v0, val_main_c_25]
  rw [ref9, coe_ite]
  simp only [r158 H, sit0]
  rfl

theorem r167 : IsV (φ := .f32) (a := 2048) (b := 128) (val_main_v167 (F := Ideal) x0 x1 x2 x3) (ref10 X) := by
  intro t h
  pointwise [val_main_v167, val_main_call19_v0, val_main_c_26, val_main_v153, val_main_v152]
  rw [ref10, coe_ite]
  simp only [r151 H, sit0]
  rfl

end Cert.RefVal
-- ==== Proof.Host.lean ====
/-
  What the host's lines before the call leave in the call's operands, by the real entries of the arguments.
-/
module

public import proofs.«01_k».proof.Proof.RefVal2
public import Idealize.ShloMosaic.Lib.StableHlo.ReadAt

@[expose] public section

set_option maxRecDepth 16384

noncomputable section

namespace Cert.KernelIdeal.Body

open Cert.KernelIdeal Cert.KernelIdeal.Gen Idealize.ShloMosaic Idealize.ShloMosaic.TcCoe
open Finset (range)

variable (m : (ℓ : Loc nD τ sig) → Buf (Elt Ideal) ℓ) (c : Dev nD)

theorem read41 (t l : Fin 2048) : V m c main_v41 (ix2 t l) = m (c, Proc.devRef .tc main_arg2) (ix2 t (⟨l / 64, by omega⟩ : Fin 32)) := by
  unfold V
  simp only [List.flatten_cons, List.flatten_nil]
  after_reads_at

theorem read43 (t l : Fin 2048) : V m c main_v43 (ix2 t l) = m (c, Proc.devRef .tc main_arg3) (ix2 t (⟨l / 64, by omega⟩ : Fin 32)) := by
  unfold V
  simp only [List.flatten_cons, List.flatten_nil]
  after_reads_at

theorem read44 (h : Fin 32) (t : Fin 2048) : V m c main_v44 (ix2 h t) = m (c, Proc.devRef .tc main_arg3) (ix2 t h) := by
  unfold V
  simp only [List.flatten_cons, List.flatten_nil]
  after_reads_at

theorem toNat_w (k : ℕ) (hk : k < 2048) : (BitVec.ofNat 32 k).toNat = k := by
  rw [BitVec.toNat_ofNat]; exact Nat.mod_eq_of_lt (by omega)

theorem msb_w (k : ℕ) (hk : k < 2048) : (BitVec.ofNat 32 k).msb = false := by
  rw [BitVec.msb_eq_decide, toNat_w k hk]; simp; omega

theorem div64 (k : ℕ) (hk : k < 2048) : IntOp.divsi ArithUnit.host (BitVec.ofNat 32 k) 64#32 = BitVec.ofNat 32 (k / 64) := by
  have h : ¬ IntOp.SDivCorner (BitVec.ofNat 32 k) 64#32 := by
    unfold IntOp.SDivCorner
    rintro (h | h)
    · exact absurd h (by decide)
    · exact absurd h.2 (by decide)
  rw [IntOp.divsi, if_neg h, BitVec.sdiv_eq, msb_w k hk]
  show (BitVec.ofNat 32 k).udiv 64#32 = _
  apply BitVec.eq_of_toNat_eq
  rw [BitVec.udiv_eq, BitVec.toNat_udiv, toNat_w k hk, BitVec.toNat_ofNat]
  rw [toNat_w (k / 64) (by omega)]

theorem floor64 (k : ℕ) (hk : k < 2048) :
    Scalar.select (IntOp.andi
        (IntOp.cmpi .ne (if BitVec.ofNat 32 k = 0 then (0 : BitVec 32) else if (BitVec.ofNat 32 k).msb = true then -1 else 1)
          (if (64#32 : BitVec 32) = 0 then (0 : BitVec 32) else if BitVec.msb (64#32 : BitVec 32) = true then -1 else 1))
        (IntOp.cmpi .ne (IntOp.remsi ArithUnit.host (BitVec.ofNat 32 k) 64#32) 0#32))
      (IntOp.subi (IntOp.divsi ArithUnit.host (BitVec.ofNat 32 k) 64#32) 1#32) (IntOp.divsi ArithUnit.host (BitVec.ofNat 32 k) 64#32)
      = BitVec.ofNat 32 (k / 64) := by
  rw [div64 k hk]
  by_cases h : k = 0
  · subst h; rfl
  · have h0 : ¬ (BitVec.ofNat 32 k = 0) := by
      intro e
      have := congrArg BitVec.toNat e
      rw [toNat_w k hk] at this
      exact h this
    rw [if_neg h0, msb_w k hk]
    have e : (IntOp.cmpi .ne (if false = true then (-1 : BitVec 32) else 1)
          (if (64#32 : BitVec 32) = 0 then (0 : BitVec 32) else if BitVec.msb (64#32 : BitVec 32) = true then -1 else 1)) = 0#1 := by rfl
    rw [e]
    have e2 : ∀ y : BitVec 1, IntOp.andi 0#1 y = 0#1 := by decide
    rw [e2]
    rfl

theorem read54 (g : Fin 4) (l : Fin 512) (n : Fin 128) : V m c main_v54 (ix3 g l n) = ((one g.val l.val n.val : ℝ) : EReal) := by
  unfold V
  simp only [List.flatten_cons, List.flatten_nil]
  after_reads_at
  have e : (id (constantI S_ 32 64#32) ix0 : BitVec 32) = 64#32 := rfl
  rw [e]
  have k := floor64 (g.val * 512 + l.val) (by omega)
  rw [k, one]
  rw [cmpi_eq_nat _ _ (by omega) (by omega)]
  by_cases h : n.val = 8 * g.val + l.val / 64
  · rw [if_pos h, decide_eq_true (by omega)]
    show (((BitVec.ofBool true).toNat : ℝ) : EReal) = _
    simp
  · rw [if_neg h, decide_eq_false (by omega)]
    show (((BitVec.ofBool false).toNat : ℝ) : EReal) = _
    simp

/-- The chunks' decay exponents behind a zero, with both operands in view. -/
def cat2 (a : FVec Ideal S4x8x1 .f32) (b : FVec Ideal S4x8x16 .f32) : FVec Ideal S4x8x17 .f32 :=
  concatenate S4x8x17 2 [⟨S4x8x1, a⟩, ⟨S4x8x16, b⟩] concatenates_S4x8x1_S4x8x16_S4x8x17_d2

theorem cat2_eq (a : FVec Ideal S4x8x1 .f32) (b : FVec Ideal S4x8x16 .f32) :
    concatenate S4x8x17 2 [⟨S4x8x1, a⟩, ⟨S4x8x16, b⟩] concatenates_S4x8x1_S4x8x16_S4x8x17_d2 = cat2 a b := rfl

theorem read39 : V m c main_v39 = shapeCast S16x128x2048 (transpose S16x128x4x8x64 [0, 4, 1, 2, 3]
    (Cert.ReferenceIdeal.Read.val_main_v55 (F := Ideal) (m (c, Proc.devRef .tc main_arg1)) (m (c, Proc.devRef .tc main_arg2)) (m (c, Proc.devRef .tc main_arg3)))
      transposes_S16x4x8x64x128_S16x128x4x8x64_0_4_1_2_3) shapeCasts_S16x128x4x8x64_S16x128x2048 := by
  unfold V
  simp only [List.flatten_cons, List.flatten_nil]
  after_reads_simp [cat2_eq]
  simp -implicitDefEqProofs only [StableHlo.TRef.toBuf, StableHlo.TRef.ofBuf, cast_cast, cast_eq]
  simp only [Cert.ReferenceIdeal.Read.val_main_v55, Cert.ReferenceIdeal.Read.val_main_v54, Cert.ReferenceIdeal.Read.val_main_v53, Cert.ReferenceIdeal.Read.val_main_v52, Cert.ReferenceIdeal.Read.val_main_v51_0, Cert.ReferenceIdeal.Read.val_main_call10_v2, Cert.ReferenceIdeal.Read.val_main_call10_v0, Cert.ReferenceIdeal.Read.val_main_cst_7, Cert.ReferenceIdeal.Read.val_main_v50, Cert.ReferenceIdeal.Read.val_main_v51_1, Cert.ReferenceIdeal.Read.val_main_call9_v4, Cert.ReferenceIdeal.Read.val_main_call9_v2, Cert.ReferenceIdeal.Read.val_main_call9_v3, Cert.ReferenceIdeal.Read.val_main_call9_v0, Cert.ReferenceIdeal.Read.val_main_call9_v1, Cert.ReferenceIdeal.Read.val_main_call9_c, Cert.ReferenceIdeal.Read.val_main_v49, Cert.ReferenceIdeal.Read.val_main_c_6, Cert.ReferenceIdeal.Read.val_main_call9_v5, Cert.ReferenceIdeal.Read.val_main_call9_c_0, Cert.ReferenceIdeal.Read.val_main_v48, Cert.ReferenceIdeal.Read.val_main_call8_call0_v0, Cert.ReferenceIdeal.Read.val_main_call8_call0_cst, Cert.ReferenceIdeal.Read.val_main_v47_0, Cert.ReferenceIdeal.Read.val_main_v47_1, Cert.ReferenceIdeal.Read.val_main_v46, Cert.ReferenceIdeal.Read.val_main_call7_v2, Cert.ReferenceIdeal.Read.val_main_call7_v0, Cert.ReferenceIdeal.Read.val_main_cst_5, Cert.ReferenceIdeal.Read.val_main_call6_v0, Cert.ReferenceIdeal.Read.val_main_call6_v1, Cert.ReferenceIdeal.Read.val_main_call6_v2, Cert.ReferenceIdeal.Read.val_main_call6_v3, Cert.ReferenceIdeal.Read.val_main_call6_v4, Cert.ReferenceIdeal.Read.val_main_call6_v5, Cert.ReferenceIdeal.Read.val_main_call6_c, Cert.ReferenceIdeal.Read.val_main_call6_c_0, Cert.ReferenceIdeal.Read.val_main_c_4, Cert.ReferenceIdeal.Read.val_main_v45, Cert.ReferenceIdeal.Read.val_main_v44, Cert.ReferenceIdeal.Read.val_main_v43, Cert.ReferenceIdeal.Read.val_main_v42, Cert.ReferenceIdeal.Read.val_main_v41, Cert.ReferenceIdeal.Read.val_main_v40, Cert.ReferenceIdeal.Read.val_main_v39, Cert.ReferenceIdeal.Read.val_main_v38, Cert.ReferenceIdeal.Read.val_main_cst_2, Cert.ReferenceIdeal.Read.val_main_v37, Cert.ReferenceIdeal.Read.val_main_v36, Cert.ReferenceIdeal.Read.val_main_v35, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_v29, Cert.ReferenceIdeal.Read.val_main_v12, Cert.ReferenceIdeal.Read.val_main_v11, Cert.ReferenceIdeal.Read.val_main_v10, Cert.ReferenceIdeal.Read.val_main_call0_call0_v0, Cert.ReferenceIdeal.Read.val_main_call0_call0_cst, Cert.ReferenceIdeal.Read.val_main_v8, Cert.ReferenceIdeal.Read.val_main_v7, Cert.ReferenceIdeal.Read.val_main_v6, Cert.ReferenceIdeal.Read.val_main_v5, Cert.ReferenceIdeal.Read.val_main_v4, Cert.ReferenceIdeal.Read.val_main_v3, Cert.ReferenceIdeal.Read.val_main_v1, Cert.ReferenceIdeal.Read.val_main_v0]
  congr 5

end Cert.KernelIdeal.Body
-- ==== Proof.Alg.lean ====
/-
  The reference's real functions and the kernel's agree: the chunk's own quantities.
-/
module

public import proofs.«01_k».proof.Proof.Host

@[expose] public section

set_option maxRecDepth 16384

noncomputable section

namespace Cert.Alg

open Cert.KernelIdeal.Body Cert.RefVal
open Finset (range)

/-! ## Sums -/

theorem sum_le (f : ℕ → ℝ) (N j : ℕ) (hj : j < N) : ∑ i ∈ range N, (if i ≤ j then f i else 0) = psum f (j + 1) := by
  rw [psum, ← Finset.sum_filter]
  congr 1
  ext i
  simp only [Finset.mem_filter, Finset.mem_range]
  omega

theorem sum_lt (f : ℕ → ℝ) (N k : ℕ) (hk : k ≤ N) : ∑ i ∈ range N, (if i < k then f i else 0) = psum f k := by
  rw [psum, ← Finset.sum_filter]
  congr 1
  ext i
  simp only [Finset.mem_filter, Finset.mem_range]
  omega

theorem sum_gt (f : ℕ → ℝ) (z k : ℕ) (h : k ≤ z) : ∑ i ∈ range (z + 1), (if k < i then f i else 0) = psum f (z + 1) - psum f (k + 1) := by
  rw [eq_sub_iff_add_eq, ← sum_lt f (z + 1) (k + 1) (by omega), psum, ← Finset.sum_add_distrib]
  refine Finset.sum_congr rfl fun i _ => ?_
  by_cases hi : k < i
  · rw [if_pos hi, if_neg (by omega), add_zero]
  · rw [if_neg hi, if_pos (by omega), zero_add]

theorem sum_between (f : ℕ → ℝ) (N j k : ℕ) (hj : j < N) (hk : k ≤ j) :
    ∑ i ∈ range N, (if i ≤ j then iflt k i (f i) else 0) = psum f (j + 1) - psum f (k + 1) := by
  rw [sum_le (fun i => iflt k i (f i)) N j hj, ← sum_gt f j k hk]
  rfl

/-- A sum over a group's columns, head by head. -/
theorem sum_cols (f : ℕ → ℝ) : ∑ l ∈ range 512, f l = ∑ r ∈ range 8, ∑ p ∈ range 64, f (64 * r + p) := by
  have h := Finset.sum_product' (range 8) (range 64) fun r p => f (64 * r + p)
  rw [← h]
  symm
  refine Finset.sum_nbij' (fun x => 64 * x.1 + x.2) (fun l => (l / 64, l % 64)) ?_ ?_ ?_ ?_ ?_
  all_goals intro a ha
  all_goals simp only [Finset.mem_product, Finset.mem_range, Prod.ext_iff] at ha ⊢
  all_goals first | omega | rfl | skip

variable (X : RA) (c g : ℕ)

/-- Chunk `c`'s blocks of group `g`, with the state's gradient that the later chunks leave. -/
def kg : RG := (X.chunk c).grp (X.S (15 - c)) g

variable {X c g} {r p j t n : ℕ}

theorem f12_eq (hj : j < 128) : f12 X g r c j = X.acs c (8 * g + r) j := by
  rw [f12, sum_le _ _ _ hj, RA.acs]
  simp only [psum, f11, Nat.mul_comm]

theorem acs_eq (hr : r < 8) (hp : p < 64) : (kg X c g).acs j (64 * r + p) = X.acs c (8 * g + r) j := by
  rw [RG.acs, RA.acs]
  show psum (fun i => X.da (128 * c + i) ((512 * g + (64 * r + p)) / 64)) (j + 1) = _
  rw [show (512 * g + (64 * r + p)) / 64 = 8 * g + r by omega]

theorem aT_eq (h : ℕ) : (X.chunk c).aT h t = X.acs c h t := rfl

theorem f18_eq (hj : j < 128) (ht : t ≤ j) : f18 X g r c j t = X.acs c (8 * g + r) j - X.acs c (8 * g + r) t := by
  rw [f18, sum_between _ _ _ _ hj ht, RA.acs, RA.acs]
  simp only [psum, f11, Nat.mul_comm]

theorem acs_le (hda : ∀ t h, X.da t h ≤ 0) (h : ℕ) (ht : t ≤ j) : X.acs c h j ≤ X.acs c h t := by
  have h1 : Antitone fun n => psum (fun i => X.da (128 * c + i) h) n := antitone_nat_of_succ_le fun n => by
    simp only [psum, Finset.sum_range_succ]
    linarith [hda (128 * c + n) h]
  exact h1 (by omega : t + 1 ≤ j + 1)

theorem lm_eq (hda : ∀ t h, X.da t h ≤ 0) (hr : r < 8) (hj : j < 128) (ht : t < 128) :
    (kg X c g).lm (X.chunk c).aT r (8 * g + r) j t = f22 X g r c j t := by
  have e := acs_eq (X := X) (c := c) (g := g) (j := j) hr (show 0 < 64 by omega)
  rw [Nat.add_zero] at e
  rw [RG.lm, f22, ifle, e, aT_eq]
  by_cases h : t ≤ j
  · rw [if_pos h, if_pos h, f18_eq hj h, min_eq_left]
    linarith [acs_le (X := X) (c := c) hda (8 * g + r) h]
  · rw [if_neg h, if_neg h]

theorem cb_eq : (kg X c g).cb j t = f23 X g c j t := by
  rw [RG.cb, f23]
  refine Finset.sum_congr rfl fun n _ => ?_
  show X.xbc (128 * c + j) (2560 + 128 * g + n) * X.xbc (128 * c + t) (2048 + 128 * g + n) = X.xbc (c * 128 + j) (2560 + (g * 128 + n)) * X.xbc (c * 128 + t) (2048 + (g * 128 + n))
  congr 2 <;> omega

theorem c_eq : (kg X c g).c j n = f9 X c j g n := by
  show X.xbc (128 * c + j) (2560 + 128 * g + n) = X.xbc (c * 128 + j) (2560 + (g * 128 + n))
  congr 1 <;> omega

theorem b_eq : (kg X c g).b j n = f8 X c j g n := by
  show X.xbc (128 * c + j) (2048 + 128 * g + n) = X.xbc (c * 128 + j) (2048 + (g * 128 + n))
  congr 1 <;> omega

theorem dy_eq : (kg X c g).dy j (64 * r + p) = f77 X c j g r p := by
  show X.dy (128 * c + j) (512 * g + (64 * r + p)) = X.dy (c * 128 + j) ((g * 8 + r) * 64 + p)
  congr 1 <;> omega

theorem xs_eq : (kg X c g).xs j (64 * r + p) = X.xbc (c * 128 + j) ((g * 8 + r) * 64 + p) := by
  show X.xbc (128 * c + j) (512 * g + (64 * r + p)) = X.xbc (c * 128 + j) ((g * 8 + r) * 64 + p)
  congr 1 <;> omega

theorem dtx_eq (hp : p < 64) : (kg X c g).dtx j (64 * r + p) = X.dt (c * 128 + j) (g * 8 + r) := by
  show X.dt (128 * c + j) ((512 * g + (64 * r + p)) / 64) = X.dt (c * 128 + j) (g * 8 + r)
  congr 1 <;> omega

theorem xdt_eq (hp : p < 64) : (kg X c g).xdt j (64 * r + p) = f7 X c j g r p := by
  rw [RG.xdt, xs_eq, dtx_eq hp, f7]

theorem dec_eq (hr : r < 8) (hp : p < 64) (hj : j < 128) : (kg X c g).dec j (64 * r + p) = f32 X g r c j := by
  rw [RG.dec, acs_eq hr hp, acs_eq hr hp, f32, f12_eq (by omega), f12_eq hj]

theorem xd_eq (hr : r < 8) (hp : p < 64) (hj : j < 128) : (kg X c g).xd j (64 * r + p) = f36 X c j g r p := by
  rw [RG.xd, xdt_eq hp, dec_eq hr hp hj, f36]

theorem etot_eq (hr : r < 8) (hp : p < 64) : (kg X c g).etot (64 * r + p) = Real.exp (X.tot c (8 * g + r)) := by
  rw [RG.etot, acs_eq hr hp, RA.tot]

/-! ## The entering states -/

theorem st_eq (hr : r < 8) (hp : p < 64) : X.st c n (512 * g + (64 * r + p)) = f37 X c g r p n := by
  rw [RA.st, f37]
  refine Finset.sum_congr rfl fun j hj => ?_
  rw [f36, ← xdt_eq (X := X) hp, ← dec_eq (X := X) hr hp (Finset.mem_range.mp hj), ← b_eq]
  rw [show (512 * g + (64 * r + p)) / 64 = 8 * g + r by omega, show (512 * g + (64 * r + p)) / 512 = g by omega, RG.dec, acs_eq hr hp, acs_eq hr hp]
  rfl

/-- The sum of the decay exponents of the chunks before `z`. -/
def T (X : RA) (h z : ℕ) : ℝ := psum (fun i => X.tot i h) z

theorem ct_sum (h z : ℕ) : psum (X.ct h) (z + 1) = T X h z := by
  rw [psum, Finset.sum_range_succ', T, psum]
  simp [RA.ct]

theorem dch_eq (h z k : ℕ) : X.dch h z k = if k + 1 ≤ z then Real.exp (T X h z - T X h (k + 1)) else 0 := by
  rw [RA.dch]
  by_cases hk : k + 1 ≤ z
  · rw [if_pos hk, if_pos hk, RA.seg, sum_gt _ _ _ hk, ct_sum, ct_sum]
  · rw [if_neg hk, if_neg hk]

theorem f41_eq (i : ℕ) : f41 X g r i = X.ct (8 * g + r) i := by
  rw [f41, RA.ct, f12_eq (by omega), RA.tot]

theorem f52_eq (z k : ℕ) (hz : z < 17) : f52 X g r z (1 + k) = X.dch (8 * g + r) z k := by
  rw [f52, ifle, RA.dch, Nat.add_comm 1 k]
  by_cases hk : k + 1 ≤ z
  · rw [if_pos hk, if_pos hk, f48, RA.seg]
    congr 1
    rw [sum_le (fun i => iflt (k + 1) i (f41 X g r i)) _ _ hz, psum]
    simp only [f41_eq]
    rfl
  · rw [if_neg hk, if_neg hk]

theorem sin_eq (hr : r < 8) (hp : p < 64) (z : ℕ) (hz : z < 17) : X.sin z n (512 * g + (64 * r + p)) = f55 X z g r p n := by
  rw [RA.sin, f55]
  refine Finset.sum_congr rfl fun j hj => ?_
  rw [st_eq hr hp, f52_eq _ _ hz, show (512 * g + (64 * r + p)) / 64 = 8 * g + r by omega]

theorem ksin_eq (hr : r < 8) (hp : p < 64) (hc : c < 16) : (kg X c g).sin n (64 * r + p) = f55 X c g r p n :=
  sin_eq hr hp c (by omega)

/-! ## The state's gradient -/

theorem dy0_eq (hr : r < 8) (hp : p < 64) (hj : j < 128) : (kg X c g).dy0 j (64 * r + p) = f82 X c j g r p := by
  rw [RG.dy0, dy_eq, acs_eq hr hp, f82, f56, f12_eq hj]

theorem f87_eq (hr : r < 8) (hp : p < 64) : ∑ t ∈ range 128, (kg X c g).c t n * (kg X c g).dy0 t (64 * r + p) = f87 X c g r p n := by
  rw [f87]
  refine Finset.sum_congr rfl fun t ht => ?_
  rw [dy0_eq hr hp (Finset.mem_range.mp ht), c_eq, mul_comm]

theorem f93_last : f93 X 15 g r p n = 0 := by
  rw [f93]
  refine Finset.sum_eq_zero fun z hz => ?_
  have := Finset.mem_range.mp hz
  rw [f52_eq z 15 (by omega), dch_eq, if_neg (by omega), mul_zero]

theorem f93_step (hc : c < 15) : f93 X c g r p n = f87 X (c + 1) g r p n + Real.exp (X.tot (c + 1) (8 * g + r)) * f93 X (c + 1) g r p n := by
  rw [f93, f93, Finset.mul_sum]
  have e : ∀ z ∈ range 16, f87 X z g r p n * f52 X g r z (1 + c)
      = (if z = c + 1 then f87 X z g r p n else 0) + Real.exp (X.tot (c + 1) (8 * g + r)) * (f87 X z g r p n * f52 X g r z (1 + (c + 1))) := by
    intro z hz
    have hz := Finset.mem_range.mp hz
    rw [f52_eq z c (by omega), f52_eq z (c + 1) (by omega), dch_eq, dch_eq]
    by_cases h1 : z = c + 1
    · subst h1
      rw [if_pos le_rfl, if_pos rfl, if_neg (by omega), sub_self, Real.exp_zero]
      ring
    · rw [if_neg h1]
      by_cases h2 : c + 1 ≤ z
      · rw [if_pos h2, if_pos (by omega)]
        have e2 : T X (8 * g + r) (c + 1 + 1) = T X (8 * g + r) (c + 1) + X.tot (c + 1) (8 * g + r) := by
          rw [T, psum, Finset.sum_range_succ]; rfl
        rw [e2, show T X (8 * g + r) z - T X (8 * g + r) (c + 1) = X.tot (c + 1) (8 * g + r) + (T X (8 * g + r) z - (T X (8 * g + r) (c + 1) + X.tot (c + 1) (8 * g + r))) by ring, Real.exp_add]
        ring
      · rw [if_neg h2, if_neg (by omega)]
        ring
  rw [Finset.sum_congr rfl e, Finset.sum_add_distrib, Finset.sum_ite_eq', if_pos (Finset.mem_range.mpr (by omega))]

theorem S_eq (hg : g < 4) (hr : r < 8) (hp : p < 64) (t : ℕ) (ht : t ≤ 15) : X.S t n (512 * g + (64 * r + p)) = f93 X (15 - t) g r p n := by
  induction t with
  | zero => exact f93_last.symm
  | succ t ih =>
    have ih := ih (by omega)
    rw [show 15 - (t + 1) = 14 - t by omega, f93_step (by omega), show 14 - t + 1 = 15 - t by omega, ← ih, ← f87_eq hr hp, ← etot_eq (X := X) (c := 15 - t) (g := g) hr hp]
    have e : kg X (15 - t) g = (X.chunk (15 - t)).grp (X.S t) g := by rw [kg, show 15 - (15 - t) = t by omega]
    show ((X.chunk (15 - t)).grp (X.S t) ((512 * g + (64 * r + p)) / 512)).dsn n ((512 * g + (64 * r + p)) % 512) = _
    rw [show (512 * g + (64 * r + p)) / 512 = g by omega, show (512 * g + (64 * r + p)) % 512 = 64 * r + p by omega, RG.dsn, ← e]
    rw [e]
    rfl

end Cert.Alg
-- ==== Proof.Alg2.lean ====
/-
  The reference's real functions and the kernel's agree: the results.
-/
module

public import proofs.«01_k».proof.Proof.Alg

@[expose] public section

set_option maxRecDepth 16384

noncomputable section

namespace Cert.Alg

open Cert.KernelIdeal.Body Cert.RefVal
open Finset (range)

variable {X : RA} {c g r p j t n : ℕ}

theorem dso_eq (hg : g < 4) (hr : r < 8) (hp : p < 64) (hc : c < 16) : (kg X c g).dso n (64 * r + p) = f93 X c g r p n := by
  have h := S_eq (X := X) (n := n) hg hr hp (15 - c) (by omega)
  rw [show 15 - (15 - c) = c by omega] at h
  rw [← h]
  rfl

theorem dxd_eq (hg : g < 4) (hr : r < 8) (hp : p < 64) (hc : c < 16) : (kg X c g).dxd j (64 * r + p) = f110 X c j g r p := by
  rw [RG.dxd, f110]
  refine Finset.sum_congr rfl fun n _ => ?_
  rw [dso_eq hg hr hp hc, b_eq, mul_comm]

theorem piece_eq (hda : ∀ t h, X.da t h ≤ 0) (hr : r < 8) (ht : t < 128) :
    (kg X c g).piece (X.chunk c).aT r (8 * g + r) t p = f129 X c t g r p := by
  rw [RG.piece, f129]
  refine Finset.sum_congr rfl fun j hj => ?_
  rw [lm_eq hda hr (Finset.mem_range.mp hj) ht, cb_eq, dy_eq, f26]
  ring

theorem dxdt_eq (hda : ∀ t h, X.da t h ≤ 0) (hg : g < 4) (hr : r < 8) (hp : p < 64) (hc : c < 16) (hj : j < 128) :
    (kg X c g).dxdt (X.chunk c).aT g j (64 * r + p) = f130 X c j g r p := by
  rw [RG.dxdt, dxd_eq hg hr hp hc, dec_eq hr hp hj, show (64 * r + p) / 64 = r by omega, show (64 * r + p) % 64 = p by omega,
    piece_eq hda hr hj, f130, f115]

theorem dml_eq (hda : ∀ t h, X.da t h ≤ 0) (hr : r < 8) (hj : j < 128) (ht : t < 128) :
    (kg X c g).dml (X.chunk c).aT r (8 * g + r) j t = f127 X g r c j t * f22 X g r c j t := by
  rw [RG.dml, lm_eq hda hr hj ht, f127]
  congr 1
  refine Finset.sum_congr rfl fun p hp => ?_
  rw [dy_eq, xdt_eq (Finset.mem_range.mp hp)]

theorem dcb_eq (hda : ∀ t h, X.da t h ≤ 0) (hj : j < 128) (ht : t < 128) : (kg X c g).dcb (X.chunk c).aT (8 * g) 8 j t = f136 X g c j t := by
  rw [RG.dcb, f136]
  exact Finset.sum_congr rfl fun r hr => dml_eq hda (Finset.mem_range.mp hr) hj ht

theorem dseg_eq (hda : ∀ t h, X.da t h ≤ 0) (hr : r < 8) (hj : j < 128) (ht : t < 128) :
    (kg X c g).dseg (X.chunk c).aT r (8 * g + r) j t = f144 X g r c j t := by
  rw [RG.dseg, dml_eq hda hr hj ht, cb_eq, f144, f132, ifle, f22, ifle]
  by_cases h : t ≤ j
  · rw [if_pos h, if_pos h]; ring
  · rw [if_neg h, if_neg h]; ring

theorem outX_eq (hda : ∀ t h, X.da t h ≤ 0) (hg : g < 4) (hr : r < 8) (hp : p < 64) (hc : c < 16) (hj : j < 128) :
    (kg X c g).outX (X.chunk c).aT g j (64 * r + p)
      = X.dy (c * 128 + j) ((g * 8 + r) * 64 + p) * X.d ((g * 8 + r) * 64 + p) + f130 X c j g r p * X.dt (c * 128 + j) (g * 8 + r) := by
  rw [RG.outX, dxdt_eq hda hg hr hp hc hj, dy_eq, dtx_eq hp, f77]
  have e : (kg X c g).df (64 * r + p) = X.d ((g * 8 + r) * 64 + p) := by
    show X.d (512 * g + (64 * r + p)) = _
    congr 1; omega
  rw [e]

theorem outB_eq (hda : ∀ t h, X.da t h ≤ 0) (hg : g < 4) (hc : c < 16) (hj : j < 128) :
    (kg X c g).outB (X.chunk c).aT g j n = f139 X c j g n := by
  rw [RG.outB, f139, RG.db0, sum_cols, f108]
  congr 1
  · refine Finset.sum_congr rfl fun r hr => Finset.sum_congr rfl fun p hp => ?_
    have hr := Finset.mem_range.mp hr
    have hp := Finset.mem_range.mp hp
    rw [xd_eq hr hp hj, dso_eq hg hr hp hc, mul_comm]
  · refine Finset.sum_congr rfl fun t ht => ?_
    rw [dcb_eq hda (Finset.mem_range.mp ht) hj, c_eq]

theorem outC_eq (hda : ∀ t h, X.da t h ≤ 0) (hg : g < 4) (hc : c < 16) (hj : j < 128) :
    (kg X c g).outC (X.chunk c).aT g j n = f142 X c j g n := by
  rw [RG.outC, f142, RG.dc0, sum_cols, f86]
  congr 1
  · refine Finset.sum_congr rfl fun r hr => Finset.sum_congr rfl fun p hp => ?_
    have hr := Finset.mem_range.mp hr
    have hp := Finset.mem_range.mp hp
    rw [dy0_eq hr hp hj, ksin_eq hr hp hc]
  · refine Finset.sum_congr rfl fun t ht => ?_
    rw [dcb_eq hda hj (Finset.mem_range.mp ht), b_eq]

theorem o8_eq (hda : ∀ t h, X.da t h ≤ 0) (t l : ℕ) (ht : t < 2048) (hl : l < 3072) : X.o8 (15 - t / 128) (t % 128) l = ref8 X t l := by
  have hc : t / 128 < 16 := by omega
  have hj : t % 128 < 128 := by omega
  rw [RA.o8, show 15 - (15 - t / 128) = t / 128 by omega, out8, ref8]
  by_cases h1 : l < 2048
  · rw [if_pos h1, if_pos h1]
    have h := outX_eq (g := l / 512) (r := l / 64 % 8) (p := l % 64) hda (by omega) (by omega) (by omega) hc hj
    rw [show 64 * (l / 64 % 8) + l % 64 = l % 512 by omega, show t / 128 * 128 + t % 128 = t by omega,
      show (l / 512 * 8 + l / 64 % 8) * 64 + l % 64 = l by omega, show l / 512 * 8 + l / 64 % 8 = l / 64 by omega] at h
    rw [show l / 64 / 8 = l / 512 by omega]
    exact h
  · rw [if_neg h1, if_neg h1]
    by_cases h2 : l < 2560
    · rw [if_pos h2, if_pos h2]
      exact outB_eq hda (by omega) hc hj
    · rw [if_neg h2, if_neg h2]
      exact outC_eq hda (by omega) hc hj

/-! ## The step sizes -/

/-- The heads' one-hot columns pick out the columns of head `n`. -/
theorem sum_one_hot (f : ℕ → ℝ) (g n : ℕ) :
    ∑ l ∈ range 512, f l * one g l n = if n / 8 = g then ∑ p ∈ range 64, f (64 * (n % 8) + p) else 0 := by
  rw [sum_cols]
  have e : ∀ r ∈ range 8, ∑ p ∈ range 64, f (64 * r + p) * one g (64 * r + p) n = if n = 8 * g + r then ∑ p ∈ range 64, f (64 * r + p) else 0 := by
    intro r _
    by_cases h : n = 8 * g + r
    · rw [if_pos h]
      refine Finset.sum_congr rfl fun p hp => ?_
      have hp := Finset.mem_range.mp hp
      rw [one, if_pos (by omega), mul_one]
    · rw [if_neg h]
      refine Finset.sum_eq_zero fun p hp => ?_
      have hp := Finset.mem_range.mp hp
      rw [one, if_neg (by omega), mul_zero]
  rw [Finset.sum_congr rfl e]
  by_cases h : n / 8 = g
  · rw [if_pos h, Finset.sum_eq_single (n % 8)]
    · rw [if_pos (by omega)]
    · intro r hr hne
      rw [if_neg]
      have := Finset.mem_range.mp hr
      omega
    · intro hn
      exact absurd (Finset.mem_range.mpr (by omega)) hn
  · rw [if_neg h]
    refine Finset.sum_eq_zero fun r hr => ?_
    rw [if_neg]
    have := Finset.mem_range.mp hr
    omega

/-- Only head `n`'s own group has a part. -/
theorem sum_groups (f : ℕ → ℝ) (n : ℕ) : ∑ g ∈ range 4, (if n / 8 = g then f g else 0) = if n < 32 then f (n / 8) else 0 := by
  rw [Finset.sum_ite_eq]
  by_cases h : n < 32
  · rw [if_pos h, if_pos (Finset.mem_range.mpr (by omega))]
  · rw [if_neg h, if_neg]
    intro h2
    have := Finset.mem_range.mp h2
    omega

theorem o9_eq (hda : ∀ t h, X.da t h ≤ 0) (t n : ℕ) (ht : t < 2048) (hn : n < 128) : X.o9 (15 - t / 128) (t % 128) n = ref9 X t n := by
  have hc : t / 128 < 16 := by omega
  have hj : t % 128 < 128 := by omega
  rw [RA.o9, show 15 - (15 - t / 128) = t / 128 by omega, out9, ref9]
  simp only [RG.ddt, sum_one_hot]
  rw [sum_groups fun g => ∑ p ∈ range 64, ((X.chunk (t / 128)).grp (X.S (15 - t / 128)) g).dxdt (X.chunk (t / 128)).aT g (t % 128) (64 * (n % 8) + p)
    * ((X.chunk (t / 128)).grp (X.S (15 - t / 128)) g).xs (t % 128) (64 * (n % 8) + p)]
  by_cases h : n < 32
  · rw [if_pos h, if_pos h]
    refine Finset.sum_congr rfl fun p hp => ?_
    have hp := Finset.mem_range.mp hp
    have e1 := dxdt_eq (X := X) (g := n / 8) (r := n % 8) (p := p) hda (by omega) (by omega) hp hc hj
    have e2 := xs_eq (X := X) (c := t / 128) (g := n / 8) (j := t % 128) (r := n % 8) (p := p)
    rw [show t / 128 * 128 + t % 128 = t by omega, show n / 8 * 8 + n % 8 = n by omega] at e2
    rw [mul_comm, ← e1, ← e2]
    rfl
  · rw [if_neg h, if_neg h]

/-! ## The skip weights -/

theorem Dd_eq (l : ℕ) : X.Dd 16 l = f73 X l := by
  have h : ∀ t, X.Dd t l = ∑ i ∈ range t, ∑ j ∈ range 128, X.dy (128 * (15 - i) + j) l * X.xbc (128 * (15 - i) + j) l := by
    intro t
    induction t with
    | zero => rfl
    | succ t ih => rw [Finset.sum_range_succ, ← ih]; rfl
  rw [h, f73, ← Finset.sum_product' (range 16) (range 128) fun i j => X.dy (128 * (15 - i) + j) l * X.xbc (128 * (15 - i) + j) l]
  refine Finset.sum_nbij' (fun x => 128 * (15 - x.1) + x.2) (fun t => (15 - t / 128, t % 128)) ?_ ?_ ?_ ?_ ?_
  all_goals intro a ha
  all_goals simp only [Finset.mem_product, Finset.mem_range, Prod.ext_iff] at ha ⊢
  all_goals first | omega | exact mul_comm _ _

end Cert.Alg
-- ==== Proof.Alg3.lean ====
/-
  The reference's real functions and the kernel's agree: the gradient of the log-decays.
-/
module

public import proofs.«01_k».proof.Proof.Alg2

@[expose] public section

set_option maxRecDepth 16384

noncomputable section

namespace Cert.Alg

open Cert.KernelIdeal.Body Cert.RefVal
open Finset (range)

variable {X : RA} {c g r p j t n : ℕ}

/-! ## The decays between chunks -/

/-- The decay over chunk `c` joins the decays before and after it. -/
theorem dch_join (h z : ℕ) (hz : c + 1 ≤ z) (hj : j + 1 ≤ c) :
    X.dch h z c * Real.exp (X.tot c h) * X.dch h c j = X.dch h z j := by
  rw [dch_eq, dch_eq, dch_eq, if_pos hz, if_pos hj, if_pos (by omega), ← Real.exp_add, ← Real.exp_add]
  have e2 : T X h (c + 1) = T X h c + X.tot c h := by
    rw [T, psum, Finset.sum_range_succ]; rfl
  rw [e2]
  congr 1
  ring

/-- A state's gradient against the state, by the chunks before and after. -/
theorem inner_eq (hc : c < 16) : ∑ p ∈ range 64, (∑ n ∈ range 128, f93 X c g r p n * f55 X c g r p n) * Real.exp (X.tot c (8 * g + r))
    = ∑ j ∈ range 16, ∑ z ∈ range 16, if c + 1 ≤ z ∧ j + 1 ≤ c then f91 X g r z j * X.dch (8 * g + r) z j else 0 := by
  have e : ∀ p n, f93 X c g r p n * f55 X c g r p n * Real.exp (X.tot c (8 * g + r))
      = ∑ j ∈ range 16, ∑ z ∈ range 16, f87 X z g r p n * f37 X j g r p n * (if c + 1 ≤ z ∧ j + 1 ≤ c then X.dch (8 * g + r) z j else 0) := by
    intro p n
    rw [f93, f55, Finset.sum_mul, Finset.sum_mul, Finset.sum_comm]
    refine Finset.sum_congr rfl fun z hz => ?_
    rw [Finset.mul_sum, Finset.sum_mul]
    refine Finset.sum_congr rfl fun j hj => ?_
    have hz := Finset.mem_range.mp hz
    have hj := Finset.mem_range.mp hj
    rw [f52_eq z c (by omega), f52_eq c j (by omega)]
    by_cases h : c + 1 ≤ z ∧ j + 1 ≤ c
    · rw [if_pos h, ← dch_join _ z h.1 h.2]; ring
    · rw [if_neg h]
      by_cases h1 : c + 1 ≤ z
      · rw [dch_eq _ c j, if_neg (fun h2 => h ⟨h1, h2⟩)]; ring
      · rw [dch_eq _ z c, if_neg h1]; ring
  have e1 : ∀ p ∈ range 64, (∑ n ∈ range 128, f93 X c g r p n * f55 X c g r p n) * Real.exp (X.tot c (8 * g + r))
      = ∑ j ∈ range 16, ∑ z ∈ range 16, (∑ n ∈ range 128, f87 X z g r p n * f37 X j g r p n) * (if c + 1 ≤ z ∧ j + 1 ≤ c then X.dch (8 * g + r) z j else 0) := by
    intro p _
    rw [Finset.sum_mul, Finset.sum_congr rfl fun n _ => e p n, Finset.sum_comm]
    refine Finset.sum_congr rfl fun j _ => ?_
    rw [Finset.sum_comm]
    exact Finset.sum_congr rfl fun z _ => (Finset.sum_mul ..).symm
  rw [Finset.sum_congr rfl e1, Finset.sum_comm]
  refine Finset.sum_congr rfl fun j _ => ?_
  rw [Finset.sum_comm]
  refine Finset.sum_congr rfl fun z _ => ?_
  rw [← Finset.sum_mul, ← f91, mul_ite, mul_zero]

theorem f99_eq (hc : c < 16) : f99 X g r (1 + c) = ∑ p ∈ range 64, (∑ n ∈ range 128, f93 X c g r p n * f55 X c g r p n) * Real.exp (X.tot c (8 * g + r)) := by
  rw [inner_eq hc, f99, Finset.sum_range_succ']
  have e0 : iflt 0 (1 + c) (f97 X g r (1 + c) 0) = 0 := by
    rw [iflt, if_pos (by omega), f97]
    refine Finset.sum_eq_zero fun z _ => ?_
    have e : f94 X g r z 0 = 0 := by rw [f94, if_neg (by omega)]
    rw [f96, e, zero_mul, ifle, ite_self, ite_self]
  rw [e0, add_zero]
  refine Finset.sum_congr rfl fun j hj => ?_
  have hj := Finset.mem_range.mp hj
  rw [iflt, f97, Finset.sum_range_succ]
  have e16 : (if 1 + c ≤ 16 then f96 X g r 16 (j + 1) else 0) = 0 := by
    have e : f94 X g r 16 (j + 1) = 0 := by rw [f94, if_neg (by omega)]
    rw [f96, e, zero_mul, ifle, ite_self, ite_self]
  rw [e16, add_zero]
  by_cases h : j + 1 < 1 + c
  · rw [if_pos h]
    refine Finset.sum_congr rfl fun z hz => ?_
    have hz := Finset.mem_range.mp hz
    by_cases h1 : c + 1 ≤ z
    · rw [if_pos (by omega), if_pos ⟨h1, by omega⟩, f96, ifle, if_pos (by omega), f94, if_pos ⟨hz, by omega⟩, Nat.add_sub_cancel,
        show j + 1 = 1 + j by omega, f52_eq z j (by omega)]
    · rw [if_neg (by omega), if_neg (fun hh => h1 hh.1)]
  · rw [if_neg h]
    symm
    refine Finset.sum_eq_zero fun z _ => ?_
    rw [if_neg (fun hh => h (by omega))]

/-! ## One position's own part -/

theorem cs_eq (hr : r < 8) (hp : p < 64) (hc : c < 16) : (kg X c g).cs j (64 * r + p) = f59 X c j g r p := by
  rw [RG.cs, f59]
  refine Finset.sum_congr rfl fun n _ => ?_
  rw [ksin_eq hr hp hc, c_eq, mul_comm]

theorem gq_sum (hg : g < 4) (hr : r < 8) (hc : c < 16) (hj : j < 128) :
    ∑ p ∈ range 64, (kg X c g).gq j (64 * r + p) = f118 X g r c j := by
  rw [f118, f116, Finset.sum_mul]
  refine Finset.sum_congr rfl fun p hp => ?_
  have hp := Finset.mem_range.mp hp
  rw [RG.gq, dxd_eq hg hr hp hc, xd_eq hr hp hj, f36]
  ring

theorem dacsx_sum (hg : g < 4) (hr : r < 8) (hc : c < 16) (hj : j < 128) :
    ∑ p ∈ range 64, (kg X c g).dacsx j (64 * r + p) = f89 X g r c j - f118 X g r c j := by
  simp only [RG.dacsx]
  rw [Finset.sum_sub_distrib, gq_sum hg hr hc hj, f89, f83, Finset.sum_mul]
  congr 1
  refine Finset.sum_congr rfl fun p hp => ?_
  have hp := Finset.mem_range.mp hp
  rw [dy0_eq hr hp hj, cs_eq hr hp hc, f82]
  ring

theorem datot_sum (hg : g < 4) (hr : r < 8) (hc : c < 16) :
    ∑ p ∈ range 64, (kg X c g).datot (64 * r + p) = f99 X g r (1 + c) + ∑ j ∈ range 128, f118 X g r c j := by
  simp only [RG.datot]
  rw [Finset.sum_add_distrib, f99_eq hc]
  congr 1
  · refine Finset.sum_congr rfl fun p hp => ?_
    have hp := Finset.mem_range.mp hp
    rw [etot_eq hr hp]
    congr 1
    refine Finset.sum_congr rfl fun n _ => ?_
    rw [dso_eq hg hr hp hc, ksin_eq hr hp hc]
  · rw [Finset.sum_comm]
    exact Finset.sum_congr rfl fun j hj => gq_sum hg hr hc (Finset.mem_range.mp hj)

theorem own_eq (hg : g < 4) (hr : r < 8) (hc : c < 16) (hj : j < 128) :
    ∑ p ∈ range 64, (kg X c g).dacsx j (64 * r + p) + (if j = 127 then ∑ p ∈ range 64, (kg X c g).datot (64 * r + p) else 0) = f124 X g r c j := by
  rw [dacsx_sum hg hr hc hj, datot_sum hg hr hc, f124, f106, f105, f123]
  by_cases h : j = 127
  · rw [if_pos h, if_pos (by omega), if_pos (by omega)]; ring
  · rw [if_neg h, if_neg (by omega), if_neg (by omega)]; ring

/-! ## The chunk's running sum from behind -/

theorem sum_ge (f : ℕ → ℝ) (N i : ℕ) (hi : i ≤ N) : psum f N - psum f i = ∑ j ∈ range N, if i ≤ j then f j else 0 := by
  rw [sub_eq_iff_eq_add, ← sum_lt f N i hi, psum, ← Finset.sum_add_distrib]
  refine Finset.sum_congr rfl fun j _ => ?_
  by_cases h : i ≤ j
  · rw [if_pos h, if_neg (by omega), add_zero]
  · rw [if_neg h, if_pos (by omega), zero_add]

/-- Row sums less column sums of a lower triangle, summed from `i` on, leave the rows from `i` on left of column `i`. -/
theorem triangle (W : ℕ → ℕ → ℝ) (hW : ∀ j t, j < t → W j t = 0) (N i : ℕ) :
    ∑ j ∈ range N, (if i ≤ j then ∑ t ∈ range N, W j t - ∑ t ∈ range N, W t j else 0)
      = ∑ t ∈ range N, iflt t i (∑ j ∈ range N, if i ≤ j then W j t else 0) := by
  have e1 : ∀ j ∈ range N, (if i ≤ j then ∑ t ∈ range N, W j t - ∑ t ∈ range N, W t j else 0)
      = (∑ t ∈ range N, if i ≤ j then W j t else 0) - ∑ t ∈ range N, if i ≤ j then W t j else 0 := by
    intro j _
    by_cases h : i ≤ j
    · simp only [if_pos h]
    · simp only [if_neg h, Finset.sum_const_zero, sub_self]
  have e2 : ∀ t ∈ range N, iflt t i (∑ j ∈ range N, if i ≤ j then W j t else 0) = ∑ j ∈ range N, iflt t i (if i ≤ j then W j t else 0) := by
    intro t _
    by_cases h : t < i
    · simp only [iflt, if_pos h]
    · simp only [iflt, if_neg h, Finset.sum_const_zero]
  rw [Finset.sum_congr rfl e1, Finset.sum_sub_distrib, Finset.sum_comm (f := fun j t => if i ≤ j then W t j else 0), Finset.sum_congr rfl e2,
    Finset.sum_comm (f := fun t j => iflt t i (if i ≤ j then W j t else 0)), ← Finset.sum_sub_distrib]
  refine Finset.sum_congr rfl fun j _ => ?_
  rw [← Finset.sum_sub_distrib]
  refine Finset.sum_congr rfl fun t _ => ?_
  rw [iflt]
  by_cases h : j < t
  · rw [hW j t h]; simp
  · by_cases h1 : i ≤ j
    · by_cases h2 : i ≤ t
      · rw [if_pos h1, if_pos h2, if_neg (by omega), sub_self]
      · rw [if_pos h1, if_neg h2, if_pos (by omega), sub_zero]
    · rw [if_neg h1, if_neg (by omega), sub_self, ite_self]

/-- Only head `n`'s own pair of group and place has a part. -/
theorem sum_heads (f : ℕ → ℕ → ℝ) (n : ℕ) :
    ∑ g ∈ range 4, ∑ r ∈ range 8, (if n = 8 * g + r then f g r else 0) = if n < 32 then f (n / 8) (n % 8) else 0 := by
  have e : ∀ g ∈ range 4, ∑ r ∈ range 8, (if n = 8 * g + r then f g r else 0) = if n / 8 = g then f g (n % 8) else 0 := by
    intro g _
    by_cases h : n / 8 = g
    · rw [if_pos h, Finset.sum_eq_single (n % 8)]
      · rw [if_pos (by omega)]
      · intro r hr hne
        have := Finset.mem_range.mp hr
        rw [if_neg (by omega)]
      · intro hn
        exact absurd (Finset.mem_range.mpr (by omega)) hn
    · rw [if_neg h]
      refine Finset.sum_eq_zero fun r hr => ?_
      have := Finset.mem_range.mp hr
      rw [if_neg (by omega)]
  rw [Finset.sum_congr rfl e, sum_groups fun g => f g (n % 8)]

theorem dacsR_eq (i : ℕ) : dacsR (kg X c) (X.chunk c).aT i n = if n < 32 then
      ∑ p ∈ range 64, (kg X c (n / 8)).dacsx i (64 * (n % 8) + p)
        + (if i = 127 then ∑ p ∈ range 64, (kg X c (n / 8)).datot (64 * (n % 8) + p) else 0)
        + ∑ t ∈ range 128, (kg X c (n / 8)).dseg (X.chunk c).aT (n % 8) n i t else 0 := by
  have e1 : ∀ g ∈ range 4, (kg X c g).dacs (X.chunk c).aT g 8 i n
      = (if n / 8 = g then ∑ p ∈ range 64, (kg X c g).dacsx i (64 * (n % 8) + p)
          + (if i = 127 then ∑ p ∈ range 64, (kg X c g).datot (64 * (n % 8) + p) else 0) else 0)
        + ∑ r ∈ range 8, if n = 8 * g + r then ∑ t ∈ range 128, (kg X c g).dseg (X.chunk c).aT r n i t else 0 := by
    intro g _
    rw [RG.dacs, RG.dacs0, sum_one_hot, sum_one_hot]
    congr 1
    · by_cases h : n / 8 = g
      · simp only [if_pos h]
      · simp only [if_neg h, ite_self, add_zero]
    · refine Finset.sum_congr rfl fun r _ => ?_
      by_cases h : n = 8 * g + r
      · subst h; simp
      · simp only [if_neg h, mul_zero, Finset.sum_const_zero]
  rw [dacsR, Finset.sum_congr rfl e1, Finset.sum_add_distrib, sum_heads fun g r => ∑ t ∈ range 128, (kg X c g).dseg (X.chunk c).aT r n i t,
    sum_groups fun g => ∑ p ∈ range 64, (kg X c g).dacsx i (64 * (n % 8) + p)
          + (if i = 127 then ∑ p ∈ range 64, (kg X c g).datot (64 * (n % 8) + p) else 0)]
  by_cases h : n < 32
  · simp only [if_pos h]
  · simp only [if_neg h, add_zero]

theorem colR_eq (i : ℕ) : colR (kg X c) (X.chunk c).aT n i = if n < 32 then
      ∑ t ∈ range 128, (kg X c (n / 8)).dseg (X.chunk c).aT (n % 8) n t i else 0 := by
  rw [colR, ← sum_heads fun g r => ∑ t ∈ range 128, (kg X c g).dseg (X.chunk c).aT r n t i]
  refine Finset.sum_congr rfl fun g _ => ?_
  rw [RG.col]
  refine Finset.sum_congr rfl fun r _ => ?_
  by_cases h : n = 8 * g + r
  · subst h; simp
  · simp only [if_neg h]

theorem o10_eq (hda : ∀ t h, X.da t h ≤ 0) (t n : ℕ) (ht : t < 2048) (hn : n < 128) : X.o10 (15 - t / 128) (t % 128) n = ref10 X t n := by
  have hc : t / 128 < 16 := by omega
  have hj : t % 128 < 128 := by omega
  rw [RA.o10, show 15 - (15 - t / 128) = t / 128 by omega, out10, ref10]
  have e : ∀ i, dacsR ((X.chunk (t / 128)).grp (X.S (15 - t / 128))) (X.chunk (t / 128)).aT i n - colR ((X.chunk (t / 128)).grp (X.S (15 - t / 128))) (X.chunk (t / 128)).aT n i
      = dacsR (kg X (t / 128)) (X.chunk (t / 128)).aT i n - colR (kg X (t / 128)) (X.chunk (t / 128)).aT n i := fun i => rfl
  simp only [e, dacsR_eq, colR_eq]
  by_cases h : n < 32
  · simp only [if_pos h]
    have hg : n / 8 < 4 := by omega
    have hr : n % 8 < 8 := by omega
    rw [sum_ge _ _ _ (by omega), f151, f149, f150]
    simp only [f145]
    rw [← triangle (fun j t' => f144 X (n / 8) (n % 8) (t / 128) j t') (fun j t' hjt => by rw [f144, ifle, if_neg (by omega)]) 128 (t % 128), ← Finset.sum_add_distrib]
    refine Finset.sum_congr rfl fun j hj2 => ?_
    have hj2 := Finset.mem_range.mp hj2
    by_cases hi : t % 128 ≤ j
    · simp only [if_pos hi]
      have e1 : ∑ u ∈ range 128, (kg X (t / 128) (n / 8)).dseg (X.chunk (t / 128)).aT (n % 8) n j u = ∑ u ∈ range 128, f144 X (n / 8) (n % 8) (t / 128) j u :=
        Finset.sum_congr rfl fun u hu => by
          rw [← dseg_eq hda hr hj2 (Finset.mem_range.mp hu), show 8 * (n / 8) + n % 8 = n by omega]
      have e2 : ∑ u ∈ range 128, (kg X (t / 128) (n / 8)).dseg (X.chunk (t / 128)).aT (n % 8) n u j = ∑ u ∈ range 128, f144 X (n / 8) (n % 8) (t / 128) u j :=
        Finset.sum_congr rfl fun u hu => by
          rw [← dseg_eq hda hr (Finset.mem_range.mp hu) hj2, show 8 * (n / 8) + n % 8 = n by omega]
      rw [e1, e2, own_eq hg hr hc hj2]
      ring
    · simp only [if_neg hi, add_zero]
  · simp only [if_neg h, psum, sub_self, Finset.sum_const_zero]

end Cert.Alg
-- ==== Proof.Final.lean ====
/-
  From the precondition to real entries, and from real entries to equal results.
-/
module

public import proofs.«01_k».proof.Proof.Alg3
public import proofs.«01_k».proof.Pre_tame
public import proofs.«01_k».proof.Proof.Gen.Pre_tame

@[expose] public section

set_option maxRecDepth 16384

noncomputable section

namespace Cert.Final

open Cert.KernelIdeal.Body Cert.RefVal Idealize.ShloMosaic

/-- A number smaller in size than infinity is real. -/
theorem real_of_bit {x : EReal} (h : BitVec.ofBool (decide (FloatOps.absf (F := Ideal) (φ := .f32) x < Ideal.ofBits FTy.f32 2139095040#32)) = 1#1) :
    x = ((x.toReal : ℝ) : EReal) := by
  have htop : Ideal.ofBits FTy.f32 2139095040#32 = (⊤ : EReal) := by simp [Ideal.ofBits, Ideal.ieee]
  have hb : max x (-x) < (⊤ : EReal) := by
    rw [htop] at h
    by_contra hn
    have hd : decide (FloatOps.absf (F := Ideal) (φ := .f32) x < (⊤ : EReal)) = false := decide_eq_false hn
    rw [hd] at h
    simp at h
  refine (EReal.coe_toReal ?_ ?_).symm
  · rintro rfl; simp at hb
  · rintro rfl; simp at hb

/-- A sign bit read back. -/
theorem nonpos_of_bit {x : EReal} (h : BitVec.ofBool (decide (x ≤ 0)) = 1#1) : x ≤ 0 := by
  by_contra hn
  rw [decide_eq_false hn] at h
  simp at h

/-- Both bits of a conjunction. -/
theorem both_bits {a b : Bool} (h : IntOp.andi (BitVec.ofBool a) (BitVec.ofBool b) = 1#1) : BitVec.ofBool a = 1#1 ∧ BitVec.ofBool b = 1#1 := by
  cases a <;> cases b <;> simp_all [IntOp.andi]

variable (x0 : FVec Ideal ⟨2, ![2048, 2048]⟩ .f32) (x1 : FVec Ideal ⟨2, ![2048, 3072]⟩ .f32) (x2 x3 : FVec Ideal ⟨2, ![2048, 32]⟩ .f32)
  (x4 : FVec Ideal ⟨2, ![1, 2048]⟩ .f32)

/-- The precondition at one array of arguments. -/
def Tame : Prop := Cert.Pre_tame.fn (F := Ideal) x0 x1 x2 x3 x4 = fun _ => 1#1

variable {x0 x1 x2 x3 x4}

theorem pre0 (h : Tame x0 x1 x2 x3 x4) (t l : Fin 2048) : x0 (ix2 t l) = (((x0 (ix2 t l)).toReal : ℝ) : EReal) := by
  have e := congrFun h (ix2 t (⟨l.val, by omega⟩ : Fin 7232))
  pointwise [Cert.Pre_tame.fn, Cert.Pre_tame.fn_part1] at e
  exact real_of_bit e

theorem pre1 (h : Tame x0 x1 x2 x3 x4) (t : Fin 2048) (l : Fin 3072) : x1 (ix2 t l) = (((x1 (ix2 t l)).toReal : ℝ) : EReal) := by
  have e := congrFun h (ix2 t (⟨2048 + l.val, by omega⟩ : Fin 7232))
  pointwise [Cert.Pre_tame.fn, Cert.Pre_tame.fn_part1] at e
  exact real_of_bit e

theorem pre2 (h : Tame x0 x1 x2 x3 x4) (t : Fin 2048) (l : Fin 32) : x2 (ix2 t l) = (((x2 (ix2 t l)).toReal : ℝ) : EReal) := by
  have e := congrFun h (ix2 t (⟨5120 + l.val, by omega⟩ : Fin 7232))
  pointwise [Cert.Pre_tame.fn, Cert.Pre_tame.fn_part1] at e
  rw [dif_neg (by omega), dif_neg (by omega), dif_pos (by omega)] at e
  have hl : (⟨5120 + l.val - 2048 - 3072, by omega⟩ : Fin 32) = l := Fin.ext (by simp; omega)
  rw [hl] at e
  exact real_of_bit e

theorem pre3 (h : Tame x0 x1 x2 x3 x4) (t : Fin 2048) (l : Fin 32) : x3 (ix2 t l) = (((x3 (ix2 t l)).toReal : ℝ) : EReal) ∧ x3 (ix2 t l) ≤ 0 := by
  have e := congrFun h (ix2 t (⟨5152 + l.val, by omega⟩ : Fin 7232))
  pointwise [Cert.Pre_tame.fn, Cert.Pre_tame.fn_part1] at e
  rw [dif_neg (by omega), dif_neg (by omega), dif_neg (by omega), dif_pos (by omega)] at e
  have hl : (⟨5152 + l.val - 2048 - 3072 - 32, by omega⟩ : Fin 32) = l := Fin.ext (by simp; omega)
  rw [hl] at e
  exact ⟨real_of_bit (both_bits e).1, nonpos_of_bit (both_bits e).2⟩

theorem pre4 (h : Tame x0 x1 x2 x3 x4) (z : Fin 1) (l : Fin 2048) : x4 (ix2 z l) = (((x4 (ix2 z l)).toReal : ℝ) : EReal) := by
  have e := congrFun h (ix2 (0 : Fin 2048) (⟨5184 + l.val, by omega⟩ : Fin 7232))
  pointwise [Cert.Pre_tame.fn, Cert.Pre_tame.fn_part1] at e
  rw [dif_neg (by omega), dif_neg (by omega), dif_neg (by omega), dif_neg (by omega)] at e
  have hl : (⟨5184 + l.val - 2048 - 3072 - 32 - 32, by omega⟩ : Fin 2048) = l := Fin.ext (by simp; omega)
  rw [hl] at e
  obtain rfl : z = 0 := Subsingleton.elim _ _
  exact real_of_bit e

/-- The real entry of an array at two numbers, zero outside it. -/
def ent {a b : ℕ} (x : FVec Ideal ⟨2, ![a, b]⟩ .f32) (t l : ℕ) : ℝ :=
  if h : t < a ∧ l < b then (x (ix2 (⟨t, h.1⟩ : Fin a) (⟨l, h.2⟩ : Fin b)) : EReal).toReal else 0

theorem ent_at {a b : ℕ} (x : FVec Ideal ⟨2, ![a, b]⟩ .f32) (t : Fin a) (l : Fin b) : ent x t.val l.val = (x (ix2 t l) : EReal).toReal :=
  dif_pos ⟨t.isLt, l.isLt⟩

/-- The real arguments. -/
def XA (x0 : FVec Ideal ⟨2, ![2048, 2048]⟩ .f32) (x1 : FVec Ideal ⟨2, ![2048, 3072]⟩ .f32) (x2 x3 : FVec Ideal ⟨2, ![2048, 32]⟩ .f32)
    (x4 : FVec Ideal ⟨2, ![1, 2048]⟩ .f32) : RA :=
  ⟨ent x0, ent x1, ent x2, ent x3, ent x4 0⟩

theorem args (h : Tame x0 x1 x2 x3 x4) : Args (XA x0 x1 x2 x3 x4) x0 x1 x2 x3 x4 where
  h0 := fun t l => by rw [pre0 h t l]; exact congrArg _ (ent_at x0 t l).symm
  h1 := fun t l => by rw [pre1 h t l]; exact congrArg _ (ent_at x1 t l).symm
  h2 := fun t l => by rw [pre2 h t l]; exact congrArg _ (ent_at x2 t l).symm
  h3 := fun t l => by rw [(pre3 h t l).1]; exact congrArg _ (ent_at x3 t l).symm
  h4 := fun z l => by
    rw [pre4 h z l]
    obtain rfl : z = 0 := Subsingleton.elim _ _
    exact congrArg _ (ent_at x4 0 l).symm

theorem da_nonpos (h : Tame x0 x1 x2 x3 x4) (t l : ℕ) : (XA x0 x1 x2 x3 x4).da t l ≤ 0 := by
  show ent x3 t l ≤ 0
  unfold ent
  split
  · next hb =>
    have e := pre3 h ⟨t, hb.1⟩ ⟨l, hb.2⟩
    have := e.2
    rw [e.1] at this
    exact_mod_cast this
  · exact le_refl _

/-- The states the host's lines hand the call, laid out by chunk, row and lane. -/
theorem states_at {X : RA} (H : Args X x0 x1 x2 x3 x4) (k : Fin 16) (n : Fin 128) (l : Fin 2048) :
    shapeCast Cert.KernelIdeal.S16x128x2048 (transpose Cert.KernelIdeal.S16x128x4x8x64 [0, 4, 1, 2, 3]
    (Cert.ReferenceIdeal.Read.val_main_v55 (F := Ideal) x1 x2 x3)
      Cert.KernelIdeal.Gen.transposes_S16x4x8x64x128_S16x128x4x8x64_0_4_1_2_3) Cert.KernelIdeal.Gen.shapeCasts_S16x128x4x8x64_S16x128x2048 (ix3 k n l)
      = ((X.sin k.val n.val l.val : ℝ) : EReal) := by
  have e := Cert.Alg.sin_eq (X := X) (g := l.val / 512) (r := l.val / 64 % 8) (p := l.val % 64) (n := n.val) (by omega) (by omega) k.val (by omega)
  rw [show 512 * (l.val / 512) + (64 * (l.val / 64 % 8) + l.val % 64) = l.val by omega] at e
  rw [e]
  pointwise
  have r := r55 H k (⟨l.val / 512, by omega⟩ : Fin 4) (⟨l.val / 64 % 8, by omega⟩ : Fin 8) (⟨l.val % 64, by omega⟩ : Fin 64) n
  exact r

/-! ## The call's operands and results -/

section
open Cert.KernelIdeal Cert.KernelIdeal.Gen Cert.KernelIdeal.Value
variable (m : (ℓ : Loc nD τ sig) → Buf (Elt Ideal) ℓ) (c : Dev nD)

/-- Restates a fact about one array as a fact about an equal one. -/
theorem isV_of {a b : ℕ} {v w : FVec Ideal ⟨2, ![a, b]⟩ .f32} {f : ℕ → ℕ → ℝ} (e : v = w) (h : IsV w f) : IsV v f := e ▸ h

/-- The arguments in memory. -/
abbrev m0 : FVec Ideal ⟨2, ![2048, 2048]⟩ .f32 := m (c, Proc.devRef .tc main_arg0)
abbrev m1 : FVec Ideal ⟨2, ![2048, 3072]⟩ .f32 := m (c, Proc.devRef .tc main_arg1)
abbrev m2 : FVec Ideal ⟨2, ![2048, 32]⟩ .f32 := m (c, Proc.devRef .tc main_arg2)
abbrev m3 : FVec Ideal ⟨2, ![2048, 32]⟩ .f32 := m (c, Proc.devRef .tc main_arg3)
abbrev m4 : FVec Ideal ⟨2, ![1, 2048]⟩ .f32 := m (c, Proc.devRef .tc main_arg4)

variable {m c}

theorem host_is {X : RA} (H : Args X (m0 m c) (m1 m c) (m2 m c) (m3 m c) (m4 m c)) : HostIs m c X where
  dy := isV_of (V_main_arg0 m c) H.h0
  xbc := isV_of (V_main_arg1 m c) H.h1
  dtx := fun t l => (read41 m c t l).trans (H.h2 t _)
  dax := fun t l => (read43 m c t l).trans (H.h3 t _)
  daT := fun h t => (read44 m c h t).trans (H.h3 t h)
  d := isV_of (V_main_arg4 m c) H.h4
  sin := fun k n l => (congrFun (read39 m c) (ix3 k n l)).trans (states_at H k n l)
  hs := fun g l n => read54 m c g l n

/-- Arrays with the same real entries are equal. -/
theorem isV_eq {a b : ℕ} {v w : FVec Ideal ⟨2, ![a, b]⟩ .f32} {f g : ℕ → ℕ → ℝ} (hv : IsV v f) (hw : IsV w g)
    (h : ∀ (t : Fin a) (l : Fin b), f t.val l.val = g t.val l.val) : v = w := by
  funext i
  obtain ⟨t, l, rfl⟩ : ∃ t l, i = ix2 t l := ⟨i 0, i 1, by funext k; fin_cases k <;> rfl⟩
  rw [hv t l, hw t l, h t l]

variable (hp : Tame (m0 m c) (m1 m c) (m2 m c) (m3 m c) (m4 m c))
include hp

theorem out8 : (dats m 0 c).arrAt 8 cfg0.N = Cert.ReferenceIdeal.Read.val_main_v165 (F := Ideal) (m0 m c) (m1 m c) (m2 m c) (m3 m c) (m4 m c) :=
  isV_eq (arr8 m c (host_is (args hp))) (r165 (args hp)) fun t l => Cert.Alg.o8_eq (da_nonpos hp) t.val l.val t.isLt l.isLt

theorem out9 : (dats m 0 c).arrAt 9 cfg0.N = Cert.ReferenceIdeal.Read.val_main_v166 (F := Ideal) (m0 m c) (m1 m c) (m3 m c) :=
  isV_eq (arr9 m c (host_is (args hp))) (r166 (args hp)) fun t l => Cert.Alg.o9_eq (da_nonpos hp) t.val l.val t.isLt l.isLt

theorem out10 : (dats m 0 c).arrAt 10 cfg0.N = Cert.ReferenceIdeal.Read.val_main_v167 (F := Ideal) (m0 m c) (m1 m c) (m2 m c) (m3 m c) :=
  isV_eq (arr10 m c (host_is (args hp))) (r167 (args hp)) fun t l => Cert.Alg.o10_eq (da_nonpos hp) t.val l.val t.isLt l.isLt

theorem out11 : (dats m 0 c).arrAt 11 cfg0.N = Cert.ReferenceIdeal.Read.val_main_v73 (F := Ideal) (m0 m c) (m1 m c) :=
  isV_eq (g := fun _ l => f73 (XA (m0 m c) (m1 m c) (m2 m c) (m3 m c) (m4 m c)) l) (arr11 m c (host_is (args hp))) (fun z l => r73 (args hp) z l)
    fun _ l => Cert.Alg.Dd_eq l.val

end

end Cert.Final
-- ==== Proof.FfnBase.lean ====
/-
  The feed-forward layer's backward pass on real numbers, and what each kernel call's block computes.
-/
module

public import proofs.«01_k».proof.Proof.Final
public import proofs.«01_k».proof.Proof.Gen.Kernel2Ideal.Frame
public import proofs.«01_k».proof.Proof.Gen.Reference2Ideal.Read
public import proofs.«01_k».proof.Proof.Gen.Pre_tame2

@[expose] public section

set_option maxRecDepth 16384

noncomputable section

namespace Cert.Ffn

open Cert.KernelIdeal.Body (IsV coe_sum coe_exp)
open Idealize.ShloMosaic
open Finset (range)

/-! ## The layer on reals -/

/-- The small number added to a row's mean square. -/
def eps : ℝ := 10995116 / 2 ^ 40

/-- The real entries of the arguments. -/
structure RF where
  dh : ℕ → ℕ → ℝ
  h : ℕ → ℕ → ℝ
  nw : ℕ → ℝ
  wg : ℕ → ℕ → ℝ
  wu : ℕ → ℕ → ℝ
  wd : ℕ → ℕ → ℝ

namespace RF
variable (X : RF)

def v (t : ℕ) : ℝ := (∑ k ∈ range 1024, X.h t k * X.h t k) / 1024 + eps
def r (t : ℕ) : ℝ := (√(X.v t))⁻¹
def xh (t d : ℕ) : ℝ := X.h t d * X.r t
def u (t d : ℕ) : ℝ := X.xh t d * X.nw d
def g (t j : ℕ) : ℝ := ∑ d ∈ range 1024, X.u t d * X.wg d j
def up (t j : ℕ) : ℝ := ∑ d ∈ range 1024, X.u t d * X.wu d j
def sg (t j : ℕ) : ℝ := 1 / (1 + Real.exp (-X.g t j))
def sl (t j : ℕ) : ℝ := X.g t j * X.sg t j
def act (t j : ℕ) : ℝ := X.sl t j * X.up t j
def da (t j : ℕ) : ℝ := ∑ d ∈ range 1024, X.dh t d * X.wd j d
def dg (t j : ℕ) : ℝ := X.da t j * X.up t j * (X.sg t j * (1 + X.g t j * (1 - X.sg t j)))
def dup (t j : ℕ) : ℝ := X.da t j * X.sl t j
def dug (t d : ℕ) : ℝ := ∑ j ∈ range 2816, X.dg t j * X.wg d j
def du (t d : ℕ) : ℝ := (∑ j ∈ range 2816, X.dup t j * X.wu d j) + X.dug t d
def dwd (j d : ℕ) : ℝ := ∑ t ∈ range 2048, X.act t j * X.dh t d
def dwg (j d : ℕ) : ℝ := ∑ t ∈ range 2048, X.dg t j * X.u t d
def dwu (j d : ℕ) : ℝ := ∑ t ∈ range 2048, X.dup t j * X.u t d
def dxh (t d : ℕ) : ℝ := X.du t d * X.nw d
def dx (t d : ℕ) : ℝ := X.dh t d + X.r t * (X.dxh t d - X.xh t d * ((∑ k ∈ range 1024, X.dxh t k * X.xh t k) / 1024))
def dn (d : ℕ) : ℝ := ∑ t ∈ range 2048, X.du t d * X.xh t d

theorem v_pos (t : ℕ) : 0 < X.v t := by
  have h : 0 ≤ ∑ k ∈ range 1024, X.h t k * X.h t k := Finset.sum_nonneg fun k _ => mul_self_nonneg _
  have e : 0 < eps := by unfold eps; norm_num
  unfold v; positivity

end RF

/-! ## Numbers -/

theorem c_eps : Ideal.ofBits FTy.f32 0x3727C5AC#32 = ((eps : ℝ) : EReal) := by
  simp [Ideal.ofBits, Ideal.ieee, eps]
  rw [← EReal.coe_mul]
  congr 1

theorem c_1024 : Ideal.ofBits FTy.f32 0x44800000#32 = ((1024 : ℝ) : EReal) := by
  simp [Ideal.ofBits, Ideal.ieee]
  rw [← EReal.coe_mul]
  congr 1
  norm_num

theorem c_half : Ideal.ofBits FTy.f32 0xBF000000#32 = ((-(1 / 2) : ℝ) : EReal) := by
  simp [Ideal.ofBits, Ideal.ieee]
  rw [← EReal.coe_mul]
  congr 1
  norm_num

theorem div_real (x : ℝ) {y : ℝ} (hy : y ≠ 0) : Ideal.div (x : EReal) (y : EReal) = ((x / y : ℝ) : EReal) := by
  have h : ((y : ℝ) : EReal) ≠ 0 := by exact_mod_cast hy
  rw [Ideal.div, if_neg h, ← EReal.coe_inv, ← EReal.coe_mul, div_eq_mul_inv]

theorem rsqrt_real {v : ℝ} (hv : 0 < v) : Ideal.rsqrt (v : EReal) = (((√v)⁻¹ : ℝ) : EReal) := by
  show (if v < 0 then (⊥ : EReal) else if v = 0 then ⊤ else (((√v)⁻¹ : ℝ) : EReal)) = _
  rw [if_neg (not_lt.mpr hv.le), if_neg hv.ne']

/-- The logistic function. -/
def lg (x : ℝ) : ℝ := 1 / (1 + Real.exp (-x))

theorem lg_real (x : ℝ) : Ideal.div 1 (1 + Ideal.exp (0 - (x : EReal))) = ((lg x : ℝ) : EReal) := by
  have h : (1 + Real.exp (-x) : ℝ) ≠ 0 := by positivity
  rw [show (0 : EReal) - (x : EReal) = ((-x : ℝ) : EReal) by rw [zero_sub, EReal.coe_neg], ← coe_exp, ← EReal.coe_one, ← EReal.coe_add, div_real 1 h, lg]

/-- The inverse root mean square of a row. -/
def rr (h : ℕ → ℝ) : ℝ := (√((∑ k ∈ range 1024, h k * h k) / 1024 + eps))⁻¹

theorem rr_real {s : EReal} {h : ℕ → ℝ} (hs : s = ((∑ k ∈ range 1024, h k * h k : ℝ) : EReal)) :
    Ideal.rsqrt (Ideal.div s (Ideal.ofBits FTy.f32 1149239296#32) + Ideal.ofBits FTy.f32 925353388#32) = ((rr h : ℝ) : EReal) := by
  have h0 : 0 ≤ ∑ k ∈ range 1024, h k * h k := Finset.sum_nonneg fun k _ => mul_self_nonneg _
  have e : 0 < eps := by unfold eps; norm_num
  rw [hs, c_1024, c_eps, div_real _ (by norm_num), ← EReal.coe_add, rsqrt_real (by positivity), rr]

open Cert.Kernel2Ideal Cert.Kernel2Ideal.Gen Idealize.ShloMosaic.TcCoe

/-! ## The products -/

theorem pay0 {a : FVec Ideal S2048x1408 .bf16} {b : FVec Ideal S2048x1024 .bf16} {f g : ℕ → ℕ → ℝ} (ha : IsV a f) (hb : IsV b g) :
    IsV (k0_pay1 (F := Ideal) a b) fun j d => ∑ t ∈ range 2048, f t j * g t d := by
  intro j d
  pointwise [k0_pay1]
  simp only [ha _ j, hb _ d, Finset.sum_range, coe_sum, EReal.coe_mul]

theorem pay4 {a : FVec Ideal S2048x1408 .bf16} {b : FVec Ideal S2048x1024 .bf16} {f g : ℕ → ℕ → ℝ} (ha : IsV a f) (hb : IsV b g) :
    IsV (k4_pay1 (F := Ideal) a b) fun j d => ∑ t ∈ range 2048, f t j * g t d := by
  intro j d
  pointwise [k4_pay1]
  simp only [ha _ j, hb _ d, Finset.sum_range, coe_sum, EReal.coe_mul]

theorem pay5 {a : FVec Ideal S2048x1408 .bf16} {b : FVec Ideal S2048x1024 .bf16} {f g : ℕ → ℕ → ℝ} (ha : IsV a f) (hb : IsV b g) :
    IsV (k5_pay1 (F := Ideal) a b) fun j d => ∑ t ∈ range 2048, f t j * g t d := by
  intro j d
  pointwise [k5_pay1]
  simp only [ha _ j, hb _ d, Finset.sum_range, coe_sum, EReal.coe_mul]

theorem pay2 {a : FVec Ideal S2048x2816 .bf16} {b : FVec Ideal S2816x512 .bf16} {f g : ℕ → ℕ → ℝ} (ha : IsV a f) (hb : IsV b g) :
    IsV (k2_pay1 (F := Ideal) a b) fun t d => ∑ j ∈ range 2816, f t j * g j d := by
  intro t d
  pointwise [k2_pay1]
  simp only [ha t _, hb _ d, Finset.sum_range, coe_sum, EReal.coe_mul]

theorem pay3 {a : FVec Ideal S2048x2816 .bf16} {b : FVec Ideal S2816x256 .bf16} {r : FVec Ideal S2048x256 .f32} {f g p : ℕ → ℕ → ℝ} (ha : IsV a f) (hb : IsV b g)
    (hr : IsV r p) : IsV (k3_pay1 (F := Ideal) a b r) fun t d => (∑ j ∈ range 2816, f t j * g j d) + p t d := by
  intro t d
  pointwise [k3_pay1]
  simp only [ha t _, hb _ d, hr t d, Finset.sum_range, coe_sum, EReal.coe_mul, EReal.coe_add]

/-! ## The gated product's pullback -/

section
variable {a : FVec Ideal S1024x1024 .bf16} {b : FVec Ideal S256x1024 .bf16} {p q : FVec Ideal S1024x256 .bf16} {f g x y : ℕ → ℕ → ℝ}
  (ha : IsV a f) (hb : IsV b g) (hp : IsV p x) (hq : IsV q y)
include ha hb hp

theorem pay1_up : IsV (k1_pay5 (F := Ideal) a b p) fun t j => (∑ d ∈ range 1024, f t d * g j d) * (x t j * lg (x t j)) := by
  intro t j
  pointwise [k1_pay5, k1_pay2, k1_pay3]
  simp only [ha t _, hb j _, hp t j, lg_real, Finset.sum_range, coe_sum, EReal.coe_mul]

theorem pay1_up' : IsV (k1_pay1 (k1_pay9 (F := Ideal) a b p)) fun t j => (∑ d ∈ range 1024, f t d * g j d) * (x t j * lg (x t j)) := by
  intro t j
  pointwise [k1_pay1, k1_pay9, k1_pay6, k1_pay7]
  simp only [ha t _, hb j _, hp t j, lg_real, Finset.sum_range, coe_sum, EReal.coe_mul]

include hq

theorem pay1_g : IsV (k1_pay4 (F := Ideal) a b p q) fun t j =>
    (∑ d ∈ range 1024, f t d * g j d) * y t j * (lg (x t j) * (1 + x t j * (1 - lg (x t j)))) := by
  intro t j
  pointwise [k1_pay4, k1_pay2, k1_pay3]
  simp only [ha t _, hb j _, hp t j, hq t j, lg_real, Finset.sum_range, coe_sum, EReal.coe_mul, EReal.coe_add, EReal.coe_sub, EReal.coe_one]

theorem pay1_g' : IsV (k1_pay8 (F := Ideal) a b p q) fun t j =>
    (∑ d ∈ range 1024, f t d * g j d) * y t j * (lg (x t j) * (1 + x t j * (1 - lg (x t j)))) := by
  intro t j
  pointwise [k1_pay8, k1_pay6, k1_pay7]
  simp only [ha t _, hb j _, hp t j, hq t j, lg_real, Finset.sum_range, coe_sum, EReal.coe_mul, EReal.coe_add, EReal.coe_sub, EReal.coe_one]

end

/-! ## The root mean square's pullback -/

section
variable {a h dh : FVec Ideal S256x1024 .f32} {n : FVec Ideal S1x1024 .f32} {du H D : ℕ → ℕ → ℝ} {nw : ℕ → ℝ}
  (ha : IsV a du) (hh : IsV h H) (hd : IsV dh D) (hn : IsV n fun _ l => nw l)

theorem sq_real {a b : ℕ} {h : FVec Ideal ⟨2, ![a, 1024]⟩ .f32} {H : ℕ → ℕ → ℝ} (hh : IsV h H) (t : Fin a) :
    (∑ x : Fin 1024, h (ix2 t x) * h (ix2 t x)) = ((∑ k ∈ range 1024, H t k * H t k : ℝ) : EReal) := by
  simp only [hh t _, Finset.sum_range, coe_sum, EReal.coe_mul]

include ha hh

theorem pay6_n : ∀ d : Fin 1024, k6_pay7 (F := Ideal) a h (ix2 0 d) = ((∑ t ∈ range 256, du t d * (H t d * rr (H t)) : ℝ) : EReal) := by
  intro d
  pointwise [k6_pay7, k6_pay3, k6_pay4, k6_pay5]
  simp only [rr_real (sq_real (b := 1) hh _), ha _ d, hh _ d, Finset.sum_range, coe_sum, EReal.coe_mul]

include hd hn

theorem pay6_x : IsV (k6_pay6 (F := Ideal) a h dh n) fun t d => D t d + rr (H t) * (du t d * nw d - H t d * rr (H t) *
    ((∑ k ∈ range 1024, du t k * nw k * (H t k * rr (H t))) / 1024)) := by
  intro t d
  pointwise [k6_pay6, k6_pay3, k6_pay4, k6_pay5]
  simp only [rr_real (sq_real (b := 1) hh t)]
  rw [show (∑ x : Fin 1024, a (ix2 t x) * n (ix2 0 x) * (h (ix2 t x) * ((rr (H t) : ℝ) : EReal)))
    = ((∑ k ∈ range 1024, du t k * nw k * (H t k * rr (H t)) : ℝ) : EReal) by
      simp only [ha t _, hn 0 _, hh t _, Finset.sum_range, coe_sum, EReal.coe_mul]]
  rw [c_1024, div_real _ (by norm_num), ha t d, hn 0 d, hh t d, hd t d]
  simp only [EReal.coe_mul, EReal.coe_add, EReal.coe_sub]

theorem pay6_b : IsV (k6_pay8 (F := Ideal) a h dh n) fun t d => D t d + rr (H t) * (du t d * nw d - H t d * rr (H t) *
    ((∑ k ∈ range 1024, du t k * nw k * (H t k * rr (H t))) / 1024)) := by
  intro t d
  refine Eq.trans ?_ (pay6_x ha hh hd hn t d)
  pointwise [k6_pay8]

end

theorem pay6_zero (d : Fin 1024) : k6_pay1 (F := Ideal) (ix2 0 d) = ((0 : ℝ) : EReal) := by
  pointwise [k6_pay1]
  rfl

theorem pay6_add (x y : FVec Ideal S1x1024 .f32) (d : Fin 1024) : k6_pay2 (F := Ideal) x y (ix2 0 d) = y (ix2 0 d) + x (ix2 0 d) := by
  pointwise [k6_pay2]

end Cert.Ffn
-- ==== Proof.FfnBlocks.lean ====
/-
  What each kernel call's blocks hold, and each array after a call by the blocks its points leave.
-/
module

public import proofs.«01_k».proof.Proof.FfnBase

@[expose] public section

set_option maxRecDepth 16384

noncomputable section

namespace Cert.Ffn

open Cert.KernelIdeal.Body (IsV)
open Cert.Kernel2Ideal Cert.Kernel2Ideal.Gen Idealize.ShloMosaic Idealize.ShloMosaic.TcCoe

variable (V : (c : Dev nD) → (b : Ref sig .tc) → Buf (Elt Ideal) ((c : Thread nD τ).loc b)) (c : Dev nD)

theorem idx0_0 (t : Fin grid0.N) : win0_0.index t 0 = 0 ∧ win0_0.index t 1 = t.val := by revert t; decide +kernel

theorem blk0_0 {f : ℕ → ℕ → ℝ} (h : IsV (a := 2048) (b := 2816) (φ := .bf16) (V c main_v19) f) (t : Fin cfg0.N) :
    IsV (a := 2048) (b := 1408) (φ := .bf16) (iblk0 V c 0 t) fun r l => f (r) (1408 * t.val + l) := by
  intro r l
  have ht : t.val < 2 := lt_of_lt_of_eq t.isLt N_0
  unfold iblk0
  rw [View.read_apply]
  refine Eq.trans (congrArg (V c main_v19) (?_ : _ = ix2 (⟨r.val, by omega⟩ : Fin 2048) (⟨1408 * t.val + l.val, by omega⟩ : Fin 2816))) (h _ _)
  funext x
  apply Fin.ext
  match x with
  | ⟨0, _⟩ => show win0_0.index t 0 * 2048 + 1 * r.val = r.val; rw [(idx0_0 t).1]; omega
  | ⟨1, _⟩ => show win0_0.index t 1 * 1408 + 1 * l.val = 1408 * t.val + l.val; rw [(idx0_0 t).2]; omega

theorem idx0_1 (t : Fin grid0.N) : win0_1.index t 0 = 0 ∧ win0_1.index t 1 = 0 := by revert t; decide +kernel

theorem blk0_1 {f : ℕ → ℕ → ℝ} (h : IsV (a := 2048) (b := 1024) (φ := .bf16) (V c main_v25) f) (t : Fin cfg0.N) :
    IsV (a := 2048) (b := 1024) (φ := .bf16) (iblk0 V c 1 t) fun r l => f (r) (l) := by
  intro r l
  have ht : t.val < 2 := lt_of_lt_of_eq t.isLt N_0
  unfold iblk0
  rw [View.read_apply]
  refine Eq.trans (congrArg (V c main_v25) (?_ : _ = ix2 (⟨r.val, by omega⟩ : Fin 2048) (⟨l.val, by omega⟩ : Fin 1024))) (h _ _)
  funext x
  apply Fin.ext
  match x with
  | ⟨0, _⟩ => show win0_1.index t 0 * 2048 + 1 * r.val = r.val; rw [(idx0_1 t).1]; omega
  | ⟨1, _⟩ => show win0_1.index t 1 * 1024 + 1 * l.val = l.val; rw [(idx0_1 t).2]; omega

theorem idx0_2 (t : Fin grid0.N) : win0_2.index t 0 = t.val ∧ win0_2.index t 1 = 0 := by revert t; decide +kernel

theorem read0_2 (t : Fin cfg0.N) (f : Vec Ideal S2816x1024 .bf16) (r : Fin 1408) (l : Fin 1024) (h0 : 1408 * t.val + r.val < 2816) (h1 : l.val < 1024) :
    ((cfg0.win 2).blk t).view.read (Elt Ideal) f (ix2 r l) = f (ix2 (⟨1408 * t.val + r.val, h0⟩ : Fin 2816) (⟨l.val, h1⟩ : Fin 1024)) := by
  rw [View.read_apply]
  refine congrArg f ?_
  funext x
  apply Fin.ext
  match x with
  | ⟨0, _⟩ => show win0_2.index t 0 * 1408 + 1 * r.val = 1408 * t.val + r.val; rw [(idx0_2 t).1]; omega
  | ⟨1, _⟩ => show win0_2.index t 1 * 1024 + 1 * l.val = l.val; rw [(idx0_2 t).2]; omega

theorem inj0_2 : ∀ t t' : Fin cfg0.N, win0_2.index t = win0_2.index t' → t = t' :=
  (by decide +kernel : ∀ t t' : Fin grid0.N, win0_2.index t = win0_2.index t' → t = t')

theorem arr0_2 {F : ℕ → ℕ → ℝ} (h : ∀ t : Fin cfg0.N, IsV (a := 1408) (b := 1024) (φ := .bf16) ((dat0 V c).after 2 t) fun r l => F (1408 * t.val + r) (l)) :
    IsV (a := 2816) (b := 1024) (φ := .bf16) ((dat0 V c).arrAt 2 cfg0.N) F := by
  intro r l
  obtain ⟨p, hp⟩ : ∃ p : Fin cfg0.N, p.val = r.val / 1408 := ⟨⟨r.val / 1408, by rw [show cfg0.N = 2 from N_0]; omega⟩, rfl⟩
  have hr : 1408 * p.val + r.val % 1408 = r.val := by omega
  have hl : l.val = l.val := by omega
  have e := congrFun ((dat0 V c).read_blk_arrAt_eq_flushed 2 (fun t t' _ _ hne => (cfg0.win 2).disjoint_blk fun h => hne (inj0_2 t t' h)) cfg0.N p p.isLt (flush0_2 p)) (ix2 (⟨r.val % 1408, by omega⟩ : Fin 1408) (⟨l.val, by omega⟩ : Fin 1024))
  have e2 := read0_2 p ((dat0 V c).arrAt 2 cfg0.N) (⟨r.val % 1408, by omega⟩ : Fin 1408) (⟨l.val, by omega⟩ : Fin 1024) (lt_of_eq_of_lt hr r.isLt) (lt_of_eq_of_lt hl l.isLt)
  have er : (⟨1408 * p.val + r.val % 1408, lt_of_eq_of_lt hr r.isLt⟩ : Fin 2816) = r := Fin.ext hr
  have el : (⟨l.val, lt_of_eq_of_lt hl l.isLt⟩ : Fin 1024) = l := Fin.ext hl
  rw [er, el] at e2
  refine e2.symm.trans (e.trans ((h p ⟨r.val % 1408, by omega⟩ ⟨l.val, by omega⟩).trans ?_))
  show ((F (1408 * p.val + r.val % 1408) (l.val) : ℝ) : EReal) = _
  rw [hr, hl]

theorem idx1_0 (t : Fin grid1.N) : win1_0.index t 0 = 0 ∧ win1_0.index t 1 = 0 := by revert t; decide +kernel

theorem blk1_0 {f : ℕ → ℕ → ℝ} (h : IsV (a := 2048) (b := 1024) (φ := .bf16) (V c main_v25) f) (t : Fin cfg1.N) :
    IsV (a := 2048) (b := 1024) (φ := .bf16) (iblk1 V c 0 t) fun r l => f (r) (l) := by
  intro r l
  have ht : t.val < 11 := lt_of_lt_of_eq t.isLt N_1
  unfold iblk1
  rw [View.read_apply]
  refine Eq.trans (congrArg (V c main_v25) (?_ : _ = ix2 (⟨r.val, by omega⟩ : Fin 2048) (⟨l.val, by omega⟩ : Fin 1024))) (h _ _)
  funext x
  apply Fin.ext
  match x with
  | ⟨0, _⟩ => show win1_0.index t 0 * 2048 + 1 * r.val = r.val; rw [(idx1_0 t).1]; omega
  | ⟨1, _⟩ => show win1_0.index t 1 * 1024 + 1 * l.val = l.val; rw [(idx1_0 t).2]; omega

theorem idx1_1 (t : Fin grid1.N) : win1_1.index t 0 = t.val ∧ win1_1.index t 1 = 0 := by revert t; decide +kernel

theorem blk1_1 {f : ℕ → ℕ → ℝ} (h : IsV (a := 2816) (b := 1024) (φ := .bf16) (V c main_v24) f) (t : Fin cfg1.N) :
    IsV (a := 256) (b := 1024) (φ := .bf16) (iblk1 V c 1 t) fun r l => f (256 * t.val + r) (l) := by
  intro r l
  have ht : t.val < 11 := lt_of_lt_of_eq t.isLt N_1
  unfold iblk1
  rw [View.read_apply]
  refine Eq.trans (congrArg (V c main_v24) (?_ : _ = ix2 (⟨256 * t.val + r.val, by omega⟩ : Fin 2816) (⟨l.val, by omega⟩ : Fin 1024))) (h _ _)
  funext x
  apply Fin.ext
  match x with
  | ⟨0, _⟩ => show win1_1.index t 0 * 256 + 1 * r.val = 256 * t.val + r.val; rw [(idx1_1 t).1]; omega
  | ⟨1, _⟩ => show win1_1.index t 1 * 1024 + 1 * l.val = l.val; rw [(idx1_1 t).2]; omega

theorem idx1_2 (t : Fin grid1.N) : win1_2.index t 0 = 0 ∧ win1_2.index t 1 = t.val := by revert t; decide +kernel

theorem blk1_2 {f : ℕ → ℕ → ℝ} (h : IsV (a := 2048) (b := 2816) (φ := .bf16) (V c main_v17) f) (t : Fin cfg1.N) :
    IsV (a := 2048) (b := 256) (φ := .bf16) (iblk1 V c 2 t) fun r l => f (r) (256 * t.val + l) := by
  intro r l
  have ht : t.val < 11 := lt_of_lt_of_eq t.isLt N_1
  unfold iblk1
  rw [View.read_apply]
  refine Eq.trans (congrArg (V c main_v17) (?_ : _ = ix2 (⟨r.val, by omega⟩ : Fin 2048) (⟨256 * t.val + l.val, by omega⟩ : Fin 2816))) (h _ _)
  funext x
  apply Fin.ext
  match x with
  | ⟨0, _⟩ => show win1_2.index t 0 * 2048 + 1 * r.val = r.val; rw [(idx1_2 t).1]; omega
  | ⟨1, _⟩ => show win1_2.index t 1 * 256 + 1 * l.val = 256 * t.val + l.val; rw [(idx1_2 t).2]; omega

theorem idx1_3 (t : Fin grid1.N) : win1_3.index t 0 = 0 ∧ win1_3.index t 1 = t.val := by revert t; decide +kernel

theorem blk1_3 {f : ℕ → ℕ → ℝ} (h : IsV (a := 2048) (b := 2816) (φ := .bf16) (V c main_v18) f) (t : Fin cfg1.N) :
    IsV (a := 2048) (b := 256) (φ := .bf16) (iblk1 V c 3 t) fun r l => f (r) (256 * t.val + l) := by
  intro r l
  have ht : t.val < 11 := lt_of_lt_of_eq t.isLt N_1
  unfold iblk1
  rw [View.read_apply]
  refine Eq.trans (congrArg (V c main_v18) (?_ : _ = ix2 (⟨r.val, by omega⟩ : Fin 2048) (⟨256 * t.val + l.val, by omega⟩ : Fin 2816))) (h _ _)
  funext x
  apply Fin.ext
  match x with
  | ⟨0, _⟩ => show win1_3.index t 0 * 2048 + 1 * r.val = r.val; rw [(idx1_3 t).1]; omega
  | ⟨1, _⟩ => show win1_3.index t 1 * 256 + 1 * l.val = 256 * t.val + l.val; rw [(idx1_3 t).2]; omega

theorem idx1_4 (t : Fin grid1.N) : win1_4.index t 0 = 0 ∧ win1_4.index t 1 = t.val := by revert t; decide +kernel

theorem read1_4 (t : Fin cfg1.N) (f : Vec Ideal S2048x2816 .bf16) (r : Fin 2048) (l : Fin 256) (h0 : r.val < 2048) (h1 : 256 * t.val + l.val < 2816) :
    ((cfg1.win 4).blk t).view.read (Elt Ideal) f (ix2 r l) = f (ix2 (⟨r.val, h0⟩ : Fin 2048) (⟨256 * t.val + l.val, h1⟩ : Fin 2816)) := by
  rw [View.read_apply]
  refine congrArg f ?_
  funext x
  apply Fin.ext
  match x with
  | ⟨0, _⟩ => show win1_4.index t 0 * 2048 + 1 * r.val = r.val; rw [(idx1_4 t).1]; omega
  | ⟨1, _⟩ => show win1_4.index t 1 * 256 + 1 * l.val = 256 * t.val + l.val; rw [(idx1_4 t).2]; omega

theorem inj1_4 : ∀ t t' : Fin cfg1.N, win1_4.index t = win1_4.index t' → t = t' :=
  (by decide +kernel : ∀ t t' : Fin grid1.N, win1_4.index t = win1_4.index t' → t = t')

theorem arr1_4 {F : ℕ → ℕ → ℝ} (h : ∀ t : Fin cfg1.N, IsV (a := 2048) (b := 256) (φ := .bf16) ((dat1 V c).after 4 t) fun r l => F (r) (256 * t.val + l)) :
    IsV (a := 2048) (b := 2816) (φ := .bf16) ((dat1 V c).arrAt 4 cfg1.N) F := by
  intro r l
  obtain ⟨p, hp⟩ : ∃ p : Fin cfg1.N, p.val = l.val / 256 := ⟨⟨l.val / 256, by rw [show cfg1.N = 11 from N_1]; omega⟩, rfl⟩
  have hr : r.val = r.val := by omega
  have hl : 256 * p.val + l.val % 256 = l.val := by omega
  have e := congrFun ((dat1 V c).read_blk_arrAt_eq_flushed 4 (fun t t' _ _ hne => (cfg1.win 4).disjoint_blk fun h => hne (inj1_4 t t' h)) cfg1.N p p.isLt (flush1_4 p)) (ix2 (⟨r.val, by omega⟩ : Fin 2048) (⟨l.val % 256, by omega⟩ : Fin 256))
  have e2 := read1_4 p ((dat1 V c).arrAt 4 cfg1.N) (⟨r.val, by omega⟩ : Fin 2048) (⟨l.val % 256, by omega⟩ : Fin 256) (lt_of_eq_of_lt hr r.isLt) (lt_of_eq_of_lt hl l.isLt)
  have er : (⟨r.val, lt_of_eq_of_lt hr r.isLt⟩ : Fin 2048) = r := Fin.ext hr
  have el : (⟨256 * p.val + l.val % 256, lt_of_eq_of_lt hl l.isLt⟩ : Fin 2816) = l := Fin.ext hl
  rw [er, el] at e2
  refine e2.symm.trans (e.trans ((h p ⟨r.val, by omega⟩ ⟨l.val % 256, by omega⟩).trans ?_))
  show ((F (r.val) (256 * p.val + l.val % 256) : ℝ) : EReal) = _
  rw [hr, hl]

theorem idx1_5 (t : Fin grid1.N) : win1_5.index t 0 = 0 ∧ win1_5.index t 1 = t.val := by revert t; decide +kernel

theorem read1_5 (t : Fin cfg1.N) (f : Vec Ideal S2048x2816 .bf16) (r : Fin 2048) (l : Fin 256) (h0 : r.val < 2048) (h1 : 256 * t.val + l.val < 2816) :
    ((cfg1.win 5).blk t).view.read (Elt Ideal) f (ix2 r l) = f (ix2 (⟨r.val, h0⟩ : Fin 2048) (⟨256 * t.val + l.val, h1⟩ : Fin 2816)) := by
  rw [View.read_apply]
  refine congrArg f ?_
  funext x
  apply Fin.ext
  match x with
  | ⟨0, _⟩ => show win1_5.index t 0 * 2048 + 1 * r.val = r.val; rw [(idx1_5 t).1]; omega
  | ⟨1, _⟩ => show win1_5.index t 1 * 256 + 1 * l.val = 256 * t.val + l.val; rw [(idx1_5 t).2]; omega

theorem inj1_5 : ∀ t t' : Fin cfg1.N, win1_5.index t = win1_5.index t' → t = t' :=
  (by decide +kernel : ∀ t t' : Fin grid1.N, win1_5.index t = win1_5.index t' → t = t')

theorem arr1_5 {F : ℕ → ℕ → ℝ} (h : ∀ t : Fin cfg1.N, IsV (a := 2048) (b := 256) (φ := .bf16) ((dat1 V c).after 5 t) fun r l => F (r) (256 * t.val + l)) :
    IsV (a := 2048) (b := 2816) (φ := .bf16) ((dat1 V c).arrAt 5 cfg1.N) F := by
  intro r l
  obtain ⟨p, hp⟩ : ∃ p : Fin cfg1.N, p.val = l.val / 256 := ⟨⟨l.val / 256, by rw [show cfg1.N = 11 from N_1]; omega⟩, rfl⟩
  have hr : r.val = r.val := by omega
  have hl : 256 * p.val + l.val % 256 = l.val := by omega
  have e := congrFun ((dat1 V c).read_blk_arrAt_eq_flushed 5 (fun t t' _ _ hne => (cfg1.win 5).disjoint_blk fun h => hne (inj1_5 t t' h)) cfg1.N p p.isLt (flush1_5 p)) (ix2 (⟨r.val, by omega⟩ : Fin 2048) (⟨l.val % 256, by omega⟩ : Fin 256))
  have e2 := read1_5 p ((dat1 V c).arrAt 5 cfg1.N) (⟨r.val, by omega⟩ : Fin 2048) (⟨l.val % 256, by omega⟩ : Fin 256) (lt_of_eq_of_lt hr r.isLt) (lt_of_eq_of_lt hl l.isLt)
  have er : (⟨r.val, lt_of_eq_of_lt hr r.isLt⟩ : Fin 2048) = r := Fin.ext hr
  have el : (⟨256 * p.val + l.val % 256, lt_of_eq_of_lt hl l.isLt⟩ : Fin 2816) = l := Fin.ext hl
  rw [er, el] at e2
  refine e2.symm.trans (e.trans ((h p ⟨r.val, by omega⟩ ⟨l.val % 256, by omega⟩).trans ?_))
  show ((F (r.val) (256 * p.val + l.val % 256) : ℝ) : EReal) = _
  rw [hr, hl]

theorem idx2_0 (t : Fin grid2.N) : win2_0.index t 0 = 0 ∧ win2_0.index t 1 = 0 := by revert t; decide +kernel

theorem blk2_0 {f : ℕ → ℕ → ℝ} (h : IsV (a := 2048) (b := 2816) (φ := .bf16) (V c main_v27_0) f) (t : Fin cfg2.N) :
    IsV (a := 2048) (b := 2816) (φ := .bf16) (iblk2 V c 0 t) fun r l => f (r) (l) := by
  intro r l
  have ht : t.val < 2 := lt_of_lt_of_eq t.isLt N_2
  unfold iblk2
  rw [View.read_apply]
  refine Eq.trans (congrArg (V c main_v27_0) (?_ : _ = ix2 (⟨r.val, by omega⟩ : Fin 2048) (⟨l.val, by omega⟩ : Fin 2816))) (h _ _)
  funext x
  apply Fin.ext
  match x with
  | ⟨0, _⟩ => show win2_0.index t 0 * 2048 + 1 * r.val = r.val; rw [(idx2_0 t).1]; omega
  | ⟨1, _⟩ => show win2_0.index t 1 * 2816 + 1 * l.val = l.val; rw [(idx2_0 t).2]; omega

theorem idx2_1 (t : Fin grid2.N) : win2_1.index t 0 = 0 ∧ win2_1.index t 1 = t.val := by revert t; decide +kernel

theorem blk2_1 {f : ℕ → ℕ → ℝ} (h : IsV (a := 2816) (b := 1024) (φ := .bf16) (V c main_v21) f) (t : Fin cfg2.N) :
    IsV (a := 2816) (b := 512) (φ := .bf16) (iblk2 V c 1 t) fun r l => f (r) (512 * t.val + l) := by
  intro r l
  have ht : t.val < 2 := lt_of_lt_of_eq t.isLt N_2
  unfold iblk2
  rw [View.read_apply]
  refine Eq.trans (congrArg (V c main_v21) (?_ : _ = ix2 (⟨r.val, by omega⟩ : Fin 2816) (⟨512 * t.val + l.val, by omega⟩ : Fin 1024))) (h _ _)
  funext x
  apply Fin.ext
  match x with
  | ⟨0, _⟩ => show win2_1.index t 0 * 2816 + 1 * r.val = r.val; rw [(idx2_1 t).1]; omega
  | ⟨1, _⟩ => show win2_1.index t 1 * 512 + 1 * l.val = 512 * t.val + l.val; rw [(idx2_1 t).2]; omega

theorem idx2_2 (t : Fin grid2.N) : win2_2.index t 0 = 0 ∧ win2_2.index t 1 = t.val := by revert t; decide +kernel

theorem read2_2 (t : Fin cfg2.N) (f : Vec Ideal S2048x1024 .f32) (r : Fin 2048) (l : Fin 512) (h0 : r.val < 2048) (h1 : 512 * t.val + l.val < 1024) :
    ((cfg2.win 2).blk t).view.read (Elt Ideal) f (ix2 r l) = f (ix2 (⟨r.val, h0⟩ : Fin 2048) (⟨512 * t.val + l.val, h1⟩ : Fin 1024)) := by
  rw [View.read_apply]
  refine congrArg f ?_
  funext x
  apply Fin.ext
  match x with
  | ⟨0, _⟩ => show win2_2.index t 0 * 2048 + 1 * r.val = r.val; rw [(idx2_2 t).1]; omega
  | ⟨1, _⟩ => show win2_2.index t 1 * 512 + 1 * l.val = 512 * t.val + l.val; rw [(idx2_2 t).2]; omega

theorem inj2_2 : ∀ t t' : Fin cfg2.N, win2_2.index t = win2_2.index t' → t = t' :=
  (by decide +kernel : ∀ t t' : Fin grid2.N, win2_2.index t = win2_2.index t' → t = t')

theorem arr2_2 {F : ℕ → ℕ → ℝ} (h : ∀ t : Fin cfg2.N, IsV (a := 2048) (b := 512) (φ := .f32) ((dat2 V c).after 2 t) fun r l => F (r) (512 * t.val + l)) :
    IsV (a := 2048) (b := 1024) (φ := .f32) ((dat2 V c).arrAt 2 cfg2.N) F := by
  intro r l
  obtain ⟨p, hp⟩ : ∃ p : Fin cfg2.N, p.val = l.val / 512 := ⟨⟨l.val / 512, by rw [show cfg2.N = 2 from N_2]; omega⟩, rfl⟩
  have hr : r.val = r.val := by omega
  have hl : 512 * p.val + l.val % 512 = l.val := by omega
  have e := congrFun ((dat2 V c).read_blk_arrAt_eq_flushed 2 (fun t t' _ _ hne => (cfg2.win 2).disjoint_blk fun h => hne (inj2_2 t t' h)) cfg2.N p p.isLt (flush2_2 p)) (ix2 (⟨r.val, by omega⟩ : Fin 2048) (⟨l.val % 512, by omega⟩ : Fin 512))
  have e2 := read2_2 p ((dat2 V c).arrAt 2 cfg2.N) (⟨r.val, by omega⟩ : Fin 2048) (⟨l.val % 512, by omega⟩ : Fin 512) (lt_of_eq_of_lt hr r.isLt) (lt_of_eq_of_lt hl l.isLt)
  have er : (⟨r.val, lt_of_eq_of_lt hr r.isLt⟩ : Fin 2048) = r := Fin.ext hr
  have el : (⟨512 * p.val + l.val % 512, lt_of_eq_of_lt hl l.isLt⟩ : Fin 1024) = l := Fin.ext hl
  rw [er, el] at e2
  refine e2.symm.trans (e.trans ((h p ⟨r.val, by omega⟩ ⟨l.val % 512, by omega⟩).trans ?_))
  show ((F (r.val) (512 * p.val + l.val % 512) : ℝ) : EReal) = _
  rw [hr, hl]

theorem idx3_0 (t : Fin grid3.N) : win3_0.index t 0 = 0 ∧ win3_0.index t 1 = 0 := by revert t; decide +kernel

theorem blk3_0 {f : ℕ → ℕ → ℝ} (h : IsV (a := 2048) (b := 2816) (φ := .bf16) (V c main_v27_1) f) (t : Fin cfg3.N) :
    IsV (a := 2048) (b := 2816) (φ := .bf16) (iblk3 V c 0 t) fun r l => f (r) (l) := by
  intro r l
  have ht : t.val < 4 := lt_of_lt_of_eq t.isLt N_3
  unfold iblk3
  rw [View.read_apply]
  refine Eq.trans (congrArg (V c main_v27_1) (?_ : _ = ix2 (⟨r.val, by omega⟩ : Fin 2048) (⟨l.val, by omega⟩ : Fin 2816))) (h _ _)
  funext x
  apply Fin.ext
  match x with
  | ⟨0, _⟩ => show win3_0.index t 0 * 2048 + 1 * r.val = r.val; rw [(idx3_0 t).1]; omega
  | ⟨1, _⟩ => show win3_0.index t 1 * 2816 + 1 * l.val = l.val; rw [(idx3_0 t).2]; omega

theorem idx3_1 (t : Fin grid3.N) : win3_1.index t 0 = 0 ∧ win3_1.index t 1 = t.val := by revert t; decide +kernel

theorem blk3_1 {f : ℕ → ℕ → ℝ} (h : IsV (a := 2816) (b := 1024) (φ := .bf16) (V c main_v23) f) (t : Fin cfg3.N) :
    IsV (a := 2816) (b := 256) (φ := .bf16) (iblk3 V c 1 t) fun r l => f (r) (256 * t.val + l) := by
  intro r l
  have ht : t.val < 4 := lt_of_lt_of_eq t.isLt N_3
  unfold iblk3
  rw [View.read_apply]
  refine Eq.trans (congrArg (V c main_v23) (?_ : _ = ix2 (⟨r.val, by omega⟩ : Fin 2816) (⟨256 * t.val + l.val, by omega⟩ : Fin 1024))) (h _ _)
  funext x
  apply Fin.ext
  match x with
  | ⟨0, _⟩ => show win3_1.index t 0 * 2816 + 1 * r.val = r.val; rw [(idx3_1 t).1]; omega
  | ⟨1, _⟩ => show win3_1.index t 1 * 256 + 1 * l.val = 256 * t.val + l.val; rw [(idx3_1 t).2]; omega

theorem idx3_2 (t : Fin grid3.N) : win3_2.index t 0 = 0 ∧ win3_2.index t 1 = t.val := by revert t; decide +kernel

theorem blk3_2 {f : ℕ → ℕ → ℝ} (h : IsV (a := 2048) (b := 1024) (φ := .f32) (V c main_v28) f) (t : Fin cfg3.N) :
    IsV (a := 2048) (b := 256) (φ := .f32) (iblk3 V c 2 t) fun r l => f (r) (256 * t.val + l) := by
  intro r l
  have ht : t.val < 4 := lt_of_lt_of_eq t.isLt N_3
  unfold iblk3
  rw [View.read_apply]
  refine Eq.trans (congrArg (V c main_v28) (?_ : _ = ix2 (⟨r.val, by omega⟩ : Fin 2048) (⟨256 * t.val + l.val, by omega⟩ : Fin 1024))) (h _ _)
  funext x
  apply Fin.ext
  match x with
  | ⟨0, _⟩ => show win3_2.index t 0 * 2048 + 1 * r.val = r.val; rw [(idx3_2 t).1]; omega
  | ⟨1, _⟩ => show win3_2.index t 1 * 256 + 1 * l.val = 256 * t.val + l.val; rw [(idx3_2 t).2]; omega

theorem idx3_3 (t : Fin grid3.N) : win3_3.index t 0 = 0 ∧ win3_3.index t 1 = t.val := by revert t; decide +kernel

theorem read3_3 (t : Fin cfg3.N) (f : Vec Ideal S2048x1024 .f32) (r : Fin 2048) (l : Fin 256) (h0 : r.val < 2048) (h1 : 256 * t.val + l.val < 1024) :
    ((cfg3.win 3).blk t).view.read (Elt Ideal) f (ix2 r l) = f (ix2 (⟨r.val, h0⟩ : Fin 2048) (⟨256 * t.val + l.val, h1⟩ : Fin 1024)) := by
  rw [View.read_apply]
  refine congrArg f ?_
  funext x
  apply Fin.ext
  match x with
  | ⟨0, _⟩ => show win3_3.index t 0 * 2048 + 1 * r.val = r.val; rw [(idx3_3 t).1]; omega
  | ⟨1, _⟩ => show win3_3.index t 1 * 256 + 1 * l.val = 256 * t.val + l.val; rw [(idx3_3 t).2]; omega

theorem inj3_3 : ∀ t t' : Fin cfg3.N, win3_3.index t = win3_3.index t' → t = t' :=
  (by decide +kernel : ∀ t t' : Fin grid3.N, win3_3.index t = win3_3.index t' → t = t')

theorem arr3_3 {F : ℕ → ℕ → ℝ} (h : ∀ t : Fin cfg3.N, IsV (a := 2048) (b := 256) (φ := .f32) ((dat3 V c).after 3 t) fun r l => F (r) (256 * t.val + l)) :
    IsV (a := 2048) (b := 1024) (φ := .f32) ((dat3 V c).arrAt 3 cfg3.N) F := by
  intro r l
  obtain ⟨p, hp⟩ : ∃ p : Fin cfg3.N, p.val = l.val / 256 := ⟨⟨l.val / 256, by rw [show cfg3.N = 4 from N_3]; omega⟩, rfl⟩
  have hr : r.val = r.val := by omega
  have hl : 256 * p.val + l.val % 256 = l.val := by omega
  have e := congrFun ((dat3 V c).read_blk_arrAt_eq_flushed 3 (fun t t' _ _ hne => (cfg3.win 3).disjoint_blk fun h => hne (inj3_3 t t' h)) cfg3.N p p.isLt (flush3_3 p)) (ix2 (⟨r.val, by omega⟩ : Fin 2048) (⟨l.val % 256, by omega⟩ : Fin 256))
  have e2 := read3_3 p ((dat3 V c).arrAt 3 cfg3.N) (⟨r.val, by omega⟩ : Fin 2048) (⟨l.val % 256, by omega⟩ : Fin 256) (lt_of_eq_of_lt hr r.isLt) (lt_of_eq_of_lt hl l.isLt)
  have er : (⟨r.val, lt_of_eq_of_lt hr r.isLt⟩ : Fin 2048) = r := Fin.ext hr
  have el : (⟨256 * p.val + l.val % 256, lt_of_eq_of_lt hl l.isLt⟩ : Fin 1024) = l := Fin.ext hl
  rw [er, el] at e2
  refine e2.symm.trans (e.trans ((h p ⟨r.val, by omega⟩ ⟨l.val % 256, by omega⟩).trans ?_))
  show ((F (r.val) (256 * p.val + l.val % 256) : ℝ) : EReal) = _
  rw [hr, hl]

theorem idx4_0 (t : Fin grid4.N) : win4_0.index t 0 = 0 ∧ win4_0.index t 1 = t.val := by revert t; decide +kernel

theorem blk4_0 {f : ℕ → ℕ → ℝ} (h : IsV (a := 2048) (b := 2816) (φ := .bf16) (V c main_v27_0) f) (t : Fin cfg4.N) :
    IsV (a := 2048) (b := 1408) (φ := .bf16) (iblk4 V c 0 t) fun r l => f (r) (1408 * t.val + l) := by
  intro r l
  have ht : t.val < 2 := lt_of_lt_of_eq t.isLt N_4
  unfold iblk4
  rw [View.read_apply]
  refine Eq.trans (congrArg (V c main_v27_0) (?_ : _ = ix2 (⟨r.val, by omega⟩ : Fin 2048) (⟨1408 * t.val + l.val, by omega⟩ : Fin 2816))) (h _ _)
  funext x
  apply Fin.ext
  match x with
  | ⟨0, _⟩ => show win4_0.index t 0 * 2048 + 1 * r.val = r.val; rw [(idx4_0 t).1]; omega
  | ⟨1, _⟩ => show win4_0.index t 1 * 1408 + 1 * l.val = 1408 * t.val + l.val; rw [(idx4_0 t).2]; omega

theorem idx4_1 (t : Fin grid4.N) : win4_1.index t 0 = 0 ∧ win4_1.index t 1 = 0 := by revert t; decide +kernel

theorem blk4_1 {f : ℕ → ℕ → ℝ} (h : IsV (a := 2048) (b := 1024) (φ := .bf16) (V c main_v16) f) (t : Fin cfg4.N) :
    IsV (a := 2048) (b := 1024) (φ := .bf16) (iblk4 V c 1 t) fun r l => f (r) (l) := by
  intro r l
  have ht : t.val < 2 := lt_of_lt_of_eq t.isLt N_4
  unfold iblk4
  rw [View.read_apply]
  refine Eq.trans (congrArg (V c main_v16) (?_ : _ = ix2 (⟨r.val, by omega⟩ : Fin 2048) (⟨l.val, by omega⟩ : Fin 1024))) (h _ _)
  funext x
  apply Fin.ext
  match x with
  | ⟨0, _⟩ => show win4_1.index t 0 * 2048 + 1 * r.val = r.val; rw [(idx4_1 t).1]; omega
  | ⟨1, _⟩ => show win4_1.index t 1 * 1024 + 1 * l.val = l.val; rw [(idx4_1 t).2]; omega

theorem idx4_2 (t : Fin grid4.N) : win4_2.index t 0 = t.val ∧ win4_2.index t 1 = 0 := by revert t; decide +kernel

theorem read4_2 (t : Fin cfg4.N) (f : Vec Ideal S2816x1024 .bf16) (r : Fin 1408) (l : Fin 1024) (h0 : 1408 * t.val + r.val < 2816) (h1 : l.val < 1024) :
    ((cfg4.win 2).blk t).view.read (Elt Ideal) f (ix2 r l) = f (ix2 (⟨1408 * t.val + r.val, h0⟩ : Fin 2816) (⟨l.val, h1⟩ : Fin 1024)) := by
  rw [View.read_apply]
  refine congrArg f ?_
  funext x
  apply Fin.ext
  match x with
  | ⟨0, _⟩ => show win4_2.index t 0 * 1408 + 1 * r.val = 1408 * t.val + r.val; rw [(idx4_2 t).1]; omega
  | ⟨1, _⟩ => show win4_2.index t 1 * 1024 + 1 * l.val = l.val; rw [(idx4_2 t).2]; omega

theorem inj4_2 : ∀ t t' : Fin cfg4.N, win4_2.index t = win4_2.index t' → t = t' :=
  (by decide +kernel : ∀ t t' : Fin grid4.N, win4_2.index t = win4_2.index t' → t = t')

theorem arr4_2 {F : ℕ → ℕ → ℝ} (h : ∀ t : Fin cfg4.N, IsV (a := 1408) (b := 1024) (φ := .bf16) ((dat4 V c).after 2 t) fun r l => F (1408 * t.val + r) (l)) :
    IsV (a := 2816) (b := 1024) (φ := .bf16) ((dat4 V c).arrAt 2 cfg4.N) F := by
  intro r l
  obtain ⟨p, hp⟩ : ∃ p : Fin cfg4.N, p.val = r.val / 1408 := ⟨⟨r.val / 1408, by rw [show cfg4.N = 2 from N_4]; omega⟩, rfl⟩
  have hr : 1408 * p.val + r.val % 1408 = r.val := by omega
  have hl : l.val = l.val := by omega
  have e := congrFun ((dat4 V c).read_blk_arrAt_eq_flushed 2 (fun t t' _ _ hne => (cfg4.win 2).disjoint_blk fun h => hne (inj4_2 t t' h)) cfg4.N p p.isLt (flush4_2 p)) (ix2 (⟨r.val % 1408, by omega⟩ : Fin 1408) (⟨l.val, by omega⟩ : Fin 1024))
  have e2 := read4_2 p ((dat4 V c).arrAt 2 cfg4.N) (⟨r.val % 1408, by omega⟩ : Fin 1408) (⟨l.val, by omega⟩ : Fin 1024) (lt_of_eq_of_lt hr r.isLt) (lt_of_eq_of_lt hl l.isLt)
  have er : (⟨1408 * p.val + r.val % 1408, lt_of_eq_of_lt hr r.isLt⟩ : Fin 2816) = r := Fin.ext hr
  have el : (⟨l.val, lt_of_eq_of_lt hl l.isLt⟩ : Fin 1024) = l := Fin.ext hl
  rw [er, el] at e2
  refine e2.symm.trans (e.trans ((h p ⟨r.val % 1408, by omega⟩ ⟨l.val, by omega⟩).trans ?_))
  show ((F (1408 * p.val + r.val % 1408) (l.val) : ℝ) : EReal) = _
  rw [hr, hl]

theorem idx5_0 (t : Fin grid5.N) : win5_0.index t 0 = 0 ∧ win5_0.index t 1 = t.val := by revert t; decide +kernel

theorem blk5_0 {f : ℕ → ℕ → ℝ} (h : IsV (a := 2048) (b := 2816) (φ := .bf16) (V c main_v27_1) f) (t : Fin cfg5.N) :
    IsV (a := 2048) (b := 1408) (φ := .bf16) (iblk5 V c 0 t) fun r l => f (r) (1408 * t.val + l) := by
  intro r l
  have ht : t.val < 2 := lt_of_lt_of_eq t.isLt N_5
  unfold iblk5
  rw [View.read_apply]
  refine Eq.trans (congrArg (V c main_v27_1) (?_ : _ = ix2 (⟨r.val, by omega⟩ : Fin 2048) (⟨1408 * t.val + l.val, by omega⟩ : Fin 2816))) (h _ _)
  funext x
  apply Fin.ext
  match x with
  | ⟨0, _⟩ => show win5_0.index t 0 * 2048 + 1 * r.val = r.val; rw [(idx5_0 t).1]; omega
  | ⟨1, _⟩ => show win5_0.index t 1 * 1408 + 1 * l.val = 1408 * t.val + l.val; rw [(idx5_0 t).2]; omega

theorem idx5_1 (t : Fin grid5.N) : win5_1.index t 0 = 0 ∧ win5_1.index t 1 = 0 := by revert t; decide +kernel

theorem blk5_1 {f : ℕ → ℕ → ℝ} (h : IsV (a := 2048) (b := 1024) (φ := .bf16) (V c main_v16) f) (t : Fin cfg5.N) :
    IsV (a := 2048) (b := 1024) (φ := .bf16) (iblk5 V c 1 t) fun r l => f (r) (l) := by
  intro r l
  have ht : t.val < 2 := lt_of_lt_of_eq t.isLt N_5
  unfold iblk5
  rw [View.read_apply]
  refine Eq.trans (congrArg (V c main_v16) (?_ : _ = ix2 (⟨r.val, by omega⟩ : Fin 2048) (⟨l.val, by omega⟩ : Fin 1024))) (h _ _)
  funext x
  apply Fin.ext
  match x with
  | ⟨0, _⟩ => show win5_1.index t 0 * 2048 + 1 * r.val = r.val; rw [(idx5_1 t).1]; omega
  | ⟨1, _⟩ => show win5_1.index t 1 * 1024 + 1 * l.val = l.val; rw [(idx5_1 t).2]; omega

theorem idx5_2 (t : Fin grid5.N) : win5_2.index t 0 = t.val ∧ win5_2.index t 1 = 0 := by revert t; decide +kernel

theorem read5_2 (t : Fin cfg5.N) (f : Vec Ideal S2816x1024 .bf16) (r : Fin 1408) (l : Fin 1024) (h0 : 1408 * t.val + r.val < 2816) (h1 : l.val < 1024) :
    ((cfg5.win 2).blk t).view.read (Elt Ideal) f (ix2 r l) = f (ix2 (⟨1408 * t.val + r.val, h0⟩ : Fin 2816) (⟨l.val, h1⟩ : Fin 1024)) := by
  rw [View.read_apply]
  refine congrArg f ?_
  funext x
  apply Fin.ext
  match x with
  | ⟨0, _⟩ => show win5_2.index t 0 * 1408 + 1 * r.val = 1408 * t.val + r.val; rw [(idx5_2 t).1]; omega
  | ⟨1, _⟩ => show win5_2.index t 1 * 1024 + 1 * l.val = l.val; rw [(idx5_2 t).2]; omega

theorem inj5_2 : ∀ t t' : Fin cfg5.N, win5_2.index t = win5_2.index t' → t = t' :=
  (by decide +kernel : ∀ t t' : Fin grid5.N, win5_2.index t = win5_2.index t' → t = t')

theorem arr5_2 {F : ℕ → ℕ → ℝ} (h : ∀ t : Fin cfg5.N, IsV (a := 1408) (b := 1024) (φ := .bf16) ((dat5 V c).after 2 t) fun r l => F (1408 * t.val + r) (l)) :
    IsV (a := 2816) (b := 1024) (φ := .bf16) ((dat5 V c).arrAt 2 cfg5.N) F := by
  intro r l
  obtain ⟨p, hp⟩ : ∃ p : Fin cfg5.N, p.val = r.val / 1408 := ⟨⟨r.val / 1408, by rw [show cfg5.N = 2 from N_5]; omega⟩, rfl⟩
  have hr : 1408 * p.val + r.val % 1408 = r.val := by omega
  have hl : l.val = l.val := by omega
  have e := congrFun ((dat5 V c).read_blk_arrAt_eq_flushed 2 (fun t t' _ _ hne => (cfg5.win 2).disjoint_blk fun h => hne (inj5_2 t t' h)) cfg5.N p p.isLt (flush5_2 p)) (ix2 (⟨r.val % 1408, by omega⟩ : Fin 1408) (⟨l.val, by omega⟩ : Fin 1024))
  have e2 := read5_2 p ((dat5 V c).arrAt 2 cfg5.N) (⟨r.val % 1408, by omega⟩ : Fin 1408) (⟨l.val, by omega⟩ : Fin 1024) (lt_of_eq_of_lt hr r.isLt) (lt_of_eq_of_lt hl l.isLt)
  have er : (⟨1408 * p.val + r.val % 1408, lt_of_eq_of_lt hr r.isLt⟩ : Fin 2816) = r := Fin.ext hr
  have el : (⟨l.val, lt_of_eq_of_lt hl l.isLt⟩ : Fin 1024) = l := Fin.ext hl
  rw [er, el] at e2
  refine e2.symm.trans (e.trans ((h p ⟨r.val % 1408, by omega⟩ ⟨l.val, by omega⟩).trans ?_))
  show ((F (1408 * p.val + r.val % 1408) (l.val) : ℝ) : EReal) = _
  rw [hr, hl]

theorem idx6_0 (t : Fin grid6.N) : win6_0.index t 0 = t.val ∧ win6_0.index t 1 = 0 := by revert t; decide +kernel

theorem blk6_0 {f : ℕ → ℕ → ℝ} (h : IsV (a := 2048) (b := 1024) (φ := .f32) (V c main_v29) f) (t : Fin cfg6.N) :
    IsV (a := 256) (b := 1024) (φ := .f32) (iblk6 V c 0 t) fun r l => f (256 * t.val + r) (l) := by
  intro r l
  have ht : t.val < 8 := lt_of_lt_of_eq t.isLt N_6
  unfold iblk6
  rw [View.read_apply]
  refine Eq.trans (congrArg (V c main_v29) (?_ : _ = ix2 (⟨256 * t.val + r.val, by omega⟩ : Fin 2048) (⟨l.val, by omega⟩ : Fin 1024))) (h _ _)
  funext x
  apply Fin.ext
  match x with
  | ⟨0, _⟩ => show win6_0.index t 0 * 256 + 1 * r.val = 256 * t.val + r.val; rw [(idx6_0 t).1]; omega
  | ⟨1, _⟩ => show win6_0.index t 1 * 1024 + 1 * l.val = l.val; rw [(idx6_0 t).2]; omega

theorem idx6_1 (t : Fin grid6.N) : win6_1.index t 0 = t.val ∧ win6_1.index t 1 = 0 := by revert t; decide +kernel

theorem blk6_1 {f : ℕ → ℕ → ℝ} (h : IsV (a := 2048) (b := 1024) (φ := .f32) (V c main_arg1) f) (t : Fin cfg6.N) :
    IsV (a := 256) (b := 1024) (φ := .f32) (iblk6 V c 1 t) fun r l => f (256 * t.val + r) (l) := by
  intro r l
  have ht : t.val < 8 := lt_of_lt_of_eq t.isLt N_6
  unfold iblk6
  rw [View.read_apply]
  refine Eq.trans (congrArg (V c main_arg1) (?_ : _ = ix2 (⟨256 * t.val + r.val, by omega⟩ : Fin 2048) (⟨l.val, by omega⟩ : Fin 1024))) (h _ _)
  funext x
  apply Fin.ext
  match x with
  | ⟨0, _⟩ => show win6_1.index t 0 * 256 + 1 * r.val = 256 * t.val + r.val; rw [(idx6_1 t).1]; omega
  | ⟨1, _⟩ => show win6_1.index t 1 * 1024 + 1 * l.val = l.val; rw [(idx6_1 t).2]; omega

theorem idx6_2 (t : Fin grid6.N) : win6_2.index t 0 = t.val ∧ win6_2.index t 1 = 0 := by revert t; decide +kernel

theorem blk6_2 {f : ℕ → ℕ → ℝ} (h : IsV (a := 2048) (b := 1024) (φ := .f32) (V c main_arg0) f) (t : Fin cfg6.N) :
    IsV (a := 256) (b := 1024) (φ := .f32) (iblk6 V c 2 t) fun r l => f (256 * t.val + r) (l) := by
  intro r l
  have ht : t.val < 8 := lt_of_lt_of_eq t.isLt N_6
  unfold iblk6
  rw [View.read_apply]
  refine Eq.trans (congrArg (V c main_arg0) (?_ : _ = ix2 (⟨256 * t.val + r.val, by omega⟩ : Fin 2048) (⟨l.val, by omega⟩ : Fin 1024))) (h _ _)
  funext x
  apply Fin.ext
  match x with
  | ⟨0, _⟩ => show win6_2.index t 0 * 256 + 1 * r.val = 256 * t.val + r.val; rw [(idx6_2 t).1]; omega
  | ⟨1, _⟩ => show win6_2.index t 1 * 1024 + 1 * l.val = l.val; rw [(idx6_2 t).2]; omega

theorem idx6_3 (t : Fin grid6.N) : win6_3.index t 0 = 0 ∧ win6_3.index t 1 = 0 := by revert t; decide +kernel

theorem blk6_3 {f : ℕ → ℕ → ℝ} (h : IsV (a := 1) (b := 1024) (φ := .f32) (V c main_arg2) f) (t : Fin cfg6.N) :
    IsV (a := 1) (b := 1024) (φ := .f32) (iblk6 V c 3 t) fun r l => f (r) (l) := by
  intro r l
  have ht : t.val < 8 := lt_of_lt_of_eq t.isLt N_6
  unfold iblk6
  rw [View.read_apply]
  refine Eq.trans (congrArg (V c main_arg2) (?_ : _ = ix2 (⟨r.val, by omega⟩ : Fin 1) (⟨l.val, by omega⟩ : Fin 1024))) (h _ _)
  funext x
  apply Fin.ext
  match x with
  | ⟨0, _⟩ => show win6_3.index t 0 * 1 + 1 * r.val = r.val; rw [(idx6_3 t).1]; omega
  | ⟨1, _⟩ => show win6_3.index t 1 * 1024 + 1 * l.val = l.val; rw [(idx6_3 t).2]; omega

theorem idx6_4 (t : Fin grid6.N) : win6_4.index t 0 = t.val ∧ win6_4.index t 1 = 0 := by revert t; decide +kernel

theorem read6_4 (t : Fin cfg6.N) (f : Vec Ideal S2048x1024 .f32) (r : Fin 256) (l : Fin 1024) (h0 : 256 * t.val + r.val < 2048) (h1 : l.val < 1024) :
    ((cfg6.win 4).blk t).view.read (Elt Ideal) f (ix2 r l) = f (ix2 (⟨256 * t.val + r.val, h0⟩ : Fin 2048) (⟨l.val, h1⟩ : Fin 1024)) := by
  rw [View.read_apply]
  refine congrArg f ?_
  funext x
  apply Fin.ext
  match x with
  | ⟨0, _⟩ => show win6_4.index t 0 * 256 + 1 * r.val = 256 * t.val + r.val; rw [(idx6_4 t).1]; omega
  | ⟨1, _⟩ => show win6_4.index t 1 * 1024 + 1 * l.val = l.val; rw [(idx6_4 t).2]; omega

theorem inj6_4 : ∀ t t' : Fin cfg6.N, win6_4.index t = win6_4.index t' → t = t' :=
  (by decide +kernel : ∀ t t' : Fin grid6.N, win6_4.index t = win6_4.index t' → t = t')

theorem arr6_4 {F : ℕ → ℕ → ℝ} (h : ∀ t : Fin cfg6.N, IsV (a := 256) (b := 1024) (φ := .f32) ((dat6 V c).after 4 t) fun r l => F (256 * t.val + r) (l)) :
    IsV (a := 2048) (b := 1024) (φ := .f32) ((dat6 V c).arrAt 4 cfg6.N) F := by
  intro r l
  obtain ⟨p, hp⟩ : ∃ p : Fin cfg6.N, p.val = r.val / 256 := ⟨⟨r.val / 256, by rw [show cfg6.N = 8 from N_6]; omega⟩, rfl⟩
  have hr : 256 * p.val + r.val % 256 = r.val := by omega
  have hl : l.val = l.val := by omega
  have e := congrFun ((dat6 V c).read_blk_arrAt_eq_flushed 4 (fun t t' _ _ hne => (cfg6.win 4).disjoint_blk fun h => hne (inj6_4 t t' h)) cfg6.N p p.isLt (flush6_4 p)) (ix2 (⟨r.val % 256, by omega⟩ : Fin 256) (⟨l.val, by omega⟩ : Fin 1024))
  have e2 := read6_4 p ((dat6 V c).arrAt 4 cfg6.N) (⟨r.val % 256, by omega⟩ : Fin 256) (⟨l.val, by omega⟩ : Fin 1024) (lt_of_eq_of_lt hr r.isLt) (lt_of_eq_of_lt hl l.isLt)
  have er : (⟨256 * p.val + r.val % 256, lt_of_eq_of_lt hr r.isLt⟩ : Fin 2048) = r := Fin.ext hr
  have el : (⟨l.val, lt_of_eq_of_lt hl l.isLt⟩ : Fin 1024) = l := Fin.ext hl
  rw [er, el] at e2
  refine e2.symm.trans (e.trans ((h p ⟨r.val % 256, by omega⟩ ⟨l.val, by omega⟩).trans ?_))
  show ((F (256 * p.val + r.val % 256) (l.val) : ℝ) : EReal) = _
  rw [hr, hl]

theorem idx6_5 (t : Fin grid6.N) : win6_5.index t 0 = t.val ∧ win6_5.index t 1 = 0 := by revert t; decide +kernel

theorem read6_5 (t : Fin cfg6.N) (f : Vec Ideal S2048x1024 .bf16) (r : Fin 256) (l : Fin 1024) (h0 : 256 * t.val + r.val < 2048) (h1 : l.val < 1024) :
    ((cfg6.win 5).blk t).view.read (Elt Ideal) f (ix2 r l) = f (ix2 (⟨256 * t.val + r.val, h0⟩ : Fin 2048) (⟨l.val, h1⟩ : Fin 1024)) := by
  rw [View.read_apply]
  refine congrArg f ?_
  funext x
  apply Fin.ext
  match x with
  | ⟨0, _⟩ => show win6_5.index t 0 * 256 + 1 * r.val = 256 * t.val + r.val; rw [(idx6_5 t).1]; omega
  | ⟨1, _⟩ => show win6_5.index t 1 * 1024 + 1 * l.val = l.val; rw [(idx6_5 t).2]; omega

theorem inj6_5 : ∀ t t' : Fin cfg6.N, win6_5.index t = win6_5.index t' → t = t' :=
  (by decide +kernel : ∀ t t' : Fin grid6.N, win6_5.index t = win6_5.index t' → t = t')

theorem arr6_5 {F : ℕ → ℕ → ℝ} (h : ∀ t : Fin cfg6.N, IsV (a := 256) (b := 1024) (φ := .bf16) ((dat6 V c).after 5 t) fun r l => F (256 * t.val + r) (l)) :
    IsV (a := 2048) (b := 1024) (φ := .bf16) ((dat6 V c).arrAt 5 cfg6.N) F := by
  intro r l
  obtain ⟨p, hp⟩ : ∃ p : Fin cfg6.N, p.val = r.val / 256 := ⟨⟨r.val / 256, by rw [show cfg6.N = 8 from N_6]; omega⟩, rfl⟩
  have hr : 256 * p.val + r.val % 256 = r.val := by omega
  have hl : l.val = l.val := by omega
  have e := congrFun ((dat6 V c).read_blk_arrAt_eq_flushed 5 (fun t t' _ _ hne => (cfg6.win 5).disjoint_blk fun h => hne (inj6_5 t t' h)) cfg6.N p p.isLt (flush6_5 p)) (ix2 (⟨r.val % 256, by omega⟩ : Fin 256) (⟨l.val, by omega⟩ : Fin 1024))
  have e2 := read6_5 p ((dat6 V c).arrAt 5 cfg6.N) (⟨r.val % 256, by omega⟩ : Fin 256) (⟨l.val, by omega⟩ : Fin 1024) (lt_of_eq_of_lt hr r.isLt) (lt_of_eq_of_lt hl l.isLt)
  have er : (⟨256 * p.val + r.val % 256, lt_of_eq_of_lt hr r.isLt⟩ : Fin 2048) = r := Fin.ext hr
  have el : (⟨l.val, lt_of_eq_of_lt hl l.isLt⟩ : Fin 1024) = l := Fin.ext hl
  rw [er, el] at e2
  refine e2.symm.trans (e.trans ((h p ⟨r.val % 256, by omega⟩ ⟨l.val, by omega⟩).trans ?_))
  show ((F (256 * p.val + r.val % 256) (l.val) : ℝ) : EReal) = _
  rw [hr, hl]

end Cert.Ffn
-- ==== Proof.FfnRegions.lean ====
/-
  Each kernel call's results from its operands.
-/
module

public import proofs.«01_k».proof.Proof.FfnBlocks
public import Idealize.ShloMosaic.Lib.Pipeline.ValueKit.Tiles
public import Idealize.ShloMosaic.Lib.Pipeline.ValueKit.Acc

@[expose] public section

set_option maxRecDepth 16384

noncomputable section

namespace Cert.Ffn

open Cert.KernelIdeal.Body (IsV coe_sum)
open Cert.Kernel2Ideal Cert.Kernel2Ideal.Gen Idealize.ShloMosaic Idealize.ShloMosaic.TcCoe
open Finset (range)

theorem off0 : (![0, 0] : Fin 2 → ℕ) = fun _ => 0 := by funext x; fin_cases x <;> rfl

variable (X : RF) (V : (c : Dev nD) → (b : Ref sig .tc) → Buf (Elt Ideal) ((c : Thread nD τ).loc b)) (c : Dev nD)

theorem out0 (a : Vec Ideal S2048x1408 .bf16) (b : Vec Ideal S2048x1024 .bf16) : out0_2 (F := Ideal) a b = k0_pay1 a b := by
  rw [out0_2, View.canon_unit_zero off0, View.ld_unit_zero off0, View.ld_unit_zero off0]
theorem out4 (a : Vec Ideal S2048x1408 .bf16) (b : Vec Ideal S2048x1024 .bf16) : out4_2 (F := Ideal) a b = k4_pay1 a b := by
  rw [out4_2, View.canon_unit_zero off0, View.ld_unit_zero off0, View.ld_unit_zero off0]
theorem out5 (a : Vec Ideal S2048x1408 .bf16) (b : Vec Ideal S2048x1024 .bf16) : out5_2 (F := Ideal) a b = k5_pay1 a b := by
  rw [out5_2, View.canon_unit_zero off0, View.ld_unit_zero off0, View.ld_unit_zero off0]
theorem out2 (a : Vec Ideal S2048x2816 .bf16) (b : Vec Ideal S2816x512 .bf16) : out2_2 (F := Ideal) a b = k2_pay1 a b := by
  rw [out2_2, View.canon_unit_zero off0, View.ld_unit_zero off0, View.ld_unit_zero off0]
theorem out3 (a : Vec Ideal S2048x2816 .bf16) (b : Vec Ideal S2816x256 .bf16) (r : Vec Ideal S2048x256 .f32) : out3_3 (F := Ideal) a b r = k3_pay1 a b r := by
  rw [out3_3, View.canon_unit_zero off0, View.ld_unit_zero off0, View.ld_unit_zero off0, View.ld_unit_zero off0]

theorem reg0 (h0 : IsV (a := 2048) (b := 2816) (φ := .bf16) (V c main_v19) X.act) (h1 : IsV (a := 2048) (b := 1024) (φ := .bf16) (V c main_v25) X.dh) :
    IsV (a := 2816) (b := 1024) (φ := .bf16) ((dat0 V c).arrAt 2 cfg0.N) X.dwd := by
  refine arr0_2 V c fun t => ?_
  rw [after0_2, out0]
  exact pay0 (blk0_0 V c h0 t) (blk0_1 V c h1 t)

theorem reg4 (h0 : IsV (a := 2048) (b := 2816) (φ := .bf16) (V c main_v27_0) X.dg) (h1 : IsV (a := 2048) (b := 1024) (φ := .bf16) (V c main_v16) X.u) :
    IsV (a := 2816) (b := 1024) (φ := .bf16) ((dat4 V c).arrAt 2 cfg4.N) X.dwg := by
  refine arr4_2 V c fun t => ?_
  rw [after4_2, out4]
  exact pay4 (blk4_0 V c h0 t) (blk4_1 V c h1 t)

theorem reg5 (h0 : IsV (a := 2048) (b := 2816) (φ := .bf16) (V c main_v27_1) X.dup) (h1 : IsV (a := 2048) (b := 1024) (φ := .bf16) (V c main_v16) X.u) :
    IsV (a := 2816) (b := 1024) (φ := .bf16) ((dat5 V c).arrAt 2 cfg5.N) X.dwu := by
  refine arr5_2 V c fun t => ?_
  rw [after5_2, out5]
  exact pay5 (blk5_0 V c h0 t) (blk5_1 V c h1 t)

theorem reg2 (h0 : IsV (a := 2048) (b := 2816) (φ := .bf16) (V c main_v27_0) X.dg) (h1 : IsV (a := 2816) (b := 1024) (φ := .bf16) (V c main_v21) fun j d => X.wg d j) :
    IsV (a := 2048) (b := 1024) (φ := .f32) ((dat2 V c).arrAt 2 cfg2.N) X.dug := by
  refine arr2_2 V c fun t => ?_
  rw [after2_2, out2]
  exact pay2 (blk2_0 V c h0 t) (blk2_1 V c h1 t)

theorem reg3 (h0 : IsV (a := 2048) (b := 2816) (φ := .bf16) (V c main_v27_1) X.dup) (h1 : IsV (a := 2816) (b := 1024) (φ := .bf16) (V c main_v23) fun j d => X.wu d j)
    (h2 : IsV (a := 2048) (b := 1024) (φ := .f32) (V c main_v28) X.dug) :
    IsV (a := 2048) (b := 1024) (φ := .f32) ((dat3 V c).arrAt 3 cfg3.N) X.du := by
  refine arr3_3 V c fun t => ?_
  rw [after3_3, out3]
  exact pay3 (blk3_0 V c h0 t) (blk3_1 V c h1 t) (blk3_2 V c h2 t)

/-! ## The gated product's pullback: two halves of the rows -/

theorem ld_rows {A B a o : ℕ} {x : FVec Ideal ⟨2, ![A, B]⟩ .bf16} {f : ℕ → ℕ → ℝ} (h : IsV x f)
    (inb : ∀ i, (![o, 0] : Fin 2 → ℕ) i + (![a, B] : Fin 2 → ℕ) i ≤ (⟨2, ![A, B]⟩ : Shape).size i) :
    IsV (a := a) (b := B) (φ := .bf16) (View.ld (Val := Elt Ideal) (e' := .bf16) x (Rect.unit (s := ⟨2, ![A, B]⟩) ![o, 0] ![a, B] inb)) fun r l => f (o + r) l := by
  intro r l
  have hb : o + a ≤ A := inb 0
  refine (View.ld_unit_apply_of (Val := Elt Ideal) (e := .bf16) x ![o, 0] ![a, B] inb (ix2 r l) (ix2 (⟨o + r.val, by omega⟩ : Fin A) l) ?_).trans (h _ _)
  intro i
  match i with
  | ⟨0, _⟩ => rfl
  | ⟨1, _⟩ => show l.val = 0 + l.val; omega

theorem ld_rows0 {A B a : ℕ} {x : FVec Ideal ⟨2, ![A, B]⟩ .bf16} {f : ℕ → ℕ → ℝ} (h : IsV x f)
    (inb : ∀ i, (![0, 0] : Fin 2 → ℕ) i + (![a, B] : Fin 2 → ℕ) i ≤ (⟨2, ![A, B]⟩ : Shape).size i) :
    IsV (a := a) (b := B) (φ := .bf16) (View.ld (Val := Elt Ideal) (e' := .bf16) x (Rect.unit (s := ⟨2, ![A, B]⟩) ![0, 0] ![a, B] inb)) f := by
  intro r l
  have e := ld_rows h inb r l
  simp only [Nat.zero_add] at e
  exact e

theorem two_rows {A B a : ℕ} (p q : FVec Ideal ⟨2, ![a, B]⟩ .bf16) {f : ℕ → ℕ → ℝ} (hA : A = a + a)
    (i0 : ∀ i, (![0, 0] : Fin 2 → ℕ) i + (![a, B] : Fin 2 → ℕ) i ≤ (⟨2, ![A, B]⟩ : Shape).size i)
    (i1 : ∀ i, (![a, 0] : Fin 2 → ℕ) i + (![a, B] : Fin 2 → ℕ) i ≤ (⟨2, ![A, B]⟩ : Shape).size i)
    (hp : IsV p f) (hq : IsV q fun r l => f (a + r) l) :
    IsV (a := A) (b := B) (φ := .bf16) (View.canon (Val := Elt Ideal) (e := .bf16)
      [(⟨Rect.unit (s := ⟨2, ![A, B]⟩) ![a, 0] ![a, B] i1, q⟩ : View.Piece (Elt Ideal) ⟨2, ![A, B]⟩ .bf16), ⟨Rect.unit (s := ⟨2, ![A, B]⟩) ![0, 0] ![a, B] i0, p⟩]) f := by
  intro r l
  refine View.canon_eq_of_allAt _ _ _ ?_ (View.allAt_cons_unit _ _ _ _ _ ?_ (View.allAt_cons_unit _ _ _ _ _ ?_ (View.allAt_nil _ _)))
  · by_cases h : r.val < a
    · refine ⟨_, List.mem_cons_of_mem _ List.mem_cons_self, ?_⟩
      rw [Rect.mem_set_unit]
      intro i
      match i with
      | ⟨0, _⟩ => exact ⟨Nat.zero_le _, by show r.val < 0 + a; omega⟩
      | ⟨1, _⟩ => exact ⟨Nat.zero_le _, by show l.val < 0 + B; omega⟩
    · refine ⟨_, List.mem_cons_self, ?_⟩
      rw [Rect.mem_set_unit]
      intro i
      match i with
      | ⟨0, _⟩ => exact ⟨by show a ≤ r.val; omega, by show r.val < a + a; omega⟩
      | ⟨1, _⟩ => exact ⟨Nat.zero_le _, by show l.val < 0 + B; omega⟩
  · intro x hx
    have h0 : r.val = a + (x 0).val := hx 0
    have h1 : l.val = 0 + (x 1).val := hx 1
    have ex : x = ix2 (x 0) (x 1) := by funext i; match i with | ⟨0, _⟩ => rfl | ⟨1, _⟩ => rfl
    rw [ex]
    exact (hq (x 0) (x 1)).trans (congrArg (fun z : ℝ => (z : EReal)) (congrArg₂ f h0.symm ((Nat.zero_add _).symm.trans h1.symm)))
  · intro x hx
    have h0 : r.val = 0 + (x 0).val := hx 0
    have h1 : l.val = 0 + (x 1).val := hx 1
    have ex : x = ix2 (x 0) (x 1) := by funext i; match i with | ⟨0, _⟩ => rfl | ⟨1, _⟩ => rfl
    rw [ex]
    exact (hp (x 0) (x 1)).trans (congrArg (fun z : ℝ => (z : EReal)) (congrArg₂ f ((Nat.zero_add _).symm.trans h0.symm) ((Nat.zero_add _).symm.trans h1.symm)))

section
variable (h0 : IsV (a := 2048) (b := 1024) (φ := .bf16) (V c main_v25) X.dh) (h1 : IsV (a := 2816) (b := 1024) (φ := .bf16) (V c main_v24) X.wd)
  (h2 : IsV (a := 2048) (b := 2816) (φ := .bf16) (V c main_v17) X.g) (h3 : IsV (a := 2048) (b := 2816) (φ := .bf16) (V c main_v18) X.up)
include h0 h1 h2 h3

/-- The first and the second half of the rows, as the body stores them. -/
theorem reg1_g : IsV (a := 2048) (b := 2816) (φ := .bf16) ((dat1 V c).arrAt 4 cfg1.N) X.dg := by
  refine arr1_4 V c fun t => ?_
  rw [after1_4, out1_4]
  exact two_rows (A := 2048) (B := 256) (a := 1024) _ _ rfl _ _
    (pay1_g (ld_rows0 (blk1_0 V c h0 t) _) (ld_rows0 (blk1_1 V c h1 t) _) (ld_rows0 (blk1_2 V c h2 t) _) (ld_rows0 (blk1_3 V c h3 t) _))
    (pay1_g' (ld_rows (blk1_0 V c h0 t) _) (ld_rows0 (blk1_1 V c h1 t) _) (ld_rows (blk1_2 V c h2 t) _) (ld_rows (blk1_3 V c h3 t) _))

theorem reg1_up : IsV (a := 2048) (b := 2816) (φ := .bf16) ((dat1 V c).arrAt 5 cfg1.N) X.dup := by
  refine arr1_5 V c fun t => ?_
  rw [after1_5, out1_5]
  exact two_rows (A := 2048) (B := 256) (a := 1024) _ _ rfl _ _
    (pay1_up (ld_rows0 (blk1_0 V c h0 t) _) (ld_rows0 (blk1_1 V c h1 t) _) (ld_rows0 (blk1_2 V c h2 t) _))
    (pay1_up' (ld_rows (blk1_0 V c h0 t) _) (ld_rows0 (blk1_1 V c h1 t) _) (ld_rows (blk1_2 V c h2 t) _))
end

/-! ## The root mean square's pullback -/

section
variable (h0 : IsV (a := 2048) (b := 1024) (φ := .f32) (V c main_v29) X.du) (h1 : IsV (a := 2048) (b := 1024) (φ := .f32) (V c main_arg1) X.h)
  (h2 : IsV (a := 2048) (b := 1024) (φ := .f32) (V c main_arg0) X.dh) (h3 : IsV (a := 1) (b := 1024) (φ := .f32) (V c main_arg2) fun _ l => X.nw l)
include h0 h1 h2 h3

theorem reg6_x : IsV (a := 2048) (b := 1024) (φ := .f32) ((dat6 V c).arrAt 4 cfg6.N) X.dx := by
  refine arr6_4 V c fun t => ?_
  have e := pay6_x (blk6_0 V c h0 t) (blk6_1 V c h1 t) (blk6_2 V c h2 t) (blk6_3 V c h3 t)
  rw [after6_4]
  by_cases hz : t.val % 8 = 0
  · rw [outsAt6_A V c t hz]; frame_out; exact e
  · rw [outsAt6_B V c t hz]; frame_out; exact e

theorem reg6_b : IsV (a := 2048) (b := 1024) (φ := .bf16) ((dat6 V c).arrAt 5 cfg6.N) X.dx := by
  refine arr6_5 V c fun t => ?_
  have e := pay6_b (blk6_0 V c h0 t) (blk6_1 V c h1 t) (blk6_2 V c h2 t) (blk6_3 V c h3 t)
  rw [after6_5]
  by_cases hz : t.val % 8 = 0
  · rw [outsAt6_A V c t hz]; frame_out; exact e
  · rw [outsAt6_B V c t hz]; frame_out; exact e

omit h2 h3 in
/-- The norm weights' gradient over the points up to `n`. -/
theorem acc6 : ∀ (n : ℕ) (hn : n < cfg6.N) (d : Fin 1024), (outsAt6 V c n hn).2.2 (ix2 0 d)
    = ((∑ s ∈ range (n + 1), ∑ t ∈ range 256, X.du (256 * s + t) d * X.xh (256 * s + t) d : ℝ) : EReal) := by
  intro n
  induction n with
  | zero =>
    intro hn d
    have e := pay6_n (blk6_0 V c h0 ⟨0, hn⟩) (blk6_1 V c h1 ⟨0, hn⟩) d
    rw [show outsAt6 V c 0 hn = _ from outsAt6_A V c ⟨0, hn⟩ rfl]
    frame_out
    rw [pay6_add, pay6_zero, e, ← EReal.coe_add, Finset.sum_range_one, zero_add]
    rfl
  | succ n ih =>
    intro hn d
    have e := pay6_n (blk6_0 V c h0 ⟨n + 1, hn⟩) (blk6_1 V c h1 ⟨n + 1, hn⟩) d
    have h8 : n + 1 < 8 := lt_of_lt_of_eq hn N_6
    rw [show outsAt6 V c (n + 1) hn = _ from outsAt6_B V c ⟨n + 1, hn⟩ (by show ¬ (n + 1) % 8 = 0; omega)]
    frame_out
    rw [pay6_add, e]
    rw [show (outsAt6 V c (n + 1 - 1) (Nat.lt_of_succ_lt hn)).2.2 (ix2 0 d) = _ from ih (Nat.lt_of_succ_lt hn) d]
    rw [← EReal.coe_add, Finset.sum_range_succ _ (n + 1)]
    rfl

end

end Cert.Ffn
-- ==== Proof.FfnHost.lean ====
/-
  What the host's lines before the first call leave, by the real entries of the arguments.
-/
module

public import proofs.«01_k».proof.Proof.FfnRegions
public import Idealize.ShloMosaic.Lib.StableHlo.ReadAt

@[expose] public section

set_option maxRecDepth 16384

noncomputable section

namespace Cert.Ffn

open Cert.KernelIdeal.Body (IsV coe_sum)
open Cert.Kernel2Ideal Cert.Kernel2Ideal.Gen Idealize.ShloMosaic Idealize.ShloMosaic.TcCoe
open Finset (range)

/-- The arguments have the real entries that `X` gives. -/
structure Args (X : RF) (x0 x1 : FVec Ideal S2048x1024 .f32) (x2 : FVec Ideal S1x1024 .f32) (x3 x4 : FVec Ideal S1024x2816 .f32) (x5 : FVec Ideal S2816x1024 .f32) : Prop where
  h0 : IsV x0 X.dh
  h1 : IsV x1 X.h
  h2 : IsV x2 fun _ l => X.nw l
  h3 : IsV x3 X.wg
  h4 : IsV x4 X.wu
  h5 : IsV x5 X.wd

variable {X : RF} (m : (ℓ : Loc nD τ sig) → Buf (Elt Ideal) ℓ) (ρ : Dev nD → PrngReg) (c : Dev nD)

theorem lg_neg (x : ℝ) : Ideal.div 1 (1 + Ideal.exp (-(x : EReal))) = ((lg x : ℝ) : EReal) := by
  rw [← lg_real, zero_sub]

section
variable {X : RF} {x0 x1 : FVec Ideal S2048x1024 .f32} {x2 : FVec Ideal S1x1024 .f32} {x3 x4 : FVec Ideal S1024x2816 .f32} {x5 : FVec Ideal S2816x1024 .f32}
  (H : Args X x0 x1 x2 x3 x4 x5)
include H

theorem r_eq (t : Fin 2048) : Ideal.rsqrt (Ideal.div (∑ x, x1 (ix2 t x) * x1 (ix2 t x)) (Ideal.ofBits FTy.f32 1149239296#32) + Ideal.ofBits FTy.f32 925353388#32)
    = ((X.r t : ℝ) : EReal) := rr_real (sq_real (b := 1) H.h1 t)

theorem u_eq (t : Fin 2048) (d : Fin 1024) : x1 (ix2 t d) * Ideal.rsqrt (Ideal.div (∑ x, x1 (ix2 t x) * x1 (ix2 t x)) (Ideal.ofBits FTy.f32 1149239296#32)
    + Ideal.ofBits FTy.f32 925353388#32) * x2 (ix2 0 d) = ((X.u t d : ℝ) : EReal) := by
  rw [r_eq H, H.h1 t d, H.h2 0 d, ← EReal.coe_mul, ← EReal.coe_mul]
  rfl

theorem g_eq (t : Fin 2048) (j : Fin 2816) : (∑ x, x1 (ix2 t x) * Ideal.rsqrt (Ideal.div (∑ x, x1 (ix2 t x) * x1 (ix2 t x)) (Ideal.ofBits FTy.f32 1149239296#32)
    + Ideal.ofBits FTy.f32 925353388#32) * x2 (ix2 0 x) * x3 (ix2 x j)) = ((X.g t j : ℝ) : EReal) := by
  simp only [u_eq H, H.h3 _ j, RF.g, Finset.sum_range, coe_sum, EReal.coe_mul]

theorem up_eq (t : Fin 2048) (j : Fin 2816) : (∑ x, x1 (ix2 t x) * Ideal.rsqrt (Ideal.div (∑ x, x1 (ix2 t x) * x1 (ix2 t x)) (Ideal.ofBits FTy.f32 1149239296#32)
    + Ideal.ofBits FTy.f32 925353388#32) * x2 (ix2 0 x) * x4 (ix2 x j)) = ((X.up t j : ℝ) : EReal) := by
  simp only [u_eq H, H.h4 _ j, RF.up, Finset.sum_range, coe_sum, EReal.coe_mul]

end

variable {X : RF} (m : (ℓ : Loc nD τ sig) → Buf (Elt Ideal) ℓ) (ρ : Dev nD → PrngReg) (c : Dev nD)

/-- The launch arguments have the real entries that `X` gives. -/
abbrev MArgs (X : RF) : Prop := Args X (W0 m ρ c (Proc.devRef .tc main_arg0)) (W0 m ρ c (Proc.devRef .tc main_arg1)) (W0 m ρ c (Proc.devRef .tc main_arg2))
  (W0 m ρ c (Proc.devRef .tc main_arg3)) (W0 m ρ c (Proc.devRef .tc main_arg4)) (W0 m ρ c (Proc.devRef .tc main_arg5))

variable (H : MArgs m ρ c X)
include H

theorem w16 : IsV (a := 2048) (b := 1024) (φ := .bf16) (W3 m ρ c (Proc.devRef .tc main_v16)) X.u := by
  intro t d
  show StableHlo.after hostOps0_2 (W2 m ρ c) (Proc.devRef .tc main_v16) (ix2 t d) = _
  after_reads_at
  exact u_eq H t d

theorem w17 : IsV (a := 2048) (b := 2816) (φ := .bf16) (W3 m ρ c (Proc.devRef .tc main_v17)) X.g := by
  intro t d
  show StableHlo.after hostOps0_2 (W2 m ρ c) (Proc.devRef .tc main_v17) (ix2 t d) = _
  after_reads_at
  exact g_eq H t d

theorem w18 : IsV (a := 2048) (b := 2816) (φ := .bf16) (W3 m ρ c (Proc.devRef .tc main_v18)) X.up := by
  intro t d
  show StableHlo.after hostOps0_2 (W2 m ρ c) (Proc.devRef .tc main_v18) (ix2 t d) = _
  after_reads_at
  exact up_eq H t d

theorem w19 : IsV (a := 2048) (b := 2816) (φ := .bf16) (W3 m ρ c (Proc.devRef .tc main_v19)) X.act := by
  intro t d
  show StableHlo.after hostOps0_2 (W2 m ρ c) (Proc.devRef .tc main_v19) (ix2 t d) = _
  after_reads_at
  rw [g_eq H t d, up_eq H t d, lg_neg, ← EReal.coe_mul, ← EReal.coe_mul]
  rfl

theorem w21 : IsV (a := 2816) (b := 1024) (φ := .bf16) (W3 m ρ c (Proc.devRef .tc main_v21)) fun j d => X.wg d j := by
  intro t d
  show StableHlo.after hostOps0_2 (W2 m ρ c) (Proc.devRef .tc main_v21) (ix2 t d) = _
  after_reads_at
  exact H.h3 d t

theorem w23 : IsV (a := 2816) (b := 1024) (φ := .bf16) (W3 m ρ c (Proc.devRef .tc main_v23)) fun j d => X.wu d j := by
  intro t d
  show StableHlo.after hostOps0_2 (W2 m ρ c) (Proc.devRef .tc main_v23) (ix2 t d) = _
  after_reads_at
  exact H.h4 d t

theorem w24 : IsV (a := 2816) (b := 1024) (φ := .bf16) (W3 m ρ c (Proc.devRef .tc main_v24)) X.wd := by
  intro t d
  show StableHlo.after hostOps0_2 (W2 m ρ c) (Proc.devRef .tc main_v24) (ix2 t d) = _
  after_reads_at
  exact H.h5 t d

theorem w25 : IsV (a := 2048) (b := 1024) (φ := .bf16) (W3 m ρ c (Proc.devRef .tc main_v25)) X.dh := by
  intro t d
  show StableHlo.after hostOps0_2 (W2 m ρ c) (Proc.devRef .tc main_v25) (ix2 t d) = _
  after_reads_at
  exact H.h0 t d

end Cert.Ffn
-- ==== Proof.FfnRef.lean ====
/-
  The feed-forward reference's values by the real entries of the arguments, one operation after another.
-/
module

public import proofs.«01_k».proof.Proof.FfnHost

@[expose] public section

set_option maxRecDepth 16384

noncomputable section

namespace Cert.Ffn.Ref

open Cert.KernelIdeal.Body (IsV coe_sum)
open Cert.Reference2Ideal Cert.Reference2Ideal.Read Idealize.ShloMosaic Idealize.ShloMosaic.TcCoe
open Finset (range)

variable {X : RF} {x0 x1 : FVec Ideal S2048x1024 .f32} {x2 : FVec Ideal S1x1024 .f32} {x3 x4 : FVec Ideal S1024x2816 .f32} {x5 : FVec Ideal S2816x1024 .f32}
  (H : Args X x0 x1 x2 x3 x4 x5)
include H

theorem p6 (t : Fin 2048) : val_main_v6 (F := Ideal) x1 (ix2 t 0) = ((X.v t : ℝ) : EReal) := by
  pointwise [val_main_v6, val_main_v4, val_main_v2, val_main_v1, val_main_v0, val_main_v3, val_main_v5, val_main_cst, val_main_cst_0, val_main_cst_1]
  rw [sq_real (b := 1) H.h1 t, c_1024, c_eps, div_real _ (by norm_num), ← EReal.coe_add]
  rfl

theorem p7 (t : Fin 2048) : val_main_v7 (F := Ideal) x1 (ix2 t 0) = ((X.r t : ℝ) : EReal) := by
  pointwise [val_main_v7]
  rw [p6 H t, rsqrt_real (X.v_pos t)]
  rfl

theorem p10 (t : Fin 2048) : val_main_v10 (F := Ideal) x1 (ix2 t 0) = ((-(1 / 2) * (X.r t / X.v t) : ℝ) : EReal) := by
  pointwise [val_main_v10, val_main_v9, val_main_cst_2, val_main_v8]
  rw [p7 H t, p6 H t, c_half, div_real _ (X.v_pos t).ne', ← EReal.coe_mul]

theorem p12 : IsV (a := 2048) (b := 1024) (φ := .f32) (val_main_v12 (F := Ideal) x1) X.xh := by
  intro i j
  pointwise [val_main_v12, val_main_v11]
  rw [H.h1 i j, p7 H i, ← EReal.coe_mul]
  rfl

theorem p14 : IsV (a := 2048) (b := 1024) (φ := .f32) (val_main_v14 (F := Ideal) x1 x2) X.u := by
  intro i j
  pointwise [val_main_v14, val_main_v13]
  rw [p12 H i j, H.h2 0 j, ← EReal.coe_mul]
  rfl

theorem p15 : IsV (a := 2048) (b := 2816) (φ := .f32) (val_main_v15 (F := Ideal) x1 x2 x3) X.g := by
  intro i j
  pointwise [val_main_v15]
  simp only [p14 H i _, H.h3 _ j, RF.g, Finset.sum_range, coe_sum, EReal.coe_mul]

theorem p16_2 : IsV (a := 2048) (b := 2816) (φ := .f32) (val_main_v16_2 (F := Ideal) x1 x2 x3) X.sg := by
  intro i j
  pointwise [val_main_v16_2, val_main_call0_v4, val_main_call0_cst_0, val_main_call0_v3, val_main_call0_v2, val_main_call0_cst, val_main_call0_v1, val_main_call0_v0]
  rw [p15 H i j, lg_neg]
  rfl

theorem p16_1 : IsV (a := 2048) (b := 2816) (φ := .f32) (val_main_v16_1 (F := Ideal) x1 x2 x3) fun t j => X.sg t j * (1 - X.sg t j) := by
  intro i j
  pointwise [val_main_v16_1, val_main_call0_v7, val_main_call0_v6, val_main_call0_cst_1]
  rw [p16_2 H i j, ← EReal.coe_one, ← EReal.coe_sub, ← EReal.coe_mul]

theorem p16_0 : IsV (a := 2048) (b := 2816) (φ := .f32) (val_main_v16_0 (F := Ideal) x1 x2 x3) X.sl := by
  intro i j
  pointwise [val_main_v16_0]
  rw [p15 H i j, p16_2 H i j, ← EReal.coe_mul]
  rfl

theorem p17 : IsV (a := 2048) (b := 2816) (φ := .f32) (val_main_v17 (F := Ideal) x1 x2 x4) X.up := by
  intro i j
  pointwise [val_main_v17]
  simp only [p14 H i _, H.h4 _ j, RF.up, Finset.sum_range, coe_sum, EReal.coe_mul]

theorem p18 : IsV (a := 2048) (b := 2816) (φ := .f32) (val_main_v18 (F := Ideal) x1 x2 x3 x4) X.act := by
  intro i j
  pointwise [val_main_v18]
  rw [p16_0 H i j, p17 H i j, ← EReal.coe_mul]
  rfl

theorem p21 : IsV (a := 2048) (b := 1024) (φ := .f32) (val_main_v21 (F := Ideal) x0) X.dh := by
  intro i j
  pointwise [val_main_v21]
  exact H.h0 i j

theorem p22 : IsV (a := 1024) (b := 2816) (φ := .f32) (val_main_v22 (F := Ideal) x0 x1 x2 x3 x4) fun d j => X.dwd j d := by
  intro i j
  pointwise [val_main_v22]
  simp only [p21 H _ i, p18 H _ j, RF.dwd, Finset.sum_range, coe_sum, EReal.coe_mul]
  exact Finset.sum_congr rfl fun k _ => mul_comm _ _

theorem p60 : IsV (a := 2816) (b := 1024) (φ := .bf16) (val_main_v60 (F := Ideal) x0 x1 x2 x3 x4) X.dwd := by
  intro i j
  pointwise [val_main_v60, val_main_v23]
  exact p22 H j i

theorem p24 : IsV (a := 2048) (b := 2816) (φ := .f32) (val_main_v24 (F := Ideal) x0 x5) X.da := by
  intro i j
  pointwise [val_main_v24]
  simp only [p21 H i _, H.h5 j _, RF.da, Finset.sum_range, coe_sum, EReal.coe_mul]

theorem p25 : IsV (a := 2048) (b := 2816) (φ := .f32) (val_main_v25 (F := Ideal) x0 x1 x2 x3 x5) X.dup := by
  intro i j
  pointwise [val_main_v25]
  rw [p16_0 H i j, p24 H i j, ← EReal.coe_mul, mul_comm]
  rfl

theorem p26 : IsV (a := 2048) (b := 2816) (φ := .f32) (val_main_v26 (F := Ideal) x0 x1 x2 x4 x5) fun t j => X.da t j * X.up t j := by
  intro i j
  pointwise [val_main_v26]
  rw [p24 H i j, p17 H i j, ← EReal.coe_mul]

theorem p27 : IsV (a := 2816) (b := 1024) (φ := .f32) (val_main_v27 (F := Ideal) x0 x1 x2 x3 x5) X.dwu := by
  intro i j
  pointwise [val_main_v27]
  simp only [p25 H _ i, p14 H _ j, RF.dwu, Finset.sum_range, coe_sum, EReal.coe_mul]

theorem p59 : IsV (a := 2816) (b := 1024) (φ := .bf16) (val_main_v59 (F := Ideal) x0 x1 x2 x3 x5) X.dwu := by
  intro i j
  pointwise [val_main_v59, val_main_v58, val_main_v28]
  exact p27 H i j

theorem p29 : IsV (a := 2048) (b := 1024) (φ := .f32) (val_main_v29 (F := Ideal) x0 x1 x2 x3 x4 x5) fun t d => ∑ j ∈ range 2816, X.dup t j * X.wu d j := by
  intro i j
  pointwise [val_main_v29]
  simp only [p25 H i _, H.h4 j _, Finset.sum_range, coe_sum, EReal.coe_mul]

theorem p30 : IsV (a := 2048) (b := 2816) (φ := .f32) (val_main_v30 (F := Ideal) x0 x1 x2 x3 x4 x5) X.dg := by
  intro i j
  pointwise [val_main_v30, val_main_call1_v1, val_main_call1_v2, val_main_call1_v0]
  rw [p26 H i j, p16_2 H i j, p15 H i j, p16_1 H i j, ← EReal.coe_mul, ← EReal.coe_mul, ← EReal.coe_mul, ← EReal.coe_add]
  congr 1
  unfold RF.dg
  ring

theorem p31 : IsV (a := 2816) (b := 1024) (φ := .f32) (val_main_v31 (F := Ideal) x0 x1 x2 x3 x4 x5) X.dwg := by
  intro i j
  pointwise [val_main_v31]
  simp only [p30 H _ i, p14 H _ j, RF.dwg, Finset.sum_range, coe_sum, EReal.coe_mul]

theorem p57 : IsV (a := 2816) (b := 1024) (φ := .bf16) (val_main_v57 (F := Ideal) x0 x1 x2 x3 x4 x5) X.dwg := by
  intro i j
  pointwise [val_main_v57, val_main_v56, val_main_v32]
  exact p31 H i j

theorem p33 : IsV (a := 2048) (b := 1024) (φ := .f32) (val_main_v33 (F := Ideal) x0 x1 x2 x3 x4 x5) X.dug := by
  intro i j
  pointwise [val_main_v33]
  simp only [p30 H i _, H.h3 j _, RF.dug, Finset.sum_range, coe_sum, EReal.coe_mul]

theorem p34 : IsV (a := 2048) (b := 1024) (φ := .f32) (val_main_v34 (F := Ideal) x0 x1 x2 x3 x4 x5) X.du := by
  intro i j
  pointwise [val_main_v34]
  rw [p29 H i j, p33 H i j, ← EReal.coe_add]
  rfl

theorem p35 : IsV (a := 2048) (b := 1024) (φ := .f32) (val_main_v35 (F := Ideal) x0 x1 x2 x3 x4 x5) fun t d => X.du t d * X.xh t d := by
  intro i j
  pointwise [val_main_v35]
  rw [p12 H i j, p34 H i j, ← EReal.coe_mul, mul_comm]

theorem p37 : IsV (a := 1) (b := 1024) (φ := .f32) (val_main_v37 (F := Ideal) x0 x1 x2 x3 x4 x5) fun _ d => X.dn d := by
  intro i j
  pointwise [val_main_v37, val_main_v36, val_main_cst_3]
  simp only [p35 H _ j, RF.dn, Finset.sum_range, coe_sum]

theorem p39 : IsV (a := 2048) (b := 1024) (φ := .f32) (val_main_v39 (F := Ideal) x0 x1 x2 x3 x4 x5) X.dxh := by
  intro i j
  pointwise [val_main_v39, val_main_v38]
  rw [p34 H i j, H.h2 0 j, ← EReal.coe_mul]
  rfl

/-- The row sum that the root mean square's derivative takes. -/
theorem p42 (t : Fin 2048) : val_main_v42 (F := Ideal) x0 x1 x2 x3 x4 x5 (ix2 t 0) = ((∑ k ∈ range 1024, X.h t k * X.dxh t k : ℝ) : EReal) := by
  pointwise [val_main_v42, val_main_v41, val_main_cst_4, val_main_v40]
  simp only [H.h1 t _, p39 H t _, Finset.sum_range, coe_sum, EReal.coe_mul]

/-- Half the mean square's derivative. -/
def half (X : RF) (t : ℕ) : ℝ := (∑ k ∈ range 1024, X.h t k * X.dxh t k) * (-(1 / 2) * (X.r t / X.v t)) / 1024

theorem p48 (t : Fin 2048) : val_main_v48 (F := Ideal) x0 x1 x2 x3 x4 x5 (ix2 t 0) = ((half X t : ℝ) : EReal) := by
  pointwise [val_main_v48, val_main_v46, val_main_v47, val_main_cst_5]
  rw [p42 H t, p10 H t, c_1024, ← EReal.coe_mul, div_real _ (by norm_num)]
  rfl

theorem p50 : IsV (a := 2048) (b := 1024) (φ := .f32) (val_main_v50 (F := Ideal) x0 x1 x2 x3 x4 x5) fun t _ => half X t := by
  intro i j
  pointwise [val_main_v50, val_main_v49, val_main_cst_6]
  simpa using p48 H i

theorem p45 : IsV (a := 2048) (b := 1024) (φ := .f32) (val_main_v45 (F := Ideal) x0 x1 x2 x3 x4 x5) fun t d => X.dh t d + X.dxh t d * X.r t := by
  intro i j
  pointwise [val_main_v45, val_main_v44, val_main_v43]
  rw [H.h0 i j, p39 H i j, p7 H i, ← EReal.coe_mul, ← EReal.coe_add]

omit H in
/-- The two ways of writing the root mean square's pullback. -/
theorem dx_eq (t d : ℕ) : X.dh t d + X.dxh t d * X.r t + X.h t d * half X t + half X t * X.h t d = X.dx t d := by
  have hv := X.v_pos t
  have e : X.r t / X.v t = X.r t * (X.r t * X.r t) := by
    have : X.r t * X.r t = (X.v t)⁻¹ := by
      rw [RF.r, ← mul_inv, Real.mul_self_sqrt hv.le]
    rw [this, div_eq_mul_inv]
  have s : (∑ k ∈ range 1024, X.dxh t k * X.xh t k) = (∑ k ∈ range 1024, X.h t k * X.dxh t k) * X.r t := by
    rw [Finset.sum_mul]
    exact Finset.sum_congr rfl fun k _ => by rw [RF.xh]; ring
  rw [RF.dx, s, half, e, RF.xh]
  ring

theorem p54 : IsV (a := 2048) (b := 1024) (φ := .f32) (val_main_v54 (F := Ideal) x0 x1 x2 x3 x4 x5) X.dx := by
  intro i j
  pointwise [val_main_v54, val_main_v52, val_main_v51, val_main_v53]
  rw [p45 H i j, p50 H i j, H.h1 i j, ← EReal.coe_mul, ← EReal.coe_mul, ← EReal.coe_add, ← EReal.coe_add, dx_eq]

theorem p55 : IsV (a := 2048) (b := 1024) (φ := .bf16) (val_main_v55 (F := Ideal) x0 x1 x2 x3 x4 x5) X.dx := by
  intro i j
  pointwise [val_main_v55]
  exact p54 H i j

end Cert.Ffn.Ref
-- ==== Proof.FfnRun.lean ====
/-
  The seven calls in a row: what each leaves in the buffers, and what the whole program leaves.
-/
module

public import proofs.«01_k».proof.Proof.FfnRef

@[expose] public section

set_option maxRecDepth 16384

noncomputable section

namespace Cert.Ffn

open Cert.KernelIdeal.Body (IsV coe_sum)
open Cert.Kernel2Ideal Cert.Kernel2Ideal.Gen Idealize Idealize.ShloMosaic Idealize.ShloMosaic.TcCoe
open Finset (range)

/-! ## The norm weights' gradient: one block, left by the last point -/

section
variable (X : RF) (V : (c : Dev nD) → (b : Ref sig .tc) → Buf (Elt Ideal) ((c : Thread nD τ).loc b)) (c : Dev nD)

/-- The last point. -/
abbrev last6 : Fin cfg6.N := ⟨7, by rw [show cfg6.N = 8 from N_6]; omega⟩

/-- What the last point leaves. -/
abbrev res6 : Vec Ideal S1x1024 .f32 := (outsAt6 V c last6.val last6.isLt).2.2

theorem flushed6_eq (t : Fin cfg6.N) (hf : (cfg6.win 6).flush t = true) :
    (dat6 V c).flushed 6 t = ((cfg6.win 6).blk t).view.read (Elt Ideal) (res6 V c) := by
  have h3 : t.val = 7 := by have := (flush6_6 t).mp hf; have := lt_of_lt_of_eq t.isLt N_6; omega
  obtain rfl : t = last6 := Fin.ext h3
  show (dat6 V c).after 6 last6 = _
  rw [after6_6]
  have hz' : (fun a => win6_6.index last6 a * main_v32_2.ty.shape.size a) = fun _ => 0 := funext fun a => by fin_cases a <;> decide
  exact (Memref.read_access_unit_zero (Elt Ideal) main_v32_2 hz' (fun a => by rw [congrFun hz' a]; simp) (res6 V c)).symm

theorem arr6_6_eq : (dat6 V c).arrAt 6 cfg6.N = res6 V c :=
  (dat6 V c).arrAt_eq_of_cover 6 (res6 V c) (flushed6_eq V c) fun i =>
    ⟨last6, (flush6_6 last6).mpr rfl, by
      show i ∈ ((View.whole main_v32_2).slice (win6_6.rect last6)).set
      rw [View.set_slice_whole, Rect.mem_set_unit]
      intro a
      have h0 : (i 0 : Nat) < 1 := (i 0).isLt
      have h1 : (i 1 : Nat) < 1024 := (i 1).isLt
      match a with
      | ⟨0, _⟩ => show win6_6.index last6 0 * win6_6.size 0 ≤ (i 0 : Nat) ∧ (i 0 : Nat) < win6_6.index last6 0 * win6_6.size 0 + win6_6.xsize (grid6.coords last6) 0
                  rw [show win6_6.index last6 0 * win6_6.size 0 = 0 from by decide +kernel, show win6_6.xsize (grid6.coords last6) 0 = 1 from by decide +kernel]; omega
      | ⟨1, _⟩ => show win6_6.index last6 1 * win6_6.size 1 ≤ (i 1 : Nat) ∧ (i 1 : Nat) < win6_6.index last6 1 * win6_6.size 1 + win6_6.xsize (grid6.coords last6) 1
                  rw [show win6_6.index last6 1 * win6_6.size 1 = 0 from by decide +kernel, show win6_6.xsize (grid6.coords last6) 1 = 1024 from by decide +kernel]; omega⟩

/-- A sum over blocks of equal length is the sum over all. -/
theorem sum_blocks (b : ℕ) (f : ℕ → ℝ) : ∀ n : ℕ, ∑ s ∈ range n, ∑ t ∈ range b, f (b * s + t) = ∑ t ∈ range (b * n), f t := by
  intro n
  induction n with
  | zero => simp
  | succ n ih => rw [Finset.sum_range_succ, ih, Nat.mul_succ, Finset.sum_range_add]

theorem reg6_n (h0 : IsV (a := 2048) (b := 1024) (φ := .f32) (V c main_v29) X.du) (h1 : IsV (a := 2048) (b := 1024) (φ := .f32) (V c main_arg1) X.h) :
    IsV (a := 1) (b := 1024) (φ := .f32) ((dat6 V c).arrAt 6 cfg6.N) fun _ d => X.dn d := by
  intro z d
  obtain rfl : z = 0 := Subsingleton.elim _ _
  rw [show (dat6 V c).arrAt 6 cfg6.N = res6 V c from arr6_6_eq V c]
  refine (acc6 X V c h0 h1 7 last6.isLt d).trans ?_
  congr 1
  exact sum_blocks 256 (fun t => X.du t d * X.xh t d) 8

end

/-! ## The buffers after each call -/

section
variable {X : RF} (m : (ℓ : Loc nD τ sig) → Buf (Elt Ideal) ℓ) (ρ : Dev nD → PrngReg) (c : Dev nD) (H : MArgs m ρ c X)
include H

theorem n4_v26 : IsV (a := 2816) (b := 1024) (φ := .bf16) (W4 m ρ c (Proc.devRef .tc main_v26)) X.dwd := by
  rw [show W4 m ρ c (Proc.devRef .tc main_v26) = _ from W4_arr m ρ c 2]
  exact reg0 X (V3 m ρ) c (w19 m ρ c H) (w25 m ρ c H)

theorem n4_v25 : IsV (a := 2048) (b := 1024) (φ := .bf16) (W4 m ρ c (Proc.devRef .tc main_v25)) X.dh := by
  rw [W4_of m ρ c main_v25 (by decide)]
  exact w25 m ρ c H

theorem n4_v24 : IsV (a := 2816) (b := 1024) (φ := .bf16) (W4 m ρ c (Proc.devRef .tc main_v24)) X.wd := by
  rw [W4_of m ρ c main_v24 (by decide)]
  exact w24 m ρ c H

theorem n4_v17 : IsV (a := 2048) (b := 2816) (φ := .bf16) (W4 m ρ c (Proc.devRef .tc main_v17)) X.g := by
  rw [W4_of m ρ c main_v17 (by decide)]
  exact w17 m ρ c H

theorem n4_v18 : IsV (a := 2048) (b := 2816) (φ := .bf16) (W4 m ρ c (Proc.devRef .tc main_v18)) X.up := by
  rw [W4_of m ρ c main_v18 (by decide)]
  exact w18 m ρ c H

theorem n5_v27_0 : IsV (a := 2048) (b := 2816) (φ := .bf16) (W5 m ρ c (Proc.devRef .tc main_v27_0)) X.dg := by
  rw [show W5 m ρ c (Proc.devRef .tc main_v27_0) = _ from W5_arr m ρ c 4]
  exact reg1_g X (V4 m ρ) c (n4_v25 m ρ c H) (n4_v24 m ρ c H) (n4_v17 m ρ c H) (n4_v18 m ρ c H)

theorem n5_v27_1 : IsV (a := 2048) (b := 2816) (φ := .bf16) (W5 m ρ c (Proc.devRef .tc main_v27_1)) X.dup := by
  rw [show W5 m ρ c (Proc.devRef .tc main_v27_1) = _ from W5_arr m ρ c 5]
  exact reg1_up X (V4 m ρ) c (n4_v25 m ρ c H) (n4_v24 m ρ c H) (n4_v17 m ρ c H) (n4_v18 m ρ c H)

theorem n4_v21 : IsV (a := 2816) (b := 1024) (φ := .bf16) (W4 m ρ c (Proc.devRef .tc main_v21)) fun j d => X.wg d j := by
  rw [W4_of m ρ c main_v21 (by decide)]
  exact w21 m ρ c H

theorem n5_v21 : IsV (a := 2816) (b := 1024) (φ := .bf16) (W5 m ρ c (Proc.devRef .tc main_v21)) fun j d => X.wg d j := by
  rw [W5_of m ρ c main_v21 (by decide)]
  exact n4_v21 m ρ c H

theorem n6_v28 : IsV (a := 2048) (b := 1024) (φ := .f32) (W6 m ρ c (Proc.devRef .tc main_v28)) X.dug := by
  rw [show W6 m ρ c (Proc.devRef .tc main_v28) = _ from W6_arr m ρ c 2]
  exact reg2 X (V5 m ρ) c (n5_v27_0 m ρ c H) (n5_v21 m ρ c H)

theorem n6_v27_1 : IsV (a := 2048) (b := 2816) (φ := .bf16) (W6 m ρ c (Proc.devRef .tc main_v27_1)) X.dup := by
  rw [W6_of m ρ c main_v27_1 (by decide)]
  exact n5_v27_1 m ρ c H

theorem n4_v23 : IsV (a := 2816) (b := 1024) (φ := .bf16) (W4 m ρ c (Proc.devRef .tc main_v23)) fun j d => X.wu d j := by
  rw [W4_of m ρ c main_v23 (by decide)]
  exact w23 m ρ c H

theorem n5_v23 : IsV (a := 2816) (b := 1024) (φ := .bf16) (W5 m ρ c (Proc.devRef .tc main_v23)) fun j d => X.wu d j := by
  rw [W5_of m ρ c main_v23 (by decide)]
  exact n4_v23 m ρ c H

theorem n6_v23 : IsV (a := 2816) (b := 1024) (φ := .bf16) (W6 m ρ c (Proc.devRef .tc main_v23)) fun j d => X.wu d j := by
  rw [W6_of m ρ c main_v23 (by decide)]
  exact n5_v23 m ρ c H

theorem n7_v29 : IsV (a := 2048) (b := 1024) (φ := .f32) (W7 m ρ c (Proc.devRef .tc main_v29)) X.du := by
  rw [show W7 m ρ c (Proc.devRef .tc main_v29) = _ from W7_arr m ρ c 3]
  exact reg3 X (V6 m ρ) c (n6_v27_1 m ρ c H) (n6_v23 m ρ c H) (n6_v28 m ρ c H)

theorem n6_v27_0 : IsV (a := 2048) (b := 2816) (φ := .bf16) (W6 m ρ c (Proc.devRef .tc main_v27_0)) X.dg := by
  rw [W6_of m ρ c main_v27_0 (by decide)]
  exact n5_v27_0 m ρ c H

theorem n7_v27_0 : IsV (a := 2048) (b := 2816) (φ := .bf16) (W7 m ρ c (Proc.devRef .tc main_v27_0)) X.dg := by
  rw [W7_of m ρ c main_v27_0 (by decide)]
  exact n6_v27_0 m ρ c H

theorem n4_v16 : IsV (a := 2048) (b := 1024) (φ := .bf16) (W4 m ρ c (Proc.devRef .tc main_v16)) X.u := by
  rw [W4_of m ρ c main_v16 (by decide)]
  exact w16 m ρ c H

theorem n5_v16 : IsV (a := 2048) (b := 1024) (φ := .bf16) (W5 m ρ c (Proc.devRef .tc main_v16)) X.u := by
  rw [W5_of m ρ c main_v16 (by decide)]
  exact n4_v16 m ρ c H

theorem n6_v16 : IsV (a := 2048) (b := 1024) (φ := .bf16) (W6 m ρ c (Proc.devRef .tc main_v16)) X.u := by
  rw [W6_of m ρ c main_v16 (by decide)]
  exact n5_v16 m ρ c H

theorem n7_v16 : IsV (a := 2048) (b := 1024) (φ := .bf16) (W7 m ρ c (Proc.devRef .tc main_v16)) X.u := by
  rw [W7_of m ρ c main_v16 (by decide)]
  exact n6_v16 m ρ c H

theorem n8_v30 : IsV (a := 2816) (b := 1024) (φ := .bf16) (W8 m ρ c (Proc.devRef .tc main_v30)) X.dwg := by
  rw [show W8 m ρ c (Proc.devRef .tc main_v30) = _ from W8_arr m ρ c 2]
  exact reg4 X (V7 m ρ) c (n7_v27_0 m ρ c H) (n7_v16 m ρ c H)

theorem n7_v27_1 : IsV (a := 2048) (b := 2816) (φ := .bf16) (W7 m ρ c (Proc.devRef .tc main_v27_1)) X.dup := by
  rw [W7_of m ρ c main_v27_1 (by decide)]
  exact n6_v27_1 m ρ c H

theorem n8_v27_1 : IsV (a := 2048) (b := 2816) (φ := .bf16) (W8 m ρ c (Proc.devRef .tc main_v27_1)) X.dup := by
  rw [W8_of m ρ c main_v27_1 (by decide)]
  exact n7_v27_1 m ρ c H

theorem n8_v16 : IsV (a := 2048) (b := 1024) (φ := .bf16) (W8 m ρ c (Proc.devRef .tc main_v16)) X.u := by
  rw [W8_of m ρ c main_v16 (by decide)]
  exact n7_v16 m ρ c H

theorem n9_v31 : IsV (a := 2816) (b := 1024) (φ := .bf16) (W9 m ρ c (Proc.devRef .tc main_v31)) X.dwu := by
  rw [show W9 m ρ c (Proc.devRef .tc main_v31) = _ from W9_arr m ρ c 2]
  exact reg5 X (V8 m ρ) c (n8_v27_1 m ρ c H) (n8_v16 m ρ c H)

theorem n8_v29 : IsV (a := 2048) (b := 1024) (φ := .f32) (W8 m ρ c (Proc.devRef .tc main_v29)) X.du := by
  rw [W8_of m ρ c main_v29 (by decide)]
  exact n7_v29 m ρ c H

theorem n9_v29 : IsV (a := 2048) (b := 1024) (φ := .f32) (W9 m ρ c (Proc.devRef .tc main_v29)) X.du := by
  rw [W9_of m ρ c main_v29 (by decide)]
  exact n8_v29 m ρ c H

theorem n9_arg1 : IsV (a := 2048) (b := 1024) (φ := .f32) (W9 m ρ c (Proc.devRef .tc main_arg1)) X.h := by
  rw [show W9 m ρ c (Proc.devRef .tc main_arg1) = W0 m ρ c (Proc.devRef .tc main_arg1) from W9_args m ρ c main_arg1 (by decide)]
  exact H.h1

theorem n9_arg0 : IsV (a := 2048) (b := 1024) (φ := .f32) (W9 m ρ c (Proc.devRef .tc main_arg0)) X.dh := by
  rw [show W9 m ρ c (Proc.devRef .tc main_arg0) = W0 m ρ c (Proc.devRef .tc main_arg0) from W9_args m ρ c main_arg0 (by decide)]
  exact H.h0

theorem n9_arg2 : IsV (a := 1) (b := 1024) (φ := .f32) (W9 m ρ c (Proc.devRef .tc main_arg2)) fun _ l => X.nw l := by
  rw [show W9 m ρ c (Proc.devRef .tc main_arg2) = W0 m ρ c (Proc.devRef .tc main_arg2) from W9_args m ρ c main_arg2 (by decide)]
  exact H.h2

theorem n10_v32_0 : IsV (a := 2048) (b := 1024) (φ := .f32) (W10 m ρ c (Proc.devRef .tc main_v32_0)) X.dx := by
  rw [show W10 m ρ c (Proc.devRef .tc main_v32_0) = _ from W10_arr m ρ c 4]
  exact reg6_x X (V9 m ρ) c (n9_v29 m ρ c H) (n9_arg1 m ρ c H) (n9_arg0 m ρ c H) (n9_arg2 m ρ c H)

theorem n10_v32_1 : IsV (a := 2048) (b := 1024) (φ := .bf16) (W10 m ρ c (Proc.devRef .tc main_v32_1)) X.dx := by
  rw [show W10 m ρ c (Proc.devRef .tc main_v32_1) = _ from W10_arr m ρ c 5]
  exact reg6_b X (V9 m ρ) c (n9_v29 m ρ c H) (n9_arg1 m ρ c H) (n9_arg0 m ρ c H) (n9_arg2 m ρ c H)

theorem n10_v32_2 : IsV (a := 1) (b := 1024) (φ := .f32) (W10 m ρ c (Proc.devRef .tc main_v32_2)) fun _ d => X.dn d := by
  rw [show W10 m ρ c (Proc.devRef .tc main_v32_2) = _ from W10_arr m ρ c 6]
  exact reg6_n X (V9 m ρ) c (n9_v29 m ρ c H) (n9_arg1 m ρ c H)

theorem n9_v30 : IsV (a := 2816) (b := 1024) (φ := .bf16) (W9 m ρ c (Proc.devRef .tc main_v30)) X.dwg := by
  rw [W9_of m ρ c main_v30 (by decide)]
  exact n8_v30 m ρ c H

theorem n10_v30 : IsV (a := 2816) (b := 1024) (φ := .bf16) (W10 m ρ c (Proc.devRef .tc main_v30)) X.dwg := by
  rw [W10_of m ρ c main_v30 (by decide)]
  exact n9_v30 m ρ c H

theorem n10_v31 : IsV (a := 2816) (b := 1024) (φ := .bf16) (W10 m ρ c (Proc.devRef .tc main_v31)) X.dwu := by
  rw [W10_of m ρ c main_v31 (by decide)]
  exact n9_v31 m ρ c H

theorem n5_v26 : IsV (a := 2816) (b := 1024) (φ := .bf16) (W5 m ρ c (Proc.devRef .tc main_v26)) X.dwd := by
  rw [W5_of m ρ c main_v26 (by decide)]
  exact n4_v26 m ρ c H

theorem n6_v26 : IsV (a := 2816) (b := 1024) (φ := .bf16) (W6 m ρ c (Proc.devRef .tc main_v26)) X.dwd := by
  rw [W6_of m ρ c main_v26 (by decide)]
  exact n5_v26 m ρ c H

theorem n7_v26 : IsV (a := 2816) (b := 1024) (φ := .bf16) (W7 m ρ c (Proc.devRef .tc main_v26)) X.dwd := by
  rw [W7_of m ρ c main_v26 (by decide)]
  exact n6_v26 m ρ c H

theorem n8_v26 : IsV (a := 2816) (b := 1024) (φ := .bf16) (W8 m ρ c (Proc.devRef .tc main_v26)) X.dwd := by
  rw [W8_of m ρ c main_v26 (by decide)]
  exact n7_v26 m ρ c H

theorem n9_v26 : IsV (a := 2816) (b := 1024) (φ := .bf16) (W9 m ρ c (Proc.devRef .tc main_v26)) X.dwd := by
  rw [W9_of m ρ c main_v26 (by decide)]
  exact n8_v26 m ρ c H

theorem n10_v26 : IsV (a := 2816) (b := 1024) (φ := .bf16) (W10 m ρ c (Proc.devRef .tc main_v26)) X.dwd := by
  rw [W10_of m ρ c main_v26 (by decide)]
  exact n9_v26 m ρ c H

end

section
open Idealize.SL Idealize.SL.RA Idealize.SL.BI
open scoped Idealize.SL.BI
open Idealize.SL.BI.BIBase Idealize.SL.BI.Laws Idealize.SL.ProofMode Idealize.SL.Sem
open Idealize.ShloMosaic.Rounds

set_option backward.isDefEq.respectTransparency.types false in
/-- Every execution ends with the buffers as the fold over the calls leaves them. -/
theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v32_0) = W10 m ρ c (Proc.devRef .tc main_v32_0)
      ∧ r.2.mem ((c.tc : Thread nD τ).loc main_v32_1) = W10 m ρ c (Proc.devRef .tc main_v32_1)
      ∧ r.2.mem ((c.tc : Thread nD τ).loc main_v32_2) = W10 m ρ c (Proc.devRef .tc main_v32_2)
      ∧ r.2.mem ((c.tc : Thread nD τ).loc main_v30) = W10 m ρ c (Proc.devRef .tc main_v30)
      ∧ r.2.mem ((c.tc : Thread nD τ).loc main_v31) = W10 m ρ c (Proc.devRef .tc main_v31)
      ∧ r.2.mem ((c.tc : Thread nD τ).loc main_v26) = W10 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => fun c =>
      ⟨h c _ (mem_uc main_v32_0 (by decide)),
       h c _ (mem_uc main_v32_1 (by decide)),
       h c _ (mem_uc main_v32_2 (by decide)),
       h c _ (mem_uc main_v30 (by decide)),
       h c _ (mem_uc main_v31 (by decide)),
       h c _ (mem_uc main_v26 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end

end Cert.Ffn
-- ==== Proof.FfnFinal.lean ====
/-
  The feed-forward certificate's precondition, and the equality of the two programs' results.
-/
module

public import proofs.«01_k».proof.Proof.FfnRun

@[expose] public section

set_option maxRecDepth 16384

noncomputable section

namespace Cert.Ffn.Final

open Cert.KernelIdeal.Body (IsV)
open Cert.Kernel2Ideal Cert.Kernel2Ideal.Gen Idealize.ShloMosaic Idealize.ShloMosaic.TcCoe
open Cert.Final (real_of_bit ent ent_at)

variable {x0 x1 : FVec Ideal S2048x1024 .f32} {x2 : FVec Ideal S1x1024 .f32} {x3 x4 : FVec Ideal S1024x2816 .f32} {x5 : FVec Ideal S2816x1024 .f32}

/-- The precondition at one array of arguments. -/
def Tame (x0 x1 : FVec Ideal S2048x1024 .f32) (x2 : FVec Ideal S1x1024 .f32) (x3 x4 : FVec Ideal S1024x2816 .f32) (x5 : FVec Ideal S2816x1024 .f32) : Prop :=
  Cert.Pre_tame2.fn (F := Ideal) x0 x1 x2 x3 x4 x5 = fun _ => 1#1

theorem pre0 (h : Tame x0 x1 x2 x3 x4 x5) (t : Fin 2048) (l : Fin 1024) : x0 (ix2 t l) = (((x0 (ix2 t l)).toReal : ℝ) : EReal) := by
  have e := congrFun h (ix2 (⟨t.val, by omega⟩ : Fin 12545) l)
  pointwise [Cert.Pre_tame2.fn, Cert.Pre_tame2.fn_part1] at e
  exact real_of_bit e

theorem pre1 (h : Tame x0 x1 x2 x3 x4 x5) (t : Fin 2048) (l : Fin 1024) : x1 (ix2 t l) = (((x1 (ix2 t l)).toReal : ℝ) : EReal) := by
  have e := congrFun h (ix2 (⟨2048 + t.val, by omega⟩ : Fin 12545) l)
  pointwise [Cert.Pre_tame2.fn, Cert.Pre_tame2.fn_part1] at e
  exact real_of_bit e

theorem pre2 (h : Tame x0 x1 x2 x3 x4 x5) (t : Fin 1) (l : Fin 1024) : x2 (ix2 t l) = (((x2 (ix2 t l)).toReal : ℝ) : EReal) := by
  have e := congrFun h (ix2 (⟨4096 + t.val, by omega⟩ : Fin 12545) l)
  pointwise [Cert.Pre_tame2.fn, Cert.Pre_tame2.fn_part1] at e
  obtain rfl : t = 0 := Subsingleton.elim _ _
  exact real_of_bit e

theorem pre3 (h : Tame x0 x1 x2 x3 x4 x5) (t : Fin 2816) (l : Fin 1024) : x3 (ix2 l t) = (((x3 (ix2 l t)).toReal : ℝ) : EReal) := by
  have e := congrFun h (ix2 (⟨4097 + t.val, by omega⟩ : Fin 12545) l)
  pointwise [Cert.Pre_tame2.fn, Cert.Pre_tame2.fn_part1] at e
  rw [dif_neg (by omega), dif_neg (by omega), dif_neg (by omega), dif_pos (by omega)] at e
  have hl : (⟨4097 + t.val - 2048 - 2048 - 1, by omega⟩ : Fin 2816) = t := Fin.ext (by simp; omega)
  rw [hl] at e
  exact real_of_bit e

theorem pre4 (h : Tame x0 x1 x2 x3 x4 x5) (t : Fin 2816) (l : Fin 1024) : x4 (ix2 l t) = (((x4 (ix2 l t)).toReal : ℝ) : EReal) := by
  have e := congrFun h (ix2 (⟨6913 + t.val, by omega⟩ : Fin 12545) l)
  pointwise [Cert.Pre_tame2.fn, Cert.Pre_tame2.fn_part1] at e
  rw [dif_neg (by omega), dif_neg (by omega), dif_neg (by omega), dif_neg (by omega), dif_pos (by omega)] at e
  have hl : (⟨6913 + t.val - 2048 - 2048 - 1 - 2816, by omega⟩ : Fin 2816) = t := Fin.ext (by simp; omega)
  rw [hl] at e
  exact real_of_bit e

theorem pre5 (h : Tame x0 x1 x2 x3 x4 x5) (t : Fin 2816) (l : Fin 1024) : x5 (ix2 t l) = (((x5 (ix2 t l)).toReal : ℝ) : EReal) := by
  have e := congrFun h (ix2 (⟨9729 + t.val, by omega⟩ : Fin 12545) l)
  pointwise [Cert.Pre_tame2.fn, Cert.Pre_tame2.fn_part1] at e
  rw [dif_neg (by omega), dif_neg (by omega), dif_neg (by omega), dif_neg (by omega), dif_neg (by omega)] at e
  have hl : (⟨9729 + t.val - 2048 - 2048 - 1 - 2816 - 2816, by omega⟩ : Fin 2816) = t := Fin.ext (by simp; omega)
  rw [hl] at e
  exact real_of_bit e

/-- The real arguments. -/
def XF (x0 x1 : FVec Ideal S2048x1024 .f32) (x2 : FVec Ideal S1x1024 .f32) (x3 x4 : FVec Ideal S1024x2816 .f32) (x5 : FVec Ideal S2816x1024 .f32) : RF :=
  ⟨ent x0, ent x1, ent x2 0, ent x3, ent x4, ent x5⟩

theorem args (h : Tame x0 x1 x2 x3 x4 x5) : Args (XF x0 x1 x2 x3 x4 x5) x0 x1 x2 x3 x4 x5 where
  h0 := fun t l => by rw [pre0 h t l]; exact congrArg _ (ent_at x0 t l).symm
  h1 := fun t l => by rw [pre1 h t l]; exact congrArg _ (ent_at x1 t l).symm
  h2 := fun z l => by
    rw [pre2 h z l]
    obtain rfl : z = 0 := Subsingleton.elim _ _
    exact congrArg _ (ent_at x2 0 l).symm
  h3 := fun t l => by rw [pre3 h l t]; exact congrArg _ (ent_at x3 t l).symm
  h4 := fun t l => by rw [pre4 h l t]; exact congrArg _ (ent_at x4 t l).symm
  h5 := fun t l => by rw [pre5 h t l]; exact congrArg _ (ent_at x5 t l).symm

/-- Arrays with the same real entries are equal. -/
theorem same {a b : ℕ} {φ : FTy} {v w : FVec Ideal ⟨2, ![a, b]⟩ φ} {f : ℕ → ℕ → ℝ} (hv : IsV v f) (hw : IsV w f) : v = w := by
  funext i
  obtain ⟨t, l, rfl⟩ : ∃ t l, i = ix2 t l := ⟨i 0, i 1, by funext k; fin_cases k <;> rfl⟩
  rw [hv t l, hw t l]

section
variable (m : (ℓ : Loc nD τ sig) → Buf (Elt Ideal) ℓ) (ρ : Dev nD → PrngReg) (c : Dev nD)

abbrev m0 : FVec Ideal S2048x1024 .f32 := m ((c.tc : Thread nD τ).loc main_arg0)
abbrev m1 : FVec Ideal S2048x1024 .f32 := m ((c.tc : Thread nD τ).loc main_arg1)
abbrev m2 : FVec Ideal S1x1024 .f32 := m ((c.tc : Thread nD τ).loc main_arg2)
abbrev m3 : FVec Ideal S1024x2816 .f32 := m ((c.tc : Thread nD τ).loc main_arg3)
abbrev m4 : FVec Ideal S1024x2816 .f32 := m ((c.tc : Thread nD τ).loc main_arg4)
abbrev m5 : FVec Ideal S2816x1024 .f32 := m ((c.tc : Thread nD τ).loc main_arg5)

variable (hp : Tame (m0 m c) (m1 m c) (m2 m c) (m3 m c) (m4 m c) (m5 m c))
include hp

theorem margs : MArgs m ρ c (XF (m0 m c) (m1 m c) (m2 m c) (m3 m c) (m4 m c) (m5 m c)) := args hp

theorem out_v32_0 : W10 m ρ c (Proc.devRef .tc main_v32_0) = Cert.Reference2Ideal.Read.val_main_v54 (F := Ideal) (m0 m c) (m1 m c) (m2 m c) (m3 m c) (m4 m c) (m5 m c) :=
  same (a := 2048) (b := 1024) (φ := .f32) (n10_v32_0 m ρ c (margs m ρ c hp)) (Ref.p54 (args hp))

theorem out_v32_1 : W10 m ρ c (Proc.devRef .tc main_v32_1) = Cert.Reference2Ideal.Read.val_main_v55 (F := Ideal) (m0 m c) (m1 m c) (m2 m c) (m3 m c) (m4 m c) (m5 m c) :=
  same (a := 2048) (b := 1024) (φ := .bf16) (n10_v32_1 m ρ c (margs m ρ c hp)) (Ref.p55 (args hp))

theorem out_v32_2 : W10 m ρ c (Proc.devRef .tc main_v32_2) = Cert.Reference2Ideal.Read.val_main_v37 (F := Ideal) (m0 m c) (m1 m c) (m2 m c) (m3 m c) (m4 m c) (m5 m c) :=
  same (a := 1) (b := 1024) (φ := .f32) (n10_v32_2 m ρ c (margs m ρ c hp)) (Ref.p37 (args hp))

theorem out_v30 : W10 m ρ c (Proc.devRef .tc main_v30) = Cert.Reference2Ideal.Read.val_main_v57 (F := Ideal) (m0 m c) (m1 m c) (m2 m c) (m3 m c) (m4 m c) (m5 m c) :=
  same (a := 2816) (b := 1024) (φ := .bf16) (n10_v30 m ρ c (margs m ρ c hp)) (Ref.p57 (args hp))

theorem out_v31 : W10 m ρ c (Proc.devRef .tc main_v31) = Cert.Reference2Ideal.Read.val_main_v59 (F := Ideal) (m0 m c) (m1 m c) (m2 m c) (m3 m c) (m5 m c) :=
  same (a := 2816) (b := 1024) (φ := .bf16) (n10_v31 m ρ c (margs m ρ c hp)) (Ref.p59 (args hp))

theorem out_v26 : W10 m ρ c (Proc.devRef .tc main_v26) = Cert.Reference2Ideal.Read.val_main_v60 (F := Ideal) (m0 m c) (m1 m c) (m2 m c) (m3 m c) (m4 m c) :=
  same (a := 2816) (b := 1024) (φ := .bf16) (n10_v26 m ρ c (margs m ρ c hp)) (Ref.p60 (args hp))

end

end Cert.Ffn.Final
-- ==== Proof.MmBase.lean ====
/-
  The products of the two mixers and of the feed-forward layer, and what each kernel call's block computes, at any entries, infinite ones too.
-/
module

public import proofs.«01_k».proof.Proof.FfnFinal
public import proofs.«01_k».proof.Proof.Gen.Kernel3.Frame
public import proofs.«01_k».proof.Proof.Gen.Kernel3Ideal.Frame
public import proofs.«01_k».proof.Proof.Gen.Reference3Ideal.Read

@[expose] public section

set_option maxRecDepth 16384

noncomputable section

namespace Cert.Mm

open Idealize.ShloMosaic
open Finset (range)

/-- An array with the entries that `f` gives. -/
abbrev IsE {a b : ℕ} {φ : FTy} (v : FVec Ideal ⟨2, ![a, b]⟩ φ) (f : ℕ → ℕ → EReal) : Prop :=
  ∀ (r : Fin a) (l : Fin b), v (ix2 r l) = f r.val l.val

section
variable {A B a b N : ℕ} {φ : FTy} {X : FVec Ideal ⟨2, ![A, B]⟩ φ} {f : ℕ → ℕ → EReal}

theorem ix2_of {i : (⟨2, ![A, B]⟩ : Shape).Idx} {r : Fin A} {l : Fin B} (h0 : (i 0).val = r.val) (h1 : (i 1).val = l.val) : i = ix2 r l := by
  funext x
  match x with
  | ⟨0, _⟩ => exact Fin.ext h0
  | ⟨1, _⟩ => exact Fin.ext h1

/-- A block of an array, whose entries are those from `i` and `j` blocks on. -/
theorem IsE.block (h : IsE X f) {Y : FVec Ideal ⟨2, ![a, b]⟩ φ} (E : (⟨2, ![a, b]⟩ : Shape).Idx → (⟨2, ![A, B]⟩ : Shape).Idx) (hY : ∀ z, Y z = X (E z))
    {i j p q : ℕ} (hE : ∀ r l, (E (ix2 r l) 0).val = i * a + 1 * r.val ∧ (E (ix2 r l) 1).val = j * b + 1 * l.val) (hi : i = p ∧ j = q) :
    IsE Y fun r l => f (a * p + r) (b * q + l) := by
  intro r l
  obtain ⟨u, hu⟩ : ∃ u : Fin A, u = E (ix2 r l) 0 := ⟨_, rfl⟩
  obtain ⟨v, hv⟩ : ∃ v : Fin B, v = E (ix2 r l) 1 := ⟨_, rfl⟩
  have e0 : u.val = a * p + r.val := by rw [hu, (hE r l).1, hi.1, one_mul, mul_comm]
  have e1 : v.val = b * q + l.val := by rw [hv, (hE r l).2, hi.2, one_mul, mul_comm]
  rw [hY, ix2_of (congrArg Fin.val hu.symm) (congrArg Fin.val hv.symm), h, e0, e1]

theorem IsE.all (h : IsE X f) {Y : FVec Ideal ⟨2, ![a, b]⟩ φ} (E : (⟨2, ![a, b]⟩ : Shape).Idx → (⟨2, ![A, B]⟩ : Shape).Idx) (hY : ∀ z, Y z = X (E z))
    {i j : ℕ} (hE : ∀ r l, (E (ix2 r l) 0).val = i * a + 1 * r.val ∧ (E (ix2 r l) 1).val = j * b + 1 * l.val) (hi : i = 0 ∧ j = 0) : IsE Y f := by
  simpa using h.block E hY hE hi

theorem IsE.rows (h : IsE X f) {Y : FVec Ideal ⟨2, ![a, b]⟩ φ} (E : (⟨2, ![a, b]⟩ : Shape).Idx → (⟨2, ![A, B]⟩ : Shape).Idx) (hY : ∀ z, Y z = X (E z))
    {i j p : ℕ} (hE : ∀ r l, (E (ix2 r l) 0).val = i * a + 1 * r.val ∧ (E (ix2 r l) 1).val = j * b + 1 * l.val) (hi : i = p ∧ j = 0) :
    IsE Y fun r l => f (a * p + r) l := by
  simpa using h.block E hY hE hi

theorem IsE.cols (h : IsE X f) {Y : FVec Ideal ⟨2, ![a, b]⟩ φ} (E : (⟨2, ![a, b]⟩ : Shape).Idx → (⟨2, ![A, B]⟩ : Shape).Idx) (hY : ∀ z, Y z = X (E z))
    {i j q : ℕ} (hE : ∀ r l, (E (ix2 r l) 0).val = i * a + 1 * r.val ∧ (E (ix2 r l) 1).val = j * b + 1 * l.val) (hi : i = 0 ∧ j = q) :
    IsE Y fun r l => f r (b * q + l) := by
  simpa using h.block E hY hE hi

/-- An array all of whose blocks of rows are known, or of columns. -/
theorem IsE.of_rows {Y : Fin N → FVec Ideal ⟨2, ![a, B]⟩ φ} (E : Fin N → (⟨2, ![a, B]⟩ : Shape).Idx → (⟨2, ![A, B]⟩ : Shape).Idx)
    (hY : ∀ t z, Y t z = X (E t z)) {i j : Fin N → ℕ}
    (hE : ∀ t r l, (E t (ix2 r l) 0).val = i t * a + 1 * r.val ∧ (E t (ix2 r l) 1).val = j t * B + 1 * l.val) (hi : ∀ t, i t = t.val ∧ j t = 0)
    (hN : N * a = A) (h : ∀ t, IsE (Y t) fun r l => f (a * t.val + r) l) : IsE X f := by
  intro r l
  have ha : 0 < a := Nat.pos_of_ne_zero fun h0 => by subst h0; have := r.isLt; omega
  have hp : r.val / a < N := (Nat.div_lt_iff_lt_mul ha).mpr (by rw [hN]; exact r.isLt)
  have e := h ⟨r.val / a, hp⟩ ⟨r.val % a, Nat.mod_lt _ ha⟩ l
  have d : a * (r.val / a) + r.val % a = r.val := Nat.div_add_mod _ _
  have ei : E ⟨r.val / a, hp⟩ (ix2 ⟨r.val % a, Nat.mod_lt _ ha⟩ l) = ix2 r l := ix2_of
    (by rw [(hE _ _ _).1, (hi _).1, one_mul, mul_comm]; exact d) (by rw [(hE _ _ _).2, (hi _).2, zero_mul, zero_add, one_mul])
  rw [hY, ei] at e
  rw [e]
  exact congrArg (fun k => f k l.val) d

theorem IsE.of_cols {Y : Fin N → FVec Ideal ⟨2, ![A, b]⟩ φ} (E : Fin N → (⟨2, ![A, b]⟩ : Shape).Idx → (⟨2, ![A, B]⟩ : Shape).Idx)
    (hY : ∀ t z, Y t z = X (E t z)) {i j : Fin N → ℕ}
    (hE : ∀ t r l, (E t (ix2 r l) 0).val = i t * A + 1 * r.val ∧ (E t (ix2 r l) 1).val = j t * b + 1 * l.val) (hi : ∀ t, i t = 0 ∧ j t = t.val)
    (hN : N * b = B) (h : ∀ t, IsE (Y t) fun r l => f r (b * t.val + l)) : IsE X f := by
  intro r l
  have hb : 0 < b := Nat.pos_of_ne_zero fun h0 => by subst h0; have := l.isLt; omega
  have hp : l.val / b < N := (Nat.div_lt_iff_lt_mul hb).mpr (by rw [hN]; exact l.isLt)
  have e := h ⟨l.val / b, hp⟩ r ⟨l.val % b, Nat.mod_lt _ hb⟩
  have d : b * (l.val / b) + l.val % b = l.val := Nat.div_add_mod _ _
  have ei : E ⟨l.val / b, hp⟩ (ix2 r ⟨l.val % b, Nat.mod_lt _ hb⟩) = ix2 r l := ix2_of
    (by rw [(hE _ _ _).1, (hi _).1, zero_mul, zero_add, one_mul]) (by rw [(hE _ _ _).2, (hi _).2, one_mul, mul_comm]; exact d)
  rw [hY, ei] at e
  rw [e]
  exact congrArg (fun k => f r.val k) d

end

/-- The product, of a transposed right and of a transposed left operand in the second and the third. -/
def nn (K : ℕ) (f g : ℕ → ℕ → EReal) (r l : ℕ) : EReal := ∑ k ∈ range K, f r k * g k l
def nt (K : ℕ) (f g : ℕ → ℕ → EReal) (r l : ℕ) : EReal := ∑ k ∈ range K, f r k * g l k
def tn (K : ℕ) (f g : ℕ → ℕ → EReal) (r l : ℕ) : EReal := ∑ k ∈ range K, f k r * g k l

/-- A row's inverse root mean square. -/
def ir (f : ℕ → ℕ → EReal) (t : ℕ) : EReal :=
  Ideal.rsqrt (Ideal.div (∑ k ∈ range 1024, f t k * f t k) (Ideal.ofBits FTy.f32 1149239296#32) + Ideal.ofBits FTy.f32 925353388#32)

/-- The entries of the arguments. -/
structure EF where
  h : ℕ → ℕ → EReal
  nw : ℕ → EReal
  win : ℕ → ℕ → EReal
  yn : ℕ → ℕ → EReal
  wout : ℕ → ℕ → EReal
  dh : ℕ → ℕ → EReal
  dzx : ℕ → ℕ → EReal
  w1 : ℕ → ℕ → EReal
  b1 : ℕ → EReal
  s : ℕ → ℕ → EReal
  w2 : ℕ → ℕ → EReal
  b2 : ℕ → EReal
  dhh : ℕ → ℕ → EReal
  act : ℕ → ℕ → EReal
  wd : ℕ → ℕ → EReal

namespace EF
variable (X : EF)

/-- Columns from 5152 on are zeros. -/
def pad (f : ℕ → ℕ → EReal) (r l : ℕ) : EReal := if l < 5152 then f r l else 0

def u (t d : ℕ) : EReal := X.h t d * ir X.h t * X.nw d
def zx : ℕ → ℕ → EReal := nn 1024 X.u (pad X.win)
def sh (t d : ℕ) : EReal := nn 2048 X.yn X.wout t d + X.h t d
def dyn : ℕ → ℕ → EReal := nt 1024 X.dh X.wout
def dwout : ℕ → ℕ → EReal := tn 2048 X.yn X.dh
def dwin : ℕ → ℕ → EReal := tn 2048 X.u (pad X.dzx)
def hh (t d : ℕ) : EReal := nn 1024 X.u X.w1 t d + X.b1 d
def ch (t d : ℕ) : EReal := nn 1024 X.s X.w2 t d + X.b2 d + X.h t d
def ds : ℕ → ℕ → EReal := nt 1024 X.dh X.w2
def dw2 : ℕ → ℕ → EReal := tn 2048 X.s X.dh
def du : ℕ → ℕ → EReal := nt 2048 X.dhh X.w1
def dw1 : ℕ → ℕ → EReal := tn 2048 X.u X.dhh
def fh (t d : ℕ) : EReal := nn 2816 X.act X.wd t d + X.h t d

end EF

open Cert.Kernel3Ideal Cert.Kernel3Ideal.Gen Idealize.ShloMosaic.TcCoe

theorem pay0 {a : FVec Ideal S256x1024 .f32} {b : FVec Ideal S1x1024 .f32} {f g : ℕ → ℕ → EReal} (ha : IsE a f) (hb : IsE b g) :
    IsE (k0_pay1 (F := Ideal) a b) fun r l => f r l * ir f r * g 0 l := by
  intro r l
  pointwise [k0_pay1]
  simp only [ha r _, hb 0 l, ir, Finset.sum_range]
  rfl

theorem pay1 {a : FVec Ideal S2048x1024 .bf16} {b : FVec Ideal S1024x768 .bf16} {f g : ℕ → ℕ → EReal} (ha : IsE a f) (hb : IsE b g) :
    IsE (k1_pay1 (F := Ideal) a b) fun r l => nn 1024 f g r l := by
  intro r l
  pointwise [k1_pay1]
  simp only [ha r _, hb _ l, nn, Finset.sum_range]

theorem pay2 {a : FVec Ideal S2048x2048 .bf16} {b : FVec Ideal S2048x512 .bf16} {p : FVec Ideal S2048x512 .f32} {f g x : ℕ → ℕ → EReal} (ha : IsE a f) (hb : IsE b g) (hp : IsE p x) :
    IsE (k2_pay1 (F := Ideal) a b p) fun r l => nn 2048 f g r l + x r l := by
  intro r l
  pointwise [k2_pay1]
  simp only [ha r _, hb _ l, hp r l, nn, Finset.sum_range]

theorem pay3 {a : FVec Ideal S2048x1024 .bf16} {b : FVec Ideal S1024x1024 .bf16} {f g : ℕ → ℕ → EReal} (ha : IsE a f) (hb : IsE b g) :
    IsE (k3_pay1 (F := Ideal) a b) fun r l => nt 1024 f g r l := by
  intro r l
  pointwise [k3_pay1]
  simp only [ha r _, hb l _, nt, Finset.sum_range]

theorem pay4 {a : FVec Ideal S2048x2048 .bf16} {b : FVec Ideal S2048x1024 .bf16} {f g : ℕ → ℕ → EReal} (ha : IsE a f) (hb : IsE b g) :
    IsE (k4_pay1 (F := Ideal) a b) fun r l => tn 2048 f g r l := by
  intro r l
  pointwise [k4_pay1]
  simp only [ha _ r, hb _ l, tn, Finset.sum_range]

theorem pay5 {a : FVec Ideal S2048x1024 .bf16} {b : FVec Ideal S2048x768 .bf16} {f g : ℕ → ℕ → EReal} (ha : IsE a f) (hb : IsE b g) :
    IsE (k5_pay1 (F := Ideal) a b) fun r l => tn 2048 f g r l := by
  intro r l
  pointwise [k5_pay1]
  simp only [ha _ r, hb _ l, tn, Finset.sum_range]

theorem pay6 {a : FVec Ideal S2048x1024 .bf16} {b : FVec Ideal S1024x1024 .bf16} {p : FVec Ideal S1x1024 .f32} {f g x : ℕ → ℕ → EReal} (ha : IsE a f) (hb : IsE b g) (hp : IsE p x) :
    IsE (k6_pay1 (F := Ideal) a b p) fun r l => nn 1024 f g r l + x 0 l := by
  intro r l
  pointwise [k6_pay1]
  simp only [ha r _, hb _ l, hp 0 l, nn, Finset.sum_range]
  rfl

theorem pay7 {a : FVec Ideal S2048x1024 .bf16} {b : FVec Ideal S1024x512 .bf16} {p : FVec Ideal S1x512 .f32} {q : FVec Ideal S2048x512 .f32} {f g x y : ℕ → ℕ → EReal} (ha : IsE a f) (hb : IsE b g) (hp : IsE p x) (hq : IsE q y) :
    IsE (k7_pay1 (F := Ideal) a b p q) fun r l => nn 1024 f g r l + x 0 l + y r l := by
  intro r l
  pointwise [k7_pay1]
  simp only [ha r _, hb _ l, hp 0 l, hq r l, nn, Finset.sum_range]
  rfl

theorem pay8 {a : FVec Ideal S2048x1024 .bf16} {b : FVec Ideal S1024x1024 .bf16} {f g : ℕ → ℕ → EReal} (ha : IsE a f) (hb : IsE b g) :
    IsE (k8_pay1 (F := Ideal) a b) fun r l => nt 1024 f g r l := by
  intro r l
  pointwise [k8_pay1]
  simp only [ha r _, hb l _, nt, Finset.sum_range]

theorem pay9 {a : FVec Ideal S2048x1024 .bf16} {b : FVec Ideal S2048x1024 .bf16} {f g : ℕ → ℕ → EReal} (ha : IsE a f) (hb : IsE b g) :
    IsE (k9_pay1 (F := Ideal) a b) fun r l => tn 2048 f g r l := by
  intro r l
  pointwise [k9_pay1]
  simp only [ha _ r, hb _ l, tn, Finset.sum_range]

theorem pay10 {a : FVec Ideal S2048x2048 .bf16} {b : FVec Ideal S512x2048 .bf16} {f g : ℕ → ℕ → EReal} (ha : IsE a f) (hb : IsE b g) :
    IsE (k10_pay1 (F := Ideal) a b) fun r l => nt 2048 f g r l := by
  intro r l
  pointwise [k10_pay1]
  simp only [ha r _, hb l _, nt, Finset.sum_range]

theorem pay11 {a : FVec Ideal S2048x1024 .bf16} {b : FVec Ideal S2048x1024 .bf16} {f g : ℕ → ℕ → EReal} (ha : IsE a f) (hb : IsE b g) :
    IsE (k11_pay1 (F := Ideal) a b) fun r l => tn 2048 f g r l := by
  intro r l
  pointwise [k11_pay1]
  simp only [ha _ r, hb _ l, tn, Finset.sum_range]

theorem pay12 {a : FVec Ideal S2048x2816 .bf16} {b : FVec Ideal S2816x256 .bf16} {p : FVec Ideal S2048x256 .f32} {f g x : ℕ → ℕ → EReal} (ha : IsE a f) (hb : IsE b g) (hp : IsE p x) :
    IsE (k12_pay1 (F := Ideal) a b p) fun r l => nn 2816 f g r l + x r l := by
  intro r l
  pointwise [k12_pay1]
  simp only [ha r _, hb _ l, hp r l, nn, Finset.sum_range]

end Cert.Mm
-- ==== Proof.MmBlocks.lean ====
/-
  What each product's blocks hold, and each array after a call by the blocks its points leave.
-/
module

public import proofs.«01_k».proof.Proof.MmBase

@[expose] public section

set_option maxRecDepth 16384

noncomputable section

namespace Cert.Mm

open Cert.Kernel3Ideal Cert.Kernel3Ideal.Gen Idealize.ShloMosaic Idealize.ShloMosaic.TcCoe
open Finset (range)

variable (V : (c : Dev nD) → (b : Ref sig .tc) → Buf (Elt Ideal) ((c : Thread nD τ).loc b)) (c : Dev nD)

theorem off0 : (![0, 0] : Fin 2 → ℕ) = fun _ => 0 := by funext x; fin_cases x <;> rfl

theorem idx0_0 (t : Fin grid0.N) : win0_0.index t 0 = t.val ∧ win0_0.index t 1 = 0 := by revert t; decide +kernel

theorem blk0_0 {f : ℕ → ℕ → EReal} (h : IsE (a := 2048) (b := 1024) (φ := .f32) (V c main_arg0) f) (t : Fin cfg0.N) :
    IsE (a := 256) (b := 1024) (φ := .f32) (iblk0 V c 0 t) fun r l => f (256 * t.val + r) (l) :=
  h.rows ((cfg0.win 0).blk t).view.emb (fun _ => rfl) (fun _ _ => ⟨rfl, rfl⟩) (idx0_0 t)

theorem idx0_1 (t : Fin grid0.N) : win0_1.index t 0 = 0 ∧ win0_1.index t 1 = 0 := by revert t; decide +kernel

theorem blk0_1 {f : ℕ → ℕ → EReal} (h : IsE (a := 1) (b := 1024) (φ := .f32) (V c main_arg1) f) (t : Fin cfg0.N) :
    IsE (a := 1) (b := 1024) (φ := .f32) (iblk0 V c 1 t) fun r l => f (r) (l) :=
  h.all ((cfg0.win 1).blk t).view.emb (fun _ => rfl) (fun _ _ => ⟨rfl, rfl⟩) (idx0_1 t)

theorem idx0_2 (t : Fin grid0.N) : win0_2.index t 0 = t.val ∧ win0_2.index t 1 = 0 := by revert t; decide +kernel

theorem inj0_2 : ∀ t t' : Fin cfg0.N, win0_2.index t = win0_2.index t' → t = t' :=
  (by decide +kernel : ∀ t t' : Fin grid0.N, win0_2.index t = win0_2.index t' → t = t')

theorem arr0_2 {F : ℕ → ℕ → EReal} (h : ∀ t : Fin cfg0.N, IsE (a := 256) (b := 1024) (φ := .bf16) ((dat0 V c).after 2 t) fun r l => F (256 * t.val + r) (l)) :
    IsE (a := 2048) (b := 1024) (φ := .bf16) ((dat0 V c).arrAt 2 cfg0.N) F :=
  IsE.of_rows (fun t => ((cfg0.win 2).blk t).view.emb)
    (fun t z => congrFun ((dat0 V c).read_blk_arrAt_eq_flushed 2 (fun t t' _ _ hne => (cfg0.win 2).disjoint_blk fun h => hne (inj0_2 t t' h)) cfg0.N t t.isLt (flush0_2 t)).symm z)
    (fun _ _ _ => ⟨rfl, rfl⟩) idx0_2 (congrArg (· * 256) N_0) h

theorem out0 (x0 : Vec Ideal S256x1024 .f32) (x1 : Vec Ideal S1x1024 .f32) : out0_2 (F := Ideal) x0 x1 = k0_pay1 x0 x1 := by
  rw [out0_2, View.canon_unit_zero off0, View.ld_unit_zero off0, View.ld_unit_zero off0]

theorem reg0 {f g : ℕ → ℕ → EReal} (h0 : IsE (a := 2048) (b := 1024) (φ := .f32) (V c main_arg0) f) (h1 : IsE (a := 1) (b := 1024) (φ := .f32) (V c main_arg1) g) :
    IsE (a := 2048) (b := 1024) (φ := .bf16) ((dat0 V c).arrAt 2 cfg0.N) fun r l => f r l * ir f r * g 0 l := by
  refine arr0_2 V c fun t => ?_
  rw [after0_2, out0]
  exact pay0 (blk0_0 V c h0 t) (blk0_1 V c h1 t)

theorem idx1_0 (t : Fin grid1.N) : win1_0.index t 0 = 0 ∧ win1_0.index t 1 = 0 := by revert t; decide +kernel

theorem blk1_0 {f : ℕ → ℕ → EReal} (h : IsE (a := 2048) (b := 1024) (φ := .bf16) (V c main_v13) f) (t : Fin cfg1.N) :
    IsE (a := 2048) (b := 1024) (φ := .bf16) (iblk1 V c 0 t) fun r l => f (r) (l) :=
  h.all ((cfg1.win 0).blk t).view.emb (fun _ => rfl) (fun _ _ => ⟨rfl, rfl⟩) (idx1_0 t)

theorem idx1_1 (t : Fin grid1.N) : win1_1.index t 0 = 0 ∧ win1_1.index t 1 = t.val := by revert t; decide +kernel

theorem blk1_1 {f : ℕ → ℕ → EReal} (h : IsE (a := 1024) (b := 5376) (φ := .bf16) (V c main_v2) f) (t : Fin cfg1.N) :
    IsE (a := 1024) (b := 768) (φ := .bf16) (iblk1 V c 1 t) fun r l => f (r) (768 * t.val + l) :=
  h.cols ((cfg1.win 1).blk t).view.emb (fun _ => rfl) (fun _ _ => ⟨rfl, rfl⟩) (idx1_1 t)

theorem idx1_2 (t : Fin grid1.N) : win1_2.index t 0 = 0 ∧ win1_2.index t 1 = t.val := by revert t; decide +kernel

theorem inj1_2 : ∀ t t' : Fin cfg1.N, win1_2.index t = win1_2.index t' → t = t' :=
  (by decide +kernel : ∀ t t' : Fin grid1.N, win1_2.index t = win1_2.index t' → t = t')

theorem arr1_2 {F : ℕ → ℕ → EReal} (h : ∀ t : Fin cfg1.N, IsE (a := 2048) (b := 768) (φ := .f32) ((dat1 V c).after 2 t) fun r l => F (r) (768 * t.val + l)) :
    IsE (a := 2048) (b := 5376) (φ := .f32) ((dat1 V c).arrAt 2 cfg1.N) F :=
  IsE.of_cols (fun t => ((cfg1.win 2).blk t).view.emb)
    (fun t z => congrFun ((dat1 V c).read_blk_arrAt_eq_flushed 2 (fun t t' _ _ hne => (cfg1.win 2).disjoint_blk fun h => hne (inj1_2 t t' h)) cfg1.N t t.isLt (flush1_2 t)).symm z)
    (fun _ _ _ => ⟨rfl, rfl⟩) idx1_2 (congrArg (· * 768) N_1) h

theorem out1 (x0 : Vec Ideal S2048x1024 .bf16) (x1 : Vec Ideal S1024x768 .bf16) : out1_2 (F := Ideal) x0 x1 = k1_pay1 x0 x1 := by
  rw [out1_2, View.canon_unit_zero off0, View.ld_unit_zero off0, View.ld_unit_zero off0]

theorem reg1 {f g : ℕ → ℕ → EReal} (h0 : IsE (a := 2048) (b := 1024) (φ := .bf16) (V c main_v13) f) (h1 : IsE (a := 1024) (b := 5376) (φ := .bf16) (V c main_v2) g) :
    IsE (a := 2048) (b := 5376) (φ := .f32) ((dat1 V c).arrAt 2 cfg1.N) fun r l => nn 1024 f g r l := by
  refine arr1_2 V c fun t => ?_
  rw [after1_2, out1]
  exact pay1 (blk1_0 V c h0 t) (blk1_1 V c h1 t)

theorem idx2_0 (t : Fin grid2.N) : win2_0.index t 0 = 0 ∧ win2_0.index t 1 = 0 := by revert t; decide +kernel

theorem blk2_0 {f : ℕ → ℕ → EReal} (h : IsE (a := 2048) (b := 2048) (φ := .bf16) (V c main_v3) f) (t : Fin cfg2.N) :
    IsE (a := 2048) (b := 2048) (φ := .bf16) (iblk2 V c 0 t) fun r l => f (r) (l) :=
  h.all ((cfg2.win 0).blk t).view.emb (fun _ => rfl) (fun _ _ => ⟨rfl, rfl⟩) (idx2_0 t)

theorem idx2_1 (t : Fin grid2.N) : win2_1.index t 0 = 0 ∧ win2_1.index t 1 = t.val := by revert t; decide +kernel

theorem blk2_1 {f : ℕ → ℕ → EReal} (h : IsE (a := 2048) (b := 1024) (φ := .bf16) (V c main_v4) f) (t : Fin cfg2.N) :
    IsE (a := 2048) (b := 512) (φ := .bf16) (iblk2 V c 1 t) fun r l => f (r) (512 * t.val + l) :=
  h.cols ((cfg2.win 1).blk t).view.emb (fun _ => rfl) (fun _ _ => ⟨rfl, rfl⟩) (idx2_1 t)

theorem idx2_2 (t : Fin grid2.N) : win2_2.index t 0 = 0 ∧ win2_2.index t 1 = t.val := by revert t; decide +kernel

theorem blk2_2 {f : ℕ → ℕ → EReal} (h : IsE (a := 2048) (b := 1024) (φ := .f32) (V c main_arg0) f) (t : Fin cfg2.N) :
    IsE (a := 2048) (b := 512) (φ := .f32) (iblk2 V c 2 t) fun r l => f (r) (512 * t.val + l) :=
  h.cols ((cfg2.win 2).blk t).view.emb (fun _ => rfl) (fun _ _ => ⟨rfl, rfl⟩) (idx2_2 t)

theorem idx2_3 (t : Fin grid2.N) : win2_3.index t 0 = 0 ∧ win2_3.index t 1 = t.val := by revert t; decide +kernel

theorem inj2_3 : ∀ t t' : Fin cfg2.N, win2_3.index t = win2_3.index t' → t = t' :=
  (by decide +kernel : ∀ t t' : Fin grid2.N, win2_3.index t = win2_3.index t' → t = t')

theorem arr2_3 {F : ℕ → ℕ → EReal} (h : ∀ t : Fin cfg2.N, IsE (a := 2048) (b := 512) (φ := .f32) ((dat2 V c).after 3 t) fun r l => F (r) (512 * t.val + l)) :
    IsE (a := 2048) (b := 1024) (φ := .f32) ((dat2 V c).arrAt 3 cfg2.N) F :=
  IsE.of_cols (fun t => ((cfg2.win 3).blk t).view.emb)
    (fun t z => congrFun ((dat2 V c).read_blk_arrAt_eq_flushed 3 (fun t t' _ _ hne => (cfg2.win 3).disjoint_blk fun h => hne (inj2_3 t t' h)) cfg2.N t t.isLt (flush2_3 t)).symm z)
    (fun _ _ _ => ⟨rfl, rfl⟩) idx2_3 (congrArg (· * 512) N_2) h

theorem out2 (x0 : Vec Ideal S2048x2048 .bf16) (x1 : Vec Ideal S2048x512 .bf16) (x2 : Vec Ideal S2048x512 .f32) : out2_3 (F := Ideal) x0 x1 x2 = k2_pay1 x0 x1 x2 := by
  rw [out2_3, View.canon_unit_zero off0, View.ld_unit_zero off0, View.ld_unit_zero off0, View.ld_unit_zero off0]

theorem reg2 {f g x : ℕ → ℕ → EReal} (h0 : IsE (a := 2048) (b := 2048) (φ := .bf16) (V c main_v3) f) (h1 : IsE (a := 2048) (b := 1024) (φ := .bf16) (V c main_v4) g) (h2 : IsE (a := 2048) (b := 1024) (φ := .f32) (V c main_arg0) x) :
    IsE (a := 2048) (b := 1024) (φ := .f32) ((dat2 V c).arrAt 3 cfg2.N) fun r l => nn 2048 f g r l + x r l := by
  refine arr2_3 V c fun t => ?_
  rw [after2_3, out2]
  exact pay2 (blk2_0 V c h0 t) (blk2_1 V c h1 t) (blk2_2 V c h2 t)

theorem idx3_0 (t : Fin grid3.N) : win3_0.index t 0 = 0 ∧ win3_0.index t 1 = 0 := by revert t; decide +kernel

theorem blk3_0 {f : ℕ → ℕ → EReal} (h : IsE (a := 2048) (b := 1024) (φ := .bf16) (V c main_v5) f) (t : Fin cfg3.N) :
    IsE (a := 2048) (b := 1024) (φ := .bf16) (iblk3 V c 0 t) fun r l => f (r) (l) :=
  h.all ((cfg3.win 0).blk t).view.emb (fun _ => rfl) (fun _ _ => ⟨rfl, rfl⟩) (idx3_0 t)

theorem idx3_1 (t : Fin grid3.N) : win3_1.index t 0 = t.val ∧ win3_1.index t 1 = 0 := by revert t; decide +kernel

theorem blk3_1 {f : ℕ → ℕ → EReal} (h : IsE (a := 2048) (b := 1024) (φ := .bf16) (V c main_v4) f) (t : Fin cfg3.N) :
    IsE (a := 1024) (b := 1024) (φ := .bf16) (iblk3 V c 1 t) fun r l => f (1024 * t.val + r) (l) :=
  h.rows ((cfg3.win 1).blk t).view.emb (fun _ => rfl) (fun _ _ => ⟨rfl, rfl⟩) (idx3_1 t)

theorem idx3_2 (t : Fin grid3.N) : win3_2.index t 0 = 0 ∧ win3_2.index t 1 = t.val := by revert t; decide +kernel

theorem inj3_2 : ∀ t t' : Fin cfg3.N, win3_2.index t = win3_2.index t' → t = t' :=
  (by decide +kernel : ∀ t t' : Fin grid3.N, win3_2.index t = win3_2.index t' → t = t')

theorem arr3_2 {F : ℕ → ℕ → EReal} (h : ∀ t : Fin cfg3.N, IsE (a := 2048) (b := 1024) (φ := .f32) ((dat3 V c).after 2 t) fun r l => F (r) (1024 * t.val + l)) :
    IsE (a := 2048) (b := 2048) (φ := .f32) ((dat3 V c).arrAt 2 cfg3.N) F :=
  IsE.of_cols (fun t => ((cfg3.win 2).blk t).view.emb)
    (fun t z => congrFun ((dat3 V c).read_blk_arrAt_eq_flushed 2 (fun t t' _ _ hne => (cfg3.win 2).disjoint_blk fun h => hne (inj3_2 t t' h)) cfg3.N t t.isLt (flush3_2 t)).symm z)
    (fun _ _ _ => ⟨rfl, rfl⟩) idx3_2 (congrArg (· * 1024) N_3) h

theorem out3 (x0 : Vec Ideal S2048x1024 .bf16) (x1 : Vec Ideal S1024x1024 .bf16) : out3_2 (F := Ideal) x0 x1 = k3_pay1 x0 x1 := by
  rw [out3_2, View.canon_unit_zero off0, View.ld_unit_zero off0, View.ld_unit_zero off0]

theorem reg3 {f g : ℕ → ℕ → EReal} (h0 : IsE (a := 2048) (b := 1024) (φ := .bf16) (V c main_v5) f) (h1 : IsE (a := 2048) (b := 1024) (φ := .bf16) (V c main_v4) g) :
    IsE (a := 2048) (b := 2048) (φ := .f32) ((dat3 V c).arrAt 2 cfg3.N) fun r l => nt 1024 f g r l := by
  refine arr3_2 V c fun t => ?_
  rw [after3_2, out3]
  exact pay3 (blk3_0 V c h0 t) (blk3_1 V c h1 t)

theorem idx4_0 (t : Fin grid4.N) : win4_0.index t 0 = 0 ∧ win4_0.index t 1 = 0 := by revert t; decide +kernel

theorem blk4_0 {f : ℕ → ℕ → EReal} (h : IsE (a := 2048) (b := 2048) (φ := .bf16) (V c main_v3) f) (t : Fin cfg4.N) :
    IsE (a := 2048) (b := 2048) (φ := .bf16) (iblk4 V c 0 t) fun r l => f (r) (l) :=
  h.all ((cfg4.win 0).blk t).view.emb (fun _ => rfl) (fun _ _ => ⟨rfl, rfl⟩) (idx4_0 t)

theorem idx4_1 (t : Fin grid4.N) : win4_1.index t 0 = 0 ∧ win4_1.index t 1 = t.val := by revert t; decide +kernel

theorem blk4_1 {f : ℕ → ℕ → EReal} (h : IsE (a := 2048) (b := 1024) (φ := .bf16) (V c main_v5) f) (t : Fin cfg4.N) :
    IsE (a := 2048) (b := 1024) (φ := .bf16) (iblk4 V c 1 t) fun r l => f (r) (1024 * t.val + l) :=
  h.cols ((cfg4.win 1).blk t).view.emb (fun _ => rfl) (fun _ _ => ⟨rfl, rfl⟩) (idx4_1 t)

theorem idx4_2 (t : Fin grid4.N) : win4_2.index t 0 = 0 ∧ win4_2.index t 1 = t.val := by revert t; decide +kernel

theorem inj4_2 : ∀ t t' : Fin cfg4.N, win4_2.index t = win4_2.index t' → t = t' :=
  (by decide +kernel : ∀ t t' : Fin grid4.N, win4_2.index t = win4_2.index t' → t = t')

theorem arr4_2 {F : ℕ → ℕ → EReal} (h : ∀ t : Fin cfg4.N, IsE (a := 2048) (b := 1024) (φ := .bf16) ((dat4 V c).after 2 t) fun r l => F (r) (1024 * t.val + l)) :
    IsE (a := 2048) (b := 1024) (φ := .bf16) ((dat4 V c).arrAt 2 cfg4.N) F :=
  IsE.of_cols (fun t => ((cfg4.win 2).blk t).view.emb)
    (fun t z => congrFun ((dat4 V c).read_blk_arrAt_eq_flushed 2 (fun t t' _ _ hne => (cfg4.win 2).disjoint_blk fun h => hne (inj4_2 t t' h)) cfg4.N t t.isLt (flush4_2 t)).symm z)
    (fun _ _ _ => ⟨rfl, rfl⟩) idx4_2 (congrArg (· * 1024) N_4) h

theorem out4 (x0 : Vec Ideal S2048x2048 .bf16) (x1 : Vec Ideal S2048x1024 .bf16) : out4_2 (F := Ideal) x0 x1 = k4_pay1 x0 x1 := by
  rw [out4_2, View.canon_unit_zero off0, View.ld_unit_zero off0, View.ld_unit_zero off0]

theorem reg4 {f g : ℕ → ℕ → EReal} (h0 : IsE (a := 2048) (b := 2048) (φ := .bf16) (V c main_v3) f) (h1 : IsE (a := 2048) (b := 1024) (φ := .bf16) (V c main_v5) g) :
    IsE (a := 2048) (b := 1024) (φ := .bf16) ((dat4 V c).arrAt 2 cfg4.N) fun r l => tn 2048 f g r l := by
  refine arr4_2 V c fun t => ?_
  rw [after4_2, out4]
  exact pay4 (blk4_0 V c h0 t) (blk4_1 V c h1 t)

theorem idx5_0 (t : Fin grid5.N) : win5_0.index t 0 = 0 ∧ win5_0.index t 1 = 0 := by revert t; decide +kernel

theorem blk5_0 {f : ℕ → ℕ → EReal} (h : IsE (a := 2048) (b := 1024) (φ := .bf16) (V c main_v13) f) (t : Fin cfg5.N) :
    IsE (a := 2048) (b := 1024) (φ := .bf16) (iblk5 V c 0 t) fun r l => f (r) (l) :=
  h.all ((cfg5.win 0).blk t).view.emb (fun _ => rfl) (fun _ _ => ⟨rfl, rfl⟩) (idx5_0 t)

theorem idx5_1 (t : Fin grid5.N) : win5_1.index t 0 = 0 ∧ win5_1.index t 1 = t.val := by revert t; decide +kernel

theorem blk5_1 {f : ℕ → ℕ → EReal} (h : IsE (a := 2048) (b := 5376) (φ := .bf16) (V c main_v6) f) (t : Fin cfg5.N) :
    IsE (a := 2048) (b := 768) (φ := .bf16) (iblk5 V c 1 t) fun r l => f (r) (768 * t.val + l) :=
  h.cols ((cfg5.win 1).blk t).view.emb (fun _ => rfl) (fun _ _ => ⟨rfl, rfl⟩) (idx5_1 t)

theorem idx5_2 (t : Fin grid5.N) : win5_2.index t 0 = 0 ∧ win5_2.index t 1 = t.val := by revert t; decide +kernel

theorem inj5_2 : ∀ t t' : Fin cfg5.N, win5_2.index t = win5_2.index t' → t = t' :=
  (by decide +kernel : ∀ t t' : Fin grid5.N, win5_2.index t = win5_2.index t' → t = t')

theorem arr5_2 {F : ℕ → ℕ → EReal} (h : ∀ t : Fin cfg5.N, IsE (a := 1024) (b := 768) (φ := .bf16) ((dat5 V c).after 2 t) fun r l => F (r) (768 * t.val + l)) :
    IsE (a := 1024) (b := 5376) (φ := .bf16) ((dat5 V c).arrAt 2 cfg5.N) F :=
  IsE.of_cols (fun t => ((cfg5.win 2).blk t).view.emb)
    (fun t z => congrFun ((dat5 V c).read_blk_arrAt_eq_flushed 2 (fun t t' _ _ hne => (cfg5.win 2).disjoint_blk fun h => hne (inj5_2 t t' h)) cfg5.N t t.isLt (flush5_2 t)).symm z)
    (fun _ _ _ => ⟨rfl, rfl⟩) idx5_2 (congrArg (· * 768) N_5) h

theorem out5 (x0 : Vec Ideal S2048x1024 .bf16) (x1 : Vec Ideal S2048x768 .bf16) : out5_2 (F := Ideal) x0 x1 = k5_pay1 x0 x1 := by
  rw [out5_2, View.canon_unit_zero off0, View.ld_unit_zero off0, View.ld_unit_zero off0]

theorem reg5 {f g : ℕ → ℕ → EReal} (h0 : IsE (a := 2048) (b := 1024) (φ := .bf16) (V c main_v13) f) (h1 : IsE (a := 2048) (b := 5376) (φ := .bf16) (V c main_v6) g) :
    IsE (a := 1024) (b := 5376) (φ := .bf16) ((dat5 V c).arrAt 2 cfg5.N) fun r l => tn 2048 f g r l := by
  refine arr5_2 V c fun t => ?_
  rw [after5_2, out5]
  exact pay5 (blk5_0 V c h0 t) (blk5_1 V c h1 t)

theorem idx6_0 (t : Fin grid6.N) : win6_0.index t 0 = 0 ∧ win6_0.index t 1 = 0 := by revert t; decide +kernel

theorem blk6_0 {f : ℕ → ℕ → EReal} (h : IsE (a := 2048) (b := 1024) (φ := .bf16) (V c main_v13) f) (t : Fin cfg6.N) :
    IsE (a := 2048) (b := 1024) (φ := .bf16) (iblk6 V c 0 t) fun r l => f (r) (l) :=
  h.all ((cfg6.win 0).blk t).view.emb (fun _ => rfl) (fun _ _ => ⟨rfl, rfl⟩) (idx6_0 t)

theorem idx6_1 (t : Fin grid6.N) : win6_1.index t 0 = 0 ∧ win6_1.index t 1 = t.val := by revert t; decide +kernel

theorem blk6_1 {f : ℕ → ℕ → EReal} (h : IsE (a := 1024) (b := 2048) (φ := .bf16) (V c main_v7) f) (t : Fin cfg6.N) :
    IsE (a := 1024) (b := 1024) (φ := .bf16) (iblk6 V c 1 t) fun r l => f (r) (1024 * t.val + l) :=
  h.cols ((cfg6.win 1).blk t).view.emb (fun _ => rfl) (fun _ _ => ⟨rfl, rfl⟩) (idx6_1 t)

theorem idx6_2 (t : Fin grid6.N) : win6_2.index t 0 = 0 ∧ win6_2.index t 1 = t.val := by revert t; decide +kernel

theorem blk6_2 {f : ℕ → ℕ → EReal} (h : IsE (a := 1) (b := 2048) (φ := .f32) (V c main_arg8) f) (t : Fin cfg6.N) :
    IsE (a := 1) (b := 1024) (φ := .f32) (iblk6 V c 2 t) fun r l => f (r) (1024 * t.val + l) :=
  h.cols ((cfg6.win 2).blk t).view.emb (fun _ => rfl) (fun _ _ => ⟨rfl, rfl⟩) (idx6_2 t)

theorem idx6_3 (t : Fin grid6.N) : win6_3.index t 0 = 0 ∧ win6_3.index t 1 = t.val := by revert t; decide +kernel

theorem inj6_3 : ∀ t t' : Fin cfg6.N, win6_3.index t = win6_3.index t' → t = t' :=
  (by decide +kernel : ∀ t t' : Fin grid6.N, win6_3.index t = win6_3.index t' → t = t')

theorem arr6_3 {F : ℕ → ℕ → EReal} (h : ∀ t : Fin cfg6.N, IsE (a := 2048) (b := 1024) (φ := .f32) ((dat6 V c).after 3 t) fun r l => F (r) (1024 * t.val + l)) :
    IsE (a := 2048) (b := 2048) (φ := .f32) ((dat6 V c).arrAt 3 cfg6.N) F :=
  IsE.of_cols (fun t => ((cfg6.win 3).blk t).view.emb)
    (fun t z => congrFun ((dat6 V c).read_blk_arrAt_eq_flushed 3 (fun t t' _ _ hne => (cfg6.win 3).disjoint_blk fun h => hne (inj6_3 t t' h)) cfg6.N t t.isLt (flush6_3 t)).symm z)
    (fun _ _ _ => ⟨rfl, rfl⟩) idx6_3 (congrArg (· * 1024) N_6) h

theorem out6 (x0 : Vec Ideal S2048x1024 .bf16) (x1 : Vec Ideal S1024x1024 .bf16) (x2 : Vec Ideal S1x1024 .f32) : out6_3 (F := Ideal) x0 x1 x2 = k6_pay1 x0 x1 x2 := by
  rw [out6_3, View.canon_unit_zero off0, View.ld_unit_zero off0, View.ld_unit_zero off0, View.ld_unit_zero off0]

theorem reg6 {f g x : ℕ → ℕ → EReal} (h0 : IsE (a := 2048) (b := 1024) (φ := .bf16) (V c main_v13) f) (h1 : IsE (a := 1024) (b := 2048) (φ := .bf16) (V c main_v7) g) (h2 : IsE (a := 1) (b := 2048) (φ := .f32) (V c main_arg8) x) :
    IsE (a := 2048) (b := 2048) (φ := .f32) ((dat6 V c).arrAt 3 cfg6.N) fun r l => nn 1024 f g r l + x 0 l := by
  refine arr6_3 V c fun t => ?_
  rw [after6_3, out6]
  exact pay6 (blk6_0 V c h0 t) (blk6_1 V c h1 t) (blk6_2 V c h2 t)

theorem idx7_0 (t : Fin grid7.N) : win7_0.index t 0 = 0 ∧ win7_0.index t 1 = 0 := by revert t; decide +kernel

theorem blk7_0 {f : ℕ → ℕ → EReal} (h : IsE (a := 2048) (b := 1024) (φ := .bf16) (V c main_v8) f) (t : Fin cfg7.N) :
    IsE (a := 2048) (b := 1024) (φ := .bf16) (iblk7 V c 0 t) fun r l => f (r) (l) :=
  h.all ((cfg7.win 0).blk t).view.emb (fun _ => rfl) (fun _ _ => ⟨rfl, rfl⟩) (idx7_0 t)

theorem idx7_1 (t : Fin grid7.N) : win7_1.index t 0 = 0 ∧ win7_1.index t 1 = t.val := by revert t; decide +kernel

theorem blk7_1 {f : ℕ → ℕ → EReal} (h : IsE (a := 1024) (b := 1024) (φ := .bf16) (V c main_v9) f) (t : Fin cfg7.N) :
    IsE (a := 1024) (b := 512) (φ := .bf16) (iblk7 V c 1 t) fun r l => f (r) (512 * t.val + l) :=
  h.cols ((cfg7.win 1).blk t).view.emb (fun _ => rfl) (fun _ _ => ⟨rfl, rfl⟩) (idx7_1 t)

theorem idx7_2 (t : Fin grid7.N) : win7_2.index t 0 = 0 ∧ win7_2.index t 1 = t.val := by revert t; decide +kernel

theorem blk7_2 {f : ℕ → ℕ → EReal} (h : IsE (a := 1) (b := 1024) (φ := .f32) (V c main_arg11) f) (t : Fin cfg7.N) :
    IsE (a := 1) (b := 512) (φ := .f32) (iblk7 V c 2 t) fun r l => f (r) (512 * t.val + l) :=
  h.cols ((cfg7.win 2).blk t).view.emb (fun _ => rfl) (fun _ _ => ⟨rfl, rfl⟩) (idx7_2 t)

theorem idx7_3 (t : Fin grid7.N) : win7_3.index t 0 = 0 ∧ win7_3.index t 1 = t.val := by revert t; decide +kernel

theorem blk7_3 {f : ℕ → ℕ → EReal} (h : IsE (a := 2048) (b := 1024) (φ := .f32) (V c main_arg0) f) (t : Fin cfg7.N) :
    IsE (a := 2048) (b := 512) (φ := .f32) (iblk7 V c 3 t) fun r l => f (r) (512 * t.val + l) :=
  h.cols ((cfg7.win 3).blk t).view.emb (fun _ => rfl) (fun _ _ => ⟨rfl, rfl⟩) (idx7_3 t)

theorem idx7_4 (t : Fin grid7.N) : win7_4.index t 0 = 0 ∧ win7_4.index t 1 = t.val := by revert t; decide +kernel

theorem inj7_4 : ∀ t t' : Fin cfg7.N, win7_4.index t = win7_4.index t' → t = t' :=
  (by decide +kernel : ∀ t t' : Fin grid7.N, win7_4.index t = win7_4.index t' → t = t')

theorem arr7_4 {F : ℕ → ℕ → EReal} (h : ∀ t : Fin cfg7.N, IsE (a := 2048) (b := 512) (φ := .f32) ((dat7 V c).after 4 t) fun r l => F (r) (512 * t.val + l)) :
    IsE (a := 2048) (b := 1024) (φ := .f32) ((dat7 V c).arrAt 4 cfg7.N) F :=
  IsE.of_cols (fun t => ((cfg7.win 4).blk t).view.emb)
    (fun t z => congrFun ((dat7 V c).read_blk_arrAt_eq_flushed 4 (fun t t' _ _ hne => (cfg7.win 4).disjoint_blk fun h => hne (inj7_4 t t' h)) cfg7.N t t.isLt (flush7_4 t)).symm z)
    (fun _ _ _ => ⟨rfl, rfl⟩) idx7_4 (congrArg (· * 512) N_7) h

theorem out7 (x0 : Vec Ideal S2048x1024 .bf16) (x1 : Vec Ideal S1024x512 .bf16) (x2 : Vec Ideal S1x512 .f32) (x3 : Vec Ideal S2048x512 .f32) : out7_4 (F := Ideal) x0 x1 x2 x3 = k7_pay1 x0 x1 x2 x3 := by
  rw [out7_4, View.canon_unit_zero off0, View.ld_unit_zero off0, View.ld_unit_zero off0, View.ld_unit_zero off0, View.ld_unit_zero off0]

theorem reg7 {f g x y : ℕ → ℕ → EReal} (h0 : IsE (a := 2048) (b := 1024) (φ := .bf16) (V c main_v8) f) (h1 : IsE (a := 1024) (b := 1024) (φ := .bf16) (V c main_v9) g) (h2 : IsE (a := 1) (b := 1024) (φ := .f32) (V c main_arg11) x) (h3 : IsE (a := 2048) (b := 1024) (φ := .f32) (V c main_arg0) y) :
    IsE (a := 2048) (b := 1024) (φ := .f32) ((dat7 V c).arrAt 4 cfg7.N) fun r l => nn 1024 f g r l + x 0 l + y r l := by
  refine arr7_4 V c fun t => ?_
  rw [after7_4, out7]
  exact pay7 (blk7_0 V c h0 t) (blk7_1 V c h1 t) (blk7_2 V c h2 t) (blk7_3 V c h3 t)

theorem idx8_0 (t : Fin grid8.N) : win8_0.index t 0 = 0 ∧ win8_0.index t 1 = 0 := by revert t; decide +kernel

theorem blk8_0 {f : ℕ → ℕ → EReal} (h : IsE (a := 2048) (b := 1024) (φ := .bf16) (V c main_v5) f) (t : Fin cfg8.N) :
    IsE (a := 2048) (b := 1024) (φ := .bf16) (iblk8 V c 0 t) fun r l => f (r) (l) :=
  h.all ((cfg8.win 0).blk t).view.emb (fun _ => rfl) (fun _ _ => ⟨rfl, rfl⟩) (idx8_0 t)

theorem idx8_1 (t : Fin grid8.N) : win8_1.index t 0 = t.val ∧ win8_1.index t 1 = 0 := by revert t; decide +kernel

theorem blk8_1 {f : ℕ → ℕ → EReal} (h : IsE (a := 1024) (b := 1024) (φ := .bf16) (V c main_v9) f) (t : Fin cfg8.N) :
    IsE (a := 1024) (b := 1024) (φ := .bf16) (iblk8 V c 1 t) fun r l => f (1024 * t.val + r) (l) :=
  h.rows ((cfg8.win 1).blk t).view.emb (fun _ => rfl) (fun _ _ => ⟨rfl, rfl⟩) (idx8_1 t)

theorem idx8_2 (t : Fin grid8.N) : win8_2.index t 0 = 0 ∧ win8_2.index t 1 = t.val := by revert t; decide +kernel

theorem inj8_2 : ∀ t t' : Fin cfg8.N, win8_2.index t = win8_2.index t' → t = t' :=
  (by decide +kernel : ∀ t t' : Fin grid8.N, win8_2.index t = win8_2.index t' → t = t')

theorem arr8_2 {F : ℕ → ℕ → EReal} (h : ∀ t : Fin cfg8.N, IsE (a := 2048) (b := 1024) (φ := .f32) ((dat8 V c).after 2 t) fun r l => F (r) (1024 * t.val + l)) :
    IsE (a := 2048) (b := 1024) (φ := .f32) ((dat8 V c).arrAt 2 cfg8.N) F :=
  IsE.of_cols (fun t => ((cfg8.win 2).blk t).view.emb)
    (fun t z => congrFun ((dat8 V c).read_blk_arrAt_eq_flushed 2 (fun t t' _ _ hne => (cfg8.win 2).disjoint_blk fun h => hne (inj8_2 t t' h)) cfg8.N t t.isLt (flush8_2 t)).symm z)
    (fun _ _ _ => ⟨rfl, rfl⟩) idx8_2 (congrArg (· * 1024) N_8) h

theorem out8 (x0 : Vec Ideal S2048x1024 .bf16) (x1 : Vec Ideal S1024x1024 .bf16) : out8_2 (F := Ideal) x0 x1 = k8_pay1 x0 x1 := by
  rw [out8_2, View.canon_unit_zero off0, View.ld_unit_zero off0, View.ld_unit_zero off0]

theorem reg8 {f g : ℕ → ℕ → EReal} (h0 : IsE (a := 2048) (b := 1024) (φ := .bf16) (V c main_v5) f) (h1 : IsE (a := 1024) (b := 1024) (φ := .bf16) (V c main_v9) g) :
    IsE (a := 2048) (b := 1024) (φ := .f32) ((dat8 V c).arrAt 2 cfg8.N) fun r l => nt 1024 f g r l := by
  refine arr8_2 V c fun t => ?_
  rw [after8_2, out8]
  exact pay8 (blk8_0 V c h0 t) (blk8_1 V c h1 t)

theorem idx9_0 (t : Fin grid9.N) : win9_0.index t 0 = 0 ∧ win9_0.index t 1 = 0 := by revert t; decide +kernel

theorem blk9_0 {f : ℕ → ℕ → EReal} (h : IsE (a := 2048) (b := 1024) (φ := .bf16) (V c main_v8) f) (t : Fin cfg9.N) :
    IsE (a := 2048) (b := 1024) (φ := .bf16) (iblk9 V c 0 t) fun r l => f (r) (l) :=
  h.all ((cfg9.win 0).blk t).view.emb (fun _ => rfl) (fun _ _ => ⟨rfl, rfl⟩) (idx9_0 t)

theorem idx9_1 (t : Fin grid9.N) : win9_1.index t 0 = 0 ∧ win9_1.index t 1 = t.val := by revert t; decide +kernel

theorem blk9_1 {f : ℕ → ℕ → EReal} (h : IsE (a := 2048) (b := 1024) (φ := .bf16) (V c main_v5) f) (t : Fin cfg9.N) :
    IsE (a := 2048) (b := 1024) (φ := .bf16) (iblk9 V c 1 t) fun r l => f (r) (1024 * t.val + l) :=
  h.cols ((cfg9.win 1).blk t).view.emb (fun _ => rfl) (fun _ _ => ⟨rfl, rfl⟩) (idx9_1 t)

theorem idx9_2 (t : Fin grid9.N) : win9_2.index t 0 = 0 ∧ win9_2.index t 1 = t.val := by revert t; decide +kernel

theorem inj9_2 : ∀ t t' : Fin cfg9.N, win9_2.index t = win9_2.index t' → t = t' :=
  (by decide +kernel : ∀ t t' : Fin grid9.N, win9_2.index t = win9_2.index t' → t = t')

theorem arr9_2 {F : ℕ → ℕ → EReal} (h : ∀ t : Fin cfg9.N, IsE (a := 1024) (b := 1024) (φ := .bf16) ((dat9 V c).after 2 t) fun r l => F (r) (1024 * t.val + l)) :
    IsE (a := 1024) (b := 1024) (φ := .bf16) ((dat9 V c).arrAt 2 cfg9.N) F :=
  IsE.of_cols (fun t => ((cfg9.win 2).blk t).view.emb)
    (fun t z => congrFun ((dat9 V c).read_blk_arrAt_eq_flushed 2 (fun t t' _ _ hne => (cfg9.win 2).disjoint_blk fun h => hne (inj9_2 t t' h)) cfg9.N t t.isLt (flush9_2 t)).symm z)
    (fun _ _ _ => ⟨rfl, rfl⟩) idx9_2 (congrArg (· * 1024) N_9) h

theorem out9 (x0 : Vec Ideal S2048x1024 .bf16) (x1 : Vec Ideal S2048x1024 .bf16) : out9_2 (F := Ideal) x0 x1 = k9_pay1 x0 x1 := by
  rw [out9_2, View.canon_unit_zero off0, View.ld_unit_zero off0, View.ld_unit_zero off0]

theorem reg9 {f g : ℕ → ℕ → EReal} (h0 : IsE (a := 2048) (b := 1024) (φ := .bf16) (V c main_v8) f) (h1 : IsE (a := 2048) (b := 1024) (φ := .bf16) (V c main_v5) g) :
    IsE (a := 1024) (b := 1024) (φ := .bf16) ((dat9 V c).arrAt 2 cfg9.N) fun r l => tn 2048 f g r l := by
  refine arr9_2 V c fun t => ?_
  rw [after9_2, out9]
  exact pay9 (blk9_0 V c h0 t) (blk9_1 V c h1 t)

theorem idx10_0 (t : Fin grid10.N) : win10_0.index t 0 = 0 ∧ win10_0.index t 1 = 0 := by revert t; decide +kernel

theorem blk10_0 {f : ℕ → ℕ → EReal} (h : IsE (a := 2048) (b := 2048) (φ := .bf16) (V c main_v10) f) (t : Fin cfg10.N) :
    IsE (a := 2048) (b := 2048) (φ := .bf16) (iblk10 V c 0 t) fun r l => f (r) (l) :=
  h.all ((cfg10.win 0).blk t).view.emb (fun _ => rfl) (fun _ _ => ⟨rfl, rfl⟩) (idx10_0 t)

theorem idx10_1 (t : Fin grid10.N) : win10_1.index t 0 = t.val ∧ win10_1.index t 1 = 0 := by revert t; decide +kernel

theorem blk10_1 {f : ℕ → ℕ → EReal} (h : IsE (a := 1024) (b := 2048) (φ := .bf16) (V c main_v7) f) (t : Fin cfg10.N) :
    IsE (a := 512) (b := 2048) (φ := .bf16) (iblk10 V c 1 t) fun r l => f (512 * t.val + r) (l) :=
  h.rows ((cfg10.win 1).blk t).view.emb (fun _ => rfl) (fun _ _ => ⟨rfl, rfl⟩) (idx10_1 t)

theorem idx10_2 (t : Fin grid10.N) : win10_2.index t 0 = 0 ∧ win10_2.index t 1 = t.val := by revert t; decide +kernel

theorem inj10_2 : ∀ t t' : Fin cfg10.N, win10_2.index t = win10_2.index t' → t = t' :=
  (by decide +kernel : ∀ t t' : Fin grid10.N, win10_2.index t = win10_2.index t' → t = t')

theorem arr10_2 {F : ℕ → ℕ → EReal} (h : ∀ t : Fin cfg10.N, IsE (a := 2048) (b := 512) (φ := .f32) ((dat10 V c).after 2 t) fun r l => F (r) (512 * t.val + l)) :
    IsE (a := 2048) (b := 1024) (φ := .f32) ((dat10 V c).arrAt 2 cfg10.N) F :=
  IsE.of_cols (fun t => ((cfg10.win 2).blk t).view.emb)
    (fun t z => congrFun ((dat10 V c).read_blk_arrAt_eq_flushed 2 (fun t t' _ _ hne => (cfg10.win 2).disjoint_blk fun h => hne (inj10_2 t t' h)) cfg10.N t t.isLt (flush10_2 t)).symm z)
    (fun _ _ _ => ⟨rfl, rfl⟩) idx10_2 (congrArg (· * 512) N_10) h

theorem out10 (x0 : Vec Ideal S2048x2048 .bf16) (x1 : Vec Ideal S512x2048 .bf16) : out10_2 (F := Ideal) x0 x1 = k10_pay1 x0 x1 := by
  rw [out10_2, View.canon_unit_zero off0, View.ld_unit_zero off0, View.ld_unit_zero off0]

theorem reg10 {f g : ℕ → ℕ → EReal} (h0 : IsE (a := 2048) (b := 2048) (φ := .bf16) (V c main_v10) f) (h1 : IsE (a := 1024) (b := 2048) (φ := .bf16) (V c main_v7) g) :
    IsE (a := 2048) (b := 1024) (φ := .f32) ((dat10 V c).arrAt 2 cfg10.N) fun r l => nt 2048 f g r l := by
  refine arr10_2 V c fun t => ?_
  rw [after10_2, out10]
  exact pay10 (blk10_0 V c h0 t) (blk10_1 V c h1 t)

theorem idx11_0 (t : Fin grid11.N) : win11_0.index t 0 = 0 ∧ win11_0.index t 1 = 0 := by revert t; decide +kernel

theorem blk11_0 {f : ℕ → ℕ → EReal} (h : IsE (a := 2048) (b := 1024) (φ := .bf16) (V c main_v13) f) (t : Fin cfg11.N) :
    IsE (a := 2048) (b := 1024) (φ := .bf16) (iblk11 V c 0 t) fun r l => f (r) (l) :=
  h.all ((cfg11.win 0).blk t).view.emb (fun _ => rfl) (fun _ _ => ⟨rfl, rfl⟩) (idx11_0 t)

theorem idx11_1 (t : Fin grid11.N) : win11_1.index t 0 = 0 ∧ win11_1.index t 1 = t.val := by revert t; decide +kernel

theorem blk11_1 {f : ℕ → ℕ → EReal} (h : IsE (a := 2048) (b := 2048) (φ := .bf16) (V c main_v10) f) (t : Fin cfg11.N) :
    IsE (a := 2048) (b := 1024) (φ := .bf16) (iblk11 V c 1 t) fun r l => f (r) (1024 * t.val + l) :=
  h.cols ((cfg11.win 1).blk t).view.emb (fun _ => rfl) (fun _ _ => ⟨rfl, rfl⟩) (idx11_1 t)

theorem idx11_2 (t : Fin grid11.N) : win11_2.index t 0 = 0 ∧ win11_2.index t 1 = t.val := by revert t; decide +kernel

theorem inj11_2 : ∀ t t' : Fin cfg11.N, win11_2.index t = win11_2.index t' → t = t' :=
  (by decide +kernel : ∀ t t' : Fin grid11.N, win11_2.index t = win11_2.index t' → t = t')

theorem arr11_2 {F : ℕ → ℕ → EReal} (h : ∀ t : Fin cfg11.N, IsE (a := 1024) (b := 1024) (φ := .bf16) ((dat11 V c).after 2 t) fun r l => F (r) (1024 * t.val + l)) :
    IsE (a := 1024) (b := 2048) (φ := .bf16) ((dat11 V c).arrAt 2 cfg11.N) F :=
  IsE.of_cols (fun t => ((cfg11.win 2).blk t).view.emb)
    (fun t z => congrFun ((dat11 V c).read_blk_arrAt_eq_flushed 2 (fun t t' _ _ hne => (cfg11.win 2).disjoint_blk fun h => hne (inj11_2 t t' h)) cfg11.N t t.isLt (flush11_2 t)).symm z)
    (fun _ _ _ => ⟨rfl, rfl⟩) idx11_2 (congrArg (· * 1024) N_11) h

theorem out11 (x0 : Vec Ideal S2048x1024 .bf16) (x1 : Vec Ideal S2048x1024 .bf16) : out11_2 (F := Ideal) x0 x1 = k11_pay1 x0 x1 := by
  rw [out11_2, View.canon_unit_zero off0, View.ld_unit_zero off0, View.ld_unit_zero off0]

theorem reg11 {f g : ℕ → ℕ → EReal} (h0 : IsE (a := 2048) (b := 1024) (φ := .bf16) (V c main_v13) f) (h1 : IsE (a := 2048) (b := 2048) (φ := .bf16) (V c main_v10) g) :
    IsE (a := 1024) (b := 2048) (φ := .bf16) ((dat11 V c).arrAt 2 cfg11.N) fun r l => tn 2048 f g r l := by
  refine arr11_2 V c fun t => ?_
  rw [after11_2, out11]
  exact pay11 (blk11_0 V c h0 t) (blk11_1 V c h1 t)

theorem idx12_0 (t : Fin grid12.N) : win12_0.index t 0 = 0 ∧ win12_0.index t 1 = 0 := by revert t; decide +kernel

theorem blk12_0 {f : ℕ → ℕ → EReal} (h : IsE (a := 2048) (b := 2816) (φ := .bf16) (V c main_v11) f) (t : Fin cfg12.N) :
    IsE (a := 2048) (b := 2816) (φ := .bf16) (iblk12 V c 0 t) fun r l => f (r) (l) :=
  h.all ((cfg12.win 0).blk t).view.emb (fun _ => rfl) (fun _ _ => ⟨rfl, rfl⟩) (idx12_0 t)

theorem idx12_1 (t : Fin grid12.N) : win12_1.index t 0 = 0 ∧ win12_1.index t 1 = t.val := by revert t; decide +kernel

theorem blk12_1 {f : ℕ → ℕ → EReal} (h : IsE (a := 2816) (b := 1024) (φ := .bf16) (V c main_v12) f) (t : Fin cfg12.N) :
    IsE (a := 2816) (b := 256) (φ := .bf16) (iblk12 V c 1 t) fun r l => f (r) (256 * t.val + l) :=
  h.cols ((cfg12.win 1).blk t).view.emb (fun _ => rfl) (fun _ _ => ⟨rfl, rfl⟩) (idx12_1 t)

theorem idx12_2 (t : Fin grid12.N) : win12_2.index t 0 = 0 ∧ win12_2.index t 1 = t.val := by revert t; decide +kernel

theorem blk12_2 {f : ℕ → ℕ → EReal} (h : IsE (a := 2048) (b := 1024) (φ := .f32) (V c main_arg0) f) (t : Fin cfg12.N) :
    IsE (a := 2048) (b := 256) (φ := .f32) (iblk12 V c 2 t) fun r l => f (r) (256 * t.val + l) :=
  h.cols ((cfg12.win 2).blk t).view.emb (fun _ => rfl) (fun _ _ => ⟨rfl, rfl⟩) (idx12_2 t)

theorem idx12_3 (t : Fin grid12.N) : win12_3.index t 0 = 0 ∧ win12_3.index t 1 = t.val := by revert t; decide +kernel

theorem inj12_3 : ∀ t t' : Fin cfg12.N, win12_3.index t = win12_3.index t' → t = t' :=
  (by decide +kernel : ∀ t t' : Fin grid12.N, win12_3.index t = win12_3.index t' → t = t')

theorem arr12_3 {F : ℕ → ℕ → EReal} (h : ∀ t : Fin cfg12.N, IsE (a := 2048) (b := 256) (φ := .f32) ((dat12 V c).after 3 t) fun r l => F (r) (256 * t.val + l)) :
    IsE (a := 2048) (b := 1024) (φ := .f32) ((dat12 V c).arrAt 3 cfg12.N) F :=
  IsE.of_cols (fun t => ((cfg12.win 3).blk t).view.emb)
    (fun t z => congrFun ((dat12 V c).read_blk_arrAt_eq_flushed 3 (fun t t' _ _ hne => (cfg12.win 3).disjoint_blk fun h => hne (inj12_3 t t' h)) cfg12.N t t.isLt (flush12_3 t)).symm z)
    (fun _ _ _ => ⟨rfl, rfl⟩) idx12_3 (congrArg (· * 256) N_12) h

theorem out12 (x0 : Vec Ideal S2048x2816 .bf16) (x1 : Vec Ideal S2816x256 .bf16) (x2 : Vec Ideal S2048x256 .f32) : out12_3 (F := Ideal) x0 x1 x2 = k12_pay1 x0 x1 x2 := by
  rw [out12_3, View.canon_unit_zero off0, View.ld_unit_zero off0, View.ld_unit_zero off0, View.ld_unit_zero off0]

theorem reg12 {f g x : ℕ → ℕ → EReal} (h0 : IsE (a := 2048) (b := 2816) (φ := .bf16) (V c main_v11) f) (h1 : IsE (a := 2816) (b := 1024) (φ := .bf16) (V c main_v12) g) (h2 : IsE (a := 2048) (b := 1024) (φ := .f32) (V c main_arg0) x) :
    IsE (a := 2048) (b := 1024) (φ := .f32) ((dat12 V c).arrAt 3 cfg12.N) fun r l => nn 2816 f g r l + x r l := by
  refine arr12_3 V c fun t => ?_
  rw [after12_3, out12]
  exact pay12 (blk12_0 V c h0 t) (blk12_1 V c h1 t) (blk12_2 V c h2 t)

end Cert.Mm
-- ==== Proof.MmHost.lean ====
/-
  What the host's lines leave before the first product, and what each call leaves after it, by the entries of the arguments.
-/
module

public import proofs.«01_k».proof.Proof.MmBlocks
public import Idealize.ShloMosaic.Lib.StableHlo.ReadAt

@[expose] public section

set_option maxRecDepth 16384

noncomputable section

namespace Cert.Mm

open Cert.Kernel3Ideal Cert.Kernel3Ideal.Gen Idealize.ShloMosaic Idealize.ShloMosaic.TcCoe
open Finset (range)

/-- The arguments have the entries that `X` gives. -/
structure Args (X : EF) (x0 : FVec Ideal ⟨2, ![2048, 1024]⟩ .f32) (x1 : FVec Ideal ⟨2, ![1, 1024]⟩ .f32) (x2 : FVec Ideal ⟨2, ![1024, 5152]⟩ .f32) (x3 : FVec Ideal ⟨2, ![2048, 2048]⟩ .f32) (x4 : FVec Ideal ⟨2, ![2048, 1024]⟩ .f32) (x5 : FVec Ideal ⟨2, ![2048, 1024]⟩ .f32) (x6 : FVec Ideal ⟨2, ![2048, 5152]⟩ .f32) (x7 : FVec Ideal ⟨2, ![1024, 2048]⟩ .f32) (x8 : FVec Ideal ⟨2, ![1, 2048]⟩ .f32) (x9 : FVec Ideal ⟨2, ![2048, 1024]⟩ .f32) (x10 : FVec Ideal ⟨2, ![1024, 1024]⟩ .f32) (x11 : FVec Ideal ⟨2, ![1, 1024]⟩ .f32) (x12 : FVec Ideal ⟨2, ![2048, 2048]⟩ .f32) (x13 : FVec Ideal ⟨2, ![2048, 2816]⟩ .f32) (x14 : FVec Ideal ⟨2, ![2816, 1024]⟩ .f32) : Prop where
  h0 : IsE x0 X.h
  h1 : IsE x1 (fun _ l => X.nw l)
  h2 : IsE x2 X.win
  h3 : IsE x3 X.yn
  h4 : IsE x4 X.wout
  h5 : IsE x5 X.dh
  h6 : IsE x6 X.dzx
  h7 : IsE x7 X.w1
  h8 : IsE x8 (fun _ l => X.b1 l)
  h9 : IsE x9 X.s
  h10 : IsE x10 X.w2
  h11 : IsE x11 (fun _ l => X.b2 l)
  h12 : IsE x12 X.dhh
  h13 : IsE x13 X.act
  h14 : IsE x14 X.wd

variable {X : EF} (m : (ℓ : Loc nD τ sig) → Buf (Elt Ideal) ℓ) (ρ : Dev nD → PrngReg) (c : Dev nD)

/-- The launch arguments have the entries that `X` gives. -/
abbrev MArgs (X : EF) : Prop := Args X (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)) (W0 m ρ c (Proc.devRef .tc main_arg14))

variable (H : MArgs m ρ c X)
include H

theorem n5_v2 : IsE (a := 1024) (b := 5376) (φ := .bf16) (W5 m ρ c (Proc.devRef .tc main_v2)) (EF.pad X.win) := by
  intro t d
  show StableHlo.after hostOps0_4 (W4 m ρ c) (Proc.devRef .tc main_v2) (ix2 t d) = _
  after_reads_at
  unfold EF.pad
  by_cases hd : d.val < 5152
  · rw [dif_pos hd, if_pos hd]
    exact H.h2 t ⟨d.val, hd⟩
  · rw [dif_neg hd, if_neg hd]
    show ((((0#32 : BitVec 32).toInt : ℤ) : ℝ) : EReal) = 0
    simp

theorem n5_v3 : IsE (a := 2048) (b := 2048) (φ := .bf16) (W5 m ρ c (Proc.devRef .tc main_v3)) (X.yn) := by
  intro t d
  show StableHlo.after hostOps0_4 (W4 m ρ c) (Proc.devRef .tc main_v3) (ix2 t d) = _
  after_reads_at
  exact H.h3 t d

theorem n5_v4 : IsE (a := 2048) (b := 1024) (φ := .bf16) (W5 m ρ c (Proc.devRef .tc main_v4)) (X.wout) := by
  intro t d
  show StableHlo.after hostOps0_4 (W4 m ρ c) (Proc.devRef .tc main_v4) (ix2 t d) = _
  after_reads_at
  exact H.h4 t d

theorem n5_v5 : IsE (a := 2048) (b := 1024) (φ := .bf16) (W5 m ρ c (Proc.devRef .tc main_v5)) (X.dh) := by
  intro t d
  show StableHlo.after hostOps0_4 (W4 m ρ c) (Proc.devRef .tc main_v5) (ix2 t d) = _
  after_reads_at
  exact H.h5 t d

theorem n5_v6 : IsE (a := 2048) (b := 5376) (φ := .bf16) (W5 m ρ c (Proc.devRef .tc main_v6)) (EF.pad X.dzx) := by
  intro t d
  show StableHlo.after hostOps0_4 (W4 m ρ c) (Proc.devRef .tc main_v6) (ix2 t d) = _
  after_reads_at
  unfold EF.pad
  by_cases hd : d.val < 5152
  · rw [dif_pos hd, if_pos hd]
    exact H.h6 t ⟨d.val, hd⟩
  · rw [dif_neg hd, if_neg hd]
    show ((((0#32 : BitVec 32).toInt : ℤ) : ℝ) : EReal) = 0
    simp

theorem n5_v7 : IsE (a := 1024) (b := 2048) (φ := .bf16) (W5 m ρ c (Proc.devRef .tc main_v7)) (X.w1) := by
  intro t d
  show StableHlo.after hostOps0_4 (W4 m ρ c) (Proc.devRef .tc main_v7) (ix2 t d) = _
  after_reads_at
  exact H.h7 t d

theorem n5_v8 : IsE (a := 2048) (b := 1024) (φ := .bf16) (W5 m ρ c (Proc.devRef .tc main_v8)) (X.s) := by
  intro t d
  show StableHlo.after hostOps0_4 (W4 m ρ c) (Proc.devRef .tc main_v8) (ix2 t d) = _
  after_reads_at
  exact H.h9 t d

theorem n5_v9 : IsE (a := 1024) (b := 1024) (φ := .bf16) (W5 m ρ c (Proc.devRef .tc main_v9)) (X.w2) := by
  intro t d
  show StableHlo.after hostOps0_4 (W4 m ρ c) (Proc.devRef .tc main_v9) (ix2 t d) = _
  after_reads_at
  exact H.h10 t d

theorem n5_v10 : IsE (a := 2048) (b := 2048) (φ := .bf16) (W5 m ρ c (Proc.devRef .tc main_v10)) (X.dhh) := by
  intro t d
  show StableHlo.after hostOps0_4 (W4 m ρ c) (Proc.devRef .tc main_v10) (ix2 t d) = _
  after_reads_at
  exact H.h12 t d

theorem n5_v11 : IsE (a := 2048) (b := 2816) (φ := .bf16) (W5 m ρ c (Proc.devRef .tc main_v11)) (X.act) := by
  intro t d
  show StableHlo.after hostOps0_4 (W4 m ρ c) (Proc.devRef .tc main_v11) (ix2 t d) = _
  after_reads_at
  exact H.h13 t d

theorem n5_v12 : IsE (a := 2816) (b := 1024) (φ := .bf16) (W5 m ρ c (Proc.devRef .tc main_v12)) (X.wd) := by
  intro t d
  show StableHlo.after hostOps0_4 (W4 m ρ c) (Proc.devRef .tc main_v12) (ix2 t d) = _
  after_reads_at
  exact H.h14 t d

theorem n5_arg0 : IsE (a := 2048) (b := 1024) (φ := .f32) (W5 m ρ c (Proc.devRef .tc main_arg0)) (X.h) := by
  rw [show W5 m ρ c (Proc.devRef .tc main_arg0) = W0 m ρ c (Proc.devRef .tc main_arg0) from W5_args m ρ c main_arg0 (by decide)]
  exact H.h0

theorem n5_arg1 : IsE (a := 1) (b := 1024) (φ := .f32) (W5 m ρ c (Proc.devRef .tc main_arg1)) (fun _ l => X.nw l) := by
  rw [show W5 m ρ c (Proc.devRef .tc main_arg1) = W0 m ρ c (Proc.devRef .tc main_arg1) from W5_args m ρ c main_arg1 (by decide)]
  exact H.h1

theorem n6_v13 : IsE (a := 2048) (b := 1024) (φ := .bf16) (W6 m ρ c (Proc.devRef .tc main_v13)) (X.u) := by
  rw [show W6 m ρ c (Proc.devRef .tc main_v13) = _ from W6_arr m ρ c 2]
  exact reg0 (V5 m ρ) c (n5_arg0 m ρ c H) (n5_arg1 m ρ c H)

theorem n6_v2 : IsE (a := 1024) (b := 5376) (φ := .bf16) (W6 m ρ c (Proc.devRef .tc main_v2)) (EF.pad X.win) := by
  rw [W6_of m ρ c main_v2 (by decide)]
  exact n5_v2 m ρ c H

theorem n7_v14 : IsE (a := 2048) (b := 5376) (φ := .f32) (W7 m ρ c (Proc.devRef .tc main_v14)) (X.zx) := by
  rw [show W7 m ρ c (Proc.devRef .tc main_v14) = _ from W7_arr m ρ c 2]
  exact reg1 (V6 m ρ) c (n6_v13 m ρ c H) (n6_v2 m ρ c H)

theorem n6_v3 : IsE (a := 2048) (b := 2048) (φ := .bf16) (W6 m ρ c (Proc.devRef .tc main_v3)) (X.yn) := by
  rw [W6_of m ρ c main_v3 (by decide)]
  exact n5_v3 m ρ c H

theorem n7_v3 : IsE (a := 2048) (b := 2048) (φ := .bf16) (W7 m ρ c (Proc.devRef .tc main_v3)) (X.yn) := by
  rw [W7_of m ρ c main_v3 (by decide)]
  exact n6_v3 m ρ c H

theorem n6_v4 : IsE (a := 2048) (b := 1024) (φ := .bf16) (W6 m ρ c (Proc.devRef .tc main_v4)) (X.wout) := by
  rw [W6_of m ρ c main_v4 (by decide)]
  exact n5_v4 m ρ c H

theorem n7_v4 : IsE (a := 2048) (b := 1024) (φ := .bf16) (W7 m ρ c (Proc.devRef .tc main_v4)) (X.wout) := by
  rw [W7_of m ρ c main_v4 (by decide)]
  exact n6_v4 m ρ c H

theorem n7_arg0 : IsE (a := 2048) (b := 1024) (φ := .f32) (W7 m ρ c (Proc.devRef .tc main_arg0)) (X.h) := by
  rw [show W7 m ρ c (Proc.devRef .tc main_arg0) = W0 m ρ c (Proc.devRef .tc main_arg0) from W7_args m ρ c main_arg0 (by decide)]
  exact H.h0

theorem n8_v15 : IsE (a := 2048) (b := 1024) (φ := .f32) (W8 m ρ c (Proc.devRef .tc main_v15)) (X.sh) := by
  rw [show W8 m ρ c (Proc.devRef .tc main_v15) = _ from W8_arr m ρ c 3]
  exact reg2 (V7 m ρ) c (n7_v3 m ρ c H) (n7_v4 m ρ c H) (n7_arg0 m ρ c H)

theorem n6_v5 : IsE (a := 2048) (b := 1024) (φ := .bf16) (W6 m ρ c (Proc.devRef .tc main_v5)) (X.dh) := by
  rw [W6_of m ρ c main_v5 (by decide)]
  exact n5_v5 m ρ c H

theorem n7_v5 : IsE (a := 2048) (b := 1024) (φ := .bf16) (W7 m ρ c (Proc.devRef .tc main_v5)) (X.dh) := by
  rw [W7_of m ρ c main_v5 (by decide)]
  exact n6_v5 m ρ c H

theorem n8_v5 : IsE (a := 2048) (b := 1024) (φ := .bf16) (W8 m ρ c (Proc.devRef .tc main_v5)) (X.dh) := by
  rw [W8_of m ρ c main_v5 (by decide)]
  exact n7_v5 m ρ c H

theorem n8_v4 : IsE (a := 2048) (b := 1024) (φ := .bf16) (W8 m ρ c (Proc.devRef .tc main_v4)) (X.wout) := by
  rw [W8_of m ρ c main_v4 (by decide)]
  exact n7_v4 m ρ c H

theorem n9_v16 : IsE (a := 2048) (b := 2048) (φ := .f32) (W9 m ρ c (Proc.devRef .tc main_v16)) (X.dyn) := by
  rw [show W9 m ρ c (Proc.devRef .tc main_v16) = _ from W9_arr m ρ c 2]
  exact reg3 (V8 m ρ) c (n8_v5 m ρ c H) (n8_v4 m ρ c H)

theorem n8_v3 : IsE (a := 2048) (b := 2048) (φ := .bf16) (W8 m ρ c (Proc.devRef .tc main_v3)) (X.yn) := by
  rw [W8_of m ρ c main_v3 (by decide)]
  exact n7_v3 m ρ c H

theorem n9_v3 : IsE (a := 2048) (b := 2048) (φ := .bf16) (W9 m ρ c (Proc.devRef .tc main_v3)) (X.yn) := by
  rw [W9_of m ρ c main_v3 (by decide)]
  exact n8_v3 m ρ c H

theorem n9_v5 : IsE (a := 2048) (b := 1024) (φ := .bf16) (W9 m ρ c (Proc.devRef .tc main_v5)) (X.dh) := by
  rw [W9_of m ρ c main_v5 (by decide)]
  exact n8_v5 m ρ c H

theorem n10_v17 : IsE (a := 2048) (b := 1024) (φ := .bf16) (W10 m ρ c (Proc.devRef .tc main_v17)) (X.dwout) := by
  rw [show W10 m ρ c (Proc.devRef .tc main_v17) = _ from W10_arr m ρ c 2]
  exact reg4 (V9 m ρ) c (n9_v3 m ρ c H) (n9_v5 m ρ c H)

theorem n7_v13 : IsE (a := 2048) (b := 1024) (φ := .bf16) (W7 m ρ c (Proc.devRef .tc main_v13)) (X.u) := by
  rw [W7_of m ρ c main_v13 (by decide)]
  exact n6_v13 m ρ c H

theorem n8_v13 : IsE (a := 2048) (b := 1024) (φ := .bf16) (W8 m ρ c (Proc.devRef .tc main_v13)) (X.u) := by
  rw [W8_of m ρ c main_v13 (by decide)]
  exact n7_v13 m ρ c H

theorem n9_v13 : IsE (a := 2048) (b := 1024) (φ := .bf16) (W9 m ρ c (Proc.devRef .tc main_v13)) (X.u) := by
  rw [W9_of m ρ c main_v13 (by decide)]
  exact n8_v13 m ρ c H

theorem n10_v13 : IsE (a := 2048) (b := 1024) (φ := .bf16) (W10 m ρ c (Proc.devRef .tc main_v13)) (X.u) := by
  rw [W10_of m ρ c main_v13 (by decide)]
  exact n9_v13 m ρ c H

theorem n6_v6 : IsE (a := 2048) (b := 5376) (φ := .bf16) (W6 m ρ c (Proc.devRef .tc main_v6)) (EF.pad X.dzx) := by
  rw [W6_of m ρ c main_v6 (by decide)]
  exact n5_v6 m ρ c H

theorem n7_v6 : IsE (a := 2048) (b := 5376) (φ := .bf16) (W7 m ρ c (Proc.devRef .tc main_v6)) (EF.pad X.dzx) := by
  rw [W7_of m ρ c main_v6 (by decide)]
  exact n6_v6 m ρ c H

theorem n8_v6 : IsE (a := 2048) (b := 5376) (φ := .bf16) (W8 m ρ c (Proc.devRef .tc main_v6)) (EF.pad X.dzx) := by
  rw [W8_of m ρ c main_v6 (by decide)]
  exact n7_v6 m ρ c H

theorem n9_v6 : IsE (a := 2048) (b := 5376) (φ := .bf16) (W9 m ρ c (Proc.devRef .tc main_v6)) (EF.pad X.dzx) := by
  rw [W9_of m ρ c main_v6 (by decide)]
  exact n8_v6 m ρ c H

theorem n10_v6 : IsE (a := 2048) (b := 5376) (φ := .bf16) (W10 m ρ c (Proc.devRef .tc main_v6)) (EF.pad X.dzx) := by
  rw [W10_of m ρ c main_v6 (by decide)]
  exact n9_v6 m ρ c H

theorem n11_v18 : IsE (a := 1024) (b := 5376) (φ := .bf16) (W11 m ρ c (Proc.devRef .tc main_v18)) (X.dwin) := by
  rw [show W11 m ρ c (Proc.devRef .tc main_v18) = _ from W11_arr m ρ c 2]
  exact reg5 (V10 m ρ) c (n10_v13 m ρ c H) (n10_v6 m ρ c H)

theorem n11_v13 : IsE (a := 2048) (b := 1024) (φ := .bf16) (W11 m ρ c (Proc.devRef .tc main_v13)) (X.u) := by
  rw [W11_of m ρ c main_v13 (by decide)]
  exact n10_v13 m ρ c H

theorem n6_v7 : IsE (a := 1024) (b := 2048) (φ := .bf16) (W6 m ρ c (Proc.devRef .tc main_v7)) (X.w1) := by
  rw [W6_of m ρ c main_v7 (by decide)]
  exact n5_v7 m ρ c H

theorem n7_v7 : IsE (a := 1024) (b := 2048) (φ := .bf16) (W7 m ρ c (Proc.devRef .tc main_v7)) (X.w1) := by
  rw [W7_of m ρ c main_v7 (by decide)]
  exact n6_v7 m ρ c H

theorem n8_v7 : IsE (a := 1024) (b := 2048) (φ := .bf16) (W8 m ρ c (Proc.devRef .tc main_v7)) (X.w1) := by
  rw [W8_of m ρ c main_v7 (by decide)]
  exact n7_v7 m ρ c H

theorem n9_v7 : IsE (a := 1024) (b := 2048) (φ := .bf16) (W9 m ρ c (Proc.devRef .tc main_v7)) (X.w1) := by
  rw [W9_of m ρ c main_v7 (by decide)]
  exact n8_v7 m ρ c H

theorem n10_v7 : IsE (a := 1024) (b := 2048) (φ := .bf16) (W10 m ρ c (Proc.devRef .tc main_v7)) (X.w1) := by
  rw [W10_of m ρ c main_v7 (by decide)]
  exact n9_v7 m ρ c H

theorem n11_v7 : IsE (a := 1024) (b := 2048) (φ := .bf16) (W11 m ρ c (Proc.devRef .tc main_v7)) (X.w1) := by
  rw [W11_of m ρ c main_v7 (by decide)]
  exact n10_v7 m ρ c H

theorem n11_arg8 : IsE (a := 1) (b := 2048) (φ := .f32) (W11 m ρ c (Proc.devRef .tc main_arg8)) (fun _ l => X.b1 l) := by
  rw [show W11 m ρ c (Proc.devRef .tc main_arg8) = W0 m ρ c (Proc.devRef .tc main_arg8) from W11_args m ρ c main_arg8 (by decide)]
  exact H.h8

theorem n12_v19 : IsE (a := 2048) (b := 2048) (φ := .f32) (W12 m ρ c (Proc.devRef .tc main_v19)) (X.hh) := by
  rw [show W12 m ρ c (Proc.devRef .tc main_v19) = _ from W12_arr m ρ c 3]
  exact reg6 (V11 m ρ) c (n11_v13 m ρ c H) (n11_v7 m ρ c H) (n11_arg8 m ρ c H)

theorem n6_v8 : IsE (a := 2048) (b := 1024) (φ := .bf16) (W6 m ρ c (Proc.devRef .tc main_v8)) (X.s) := by
  rw [W6_of m ρ c main_v8 (by decide)]
  exact n5_v8 m ρ c H

theorem n7_v8 : IsE (a := 2048) (b := 1024) (φ := .bf16) (W7 m ρ c (Proc.devRef .tc main_v8)) (X.s) := by
  rw [W7_of m ρ c main_v8 (by decide)]
  exact n6_v8 m ρ c H

theorem n8_v8 : IsE (a := 2048) (b := 1024) (φ := .bf16) (W8 m ρ c (Proc.devRef .tc main_v8)) (X.s) := by
  rw [W8_of m ρ c main_v8 (by decide)]
  exact n7_v8 m ρ c H

theorem n9_v8 : IsE (a := 2048) (b := 1024) (φ := .bf16) (W9 m ρ c (Proc.devRef .tc main_v8)) (X.s) := by
  rw [W9_of m ρ c main_v8 (by decide)]
  exact n8_v8 m ρ c H

theorem n10_v8 : IsE (a := 2048) (b := 1024) (φ := .bf16) (W10 m ρ c (Proc.devRef .tc main_v8)) (X.s) := by
  rw [W10_of m ρ c main_v8 (by decide)]
  exact n9_v8 m ρ c H

theorem n11_v8 : IsE (a := 2048) (b := 1024) (φ := .bf16) (W11 m ρ c (Proc.devRef .tc main_v8)) (X.s) := by
  rw [W11_of m ρ c main_v8 (by decide)]
  exact n10_v8 m ρ c H

theorem n12_v8 : IsE (a := 2048) (b := 1024) (φ := .bf16) (W12 m ρ c (Proc.devRef .tc main_v8)) (X.s) := by
  rw [W12_of m ρ c main_v8 (by decide)]
  exact n11_v8 m ρ c H

theorem n6_v9 : IsE (a := 1024) (b := 1024) (φ := .bf16) (W6 m ρ c (Proc.devRef .tc main_v9)) (X.w2) := by
  rw [W6_of m ρ c main_v9 (by decide)]
  exact n5_v9 m ρ c H

theorem n7_v9 : IsE (a := 1024) (b := 1024) (φ := .bf16) (W7 m ρ c (Proc.devRef .tc main_v9)) (X.w2) := by
  rw [W7_of m ρ c main_v9 (by decide)]
  exact n6_v9 m ρ c H

theorem n8_v9 : IsE (a := 1024) (b := 1024) (φ := .bf16) (W8 m ρ c (Proc.devRef .tc main_v9)) (X.w2) := by
  rw [W8_of m ρ c main_v9 (by decide)]
  exact n7_v9 m ρ c H

theorem n9_v9 : IsE (a := 1024) (b := 1024) (φ := .bf16) (W9 m ρ c (Proc.devRef .tc main_v9)) (X.w2) := by
  rw [W9_of m ρ c main_v9 (by decide)]
  exact n8_v9 m ρ c H

theorem n10_v9 : IsE (a := 1024) (b := 1024) (φ := .bf16) (W10 m ρ c (Proc.devRef .tc main_v9)) (X.w2) := by
  rw [W10_of m ρ c main_v9 (by decide)]
  exact n9_v9 m ρ c H

theorem n11_v9 : IsE (a := 1024) (b := 1024) (φ := .bf16) (W11 m ρ c (Proc.devRef .tc main_v9)) (X.w2) := by
  rw [W11_of m ρ c main_v9 (by decide)]
  exact n10_v9 m ρ c H

theorem n12_v9 : IsE (a := 1024) (b := 1024) (φ := .bf16) (W12 m ρ c (Proc.devRef .tc main_v9)) (X.w2) := by
  rw [W12_of m ρ c main_v9 (by decide)]
  exact n11_v9 m ρ c H

theorem n12_arg11 : IsE (a := 1) (b := 1024) (φ := .f32) (W12 m ρ c (Proc.devRef .tc main_arg11)) (fun _ l => X.b2 l) := by
  rw [show W12 m ρ c (Proc.devRef .tc main_arg11) = W0 m ρ c (Proc.devRef .tc main_arg11) from W12_args m ρ c main_arg11 (by decide)]
  exact H.h11

theorem n12_arg0 : IsE (a := 2048) (b := 1024) (φ := .f32) (W12 m ρ c (Proc.devRef .tc main_arg0)) (X.h) := by
  rw [show W12 m ρ c (Proc.devRef .tc main_arg0) = W0 m ρ c (Proc.devRef .tc main_arg0) from W12_args m ρ c main_arg0 (by decide)]
  exact H.h0

theorem n13_v20 : IsE (a := 2048) (b := 1024) (φ := .f32) (W13 m ρ c (Proc.devRef .tc main_v20)) (X.ch) := by
  rw [show W13 m ρ c (Proc.devRef .tc main_v20) = _ from W13_arr m ρ c 4]
  exact reg7 (V12 m ρ) c (n12_v8 m ρ c H) (n12_v9 m ρ c H) (n12_arg11 m ρ c H) (n12_arg0 m ρ c H)

theorem n10_v5 : IsE (a := 2048) (b := 1024) (φ := .bf16) (W10 m ρ c (Proc.devRef .tc main_v5)) (X.dh) := by
  rw [W10_of m ρ c main_v5 (by decide)]
  exact n9_v5 m ρ c H

theorem n11_v5 : IsE (a := 2048) (b := 1024) (φ := .bf16) (W11 m ρ c (Proc.devRef .tc main_v5)) (X.dh) := by
  rw [W11_of m ρ c main_v5 (by decide)]
  exact n10_v5 m ρ c H

theorem n12_v5 : IsE (a := 2048) (b := 1024) (φ := .bf16) (W12 m ρ c (Proc.devRef .tc main_v5)) (X.dh) := by
  rw [W12_of m ρ c main_v5 (by decide)]
  exact n11_v5 m ρ c H

theorem n13_v5 : IsE (a := 2048) (b := 1024) (φ := .bf16) (W13 m ρ c (Proc.devRef .tc main_v5)) (X.dh) := by
  rw [W13_of m ρ c main_v5 (by decide)]
  exact n12_v5 m ρ c H

theorem n13_v9 : IsE (a := 1024) (b := 1024) (φ := .bf16) (W13 m ρ c (Proc.devRef .tc main_v9)) (X.w2) := by
  rw [W13_of m ρ c main_v9 (by decide)]
  exact n12_v9 m ρ c H

theorem n14_v21 : IsE (a := 2048) (b := 1024) (φ := .f32) (W14 m ρ c (Proc.devRef .tc main_v21)) (X.ds) := by
  rw [show W14 m ρ c (Proc.devRef .tc main_v21) = _ from W14_arr m ρ c 2]
  exact reg8 (V13 m ρ) c (n13_v5 m ρ c H) (n13_v9 m ρ c H)

theorem n13_v8 : IsE (a := 2048) (b := 1024) (φ := .bf16) (W13 m ρ c (Proc.devRef .tc main_v8)) (X.s) := by
  rw [W13_of m ρ c main_v8 (by decide)]
  exact n12_v8 m ρ c H

theorem n14_v8 : IsE (a := 2048) (b := 1024) (φ := .bf16) (W14 m ρ c (Proc.devRef .tc main_v8)) (X.s) := by
  rw [W14_of m ρ c main_v8 (by decide)]
  exact n13_v8 m ρ c H

theorem n14_v5 : IsE (a := 2048) (b := 1024) (φ := .bf16) (W14 m ρ c (Proc.devRef .tc main_v5)) (X.dh) := by
  rw [W14_of m ρ c main_v5 (by decide)]
  exact n13_v5 m ρ c H

theorem n15_v22 : IsE (a := 1024) (b := 1024) (φ := .bf16) (W15 m ρ c (Proc.devRef .tc main_v22)) (X.dw2) := by
  rw [show W15 m ρ c (Proc.devRef .tc main_v22) = _ from W15_arr m ρ c 2]
  exact reg9 (V14 m ρ) c (n14_v8 m ρ c H) (n14_v5 m ρ c H)

theorem n6_v10 : IsE (a := 2048) (b := 2048) (φ := .bf16) (W6 m ρ c (Proc.devRef .tc main_v10)) (X.dhh) := by
  rw [W6_of m ρ c main_v10 (by decide)]
  exact n5_v10 m ρ c H

theorem n7_v10 : IsE (a := 2048) (b := 2048) (φ := .bf16) (W7 m ρ c (Proc.devRef .tc main_v10)) (X.dhh) := by
  rw [W7_of m ρ c main_v10 (by decide)]
  exact n6_v10 m ρ c H

theorem n8_v10 : IsE (a := 2048) (b := 2048) (φ := .bf16) (W8 m ρ c (Proc.devRef .tc main_v10)) (X.dhh) := by
  rw [W8_of m ρ c main_v10 (by decide)]
  exact n7_v10 m ρ c H

theorem n9_v10 : IsE (a := 2048) (b := 2048) (φ := .bf16) (W9 m ρ c (Proc.devRef .tc main_v10)) (X.dhh) := by
  rw [W9_of m ρ c main_v10 (by decide)]
  exact n8_v10 m ρ c H

theorem n10_v10 : IsE (a := 2048) (b := 2048) (φ := .bf16) (W10 m ρ c (Proc.devRef .tc main_v10)) (X.dhh) := by
  rw [W10_of m ρ c main_v10 (by decide)]
  exact n9_v10 m ρ c H

theorem n11_v10 : IsE (a := 2048) (b := 2048) (φ := .bf16) (W11 m ρ c (Proc.devRef .tc main_v10)) (X.dhh) := by
  rw [W11_of m ρ c main_v10 (by decide)]
  exact n10_v10 m ρ c H

theorem n12_v10 : IsE (a := 2048) (b := 2048) (φ := .bf16) (W12 m ρ c (Proc.devRef .tc main_v10)) (X.dhh) := by
  rw [W12_of m ρ c main_v10 (by decide)]
  exact n11_v10 m ρ c H

theorem n13_v10 : IsE (a := 2048) (b := 2048) (φ := .bf16) (W13 m ρ c (Proc.devRef .tc main_v10)) (X.dhh) := by
  rw [W13_of m ρ c main_v10 (by decide)]
  exact n12_v10 m ρ c H

theorem n14_v10 : IsE (a := 2048) (b := 2048) (φ := .bf16) (W14 m ρ c (Proc.devRef .tc main_v10)) (X.dhh) := by
  rw [W14_of m ρ c main_v10 (by decide)]
  exact n13_v10 m ρ c H

theorem n15_v10 : IsE (a := 2048) (b := 2048) (φ := .bf16) (W15 m ρ c (Proc.devRef .tc main_v10)) (X.dhh) := by
  rw [W15_of m ρ c main_v10 (by decide)]
  exact n14_v10 m ρ c H

theorem n12_v7 : IsE (a := 1024) (b := 2048) (φ := .bf16) (W12 m ρ c (Proc.devRef .tc main_v7)) (X.w1) := by
  rw [W12_of m ρ c main_v7 (by decide)]
  exact n11_v7 m ρ c H

theorem n13_v7 : IsE (a := 1024) (b := 2048) (φ := .bf16) (W13 m ρ c (Proc.devRef .tc main_v7)) (X.w1) := by
  rw [W13_of m ρ c main_v7 (by decide)]
  exact n12_v7 m ρ c H

theorem n14_v7 : IsE (a := 1024) (b := 2048) (φ := .bf16) (W14 m ρ c (Proc.devRef .tc main_v7)) (X.w1) := by
  rw [W14_of m ρ c main_v7 (by decide)]
  exact n13_v7 m ρ c H

theorem n15_v7 : IsE (a := 1024) (b := 2048) (φ := .bf16) (W15 m ρ c (Proc.devRef .tc main_v7)) (X.w1) := by
  rw [W15_of m ρ c main_v7 (by decide)]
  exact n14_v7 m ρ c H

theorem n16_v23 : IsE (a := 2048) (b := 1024) (φ := .f32) (W16 m ρ c (Proc.devRef .tc main_v23)) (X.du) := by
  rw [show W16 m ρ c (Proc.devRef .tc main_v23) = _ from W16_arr m ρ c 2]
  exact reg10 (V15 m ρ) c (n15_v10 m ρ c H) (n15_v7 m ρ c H)

theorem n12_v13 : IsE (a := 2048) (b := 1024) (φ := .bf16) (W12 m ρ c (Proc.devRef .tc main_v13)) (X.u) := by
  rw [W12_of m ρ c main_v13 (by decide)]
  exact n11_v13 m ρ c H

theorem n13_v13 : IsE (a := 2048) (b := 1024) (φ := .bf16) (W13 m ρ c (Proc.devRef .tc main_v13)) (X.u) := by
  rw [W13_of m ρ c main_v13 (by decide)]
  exact n12_v13 m ρ c H

theorem n14_v13 : IsE (a := 2048) (b := 1024) (φ := .bf16) (W14 m ρ c (Proc.devRef .tc main_v13)) (X.u) := by
  rw [W14_of m ρ c main_v13 (by decide)]
  exact n13_v13 m ρ c H

theorem n15_v13 : IsE (a := 2048) (b := 1024) (φ := .bf16) (W15 m ρ c (Proc.devRef .tc main_v13)) (X.u) := by
  rw [W15_of m ρ c main_v13 (by decide)]
  exact n14_v13 m ρ c H

theorem n16_v13 : IsE (a := 2048) (b := 1024) (φ := .bf16) (W16 m ρ c (Proc.devRef .tc main_v13)) (X.u) := by
  rw [W16_of m ρ c main_v13 (by decide)]
  exact n15_v13 m ρ c H

theorem n16_v10 : IsE (a := 2048) (b := 2048) (φ := .bf16) (W16 m ρ c (Proc.devRef .tc main_v10)) (X.dhh) := by
  rw [W16_of m ρ c main_v10 (by decide)]
  exact n15_v10 m ρ c H

theorem n17_v24 : IsE (a := 1024) (b := 2048) (φ := .bf16) (W17 m ρ c (Proc.devRef .tc main_v24)) (X.dw1) := by
  rw [show W17 m ρ c (Proc.devRef .tc main_v24) = _ from W17_arr m ρ c 2]
  exact reg11 (V16 m ρ) c (n16_v13 m ρ c H) (n16_v10 m ρ c H)

theorem n6_v11 : IsE (a := 2048) (b := 2816) (φ := .bf16) (W6 m ρ c (Proc.devRef .tc main_v11)) (X.act) := by
  rw [W6_of m ρ c main_v11 (by decide)]
  exact n5_v11 m ρ c H

theorem n7_v11 : IsE (a := 2048) (b := 2816) (φ := .bf16) (W7 m ρ c (Proc.devRef .tc main_v11)) (X.act) := by
  rw [W7_of m ρ c main_v11 (by decide)]
  exact n6_v11 m ρ c H

theorem n8_v11 : IsE (a := 2048) (b := 2816) (φ := .bf16) (W8 m ρ c (Proc.devRef .tc main_v11)) (X.act) := by
  rw [W8_of m ρ c main_v11 (by decide)]
  exact n7_v11 m ρ c H

theorem n9_v11 : IsE (a := 2048) (b := 2816) (φ := .bf16) (W9 m ρ c (Proc.devRef .tc main_v11)) (X.act) := by
  rw [W9_of m ρ c main_v11 (by decide)]
  exact n8_v11 m ρ c H

theorem n10_v11 : IsE (a := 2048) (b := 2816) (φ := .bf16) (W10 m ρ c (Proc.devRef .tc main_v11)) (X.act) := by
  rw [W10_of m ρ c main_v11 (by decide)]
  exact n9_v11 m ρ c H

theorem n11_v11 : IsE (a := 2048) (b := 2816) (φ := .bf16) (W11 m ρ c (Proc.devRef .tc main_v11)) (X.act) := by
  rw [W11_of m ρ c main_v11 (by decide)]
  exact n10_v11 m ρ c H

theorem n12_v11 : IsE (a := 2048) (b := 2816) (φ := .bf16) (W12 m ρ c (Proc.devRef .tc main_v11)) (X.act) := by
  rw [W12_of m ρ c main_v11 (by decide)]
  exact n11_v11 m ρ c H

theorem n13_v11 : IsE (a := 2048) (b := 2816) (φ := .bf16) (W13 m ρ c (Proc.devRef .tc main_v11)) (X.act) := by
  rw [W13_of m ρ c main_v11 (by decide)]
  exact n12_v11 m ρ c H

theorem n14_v11 : IsE (a := 2048) (b := 2816) (φ := .bf16) (W14 m ρ c (Proc.devRef .tc main_v11)) (X.act) := by
  rw [W14_of m ρ c main_v11 (by decide)]
  exact n13_v11 m ρ c H

theorem n15_v11 : IsE (a := 2048) (b := 2816) (φ := .bf16) (W15 m ρ c (Proc.devRef .tc main_v11)) (X.act) := by
  rw [W15_of m ρ c main_v11 (by decide)]
  exact n14_v11 m ρ c H

theorem n16_v11 : IsE (a := 2048) (b := 2816) (φ := .bf16) (W16 m ρ c (Proc.devRef .tc main_v11)) (X.act) := by
  rw [W16_of m ρ c main_v11 (by decide)]
  exact n15_v11 m ρ c H

theorem n17_v11 : IsE (a := 2048) (b := 2816) (φ := .bf16) (W17 m ρ c (Proc.devRef .tc main_v11)) (X.act) := by
  rw [W17_of m ρ c main_v11 (by decide)]
  exact n16_v11 m ρ c H

theorem n6_v12 : IsE (a := 2816) (b := 1024) (φ := .bf16) (W6 m ρ c (Proc.devRef .tc main_v12)) (X.wd) := by
  rw [W6_of m ρ c main_v12 (by decide)]
  exact n5_v12 m ρ c H

theorem n7_v12 : IsE (a := 2816) (b := 1024) (φ := .bf16) (W7 m ρ c (Proc.devRef .tc main_v12)) (X.wd) := by
  rw [W7_of m ρ c main_v12 (by decide)]
  exact n6_v12 m ρ c H

theorem n8_v12 : IsE (a := 2816) (b := 1024) (φ := .bf16) (W8 m ρ c (Proc.devRef .tc main_v12)) (X.wd) := by
  rw [W8_of m ρ c main_v12 (by decide)]
  exact n7_v12 m ρ c H

theorem n9_v12 : IsE (a := 2816) (b := 1024) (φ := .bf16) (W9 m ρ c (Proc.devRef .tc main_v12)) (X.wd) := by
  rw [W9_of m ρ c main_v12 (by decide)]
  exact n8_v12 m ρ c H

theorem n10_v12 : IsE (a := 2816) (b := 1024) (φ := .bf16) (W10 m ρ c (Proc.devRef .tc main_v12)) (X.wd) := by
  rw [W10_of m ρ c main_v12 (by decide)]
  exact n9_v12 m ρ c H

theorem n11_v12 : IsE (a := 2816) (b := 1024) (φ := .bf16) (W11 m ρ c (Proc.devRef .tc main_v12)) (X.wd) := by
  rw [W11_of m ρ c main_v12 (by decide)]
  exact n10_v12 m ρ c H

theorem n12_v12 : IsE (a := 2816) (b := 1024) (φ := .bf16) (W12 m ρ c (Proc.devRef .tc main_v12)) (X.wd) := by
  rw [W12_of m ρ c main_v12 (by decide)]
  exact n11_v12 m ρ c H

theorem n13_v12 : IsE (a := 2816) (b := 1024) (φ := .bf16) (W13 m ρ c (Proc.devRef .tc main_v12)) (X.wd) := by
  rw [W13_of m ρ c main_v12 (by decide)]
  exact n12_v12 m ρ c H

theorem n14_v12 : IsE (a := 2816) (b := 1024) (φ := .bf16) (W14 m ρ c (Proc.devRef .tc main_v12)) (X.wd) := by
  rw [W14_of m ρ c main_v12 (by decide)]
  exact n13_v12 m ρ c H

theorem n15_v12 : IsE (a := 2816) (b := 1024) (φ := .bf16) (W15 m ρ c (Proc.devRef .tc main_v12)) (X.wd) := by
  rw [W15_of m ρ c main_v12 (by decide)]
  exact n14_v12 m ρ c H

theorem n16_v12 : IsE (a := 2816) (b := 1024) (φ := .bf16) (W16 m ρ c (Proc.devRef .tc main_v12)) (X.wd) := by
  rw [W16_of m ρ c main_v12 (by decide)]
  exact n15_v12 m ρ c H

theorem n17_v12 : IsE (a := 2816) (b := 1024) (φ := .bf16) (W17 m ρ c (Proc.devRef .tc main_v12)) (X.wd) := by
  rw [W17_of m ρ c main_v12 (by decide)]
  exact n16_v12 m ρ c H

theorem n17_arg0 : IsE (a := 2048) (b := 1024) (φ := .f32) (W17 m ρ c (Proc.devRef .tc main_arg0)) (X.h) := by
  rw [show W17 m ρ c (Proc.devRef .tc main_arg0) = W0 m ρ c (Proc.devRef .tc main_arg0) from W17_args m ρ c main_arg0 (by decide)]
  exact H.h0

theorem n18_v25 : IsE (a := 2048) (b := 1024) (φ := .f32) (W18 m ρ c (Proc.devRef .tc main_v25)) (X.fh) := by
  rw [show W18 m ρ c (Proc.devRef .tc main_v25) = _ from W18_arr m ρ c 3]
  exact reg12 (V17 m ρ) c (n17_v11 m ρ c H) (n17_v12 m ρ c H) (n17_arg0 m ρ c H)

theorem n8_v14 : IsE (a := 2048) (b := 5376) (φ := .f32) (W8 m ρ c (Proc.devRef .tc main_v14)) (X.zx) := by
  rw [W8_of m ρ c main_v14 (by decide)]
  exact n7_v14 m ρ c H

theorem n9_v14 : IsE (a := 2048) (b := 5376) (φ := .f32) (W9 m ρ c (Proc.devRef .tc main_v14)) (X.zx) := by
  rw [W9_of m ρ c main_v14 (by decide)]
  exact n8_v14 m ρ c H

theorem n10_v14 : IsE (a := 2048) (b := 5376) (φ := .f32) (W10 m ρ c (Proc.devRef .tc main_v14)) (X.zx) := by
  rw [W10_of m ρ c main_v14 (by decide)]
  exact n9_v14 m ρ c H

theorem n11_v14 : IsE (a := 2048) (b := 5376) (φ := .f32) (W11 m ρ c (Proc.devRef .tc main_v14)) (X.zx) := by
  rw [W11_of m ρ c main_v14 (by decide)]
  exact n10_v14 m ρ c H

theorem n12_v14 : IsE (a := 2048) (b := 5376) (φ := .f32) (W12 m ρ c (Proc.devRef .tc main_v14)) (X.zx) := by
  rw [W12_of m ρ c main_v14 (by decide)]
  exact n11_v14 m ρ c H

theorem n13_v14 : IsE (a := 2048) (b := 5376) (φ := .f32) (W13 m ρ c (Proc.devRef .tc main_v14)) (X.zx) := by
  rw [W13_of m ρ c main_v14 (by decide)]
  exact n12_v14 m ρ c H

theorem n14_v14 : IsE (a := 2048) (b := 5376) (φ := .f32) (W14 m ρ c (Proc.devRef .tc main_v14)) (X.zx) := by
  rw [W14_of m ρ c main_v14 (by decide)]
  exact n13_v14 m ρ c H

theorem n15_v14 : IsE (a := 2048) (b := 5376) (φ := .f32) (W15 m ρ c (Proc.devRef .tc main_v14)) (X.zx) := by
  rw [W15_of m ρ c main_v14 (by decide)]
  exact n14_v14 m ρ c H

theorem n16_v14 : IsE (a := 2048) (b := 5376) (φ := .f32) (W16 m ρ c (Proc.devRef .tc main_v14)) (X.zx) := by
  rw [W16_of m ρ c main_v14 (by decide)]
  exact n15_v14 m ρ c H

theorem n17_v14 : IsE (a := 2048) (b := 5376) (φ := .f32) (W17 m ρ c (Proc.devRef .tc main_v14)) (X.zx) := by
  rw [W17_of m ρ c main_v14 (by decide)]
  exact n16_v14 m ρ c H

theorem n18_v14 : IsE (a := 2048) (b := 5376) (φ := .f32) (W18 m ρ c (Proc.devRef .tc main_v14)) (X.zx) := by
  rw [W18_of m ρ c main_v14 (by decide)]
  exact n17_v14 m ρ c H

theorem n19_v26 : IsE (a := 2048) (b := 5152) (φ := .f32) (W19 m ρ c (Proc.devRef .tc main_v26)) (X.zx) := by
  intro t d
  show StableHlo.after hostOps13 (W18 m ρ c) (Proc.devRef .tc main_v26) (ix2 t d) = _
  after_reads_at
  exact n18_v14 m ρ c H t ⟨d.val, by omega⟩

theorem n12_v18 : IsE (a := 1024) (b := 5376) (φ := .bf16) (W12 m ρ c (Proc.devRef .tc main_v18)) (X.dwin) := by
  rw [W12_of m ρ c main_v18 (by decide)]
  exact n11_v18 m ρ c H

theorem n13_v18 : IsE (a := 1024) (b := 5376) (φ := .bf16) (W13 m ρ c (Proc.devRef .tc main_v18)) (X.dwin) := by
  rw [W13_of m ρ c main_v18 (by decide)]
  exact n12_v18 m ρ c H

theorem n14_v18 : IsE (a := 1024) (b := 5376) (φ := .bf16) (W14 m ρ c (Proc.devRef .tc main_v18)) (X.dwin) := by
  rw [W14_of m ρ c main_v18 (by decide)]
  exact n13_v18 m ρ c H

theorem n15_v18 : IsE (a := 1024) (b := 5376) (φ := .bf16) (W15 m ρ c (Proc.devRef .tc main_v18)) (X.dwin) := by
  rw [W15_of m ρ c main_v18 (by decide)]
  exact n14_v18 m ρ c H

theorem n16_v18 : IsE (a := 1024) (b := 5376) (φ := .bf16) (W16 m ρ c (Proc.devRef .tc main_v18)) (X.dwin) := by
  rw [W16_of m ρ c main_v18 (by decide)]
  exact n15_v18 m ρ c H

theorem n17_v18 : IsE (a := 1024) (b := 5376) (φ := .bf16) (W17 m ρ c (Proc.devRef .tc main_v18)) (X.dwin) := by
  rw [W17_of m ρ c main_v18 (by decide)]
  exact n16_v18 m ρ c H

theorem n18_v18 : IsE (a := 1024) (b := 5376) (φ := .bf16) (W18 m ρ c (Proc.devRef .tc main_v18)) (X.dwin) := by
  rw [W18_of m ρ c main_v18 (by decide)]
  exact n17_v18 m ρ c H

theorem n19_v27 : IsE (a := 1024) (b := 5152) (φ := .bf16) (W19 m ρ c (Proc.devRef .tc main_v27)) (X.dwin) := by
  intro t d
  show StableHlo.after hostOps13 (W18 m ρ c) (Proc.devRef .tc main_v27) (ix2 t d) = _
  after_reads_at
  exact n18_v18 m ρ c H t ⟨d.val, by omega⟩

theorem n17_v13 : IsE (a := 2048) (b := 1024) (φ := .bf16) (W17 m ρ c (Proc.devRef .tc main_v13)) (X.u) := by
  rw [W17_of m ρ c main_v13 (by decide)]
  exact n16_v13 m ρ c H

theorem n18_v13 : IsE (a := 2048) (b := 1024) (φ := .bf16) (W18 m ρ c (Proc.devRef .tc main_v13)) (X.u) := by
  rw [W18_of m ρ c main_v13 (by decide)]
  exact n17_v13 m ρ c H

theorem n19_v13 : IsE (a := 2048) (b := 1024) (φ := .bf16) (W19 m ρ c (Proc.devRef .tc main_v13)) (X.u) := by
  rw [W19_of m ρ c main_v13 (by decide)]
  exact n18_v13 m ρ c H

theorem n9_v15 : IsE (a := 2048) (b := 1024) (φ := .f32) (W9 m ρ c (Proc.devRef .tc main_v15)) (X.sh) := by
  rw [W9_of m ρ c main_v15 (by decide)]
  exact n8_v15 m ρ c H

theorem n10_v15 : IsE (a := 2048) (b := 1024) (φ := .f32) (W10 m ρ c (Proc.devRef .tc main_v15)) (X.sh) := by
  rw [W10_of m ρ c main_v15 (by decide)]
  exact n9_v15 m ρ c H

theorem n11_v15 : IsE (a := 2048) (b := 1024) (φ := .f32) (W11 m ρ c (Proc.devRef .tc main_v15)) (X.sh) := by
  rw [W11_of m ρ c main_v15 (by decide)]
  exact n10_v15 m ρ c H

theorem n12_v15 : IsE (a := 2048) (b := 1024) (φ := .f32) (W12 m ρ c (Proc.devRef .tc main_v15)) (X.sh) := by
  rw [W12_of m ρ c main_v15 (by decide)]
  exact n11_v15 m ρ c H

theorem n13_v15 : IsE (a := 2048) (b := 1024) (φ := .f32) (W13 m ρ c (Proc.devRef .tc main_v15)) (X.sh) := by
  rw [W13_of m ρ c main_v15 (by decide)]
  exact n12_v15 m ρ c H

theorem n14_v15 : IsE (a := 2048) (b := 1024) (φ := .f32) (W14 m ρ c (Proc.devRef .tc main_v15)) (X.sh) := by
  rw [W14_of m ρ c main_v15 (by decide)]
  exact n13_v15 m ρ c H

theorem n15_v15 : IsE (a := 2048) (b := 1024) (φ := .f32) (W15 m ρ c (Proc.devRef .tc main_v15)) (X.sh) := by
  rw [W15_of m ρ c main_v15 (by decide)]
  exact n14_v15 m ρ c H

theorem n16_v15 : IsE (a := 2048) (b := 1024) (φ := .f32) (W16 m ρ c (Proc.devRef .tc main_v15)) (X.sh) := by
  rw [W16_of m ρ c main_v15 (by decide)]
  exact n15_v15 m ρ c H

theorem n17_v15 : IsE (a := 2048) (b := 1024) (φ := .f32) (W17 m ρ c (Proc.devRef .tc main_v15)) (X.sh) := by
  rw [W17_of m ρ c main_v15 (by decide)]
  exact n16_v15 m ρ c H

theorem n18_v15 : IsE (a := 2048) (b := 1024) (φ := .f32) (W18 m ρ c (Proc.devRef .tc main_v15)) (X.sh) := by
  rw [W18_of m ρ c main_v15 (by decide)]
  exact n17_v15 m ρ c H

theorem n19_v15 : IsE (a := 2048) (b := 1024) (φ := .f32) (W19 m ρ c (Proc.devRef .tc main_v15)) (X.sh) := by
  rw [W19_of m ρ c main_v15 (by decide)]
  exact n18_v15 m ρ c H

theorem n10_v16 : IsE (a := 2048) (b := 2048) (φ := .f32) (W10 m ρ c (Proc.devRef .tc main_v16)) (X.dyn) := by
  rw [W10_of m ρ c main_v16 (by decide)]
  exact n9_v16 m ρ c H

theorem n11_v16 : IsE (a := 2048) (b := 2048) (φ := .f32) (W11 m ρ c (Proc.devRef .tc main_v16)) (X.dyn) := by
  rw [W11_of m ρ c main_v16 (by decide)]
  exact n10_v16 m ρ c H

theorem n12_v16 : IsE (a := 2048) (b := 2048) (φ := .f32) (W12 m ρ c (Proc.devRef .tc main_v16)) (X.dyn) := by
  rw [W12_of m ρ c main_v16 (by decide)]
  exact n11_v16 m ρ c H

theorem n13_v16 : IsE (a := 2048) (b := 2048) (φ := .f32) (W13 m ρ c (Proc.devRef .tc main_v16)) (X.dyn) := by
  rw [W13_of m ρ c main_v16 (by decide)]
  exact n12_v16 m ρ c H

theorem n14_v16 : IsE (a := 2048) (b := 2048) (φ := .f32) (W14 m ρ c (Proc.devRef .tc main_v16)) (X.dyn) := by
  rw [W14_of m ρ c main_v16 (by decide)]
  exact n13_v16 m ρ c H

theorem n15_v16 : IsE (a := 2048) (b := 2048) (φ := .f32) (W15 m ρ c (Proc.devRef .tc main_v16)) (X.dyn) := by
  rw [W15_of m ρ c main_v16 (by decide)]
  exact n14_v16 m ρ c H

theorem n16_v16 : IsE (a := 2048) (b := 2048) (φ := .f32) (W16 m ρ c (Proc.devRef .tc main_v16)) (X.dyn) := by
  rw [W16_of m ρ c main_v16 (by decide)]
  exact n15_v16 m ρ c H

theorem n17_v16 : IsE (a := 2048) (b := 2048) (φ := .f32) (W17 m ρ c (Proc.devRef .tc main_v16)) (X.dyn) := by
  rw [W17_of m ρ c main_v16 (by decide)]
  exact n16_v16 m ρ c H

theorem n18_v16 : IsE (a := 2048) (b := 2048) (φ := .f32) (W18 m ρ c (Proc.devRef .tc main_v16)) (X.dyn) := by
  rw [W18_of m ρ c main_v16 (by decide)]
  exact n17_v16 m ρ c H

theorem n19_v16 : IsE (a := 2048) (b := 2048) (φ := .f32) (W19 m ρ c (Proc.devRef .tc main_v16)) (X.dyn) := by
  rw [W19_of m ρ c main_v16 (by decide)]
  exact n18_v16 m ρ c H

theorem n11_v17 : IsE (a := 2048) (b := 1024) (φ := .bf16) (W11 m ρ c (Proc.devRef .tc main_v17)) (X.dwout) := by
  rw [W11_of m ρ c main_v17 (by decide)]
  exact n10_v17 m ρ c H

theorem n12_v17 : IsE (a := 2048) (b := 1024) (φ := .bf16) (W12 m ρ c (Proc.devRef .tc main_v17)) (X.dwout) := by
  rw [W12_of m ρ c main_v17 (by decide)]
  exact n11_v17 m ρ c H

theorem n13_v17 : IsE (a := 2048) (b := 1024) (φ := .bf16) (W13 m ρ c (Proc.devRef .tc main_v17)) (X.dwout) := by
  rw [W13_of m ρ c main_v17 (by decide)]
  exact n12_v17 m ρ c H

theorem n14_v17 : IsE (a := 2048) (b := 1024) (φ := .bf16) (W14 m ρ c (Proc.devRef .tc main_v17)) (X.dwout) := by
  rw [W14_of m ρ c main_v17 (by decide)]
  exact n13_v17 m ρ c H

theorem n15_v17 : IsE (a := 2048) (b := 1024) (φ := .bf16) (W15 m ρ c (Proc.devRef .tc main_v17)) (X.dwout) := by
  rw [W15_of m ρ c main_v17 (by decide)]
  exact n14_v17 m ρ c H

theorem n16_v17 : IsE (a := 2048) (b := 1024) (φ := .bf16) (W16 m ρ c (Proc.devRef .tc main_v17)) (X.dwout) := by
  rw [W16_of m ρ c main_v17 (by decide)]
  exact n15_v17 m ρ c H

theorem n17_v17 : IsE (a := 2048) (b := 1024) (φ := .bf16) (W17 m ρ c (Proc.devRef .tc main_v17)) (X.dwout) := by
  rw [W17_of m ρ c main_v17 (by decide)]
  exact n16_v17 m ρ c H

theorem n18_v17 : IsE (a := 2048) (b := 1024) (φ := .bf16) (W18 m ρ c (Proc.devRef .tc main_v17)) (X.dwout) := by
  rw [W18_of m ρ c main_v17 (by decide)]
  exact n17_v17 m ρ c H

theorem n19_v17 : IsE (a := 2048) (b := 1024) (φ := .bf16) (W19 m ρ c (Proc.devRef .tc main_v17)) (X.dwout) := by
  rw [W19_of m ρ c main_v17 (by decide)]
  exact n18_v17 m ρ c H

theorem n13_v19 : IsE (a := 2048) (b := 2048) (φ := .f32) (W13 m ρ c (Proc.devRef .tc main_v19)) (X.hh) := by
  rw [W13_of m ρ c main_v19 (by decide)]
  exact n12_v19 m ρ c H

theorem n14_v19 : IsE (a := 2048) (b := 2048) (φ := .f32) (W14 m ρ c (Proc.devRef .tc main_v19)) (X.hh) := by
  rw [W14_of m ρ c main_v19 (by decide)]
  exact n13_v19 m ρ c H

theorem n15_v19 : IsE (a := 2048) (b := 2048) (φ := .f32) (W15 m ρ c (Proc.devRef .tc main_v19)) (X.hh) := by
  rw [W15_of m ρ c main_v19 (by decide)]
  exact n14_v19 m ρ c H

theorem n16_v19 : IsE (a := 2048) (b := 2048) (φ := .f32) (W16 m ρ c (Proc.devRef .tc main_v19)) (X.hh) := by
  rw [W16_of m ρ c main_v19 (by decide)]
  exact n15_v19 m ρ c H

theorem n17_v19 : IsE (a := 2048) (b := 2048) (φ := .f32) (W17 m ρ c (Proc.devRef .tc main_v19)) (X.hh) := by
  rw [W17_of m ρ c main_v19 (by decide)]
  exact n16_v19 m ρ c H

theorem n18_v19 : IsE (a := 2048) (b := 2048) (φ := .f32) (W18 m ρ c (Proc.devRef .tc main_v19)) (X.hh) := by
  rw [W18_of m ρ c main_v19 (by decide)]
  exact n17_v19 m ρ c H

theorem n19_v19 : IsE (a := 2048) (b := 2048) (φ := .f32) (W19 m ρ c (Proc.devRef .tc main_v19)) (X.hh) := by
  rw [W19_of m ρ c main_v19 (by decide)]
  exact n18_v19 m ρ c H

theorem n14_v20 : IsE (a := 2048) (b := 1024) (φ := .f32) (W14 m ρ c (Proc.devRef .tc main_v20)) (X.ch) := by
  rw [W14_of m ρ c main_v20 (by decide)]
  exact n13_v20 m ρ c H

theorem n15_v20 : IsE (a := 2048) (b := 1024) (φ := .f32) (W15 m ρ c (Proc.devRef .tc main_v20)) (X.ch) := by
  rw [W15_of m ρ c main_v20 (by decide)]
  exact n14_v20 m ρ c H

theorem n16_v20 : IsE (a := 2048) (b := 1024) (φ := .f32) (W16 m ρ c (Proc.devRef .tc main_v20)) (X.ch) := by
  rw [W16_of m ρ c main_v20 (by decide)]
  exact n15_v20 m ρ c H

theorem n17_v20 : IsE (a := 2048) (b := 1024) (φ := .f32) (W17 m ρ c (Proc.devRef .tc main_v20)) (X.ch) := by
  rw [W17_of m ρ c main_v20 (by decide)]
  exact n16_v20 m ρ c H

theorem n18_v20 : IsE (a := 2048) (b := 1024) (φ := .f32) (W18 m ρ c (Proc.devRef .tc main_v20)) (X.ch) := by
  rw [W18_of m ρ c main_v20 (by decide)]
  exact n17_v20 m ρ c H

theorem n19_v20 : IsE (a := 2048) (b := 1024) (φ := .f32) (W19 m ρ c (Proc.devRef .tc main_v20)) (X.ch) := by
  rw [W19_of m ρ c main_v20 (by decide)]
  exact n18_v20 m ρ c H

theorem n15_v21 : IsE (a := 2048) (b := 1024) (φ := .f32) (W15 m ρ c (Proc.devRef .tc main_v21)) (X.ds) := by
  rw [W15_of m ρ c main_v21 (by decide)]
  exact n14_v21 m ρ c H

theorem n16_v21 : IsE (a := 2048) (b := 1024) (φ := .f32) (W16 m ρ c (Proc.devRef .tc main_v21)) (X.ds) := by
  rw [W16_of m ρ c main_v21 (by decide)]
  exact n15_v21 m ρ c H

theorem n17_v21 : IsE (a := 2048) (b := 1024) (φ := .f32) (W17 m ρ c (Proc.devRef .tc main_v21)) (X.ds) := by
  rw [W17_of m ρ c main_v21 (by decide)]
  exact n16_v21 m ρ c H

theorem n18_v21 : IsE (a := 2048) (b := 1024) (φ := .f32) (W18 m ρ c (Proc.devRef .tc main_v21)) (X.ds) := by
  rw [W18_of m ρ c main_v21 (by decide)]
  exact n17_v21 m ρ c H

theorem n19_v21 : IsE (a := 2048) (b := 1024) (φ := .f32) (W19 m ρ c (Proc.devRef .tc main_v21)) (X.ds) := by
  rw [W19_of m ρ c main_v21 (by decide)]
  exact n18_v21 m ρ c H

theorem n16_v22 : IsE (a := 1024) (b := 1024) (φ := .bf16) (W16 m ρ c (Proc.devRef .tc main_v22)) (X.dw2) := by
  rw [W16_of m ρ c main_v22 (by decide)]
  exact n15_v22 m ρ c H

theorem n17_v22 : IsE (a := 1024) (b := 1024) (φ := .bf16) (W17 m ρ c (Proc.devRef .tc main_v22)) (X.dw2) := by
  rw [W17_of m ρ c main_v22 (by decide)]
  exact n16_v22 m ρ c H

theorem n18_v22 : IsE (a := 1024) (b := 1024) (φ := .bf16) (W18 m ρ c (Proc.devRef .tc main_v22)) (X.dw2) := by
  rw [W18_of m ρ c main_v22 (by decide)]
  exact n17_v22 m ρ c H

theorem n19_v22 : IsE (a := 1024) (b := 1024) (φ := .bf16) (W19 m ρ c (Proc.devRef .tc main_v22)) (X.dw2) := by
  rw [W19_of m ρ c main_v22 (by decide)]
  exact n18_v22 m ρ c H

theorem n17_v23 : IsE (a := 2048) (b := 1024) (φ := .f32) (W17 m ρ c (Proc.devRef .tc main_v23)) (X.du) := by
  rw [W17_of m ρ c main_v23 (by decide)]
  exact n16_v23 m ρ c H

theorem n18_v23 : IsE (a := 2048) (b := 1024) (φ := .f32) (W18 m ρ c (Proc.devRef .tc main_v23)) (X.du) := by
  rw [W18_of m ρ c main_v23 (by decide)]
  exact n17_v23 m ρ c H

theorem n19_v23 : IsE (a := 2048) (b := 1024) (φ := .f32) (W19 m ρ c (Proc.devRef .tc main_v23)) (X.du) := by
  rw [W19_of m ρ c main_v23 (by decide)]
  exact n18_v23 m ρ c H

theorem n18_v24 : IsE (a := 1024) (b := 2048) (φ := .bf16) (W18 m ρ c (Proc.devRef .tc main_v24)) (X.dw1) := by
  rw [W18_of m ρ c main_v24 (by decide)]
  exact n17_v24 m ρ c H

theorem n19_v24 : IsE (a := 1024) (b := 2048) (φ := .bf16) (W19 m ρ c (Proc.devRef .tc main_v24)) (X.dw1) := by
  rw [W19_of m ρ c main_v24 (by decide)]
  exact n18_v24 m ρ c H

theorem n19_v25 : IsE (a := 2048) (b := 1024) (φ := .f32) (W19 m ρ c (Proc.devRef .tc main_v25)) (X.fh) := by
  rw [W19_of m ρ c main_v25 (by decide)]
  exact n18_v25 m ρ c H

end Cert.Mm
-- ==== Proof.MmRun.lean ====
/-
  The thirteen calls in a row: what the whole program leaves.
-/
module

public import proofs.«01_k».proof.Proof.MmHost

@[expose] public section

set_option maxRecDepth 16384

noncomputable section

namespace Cert.Mm

open Cert.Kernel3Ideal Cert.Kernel3Ideal.Gen Idealize Idealize.ShloMosaic Idealize.ShloMosaic.TcCoe

open Idealize.SL Idealize.SL.RA Idealize.SL.BI
open scoped Idealize.SL.BI
open Idealize.SL.BI.BIBase Idealize.SL.BI.Laws Idealize.SL.ProofMode Idealize.SL.Sem
open Idealize.ShloMosaic.Rounds

set_option backward.isDefEq.respectTransparency.types false in
/-- Every execution ends with the buffers as the fold over the calls leaves them. -/

theorem run (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v13) = W19 m ρ c (Proc.devRef .tc main_v13)
      ∧ r.2.mem ((c.tc : Thread nD τ).loc main_v26) = W19 m ρ c (Proc.devRef .tc main_v26)
      ∧ r.2.mem ((c.tc : Thread nD τ).loc main_v15) = W19 m ρ c (Proc.devRef .tc main_v15)
      ∧ r.2.mem ((c.tc : Thread nD τ).loc main_v16) = W19 m ρ c (Proc.devRef .tc main_v16)
      ∧ r.2.mem ((c.tc : Thread nD τ).loc main_v17) = W19 m ρ c (Proc.devRef .tc main_v17)
      ∧ r.2.mem ((c.tc : Thread nD τ).loc main_v27) = W19 m ρ c (Proc.devRef .tc main_v27)
      ∧ r.2.mem ((c.tc : Thread nD τ).loc main_v19) = W19 m ρ c (Proc.devRef .tc main_v19)
      ∧ r.2.mem ((c.tc : Thread nD τ).loc main_v20) = W19 m ρ c (Proc.devRef .tc main_v20)
      ∧ r.2.mem ((c.tc : Thread nD τ).loc main_v21) = W19 m ρ c (Proc.devRef .tc main_v21)
      ∧ r.2.mem ((c.tc : Thread nD τ).loc main_v22) = W19 m ρ c (Proc.devRef .tc main_v22)
      ∧ r.2.mem ((c.tc : Thread nD τ).loc main_v23) = W19 m ρ c (Proc.devRef .tc main_v23)
      ∧ r.2.mem ((c.tc : Thread nD τ).loc main_v24) = W19 m ρ c (Proc.devRef .tc main_v24)
      ∧ r.2.mem ((c.tc : Thread nD τ).loc main_v25) = W19 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz => fun c =>
      ⟨h c _ (mem_uc main_v13 (by decide)),
       h c _ (mem_uc main_v26 (by decide)),
       h c _ (mem_uc main_v15 (by decide)),
       h c _ (mem_uc main_v16 (by decide)),
       h c _ (mem_uc main_v17 (by decide)),
       h c _ (mem_uc main_v27 (by decide)),
       h c _ (mem_uc main_v19 (by decide)),
       h c _ (mem_uc main_v20 (by decide)),
       h c _ (mem_uc main_v21 (by decide)),
       h c _ (mem_uc main_v22 (by decide)),
       h c _ (mem_uc main_v23 (by decide)),
       h c _ (mem_uc main_v24 (by decide)),
       h c _ (mem_uc main_v25 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c)⟩)

end Cert.Mm
-- ==== Proof.MmFinal.lean ====
/-
  The reference's thirteen results by the entries of the arguments, and that they are the kernel's.
-/
module

public import proofs.«01_k».proof.Proof.MmRun

@[expose] public section

set_option maxRecDepth 16384

noncomputable section

namespace Cert.Mm.Ref

open Cert.Reference3Ideal Cert.Reference3Ideal.Read Idealize.ShloMosaic Idealize.ShloMosaic.TcCoe
open Finset (range)

variable {X : EF} {x0 : FVec Ideal ⟨2, ![2048, 1024]⟩ .f32} {x1 : FVec Ideal ⟨2, ![1, 1024]⟩ .f32} {x2 : FVec Ideal ⟨2, ![1024, 5152]⟩ .f32} {x3 : FVec Ideal ⟨2, ![2048, 2048]⟩ .f32} {x4 : FVec Ideal ⟨2, ![2048, 1024]⟩ .f32} {x5 : FVec Ideal ⟨2, ![2048, 1024]⟩ .f32} {x6 : FVec Ideal ⟨2, ![2048, 5152]⟩ .f32} {x7 : FVec Ideal ⟨2, ![1024, 2048]⟩ .f32} {x8 : FVec Ideal ⟨2, ![1, 2048]⟩ .f32} {x9 : FVec Ideal ⟨2, ![2048, 1024]⟩ .f32} {x10 : FVec Ideal ⟨2, ![1024, 1024]⟩ .f32} {x11 : FVec Ideal ⟨2, ![1, 1024]⟩ .f32} {x12 : FVec Ideal ⟨2, ![2048, 2048]⟩ .f32} {x13 : FVec Ideal ⟨2, ![2048, 2816]⟩ .f32} {x14 : FVec Ideal ⟨2, ![2816, 1024]⟩ .f32}
  (H : Args X x0 x1 x2 x3 x4 x5 x6 x7 x8 x9 x10 x11 x12 x13 x14)
include H

theorem p7 (t : Fin 2048) : val_main_v7 (F := Ideal) x0 (ix2 t 0) = ir X.h t := by
  pointwise [val_main_v7, val_main_v6, val_main_v4, val_main_v2, val_main_v1, val_main_v0, val_main_v3, val_main_v5, val_main_cst, val_main_cst_0, val_main_cst_1]
  simp only [H.h0 t _, ir, Finset.sum_range]

theorem p11 : IsE (a := 2048) (b := 1024) (φ := .f32) (val_main_v11 (F := Ideal) x0 x1) X.u := by
  intro i j
  pointwise [val_main_v11, val_main_v9, val_main_v8, val_main_v10]
  rw [p7 H i, H.h0 i j, H.h1 0 j]
  rfl

theorem p35 : IsE (a := 2048) (b := 1024) (φ := .bf16) (val_main_v35 (F := Ideal) x0 x1) X.u := by
  intro i j
  pointwise [val_main_v35]
  exact p11 H i j

theorem p12 : IsE (a := 2048) (b := 5152) (φ := .f32) (val_main_v12 (F := Ideal) x0 x1 x2) X.zx := by
  intro i j
  pointwise [val_main_v12]
  have hj := j.isLt
  simp only [p11 H i _, H.h2 _ j, EF.zx, nn, EF.pad, if_pos hj, Finset.sum_range]

theorem p13 : IsE (a := 2048) (b := 1024) (φ := .f32) (val_main_v13 (F := Ideal) x3 x4) (nn 2048 X.yn X.wout) := by
  intro i j
  pointwise [val_main_v13]
  simp only [H.h3 i _, H.h4 _ j, nn, Finset.sum_range]

theorem p14 : IsE (a := 2048) (b := 1024) (φ := .f32) (val_main_v14 (F := Ideal) x0 x3 x4) X.sh := by
  intro i j
  pointwise [val_main_v14]
  rw [H.h0 i j, p13 H i j, add_comm]
  rfl

theorem p15 : IsE (a := 2048) (b := 2048) (φ := .f32) (val_main_v15 (F := Ideal) x0 x1 x7) (nn 1024 X.u X.w1) := by
  intro i j
  pointwise [val_main_v15]
  simp only [p11 H i _, H.h7 _ j, nn, Finset.sum_range]

theorem p17 : IsE (a := 2048) (b := 2048) (φ := .f32) (val_main_v17 (F := Ideal) x0 x1 x7 x8) X.hh := by
  intro i j
  pointwise [val_main_v17, val_main_v16]
  rw [p15 H i j, H.h8 0 j]
  rfl

theorem p18 : IsE (a := 2048) (b := 1024) (φ := .f32) (val_main_v18 (F := Ideal) x9 x10) (nn 1024 X.s X.w2) := by
  intro i j
  pointwise [val_main_v18]
  simp only [H.h9 i _, H.h10 _ j, nn, Finset.sum_range]

theorem p21 : IsE (a := 2048) (b := 1024) (φ := .f32) (val_main_v21 (F := Ideal) x0 x9 x10 x11) X.ch := by
  intro i j
  pointwise [val_main_v21, val_main_v20, val_main_v19]
  rw [H.h0 i j, p18 H i j, H.h11 0 j, add_comm]
  rfl

theorem p22 : IsE (a := 2048) (b := 1024) (φ := .f32) (val_main_v22 (F := Ideal) x13 x14) (nn 2816 X.act X.wd) := by
  intro i j
  pointwise [val_main_v22]
  simp only [H.h13 i _, H.h14 _ j, nn, Finset.sum_range]

theorem p23 : IsE (a := 2048) (b := 1024) (φ := .f32) (val_main_v23 (F := Ideal) x0 x13 x14) X.fh := by
  intro i j
  pointwise [val_main_v23]
  rw [H.h0 i j, p22 H i j, add_comm]
  rfl

theorem p24 : IsE (a := 5152) (b := 1024) (φ := .f32) (val_main_v24 (F := Ideal) x0 x1 x6) (fun r l => X.dwin l r) := by
  intro i j
  pointwise [val_main_v24]
  have hi := i.isLt
  simp only [p11 H _ j, H.h6 _ i, EF.dwin, tn, EF.pad, if_pos hi, Finset.sum_range]
  exact Finset.sum_congr rfl fun k _ => mul_comm _ _

theorem p37 : IsE (a := 1024) (b := 5152) (φ := .bf16) (val_main_v37 (F := Ideal) x0 x1 x6) X.dwin := by
  intro i j
  pointwise [val_main_v37, val_main_v25]
  exact p24 H j i

theorem p26 : IsE (a := 1024) (b := 2048) (φ := .f32) (val_main_v26 (F := Ideal) x3 x5) (fun r l => X.dwout l r) := by
  intro i j
  pointwise [val_main_v26]
  simp only [H.h3 _ j, H.h5 _ i, EF.dwout, tn, Finset.sum_range]
  exact Finset.sum_congr rfl fun k _ => mul_comm _ _

theorem p36 : IsE (a := 2048) (b := 1024) (φ := .bf16) (val_main_v36 (F := Ideal) x3 x5) X.dwout := by
  intro i j
  pointwise [val_main_v36, val_main_v27]
  exact p26 H j i

theorem p28 : IsE (a := 2048) (b := 2048) (φ := .f32) (val_main_v28 (F := Ideal) x4 x5) X.dyn := by
  intro i j
  pointwise [val_main_v28]
  simp only [H.h5 i _, H.h4 j _, EF.dyn, nt, Finset.sum_range]

theorem p29 : IsE (a := 2048) (b := 1024) (φ := .f32) (val_main_v29 (F := Ideal) x0 x1 x12) (fun r l => X.dw1 l r) := by
  intro i j
  pointwise [val_main_v29]
  simp only [p11 H _ j, H.h12 _ i, EF.dw1, tn, Finset.sum_range]
  exact Finset.sum_congr rfl fun k _ => mul_comm _ _

theorem p39 : IsE (a := 1024) (b := 2048) (φ := .bf16) (val_main_v39 (F := Ideal) x0 x1 x12) X.dw1 := by
  intro i j
  pointwise [val_main_v39, val_main_v30]
  exact p29 H j i

theorem p31 : IsE (a := 2048) (b := 1024) (φ := .f32) (val_main_v31 (F := Ideal) x7 x12) X.du := by
  intro i j
  pointwise [val_main_v31]
  simp only [H.h12 i _, H.h7 j _, EF.du, nt, Finset.sum_range]

theorem p32 : IsE (a := 1024) (b := 1024) (φ := .f32) (val_main_v32 (F := Ideal) x5 x9) (fun r l => X.dw2 l r) := by
  intro i j
  pointwise [val_main_v32]
  simp only [H.h9 _ j, H.h5 _ i, EF.dw2, tn, Finset.sum_range]
  exact Finset.sum_congr rfl fun k _ => mul_comm _ _

theorem p38 : IsE (a := 1024) (b := 1024) (φ := .bf16) (val_main_v38 (F := Ideal) x5 x9) X.dw2 := by
  intro i j
  pointwise [val_main_v38, val_main_v33]
  exact p32 H j i

theorem p34 : IsE (a := 2048) (b := 1024) (φ := .f32) (val_main_v34 (F := Ideal) x5 x10) X.ds := by
  intro i j
  pointwise [val_main_v34]
  simp only [H.h5 i _, H.h10 j _, EF.ds, nt, Finset.sum_range]

end Cert.Mm.Ref

namespace Cert.Mm.Final

open Cert.Kernel3Ideal Cert.Kernel3Ideal.Gen Idealize.ShloMosaic Idealize.ShloMosaic.TcCoe

/-- Arrays with the same entries are equal. -/
theorem same {a b : ℕ} {φ : FTy} {v w : FVec Ideal ⟨2, ![a, b]⟩ φ} {f : ℕ → ℕ → EReal} (hv : IsE v f) (hw : IsE w f) : v = w := by
  funext i
  obtain ⟨t, l, rfl⟩ : ∃ t l, i = ix2 t l := ⟨i 0, i 1, by funext k; fin_cases k <;> rfl⟩
  rw [hv t l, hw t l]

/-- An array's entries, zero beyond its extents. -/
def ent {a b : ℕ} {φ : FTy} (v : FVec Ideal ⟨2, ![a, b]⟩ φ) (r l : ℕ) : EReal :=
  if h : r < a ∧ l < b then v (ix2 ⟨r, h.1⟩ ⟨l, h.2⟩) else 0

theorem ent_at {a b : ℕ} {φ : FTy} (v : FVec Ideal ⟨2, ![a, b]⟩ φ) : IsE v (ent v) := by
  intro r l
  rw [ent, dif_pos ⟨r.isLt, l.isLt⟩]

theorem ent_row {b : ℕ} {φ : FTy} (v : FVec Ideal ⟨2, ![1, b]⟩ φ) : IsE v fun _ l => ent v 0 l := by
  intro r l
  obtain rfl : r = 0 := Subsingleton.elim _ _
  exact ent_at v 0 l

/-- The arguments' entries. -/
def XE (x0 : FVec Ideal ⟨2, ![2048, 1024]⟩ .f32) (x1 : FVec Ideal ⟨2, ![1, 1024]⟩ .f32) (x2 : FVec Ideal ⟨2, ![1024, 5152]⟩ .f32) (x3 : FVec Ideal ⟨2, ![2048, 2048]⟩ .f32) (x4 : FVec Ideal ⟨2, ![2048, 1024]⟩ .f32) (x5 : FVec Ideal ⟨2, ![2048, 1024]⟩ .f32) (x6 : FVec Ideal ⟨2, ![2048, 5152]⟩ .f32) (x7 : FVec Ideal ⟨2, ![1024, 2048]⟩ .f32) (x8 : FVec Ideal ⟨2, ![1, 2048]⟩ .f32) (x9 : FVec Ideal ⟨2, ![2048, 1024]⟩ .f32) (x10 : FVec Ideal ⟨2, ![1024, 1024]⟩ .f32) (x11 : FVec Ideal ⟨2, ![1, 1024]⟩ .f32) (x12 : FVec Ideal ⟨2, ![2048, 2048]⟩ .f32) (x13 : FVec Ideal ⟨2, ![2048, 2816]⟩ .f32) (x14 : FVec Ideal ⟨2, ![2816, 1024]⟩ .f32) : EF :=
  ⟨ent x0, ent x1 0, ent x2, ent x3, ent x4, ent x5, ent x6, ent x7, ent x8 0, ent x9, ent x10, ent x11 0, ent x12, ent x13, ent x14⟩

theorem args (x0 : FVec Ideal ⟨2, ![2048, 1024]⟩ .f32) (x1 : FVec Ideal ⟨2, ![1, 1024]⟩ .f32) (x2 : FVec Ideal ⟨2, ![1024, 5152]⟩ .f32) (x3 : FVec Ideal ⟨2, ![2048, 2048]⟩ .f32) (x4 : FVec Ideal ⟨2, ![2048, 1024]⟩ .f32) (x5 : FVec Ideal ⟨2, ![2048, 1024]⟩ .f32) (x6 : FVec Ideal ⟨2, ![2048, 5152]⟩ .f32) (x7 : FVec Ideal ⟨2, ![1024, 2048]⟩ .f32) (x8 : FVec Ideal ⟨2, ![1, 2048]⟩ .f32) (x9 : FVec Ideal ⟨2, ![2048, 1024]⟩ .f32) (x10 : FVec Ideal ⟨2, ![1024, 1024]⟩ .f32) (x11 : FVec Ideal ⟨2, ![1, 1024]⟩ .f32) (x12 : FVec Ideal ⟨2, ![2048, 2048]⟩ .f32) (x13 : FVec Ideal ⟨2, ![2048, 2816]⟩ .f32) (x14 : FVec Ideal ⟨2, ![2816, 1024]⟩ .f32) : Args (XE x0 x1 x2 x3 x4 x5 x6 x7 x8 x9 x10 x11 x12 x13 x14) x0 x1 x2 x3 x4 x5 x6 x7 x8 x9 x10 x11 x12 x13 x14 :=
  ⟨ent_at x0, ent_row x1, ent_at x2, ent_at x3, ent_at x4, ent_at x5, ent_at x6, ent_at x7, ent_row x8, ent_at x9, ent_at x10, ent_row x11, ent_at x12, ent_at x13, ent_at x14⟩

variable (m : (ℓ : Loc nD τ sig) → Buf (Elt Ideal) ℓ) (ρ : Dev nD → PrngReg) (c : Dev nD)

abbrev m0 : FVec Ideal ⟨2, ![2048, 1024]⟩ .f32 := m ((c.tc : Thread nD τ).loc main_arg0)
abbrev m1 : FVec Ideal ⟨2, ![1, 1024]⟩ .f32 := m ((c.tc : Thread nD τ).loc main_arg1)
abbrev m2 : FVec Ideal ⟨2, ![1024, 5152]⟩ .f32 := m ((c.tc : Thread nD τ).loc main_arg2)
abbrev m3 : FVec Ideal ⟨2, ![2048, 2048]⟩ .f32 := m ((c.tc : Thread nD τ).loc main_arg3)
abbrev m4 : FVec Ideal ⟨2, ![2048, 1024]⟩ .f32 := m ((c.tc : Thread nD τ).loc main_arg4)
abbrev m5 : FVec Ideal ⟨2, ![2048, 1024]⟩ .f32 := m ((c.tc : Thread nD τ).loc main_arg5)
abbrev m6 : FVec Ideal ⟨2, ![2048, 5152]⟩ .f32 := m ((c.tc : Thread nD τ).loc main_arg6)
abbrev m7 : FVec Ideal ⟨2, ![1024, 2048]⟩ .f32 := m ((c.tc : Thread nD τ).loc main_arg7)
abbrev m8 : FVec Ideal ⟨2, ![1, 2048]⟩ .f32 := m ((c.tc : Thread nD τ).loc main_arg8)
abbrev m9 : FVec Ideal ⟨2, ![2048, 1024]⟩ .f32 := m ((c.tc : Thread nD τ).loc main_arg9)
abbrev m10 : FVec Ideal ⟨2, ![1024, 1024]⟩ .f32 := m ((c.tc : Thread nD τ).loc main_arg10)
abbrev m11 : FVec Ideal ⟨2, ![1, 1024]⟩ .f32 := m ((c.tc : Thread nD τ).loc main_arg11)
abbrev m12 : FVec Ideal ⟨2, ![2048, 2048]⟩ .f32 := m ((c.tc : Thread nD τ).loc main_arg12)
abbrev m13 : FVec Ideal ⟨2, ![2048, 2816]⟩ .f32 := m ((c.tc : Thread nD τ).loc main_arg13)
abbrev m14 : FVec Ideal ⟨2, ![2816, 1024]⟩ .f32 := m ((c.tc : Thread nD τ).loc main_arg14)

theorem margs : MArgs m ρ c (XE (m0 m c) (m1 m c) (m2 m c) (m3 m c) (m4 m c) (m5 m c) (m6 m c) (m7 m c) (m8 m c) (m9 m c) (m10 m c) (m11 m c) (m12 m c) (m13 m c) (m14 m c)) := args (m0 m c) (m1 m c) (m2 m c) (m3 m c) (m4 m c) (m5 m c) (m6 m c) (m7 m c) (m8 m c) (m9 m c) (m10 m c) (m11 m c) (m12 m c) (m13 m c) (m14 m c)

theorem out_v13 : W19 m ρ c (Proc.devRef .tc main_v13) = Cert.Reference3Ideal.Read.val_main_v35 (F := Ideal) (m0 m c) (m1 m c) :=
  same (a := 2048) (b := 1024) (φ := .bf16) (n19_v13 m ρ c (margs m ρ c)) (Ref.p35 (args (m0 m c) (m1 m c) (m2 m c) (m3 m c) (m4 m c) (m5 m c) (m6 m c) (m7 m c) (m8 m c) (m9 m c) (m10 m c) (m11 m c) (m12 m c) (m13 m c) (m14 m c)))

theorem out_v26 : W19 m ρ c (Proc.devRef .tc main_v26) = Cert.Reference3Ideal.Read.val_main_v12 (F := Ideal) (m0 m c) (m1 m c) (m2 m c) :=
  same (a := 2048) (b := 5152) (φ := .f32) (n19_v26 m ρ c (margs m ρ c)) (Ref.p12 (args (m0 m c) (m1 m c) (m2 m c) (m3 m c) (m4 m c) (m5 m c) (m6 m c) (m7 m c) (m8 m c) (m9 m c) (m10 m c) (m11 m c) (m12 m c) (m13 m c) (m14 m c)))

theorem out_v15 : W19 m ρ c (Proc.devRef .tc main_v15) = Cert.Reference3Ideal.Read.val_main_v14 (F := Ideal) (m0 m c) (m3 m c) (m4 m c) :=
  same (a := 2048) (b := 1024) (φ := .f32) (n19_v15 m ρ c (margs m ρ c)) (Ref.p14 (args (m0 m c) (m1 m c) (m2 m c) (m3 m c) (m4 m c) (m5 m c) (m6 m c) (m7 m c) (m8 m c) (m9 m c) (m10 m c) (m11 m c) (m12 m c) (m13 m c) (m14 m c)))

theorem out_v16 : W19 m ρ c (Proc.devRef .tc main_v16) = Cert.Reference3Ideal.Read.val_main_v28 (F := Ideal) (m4 m c) (m5 m c) :=
  same (a := 2048) (b := 2048) (φ := .f32) (n19_v16 m ρ c (margs m ρ c)) (Ref.p28 (args (m0 m c) (m1 m c) (m2 m c) (m3 m c) (m4 m c) (m5 m c) (m6 m c) (m7 m c) (m8 m c) (m9 m c) (m10 m c) (m11 m c) (m12 m c) (m13 m c) (m14 m c)))

theorem out_v17 : W19 m ρ c (Proc.devRef .tc main_v17) = Cert.Reference3Ideal.Read.val_main_v36 (F := Ideal) (m3 m c) (m5 m c) :=
  same (a := 2048) (b := 1024) (φ := .bf16) (n19_v17 m ρ c (margs m ρ c)) (Ref.p36 (args (m0 m c) (m1 m c) (m2 m c) (m3 m c) (m4 m c) (m5 m c) (m6 m c) (m7 m c) (m8 m c) (m9 m c) (m10 m c) (m11 m c) (m12 m c) (m13 m c) (m14 m c)))

theorem out_v27 : W19 m ρ c (Proc.devRef .tc main_v27) = Cert.Reference3Ideal.Read.val_main_v37 (F := Ideal) (m0 m c) (m1 m c) (m6 m c) :=
  same (a := 1024) (b := 5152) (φ := .bf16) (n19_v27 m ρ c (margs m ρ c)) (Ref.p37 (args (m0 m c) (m1 m c) (m2 m c) (m3 m c) (m4 m c) (m5 m c) (m6 m c) (m7 m c) (m8 m c) (m9 m c) (m10 m c) (m11 m c) (m12 m c) (m13 m c) (m14 m c)))

theorem out_v19 : W19 m ρ c (Proc.devRef .tc main_v19) = Cert.Reference3Ideal.Read.val_main_v17 (F := Ideal) (m0 m c) (m1 m c) (m7 m c) (m8 m c) :=
  same (a := 2048) (b := 2048) (φ := .f32) (n19_v19 m ρ c (margs m ρ c)) (Ref.p17 (args (m0 m c) (m1 m c) (m2 m c) (m3 m c) (m4 m c) (m5 m c) (m6 m c) (m7 m c) (m8 m c) (m9 m c) (m10 m c) (m11 m c) (m12 m c) (m13 m c) (m14 m c)))

theorem out_v20 : W19 m ρ c (Proc.devRef .tc main_v20) = Cert.Reference3Ideal.Read.val_main_v21 (F := Ideal) (m0 m c) (m9 m c) (m10 m c) (m11 m c) :=
  same (a := 2048) (b := 1024) (φ := .f32) (n19_v20 m ρ c (margs m ρ c)) (Ref.p21 (args (m0 m c) (m1 m c) (m2 m c) (m3 m c) (m4 m c) (m5 m c) (m6 m c) (m7 m c) (m8 m c) (m9 m c) (m10 m c) (m11 m c) (m12 m c) (m13 m c) (m14 m c)))

theorem out_v21 : W19 m ρ c (Proc.devRef .tc main_v21) = Cert.Reference3Ideal.Read.val_main_v34 (F := Ideal) (m5 m c) (m10 m c) :=
  same (a := 2048) (b := 1024) (φ := .f32) (n19_v21 m ρ c (margs m ρ c)) (Ref.p34 (args (m0 m c) (m1 m c) (m2 m c) (m3 m c) (m4 m c) (m5 m c) (m6 m c) (m7 m c) (m8 m c) (m9 m c) (m10 m c) (m11 m c) (m12 m c) (m13 m c) (m14 m c)))

theorem out_v22 : W19 m ρ c (Proc.devRef .tc main_v22) = Cert.Reference3Ideal.Read.val_main_v38 (F := Ideal) (m5 m c) (m9 m c) :=
  same (a := 1024) (b := 1024) (φ := .bf16) (n19_v22 m ρ c (margs m ρ c)) (Ref.p38 (args (m0 m c) (m1 m c) (m2 m c) (m3 m c) (m4 m c) (m5 m c) (m6 m c) (m7 m c) (m8 m c) (m9 m c) (m10 m c) (m11 m c) (m12 m c) (m13 m c) (m14 m c)))

theorem out_v23 : W19 m ρ c (Proc.devRef .tc main_v23) = Cert.Reference3Ideal.Read.val_main_v31 (F := Ideal) (m7 m c) (m12 m c) :=
  same (a := 2048) (b := 1024) (φ := .f32) (n19_v23 m ρ c (margs m ρ c)) (Ref.p31 (args (m0 m c) (m1 m c) (m2 m c) (m3 m c) (m4 m c) (m5 m c) (m6 m c) (m7 m c) (m8 m c) (m9 m c) (m10 m c) (m11 m c) (m12 m c) (m13 m c) (m14 m c)))

theorem out_v24 : W19 m ρ c (Proc.devRef .tc main_v24) = Cert.Reference3Ideal.Read.val_main_v39 (F := Ideal) (m0 m c) (m1 m c) (m12 m c) :=
  same (a := 1024) (b := 2048) (φ := .bf16) (n19_v24 m ρ c (margs m ρ c)) (Ref.p39 (args (m0 m c) (m1 m c) (m2 m c) (m3 m c) (m4 m c) (m5 m c) (m6 m c) (m7 m c) (m8 m c) (m9 m c) (m10 m c) (m11 m c) (m12 m c) (m13 m c) (m14 m c)))

theorem out_v25 : W19 m ρ c (Proc.devRef .tc main_v25) = Cert.Reference3Ideal.Read.val_main_v23 (F := Ideal) (m0 m c) (m13 m c) (m14 m c) :=
  same (a := 2048) (b := 1024) (φ := .f32) (n19_v25 m ρ c (margs m ρ c)) (Ref.p23 (args (m0 m c) (m1 m c) (m2 m c) (m3 m c) (m4 m c) (m5 m c) (m6 m c) (m7 m c) (m8 m c) (m9 m c) (m10 m c) (m11 m c) (m12 m c) (m13 m c) (m14 m c)))

end Cert.Mm.Final
-- ==== Proof.DuFinal.lean ====
/-
  The gradient reaching the mixer's input: the product's two halves along the sum, and that the result is the reference's.
-/
module

public import proofs.«01_k».proof.Proof.MmFinal
public import proofs.«01_k».proof.Proof.Gen.Kernel5.Frame
public import proofs.«01_k».proof.Proof.Gen.Kernel5Ideal.Value
public import proofs.«01_k».proof.Proof.Gen.Reference5Ideal.Read

@[expose] public section

set_option maxRecDepth 16384

noncomputable section

namespace Cert.Du

open Cert.Kernel5Ideal Cert.Kernel5Ideal.Gen Cert.Kernel5Ideal.Value Idealize.ShloMosaic Idealize.ShloMosaic.TcCoe
open Idealize.ShloMosaic.Tactic
open Finset (range)
open Cert.Mm (IsE nt EF.pad)

theorem off0 : (![0, 0] : Fin 2 → ℕ) = fun _ => 0 := by funext x; fin_cases x <;> rfl

theorem half {a b : FVec Ideal S1024x2688 .bf16} {f g : ℕ → ℕ → EReal} (ha : IsE a f) (hb : IsE b g) :
    IsE (k0_pay1 (F := Ideal) a b) (nt 2688 f g) := by
  intro r l
  pointwise [k0_pay1]
  simp only [ha r _, hb l _, nt, Finset.sum_range]

section Point
variable (c : Dev nD) (i : grid0.Coords) (arg3 : Memref sig .tc .vmem S1024x2688 .bf16) (harg3 : arg3.IsWhole)
  (arg4 : Memref sig .tc .vmem S1024x2688 .bf16) (harg4 : arg4.IsWhole) (arg5 : Memref sig .tc .vmem S1024x1024 .f32) (harg5 : arg5.IsWhole)
  (arg6 : Memref sig .tc .vmem S1024x1024 .f32) (harg6 : arg6.IsWhole) (x0 x1 : Vec Ideal S1024x2688 .bf16) (xs : Vec Ideal S1024x1024 .f32)

theorem piecesS (h0 : cond0_0 i) (h1 : ¬cond0_1 i) (h2 : ¬cond0_2 i) :
    (kernelRun0_A c i arg3 harg3 arg4 harg4 arg5 harg5 arg6 harg6 h0 h1 h2 x0 x1).2.1
      = [⟨Rect.unit (s := S1024x1024) ![0, 0] S1024x1024.size inb_S1024x1024_S1024x1024_0_0,
          k0_pay2 (arg3.view.readAt (Elt Ideal) (Rect.unit (s := S1024x2688) ![0, 0] S1024x2688.size inb_S1024x2688_S1024x2688_0_0).toLoadRect (harg3.unread x0))
            (arg4.view.readAt (Elt Ideal) (Rect.unit (s := S1024x2688) ![0, 0] S1024x2688.size inb_S1024x2688_S1024x2688_0_0).toLoadRect (harg4.unread x1))⟩] := by
  sl_kernel_rfl

theorem piecesO (h0 : ¬cond0_0 i) (h1 : ¬cond0_1 i) (h2 : cond0_2 i) :
    (kernelRun0_B c i arg3 harg3 arg4 harg4 arg5 harg5 arg6 harg6 h0 h1 h2 x0 x1 xs).1
      = [⟨Rect.unit (s := S1024x1024) ![0, 0] S1024x1024.size inb_S1024x1024_S1024x1024_0_0,
          k0_pay4 (arg3.view.readAt (Elt Ideal) (Rect.unit (s := S1024x2688) ![0, 0] S1024x2688.size inb_S1024x2688_S1024x2688_0_0).toLoadRect (harg3.unread x0))
            (arg4.view.readAt (Elt Ideal) (Rect.unit (s := S1024x2688) ![0, 0] S1024x2688.size inb_S1024x2688_S1024x2688_0_0).toLoadRect (harg4.unread x1))
            (arg6.view.readAt (Elt Ideal) (Rect.unit (s := S1024x1024) ![0, 0] S1024x1024.size inb_S1024x1024_S1024x1024_0_0).toLoadRect (harg6.unread xs))⟩] := by
  sl_kernel_rfl

theorem readIn {a : Memref sig .tc .vmem S1024x2688 .bf16} (ha : a.IsWhole) (x : Vec Ideal S1024x2688 .bf16) :
    a.view.readAt (Elt Ideal) (Rect.unit (s := S1024x2688) ![0, 0] S1024x2688.size inb_S1024x2688_S1024x2688_0_0).toLoadRect (ha.unread x) = x := by
  rw [View.readAt_eq_ld, ha.read_unread, View.ld_unit_zero off0]

theorem readSc {a : Memref sig .tc .vmem S1024x1024 .f32} (ha : a.IsWhole) (x : Vec Ideal S1024x1024 .f32) :
    a.view.readAt (Elt Ideal) (Rect.unit (s := S1024x1024) ![0, 0] S1024x1024.size inb_S1024x1024_S1024x1024_0_0).toLoadRect (ha.unread x) = x := by
  rw [View.readAt_eq_ld, ha.read_unread, View.ld_unit_zero off0]

theorem outS (h0 : cond0_0 i) (h1 : ¬cond0_1 i) (h2 : ¬cond0_2 i) :
    sout0_A_0 c i arg3 harg3 arg4 harg4 arg5 harg5 arg6 harg6 h0 h1 h2 x0 x1 = k0_pay1 x0 x1 := by
  rw [sout0_A_0, View.read_writes_junk_eq_canon, piecesS, View.canon_unit_zero off0, readIn, readIn]
  funext y
  pointwise [k0_pay2]

theorem outO (h0 : ¬cond0_0 i) (h1 : ¬cond0_1 i) (h2 : cond0_2 i) {g : ℕ → ℕ → EReal} {f : ℕ → ℕ → EReal}
    (hs : IsE (φ := .f32) xs g) (hp : IsE (k0_pay1 x0 x1) f) :
    IsE (φ := .f32) (out0_B_2 c i arg3 harg3 arg4 harg4 arg5 harg5 arg6 harg6 h0 h1 h2 x0 x1 xs) fun r l => g r l + f r l := by
  intro r l
  rw [out0_B_2, View.read_writes_junk_eq_canon, piecesO, View.canon_unit_zero off0, readIn, readIn, readSc]
  pointwise [k0_pay4]
  rw [hs r l, hp r l]

end Point

variable (m : (ℓ : Loc nD τ sig) → Buf (Elt Ideal) ℓ) (c : Dev nD)

theorem val_lt (t : Fin cfg0.N) : t.val < 4 := lt_of_lt_of_eq t.isLt N_0

theorem idx_0 (t : Fin grid0.N) : win0_0.index t 0 = t.val / 2 ∧ win0_0.index t 1 = t.val % 2 := by revert t; decide +kernel
theorem idx_1 (t : Fin grid0.N) : win0_1.index t 0 = 0 ∧ win0_1.index t 1 = t.val % 2 := by revert t; decide +kernel
theorem idx_2 (t : Fin grid0.N) : win0_2.index t 0 = t.val / 2 ∧ win0_2.index t 1 = 0 := by revert t; decide +kernel

theorem blk_0 {f : ℕ → ℕ → EReal} (h : IsE (a := 2048) (b := 5376) (φ := .bf16) (V m c main_v1) f) (t : Fin cfg0.N) :
    IsE (a := 1024) (b := 2688) (φ := .bf16) (iblk m c 0 t) fun r l => f (1024 * (t.val / 2) + r) (2688 * (t.val % 2) + l) := by
  intro r l
  have ht := val_lt t
  unfold iblk
  rw [View.read_apply]
  refine Eq.trans (congrArg (V m c main_v1) (?_ : _ = ix2 (⟨1024 * (t.val / 2) + r.val, by omega⟩ : Fin 2048) (⟨2688 * (t.val % 2) + l.val, by omega⟩ : Fin 5376))) (h _ _)
  funext x
  apply Fin.ext
  match x with
  | ⟨0, _⟩ => show win0_0.index t 0 * 1024 + 1 * r.val = 1024 * (t.val / 2) + r.val; rw [(idx_0 t).1]; omega
  | ⟨1, _⟩ => show win0_0.index t 1 * 2688 + 1 * l.val = 2688 * (t.val % 2) + l.val; rw [(idx_0 t).2]; omega

theorem blk_1 {f : ℕ → ℕ → EReal} (h : IsE (a := 1024) (b := 5376) (φ := .bf16) (V m c main_v3) f) (t : Fin cfg0.N) :
    IsE (a := 1024) (b := 2688) (φ := .bf16) (iblk m c 1 t) fun r l => f r (2688 * (t.val % 2) + l) := by
  intro r l
  have ht := val_lt t
  unfold iblk
  rw [View.read_apply]
  refine Eq.trans (congrArg (V m c main_v3) (?_ : _ = ix2 r (⟨2688 * (t.val % 2) + l.val, by omega⟩ : Fin 5376))) (h _ _)
  funext x
  apply Fin.ext
  match x with
  | ⟨0, _⟩ => show win0_1.index t 0 * 1024 + 1 * r.val = r.val; rw [(idx_1 t).1]; omega
  | ⟨1, _⟩ => show win0_1.index t 1 * 2688 + 1 * l.val = 2688 * (t.val % 2) + l.val; rw [(idx_1 t).2]; omega

theorem read_2 (t : Fin cfg0.N) (f : Vec Ideal S2048x1024 .f32) (r : Fin 1024) (l : Fin 1024) (h0 : 1024 * (t.val / 2) + r.val < 2048) :
    ((cfg0.win 2).blk t).view.read (Elt Ideal) f (ix2 r l) = f (ix2 (⟨1024 * (t.val / 2) + r.val, h0⟩ : Fin 2048) l) := by
  rw [View.read_apply]
  refine congrArg f ?_
  funext x
  apply Fin.ext
  match x with
  | ⟨0, _⟩ => show win0_2.index t 0 * 1024 + 1 * r.val = 1024 * (t.val / 2) + r.val; rw [(idx_2 t).1]; omega
  | ⟨1, _⟩ => show win0_2.index t 1 * 1024 + 1 * l.val = l.val; rw [(idx_2 t).2]; omega

theorem inj_2 : ∀ t t' : Fin cfg0.N, t.val % 2 = 1 → t'.val % 2 = 1 → win0_2.index t = win0_2.index t' → t = t' :=
  (by decide +kernel : ∀ t t' : Fin grid0.N, t.val % 2 = 1 → t'.val % 2 = 1 → win0_2.index t = win0_2.index t' → t = t')

theorem first (t : Fin cfg0.N) (h0 : t.val % 2 = 0) : (outsAt0 m c t.val t.isLt).2 = k0_pay1 (iblk m c 0 t) (iblk m c 1 t) := by
  have h2 : ¬t.val % 2 = 1 := by omega
  have e := congrArg Prod.snd (outsAt0_A m c t h0 h2)
  dsimp only at e
  have o := outS c (grid0.coords t) (ms0_0 t) (hs0_0 t) (ms0_1 t) (hs0_1 t) (ms0_2 t) (hs0_2 t) scM0_0 (Memref.isWhole_whole _) (iblk m c 0 t) (iblk m c 1 t)
    ((hcond0_0 t).mpr h0) (hcond0_1 t) (fun h => h2 ((hcond0_2 t).mp h))
  rw [o] at e
  exact e

theorem last (t : Fin cfg0.N) (h2 : t.val % 2 = 1) {g f : ℕ → ℕ → EReal}
    (hs : IsE (a := 1024) (b := 1024) (φ := .f32) (outsAt0 m c (t.val - 1) (Nat.lt_of_le_of_lt (Nat.sub_le _ _) t.isLt)).2 g)
    (hp : IsE (a := 1024) (b := 1024) (φ := .f32) (k0_pay1 (iblk m c 0 t) (iblk m c 1 t)) f) :
    IsE (a := 1024) (b := 1024) (φ := .f32) (outsAt0 m c t.val t.isLt).1 fun r l => g r l + f r l := by
  have h0 : ¬t.val % 2 = 0 := by omega
  have e := congrArg Prod.fst (outsAt0_B m c t h0 h2)
  dsimp only at e
  have o := outO c (grid0.coords t) (ms0_0 t) (hs0_0 t) (ms0_1 t) (hs0_1 t) (ms0_2 t) (hs0_2 t) scM0_0 (Memref.isWhole_whole _) (iblk m c 0 t) (iblk m c 1 t)
    (outsAt0 m c (t.val - 1) (Nat.lt_of_le_of_lt (Nat.sub_le _ _) t.isLt)).2 (fun h => h0 ((hcond0_0 t).mp h)) (hcond0_1 t) ((hcond0_2 t).mpr h2) hs hp
  rw [← e] at o
  exact o

theorem second (t : Fin cfg0.N) (h2 : t.val % 2 = 1) {g f : ℕ → ℕ → EReal}
    (hs : IsE (a := 1024) (b := 1024) (φ := .f32) (outsAt0 m c (t.val - 1) (Nat.lt_of_le_of_lt (Nat.sub_le _ _) t.isLt)).2 g)
    (hp : IsE (a := 1024) (b := 1024) (φ := .f32) (k0_pay1 (iblk m c 0 t) (iblk m c 1 t)) f) :
    IsE (a := 1024) (b := 1024) (φ := .f32) ((dats m 0 c).flushed 2 t) fun r l => g r l + f r l := by
  have o := last m c t h2 hs hp
  intro r l
  exact (congrFun (flushed2 m c t) (ix2 r l)).trans (o r l)

/-- What the second of two points adds up. -/
theorem pair {f g : ℕ → ℕ → EReal} (hf : IsE (a := 2048) (b := 5376) (φ := .bf16) (V m c main_v1) f)
    (hg : IsE (a := 1024) (b := 5376) (φ := .bf16) (V m c main_v3) g) (t : Fin cfg0.N) (h2 : t.val % 2 = 1) :
    IsE (a := 1024) (b := 1024) (φ := .f32) ((dats m 0 c).flushed 2 t) fun r l => nt 5376 f g (1024 * (t.val / 2) + r) l := by
  obtain ⟨n, hn⟩ := t
  have h3 : n % 2 = 1 := h2
  obtain ⟨k, rfl⟩ : ∃ k, n = 2 * k + 1 := ⟨n / 2, by omega⟩
  have hk : 2 * k < cfg0.N := Nat.lt_of_succ_lt hn
  have q := half (blk_0 m c hf ⟨2 * k, hk⟩) (blk_1 m c hg ⟨2 * k, hk⟩)
  rw [← first m c ⟨2 * k, hk⟩ (by simp)] at q
  have o := second m c ⟨2 * k + 1, hn⟩ h2 q (half (blk_0 m c hf _) (blk_1 m c hg _))
  intro r l
  refine (o r l).trans ?_
  have e0 : 2 * k / 2 = k := by omega
  have e1 : (2 * k + 1) / 2 = k := by omega
  have e2 : 2 * k % 2 = 0 := by omega
  have e3 : (2 * k + 1) % 2 = 1 := by omega
  simp only [nt, e0, e1, e2, e3, Nat.mul_zero, Nat.zero_add, Nat.mul_one]
  exact (Finset.sum_range_add (fun j => f (1024 * k + r.val) j * g l.val j) 2688 2688).symm

theorem arr {f g : ℕ → ℕ → EReal} (hf : IsE (a := 2048) (b := 5376) (φ := .bf16) (V m c main_v1) f)
    (hg : IsE (a := 1024) (b := 5376) (φ := .bf16) (V m c main_v3) g) :
    IsE (a := 2048) (b := 1024) (φ := .f32) ((dats m 0 c).arrAt 2 cfg0.N) (nt 5376 f g) := by
  intro r l
  obtain ⟨p, hp⟩ : ∃ p : Fin cfg0.N, p.val = 2 * (r.val / 1024) + 1 := ⟨⟨2 * (r.val / 1024) + 1, by rw [show cfg0.N = 4 from N_0]; omega⟩, rfl⟩
  have h1 : p.val % 2 = 1 := by omega
  have hr : 1024 * (p.val / 2) + r.val % 1024 = r.val := by omega
  have e := congrFun ((dats m 0 c).read_blk_arrAt_eq_flushed 2 (fun t t' ht ht' hne => (cfg0.win 2).disjoint_blk fun h => hne (inj_2 t t' ((flush0_2 t).mp ht) ((flush0_2 t').mp ht') h))
    cfg0.N p p.isLt ((flush0_2 p).mpr h1)) (ix2 (⟨r.val % 1024, by omega⟩ : Fin 1024) l)
  have e2 := read_2 p ((dats m 0 c).arrAt 2 cfg0.N) (⟨r.val % 1024, by omega⟩ : Fin 1024) l (lt_of_eq_of_lt hr r.isLt)
  have er : (⟨1024 * (p.val / 2) + r.val % 1024, lt_of_eq_of_lt hr r.isLt⟩ : Fin 2048) = r := Fin.ext hr
  rw [er] at e2
  refine e2.symm.trans (e.trans ((pair m c hf hg p h1 ⟨r.val % 1024, by omega⟩ l).trans ?_))
  show nt 5376 f g (1024 * (p.val / 2) + r.val % 1024) l.val = _
  rw [hr]

theorem host_1 {f : ℕ → ℕ → EReal} (h : IsE (a := 2048) (b := 5152) (φ := .f32) (m (c, Proc.devRef .tc main_arg0)) f) :
    IsE (a := 2048) (b := 5376) (φ := .bf16) (V m c main_v1) (EF.pad f) := by
  intro t d
  show StableHlo.after (List.flatten [hostOps0, hostOps0_1, hostOps0_2, hostOps0_3, hostOps0_4]) _ (Proc.devRef .tc main_v1) (ix2 t d) = _
  simp only [List.flatten_cons, List.flatten_nil, List.append_nil, hostOps0, hostOps0_1, hostOps0_2, hostOps0_3, hostOps0_4, List.cons_append, List.nil_append]
  after_reads_at
  unfold EF.pad
  by_cases hd : d.val < 5152
  · rw [dif_pos hd, if_pos hd]
    exact h t ⟨d.val, hd⟩
  · rw [dif_neg hd, if_neg hd]
    show ((((0#32 : BitVec 32).toInt : ℤ) : ℝ) : EReal) = 0
    simp

theorem host_3 {f : ℕ → ℕ → EReal} (h : IsE (a := 1024) (b := 5152) (φ := .f32) (m (c, Proc.devRef .tc main_arg1)) f) :
    IsE (a := 1024) (b := 5376) (φ := .bf16) (V m c main_v3) (EF.pad f) := by
  intro t d
  show StableHlo.after (List.flatten [hostOps0, hostOps0_1, hostOps0_2, hostOps0_3, hostOps0_4]) _ (Proc.devRef .tc main_v3) (ix2 t d) = _
  simp only [List.flatten_cons, List.flatten_nil, List.append_nil, hostOps0, hostOps0_1, hostOps0_2, hostOps0_3, hostOps0_4, List.cons_append, List.nil_append]
  after_reads_at
  unfold EF.pad
  by_cases hd : d.val < 5152
  · rw [dif_pos hd, if_pos hd]
    exact h t ⟨d.val, hd⟩
  · rw [dif_neg hd, if_neg hd]
    show ((((0#32 : BitVec 32).toInt : ℤ) : ℝ) : EReal) = 0
    simp

/-- The columns of zeros add nothing. -/
theorem nt_pad (f g : ℕ → ℕ → EReal) (r l : ℕ) : nt 5376 (EF.pad f) (EF.pad g) r l = nt 5152 f g r l := by
  unfold nt
  rw [show (5376 : ℕ) = 5152 + 224 from rfl, Finset.sum_range_add]
  rw [Finset.sum_eq_zero (s := range 224) fun k _ => ?_, add_zero]
  · refine Finset.sum_congr rfl fun k hk => ?_
    have hk := Finset.mem_range.mp hk
    simp only [EF.pad, if_pos hk]
  · have hk : ¬5152 + k < 5152 := by omega
    simp only [EF.pad, if_neg hk, mul_zero]

theorem ref {x0 : FVec Ideal ⟨2, ![2048, 5152]⟩ .f32} {x1 : FVec Ideal ⟨2, ![1024, 5152]⟩ .f32} {f g : ℕ → ℕ → EReal} (h0 : IsE x0 f) (h1 : IsE x1 g) :
    IsE (a := 2048) (b := 1024) (φ := .f32) (Cert.Reference5Ideal.Read.val_main_v2 (F := Ideal) x0 x1) (nt 5152 f g) := by
  intro r l
  pointwise [Cert.Reference5Ideal.Read.val_main_v2]
  simp only [h0 r _, h1 l _, nt, Finset.sum_range]

/-- The kernel's result is the reference's. -/
theorem out : (dats m 0 c).arrAt 2 cfg0.N
    = Cert.Reference5Ideal.Read.val_main_v2 (F := Ideal) (m ((c : Thread nD τ).loc main_arg0)) (m ((c : Thread nD τ).loc main_arg1)) := by
  refine Cert.Mm.Final.same (a := 2048) (b := 1024) (φ := .f32) (f := nt 5152 (Cert.Mm.Final.ent _) (Cert.Mm.Final.ent _)) (fun r l => ?_) (ref (fun r l => Cert.Mm.Final.ent_at _ r l) (fun r l => Cert.Mm.Final.ent_at _ r l))
  exact (arr m c (host_1 m c (fun r l => Cert.Mm.Final.ent_at _ r l)) (host_3 m c (fun r l => Cert.Mm.Final.ent_at _ r l)) r l).trans (nt_pad ..)

end Cert.Du
-- ==== Proof.InRunI.lean ====
/-
  The same run of the idealised program.
-/
module

public import proofs.«01_k».proof.Proof.InRun
public import proofs.«01_k».proof.Proof.Gen.Kernel4Ideal.Frame
public import proofs.«01_k».proof.Proof.Gen.Kernel4Ideal.Points
public import proofs.«01_k».proof.Proof.Gen.Kernel4Ideal.Skeleton

@[expose] public section

set_option maxRecDepth 16384

noncomputable section

namespace Cert.Kernel4Ideal.In

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first: the one at which the norm is taken. -/
abbrev First (i : grid0.Coords) : Prop := (Scalar.cmpi .ne (Scalar.extui (Scalar.cmpi .eq (BitVec.ofNat 32 (i 0).val) 0#32)) 0#32) = 1#1

theorem first_iff : ∀ t : Fin cfg0.N, First (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [First, e0]
    word_cmp
   : ∀ t : Fin grid0.N, First (grid0.coords t) ↔ t.val % 11 = 0)

theorem live4 : ∀ t : Fin cfg0.N, t.val % 11 = 0 → cfg0.idle 4 (grid0.coords t) = false := by decide +kernel
theorem idle4 : ∀ t : Fin cfg0.N, ¬ t.val % 11 = 0 → cfg0.idle 4 (grid0.coords t) = true := by decide +kernel
theorem keep4 : ∀ t : Fin cfg0.N, ¬ t.val % 11 = 10 → (cfg0.win 4).flush t = false := fun t h =>
  Bool.eq_false_iff.mpr fun e => h ((flush0_4 t).mp e)

abbrev VO4 : View sig .tc .vmem S2048x1024 .bf16 := (Memref.whole cc0_stg4_0 : Memref sig .tc .vmem S2048x1024 .bf16).view
abbrev VO5 : View sig .tc .vmem S2048x256 .bf16 := (Memref.whole cc0_stg5_0 : Memref sig .tc .vmem S2048x256 .bf16).view
abbrev VO6 : View sig .tc .vmem S2048x256 .bf16 := (Memref.whole cc0_stg6_0 : Memref sig .tc .vmem S2048x256 .bf16).view
abbrev VO7 : View sig .tc .vmem S2048x256 .bf16 := (Memref.whole cc0_stg7_0 : Memref sig .tc .vmem S2048x256 .bf16).view
abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev scr : Memref sig .tc .vmem S2048x1024 .bf16 := Memref.whole cc0_scratch0
abbrev VS : View sig .tc .vmem S2048x1024 .bf16 := scr.view

theorem phi_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

section Run

variable (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S2048x1024 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1024 .bf16) (harg9 : arg9.IsWhole)

set_option maxHeartbeats 1000000 in
/-- The body at the first point: every output and the scratch stored into; the pieces are what the run finds. -/
def runFirst (hc0 : First i) (x0 : Vec F S2048x1024 .f32) (x1 : Vec F S1x1024 .f32) (x2 : Vec F S256x1024 .bf16) (x3 : Vec F S256x1024 .bf16) :
    Σ' (L4 : List (View.Piece (Elt F) S2048x1024 .bf16)), Σ' (L5 : List (View.Piece (Elt F) S2048x256 .bf16)), Σ' (L6 : List (View.Piece (Elt F) S2048x256 .bf16)), Σ' (L7 : List (View.Piece (Elt F) S2048x256 .bf16)), { LS : List (View.Piece (Elt F) S2048x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS)) -∗ K ⟨⟩))
          ⊢ wp frame (wpE (defs₀ (F := F)) Variants.none c none) E (cc0_ffn_in i arg1 harg1 arg2 harg2 arg3 harg3 arg4 harg4 arg5 harg5 arg6 harg6 arg7 harg7 arg8 harg8 arg9 harg9) K } := by
  refine ⟨?_, ?_, ?_, ?_, ?_, fun E K => ?run⟩
  case run =>
    simp only [cc0_ffn_in_eq_skeleton]; unfold cc0_ffn_in_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds, %fs, -, HS⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    iexists _; iexact HS

set_option maxHeartbeats 1000000 in
/-- The body at a later point: the first output's buffer and the scratch handed back as they were found. -/
def runLater (hc0 : ¬First i) (x0 : Vec F S2048x1024 .f32) (x1 : Vec F S1x1024 .f32) (x2 : Vec F S256x1024 .bf16) (x3 : Vec F S256x1024 .bf16) (xs : Vec F S2048x1024 .bf16) :
    Σ' (L5 : List (View.Piece (Elt F) S2048x256 .bf16)), Σ' (L6 : List (View.Piece (Elt F) S2048x256 .bf16)), { L7 : List (View.Piece (Elt F) S2048x256 .bf16) //
      ∀ (xi : Vec F S2048x1024 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ owns (c : Thread nD τ) arg9 fullShare xs) -∗ K ⟨⟩))
          ⊢ wp frame (wpE (defs₀ (F := F)) Variants.none c none) E (cc0_ffn_in i arg1 harg1 arg2 harg2 arg3 harg3 arg4 harg4 arg5 harg5 arg6 harg6 arg7 harg7 arg8 harg8 arg9 harg9) K } := by
  refine ⟨?_, ?_, ?_, fun xi E K => ?run⟩
  case run =>
    simp only [cc0_ffn_in_eq_skeleton]; unfold cc0_ffn_in_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg9.eq_unread hfs
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; isplitr; · ipureintro; exact harg9.read_unread _
    iexact HS

end Run

variable (m : (ℓ : Loc nD τ sig) → Buf (Elt F) ℓ) (ρ : Dev nD → PrngReg)

/-- The body's run at the first point and at a later one, on the buffers of that point. -/
abbrev rA (c : Dev nD) (t : Fin cfg0.N) (h0 : t.val % 11 = 0) :=
  runFirst (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scr (Memref.isWhole_whole _) ((first_iff t).mpr h0) (iblk m c 0 t) (iblk m c 1 t) (iblk m c 2 t) (iblk m c 3 t)
abbrev rB (c : Dev nD) (t : Fin cfg0.N) (h0 : ¬t.val % 11 = 0) (xs : Vec F S2048x1024 .bf16) :=
  runLater (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scr (Memref.isWhole_whole _) (fun h => h0 ((first_iff t).mp h)) (iblk m c 0 t) (iblk m c 1 t) (iblk m c 2 t) (iblk m c 3 t) xs

theorem coverA4 (c : Dev nD) (t : Fin cfg0.N) (h0 : t.val % 11 = 0) (y : S2048x1024.Idx) :
    ∃ pc ∈ (rA m c t h0).1, y ∈ pc.1.set :=
  View.cover_of_tiledL (rA m c t h0).1 S2048x1024.size (by sl_kernel_rfl) y
theorem coverA5 (c : Dev nD) (t : Fin cfg0.N) (h0 : t.val % 11 = 0) (y : S2048x256.Idx) :
    ∃ pc ∈ (rA m c t h0).2.1, y ∈ pc.1.set :=
  View.cover_of_tiledL (rA m c t h0).2.1 S1024x256.size (by sl_kernel_rfl) y
theorem coverA6 (c : Dev nD) (t : Fin cfg0.N) (h0 : t.val % 11 = 0) (y : S2048x256.Idx) :
    ∃ pc ∈ (rA m c t h0).2.2.1, y ∈ pc.1.set :=
  View.cover_of_tiledL (rA m c t h0).2.2.1 S1024x256.size (by sl_kernel_rfl) y
theorem coverA7 (c : Dev nD) (t : Fin cfg0.N) (h0 : t.val % 11 = 0) (y : S2048x256.Idx) :
    ∃ pc ∈ (rA m c t h0).2.2.2.1, y ∈ pc.1.set :=
  View.cover_of_tiledL (rA m c t h0).2.2.2.1 S1024x256.size (by sl_kernel_rfl) y
theorem coverAS (c : Dev nD) (t : Fin cfg0.N) (h0 : t.val % 11 = 0) (y : S2048x1024.Idx) :
    ∃ pc ∈ (rA m c t h0).2.2.2.2.1, y ∈ pc.1.set :=
  View.cover_of_tiledL (rA m c t h0).2.2.2.2.1 S2048x1024.size (by sl_kernel_rfl) y
theorem coverB5 (c : Dev nD) (t : Fin cfg0.N) (h0 : ¬t.val % 11 = 0) (xs : Vec F S2048x1024 .bf16) (y : S2048x256.Idx) :
    ∃ pc ∈ (rB m c t h0 xs).1, y ∈ pc.1.set :=
  View.cover_of_tiledL (rB m c t h0 xs).1 S1024x256.size (by sl_kernel_rfl) y
theorem coverB6 (c : Dev nD) (t : Fin cfg0.N) (h0 : ¬t.val % 11 = 0) (xs : Vec F S2048x1024 .bf16) (y : S2048x256.Idx) :
    ∃ pc ∈ (rB m c t h0 xs).2.1, y ∈ pc.1.set :=
  View.cover_of_tiledL (rB m c t h0 xs).2.1 S1024x256.size (by sl_kernel_rfl) y
theorem coverB7 (c : Dev nD) (t : Fin cfg0.N) (h0 : ¬t.val % 11 = 0) (xs : Vec F S2048x1024 .bf16) (y : S2048x256.Idx) :
    ∃ pc ∈ (rB m c t h0 xs).2.2.1, y ∈ pc.1.set :=
  View.cover_of_tiledL (rB m c t h0 xs).2.2.1 S1024x256.size (by sl_kernel_rfl) y

/-! ## What the buffers hold after each point -/

/-- The first point. -/
abbrev t0 : Fin cfg0.N := ⟨0, lt_of_lt_of_eq (by decide : 0 < 11) (show cfg0.N = 11 from N_0).symm⟩

/-- The first output's buffer and the scratch, from the first point on. -/
def oU (c : Dev nD) : Vec F S2048x1024 .bf16 :=
  VO4.read (Elt F) (VO4.writes (Elt F) VO4.junk (rA m c t0 rfl).1)
def oS (c : Dev nD) : Vec F S2048x1024 .bf16 :=
  VS.read (Elt F) (VS.writes (Elt F) VS.junk (rA m c t0 rfl).2.2.2.2.1)

/-- Output 5's buffer after point `t`. -/
def o5 (c : Dev nD) (t : Fin cfg0.N) : Vec F S2048x256 .bf16 :=
  if h0 : t.val % 11 = 0 then VO5.read (Elt F) (VO5.writes (Elt F) VO5.junk (rA m c t h0).2.1)
  else VO5.read (Elt F) (VO5.writes (Elt F) VO5.junk (rB m c t h0 (oS m c)).1)
theorem o5_A (c : Dev nD) (t : Fin cfg0.N) (h0 : t.val % 11 = 0) :
    o5 m c t = VO5.read (Elt F) (VO5.writes (Elt F) VO5.junk (rA m c t h0).2.1) := dif_pos h0
theorem o5_B (c : Dev nD) (t : Fin cfg0.N) (h0 : ¬t.val % 11 = 0) :
    o5 m c t = VO5.read (Elt F) (VO5.writes (Elt F) VO5.junk (rB m c t h0 (oS m c)).1) := dif_neg h0
/-- Output 6's buffer after point `t`. -/
def o6 (c : Dev nD) (t : Fin cfg0.N) : Vec F S2048x256 .bf16 :=
  if h0 : t.val % 11 = 0 then VO6.read (Elt F) (VO6.writes (Elt F) VO6.junk (rA m c t h0).2.2.1)
  else VO6.read (Elt F) (VO6.writes (Elt F) VO6.junk (rB m c t h0 (oS m c)).2.1)
theorem o6_A (c : Dev nD) (t : Fin cfg0.N) (h0 : t.val % 11 = 0) :
    o6 m c t = VO6.read (Elt F) (VO6.writes (Elt F) VO6.junk (rA m c t h0).2.2.1) := dif_pos h0
theorem o6_B (c : Dev nD) (t : Fin cfg0.N) (h0 : ¬t.val % 11 = 0) :
    o6 m c t = VO6.read (Elt F) (VO6.writes (Elt F) VO6.junk (rB m c t h0 (oS m c)).2.1) := dif_neg h0
/-- Output 7's buffer after point `t`. -/
def o7 (c : Dev nD) (t : Fin cfg0.N) : Vec F S2048x256 .bf16 :=
  if h0 : t.val % 11 = 0 then VO7.read (Elt F) (VO7.writes (Elt F) VO7.junk (rA m c t h0).2.2.2.1)
  else VO7.read (Elt F) (VO7.writes (Elt F) VO7.junk (rB m c t h0 (oS m c)).2.2.1)
theorem o7_A (c : Dev nD) (t : Fin cfg0.N) (h0 : t.val % 11 = 0) :
    o7 m c t = VO7.read (Elt F) (VO7.writes (Elt F) VO7.junk (rA m c t h0).2.2.2.1) := dif_pos h0
theorem o7_B (c : Dev nD) (t : Fin cfg0.N) (h0 : ¬t.val % 11 = 0) :
    o7 m c t = VO7.read (Elt F) (VO7.writes (Elt F) VO7.junk (rB m c t h0 (oS m c)).2.2.1) := dif_neg h0

/-- The invariant before point `n`: the scratch holds the norm, once the first point has run. -/
def phi (c : Dev nD) : (n : ℕ) → n ≤ cfg0.N → sProp 𝕄
  | 0, _ => Pipeline.ΦA spec0 c
  | n + 1, _ => iprop(iprop(owns (c : Thread nD τ) scr fullShare (oS m c)) ∗ (∃ r, prngReg c r))

theorem phi_zero (c : Dev nD) (n : ℕ) (h : n ≤ cfg0.N) (hz : n = 0) : phi m c n h = Pipeline.ΦA spec0 c := by
  subst hz; rfl
theorem phi_succ (c : Dev nD) (n : ℕ) (hn : n + 1 ≤ cfg0.N) :
    phi m c (n + 1) hn = iprop(iprop(owns (c : Thread nD τ) scr fullShare (oS m c)) ∗ (∃ r, prngReg c r)) := rfl
theorem phi_pos (c : Dev nD) (n : ℕ) (h : n ≤ cfg0.N) (hz : n ≠ 0) :
    phi m c n h = iprop(iprop(owns (c : Thread nD τ) scr fullShare (oS m c)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oU m c
    | ⟨5, _⟩ => o5 m c t
    | ⟨6, _⟩ => o6 m c t
    | ⟨7, _⟩ => o7 m c t
  Φ t := phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem phi_castSucc (c : Dev nD) (t : Fin cfg0.N) :
    (dats m 0 c).Φ t.castSucc = phi m c t.val (Nat.le_of_lt t.isLt) := by
  dsimp only [dats]; exact Pipeline.Dat.Φ_castSucc (phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = oU m c := by dsimp only [dats]
theorem after5 (c : Dev nD) (t : Fin cfg0.N) : (dats m 0 c).after 5 t = o5 m c t := by dsimp only [dats]
theorem after6 (c : Dev nD) (t : Fin cfg0.N) : (dats m 0 c).after 6 t = o6 m c t := by dsimp only [dats]
theorem after7 (c : Dev nD) (t : Fin cfg0.N) : (dats m 0 c).after 7 t = o7 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- The first output's buffer, at every later point, holds what the first point left. -/
theorem before4 (c : Dev nD) : (n : ℕ) → (hn : n < cfg0.N) → n ≠ 0 → ∀ d, (dats m 0 c).before 4 ⟨n, hn⟩ d = oU m c
  | 0, _, h, _ => absurd rfl h
  | n + 1, hn, _, d => by
    have hN : n + 1 < 11 := lt_of_lt_of_eq hn (show cfg0.N = 11 from N_0)
    have hn' : n < cfg0.N := Nat.lt_of_succ_lt hn
    have e := Dat.before_of_pos (dats m 0 c) 4 ⟨n + 1, hn⟩ (Nat.succ_ne_zero n) rfl d
    have k4 : (cfg0.win 4).flush (⟨n, hn'⟩ : Fin cfg0.N) = false := keep4 ⟨n, hn'⟩ (by show ¬ n % 11 = 10; omega)
    refine e.trans ?_
    show (if (cfg0.win 4).flush (⟨n, hn'⟩ : Fin cfg0.N) then d else (dats m 0 c).left 4 ⟨n, hn'⟩ d) = _
    rw [k4, if_neg Bool.false_ne_true]
    unfold Dat.left
    by_cases hz : n = 0
    · rw [live4 ⟨n, hn'⟩ (by show n % 11 = 0; omega)]
      dsimp only
      unfold Dat.kept
      rw [Pipeline.fill_of_clip_none 4 _ (fun _ => rfl) d ((dats m 0 c).after 4 _), Window.fill_cut, after4]
    · rw [idle4 ⟨n, hn'⟩ (by show ¬ n % 11 = 0; omega)]
      exact before4 c n hn' hz d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after3]
theorem leaves5 (c : Dev nD) (t : Fin cfg0.N) :
    (dats m 0 c).leavesExact 5 t = owns (c : Thread nD τ) (ms0_5 t) fullShare (o5 m c t) := by
  unfold Dat.leavesExact; rw [show cfg0.idle 5 (grid0.coords t) = false from rfl, after5]
theorem leaves6 (c : Dev nD) (t : Fin cfg0.N) :
    (dats m 0 c).leavesExact 6 t = owns (c : Thread nD τ) (ms0_6 t) fullShare (o6 m c t) := by
  unfold Dat.leavesExact; rw [show cfg0.idle 6 (grid0.coords t) = false from rfl, after6]
theorem leaves7 (c : Dev nD) (t : Fin cfg0.N) :
    (dats m 0 c).leavesExact 7 t = owns (c : Thread nD τ) (ms0_7 t) fullShare (o7 m c t) := by
  unfold Dat.leavesExact; rw [show cfg0.idle 7 (grid0.coords t) = false from rfl, after7]
theorem leaves4_first (c : Dev nD) (t : Fin cfg0.N) (h0 : t.val % 11 = 0) :
    (dats m 0 c).leavesExact 4 t = owns (c : Thread nD τ) (ms0_4 t) fullShare (oU m c) := by
  unfold Dat.leavesExact; rw [live4 t h0, after4]
/-- At a later point the buffer at what the first point left is what the point has to leave, written back there or not. -/
theorem leaves4_later (c : Dev nD) (t : Fin cfg0.N) (h0 : ¬t.val % 11 = 0) :
    owns (c : Thread nD τ) (ms0_4 t) fullShare (oU m c) ⊢ (dats m 0 c).leavesExact 4 t := by
  unfold Dat.leavesExact; rw [idle4 t h0]
  cases hf : (cfg0.win 4).flush t
  · dsimp only
    iintro H
    iexists oU m c
    rw [before4 m c t.val t.isLt (fun e => h0 (by rw [e]))]
    iexact H
  · dsimp only
    rw [after4]

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    leaves0, leaves1, leaves2, leaves3, leaves5, leaves6, leaves7]
  rw [show (dats m 0 c).Φ t.succ = phi m c (t.val + 1) t.isLt from rfl, phi_succ]
  have hN : t.val < 11 := lt_of_lt_of_eq t.isLt (show cfg0.N = 11 from N_0)
  by_cases h0 : t.val % 11 = 0
  · obtain rfl : t = t0 := Fin.ext (by show t.val = 0; omega)
    rw [phi_castSucc m c t0, phi_zero m c _ _ rfl, phi_eq, leaves4_first m c t0 h0,
      o5_A m c t0 h0, o6_A m c t0 h0, o7_A m c t0 h0]
    unfold oU oS
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rA m c t0 h0).2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, ⟨%e4, H4⟩, ⟨%e5, H5⟩, ⟨%e6, H6⟩, ⟨%e7, H7⟩, ⟨%es, HS⟩⟩
    isplitl [HS Hg]
    · isplitl [HS]
      · unfold owns; iexists _; isplitr
        swap; · iexact HS
        ipureintro; exact View.read_writes_of_cover _ _ _ _ _ (coverAS m c t0 h0)
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (coverA4 m c t0 h0)
    isplitl [H5]
    · unfold owns; iexists _; isplitr
      swap; · iexact H5
      ipureintro; exact View.read_writes_of_cover _ _ _ _ _ (coverA5 m c t0 h0)
    isplitl [H6]
    · unfold owns; iexists _; isplitr
      swap; · iexact H6
      ipureintro; exact View.read_writes_of_cover _ _ _ _ _ (coverA6 m c t0 h0)
    unfold owns; iexists _; isplitr
    swap; · iexact H7
    ipureintro; exact View.read_writes_of_cover _ _ _ _ _ (coverA7 m c t0 h0)
  · have hz : t.val ≠ 0 := fun e => h0 (by rw [e])
    rw [phi_castSucc m c t, phi_pos m c _ _ hz, o5_B m c t h0, o6_B m c t h0, o7_B m c t h0]
    simp only [before4 m c t.val t.isLt hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((rB m c t h0 (oS m c)).2.2.2 (oU m c) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS]; · iexact HS
    iintro ⟨H0, H1, H2, H3, H4, ⟨%e5, H5⟩, ⟨%e6, H6⟩, ⟨%e7, H7⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iapply (leaves4_later m c t h0); iexact H4
    isplitl [H5]
    · unfold owns; iexists _; isplitr
      swap; · iexact H5
      ipureintro; exact View.read_writes_of_cover _ _ _ _ _ (coverB5 m c t h0 _)
    isplitl [H6]
    · unfold owns; iexists _; isplitr
      swap; · iexact H6
      ipureintro; exact View.read_writes_of_cover _ _ _ _ _ (coverB6 m c t h0 _)
    unfold owns; iexists _; isplitr
    swap; · iexact H7
    ipureintro; exact View.read_writes_of_cover _ _ _ _ _ (coverB7 m c t h0 _)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := by
  rw [show (dats m 0 c).Φ 0 = phi m c 0 (Nat.zero_le _) from rfl, phi_zero m c 0 _ rfl]

theorem hout (c : Dev nD) : (dats m 0 c).Φ (Fin.last cfg0.N) ⊢ Pipeline.ΦA spec0 c := by
  rw [show (dats m 0 c).Φ (Fin.last cfg0.N) = phi m c (Fin.last cfg0.N).val (Nat.le_of_lt_succ (Fin.last cfg0.N).isLt) from rfl,
    phi_pos m c _ _ (by rw [Fin.val_last]; have : cfg0.N = 11 := N_0; omega), phi_eq]
  iintro ⟨HS, Hg⟩
  isplitl [HS]
  · iexists _; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel4Ideal.In

end
-- ==== Proof.InVals.lean ====
/-
  The feed-forward input's four results: the norm, the two products and the gated product, and that they are the reference's.
-/
module

public import proofs.«01_k».proof.Proof.InRunI
public import proofs.«01_k».proof.Proof.Gen.Reference4Ideal.Read

@[expose] public section

set_option maxRecDepth 16384

noncomputable section

namespace Cert.InV

open Cert.Kernel4Ideal Cert.Kernel4Ideal.Gen Cert.Kernel4Ideal.In Idealize.ShloMosaic Idealize.ShloMosaic.TcCoe
open Idealize.ShloMosaic.Tactic
open Finset (range)
open Cert.Mm (IsE nt nn ir)

theorem off0 : (![0, 0] : Fin 2 → ℕ) = fun _ => 0 := by funext x; fin_cases x <;> rfl

/-- The gate's function of an entry. -/
def sl (a : EReal) : EReal := a * Ideal.div 1 (1 + Ideal.exp (0 - a))

/-! ## The body's arithmetic -/

theorem payU {a : FVec Ideal S2048x1024 .f32} {b : FVec Ideal S1x1024 .f32} {f g : ℕ → ℕ → EReal} (ha : IsE a f) (hb : IsE b g) :
    IsE (k0_pay5 (F := Ideal) a b) fun r l => f r l * ir f r * g 0 l := by
  intro r l
  pointwise [k0_pay5]
  simp only [ha r _, hb 0 l, ir, Finset.sum_range]
  rfl

section Pay
variable {a : FVec Ideal S1024x1024 .bf16} {b d : FVec Ideal S256x1024 .bf16} {f g k : ℕ → ℕ → EReal} (ha : IsE a f) (hb : IsE b g) (hd : IsE d k)
include ha hb

theorem pay6 : IsE (k0_pay6 (F := Ideal) a b) (nt 1024 f g) := by
  intro r l; pointwise [k0_pay6]; simp only [ha r _, hb l _, nt, Finset.sum_range]
theorem pay7 : IsE (k0_pay7 (F := Ideal) a b) (nt 1024 f g) := by
  intro r l; pointwise [k0_pay7]; simp only [ha r _, hb l _, nt, Finset.sum_range]
theorem pay1 : IsE (k0_pay1 (F := Ideal) a b) (nt 1024 f g) := by
  intro r l; pointwise [k0_pay1]; simp only [ha r _, hb l _, nt, Finset.sum_range]
theorem pay11 : IsE (k0_pay11 (F := Ideal) a b) (nt 1024 f g) := by
  intro r l; pointwise [k0_pay11]; simp only [ha r _, hb l _, nt, Finset.sum_range]
theorem pay8 : IsE (k0_pay8 (F := Ideal) a b) (nt 1024 f g) := by
  intro r l; pointwise [k0_pay8]; exact pay6 ha hb r l
theorem pay9 : IsE (k0_pay9 (F := Ideal) a b) (nt 1024 f g) := by
  intro r l; pointwise [k0_pay9]; exact pay7 ha hb r l
theorem pay3 : IsE (k0_pay3 (F := Ideal) a b) (nt 1024 f g) := by
  intro r l; pointwise [k0_pay3]; exact pay1 ha hb r l
theorem pay2 : IsE (k0_pay2 (F := Ideal) (k0_pay11 (F := Ideal) a b)) (nt 1024 f g) := by
  intro r l; pointwise [k0_pay2]; exact pay11 ha hb r l
include hd
theorem pay10 : IsE (k0_pay10 (F := Ideal) a b d) fun r l => sl (nt 1024 f g r l) * nt 1024 f k r l := by
  intro r l; pointwise [k0_pay10]; rw [pay6 ha hb r l, pay7 ha hd r l]; rfl
theorem pay4 : IsE (k0_pay4 (F := Ideal) a (k0_pay11 (F := Ideal) a b) d) fun r l => sl (nt 1024 f g r l) * nt 1024 f k r l := by
  intro r l; pointwise [k0_pay4]; rw [pay11 ha hb r l, pay1 ha hd r l]; rfl
end Pay

/-! ## Halves of the rows -/

theorem ld_rows {A B a o : ℕ} {x : FVec Ideal ⟨2, ![A, B]⟩ .bf16} {f : ℕ → ℕ → EReal} (h : IsE x f)
    (inb : ∀ i, (![o, 0] : Fin 2 → ℕ) i + (![a, B] : Fin 2 → ℕ) i ≤ (⟨2, ![A, B]⟩ : Shape).size i) :
    IsE (a := a) (b := B) (φ := .bf16) (View.ld (Val := Elt Ideal) (e' := .bf16) x (Rect.unit (s := ⟨2, ![A, B]⟩) ![o, 0] ![a, B] inb)) fun r l => f (o + r) l := by
  intro r l
  have hb : o + a ≤ A := inb 0
  refine (View.ld_unit_apply_of (Val := Elt Ideal) (e := .bf16) x ![o, 0] ![a, B] inb (ix2 r l) (ix2 (⟨o + r.val, by omega⟩ : Fin A) l) ?_).trans (h _ _)
  intro i
  match i with
  | ⟨0, _⟩ => rfl
  | ⟨1, _⟩ => show l.val = 0 + l.val; omega

theorem ld_rows0 {A B a : ℕ} {x : FVec Ideal ⟨2, ![A, B]⟩ .bf16} {f : ℕ → ℕ → EReal} (h : IsE x f)
    (inb : ∀ i, (![0, 0] : Fin 2 → ℕ) i + (![a, B] : Fin 2 → ℕ) i ≤ (⟨2, ![A, B]⟩ : Shape).size i) :
    IsE (a := a) (b := B) (φ := .bf16) (View.ld (Val := Elt Ideal) (e' := .bf16) x (Rect.unit (s := ⟨2, ![A, B]⟩) ![0, 0] ![a, B] inb)) f := by
  intro r l
  have e := ld_rows h inb r l
  simp only [Nat.zero_add] at e
  exact e

theorem two_rows {A B a : ℕ} (p q : FVec Ideal ⟨2, ![a, B]⟩ .bf16) {f : ℕ → ℕ → EReal} (hA : A = a + a)
    (i0 : ∀ i, (![0, 0] : Fin 2 → ℕ) i + (![a, B] : Fin 2 → ℕ) i ≤ (⟨2, ![A, B]⟩ : Shape).size i)
    (i1 : ∀ i, (![a, 0] : Fin 2 → ℕ) i + (![a, B] : Fin 2 → ℕ) i ≤ (⟨2, ![A, B]⟩ : Shape).size i)
    (hp : IsE p f) (hq : IsE q fun r l => f (a + r) l) :
    IsE (a := A) (b := B) (φ := .bf16) (View.canon (Val := Elt Ideal) (e := .bf16)
      [(⟨Rect.unit (s := ⟨2, ![A, B]⟩) ![a, 0] ![a, B] i1, q⟩ : View.Piece (Elt Ideal) ⟨2, ![A, B]⟩ .bf16), ⟨Rect.unit (s := ⟨2, ![A, B]⟩) ![0, 0] ![a, B] i0, p⟩]) f := by
  intro r l
  refine View.canon_eq_of_allAt _ _ _ ?_ (View.allAt_cons_unit _ _ _ _ _ ?_ (View.allAt_cons_unit _ _ _ _ _ ?_ (View.allAt_nil _ _)))
  · by_cases h : r.val < a
    · refine ⟨_, List.mem_cons_of_mem _ List.mem_cons_self, ?_⟩
      rw [Rect.mem_set_unit]
      intro i
      match i with
      | ⟨0, _⟩ => exact ⟨Nat.zero_le _, by show r.val < 0 + a; omega⟩
      | ⟨1, _⟩ => exact ⟨Nat.zero_le _, by show l.val < 0 + B; omega⟩
    · refine ⟨_, List.mem_cons_self, ?_⟩
      rw [Rect.mem_set_unit]
      intro i
      match i with
      | ⟨0, _⟩ => exact ⟨by show a ≤ r.val; omega, by show r.val < a + a; omega⟩
      | ⟨1, _⟩ => exact ⟨Nat.zero_le _, by show l.val < 0 + B; omega⟩
  · intro x hx
    have h0 : r.val = a + (x 0).val := hx 0
    have h1 : l.val = 0 + (x 1).val := hx 1
    have ex : x = ix2 (x 0) (x 1) := by funext i; match i with | ⟨0, _⟩ => rfl | ⟨1, _⟩ => rfl
    rw [ex]
    exact (hq (x 0) (x 1)).trans (congrArg₂ f h0.symm ((Nat.zero_add _).symm.trans h1.symm))
  · intro x hx
    have h0 : r.val = 0 + (x 0).val := hx 0
    have h1 : l.val = 0 + (x 1).val := hx 1
    have ex : x = ix2 (x 0) (x 1) := by funext i; match i with | ⟨0, _⟩ => rfl | ⟨1, _⟩ => rfl
    rw [ex]
    exact (hp (x 0) (x 1)).trans (congrArg₂ f ((Nat.zero_add _).symm.trans h0.symm) ((Nat.zero_add _).symm.trans h1.symm))

/-! ## What the body stores -/

/-- The pieces of the three blocked outputs, of the norm `p` and the point's two blocks. -/
abbrev pc5 (p : Vec Ideal S2048x1024 .bf16) (x2 : Vec Ideal S256x1024 .bf16) : List (View.Piece (Elt Ideal) S2048x256 .bf16) :=
  [⟨Rect.unit (s := S2048x256) ![1024, 0] S1024x256.size inb_S2048x256_S1024x256_1024_0, k0_pay2 (k0_pay11 (View.ld (Val := Elt Ideal) (e' := .bf16) p (Rect.unit (s := S2048x1024) ![1024, 0] S1024x1024.size inb_S2048x1024_S1024x1024_1024_0)) x2)⟩, ⟨Rect.unit (s := S2048x256) ![0, 0] S1024x256.size inb_S2048x256_S1024x256_0_0, k0_pay8 (View.ld (Val := Elt Ideal) (e' := .bf16) p (Rect.unit (s := S2048x1024) ![0, 0] S1024x1024.size inb_S2048x1024_S1024x1024_0_0)) x2⟩]
abbrev pc6 (p : Vec Ideal S2048x1024 .bf16) (x3 : Vec Ideal S256x1024 .bf16) : List (View.Piece (Elt Ideal) S2048x256 .bf16) :=
  [⟨Rect.unit (s := S2048x256) ![1024, 0] S1024x256.size inb_S2048x256_S1024x256_1024_0, k0_pay3 (View.ld (Val := Elt Ideal) (e' := .bf16) p (Rect.unit (s := S2048x1024) ![1024, 0] S1024x1024.size inb_S2048x1024_S1024x1024_1024_0)) x3⟩, ⟨Rect.unit (s := S2048x256) ![0, 0] S1024x256.size inb_S2048x256_S1024x256_0_0, k0_pay9 (View.ld (Val := Elt Ideal) (e' := .bf16) p (Rect.unit (s := S2048x1024) ![0, 0] S1024x1024.size inb_S2048x1024_S1024x1024_0_0)) x3⟩]
abbrev pc7 (p : Vec Ideal S2048x1024 .bf16) (x2 x3 : Vec Ideal S256x1024 .bf16) : List (View.Piece (Elt Ideal) S2048x256 .bf16) :=
  [⟨Rect.unit (s := S2048x256) ![1024, 0] S1024x256.size inb_S2048x256_S1024x256_1024_0, k0_pay4 (View.ld (Val := Elt Ideal) (e' := .bf16) p (Rect.unit (s := S2048x1024) ![1024, 0] S1024x1024.size inb_S2048x1024_S1024x1024_1024_0)) (k0_pay11 (View.ld (Val := Elt Ideal) (e' := .bf16) p (Rect.unit (s := S2048x1024) ![1024, 0] S1024x1024.size inb_S2048x1024_S1024x1024_1024_0)) x2) x3⟩, ⟨Rect.unit (s := S2048x256) ![0, 0] S1024x256.size inb_S2048x256_S1024x256_0_0, k0_pay10 (View.ld (Val := Elt Ideal) (e' := .bf16) p (Rect.unit (s := S2048x1024) ![0, 0] S1024x1024.size inb_S2048x1024_S1024x1024_0_0)) x2 x3⟩]

theorem can5 {p : Vec Ideal S2048x1024 .bf16} {x2 : Vec Ideal S256x1024 .bf16} {f g : ℕ → ℕ → EReal} (hp : IsE (a := 2048) (b := 1024) (φ := .bf16) p f)
    (h2 : IsE (a := 256) (b := 1024) (φ := .bf16) x2 g) : IsE (a := 2048) (b := 256) (φ := .bf16) (View.canon (pc5 p x2)) (nt 1024 f g) :=
  two_rows (A := 2048) (B := 256) (a := 1024) _ _ rfl _ _ (pay8 (ld_rows0 hp _) h2) (pay2 (ld_rows hp _) h2)

theorem can6 {p : Vec Ideal S2048x1024 .bf16} {x3 : Vec Ideal S256x1024 .bf16} {f g : ℕ → ℕ → EReal} (hp : IsE (a := 2048) (b := 1024) (φ := .bf16) p f)
    (h3 : IsE (a := 256) (b := 1024) (φ := .bf16) x3 g) : IsE (a := 2048) (b := 256) (φ := .bf16) (View.canon (pc6 p x3)) (nt 1024 f g) :=
  two_rows (A := 2048) (B := 256) (a := 1024) _ _ rfl _ _ (pay9 (ld_rows0 hp _) h3) (pay3 (ld_rows hp _) h3)

theorem can7 {p : Vec Ideal S2048x1024 .bf16} {x2 x3 : Vec Ideal S256x1024 .bf16} {f g k : ℕ → ℕ → EReal} (hp : IsE (a := 2048) (b := 1024) (φ := .bf16) p f)
    (h2 : IsE (a := 256) (b := 1024) (φ := .bf16) x2 g) (h3 : IsE (a := 256) (b := 1024) (φ := .bf16) x3 k) :
    IsE (a := 2048) (b := 256) (φ := .bf16) (View.canon (pc7 p x2 x3)) fun r l => sl (nt 1024 f g r l) * nt 1024 f k r l :=
  two_rows (A := 2048) (B := 256) (a := 1024) (f := fun r l => sl (nt 1024 f g r l) * nt 1024 f k r l) _ _ rfl _ _ (pay10 (ld_rows0 hp _) h2 h3) (pay4 (ld_rows hp _) h2 h3)

theorem readH {a : Memref sig .tc .vmem S2048x1024 .f32} (ha : a.IsWhole) (x : Vec Ideal S2048x1024 .f32) :
    a.view.readAt (Elt Ideal) (Rect.unit (s := S2048x1024) ![0, 0] S2048x1024.size inb_S2048x1024_S2048x1024_0_0).toLoadRect (ha.unread x) = x := by
  rw [View.readAt_eq_ld, ha.read_unread, View.ld_unit_zero off0]

theorem readN {a : Memref sig .tc .vmem S1x1024 .f32} (ha : a.IsWhole) (x : Vec Ideal S1x1024 .f32) :
    a.view.readAt (Elt Ideal) (Rect.unit (s := S1x1024) ![0, 0] S1x1024.size inb_S1x1024_S1x1024_0_0).toLoadRect (ha.unread x) = x := by
  rw [View.readAt_eq_ld, ha.read_unread, View.ld_unit_zero off0]

theorem readW {a : Memref sig .tc .vmem S256x1024 .bf16} (ha : a.IsWhole) (x : Vec Ideal S256x1024 .bf16) :
    a.view.readAt (Elt Ideal) (Rect.unit (s := S256x1024) ![0, 0] S256x1024.size inb_S256x1024_S256x1024_0_0).toLoadRect (ha.unread x) = x := by
  rw [View.readAt_eq_ld, ha.read_unread, View.ld_unit_zero off0]

section Body
variable (c : Dev nD) (i : grid0.Coords) (arg1 : Memref sig .tc .vmem S2048x1024 .f32) (harg1 : arg1.IsWhole) (arg2 : Memref sig .tc .vmem S1x1024 .f32) (harg2 : arg2.IsWhole) (arg3 : Memref sig .tc .vmem S256x1024 .bf16) (harg3 : arg3.IsWhole) (arg4 : Memref sig .tc .vmem S256x1024 .bf16) (harg4 : arg4.IsWhole) (arg5 : Memref sig .tc .vmem S2048x1024 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S2048x256 .bf16) (harg8 : arg8.IsWhole) (arg9 : Memref sig .tc .vmem S2048x1024 .bf16) (harg9 : arg9.IsWhole) (x0 : Vec Ideal S2048x1024 .f32) (x1 : Vec Ideal S1x1024 .f32) (x2 x3 : Vec Ideal S256x1024 .bf16) (xs : Vec Ideal S2048x1024 .bf16)

theorem hs1 : runFirst.sl.HS_1 (F := Ideal) c arg1 harg1 arg2 harg2 x0 x1 = [⟨(Rect.unit (s := S2048x1024) ![0, 0] S2048x1024.size inb_S2048x1024_S2048x1024_0_0), k0_pay5 x0 x1⟩] := by
  delta runFirst.sl.HS_1
  dsimp only
  rw [readH, readN]

theorem cov0 : runFirst.sl.v3 (F := Ideal) c arg1 harg1 arg2 harg2 arg9 x0 x1 = (View.ld (Val := Elt Ideal) (e' := .bf16) (k0_pay5 (F := Ideal) x0 x1) (Rect.unit (s := S2048x1024) ![0, 0] S1024x1024.size inb_S2048x1024_S1024x1024_0_0)) := by
  delta runFirst.sl.v3
  dsimp only
  rw [hs1, View.readCov_eq_canon', View.canon_unit_zero off0]

theorem cov1 : runFirst.sl.v25 (F := Ideal) c arg1 harg1 arg2 harg2 arg9 x0 x1 = (View.ld (Val := Elt Ideal) (e' := .bf16) (k0_pay5 (F := Ideal) x0 x1) (Rect.unit (s := S2048x1024) ![1024, 0] S1024x1024.size inb_S2048x1024_S1024x1024_1024_0)) := by
  delta runFirst.sl.v25
  dsimp only
  rw [hs1, View.readCov_eq_canon', View.canon_unit_zero off0]

theorem covU : runFirst.sl.v65 (F := Ideal) c arg1 harg1 arg2 harg2 arg9 x0 x1 = k0_pay5 (F := Ideal) x0 x1 := by
  delta runFirst.sl.v65
  dsimp only
  rw [hs1, View.readCov_eq_canon', View.canon_unit_zero off0]
  exact View.ld_unit_zero (Val := Elt Ideal) (S := S2048x1024) (e := .bf16) off0 inb_S2048x1024_S2048x1024_0_0 (k0_pay5 (F := Ideal) x0 x1)

theorem gate1 : runFirst.sl.r (F := Ideal) c arg1 harg1 arg2 harg2 arg3 harg3 arg9 x0 x1 x2 = k0_pay11 (View.ld (Val := Elt Ideal) (e' := .bf16) (k0_pay5 (F := Ideal) x0 x1) (Rect.unit (s := S2048x1024) ![1024, 0] S1024x1024.size inb_S2048x1024_S1024x1024_1024_0)) x2 := by
  delta runFirst.sl.r
  dsimp only
  rw [cov1, readW]

theorem later0 : arg9.view.readAt (Elt Ideal) (Rect.unit (s := S2048x1024) ![0, 0] S1024x1024.size inb_S2048x1024_S1024x1024_0_0).toLoadRect (harg9.unread xs) = (View.ld (Val := Elt Ideal) (e' := .bf16) xs (Rect.unit (s := S2048x1024) ![0, 0] S1024x1024.size inb_S2048x1024_S1024x1024_0_0)) := by
  rw [View.readAt_eq_ld, harg9.read_unread]

theorem later1 : runLater.sl.r (F := Ideal) c arg9 harg9 xs = (View.ld (Val := Elt Ideal) (e' := .bf16) xs (Rect.unit (s := S2048x1024) ![1024, 0] S1024x1024.size inb_S2048x1024_S1024x1024_1024_0)) := by
  delta runLater.sl.r
  dsimp only
  rw [View.readAt_eq_ld, harg9.read_unread]

theorem later_gate1 : runLater.sl.r_1 (F := Ideal) c arg3 harg3 arg9 harg9 x2 xs = k0_pay11 (View.ld (Val := Elt Ideal) (e' := .bf16) xs (Rect.unit (s := S2048x1024) ![1024, 0] S1024x1024.size inb_S2048x1024_S1024x1024_1024_0)) x2 := by
  delta runLater.sl.r_1
  dsimp only
  rw [View.readAt_eq_ld, harg9.read_unread, readW]

theorem firstU (h : First i) : (runFirst (F := Ideal) c i arg1 harg1 arg2 harg2 arg3 harg3 arg4 harg4 arg5 harg5 arg6 harg6 arg7 harg7 arg8 harg8 arg9 harg9 h x0 x1 x2 x3).1 = [⟨(Rect.unit (s := S2048x1024) ![0, 0] S2048x1024.size inb_S2048x1024_S2048x1024_0_0), (k0_pay5 (F := Ideal) x0 x1)⟩] := by
  have e : (runFirst (F := Ideal) c i arg1 harg1 arg2 harg2 arg3 harg3 arg4 harg4 arg5 harg5 arg6 harg6 arg7 harg7 arg8 harg8 arg9 harg9 h x0 x1 x2 x3).1 = [⟨(Rect.unit (s := S2048x1024) ![0, 0] S2048x1024.size inb_S2048x1024_S2048x1024_0_0), (runFirst.sl.v65 (F := Ideal) c arg1 harg1 arg2 harg2 arg9 x0 x1)⟩] := by sl_kernel_rfl
  rw [e, covU]

theorem firstS (h : First i) : (runFirst (F := Ideal) c i arg1 harg1 arg2 harg2 arg3 harg3 arg4 harg4 arg5 harg5 arg6 harg6 arg7 harg7 arg8 harg8 arg9 harg9 h x0 x1 x2 x3).2.2.2.2.1 = [⟨(Rect.unit (s := S2048x1024) ![0, 0] S2048x1024.size inb_S2048x1024_S2048x1024_0_0), (k0_pay5 (F := Ideal) x0 x1)⟩] := by
  have e : (runFirst (F := Ideal) c i arg1 harg1 arg2 harg2 arg3 harg3 arg4 harg4 arg5 harg5 arg6 harg6 arg7 harg7 arg8 harg8 arg9 harg9 h x0 x1 x2 x3).2.2.2.2.1 = runFirst.sl.HS_1 (F := Ideal) c arg1 harg1 arg2 harg2 x0 x1 := by sl_kernel_rfl
  rw [e, hs1]

theorem first5 (h : First i) : (runFirst (F := Ideal) c i arg1 harg1 arg2 harg2 arg3 harg3 arg4 harg4 arg5 harg5 arg6 harg6 arg7 harg7 arg8 harg8 arg9 harg9 h x0 x1 x2 x3).2.1 = pc5 (k0_pay5 (F := Ideal) x0 x1) x2 := by
  have e : (runFirst (F := Ideal) c i arg1 harg1 arg2 harg2 arg3 harg3 arg4 harg4 arg5 harg5 arg6 harg6 arg7 harg7 arg8 harg8 arg9 harg9 h x0 x1 x2 x3).2.1 = [⟨Rect.unit (s := S2048x256) ![1024, 0] S1024x256.size inb_S2048x256_S1024x256_1024_0, k0_pay2 (runFirst.sl.r (F := Ideal) c arg1 harg1 arg2 harg2 arg3 harg3 arg9 x0 x1 x2)⟩, ⟨Rect.unit (s := S2048x256) ![0, 0] S1024x256.size inb_S2048x256_S1024x256_0_0, k0_pay8 (runFirst.sl.v3 (F := Ideal) c arg1 harg1 arg2 harg2 arg9 x0 x1) (arg3.view.readAt (Elt Ideal) (Rect.unit (s := S256x1024) ![0, 0] S256x1024.size inb_S256x1024_S256x1024_0_0).toLoadRect (harg3.unread x2))⟩] := by sl_kernel_rfl
  rw [e, gate1, cov0, readW]

theorem first6 (h : First i) : (runFirst (F := Ideal) c i arg1 harg1 arg2 harg2 arg3 harg3 arg4 harg4 arg5 harg5 arg6 harg6 arg7 harg7 arg8 harg8 arg9 harg9 h x0 x1 x2 x3).2.2.1 = pc6 (k0_pay5 (F := Ideal) x0 x1) x3 := by
  have e : (runFirst (F := Ideal) c i arg1 harg1 arg2 harg2 arg3 harg3 arg4 harg4 arg5 harg5 arg6 harg6 arg7 harg7 arg8 harg8 arg9 harg9 h x0 x1 x2 x3).2.2.1 = [⟨Rect.unit (s := S2048x256) ![1024, 0] S1024x256.size inb_S2048x256_S1024x256_1024_0, k0_pay3 (runFirst.sl.v25 (F := Ideal) c arg1 harg1 arg2 harg2 arg9 x0 x1) (arg4.view.readAt (Elt Ideal) (Rect.unit (s := S256x1024) ![0, 0] S256x1024.size inb_S256x1024_S256x1024_0_0).toLoadRect (harg4.unread x3))⟩, ⟨Rect.unit (s := S2048x256) ![0, 0] S1024x256.size inb_S2048x256_S1024x256_0_0, k0_pay9 (runFirst.sl.v3 (F := Ideal) c arg1 harg1 arg2 harg2 arg9 x0 x1) (arg4.view.readAt (Elt Ideal) (Rect.unit (s := S256x1024) ![0, 0] S256x1024.size inb_S256x1024_S256x1024_0_0).toLoadRect (harg4.unread x3))⟩] := by sl_kernel_rfl
  rw [e, cov1, cov0, readW]

theorem first7 (h : First i) : (runFirst (F := Ideal) c i arg1 harg1 arg2 harg2 arg3 harg3 arg4 harg4 arg5 harg5 arg6 harg6 arg7 harg7 arg8 harg8 arg9 harg9 h x0 x1 x2 x3).2.2.2.1 = pc7 (k0_pay5 (F := Ideal) x0 x1) x2 x3 := by
  have e : (runFirst (F := Ideal) c i arg1 harg1 arg2 harg2 arg3 harg3 arg4 harg4 arg5 harg5 arg6 harg6 arg7 harg7 arg8 harg8 arg9 harg9 h x0 x1 x2 x3).2.2.2.1 = [⟨Rect.unit (s := S2048x256) ![1024, 0] S1024x256.size inb_S2048x256_S1024x256_1024_0, k0_pay4 (runFirst.sl.v25 (F := Ideal) c arg1 harg1 arg2 harg2 arg9 x0 x1) (runFirst.sl.r (F := Ideal) c arg1 harg1 arg2 harg2 arg3 harg3 arg9 x0 x1 x2) (arg4.view.readAt (Elt Ideal) (Rect.unit (s := S256x1024) ![0, 0] S256x1024.size inb_S256x1024_S256x1024_0_0).toLoadRect (harg4.unread x3))⟩, ⟨Rect.unit (s := S2048x256) ![0, 0] S1024x256.size inb_S2048x256_S1024x256_0_0, k0_pay10 (runFirst.sl.v3 (F := Ideal) c arg1 harg1 arg2 harg2 arg9 x0 x1) (arg3.view.readAt (Elt Ideal) (Rect.unit (s := S256x1024) ![0, 0] S256x1024.size inb_S256x1024_S256x1024_0_0).toLoadRect (harg3.unread x2)) (arg4.view.readAt (Elt Ideal) (Rect.unit (s := S256x1024) ![0, 0] S256x1024.size inb_S256x1024_S256x1024_0_0).toLoadRect (harg4.unread x3))⟩] := by sl_kernel_rfl
  rw [e, gate1, cov1, cov0, readW, readW]

theorem later5 (h : ¬First i) : (runLater (F := Ideal) c i arg1 harg1 arg2 harg2 arg3 harg3 arg4 harg4 arg5 harg5 arg6 harg6 arg7 harg7 arg8 harg8 arg9 harg9 h x0 x1 x2 x3 xs).1 = pc5 xs x2 := by
  have e : (runLater (F := Ideal) c i arg1 harg1 arg2 harg2 arg3 harg3 arg4 harg4 arg5 harg5 arg6 harg6 arg7 harg7 arg8 harg8 arg9 harg9 h x0 x1 x2 x3 xs).1 = [⟨Rect.unit (s := S2048x256) ![1024, 0] S1024x256.size inb_S2048x256_S1024x256_1024_0, k0_pay2 (runLater.sl.r_1 (F := Ideal) c arg3 harg3 arg9 harg9 x2 xs)⟩, ⟨Rect.unit (s := S2048x256) ![0, 0] S1024x256.size inb_S2048x256_S1024x256_0_0, k0_pay8 (arg9.view.readAt (Elt Ideal) (Rect.unit (s := S2048x1024) ![0, 0] S1024x1024.size inb_S2048x1024_S1024x1024_0_0).toLoadRect (harg9.unread xs)) (arg3.view.readAt (Elt Ideal) (Rect.unit (s := S256x1024) ![0, 0] S256x1024.size inb_S256x1024_S256x1024_0_0).toLoadRect (harg3.unread x2))⟩] := by sl_kernel_rfl
  rw [e, later_gate1, later0, readW]

theorem later6 (h : ¬First i) : (runLater (F := Ideal) c i arg1 harg1 arg2 harg2 arg3 harg3 arg4 harg4 arg5 harg5 arg6 harg6 arg7 harg7 arg8 harg8 arg9 harg9 h x0 x1 x2 x3 xs).2.1 = pc6 xs x3 := by
  have e : (runLater (F := Ideal) c i arg1 harg1 arg2 harg2 arg3 harg3 arg4 harg4 arg5 harg5 arg6 harg6 arg7 harg7 arg8 harg8 arg9 harg9 h x0 x1 x2 x3 xs).2.1 = [⟨Rect.unit (s := S2048x256) ![1024, 0] S1024x256.size inb_S2048x256_S1024x256_1024_0, k0_pay3 (runLater.sl.r (F := Ideal) c arg9 harg9 xs) (arg4.view.readAt (Elt Ideal) (Rect.unit (s := S256x1024) ![0, 0] S256x1024.size inb_S256x1024_S256x1024_0_0).toLoadRect (harg4.unread x3))⟩, ⟨Rect.unit (s := S2048x256) ![0, 0] S1024x256.size inb_S2048x256_S1024x256_0_0, k0_pay9 (arg9.view.readAt (Elt Ideal) (Rect.unit (s := S2048x1024) ![0, 0] S1024x1024.size inb_S2048x1024_S1024x1024_0_0).toLoadRect (harg9.unread xs)) (arg4.view.readAt (Elt Ideal) (Rect.unit (s := S256x1024) ![0, 0] S256x1024.size inb_S256x1024_S256x1024_0_0).toLoadRect (harg4.unread x3))⟩] := by sl_kernel_rfl
  rw [e, later1, later0, readW]

theorem later7 (h : ¬First i) : (runLater (F := Ideal) c i arg1 harg1 arg2 harg2 arg3 harg3 arg4 harg4 arg5 harg5 arg6 harg6 arg7 harg7 arg8 harg8 arg9 harg9 h x0 x1 x2 x3 xs).2.2.1 = pc7 xs x2 x3 := by
  have e : (runLater (F := Ideal) c i arg1 harg1 arg2 harg2 arg3 harg3 arg4 harg4 arg5 harg5 arg6 harg6 arg7 harg7 arg8 harg8 arg9 harg9 h x0 x1 x2 x3 xs).2.2.1 = [⟨Rect.unit (s := S2048x256) ![1024, 0] S1024x256.size inb_S2048x256_S1024x256_1024_0, k0_pay4 (runLater.sl.r (F := Ideal) c arg9 harg9 xs) (runLater.sl.r_1 (F := Ideal) c arg3 harg3 arg9 harg9 x2 xs) (arg4.view.readAt (Elt Ideal) (Rect.unit (s := S256x1024) ![0, 0] S256x1024.size inb_S256x1024_S256x1024_0_0).toLoadRect (harg4.unread x3))⟩, ⟨Rect.unit (s := S2048x256) ![0, 0] S1024x256.size inb_S2048x256_S1024x256_0_0, k0_pay10 (arg9.view.readAt (Elt Ideal) (Rect.unit (s := S2048x1024) ![0, 0] S1024x1024.size inb_S2048x1024_S1024x1024_0_0).toLoadRect (harg9.unread xs)) (arg3.view.readAt (Elt Ideal) (Rect.unit (s := S256x1024) ![0, 0] S256x1024.size inb_S256x1024_S256x1024_0_0).toLoadRect (harg3.unread x2)) (arg4.view.readAt (Elt Ideal) (Rect.unit (s := S256x1024) ![0, 0] S256x1024.size inb_S256x1024_S256x1024_0_0).toLoadRect (harg4.unread x3))⟩] := by sl_kernel_rfl
  rw [e, later_gate1, later1, later0, readW, readW]

end Body

variable (m : (ℓ : Loc nD τ sig) → Buf (Elt Ideal) ℓ) (c : Dev nD)

theorem val_lt (t : Fin cfg0.N) : t.val < 11 := lt_of_lt_of_eq t.isLt N_0

/-- The norm, as the first point takes it. -/
theorem norm : oS m c = k0_pay5 (iblk m c 0 t0) (iblk m c 1 t0) := by
  unfold oS
  rw [View.read_writes_junk_eq_canon]
  exact (congrArg View.canon (firstS (c := c) (i := grid0.coords t0) (arg1 := ms0_0 t0) (harg1 := hs0_0 t0) (arg2 := ms0_1 t0) (harg2 := hs0_1 t0) (arg3 := ms0_2 t0) (harg3 := hs0_2 t0) (arg4 := ms0_3 t0) (harg4 := hs0_3 t0) (arg5 := ms0_4 t0) (harg5 := hs0_4 t0) (arg6 := ms0_5 t0) (harg6 := hs0_5 t0) (arg7 := ms0_6 t0) (harg7 := hs0_6 t0) (arg8 := ms0_7 t0) (harg8 := hs0_7 t0) (arg9 := scr) (harg9 := Memref.isWhole_whole _) (x0 := iblk m c 0 t0) (x1 := iblk m c 1 t0) (x2 := iblk m c 2 t0) (x3 := iblk m c 3 t0) ((first_iff t0).mpr rfl))).trans (View.canon_unit_zero off0 _ _)

theorem normU : oU m c = k0_pay5 (iblk m c 0 t0) (iblk m c 1 t0) := by
  unfold oU
  rw [View.read_writes_junk_eq_canon]
  exact (congrArg View.canon (firstU (c := c) (i := grid0.coords t0) (arg1 := ms0_0 t0) (harg1 := hs0_0 t0) (arg2 := ms0_1 t0) (harg2 := hs0_1 t0) (arg3 := ms0_2 t0) (harg3 := hs0_2 t0) (arg4 := ms0_3 t0) (harg4 := hs0_3 t0) (arg5 := ms0_4 t0) (harg5 := hs0_4 t0) (arg6 := ms0_5 t0) (harg6 := hs0_5 t0) (arg7 := ms0_6 t0) (harg7 := hs0_6 t0) (arg8 := ms0_7 t0) (harg8 := hs0_7 t0) (arg9 := scr) (harg9 := Memref.isWhole_whole _) (x0 := iblk m c 0 t0) (x1 := iblk m c 1 t0) (x2 := iblk m c 2 t0) (x3 := iblk m c 3 t0) ((first_iff t0).mpr rfl))).trans (View.canon_unit_zero off0 _ _)

theorem val5 (t : Fin cfg0.N) : o5 m c t = View.canon (pc5 (oS m c) (iblk m c 2 t)) := by
  by_cases h0 : t.val % 11 = 0
  · obtain rfl : t = t0 := Fin.ext (show t.val = 0 by have := val_lt t; omega)
    rw [o5_A m c t0 h0, View.read_writes_junk_eq_canon, norm m c]
    exact congrArg View.canon (first5 (c := c) (i := grid0.coords t0) (arg1 := ms0_0 t0) (harg1 := hs0_0 t0) (arg2 := ms0_1 t0) (harg2 := hs0_1 t0) (arg3 := ms0_2 t0) (harg3 := hs0_2 t0) (arg4 := ms0_3 t0) (harg4 := hs0_3 t0) (arg5 := ms0_4 t0) (harg5 := hs0_4 t0) (arg6 := ms0_5 t0) (harg6 := hs0_5 t0) (arg7 := ms0_6 t0) (harg7 := hs0_6 t0) (arg8 := ms0_7 t0) (harg8 := hs0_7 t0) (arg9 := scr) (harg9 := Memref.isWhole_whole _) (x0 := iblk m c 0 t0) (x1 := iblk m c 1 t0) (x2 := iblk m c 2 t0) (x3 := iblk m c 3 t0) ((first_iff t0).mpr h0))
  · rw [o5_B m c t h0, View.read_writes_junk_eq_canon]
    exact congrArg View.canon (later5 (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := scr) (harg9 := Memref.isWhole_whole _) (x0 := iblk m c 0 t) (x1 := iblk m c 1 t) (x2 := iblk m c 2 t) (x3 := iblk m c 3 t) (xs := oS m c) (fun h => h0 ((first_iff t).mp h)))

theorem val6 (t : Fin cfg0.N) : o6 m c t = View.canon (pc6 (oS m c) (iblk m c 3 t)) := by
  by_cases h0 : t.val % 11 = 0
  · obtain rfl : t = t0 := Fin.ext (show t.val = 0 by have := val_lt t; omega)
    rw [o6_A m c t0 h0, View.read_writes_junk_eq_canon, norm m c]
    exact congrArg View.canon (first6 (c := c) (i := grid0.coords t0) (arg1 := ms0_0 t0) (harg1 := hs0_0 t0) (arg2 := ms0_1 t0) (harg2 := hs0_1 t0) (arg3 := ms0_2 t0) (harg3 := hs0_2 t0) (arg4 := ms0_3 t0) (harg4 := hs0_3 t0) (arg5 := ms0_4 t0) (harg5 := hs0_4 t0) (arg6 := ms0_5 t0) (harg6 := hs0_5 t0) (arg7 := ms0_6 t0) (harg7 := hs0_6 t0) (arg8 := ms0_7 t0) (harg8 := hs0_7 t0) (arg9 := scr) (harg9 := Memref.isWhole_whole _) (x0 := iblk m c 0 t0) (x1 := iblk m c 1 t0) (x2 := iblk m c 2 t0) (x3 := iblk m c 3 t0) ((first_iff t0).mpr h0))
  · rw [o6_B m c t h0, View.read_writes_junk_eq_canon]
    exact congrArg View.canon (later6 (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := scr) (harg9 := Memref.isWhole_whole _) (x0 := iblk m c 0 t) (x1 := iblk m c 1 t) (x2 := iblk m c 2 t) (x3 := iblk m c 3 t) (xs := oS m c) (fun h => h0 ((first_iff t).mp h)))

theorem val7 (t : Fin cfg0.N) : o7 m c t = View.canon (pc7 (oS m c) (iblk m c 2 t) (iblk m c 3 t)) := by
  by_cases h0 : t.val % 11 = 0
  · obtain rfl : t = t0 := Fin.ext (show t.val = 0 by have := val_lt t; omega)
    rw [o7_A m c t0 h0, View.read_writes_junk_eq_canon, norm m c]
    exact congrArg View.canon (first7 (c := c) (i := grid0.coords t0) (arg1 := ms0_0 t0) (harg1 := hs0_0 t0) (arg2 := ms0_1 t0) (harg2 := hs0_1 t0) (arg3 := ms0_2 t0) (harg3 := hs0_2 t0) (arg4 := ms0_3 t0) (harg4 := hs0_3 t0) (arg5 := ms0_4 t0) (harg5 := hs0_4 t0) (arg6 := ms0_5 t0) (harg6 := hs0_5 t0) (arg7 := ms0_6 t0) (harg7 := hs0_6 t0) (arg8 := ms0_7 t0) (harg8 := hs0_7 t0) (arg9 := scr) (harg9 := Memref.isWhole_whole _) (x0 := iblk m c 0 t0) (x1 := iblk m c 1 t0) (x2 := iblk m c 2 t0) (x3 := iblk m c 3 t0) ((first_iff t0).mpr h0))
  · rw [o7_B m c t h0, View.read_writes_junk_eq_canon]
    exact congrArg View.canon (later7 (c := c) (i := grid0.coords t) (arg1 := ms0_0 t) (harg1 := hs0_0 t) (arg2 := ms0_1 t) (harg2 := hs0_1 t) (arg3 := ms0_2 t) (harg3 := hs0_2 t) (arg4 := ms0_3 t) (harg4 := hs0_3 t) (arg5 := ms0_4 t) (harg5 := hs0_4 t) (arg6 := ms0_5 t) (harg6 := hs0_5 t) (arg7 := ms0_6 t) (harg7 := hs0_6 t) (arg8 := ms0_7 t) (harg8 := hs0_7 t) (arg9 := scr) (harg9 := Memref.isWhole_whole _) (x0 := iblk m c 0 t) (x1 := iblk m c 1 t) (x2 := iblk m c 2 t) (x3 := iblk m c 3 t) (xs := oS m c) (fun h => h0 ((first_iff t).mp h)))

/-! ## The blocks -/

theorem idx_0 (t : Fin grid0.N) : win0_0.index t 0 = 0 ∧ win0_0.index t 1 = 0 := by revert t; decide +kernel
theorem idx_1 (t : Fin grid0.N) : win0_1.index t 0 = 0 ∧ win0_1.index t 1 = 0 := by revert t; decide +kernel
theorem idx_2 (t : Fin grid0.N) : win0_2.index t 0 = t.val ∧ win0_2.index t 1 = 0 := by revert t; decide +kernel
theorem idx_3 (t : Fin grid0.N) : win0_3.index t 0 = t.val ∧ win0_3.index t 1 = 0 := by revert t; decide +kernel
theorem idx_5 (t : Fin grid0.N) : win0_5.index t 0 = 0 ∧ win0_5.index t 1 = t.val := by revert t; decide +kernel
theorem idx_6 (t : Fin grid0.N) : win0_6.index t 0 = 0 ∧ win0_6.index t 1 = t.val := by revert t; decide +kernel
theorem idx_7 (t : Fin grid0.N) : win0_7.index t 0 = 0 ∧ win0_7.index t 1 = t.val := by revert t; decide +kernel

theorem blk_0 {f : ℕ → ℕ → EReal} (h : IsE (a := 2048) (b := 1024) (φ := .f32) (V m c main_arg0) f) (t : Fin cfg0.N) :
    IsE (a := 2048) (b := 1024) (φ := .f32) (iblk m c 0 t) f :=
  h.all ((cfg0.win 0).blk t).view.emb (fun _ => rfl) (fun _ _ => ⟨rfl, rfl⟩) (idx_0 t)

theorem blk_1 {f : ℕ → ℕ → EReal} (h : IsE (a := 1) (b := 1024) (φ := .f32) (V m c main_arg1) f) (t : Fin cfg0.N) :
    IsE (a := 1) (b := 1024) (φ := .f32) (iblk m c 1 t) f :=
  h.all ((cfg0.win 1).blk t).view.emb (fun _ => rfl) (fun _ _ => ⟨rfl, rfl⟩) (idx_1 t)

theorem blk_2 {f : ℕ → ℕ → EReal} (h : IsE (a := 2816) (b := 1024) (φ := .bf16) (V m c main_v1) f) (t : Fin cfg0.N) :
    IsE (a := 256) (b := 1024) (φ := .bf16) (iblk m c 2 t) fun r l => f (256 * t.val + r) l :=
  h.rows ((cfg0.win 2).blk t).view.emb (fun _ => rfl) (fun _ _ => ⟨rfl, rfl⟩) (idx_2 t)

theorem blk_3 {f : ℕ → ℕ → EReal} (h : IsE (a := 2816) (b := 1024) (φ := .bf16) (V m c main_v3) f) (t : Fin cfg0.N) :
    IsE (a := 256) (b := 1024) (φ := .bf16) (iblk m c 3 t) fun r l => f (256 * t.val + r) l :=
  h.rows ((cfg0.win 3).blk t).view.emb (fun _ => rfl) (fun _ _ => ⟨rfl, rfl⟩) (idx_3 t)

theorem inj_5 : ∀ t t' : Fin cfg0.N, win0_5.index t = win0_5.index t' → t = t' :=
  (by decide +kernel : ∀ t t' : Fin grid0.N, win0_5.index t = win0_5.index t' → t = t')

theorem flushed5 (t : Fin cfg0.N) : (dats m 0 c).flushed 5 t = (cfg0.win 5).cut (grid0.coords t) (o5 m c t) := by
  show (cfg0.win 5).cut (grid0.coords t) ((dats m 0 c).after 5 t) = _
  rw [after5]

theorem arr5 {f : ℕ → ℕ → EReal} (h : ∀ t : Fin cfg0.N, IsE (a := 2048) (b := 256) (φ := .bf16) (o5 m c t) fun r l => f r (256 * t.val + l)) :
    IsE (a := 2048) (b := 2816) (φ := .bf16) ((dats m 0 c).arrAt 5 cfg0.N) f :=
  IsE.of_cols (fun t => ((cfg0.win 5).blk t).view.emb)
    (fun t z => ((congrFun ((dats m 0 c).read_blk_arrAt_eq_flushed 5 (fun t t' _ _ hne => (cfg0.win 5).disjoint_blk fun h => hne (inj_5 t t' h)) cfg0.N t t.isLt (flush0_5 t)) z).trans (congrFun (flushed5 m c t) z)).symm)
    (fun _ _ _ => ⟨rfl, rfl⟩) idx_5 (congrArg (· * 256) N_0) h

theorem inj_6 : ∀ t t' : Fin cfg0.N, win0_6.index t = win0_6.index t' → t = t' :=
  (by decide +kernel : ∀ t t' : Fin grid0.N, win0_6.index t = win0_6.index t' → t = t')

theorem flushed6 (t : Fin cfg0.N) : (dats m 0 c).flushed 6 t = (cfg0.win 6).cut (grid0.coords t) (o6 m c t) := by
  show (cfg0.win 6).cut (grid0.coords t) ((dats m 0 c).after 6 t) = _
  rw [after6]

theorem arr6 {f : ℕ → ℕ → EReal} (h : ∀ t : Fin cfg0.N, IsE (a := 2048) (b := 256) (φ := .bf16) (o6 m c t) fun r l => f r (256 * t.val + l)) :
    IsE (a := 2048) (b := 2816) (φ := .bf16) ((dats m 0 c).arrAt 6 cfg0.N) f :=
  IsE.of_cols (fun t => ((cfg0.win 6).blk t).view.emb)
    (fun t z => ((congrFun ((dats m 0 c).read_blk_arrAt_eq_flushed 6 (fun t t' _ _ hne => (cfg0.win 6).disjoint_blk fun h => hne (inj_6 t t' h)) cfg0.N t t.isLt (flush0_6 t)) z).trans (congrFun (flushed6 m c t) z)).symm)
    (fun _ _ _ => ⟨rfl, rfl⟩) idx_6 (congrArg (· * 256) N_0) h

theorem inj_7 : ∀ t t' : Fin cfg0.N, win0_7.index t = win0_7.index t' → t = t' :=
  (by decide +kernel : ∀ t t' : Fin grid0.N, win0_7.index t = win0_7.index t' → t = t')

theorem flushed7 (t : Fin cfg0.N) : (dats m 0 c).flushed 7 t = (cfg0.win 7).cut (grid0.coords t) (o7 m c t) := by
  show (cfg0.win 7).cut (grid0.coords t) ((dats m 0 c).after 7 t) = _
  rw [after7]

theorem arr7 {f : ℕ → ℕ → EReal} (h : ∀ t : Fin cfg0.N, IsE (a := 2048) (b := 256) (φ := .bf16) (o7 m c t) fun r l => f r (256 * t.val + l)) :
    IsE (a := 2048) (b := 2816) (φ := .bf16) ((dats m 0 c).arrAt 7 cfg0.N) f :=
  IsE.of_cols (fun t => ((cfg0.win 7).blk t).view.emb)
    (fun t z => ((congrFun ((dats m 0 c).read_blk_arrAt_eq_flushed 7 (fun t t' _ _ hne => (cfg0.win 7).disjoint_blk fun h => hne (inj_7 t t' h)) cfg0.N t t.isLt (flush0_7 t)) z).trans (congrFun (flushed7 m c t) z)).symm)
    (fun _ _ _ => ⟨rfl, rfl⟩) idx_7 (congrArg (· * 256) N_0) h

theorem flushed4_eq (t : Fin cfg0.N) (hf : (cfg0.win 4).flush t = true) :
    (dats m 0 c).flushed 4 t = ((cfg0.win 4).blk t).view.read (Elt Ideal) (oU m c) := by
  have h3 : t.val = 10 := by have := (flush0_4 t).mp hf; have := val_lt t; omega
  obtain rfl : t = t0_10 := Fin.ext h3
  show (cfg0.win 4).cut (grid0.coords t0_10) ((dats m 0 c).after 4 t0_10) = _
  rw [after4]
  have hz' : (fun a => win0_4.index t0_10 a * main_v4_0.ty.shape.size a) = fun _ => 0 := funext fun a => by fin_cases a <;> decide
  exact (Memref.read_access_unit_zero (Elt Ideal) main_v4_0 hz' (fun a => by rw [congrFun hz' a]; simp) (oU m c)).symm

theorem arr4 : (dats m 0 c).arrAt 4 cfg0.N = oU m c :=
  (dats m 0 c).arrAt_eq_of_cover 4 (oU m c) (flushed4_eq m c) fun i =>
    ⟨t0_10, (flush0_4 t0_10).mpr rfl, by
      show i ∈ ((View.whole main_v4_0).slice (win0_4.rect t0_10)).set
      rw [View.set_slice_whole, Rect.mem_set_unit]
      intro a
      have h0 : (i 0 : Nat) < 2048 := (i 0).isLt
      have h1 : (i 1 : Nat) < 1024 := (i 1).isLt
      match a with
      | ⟨0, _⟩ => show win0_4.index t0_10 0 * win0_4.size 0 ≤ (i 0 : Nat) ∧ (i 0 : Nat) < win0_4.index t0_10 0 * win0_4.size 0 + win0_4.xsize (grid0.coords t0_10) 0
                  rw [show win0_4.index t0_10 0 * win0_4.size 0 = 0 from by decide +kernel, show win0_4.xsize (grid0.coords t0_10) 0 = 2048 from by decide +kernel]; omega
      | ⟨1, _⟩ => show win0_4.index t0_10 1 * win0_4.size 1 ≤ (i 1 : Nat) ∧ (i 1 : Nat) < win0_4.index t0_10 1 * win0_4.size 1 + win0_4.xsize (grid0.coords t0_10) 1
                  rw [show win0_4.index t0_10 1 * win0_4.size 1 = 0 from by decide +kernel, show win0_4.xsize (grid0.coords t0_10) 1 = 1024 from by decide +kernel]; omega⟩

/-! ## The host's lines: the two weights transposed -/

theorem host_1 {f : ℕ → ℕ → EReal} (h : IsE (a := 1024) (b := 2816) (φ := .f32) (m (c, Proc.devRef .tc main_arg2)) f) :
    IsE (a := 2816) (b := 1024) (φ := .bf16) (V m c main_v1) fun r l => f l r := by
  intro t d
  show StableHlo.after hostOps0 _ (Proc.devRef .tc main_v1) (ix2 t d) = _
  simp only [hostOps0]
  after_reads_at
  exact h d t

theorem host_3 {f : ℕ → ℕ → EReal} (h : IsE (a := 1024) (b := 2816) (φ := .f32) (m (c, Proc.devRef .tc main_arg3)) f) :
    IsE (a := 2816) (b := 1024) (φ := .bf16) (V m c main_v3) fun r l => f l r := by
  intro t d
  show StableHlo.after hostOps0 _ (Proc.devRef .tc main_v3) (ix2 t d) = _
  simp only [hostOps0]
  after_reads_at
  exact h d t

/-! ## The reference -/

section Ref
open Cert.Reference4Ideal.Read
variable {x0 : FVec Ideal ⟨2, ![2048, 1024]⟩ .f32} {x1 : FVec Ideal ⟨2, ![1, 1024]⟩ .f32} {x2 x3 : FVec Ideal ⟨2, ![1024, 2816]⟩ .f32} {f n g k : ℕ → ℕ → EReal}

/-- The norm of `f`'s rows, weighed by `n`. -/
def nu (f n : ℕ → ℕ → EReal) (r l : ℕ) : EReal := f r l * ir f r * n 0 l

/-- The product of a transposed right operand. -/
def pr (f g : ℕ → ℕ → EReal) : ℕ → ℕ → EReal := nt 1024 f fun r l => g l r

variable (h0 : IsE x0 f) (h1 : IsE x1 n) (h2 : IsE x2 g) (h3 : IsE x3 k)

include h0 in
theorem r7 (t : Fin 2048) : val_main_v7 (F := Ideal) x0 (ix2 t 0) = ir f t := by
  pointwise [val_main_v7, val_main_v6, val_main_v4, val_main_v2, val_main_v1, val_main_v0, val_main_v3, val_main_v5, val_main_cst, val_main_cst_0, val_main_cst_1]
  simp only [h0 t _, ir, Finset.sum_range]

include h0 h1

theorem r11 : IsE (a := 2048) (b := 1024) (φ := .f32) (val_main_v11 (F := Ideal) x0 x1) (nu f n) := by
  intro i j
  pointwise [val_main_v11, val_main_v9, val_main_v8, val_main_v10]
  rw [r7 h0, h0 i j, h1 0 j]
  rfl

theorem r16 : IsE (a := 2048) (b := 1024) (φ := .bf16) (val_main_v16 (F := Ideal) x0 x1) (nu f n) := by
  intro i j
  pointwise [val_main_v16]
  exact r11 h0 h1 i j

include h2 in
theorem r12 : IsE (a := 2048) (b := 2816) (φ := .f32) (val_main_v12 (F := Ideal) x0 x1 x2) (pr (nu f n) g) := by
  intro i j
  pointwise [val_main_v12]
  simp only [r11 h0 h1 i _, h2 _ j, pr, nt, Finset.sum_range]

include h3 in
theorem r13 : IsE (a := 2048) (b := 2816) (φ := .f32) (val_main_v13 (F := Ideal) x0 x1 x3) (pr (nu f n) k) := by
  intro i j
  pointwise [val_main_v13]
  simp only [r11 h0 h1 i _, h3 _ j, pr, nt, Finset.sum_range]

include h2 in
theorem r17 : IsE (a := 2048) (b := 2816) (φ := .bf16) (val_main_v17 (F := Ideal) x0 x1 x2) (pr (nu f n) g) := by
  intro i j
  pointwise [val_main_v17]
  exact r12 h0 h1 h2 i j

include h3 in
theorem r18 : IsE (a := 2048) (b := 2816) (φ := .bf16) (val_main_v18 (F := Ideal) x0 x1 x3) (pr (nu f n) k) := by
  intro i j
  pointwise [val_main_v18]
  exact r13 h0 h1 h3 i j

include h2 h3 in
theorem r19 : IsE (a := 2048) (b := 2816) (φ := .bf16) (val_main_v19 (F := Ideal) x0 x1 x2 x3) fun r l => sl (pr (nu f n) g r l) * pr (nu f n) k r l := by
  intro i j
  pointwise [val_main_v19, val_main_v15, val_main_v14, val_main_call0_v5, val_main_call0_v4, val_main_call0_v3, val_main_call0_v2, val_main_call0_v1, val_main_call0_v0, val_main_call0_cst, val_main_call0_cst_0]
  rw [r12 h0 h1 h2 i j, r13 h0 h1 h3 i j]
  unfold sl
  rw [zero_sub]

end Ref

/-! ## The kernel's results are the reference's -/

section Out
variable {f n g k : ℕ → ℕ → EReal}
  (h0 : IsE (a := 2048) (b := 1024) (φ := .f32) (m ((c : Thread nD τ).loc main_arg0)) f)
  (h1 : IsE (a := 1) (b := 1024) (φ := .f32) (m ((c : Thread nD τ).loc main_arg1)) n)
  (h2 : IsE (a := 1024) (b := 2816) (φ := .f32) (m ((c : Thread nD τ).loc main_arg2)) g)
  (h3 : IsE (a := 1024) (b := 2816) (φ := .f32) (m ((c : Thread nD τ).loc main_arg3)) k)

include h0 h1

theorem isU : IsE (a := 2048) (b := 1024) (φ := .bf16) (k0_pay5 (F := Ideal) (iblk m c 0 t0) (iblk m c 1 t0)) (nu f n) :=
  payU (blk_0 m c (fun r l => (congrFun (V_main_arg0 m c) (ix2 r l)).trans (h0 r l)) t0)
    (blk_1 m c (fun r l => (congrFun (V_main_arg1 m c) (ix2 r l)).trans (h1 r l)) t0)

theorem isS : IsE (a := 2048) (b := 1024) (φ := .bf16) (oS m c) (nu f n) := by
  intro r l
  rw [norm m c]
  exact isU m c h0 h1 r l

theorem is4 : IsE (a := 2048) (b := 1024) (φ := .bf16) ((dats m 0 c).arrAt 4 cfg0.N) (nu f n) := by
  intro r l
  rw [show (dats m 0 c).arrAt 4 cfg0.N = oU m c from arr4 m c, normU m c]
  exact isU m c h0 h1 r l

include h2 in
theorem is5 : IsE (a := 2048) (b := 2816) (φ := .bf16) ((dats m 0 c).arrAt 5 cfg0.N) (pr (nu f n) g) :=
  arr5 m c fun t r l => (congrFun (val5 m c t) (ix2 r l)).trans (can5 (isS m c h0 h1) (blk_2 m c (host_1 m c h2) t) r l)

include h3 in
theorem is6 : IsE (a := 2048) (b := 2816) (φ := .bf16) ((dats m 0 c).arrAt 6 cfg0.N) (pr (nu f n) k) :=
  arr6 m c fun t r l => (congrFun (val6 m c t) (ix2 r l)).trans (can6 (isS m c h0 h1) (blk_3 m c (host_3 m c h3) t) r l)

include h2 h3 in
theorem is7 : IsE (a := 2048) (b := 2816) (φ := .bf16) ((dats m 0 c).arrAt 7 cfg0.N) fun r l => sl (pr (nu f n) g r l) * pr (nu f n) k r l :=
  arr7 m c (f := fun r l => sl (pr (nu f n) g r l) * pr (nu f n) k r l) fun t r l =>
    (congrFun (val7 m c t) (ix2 r l)).trans (can7 (isS m c h0 h1) (blk_2 m c (host_1 m c h2) t) (blk_3 m c (host_3 m c h3) t) r l)

end Out

theorem out4 : (dats m 0 c).arrAt 4 cfg0.N = Cert.Reference4Ideal.Read.val_main_v16 (F := Ideal) (m ((c : Thread nD τ).loc main_arg0)) (m ((c : Thread nD τ).loc main_arg1)) :=
  Cert.Mm.Final.same (a := 2048) (b := 1024) (φ := .bf16)
    (is4 m c (Cert.Mm.Final.ent_at (a := 2048) (b := 1024) (φ := .f32) (m ((c : Thread nD τ).loc main_arg0))) (Cert.Mm.Final.ent_at (a := 1) (b := 1024) (φ := .f32) (m ((c : Thread nD τ).loc main_arg1))))
    (r16 (Cert.Mm.Final.ent_at (a := 2048) (b := 1024) (φ := .f32) (m ((c : Thread nD τ).loc main_arg0))) (Cert.Mm.Final.ent_at (a := 1) (b := 1024) (φ := .f32) (m ((c : Thread nD τ).loc main_arg1))))

theorem out5 : (dats m 0 c).arrAt 5 cfg0.N = Cert.Reference4Ideal.Read.val_main_v17 (F := Ideal) (m ((c : Thread nD τ).loc main_arg0)) (m ((c : Thread nD τ).loc main_arg1)) (m ((c : Thread nD τ).loc main_arg2)) :=
  Cert.Mm.Final.same (a := 2048) (b := 2816) (φ := .bf16)
    (is5 m c (Cert.Mm.Final.ent_at (a := 2048) (b := 1024) (φ := .f32) (m ((c : Thread nD τ).loc main_arg0))) (Cert.Mm.Final.ent_at (a := 1) (b := 1024) (φ := .f32) (m ((c : Thread nD τ).loc main_arg1))) (Cert.Mm.Final.ent_at (a := 1024) (b := 2816) (φ := .f32) (m ((c : Thread nD τ).loc main_arg2))))
    (r17 (Cert.Mm.Final.ent_at (a := 2048) (b := 1024) (φ := .f32) (m ((c : Thread nD τ).loc main_arg0))) (Cert.Mm.Final.ent_at (a := 1) (b := 1024) (φ := .f32) (m ((c : Thread nD τ).loc main_arg1))) (Cert.Mm.Final.ent_at (a := 1024) (b := 2816) (φ := .f32) (m ((c : Thread nD τ).loc main_arg2))))

theorem out6 : (dats m 0 c).arrAt 6 cfg0.N = Cert.Reference4Ideal.Read.val_main_v18 (F := Ideal) (m ((c : Thread nD τ).loc main_arg0)) (m ((c : Thread nD τ).loc main_arg1)) (m ((c : Thread nD τ).loc main_arg3)) :=
  Cert.Mm.Final.same (a := 2048) (b := 2816) (φ := .bf16)
    (is6 m c (Cert.Mm.Final.ent_at (a := 2048) (b := 1024) (φ := .f32) (m ((c : Thread nD τ).loc main_arg0))) (Cert.Mm.Final.ent_at (a := 1) (b := 1024) (φ := .f32) (m ((c : Thread nD τ).loc main_arg1))) (Cert.Mm.Final.ent_at (a := 1024) (b := 2816) (φ := .f32) (m ((c : Thread nD τ).loc main_arg3))))
    (r18 (Cert.Mm.Final.ent_at (a := 2048) (b := 1024) (φ := .f32) (m ((c : Thread nD τ).loc main_arg0))) (Cert.Mm.Final.ent_at (a := 1) (b := 1024) (φ := .f32) (m ((c : Thread nD τ).loc main_arg1))) (Cert.Mm.Final.ent_at (a := 1024) (b := 2816) (φ := .f32) (m ((c : Thread nD τ).loc main_arg3))))

theorem out7 : (dats m 0 c).arrAt 7 cfg0.N = Cert.Reference4Ideal.Read.val_main_v19 (F := Ideal) (m ((c : Thread nD τ).loc main_arg0)) (m ((c : Thread nD τ).loc main_arg1)) (m ((c : Thread nD τ).loc main_arg2)) (m ((c : Thread nD τ).loc main_arg3)) :=
  Cert.Mm.Final.same (a := 2048) (b := 2816) (φ := .bf16)
    (is7 m c (Cert.Mm.Final.ent_at (a := 2048) (b := 1024) (φ := .f32) (m ((c : Thread nD τ).loc main_arg0))) (Cert.Mm.Final.ent_at (a := 1) (b := 1024) (φ := .f32) (m ((c : Thread nD τ).loc main_arg1))) (Cert.Mm.Final.ent_at (a := 1024) (b := 2816) (φ := .f32) (m ((c : Thread nD τ).loc main_arg2))) (Cert.Mm.Final.ent_at (a := 1024) (b := 2816) (φ := .f32) (m ((c : Thread nD τ).loc main_arg3))))
    (r19 (Cert.Mm.Final.ent_at (a := 2048) (b := 1024) (φ := .f32) (m ((c : Thread nD τ).loc main_arg0))) (Cert.Mm.Final.ent_at (a := 1) (b := 1024) (φ := .f32) (m ((c : Thread nD τ).loc main_arg1))) (Cert.Mm.Final.ent_at (a := 1024) (b := 2816) (φ := .f32) (m ((c : Thread nD τ).loc main_arg2))) (Cert.Mm.Final.ent_at (a := 1024) (b := 2816) (φ := .f32) (m ((c : Thread nD τ).loc main_arg3))))

/-- The run, with the results read. -/
theorem run (ρ : Dev nD → PrngReg) : θ_run defs (onTc (τ := τ) (main (F := Ideal))) ⟨m, fun _ => 0, ρ⟩ fun r => ∀ c : Dev nD,
      r.2.mem ((c.tc : Thread nD τ).loc main_v4_0) = (dats m 0 c).arrAt 4 cfg0.N
      ∧ r.2.mem ((c.tc : Thread nD τ).loc main_v4_1) = (dats m 0 c).arrAt 5 cfg0.N
      ∧ r.2.mem ((c.tc : Thread nD τ).loc main_v4_2) = (dats m 0 c).arrAt 6 cfg0.N
      ∧ r.2.mem ((c.tc : Thread nD τ).loc main_v4_3) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, (h.1 c).1 5, (h.1 c).1 6, (h.1 c).1 7, h.2 c⟩)
    (θ_run_and (run_main m ρ) (unchanged m ρ))

end Cert.InV

end
-- ==== Proof.Glu.lean ====
/-
  The gradient through the conformer's gated linear unit: what each block of rows computes, what the arrays hold, what the
  reference computes, and that the two results are the reference's.
-/
module

public import proofs.«01_k».proof.Proof.InVals
public import proofs.«01_k».proof.Proof.Gen.Kernel6.Frame
public import proofs.«01_k».proof.Proof.Gen.Kernel6Ideal.Value
public import proofs.«01_k».proof.Proof.Gen.Reference6Ideal.Read

@[expose] public section

set_option maxRecDepth 16384

noncomputable section

namespace Cert.Glu

open Cert.Kernel6Ideal Cert.Kernel6Ideal.Gen Cert.Kernel6Ideal.Value Idealize.ShloMosaic Idealize.ShloMosaic.TcCoe
open Idealize.ShloMosaic.Tactic
open Finset (range)
open Cert.Mm (IsE)

/-- The logistic function. -/
def sg (x : EReal) : EReal := Ideal.div 1 (1 + Ideal.exp (0 - x))

/-- The gradient that reaches the row's two halves: of the gated half and of the gate. -/
def dh (ct h : ℕ → ℕ → EReal) (r l : ℕ) : EReal :=
  if l < 1024 then ct r l * sg (h r (1024 + l)) else ct r (l - 1024) * h r (l - 1024) * sg (h r l) * (1 - sg (h r l))

/-! ## One block of rows -/

section
variable {x0 x1 x2 : Vec Ideal S256x1024 .f32} {ct h : ℕ → ℕ → EReal} {o : ℕ}
  (h0 : IsE (a := 256) (b := 1024) (φ := .f32) x0 fun r l => ct (o + r) l)
  (h1 : IsE (a := 256) (b := 1024) (φ := .f32) x1 fun r l => h (o + r) l)
  (h2 : IsE (a := 256) (b := 1024) (φ := .f32) x2 fun r l => h (o + r) (1024 + l))
include h0 h1 h2

theorem pay1 : IsE (a := 256) (b := 2048) (φ := .f32) (k0_pay1 (F := Ideal) x0 x1 x2) fun r l => dh ct h (o + r) l := by
  intro r l
  pointwise [k0_pay1]
  unfold dh
  by_cases hl : l.val < 1024
  · rw [if_pos hl]
    simp only [hl, dite_true, if_true, h0 r _, h2 r _, sg]
  · rw [if_neg hl]
    have e : 1024 + (l.val - 1024) = l.val := by omega
    simp only [hl, dite_false, if_false, h0 r _, h1 r _, h2 r _, sg, e]

theorem pay2 : IsE (a := 256) (b := 2048) (φ := .bf16) (k0_pay2 (F := Ideal) x0 x1 x2) fun r l => dh ct h (o + r) l := by
  intro r l
  refine Eq.trans ?_ (pay1 h0 h1 h2 r l)
  pointwise [k0_pay2]

theorem pay4 (y : Vec Ideal S1x2048 .f32) (l : Fin 2048) :
    k0_pay4 (F := Ideal) x0 x1 x2 y (ix2 0 l) = y (ix2 0 l) + ∑ r ∈ range 256, dh ct h (o + r) l := by
  pointwise [k0_pay4]
  simp only [pay1 h0 h1 h2 _ l, Finset.sum_range]

end

theorem pay3 (l : Fin 2048) : k0_pay3 (F := Ideal) (ix2 0 l) = 0 := by
  pointwise [k0_pay3]

/-! ## The operands' blocks -/

variable (m : (ℓ : Loc nD τ sig) → Buf (Elt Ideal) ℓ) (c : Dev nD)

theorem val_lt (t : Fin cfg0.N) : t.val < 8 := lt_of_lt_of_eq t.isLt N_0

theorem idx_0 (t : Fin grid0.N) : win0_0.index t 0 = t.val ∧ win0_0.index t 1 = 0 := by revert t; decide +kernel
theorem idx_1 (t : Fin grid0.N) : win0_1.index t 0 = t.val ∧ win0_1.index t 1 = 0 := by revert t; decide +kernel
theorem idx_2 (t : Fin grid0.N) : win0_2.index t 0 = t.val ∧ win0_2.index t 1 = 1 := by revert t; decide +kernel
theorem idx_3 (t : Fin grid0.N) : win0_3.index t 0 = t.val ∧ win0_3.index t 1 = 0 := by revert t; decide +kernel

theorem blk_0 {f : ℕ → ℕ → EReal} (h : IsE (a := 2048) (b := 1024) (φ := .f32) (V m c main_arg0) f) (t : Fin cfg0.N) :
    IsE (a := 256) (b := 1024) (φ := .f32) (iblk m c 0 t) fun r l => f (256 * t.val + r) l :=
  h.rows ((cfg0.win 0).blk t).view.emb (fun _ => rfl) (fun _ _ => ⟨rfl, rfl⟩) (idx_0 t)

theorem blk_1 {f : ℕ → ℕ → EReal} (h : IsE (a := 2048) (b := 2048) (φ := .f32) (V m c main_v1) f) (t : Fin cfg0.N) :
    IsE (a := 256) (b := 1024) (φ := .f32) (iblk m c 1 t) fun r l => f (256 * t.val + r) l :=
  h.rows ((cfg0.win 1).blk t).view.emb (fun _ => rfl) (fun _ _ => ⟨rfl, rfl⟩) (idx_1 t)

theorem blk_2 {f : ℕ → ℕ → EReal} (h : IsE (a := 2048) (b := 2048) (φ := .f32) (V m c main_v1) f) (t : Fin cfg0.N) :
    IsE (a := 256) (b := 1024) (φ := .f32) (iblk m c 2 t) fun r l => f (256 * t.val + r) (1024 + l) :=
  h.block (p := t.val) (q := 1) ((cfg0.win 2).blk t).view.emb (fun _ => rfl) (fun _ _ => ⟨rfl, rfl⟩) (idx_2 t)

/-! ## What the arrays hold -/

section
variable {ct h : ℕ → ℕ → EReal} (h0 : IsE (a := 2048) (b := 1024) (φ := .f32) (V m c main_arg0) ct)
  (h1 : IsE (a := 2048) (b := 2048) (φ := .f32) (V m c main_v1) h)
include h0 h1

theorem block (t : Fin cfg0.N) :
    IsE (a := 256) (b := 2048) (φ := .bf16) ((dats m 0 c).flushed 3 t) fun r l => dh ct h (256 * t.val + r) l := by
  have e := pay2 (blk_0 m c h0 t) (blk_1 m c h1 t) (blk_2 m c h1 t)
  show IsE (a := 256) (b := 2048) (φ := .bf16) ((dats m 0 c).after 3 t) _
  rw [after0_3]
  by_cases hz : t.val % 8 = 0
  · rw [outsAt0_A m c t hz]; frame_out; exact e
  · rw [outsAt0_B m c t hz]; frame_out; exact e

theorem arr3 : IsE (a := 2048) (b := 2048) (φ := .bf16) ((dats m 0 c).arrAt 3 cfg0.N) (dh ct h) :=
  IsE.of_rows (fun t => ((cfg0.win 3).blk t).view.emb) (fun t z => (congrFun (blocks3 m c t (flush0_3 t)) z).symm)
    (fun _ _ _ => ⟨rfl, rfl⟩) idx_3 (congrArg (· * 256) N_0) (block m c h0 h1)

/-- The bias's gradient over the points up to `n`. -/
theorem acc : ∀ (n : ℕ) (hn : n < cfg0.N) (l : Fin 2048), (outsAt0 m c n hn).2 (ix2 0 l)
    = ∑ s ∈ range (n + 1), ∑ r ∈ range 256, dh ct h (256 * s + r) l := by
  intro n
  induction n with
  | zero =>
    intro hn l
    have e := pay4 (blk_0 m c h0 ⟨0, hn⟩) (blk_1 m c h1 ⟨0, hn⟩) (blk_2 m c h1 ⟨0, hn⟩) (k0_pay3 (F := Ideal)) l
    rw [show outsAt0 m c 0 hn = _ from outsAt0_A m c ⟨0, hn⟩ rfl]
    frame_out
    rw [Finset.sum_range_one]
    refine e.trans ?_
    rw [pay3, zero_add]
  | succ n ih =>
    intro hn l
    have e := pay4 (blk_0 m c h0 ⟨n + 1, hn⟩) (blk_1 m c h1 ⟨n + 1, hn⟩) (blk_2 m c h1 ⟨n + 1, hn⟩) (outsAt0 m c n (Nat.lt_of_succ_lt hn)).2 l
    have h8 : n + 1 < 8 := lt_of_lt_of_eq hn N_0
    rw [show outsAt0 m c (n + 1) hn = _ from outsAt0_B m c ⟨n + 1, hn⟩ (by show ¬ (n + 1) % 8 = 0; omega)]
    frame_out
    rw [Finset.sum_range_succ _ (n + 1), ← ih (Nat.lt_of_succ_lt hn) l]
    exact e

/-- The last point. -/
abbrev last : Fin cfg0.N := ⟨7, by rw [show cfg0.N = 8 from N_0]; omega⟩

omit h0 h1 in
theorem flushed4_eq (t : Fin cfg0.N) (hf : (cfg0.win 4).flush t = true) :
    (dats m 0 c).flushed 4 t = ((cfg0.win 4).blk t).view.read (Elt Ideal) (outsAt0 m c last.val last.isLt).2 := by
  have h3 : t.val = 7 := by have := (flush0_4 t).mp hf; have := val_lt t; omega
  obtain rfl : t = last := Fin.ext h3
  show (dats m 0 c).after 4 last = _
  rw [after0_4]
  have hz' : (fun a => win0_4.index last a * main_v2_1.ty.shape.size a) = fun _ => 0 := funext fun a => by fin_cases a <;> decide
  exact (Memref.read_access_unit_zero (Elt Ideal) main_v2_1 hz' (fun a => by rw [congrFun hz' a]; simp) (outsAt0 m c last.val last.isLt).2).symm

omit h0 h1 in
theorem arr4_eq : (dats m 0 c).arrAt 4 cfg0.N = (outsAt0 m c last.val last.isLt).2 :=
  (dats m 0 c).arrAt_eq_of_cover 4 (outsAt0 m c last.val last.isLt).2 (flushed4_eq m c) fun i =>
    ⟨last, (flush0_4 last).mpr rfl, by
      show i ∈ ((View.whole main_v2_1).slice (win0_4.rect last)).set
      rw [View.set_slice_whole, Rect.mem_set_unit]
      intro a
      have h0 : (i 0 : Nat) < 1 := (i 0).isLt
      have h1 : (i 1 : Nat) < 2048 := (i 1).isLt
      match a with
      | ⟨0, _⟩ => show win0_4.index last 0 * win0_4.size 0 ≤ (i 0 : Nat) ∧ (i 0 : Nat) < win0_4.index last 0 * win0_4.size 0 + win0_4.xsize (grid0.coords last) 0
                  rw [show win0_4.index last 0 * win0_4.size 0 = 0 from by decide +kernel, show win0_4.xsize (grid0.coords last) 0 = 1 from by decide +kernel]; omega
      | ⟨1, _⟩ => show win0_4.index last 1 * win0_4.size 1 ≤ (i 1 : Nat) ∧ (i 1 : Nat) < win0_4.index last 1 * win0_4.size 1 + win0_4.xsize (grid0.coords last) 1
                  rw [show win0_4.index last 1 * win0_4.size 1 = 0 from by decide +kernel, show win0_4.xsize (grid0.coords last) 1 = 2048 from by decide +kernel]; omega⟩

omit h0 h1 in
/-- A sum over blocks of equal length is the sum over all. -/
theorem sum_blocks (b : ℕ) (f : ℕ → EReal) : ∀ n : ℕ, ∑ s ∈ range n, ∑ t ∈ range b, f (b * s + t) = ∑ t ∈ range (b * n), f t := by
  intro n
  induction n with
  | zero => simp
  | succ n ih => rw [Finset.sum_range_succ, ih, Nat.mul_succ, Finset.sum_range_add]

theorem arr4 : IsE (a := 1) (b := 2048) (φ := .f32) ((dats m 0 c).arrAt 4 cfg0.N) fun _ l => ∑ r ∈ range 2048, dh ct h r l := by
  intro z l
  obtain rfl : z = 0 := Subsingleton.elim _ _
  rw [show (dats m 0 c).arrAt 4 cfg0.N = (outsAt0 m c last.val last.isLt).2 from arr4_eq m c]
  refine (acc m c h0 h1 7 last.isLt l).trans ?_
  exact sum_blocks 256 (fun r => dh ct h r l) 8

end

/-! ## The row before the gate -/

theorem host {p b : ℕ → ℕ → EReal} (hp : IsE (a := 2048) (b := 2048) (φ := .f32) (m (c, Proc.devRef .tc main_arg1)) p)
    (hb : IsE (a := 1) (b := 2048) (φ := .f32) (m (c, Proc.devRef .tc main_arg2)) b) :
    IsE (a := 2048) (b := 2048) (φ := .f32) (V m c main_v1) fun r l => p r l + b 0 l := by
  intro r l
  show StableHlo.after hostOps0 _ (Proc.devRef .tc main_v1) (ix2 r l) = _
  simp only [hostOps0]
  after_reads_at
  pointwise
  rw [← hp r l]
  exact congrArg₂ (· + ·) rfl (hb 0 l)

/-! ## The reference -/

section
open Cert.Reference6Ideal.Read
variable {x0 : FVec Ideal ⟨2, ![2048, 1024]⟩ .f32} {x1 : FVec Ideal ⟨2, ![2048, 2048]⟩ .f32} {x2 : FVec Ideal ⟨2, ![1, 2048]⟩ .f32}
  {ct p b : ℕ → ℕ → EReal} (h0 : IsE x0 ct) (h1 : IsE x1 p) (h2 : IsE x2 b)
include h1 h2

theorem ref1 : IsE (a := 2048) (b := 2048) (φ := .f32) (val_main_v1 (F := Ideal) x1 x2) fun r l => p r l + b 0 l := by
  intro r l
  pointwise [val_main_v1, val_main_v0]
  rw [h1 r l, h2 0 l]
  rfl

theorem ref2 : IsE (a := 2048) (b := 1024) (φ := .f32) (val_main_v2 (F := Ideal) x1 x2) fun r l => p r l + b 0 l := by
  intro r l
  pointwise [val_main_v2]
  exact ref1 h1 h2 r ⟨l.val, by omega⟩

theorem ref9 : IsE (a := 2048) (b := 1024) (φ := .f32) (val_main_v9 (F := Ideal) x1 x2) fun r l => sg (p r (1024 + l) + b 0 (1024 + l)) := by
  intro r l
  pointwise [val_main_v9, val_main_v8, val_main_v7, val_main_v6, val_main_v5, val_main_v4, val_main_v3, val_main_cst, val_main_cst_0]
  have e := ref1 h1 h2 r ⟨1024 + l.val, by omega⟩
  simp only [sg, zero_sub]
  exact congrArg (fun a => Ideal.div 1 (1 + Ideal.exp (-a))) e

include h0

theorem ref17 : IsE (a := 2048) (b := 2048) (φ := .f32) (val_main_v17 (F := Ideal) x0 x1 x2) (dh ct fun r l => p r l + b 0 l) := by
  intro r l
  pointwise [val_main_v17, val_main_v16, val_main_v15, val_main_v14, val_main_v12, val_main_v11, val_main_v10, val_main_cst_1]
  unfold dh
  by_cases hl : l.val < 1024
  · rw [if_pos hl]
    simp only [hl, dite_true, if_true, h0 r _, ref9 h1 h2 r _]
  · rw [if_neg hl]
    have e : 1024 + (l.val - 1024) = l.val := by omega
    simp only [hl, dite_false, if_false, h0 r _, ref2 h1 h2 r _, ref9 h1 h2 r _, e]
    rw [mul_comm (p r (l.val - 1024) + b 0 (l.val - 1024)), mul_assoc, mul_assoc, mul_assoc]

theorem ref20 : IsE (a := 2048) (b := 2048) (φ := .bf16) (val_main_v20 (F := Ideal) x0 x1 x2) (dh ct fun r l => p r l + b 0 l) := by
  intro r l
  refine Eq.trans ?_ (ref17 h0 h1 h2 r l)
  pointwise [val_main_v20]

theorem ref19 : IsE (a := 1) (b := 2048) (φ := .f32) (val_main_v19 (F := Ideal) x0 x1 x2) fun _ l => ∑ r ∈ range 2048, dh ct (fun r l => p r l + b 0 l) r l := by
  intro z l
  pointwise [val_main_v19, val_main_v18, val_main_cst_2]
  simp only [ref17 h0 h1 h2 _ l, Finset.sum_range]

end

/-! ## The equations -/

theorem out3 : (dats m 0 c).arrAt 3 cfg0.N = Cert.Reference6Ideal.Read.val_main_v20 (F := Ideal) (m ((c : Thread nD τ).loc main_arg0))
    (m ((c : Thread nD τ).loc main_arg1)) (m ((c : Thread nD τ).loc main_arg2)) := by
  refine Cert.Mm.Final.same (a := 2048) (b := 2048) (φ := .bf16) (arr3 m c ?_ (host m c (fun r l => Cert.Mm.Final.ent_at _ r l) (fun r l => Cert.Mm.Final.ent_at _ r l)))
    (ref20 (fun r l => Cert.Mm.Final.ent_at _ r l) (fun r l => Cert.Mm.Final.ent_at _ r l) (fun r l => Cert.Mm.Final.ent_at _ r l))
  rw [V_main_arg0]
  exact fun r l => Cert.Mm.Final.ent_at _ r l

theorem out4 : (dats m 0 c).arrAt 4 cfg0.N = Cert.Reference6Ideal.Read.val_main_v19 (F := Ideal) (m ((c : Thread nD τ).loc main_arg0))
    (m ((c : Thread nD τ).loc main_arg1)) (m ((c : Thread nD τ).loc main_arg2)) := by
  refine Cert.Mm.Final.same (a := 1) (b := 2048) (φ := .f32) (arr4 m c ?_ (host m c (fun r l => Cert.Mm.Final.ent_at _ r l) (fun r l => Cert.Mm.Final.ent_at _ r l)))
    (ref19 (fun r l => Cert.Mm.Final.ent_at _ r l) (fun r l => Cert.Mm.Final.ent_at _ r l) (fun r l => Cert.Mm.Final.ent_at _ r l))
  rw [V_main_arg0]
  exact fun r l => Cert.Mm.Final.ent_at _ r l

end Cert.Glu
-- ==== Proof.Ln.lean ====
/-
  The gradient through the conformer's channel norm and silu: the norm's pullback on reals, what each block of rows computes, what
  the arrays hold, what the reference computes, and that the four results are the reference's.
-/
module

public import proofs.«01_k».proof.Proof.Glu
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Pre_tame7

@[expose] public section

set_option maxRecDepth 16384

noncomputable section

namespace Cert.Ln

open Cert.Kernel7Ideal Cert.Kernel7Ideal.Gen Cert.Kernel7Ideal.Value Idealize.ShloMosaic Idealize.ShloMosaic.TcCoe
open Idealize.ShloMosaic.Tactic
open Finset (range)
open Cert.Mm (IsE)
open Cert.KernelIdeal.Body (IsV coe_sum)
open Cert.Ffn (eps rr lg rr_real sq_real lg_real lg_neg div_real rsqrt_real c_1024 c_eps c_half)

/-! ## One row -/

/-- A row's mean. -/
def mean (x : ℕ → ℝ) : ℝ := (∑ k ∈ range 1024, x k) / 1024
/-- The row less its mean. -/
def xc (x : ℕ → ℝ) (d : ℕ) : ℝ := x d - mean x
/-- The row's variance and the small number. -/
def vv (x : ℕ → ℝ) : ℝ := (∑ k ∈ range 1024, xc x k * xc x k) / 1024 + eps

/-- The same three of a row that need not be finite. -/
def xe (x : ℕ → EReal) (d : ℕ) : EReal := x d - Ideal.div (∑ k ∈ range 1024, x k) ((1024 : ℝ) : EReal)
def ve (x : ℕ → EReal) : EReal := Ideal.div (∑ k ∈ range 1024, xe x k * xe x k) ((1024 : ℝ) : EReal) + ((eps : ℝ) : EReal)
def re (x : ℕ → EReal) : EReal := Ideal.rsqrt (ve x)

/-- The inverse root, and the normalised row: both are real, of every row. -/
def ir (x : ℕ → EReal) : ℝ := (re x).toReal
def xh (x : ℕ → EReal) (d : ℕ) : ℝ := (xe x d * re x).toReal
/-- The row that silu takes. -/
def nn (x : ℕ → EReal) (g : ℕ → ℝ) (b : ℕ → EReal) (d : ℕ) : EReal := ((xh x d * g d : ℝ) : EReal) + b d
/-- Silu's derivative. -/
def phi (n : EReal) : ℝ := (Cert.Glu.sg n * (1 + n * (1 - Cert.Glu.sg n))).toReal
/-- The gradient before silu. -/
def dn (y : ℕ → ℝ) (x : ℕ → EReal) (g : ℕ → ℝ) (b : ℕ → EReal) (d : ℕ) : ℝ := y d * phi (nn x g b d)
/-- The gradient before the scale. -/
def dxh (y : ℕ → ℝ) (x : ℕ → EReal) (g : ℕ → ℝ) (b : ℕ → EReal) (d : ℕ) : ℝ := dn y x g b d * g d
/-- The norm's pullback. -/
def pb (x : ℕ → EReal) (D : ℕ → ℝ) (d : ℕ) : ℝ := ir x * (D d - mean D - xh x d * mean fun k => D k * xh x k)
/-- The gradient of the row. -/
def dx (y : ℕ → ℝ) (x : ℕ → EReal) (g : ℕ → ℝ) (b : ℕ → EReal) : ℕ → ℝ := pb x (dxh y x g b)

theorem vv_pos (x : ℕ → ℝ) : 0 < vv x := by
  have h : 0 ≤ ∑ k ∈ range 1024, xc x k * xc x k := Finset.sum_nonneg fun k _ => mul_self_nonneg _
  have e : 0 < eps := by unfold eps; norm_num
  unfold vv; positivity

theorem sum_xc (x : ℕ → ℝ) : ∑ k ∈ range 1024, xc x k = 0 := by
  simp only [xc, Finset.sum_sub_distrib, Finset.sum_const, Finset.card_range, nsmul_eq_mul, mean]
  push_cast
  ring

theorem coe_sum' (f : ℕ → ℝ) (n : ℕ) : ∑ k ∈ range n, ((f k : ℝ) : EReal) = ((∑ k ∈ range n, f k : ℝ) : EReal) := by
  rw [Finset.sum_range, Finset.sum_range, coe_sum]

/-- A finite row. -/
theorem good {x : ℕ → EReal} {f : ℕ → ℝ} (h : ∀ k < 1024, x k = ((f k : ℝ) : EReal)) :
    (∀ d < 1024, xe x d = ((xc f d : ℝ) : EReal)) ∧ ve x = ((vv f : ℝ) : EReal) ∧ re x = ((rr (xc f) : ℝ) : EReal) := by
  have e : ∀ d < 1024, xe x d = ((xc f d : ℝ) : EReal) := fun d hd => by
    rw [xe, Finset.sum_congr rfl (fun k hk => h k (Finset.mem_range.mp hk)), coe_sum', div_real _ (by norm_num), h d hd, ← EReal.coe_sub]
    rfl
  have v : ve x = ((vv f : ℝ) : EReal) := by
    rw [ve, Finset.sum_congr rfl (fun k hk => by rw [e k (Finset.mem_range.mp hk), ← EReal.coe_mul]), coe_sum', div_real _ (by norm_num), ← EReal.coe_add]
    rfl
  exact ⟨e, v, by rw [re, v, rsqrt_real (vv_pos f)]; rfl⟩

theorem div_top : Ideal.div (⊤ : EReal) ((1024 : ℝ) : EReal) = ⊤ := by
  rw [Ideal.div, if_neg (by exact_mod_cast (by norm_num : (1024 : ℝ) ≠ 0)), ← EReal.coe_inv, EReal.top_mul_coe_of_pos (by norm_num)]

theorem div_bot : Ideal.div (⊥ : EReal) ((1024 : ℝ) : EReal) = ⊥ := by
  rw [Ideal.div, if_neg (by exact_mod_cast (by norm_num : (1024 : ℝ) ≠ 0)), ← EReal.coe_inv, EReal.bot_mul_coe_of_pos (by norm_num)]

theorem sum_inf {x : ℕ → EReal} {n k : ℕ} (hk : k < n) (h : x k = ⊤ ∨ x k = ⊥) : ∑ k ∈ range n, x k = ⊤ ∨ ∑ k ∈ range n, x k = ⊥ := by
  rw [← Finset.add_sum_erase _ _ (Finset.mem_range.mpr hk)]
  generalize ∑ k ∈ (range n).erase k, x k = s
  rcases h with h | h <;> rw [h]
  · induction s with
    | bot => right; simp
    | coe s => left; simp
    | top => left; simp
  · right; simp

/-- Of a row with an infinite entry the normalised one is zero. -/
theorem bad {x : ℕ → EReal} {k : ℕ} (hk : k < 1024) (h : x k = ⊤ ∨ x k = ⊥) : ve x = ⊤ ∧ re x = 0 := by
  have e : ∀ d, xe x d * xe x d = ⊤ := fun d => by
    unfold xe
    generalize x d = z
    rcases sum_inf hk h with s | s <;> rw [s]
    · rw [div_top]; induction z <;> simp
    · rw [div_bot]; induction z <;> simp
  have v : ve x = ⊤ := by
    have s : ∑ k ∈ range 1024, xe x k * xe x k = ⊤ := by
      simp only [e]
      rw [Finset.sum_range_succ]
      have : ∀ n, (∑ _k ∈ range n, (⊤ : EReal)) ≠ ⊥ := fun n => by
        induction n with
        | zero => simp
        | succ n ih => rw [Finset.sum_range_succ, EReal.add_top_of_ne_bot ih]; simp
      exact EReal.add_top_of_ne_bot (this _)
    rw [ve, s, div_top, EReal.top_add_coe]
  exact ⟨v, by rw [re, v]; rfl⟩

theorem row (x : ℕ → EReal) : (∀ k < 1024, x k = (((x k).toReal : ℝ) : EReal)) ∨ ∃ k < 1024, x k = ⊤ ∨ x k = ⊥ := by
  by_cases h : ∃ k < 1024, x k = ⊤ ∨ x k = ⊥
  · exact .inr h
  · push Not at h
    exact .inl fun k hk => (EReal.coe_toReal (h k hk).1 (h k hk).2).symm

theorem re_real (x : ℕ → EReal) : re x = ((ir x : ℝ) : EReal) := by
  rw [ir]
  rcases row x with h | ⟨k, hk, h⟩
  · rw [(good h).2.2, EReal.toReal_coe]
  · rw [(bad hk h).2, EReal.toReal_zero, EReal.coe_zero]

theorem xh_real (x : ℕ → EReal) (d : Fin 1024) : xe x d * ((ir x : ℝ) : EReal) = ((xh x d : ℝ) : EReal) := by
  rw [← re_real, xh]
  rcases row x with h | ⟨k, hk, h⟩
  · rw [(good h).2.2, (good h).1 d d.isLt, ← EReal.coe_mul, EReal.toReal_coe]
  · rw [(bad hk h).2, mul_zero, EReal.toReal_zero, EReal.coe_zero]

/-- Half of what the variance's derivative gives, as it is written with the inverse root and the variance. -/
def half (x : ℕ → EReal) (D : ℕ → ℝ) : EReal :=
  Ideal.div ((∑ k ∈ range 1024, xe x k * ((D k : ℝ) : EReal)) * (((-(1 / 2) : ℝ) : EReal) * Ideal.div (re x) (ve x))) ((1024 : ℝ) : EReal)

/-- The two ways of writing the norm's pullback. -/
theorem pull (x : ℕ → EReal) (D : ℕ → ℝ) : ∃ q : ℕ → ℝ,
    (∀ d < 1024, ((D d : ℝ) : EReal) * re x + xe x d * half x D + half x D * xe x d = ((q d : ℝ) : EReal))
    ∧ ∀ d < 1024, q d + (∑ k ∈ range 1024, -q k) / 1024 = pb x D d := by
  rcases row x with h | ⟨k, hk, h⟩
  · obtain ⟨e, v, r⟩ := good h
    set f := fun k => (x k).toReal with hf
    have hv := vv_pos f
    have e3 : rr (xc f) / vv f = rr (xc f) * (rr (xc f) * rr (xc f)) := by
      have : rr (xc f) * rr (xc f) = (vv f)⁻¹ := by
        rw [show rr (xc f) = (√(vv f))⁻¹ from rfl, ← mul_inv, Real.mul_self_sqrt hv.le]
      rw [this, div_eq_mul_inv]
    obtain ⟨w, hw⟩ : ∃ w, w = (∑ k ∈ range 1024, xc f k * D k) * (-(1 / 2) * (rr (xc f) / vv f)) / 1024 := ⟨_, rfl⟩
    have hh : half x D = ((w : ℝ) : EReal) := by
      rw [half, Finset.sum_congr rfl (fun k hk => by rw [e k (Finset.mem_range.mp hk), ← EReal.coe_mul]), coe_sum', r, v, div_real _ hv.ne',
        ← EReal.coe_mul, ← EReal.coe_mul, div_real _ (by norm_num), hw]
    have hx : ∀ d < 1024, xh x d = xc f d * rr (xc f) := fun d hd => by rw [xh, e d hd, r, ← EReal.coe_mul, EReal.toReal_coe]
    refine ⟨fun d => D d * rr (xc f) + xc f d * w + w * xc f d, fun d hd => ?_, fun d hd => ?_⟩
    · rw [hh, e d hd, r, ← EReal.coe_mul, ← EReal.coe_mul, ← EReal.coe_mul, ← EReal.coe_add, ← EReal.coe_add]
    · have s : (∑ k ∈ range 1024, D k * xh x k) = (∑ k ∈ range 1024, xc f k * D k) * rr (xc f) := by
        rw [Finset.sum_mul]
        exact Finset.sum_congr rfl fun k hk => by rw [hx k (Finset.mem_range.mp hk)]; ring
      have t : ∑ k ∈ range 1024, -(D k * rr (xc f) + xc f k * w + w * xc f k) = -((∑ k ∈ range 1024, D k) * rr (xc f)) := by
        have u : ∀ k, -(D k * rr (xc f) + xc f k * w + w * xc f k) = -(D k * rr (xc f)) + -(2 * w) * xc f k := fun k => by ring
        simp only [u]
        rw [Finset.sum_add_distrib, ← Finset.mul_sum, sum_xc, mul_zero, add_zero, Finset.sum_neg_distrib, Finset.sum_mul]
      rw [t, pb, mean, mean, s, hx d hd, hw, e3, ir, r, EReal.toReal_coe]
      ring
  · obtain ⟨v, r⟩ := bad hk h
    have hh : half x D = 0 := by
      rw [half, v, r, show Ideal.div 0 ⊤ = 0 by rw [Ideal.div, if_neg (by simp), zero_mul], mul_zero, mul_zero, ← EReal.coe_zero, div_real _ (by norm_num), zero_div]
    refine ⟨fun _ => 0, fun d _ => ?_, fun d _ => ?_⟩
    · rw [hh, r, mul_zero, mul_zero, zero_mul, add_zero, add_zero, EReal.coe_zero]
    · rw [pb, ir, r]; simp

/-- The gradient of the row less its mean. -/
def dc (x : ℕ → EReal) (D : ℕ → ℝ) : ℕ → ℝ := (pull x D).choose

theorem sg_top : Cert.Glu.sg ⊤ = 1 := by simp [Cert.Glu.sg, Ideal.div]
theorem sg_bot : Cert.Glu.sg ⊥ = 0 := by
  have h : (1 : EReal) + ⊤ = ⊤ := EReal.coe_add_top 1
  simp [Cert.Glu.sg, Ideal.div, h]

/-- Silu's derivative as the one and as the other write it. -/
theorem silu (y : ℝ) (n : EReal) : (y : EReal) * (Cert.Glu.sg n * (1 + n * (1 - Cert.Glu.sg n))) = ((y * phi n : ℝ) : EReal)
    ∧ (y : EReal) * Cert.Glu.sg n + n * (y : EReal) * (Cert.Glu.sg n * (1 - Cert.Glu.sg n)) = ((y * phi n : ℝ) : EReal) := by
  induction n with
  | bot => simp [phi, sg_bot]
  | top =>
    have h : (1 : EReal) - 1 = 0 := by rw [← EReal.coe_one, ← EReal.coe_sub, sub_self, EReal.coe_zero]
    simp [phi, sg_top, h]
  | coe n =>
    have s : Cert.Glu.sg (n : EReal) = ((lg n : ℝ) : EReal) := lg_real n
    have p : phi n = lg n * (1 + n * (1 - lg n)) := by
      rw [phi, s, ← EReal.coe_one, ← EReal.coe_sub, ← EReal.coe_mul, ← EReal.coe_add, ← EReal.coe_mul, EReal.toReal_coe]
    rw [p, s, ← EReal.coe_one]
    simp only [← EReal.coe_sub, ← EReal.coe_mul, ← EReal.coe_add]
    refine ⟨trivial, congrArg _ (by ring)⟩

/-! ## One block of rows -/

section
variable {x0 x1 : FVec Ideal S256x1024 .f32} {x3 x4 : FVec Ideal S1x1024 .f32} {Y : ℕ → ℕ → ℝ} {C : ℕ → ℕ → EReal} {g : ℕ → ℝ} {b : ℕ → EReal}
  (h0 : IsV x0 Y) (h1 : IsE x1 C) (h3 : IsV x3 fun _ l => g l) (h4 : IsE x4 fun _ l => b l)
include h1

theorem pay2 : IsE (k0_pay2 (F := Ideal) x1) fun t => xe (C t) := by
  intro t d
  pointwise [k0_pay2]
  simp only [c_1024, h1 t _, xe, Finset.sum_range]

theorem pay3 (t : Fin 256) : k0_pay3 (F := Ideal) x1 (ix2 t 0) = ((ir (C t) : ℝ) : EReal) := by
  rw [← re_real]
  pointwise [k0_pay3]
  simp only [c_1024, c_eps, pay2 h1 t _, re, ve, Finset.sum_range]

theorem pay4 : IsV (k0_pay4 (F := Ideal) x1) fun t => xh (C t) := by
  intro t d
  pointwise [k0_pay4]
  rw [pay2 h1 t d, pay3 h1 t]
  exact xh_real _ d

include h0 h3 h4

theorem pay5 : IsV (k0_pay5 (F := Ideal) x0 x1 x3 x4) fun t => dn (Y t) (C t) g b := by
  intro t d
  pointwise [k0_pay5]
  rw [show k0_pay4 (F := Ideal) x1 (ix2 t d) * x3 (ix2 0 d) + x4 (ix2 0 d) = nn (C t) g b d by
    rw [pay4 h1 t d, h3 0 d, h4 0 d, ← EReal.coe_mul]; rfl, h0 t d]
  exact (silu _ _).1

theorem pay6 : IsV (k0_pay6 (F := Ideal) x3 (k0_pay3 x1) (k0_pay4 x1) (k0_pay5 x0 x1 x3 x4)) fun t => dx (Y t) (C t) g b := by
  intro t d
  pointwise [k0_pay6]
  rw [show (∑ x : Fin 1024, k0_pay5 (F := Ideal) x0 x1 x3 x4 (ix2 t x) * x3 (ix2 0 x)) = ((∑ k ∈ range 1024, dxh (Y t) (C t) g b k : ℝ) : EReal) by
      simp only [pay5 h0 h1 h3 h4 t _, h3 0 _, dxh, Finset.sum_range, coe_sum, EReal.coe_mul],
    show (∑ x : Fin 1024, k0_pay5 (F := Ideal) x0 x1 x3 x4 (ix2 t x) * x3 (ix2 0 x) * k0_pay4 (F := Ideal) x1 (ix2 t x))
      = ((∑ k ∈ range 1024, dxh (Y t) (C t) g b k * xh (C t) k : ℝ) : EReal) by
      simp only [pay5 h0 h1 h3 h4 t _, pay4 h1 t _, h3 0 _, dxh, Finset.sum_range, coe_sum, EReal.coe_mul]]
  rw [c_1024, div_real _ (by norm_num), div_real _ (by norm_num), pay5 h0 h1 h3 h4 t d, pay4 h1 t d, pay3 h1 t, h3 0 d]
  simp only [← EReal.coe_mul, ← EReal.coe_sub]
  rfl

end

/-! The three sums over the block's rows, added to what the points before left. -/

theorem pay11 {v w : FVec Ideal S256x1024 .f32} {f k : ℕ → ℕ → ℝ} (hv : IsV v f) (hw : IsV w k) (y : FVec Ideal S1x1024 .f32) (l : Fin 1024) :
    k0_pay11 (F := Ideal) v w y (ix2 0 l) = y (ix2 0 l) + ∑ r ∈ range 256, ((k r l * f r l : ℝ) : EReal) := by
  pointwise [k0_pay11]
  simp only [hv _ l, hw _ l, Finset.sum_range, EReal.coe_mul]

theorem pay12 {w : FVec Ideal S256x1024 .f32} {k : ℕ → ℕ → ℝ} (hw : IsV w k) (y : FVec Ideal S1x1024 .f32) (l : Fin 1024) :
    k0_pay12 (F := Ideal) w y (ix2 0 l) = y (ix2 0 l) + ∑ r ∈ range 256, ((k r l : ℝ) : EReal) := by
  pointwise [k0_pay12]
  simp only [hw _ l, Finset.sum_range]

theorem pay1 {w : FVec Ideal S256x1024 .f32} {k : ℕ → ℕ → EReal} (hw : IsE w k) (y : FVec Ideal S1x1024 .f32) (l : Fin 1024) :
    k0_pay1 (F := Ideal) (k0_pay7 w) y (ix2 0 l) = y (ix2 0 l) + ∑ r ∈ range 256, k r l := by
  pointwise [k0_pay1, k0_pay7]
  simp only [hw _ l, Finset.sum_range]

theorem pay8 (l : Fin 1024) : k0_pay8 (F := Ideal) (ix2 0 l) = 0 := by pointwise [k0_pay8]
theorem pay9 (l : Fin 1024) : k0_pay9 (F := Ideal) (ix2 0 l) = 0 := by pointwise [k0_pay9]
theorem pay10 (l : Fin 1024) : k0_pay10 (F := Ideal) (ix2 0 l) = 0 := by pointwise [k0_pay10]

/-! ## The operands' blocks -/

variable (m : (ℓ : Loc nD τ sig) → Buf (Elt Ideal) ℓ) (c : Dev nD)

theorem val_lt (t : Fin cfg0.N) : t.val < 8 := lt_of_lt_of_eq t.isLt N_0

theorem idx_0 (t : Fin grid0.N) : win0_0.index t 0 = t.val ∧ win0_0.index t 1 = 0 := by revert t; decide +kernel
theorem idx_1 (t : Fin grid0.N) : win0_1.index t 0 = t.val ∧ win0_1.index t 1 = 0 := by revert t; decide +kernel
theorem idx_2 (t : Fin grid0.N) : win0_2.index t 0 = t.val ∧ win0_2.index t 1 = 0 := by revert t; decide +kernel
theorem idx_5 (t : Fin grid0.N) : win0_5.index t 0 = t.val ∧ win0_5.index t 1 = 0 := by revert t; decide +kernel
theorem idx_3 (t : Fin grid0.N) : win0_3.index t 0 = 0 ∧ win0_3.index t 1 = 0 := by revert t; decide +kernel
theorem idx_4 (t : Fin grid0.N) : win0_4.index t 0 = 0 ∧ win0_4.index t 1 = 0 := by revert t; decide +kernel

theorem blk_0 {f : ℕ → ℕ → EReal} (h : IsE (a := 2048) (b := 1024) (φ := .f32) (V m c main_arg0) f) (t : Fin cfg0.N) :
    IsE (a := 256) (b := 1024) (φ := .f32) (iblk m c 0 t) fun r l => f (256 * t.val + r) l :=
  h.rows ((cfg0.win 0).blk t).view.emb (fun _ => rfl) (fun _ _ => ⟨rfl, rfl⟩) (idx_0 t)

theorem blk_1 {f : ℕ → ℕ → EReal} (h : IsE (a := 2048) (b := 1024) (φ := .f32) (V m c main_arg1) f) (t : Fin cfg0.N) :
    IsE (a := 256) (b := 1024) (φ := .f32) (iblk m c 1 t) fun r l => f (256 * t.val + r) l :=
  h.rows ((cfg0.win 1).blk t).view.emb (fun _ => rfl) (fun _ _ => ⟨rfl, rfl⟩) (idx_1 t)

theorem blk_2 {f : ℕ → ℕ → EReal} (h : IsE (a := 2048) (b := 1024) (φ := .f32) (V m c main_arg2) f) (t : Fin cfg0.N) :
    IsE (a := 256) (b := 1024) (φ := .f32) (iblk m c 2 t) fun r l => f (256 * t.val + r) l :=
  h.rows ((cfg0.win 2).blk t).view.emb (fun _ => rfl) (fun _ _ => ⟨rfl, rfl⟩) (idx_2 t)

theorem blk_3 {f : ℕ → ℕ → EReal} (h : IsE (a := 1) (b := 1024) (φ := .f32) (V m c main_arg3) f) (t : Fin cfg0.N) :
    IsE (a := 1) (b := 1024) (φ := .f32) (iblk m c 3 t) f :=
  h.all ((cfg0.win 3).blk t).view.emb (fun _ => rfl) (fun _ _ => ⟨rfl, rfl⟩) (idx_3 t)

theorem blk_4 {f : ℕ → ℕ → EReal} (h : IsE (a := 1) (b := 1024) (φ := .f32) (V m c main_arg4) f) (t : Fin cfg0.N) :
    IsE (a := 1) (b := 1024) (φ := .f32) (iblk m c 4 t) f :=
  h.all ((cfg0.win 4).blk t).view.emb (fun _ => rfl) (fun _ _ => ⟨rfl, rfl⟩) (idx_4 t)

/-! ## What the arrays hold -/

/-- The last point. -/
abbrev last : Fin cfg0.N := ⟨7, by rw [show cfg0.N = 8 from N_0]; omega⟩

/-- The arguments that the norm and silu take: the gradient and the scale are real. -/
structure In (Y : ℕ → ℕ → ℝ) (C : ℕ → ℕ → EReal) (g : ℕ → ℝ) (b : ℕ → EReal) (x0 x1 : FVec Ideal ⟨2, ![2048, 1024]⟩ .f32) (x3 x4 : FVec Ideal ⟨2, ![1, 1024]⟩ .f32) : Prop where
  h0 : IsV x0 Y
  h1 : IsE x1 C
  h3 : IsV x3 fun _ l => g l
  h4 : IsE x4 fun _ l => b l

section
variable {Y : ℕ → ℕ → ℝ} {C : ℕ → ℕ → EReal} {g : ℕ → ℝ} {b : ℕ → EReal} {E : ℕ → ℕ → EReal} (H : In Y C g b (V m c main_arg0) (V m c main_arg1) (V m c main_arg3) (V m c main_arg4))
  (h2 : IsE (a := 2048) (b := 1024) (φ := .f32) (V m c main_arg2) E)
include H

theorem i0 (t : Fin cfg0.N) : IsV (a := 256) (b := 1024) (φ := .f32) (iblk m c 0 t) fun r => Y (256 * t.val + r) := blk_0 m c (f := fun t l => ((Y t l : ℝ) : EReal)) H.h0 t
theorem i1 (t : Fin cfg0.N) : IsE (a := 256) (b := 1024) (φ := .f32) (iblk m c 1 t) fun r => C (256 * t.val + r) := blk_1 m c H.h1 t
theorem i3 (t : Fin cfg0.N) : IsV (a := 1) (b := 1024) (φ := .f32) (iblk m c 3 t) fun _ l => g l := blk_3 m c (f := fun _ l => ((g l : ℝ) : EReal)) H.h3 t
theorem i4 (t : Fin cfg0.N) : IsE (a := 1) (b := 1024) (φ := .f32) (iblk m c 4 t) fun _ l => b l := blk_4 m c H.h4 t

theorem block (t : Fin cfg0.N) : IsV (a := 256) (b := 1024) (φ := .f32) ((dats m 0 c).flushed 5 t)
    fun r => dx (Y (256 * t.val + r)) (C (256 * t.val + r)) g b := by
  have e := pay6 (i0 m c H t) (i1 m c H t) (i3 m c H t) (i4 m c H t)
  show IsV (a := 256) (b := 1024) (φ := .f32) ((dats m 0 c).after 5 t) _
  rw [after0_5]
  by_cases hz : t.val % 8 = 0
  · rw [outsAt0_A m c t hz]; frame_out; exact e
  · rw [outsAt0_B m c t hz]; frame_out; exact e

theorem arr5 : IsV (a := 2048) (b := 1024) (φ := .f32) ((dats m 0 c).arrAt 5 cfg0.N) fun r => dx (Y r) (C r) g b :=
  IsE.of_rows (f := fun r l => ((dx (Y r) (C r) g b l : ℝ) : EReal)) (fun t => ((cfg0.win 5).blk t).view.emb) (fun t z => (congrFun (blocks5 m c t (flush0_5 t)) z).symm)
    (fun _ _ _ => ⟨rfl, rfl⟩) idx_5 (congrArg (· * 256) N_0) (block m c H)

omit H in
/-- What the carried blocks hold after the last point. -/
theorem carried {Z : ∀ n, n < cfg0.N → FVec Ideal S1x1024 .f32} {F : ℕ → ℕ → EReal}
    (h0 : ∀ hn l, Z 0 hn (ix2 0 l) = ∑ r ∈ range 256, F (256 * 0 + r) l)
    (hs : ∀ n hn l, Z (n + 1) hn (ix2 0 l) = Z n (Nat.lt_of_succ_lt hn) (ix2 0 l) + ∑ r ∈ range 256, F (256 * (n + 1) + r) l) :
    IsE (Z last.val last.isLt) fun _ l => ∑ r ∈ range 2048, F r l := by
  have h : ∀ n hn l, Z n hn (ix2 0 l) = ∑ s ∈ range (n + 1), ∑ r ∈ range 256, F (256 * s + r) l := fun n => by
    induction n with
    | zero => exact fun hn l => by rw [Finset.sum_range_one, h0]
    | succ n ih => exact fun hn l => by rw [hs, ih, Finset.sum_range_succ _ (n + 1)]
  intro z l
  obtain rfl : z = 0 := Subsingleton.elim _ _
  exact (h 7 last.isLt l).trans (Cert.Glu.sum_blocks 256 (fun r => F r l) 8)

omit H in
theorem pos_mod {n : ℕ} (hn : n + 1 < cfg0.N) : ¬ (n + 1) % 8 = 0 := by
  have h8 : n + 1 < 8 := lt_of_lt_of_eq hn N_0
  omega

omit H in
theorem arr6_eq : (dats m 0 c).arrAt 6 cfg0.N = (outsAt0 m c last.val last.isLt).2.1 :=
  (dats m 0 c).arrAt_eq_of_cover 6 (outsAt0 m c last.val last.isLt).2.1 (fun t hf => by
    have h3 : t.val = 7 := by have := (flush0_6 t).mp hf; have := val_lt t; omega
    obtain rfl : t = last := Fin.ext h3
    show (dats m 0 c).after 6 last = _
    rw [after0_6]
    have hz : (fun a => win0_6.index last a * main_v0_1.ty.shape.size a) = fun _ => 0 := funext fun a => by fin_cases a <;> decide
    exact (Memref.read_access_unit_zero (Elt Ideal) main_v0_1 hz (fun a => by rw [congrFun hz a]; simp) (outsAt0 m c last.val last.isLt).2.1).symm) fun i =>
    ⟨last, (flush0_6 last).mpr rfl, by
      show i ∈ ((View.whole main_v0_1).slice (win0_6.rect last)).set
      rw [View.set_slice_whole, Rect.mem_set_unit]
      have e : ∀ a : Fin 2, win0_6.index last a * win0_6.size a = 0 ∧ win0_6.xsize (grid0.coords last) a = main_v0_1.ty.shape.size a := by decide +kernel
      exact fun a => ⟨(e a).1.le.trans (Nat.zero_le _), lt_of_lt_of_eq (i a).isLt ((congrArg₂ (· + ·) (e a).1 (e a).2).trans (zero_add _)).symm⟩⟩

/-- The gradient of the scale. -/
theorem arr6 : IsE (a := 1) (b := 1024) (φ := .f32) ((dats m 0 c).arrAt 6 cfg0.N) fun _ l => ∑ r ∈ range 2048, ((dn (Y r) (C r) g b l * xh (C r) l : ℝ) : EReal) := by
  rw [show (dats m 0 c).arrAt 6 cfg0.N = (outsAt0 m c last.val last.isLt).2.1 from arr6_eq m c]
  refine carried (Z := fun n hn => (outsAt0 m c n hn).2.1) (F := fun r l => ((dn (Y r) (C r) g b l * xh (C r) l : ℝ) : EReal)) (fun hn l => ?_) fun n hn l => ?_
  · have e := pay11 (pay4 (i1 m c H ⟨0, hn⟩)) (pay5 (i0 m c H ⟨0, hn⟩) (i1 m c H ⟨0, hn⟩) (i3 m c H ⟨0, hn⟩) (i4 m c H ⟨0, hn⟩)) (k0_pay8 (F := Ideal)) l
    rw [pay8, zero_add] at e
    rw [show outsAt0 m c 0 hn = _ from outsAt0_A m c ⟨0, hn⟩ rfl]
    frame_out
    exact e
  · have e := pay11 (pay4 (i1 m c H ⟨n + 1, hn⟩)) (pay5 (i0 m c H ⟨n + 1, hn⟩) (i1 m c H ⟨n + 1, hn⟩) (i3 m c H ⟨n + 1, hn⟩) (i4 m c H ⟨n + 1, hn⟩)) (outsAt0 m c n (Nat.lt_of_succ_lt hn)).2.1 l
    rw [show outsAt0 m c (n + 1) hn = _ from outsAt0_B m c ⟨n + 1, hn⟩ (pos_mod hn)]
    frame_out
    exact e

omit H in
theorem arr7_eq : (dats m 0 c).arrAt 7 cfg0.N = (outsAt0 m c last.val last.isLt).2.2.1 :=
  (dats m 0 c).arrAt_eq_of_cover 7 (outsAt0 m c last.val last.isLt).2.2.1 (fun t hf => by
    have h3 : t.val = 7 := by have := (flush0_7 t).mp hf; have := val_lt t; omega
    obtain rfl : t = last := Fin.ext h3
    show (dats m 0 c).after 7 last = _
    rw [after0_7]
    have hz : (fun a => win0_7.index last a * main_v0_2.ty.shape.size a) = fun _ => 0 := funext fun a => by fin_cases a <;> decide
    exact (Memref.read_access_unit_zero (Elt Ideal) main_v0_2 hz (fun a => by rw [congrFun hz a]; simp) (outsAt0 m c last.val last.isLt).2.2.1).symm) fun i =>
    ⟨last, (flush0_7 last).mpr rfl, by
      show i ∈ ((View.whole main_v0_2).slice (win0_7.rect last)).set
      rw [View.set_slice_whole, Rect.mem_set_unit]
      have e : ∀ a : Fin 2, win0_7.index last a * win0_7.size a = 0 ∧ win0_7.xsize (grid0.coords last) a = main_v0_2.ty.shape.size a := by decide +kernel
      exact fun a => ⟨(e a).1.le.trans (Nat.zero_le _), lt_of_lt_of_eq (i a).isLt ((congrArg₂ (· + ·) (e a).1 (e a).2).trans (zero_add _)).symm⟩⟩

/-- The gradient of the shift. -/
theorem arr7 : IsE (a := 1) (b := 1024) (φ := .f32) ((dats m 0 c).arrAt 7 cfg0.N) fun _ l => ∑ r ∈ range 2048, ((dn (Y r) (C r) g b l : ℝ) : EReal) := by
  rw [show (dats m 0 c).arrAt 7 cfg0.N = (outsAt0 m c last.val last.isLt).2.2.1 from arr7_eq m c]
  refine carried (Z := fun n hn => (outsAt0 m c n hn).2.2.1) (F := fun r l => ((dn (Y r) (C r) g b l : ℝ) : EReal)) (fun hn l => ?_) fun n hn l => ?_
  · have e := pay12 (pay5 (i0 m c H ⟨0, hn⟩) (i1 m c H ⟨0, hn⟩) (i3 m c H ⟨0, hn⟩) (i4 m c H ⟨0, hn⟩)) (k0_pay9 (F := Ideal)) l
    rw [pay9, zero_add] at e
    rw [show outsAt0 m c 0 hn = _ from outsAt0_A m c ⟨0, hn⟩ rfl]
    frame_out
    exact e
  · have e := pay12 (pay5 (i0 m c H ⟨n + 1, hn⟩) (i1 m c H ⟨n + 1, hn⟩) (i3 m c H ⟨n + 1, hn⟩) (i4 m c H ⟨n + 1, hn⟩)) (outsAt0 m c n (Nat.lt_of_succ_lt hn)).2.2.1 l
    rw [show outsAt0 m c (n + 1) hn = _ from outsAt0_B m c ⟨n + 1, hn⟩ (pos_mod hn)]
    frame_out
    exact e

omit H

theorem arr8_eq : (dats m 0 c).arrAt 8 cfg0.N = (outsAt0 m c last.val last.isLt).2.2.2 :=
  (dats m 0 c).arrAt_eq_of_cover 8 (outsAt0 m c last.val last.isLt).2.2.2 (fun t hf => by
    have h3 : t.val = 7 := by have := (flush0_8 t).mp hf; have := val_lt t; omega
    obtain rfl : t = last := Fin.ext h3
    show (dats m 0 c).after 8 last = _
    rw [after0_8]
    have hz : (fun a => win0_8.index last a * main_v0_3.ty.shape.size a) = fun _ => 0 := funext fun a => by fin_cases a <;> decide
    exact (Memref.read_access_unit_zero (Elt Ideal) main_v0_3 hz (fun a => by rw [congrFun hz a]; simp) (outsAt0 m c last.val last.isLt).2.2.2).symm) fun i =>
    ⟨last, (flush0_8 last).mpr rfl, by
      show i ∈ ((View.whole main_v0_3).slice (win0_8.rect last)).set
      rw [View.set_slice_whole, Rect.mem_set_unit]
      have e : ∀ a : Fin 2, win0_8.index last a * win0_8.size a = 0 ∧ win0_8.xsize (grid0.coords last) a = main_v0_3.ty.shape.size a := by decide +kernel
      exact fun a => ⟨(e a).1.le.trans (Nat.zero_le _), lt_of_lt_of_eq (i a).isLt ((congrArg₂ (· + ·) (e a).1 (e a).2).trans (zero_add _)).symm⟩⟩

include h2 in
/-- The gradient of the bias after. -/
theorem arr8 : IsE (a := 1) (b := 1024) (φ := .f32) ((dats m 0 c).arrAt 8 cfg0.N) fun _ l => ∑ r ∈ range 2048, E r l := by
  rw [show (dats m 0 c).arrAt 8 cfg0.N = (outsAt0 m c last.val last.isLt).2.2.2 from arr8_eq m c]
  refine carried (Z := fun n hn => (outsAt0 m c n hn).2.2.2) (F := fun r l => E r l) (fun hn l => ?_) fun n hn l => ?_
  · have e := pay1 (blk_2 m c h2 ⟨0, hn⟩) (k0_pay10 (F := Ideal)) l
    rw [pay10, zero_add] at e
    rw [show outsAt0 m c 0 hn = _ from outsAt0_A m c ⟨0, hn⟩ rfl]
    frame_out
    exact e
  · have e := pay1 (blk_2 m c h2 ⟨n + 1, hn⟩) (outsAt0 m c n (Nat.lt_of_succ_lt hn)).2.2.2 l
    rw [show outsAt0 m c (n + 1) hn = _ from outsAt0_B m c ⟨n + 1, hn⟩ (pos_mod hn)]
    frame_out
    exact e

end

/-! ## The reference -/

section
open Cert.Reference7Ideal.Read
variable {Y : ℕ → ℕ → ℝ} {C : ℕ → ℕ → EReal} {g : ℕ → ℝ} {b : ℕ → EReal} {E : ℕ → ℕ → EReal} {x0 x1 x2 : FVec Ideal ⟨2, ![2048, 1024]⟩ .f32} {x3 x4 : FVec Ideal ⟨2, ![1, 1024]⟩ .f32}
  (H : In Y C g b x0 x1 x3 x4) (h2 : IsE x2 E)
include H

theorem r5 : IsE (a := 2048) (b := 1024) (φ := .f32) (val_main_v5 (F := Ideal) x1) fun t => xe (C t) := by
  intro t d
  pointwise [val_main_v5, val_main_v4, val_main_v3, val_main_v2, val_main_v1, val_main_v0, val_main_cst, val_main_cst_0]
  simp only [c_1024, H.h1 t _, xe, Finset.sum_range]

theorem r12 (t : Fin 2048) : val_main_v12 (F := Ideal) x1 (ix2 t 0) = ve (C t) := by
  pointwise [val_main_v12, val_main_v11, val_main_v10, val_main_v9, val_main_v8, val_main_v7, val_main_v6, val_main_cst_1, val_main_cst_2, val_main_cst_3]
  simp only [c_1024, c_eps, r5 H t _, ve, Finset.sum_range]

theorem r13 (t : Fin 2048) : val_main_v13 (F := Ideal) x1 (ix2 t 0) = re (C t) := by
  pointwise [val_main_v13]
  rw [r12 H t, re]

theorem r18 : IsV (a := 2048) (b := 1024) (φ := .f32) (val_main_v18 (F := Ideal) x1) fun t => xh (C t) := by
  intro t d
  pointwise [val_main_v18, val_main_v17]
  rw [r5 H t d, r13 H t, re_real]
  exact xh_real _ d

theorem r22 : IsE (a := 2048) (b := 1024) (φ := .f32) (val_main_v22 (F := Ideal) x1 x3 x4) fun t => nn (C t) g b := by
  intro t d
  pointwise [val_main_v22, val_main_v21, val_main_v20, val_main_v19]
  rw [r18 H t d, H.h3 0 d, H.h4 0 d, ← EReal.coe_mul]
  rfl

theorem r23 : IsE (a := 2048) (b := 1024) (φ := .f32) (val_main_v23_2 (F := Ideal) x1 x3 x4) fun t d => Cert.Glu.sg (nn (C t) g b d) := by
  intro t d
  pointwise [val_main_v23_2, val_main_call0_v4, val_main_call0_cst_0, val_main_call0_v3, val_main_call0_v2, val_main_call0_cst, val_main_call0_v1, val_main_call0_v0]
  rw [r22 H t d, Cert.Glu.sg, zero_sub]

theorem r24 : IsV (a := 2048) (b := 1024) (φ := .f32) (val_main_v24 (F := Ideal) x0 x1 x3 x4) fun t => dn (Y t) (C t) g b := by
  intro t d
  pointwise [val_main_v24, val_main_call1_v1, val_main_call1_v2, val_main_call1_v0, val_main_v23_1, val_main_call0_v7, val_main_call0_v6, val_main_call0_cst_1]
  rw [H.h0 t d, r23 H t d, r22 H t d]
  exact (silu _ _).2

theorem r26 : IsE (a := 1) (b := 1024) (φ := .f32) (val_main_v26 (F := Ideal) x0 x1 x3 x4) fun _ l => ∑ r ∈ range 2048, ((dn (Y r) (C r) g b l : ℝ) : EReal) := by
  intro z l
  pointwise [val_main_v26, val_main_v25, val_main_cst_5]
  simp only [r24 H _ l, Finset.sum_range]

theorem r29 : IsE (a := 1) (b := 1024) (φ := .f32) (val_main_v29 (F := Ideal) x0 x1 x3 x4)
    fun _ l => ∑ r ∈ range 2048, ((dn (Y r) (C r) g b l * xh (C r) l : ℝ) : EReal) := by
  intro z l
  pointwise [val_main_v29, val_main_v28, val_main_v27, val_main_cst_6]
  simp only [r24 H _ l, r18 H _ l, ← EReal.coe_mul, Finset.sum_range]
  exact Finset.sum_congr rfl fun k _ => by rw [mul_comm]

theorem r31 : IsV (a := 2048) (b := 1024) (φ := .f32) (val_main_v31 (F := Ideal) x0 x1 x3 x4) fun t => dxh (Y t) (C t) g b := by
  intro t d
  pointwise [val_main_v31, val_main_v30]
  rw [r24 H t d, H.h3 0 d, ← EReal.coe_mul]
  rfl

theorem r39 (t : Fin 2048) : val_main_v39 (F := Ideal) x0 x1 x3 x4 (ix2 t 0) = half (C t) (dxh (Y t) (C t) g b) := by
  pointwise [val_main_v39, val_main_v38, val_main_cst_8, val_main_v37, val_main_v34, val_main_v33, val_main_cst_7, val_main_v32, val_main_v16, val_main_v15, val_main_cst_4, val_main_v14]
  simp only [r5 H t _, r31 H t _, r13 H t, r12 H t, c_half, c_1024, half, Finset.sum_range]

theorem r41 : IsE (a := 2048) (b := 1024) (φ := .f32) (val_main_v41 (F := Ideal) x0 x1 x3 x4) fun t _ => half (C t) (dxh (Y t) (C t) g b) := by
  intro t d
  pointwise [val_main_v41, val_main_v40, val_main_cst_9]
  simpa using r39 H t

theorem r45 : IsV (a := 2048) (b := 1024) (φ := .f32) (val_main_v45 (F := Ideal) x0 x1 x3 x4) fun t => dc (C t) (dxh (Y t) (C t) g b) := by
  intro t d
  pointwise [val_main_v45, val_main_v44, val_main_v43, val_main_v42, val_main_v36, val_main_v35]
  rw [r31 H t d, r13 H t, r5 H t d, r41 H t d]
  exact (pull _ _).choose_spec.1 d d.isLt

theorem r52 : IsV (a := 2048) (b := 1024) (φ := .f32) (val_main_v52 (F := Ideal) x0 x1 x3 x4) fun t _ => (∑ k ∈ range 1024, -dc (C t) (dxh (Y t) (C t) g b) k) / 1024 := by
  intro t d
  have e : val_main_v50 (F := Ideal) x0 x1 x3 x4 (ix2 t 0) = (((∑ k ∈ range 1024, -dc (C t) (dxh (Y t) (C t) g b) k) / 1024 : ℝ) : EReal) := by
    pointwise [val_main_v50, val_main_v49, val_main_cst_11, val_main_v48, val_main_v47, val_main_cst_10, val_main_v46]
    simp only [r45 H t _, ← EReal.coe_neg]
    rw [← Finset.sum_range (fun k => ((-dc (C t) (dxh (Y t) (C t) g b) k : ℝ) : EReal)), coe_sum', c_1024, div_real _ (by norm_num)]
  pointwise [val_main_v52, val_main_v51, val_main_cst_12]
  simpa using e

theorem r53 : IsV (a := 2048) (b := 1024) (φ := .f32) (val_main_v53 (F := Ideal) x0 x1 x3 x4) fun t => dx (Y t) (C t) g b := by
  intro t d
  pointwise [val_main_v53]
  rw [r45 H t d, r52 H t d, ← EReal.coe_add]
  exact congrArg _ ((pull _ _).choose_spec.2 d d.isLt)

omit H in
include h2 in
theorem r60 : IsE (a := 1) (b := 1024) (φ := .f32) (val_main_v60 (F := Ideal) x2) fun _ l => ∑ r ∈ range 2048, E r l := by
  intro z l
  pointwise [val_main_v60, val_main_v59, val_main_cst_15]
  simp only [h2 _ l, Finset.sum_range]

end

/-! ## The precondition -/

section
open Cert.Final (real_of_bit ent ent_at)
variable {x0 x1 x2 : FVec Ideal S2048x1024 .f32} {x3 x4 : FVec Ideal S1x1024 .f32}

/-- The precondition at one array of arguments. -/
def Tame (x0 x1 x2 : FVec Ideal S2048x1024 .f32) (x3 x4 : FVec Ideal S1x1024 .f32) : Prop := Cert.Pre_tame7.fn (F := Ideal) x0 x1 x2 x3 x4 = fun _ => 1#1

theorem pre0 (h : Tame x0 x1 x2 x3 x4) (t : Fin 2048) (l : Fin 1024) : x0 (ix2 t l) = (((x0 (ix2 t l)).toReal : ℝ) : EReal) := by
  have e := congrFun h (ix2 (⟨t.val, by omega⟩ : Fin 2049) l)
  pointwise [Cert.Pre_tame7.fn] at e
  exact real_of_bit e

theorem pre3 (h : Tame x0 x1 x2 x3 x4) (l : Fin 1024) : x3 (ix2 0 l) = (((x3 (ix2 0 l)).toReal : ℝ) : EReal) := by
  have e := congrFun h (ix2 (⟨2048, by omega⟩ : Fin 2049) l)
  pointwise [Cert.Pre_tame7.fn] at e
  exact real_of_bit e

theorem ins (h : Tame x0 x1 x2 x3 x4) : In (ent x0) (Cert.Mm.Final.ent x1) (ent x3 0) (Cert.Mm.Final.ent x4 0) x0 x1 x3 x4 where
  h0 := fun t l => by rw [pre0 h t l]; exact congrArg _ (ent_at x0 t l).symm
  h1 := fun t l => Cert.Mm.Final.ent_at _ t l
  h3 := fun z l => by
    obtain rfl : z = 0 := Subsingleton.elim _ _
    rw [pre3 h l]
    exact congrArg _ (ent_at x3 0 l).symm
  h4 := fun z l => by
    obtain rfl : z = 0 := Subsingleton.elim _ _
    exact Cert.Mm.Final.ent_at x4 0 l

end

/-! ## The equations -/

abbrev m0 : FVec Ideal S2048x1024 .f32 := m ((c.tc : Thread nD τ).loc main_arg0)
abbrev m1 : FVec Ideal S2048x1024 .f32 := m ((c.tc : Thread nD τ).loc main_arg1)
abbrev m2 : FVec Ideal S2048x1024 .f32 := m ((c.tc : Thread nD τ).loc main_arg2)
abbrev m3 : FVec Ideal S1x1024 .f32 := m ((c.tc : Thread nD τ).loc main_arg3)
abbrev m4 : FVec Ideal S1x1024 .f32 := m ((c.tc : Thread nD τ).loc main_arg4)

section
variable (hp : Tame (m0 m c) (m1 m c) (m2 m c) (m3 m c) (m4 m c))
include hp

theorem vins : In (Cert.Final.ent (m0 m c)) (Cert.Mm.Final.ent (m1 m c)) (Cert.Final.ent (m3 m c) 0) (Cert.Mm.Final.ent (m4 m c) 0)
    (V m c main_arg0) (V m c main_arg1) (V m c main_arg3) (V m c main_arg4) := by
  rw [V_main_arg0, V_main_arg1, V_main_arg3, V_main_arg4]
  exact ins hp

theorem out5 : (dats m 0 c).arrAt 5 cfg0.N = Cert.Reference7Ideal.Read.val_main_v53 (F := Ideal) (m0 m c) (m1 m c) (m3 m c) (m4 m c) :=
  Cert.Ffn.Final.same (a := 2048) (b := 1024) (φ := .f32) (arr5 m c (vins m c hp)) (r53 (ins hp))

theorem out6 : (dats m 0 c).arrAt 6 cfg0.N = Cert.Reference7Ideal.Read.val_main_v29 (F := Ideal) (m0 m c) (m1 m c) (m3 m c) (m4 m c) :=
  Cert.Mm.Final.same (a := 1) (b := 1024) (φ := .f32) (arr6 m c (vins m c hp)) (r29 (ins hp))

theorem out7 : (dats m 0 c).arrAt 7 cfg0.N = Cert.Reference7Ideal.Read.val_main_v26 (F := Ideal) (m0 m c) (m1 m c) (m3 m c) (m4 m c) :=
  Cert.Mm.Final.same (a := 1) (b := 1024) (φ := .f32) (arr7 m c (vins m c hp)) (r26 (ins hp))

end

theorem out8 : (dats m 0 c).arrAt 8 cfg0.N = Cert.Reference7Ideal.Read.val_main_v60 (F := Ideal) (m2 m c) := by
  refine Cert.Mm.Final.same (a := 1) (b := 1024) (φ := .f32) (arr8 m c ?_) (r60 (fun r l => Cert.Mm.Final.ent_at _ r l))
  rw [V_main_arg2]
  exact fun r l => Cert.Mm.Final.ent_at _ r l

end Cert.Ln
-- ==== Proof.lean ====
/-
  The certificate of seven programs of the training step. The state-space scan's gradient kernel: its
  frames, and that over the reals its four results are the reference's. Its parts are under Proof/: what the body computes
  (Mirror, RunBody, Lift, Points, PointOut), what the grid leaves (Grid, Arrays), what the reference computes (RefVal,
  RefVal2), what the host's lines leave (Host), the equations between the two (Alg, Alg2, Alg3) and the precondition (Final).
  The feed-forward layer's backward pass, seven kernel calls: the same claims of its six results. Its parts are FfnBase
  (the real model and each call's arithmetic), FfnBlocks and FfnRegions (what each call leaves), FfnHost, FfnRun (the
  calls in a row), FfnRef (the reference) and FfnFinal (the precondition).
  The mixers' matrix products, twelve calls, with the norm before them: the same claims of their thirteen results, with no
  precondition. Its parts are MmBase (each call's arithmetic), MmBlocks (what each call leaves), MmHost, MmRun (the calls in a row)
  and MmFinal (the reference and the equalities).
  One more product, whose sum is split over two grid points: the same claims, with no precondition, in DuFinal.
  The feed-forward layer's input, a norm, two products and the gated product in one call: the same claims of its four results, with
  no precondition. Its parts are InRun and InRunI (the runs as compiled and over the reals) and InVals (the results and the reference).
  The gradient through the conformer's gated linear unit: the same claims of its two results, with no precondition, in Glu.
  The gradient through the conformer's channel norm and silu: the same claims of its four results, with a finite
  gradient and scale, in Ln.
-/
module

public import proofs.«01_k».proof.Defs
public import proofs.«01_k».proof.Proof.Gen.Kernel.Frame
public import proofs.«01_k».proof.Proof.Gen.Kernel2.Frame
public import proofs.«01_k».proof.Proof.Gen.Pre_tame
public import proofs.«01_k».proof.Proof.Gen.KernelIdeal.Value
public import proofs.«01_k».proof.Proof.Gen.ReferenceIdeal.Read
public import proofs.«01_k».proof.Proof.Final
public import proofs.«01_k».proof.Proof.FfnFinal
public import proofs.«01_k».proof.Proof.Gen.Kernel3.Frame
public import proofs.«01_k».proof.Proof.Ln

@[expose] public section

set_option maxRecDepth 16384

noncomputable section

namespace Cert.Proof

open Idealize.ShloMosaic Idealize.ShloMosaic.StableHlo

/-- The kernel as compiled terminates with its arguments unchanged and its counters at zero. -/
theorem frame_kernel : Cert.quiescent_Kernel (hKernel := Cert.Kernel.Gen.facts) := fun m ρ _ =>
  Cert.Kernel.Gen.frame m ρ

theorem frame_ideal : Cert.quiescent_KernelIdeal (hKernelIdeal := Cert.KernelIdeal.Gen.facts) := fun m ρ _ =>
  Cert.KernelIdeal.Gen.frame m ρ

theorem frame_ideal_tame : Cert.quiescent_KernelIdeal_pre_tame (hKernelIdeal := Cert.KernelIdeal.Gen.facts) (hPre_tame := Cert.Pre_tame.Gen.facts) := fun m ρ _ =>
  Cert.KernelIdeal.Gen.frame m ρ

/-- The reference writes none of its arguments, and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference_tame : Cert.quiescent_ReferenceIdeal_pre_tame (hReferenceIdeal := Cert.ReferenceIdeal.Gen.facts) (hPre_tame := Cert.Pre_tame.Gen.facts) :=
  fun m ρ _ => frame_reference m ρ (by trivial)

/-- Over the reals, on tame arguments, the four gradients are the reference's. -/
theorem algebraic : Cert.algebraic_KernelIdeal_ReferenceIdeal_pre_tame (hKernelIdeal := Cert.KernelIdeal.Gen.facts)
    (hReferenceIdeal := Cert.ReferenceIdeal.Gen.facts) (hPre_tame := Cert.Pre_tame.Gen.facts) := by
  intro m g m' g' hp ha
  refine ⟨fun c => Cert.ReferenceIdeal.Read.val_main_v165 (F := Ideal) (Cert.Final.m0 m c) (Cert.Final.m1 m c) (Cert.Final.m2 m c) (Cert.Final.m3 m c) (Cert.Final.m4 m c),
    fun c => Cert.ReferenceIdeal.Read.val_main_v166 (F := Ideal) (Cert.Final.m0 m c) (Cert.Final.m1 m c) (Cert.Final.m3 m c),
    fun c => Cert.ReferenceIdeal.Read.val_main_v167 (F := Ideal) (Cert.Final.m0 m c) (Cert.Final.m1 m c) (Cert.Final.m2 m c) (Cert.Final.m3 m c),
    fun c => Cert.ReferenceIdeal.Read.val_main_v73 (F := Ideal) (Cert.Final.m0 m c) (Cert.Final.m1 m c), ?_, ?_⟩
  · refine (θ_run Cert.KernelIdeal.defs _ _).mono (fun r h c => ?_) (Cert.KernelIdeal.Value.run_blocks (F := Ideal) m g)
    obtain ⟨h8, h9, h10, h11, hk⟩ := h c
    exact ⟨h8.trans (Cert.Final.out8 (hp c)), h9.trans (Cert.Final.out9 (hp c)), h10.trans (Cert.Final.out10 (hp c)),
      h11.trans (Cert.Final.out11 (hp c)), hk⟩
  · refine (θ_run Cert.ReferenceIdeal.defs _ _).mono (fun r h c => ?_) (Cert.ReferenceIdeal.Value.run (F := Ideal) m' g')
    obtain ⟨h8, h9, h10, h11, hk⟩ := h c
    obtain ⟨a0, a1, a2, a3, a4⟩ := ha c
    have b0 : launchContents m' c (Proc.devRef .tc Cert.ReferenceIdeal.main_arg0) = Cert.Final.m0 m c := a0
    have b1 : launchContents m' c (Proc.devRef .tc Cert.ReferenceIdeal.main_arg1) = Cert.Final.m1 m c := a1
    have b2 : launchContents m' c (Proc.devRef .tc Cert.ReferenceIdeal.main_arg2) = Cert.Final.m2 m c := a2
    have b3 : launchContents m' c (Proc.devRef .tc Cert.ReferenceIdeal.main_arg3) = Cert.Final.m3 m c := a3
    have b4 : launchContents m' c (Proc.devRef .tc Cert.ReferenceIdeal.main_arg4) = Cert.Final.m4 m c := a4
    refine ⟨h8.trans ((Cert.ReferenceIdeal.Read.val_main_v165_eq (launchContents m' c)).trans ?_),
      h9.trans ((Cert.ReferenceIdeal.Read.val_main_v166_eq (launchContents m' c)).trans ?_),
      h10.trans ((Cert.ReferenceIdeal.Read.val_main_v167_eq (launchContents m' c)).trans ?_),
      h11.trans ((Cert.ReferenceIdeal.Read.val_main_v73_eq (launchContents m' c)).trans ?_), hk⟩
    · rw [b0, b1, b2, b3, b4]
    · rw [b0, b1, b3]
    · rw [b0, b1, b2, b3]
    · rw [b0, b1]

/-! ## The feed-forward layer's backward pass -/

theorem frame_kernel2 : Cert.quiescent_Kernel2 (hKernel2 := Cert.Kernel2.Gen.facts) := fun m ρ _ =>
  Cert.Kernel2.Gen.frame m ρ

theorem frame_ideal2 : Cert.quiescent_Kernel2Ideal (hKernel2Ideal := Cert.Kernel2Ideal.Gen.facts) := fun m ρ _ =>
  Cert.Kernel2Ideal.Gen.frame m ρ

theorem frame_ideal2_tame : Cert.quiescent_Kernel2Ideal_pre_tame2 (hKernel2Ideal := Cert.Kernel2Ideal.Gen.facts) (hPre_tame2 := Cert.Pre_tame2.Gen.facts) := fun m ρ _ =>
  Cert.Kernel2Ideal.Gen.frame m ρ

theorem frame_reference2 : Cert.quiescent_Reference2Ideal (hReference2Ideal := Cert.Reference2Ideal.Gen.facts) := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

theorem frame_reference2_tame : Cert.quiescent_Reference2Ideal_pre_tame2 (hReference2Ideal := Cert.Reference2Ideal.Gen.facts) (hPre_tame2 := Cert.Pre_tame2.Gen.facts) :=
  fun m ρ _ => frame_reference2 m ρ (by trivial)

/-- Over the reals, on finite arguments, the layer's six gradients are the reference's. -/
theorem algebraic2 : Cert.algebraic_Kernel2Ideal_Reference2Ideal_pre_tame2 (hKernel2Ideal := Cert.Kernel2Ideal.Gen.facts)
    (hReference2Ideal := Cert.Reference2Ideal.Gen.facts) (hPre_tame2 := Cert.Pre_tame2.Gen.facts) := by
  intro m g m' g' hp ha
  refine ⟨fun c => Cert.Reference2Ideal.Read.val_main_v54 (F := Ideal) (Cert.Ffn.Final.m0 m c) (Cert.Ffn.Final.m1 m c) (Cert.Ffn.Final.m2 m c) (Cert.Ffn.Final.m3 m c) (Cert.Ffn.Final.m4 m c) (Cert.Ffn.Final.m5 m c),
    fun c => Cert.Reference2Ideal.Read.val_main_v55 (F := Ideal) (Cert.Ffn.Final.m0 m c) (Cert.Ffn.Final.m1 m c) (Cert.Ffn.Final.m2 m c) (Cert.Ffn.Final.m3 m c) (Cert.Ffn.Final.m4 m c) (Cert.Ffn.Final.m5 m c),
    fun c => Cert.Reference2Ideal.Read.val_main_v37 (F := Ideal) (Cert.Ffn.Final.m0 m c) (Cert.Ffn.Final.m1 m c) (Cert.Ffn.Final.m2 m c) (Cert.Ffn.Final.m3 m c) (Cert.Ffn.Final.m4 m c) (Cert.Ffn.Final.m5 m c),
    fun c => Cert.Reference2Ideal.Read.val_main_v57 (F := Ideal) (Cert.Ffn.Final.m0 m c) (Cert.Ffn.Final.m1 m c) (Cert.Ffn.Final.m2 m c) (Cert.Ffn.Final.m3 m c) (Cert.Ffn.Final.m4 m c) (Cert.Ffn.Final.m5 m c),
    fun c => Cert.Reference2Ideal.Read.val_main_v59 (F := Ideal) (Cert.Ffn.Final.m0 m c) (Cert.Ffn.Final.m1 m c) (Cert.Ffn.Final.m2 m c) (Cert.Ffn.Final.m3 m c) (Cert.Ffn.Final.m5 m c),
    fun c => Cert.Reference2Ideal.Read.val_main_v60 (F := Ideal) (Cert.Ffn.Final.m0 m c) (Cert.Ffn.Final.m1 m c) (Cert.Ffn.Final.m2 m c) (Cert.Ffn.Final.m3 m c) (Cert.Ffn.Final.m4 m c), ?_, ?_⟩
  · refine (θ_run Cert.Kernel2Ideal.defs _ _).mono (fun r h c => ?_) (Cert.Ffn.run m g)
    obtain ⟨h0, h1, h2, h3, h4, h5, hk⟩ := h c
    exact ⟨h0.trans (Cert.Ffn.Final.out_v32_0 m g c (hp c)), h1.trans (Cert.Ffn.Final.out_v32_1 m g c (hp c)), h2.trans (Cert.Ffn.Final.out_v32_2 m g c (hp c)), h3.trans (Cert.Ffn.Final.out_v30 m g c (hp c)), h4.trans (Cert.Ffn.Final.out_v31 m g c (hp c)), h5.trans (Cert.Ffn.Final.out_v26 m g c (hp c)), hk⟩
  · refine (θ_run Cert.Reference2Ideal.defs _ _).mono (fun r h c => ?_) (Cert.Reference2Ideal.Value.run (F := Ideal) m' g')
    obtain ⟨h0, h1, h2, h3, h4, h5, hk⟩ := h c
    obtain ⟨a0, a1, a2, a3, a4, a5⟩ := ha c
    refine ⟨h0.trans ((Cert.Reference2Ideal.Read.val_main_v54_eq m' c).trans ?_),
      h1.trans ((Cert.Reference2Ideal.Read.val_main_v55_eq m' c).trans ?_),
      h2.trans ((Cert.Reference2Ideal.Read.val_main_v37_eq m' c).trans ?_),
      h3.trans ((Cert.Reference2Ideal.Read.val_main_v57_eq m' c).trans ?_),
      h4.trans ((Cert.Reference2Ideal.Read.val_main_v59_eq _ _ _ _ _ ).trans ?_),
      h5.trans ((Cert.Reference2Ideal.Read.val_main_v60_eq _ _ _ _ _ ).trans ?_), hk⟩
    · rw [a0, a1, a2, a3, a4, a5]
    · rw [a0, a1, a2, a3, a4, a5]
    · rw [a0, a1, a2, a3, a4, a5]
    · rw [a0, a1, a2, a3, a4, a5]
    · rw [a0, a1, a2, a3, a5]
    · rw [a0, a1, a2, a3, a4]

/-! ## The mixers' matrix products -/

theorem frame_kernel3 : Cert.quiescent_Kernel3 (hKernel3 := Cert.Kernel3.Gen.facts) := fun m ρ _ =>
  Cert.Kernel3.Gen.frame m ρ

theorem frame_ideal3 : Cert.quiescent_Kernel3Ideal (hKernel3Ideal := Cert.Kernel3Ideal.Gen.facts) := fun m ρ _ =>
  Cert.Kernel3Ideal.Gen.frame m ρ

theorem frame_reference3 : Cert.quiescent_Reference3Ideal (hReference3Ideal := Cert.Reference3Ideal.Gen.facts) := fun m ρ _ =>
  (θ_run Cert.Reference3Ideal.defs _ _).mono (fun r h => ⟨fun c => (h c).2.2.2.2.2.2.2.2.2.2.2.2.2, sem_eq_zero_of_no_sems (by decide) r.2⟩)
    (Cert.Reference3Ideal.Value.run (F := Ideal) m ρ)

/-- Over the reals the thirteen results are the reference's. -/
theorem algebraic3 : Cert.algebraic_Kernel3Ideal_Reference3Ideal (hKernel3Ideal := Cert.Kernel3Ideal.Gen.facts)
    (hReference3Ideal := Cert.Reference3Ideal.Gen.facts) := by
  intro m g m' g' _ ha
  refine ⟨fun c => Cert.Reference3Ideal.Read.val_main_v35 (F := Ideal) (Cert.Mm.Final.m0 m c) (Cert.Mm.Final.m1 m c),
    fun c => Cert.Reference3Ideal.Read.val_main_v12 (F := Ideal) (Cert.Mm.Final.m0 m c) (Cert.Mm.Final.m1 m c) (Cert.Mm.Final.m2 m c),
    fun c => Cert.Reference3Ideal.Read.val_main_v14 (F := Ideal) (Cert.Mm.Final.m0 m c) (Cert.Mm.Final.m3 m c) (Cert.Mm.Final.m4 m c),
    fun c => Cert.Reference3Ideal.Read.val_main_v28 (F := Ideal) (Cert.Mm.Final.m4 m c) (Cert.Mm.Final.m5 m c),
    fun c => Cert.Reference3Ideal.Read.val_main_v36 (F := Ideal) (Cert.Mm.Final.m3 m c) (Cert.Mm.Final.m5 m c),
    fun c => Cert.Reference3Ideal.Read.val_main_v37 (F := Ideal) (Cert.Mm.Final.m0 m c) (Cert.Mm.Final.m1 m c) (Cert.Mm.Final.m6 m c),
    fun c => Cert.Reference3Ideal.Read.val_main_v17 (F := Ideal) (Cert.Mm.Final.m0 m c) (Cert.Mm.Final.m1 m c) (Cert.Mm.Final.m7 m c) (Cert.Mm.Final.m8 m c),
    fun c => Cert.Reference3Ideal.Read.val_main_v21 (F := Ideal) (Cert.Mm.Final.m0 m c) (Cert.Mm.Final.m9 m c) (Cert.Mm.Final.m10 m c) (Cert.Mm.Final.m11 m c),
    fun c => Cert.Reference3Ideal.Read.val_main_v34 (F := Ideal) (Cert.Mm.Final.m5 m c) (Cert.Mm.Final.m10 m c),
    fun c => Cert.Reference3Ideal.Read.val_main_v38 (F := Ideal) (Cert.Mm.Final.m5 m c) (Cert.Mm.Final.m9 m c),
    fun c => Cert.Reference3Ideal.Read.val_main_v31 (F := Ideal) (Cert.Mm.Final.m7 m c) (Cert.Mm.Final.m12 m c),
    fun c => Cert.Reference3Ideal.Read.val_main_v39 (F := Ideal) (Cert.Mm.Final.m0 m c) (Cert.Mm.Final.m1 m c) (Cert.Mm.Final.m12 m c),
    fun c => Cert.Reference3Ideal.Read.val_main_v23 (F := Ideal) (Cert.Mm.Final.m0 m c) (Cert.Mm.Final.m13 m c) (Cert.Mm.Final.m14 m c), ?_, ?_⟩
  · refine (θ_run Cert.Kernel3Ideal.defs _ _).mono (fun r h c => ?_) (Cert.Mm.run m g)
    obtain ⟨h0, h1, h2, h3, h4, h5, h6, h7, h8, h9, h10, h11, h12, hk⟩ := h c
    exact ⟨h0.trans (Cert.Mm.Final.out_v13 m g c),
      h1.trans (Cert.Mm.Final.out_v26 m g c),
      h2.trans (Cert.Mm.Final.out_v15 m g c),
      h3.trans (Cert.Mm.Final.out_v16 m g c),
      h4.trans (Cert.Mm.Final.out_v17 m g c),
      h5.trans (Cert.Mm.Final.out_v27 m g c),
      h6.trans (Cert.Mm.Final.out_v19 m g c),
      h7.trans (Cert.Mm.Final.out_v20 m g c),
      h8.trans (Cert.Mm.Final.out_v21 m g c),
      h9.trans (Cert.Mm.Final.out_v22 m g c),
      h10.trans (Cert.Mm.Final.out_v23 m g c),
      h11.trans (Cert.Mm.Final.out_v24 m g c),
      h12.trans (Cert.Mm.Final.out_v25 m g c), hk⟩
  · refine (θ_run Cert.Reference3Ideal.defs _ _).mono (fun r h c => ?_) (Cert.Reference3Ideal.Value.run (F := Ideal) m' g')
    obtain ⟨h0, h1, h2, h3, h4, h5, h6, h7, h8, h9, h10, h11, h12, hk⟩ := h c
    obtain ⟨a0, a1, a2, a3, a4, a5, a6, a7, a8, a9, a10, a11, a12, a13, a14⟩ := ha c
    refine ⟨h0.trans ((Cert.Reference3Ideal.Read.val_main_v35_eq _ _ ).trans ?_),
      h1.trans ((Cert.Reference3Ideal.Read.val_main_v12_eq _ _ _ ).trans ?_),
      h2.trans ((Cert.Reference3Ideal.Read.val_main_v14_eq _ _ _ ).trans ?_),
      h3.trans ((Cert.Reference3Ideal.Read.val_main_v28_eq _ _ ).trans ?_),
      h4.trans ((Cert.Reference3Ideal.Read.val_main_v36_eq _ _ ).trans ?_),
      h5.trans ((Cert.Reference3Ideal.Read.val_main_v37_eq _ _ _ ).trans ?_),
      h6.trans ((Cert.Reference3Ideal.Read.val_main_v17_eq _ _ _ _ ).trans ?_),
      h7.trans ((Cert.Reference3Ideal.Read.val_main_v21_eq _ _ _ _ ).trans ?_),
      h8.trans ((Cert.Reference3Ideal.Read.val_main_v34_eq _ _ ).trans ?_),
      h9.trans ((Cert.Reference3Ideal.Read.val_main_v38_eq _ _ ).trans ?_),
      h10.trans ((Cert.Reference3Ideal.Read.val_main_v31_eq _ _ ).trans ?_),
      h11.trans ((Cert.Reference3Ideal.Read.val_main_v39_eq _ _ _ ).trans ?_),
      h12.trans ((Cert.Reference3Ideal.Read.val_main_v23_eq _ _ _ ).trans ?_), hk⟩
    · rw [a0, a1]
    · rw [a0, a1, a2]
    · rw [a0, a3, a4]
    · rw [a4, a5]
    · rw [a3, a5]
    · rw [a0, a1, a6]
    · rw [a0, a1, a7, a8]
    · rw [a0, a9, a10, a11]
    · rw [a5, a10]
    · rw [a5, a9]
    · rw [a7, a12]
    · rw [a0, a1, a12]
    · rw [a0, a13, a14]

/-! ## The feed-forward layer's input -/

theorem frame_kernel4 : Cert.quiescent_Kernel4 (hKernel4 := Cert.Kernel4.Gen.facts) := fun m ρ _ =>
  Cert.Kernel4.In.frame m ρ

theorem frame_ideal4 : Cert.quiescent_Kernel4Ideal (hKernel4Ideal := Cert.Kernel4Ideal.Gen.facts) := fun m ρ _ =>
  Cert.Kernel4Ideal.In.frame m ρ

theorem frame_reference4 : Cert.quiescent_Reference4Ideal (hReference4Ideal := Cert.Reference4Ideal.Gen.facts) := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- Over the reals the four results are the reference's. -/
theorem algebraic4 : Cert.algebraic_Kernel4Ideal_Reference4Ideal (hKernel4Ideal := Cert.Kernel4Ideal.Gen.facts)
    (hReference4Ideal := Cert.Reference4Ideal.Gen.facts) := by
  intro m g m' g' _ ha
  refine ⟨fun c => Cert.Reference4Ideal.Read.val_main_v16 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    fun c => Cert.Reference4Ideal.Read.val_main_v17 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
    fun c => Cert.Reference4Ideal.Read.val_main_v18 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg3)),
    fun c => Cert.Reference4Ideal.Read.val_main_v19 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)), ?_, ?_⟩
  · refine (θ_run Cert.Kernel4Ideal.defs _ _).mono (fun r h c => ?_) (Cert.InV.run m g)
    obtain ⟨h0, h1, h2, h3, hk⟩ := h c
    exact ⟨h0.trans (Cert.InV.out4 m c), h1.trans (Cert.InV.out5 m c), h2.trans (Cert.InV.out6 m c), h3.trans (Cert.InV.out7 m c), hk⟩
  · refine (θ_run Cert.Reference4Ideal.defs _ _).mono (fun r h c => ?_) (Cert.Reference4Ideal.Value.run (F := Ideal) m' g')
    obtain ⟨h0, h1, h2, h3, hk⟩ := h c
    obtain ⟨a0, a1, a2, a3⟩ := ha c
    refine ⟨h0.trans ((Cert.Reference4Ideal.Read.val_main_v16_eq _ _).trans ?_),
      h1.trans ((Cert.Reference4Ideal.Read.val_main_v17_eq _ _ _).trans ?_),
      h2.trans ((Cert.Reference4Ideal.Read.val_main_v18_eq _ _ _).trans ?_),
      h3.trans ((Cert.Reference4Ideal.Read.val_main_v19_eq _ _ _ _).trans ?_), hk⟩
    · rw [a0, a1]
    · rw [a0, a1, a2]
    · rw [a0, a1, a3]
    · rw [a0, a1, a2, a3]

/-! ## The gradient reaching a state-space mixer's input -/

theorem frame_kernel5 : Cert.quiescent_Kernel5 (hKernel5 := Cert.Kernel5.Gen.facts) := fun m ρ _ =>
  Cert.Kernel5.Gen.frame m ρ

theorem frame_ideal5 : Cert.quiescent_Kernel5Ideal (hKernel5Ideal := Cert.Kernel5Ideal.Gen.facts) := fun m ρ _ =>
  Cert.Kernel5Ideal.Gen.frame m ρ

theorem frame_reference5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the reals the result is the reference's. -/
theorem algebraic5 : Cert.algebraic_Kernel5Ideal_Reference5Ideal (hKernel5Ideal := Cert.Kernel5Ideal.Gen.facts)
    (hReference5Ideal := Cert.Reference5Ideal.Gen.facts) := by
  intro m g m' g' _ ha
  refine ⟨fun c => Cert.Reference5Ideal.Read.val_main_v2 (F := Ideal) (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (Cert.Du.out m c), (h c).2⟩) (Cert.Kernel5Ideal.Value.run_blocks m g)
  · refine (θ_run Cert.Reference5Ideal.defs _ _).mono (fun r h c => ?_) (Cert.Reference5Ideal.Value.run (F := Ideal) m' g')
    obtain ⟨h0, hk⟩ := h c
    obtain ⟨a0, a1⟩ := ha c
    refine ⟨h0.trans ((Cert.Reference5Ideal.Read.val_main_v2_eq _ _).trans ?_), hk⟩
    rw [a0, a1]

/-! ## The gradient through the gated linear unit -/

theorem frame_kernel6 : Cert.quiescent_Kernel6 (hKernel6 := Cert.Kernel6.Gen.facts) := fun m ρ _ =>
  Cert.Kernel6.Gen.frame m ρ

theorem frame_ideal6 : Cert.quiescent_Kernel6Ideal (hKernel6Ideal := Cert.Kernel6Ideal.Gen.facts) := fun m ρ _ =>
  Cert.Kernel6Ideal.Gen.frame m ρ

theorem frame_reference6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- Over the reals the two results are the reference's. -/
theorem algebraic6 : Cert.algebraic_Kernel6Ideal_Reference6Ideal (hKernel6Ideal := Cert.Kernel6Ideal.Gen.facts)
    (hReference6Ideal := Cert.Reference6Ideal.Gen.facts) := by
  intro m g m' g' _ ha
  refine ⟨fun c => Cert.Reference6Ideal.Read.val_main_v20 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)),
    fun c => Cert.Reference6Ideal.Read.val_main_v19 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · refine (θ_run Cert.Kernel6Ideal.defs _ _).mono (fun r h c => ?_) (Cert.Kernel6Ideal.Value.run_blocks m g)
    obtain ⟨h0, h1, hk⟩ := h c
    exact ⟨h0.trans (Cert.Glu.out3 m c), h1.trans (Cert.Glu.out4 m c), hk⟩
  · refine (θ_run Cert.Reference6Ideal.defs _ _).mono (fun r h c => ?_) (Cert.Reference6Ideal.Value.run (F := Ideal) m' g')
    obtain ⟨h0, h1, hk⟩ := h c
    obtain ⟨a0, a1, a2⟩ := ha c
    refine ⟨h0.trans ((Cert.Reference6Ideal.Read.val_main_v20_eq _ _ _).trans ?_),
      h1.trans ((Cert.Reference6Ideal.Read.val_main_v19_eq _ _ _).trans ?_), hk⟩
    · rw [a0, a1, a2]
    · rw [a0, a1, a2]

/-! ## The channel norm and silu -/

theorem frame_kernel7 : Cert.quiescent_Kernel7 (hKernel7 := Cert.Kernel7.Gen.facts) := fun m ρ _ =>
  Cert.Kernel7.Gen.frame m ρ

theorem frame_ideal7 : Cert.quiescent_Kernel7Ideal (hKernel7Ideal := Cert.Kernel7Ideal.Gen.facts) := fun m ρ _ =>
  Cert.Kernel7Ideal.Gen.frame m ρ

theorem frame_ideal7_tame : Cert.quiescent_Kernel7Ideal_pre_tame7 (hKernel7Ideal := Cert.Kernel7Ideal.Gen.facts) (hPre_tame7 := Cert.Pre_tame7.Gen.facts) := fun m ρ _ =>
  Cert.Kernel7Ideal.Gen.frame m ρ

theorem frame_reference7 : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

theorem frame_reference7_tame : Cert.quiescent_Reference7Ideal_pre_tame7 (hReference7Ideal := Cert.Reference7Ideal.Gen.facts) (hPre_tame7 := Cert.Pre_tame7.Gen.facts) :=
  fun m ρ _ => frame_reference7 m ρ (by trivial)

/-- Over the reals, with a finite gradient and scale, the four gradients are the reference's. -/
theorem algebraic7 : Cert.algebraic_Kernel7Ideal_Reference7Ideal_pre_tame7 (hKernel7Ideal := Cert.Kernel7Ideal.Gen.facts)
    (hReference7Ideal := Cert.Reference7Ideal.Gen.facts) (hPre_tame7 := Cert.Pre_tame7.Gen.facts) := by
  intro m g m' g' hp ha
  refine ⟨fun c => Cert.Reference7Ideal.Read.val_main_v53 (F := Ideal) (Cert.Ln.m0 m c) (Cert.Ln.m1 m c) (Cert.Ln.m3 m c) (Cert.Ln.m4 m c),
    fun c => Cert.Reference7Ideal.Read.val_main_v29 (F := Ideal) (Cert.Ln.m0 m c) (Cert.Ln.m1 m c) (Cert.Ln.m3 m c) (Cert.Ln.m4 m c),
    fun c => Cert.Reference7Ideal.Read.val_main_v26 (F := Ideal) (Cert.Ln.m0 m c) (Cert.Ln.m1 m c) (Cert.Ln.m3 m c) (Cert.Ln.m4 m c),
    fun c => Cert.Reference7Ideal.Read.val_main_v60 (F := Ideal) (Cert.Ln.m2 m c), ?_, ?_⟩
  · refine (θ_run Cert.Kernel7Ideal.defs _ _).mono (fun r h c => ?_) (Cert.Kernel7Ideal.Value.run_blocks m g)
    obtain ⟨h0, h1, h2, h3, hk⟩ := h c
    exact ⟨h0.trans (Cert.Ln.out5 m c (hp c)), h1.trans (Cert.Ln.out6 m c (hp c)), h2.trans (Cert.Ln.out7 m c (hp c)), h3.trans (Cert.Ln.out8 m c), hk⟩
  · refine (θ_run Cert.Reference7Ideal.defs _ _).mono (fun r h c => ?_) (Cert.Reference7Ideal.Value.run (F := Ideal) m' g')
    obtain ⟨h0, h1, h2, h3, hk⟩ := h c
    obtain ⟨a0, a1, a2, a3, a4⟩ := ha c
    refine ⟨h0.trans ((Cert.Reference7Ideal.Read.val_main_v53_eq m' c).trans ?_),
      h1.trans ((Cert.Reference7Ideal.Read.val_main_v29_eq m' c).trans ?_),
      h2.trans ((Cert.Reference7Ideal.Read.val_main_v26_eq m' c).trans ?_),
      h3.trans ((Cert.Reference7Ideal.Read.val_main_v60_eq _).trans ?_), hk⟩
    · rw [a0, a1, a3, a4]
    · rw [a0, a1, a3, a4]
    · rw [a0, a1, a3, a4]
    · rw [a2]

/-- The certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts, Cert.Pre_tame.Gen.facts, Cert.Pre_tame2.Gen.facts, Cert.Pre_tame7.Gen.facts,
    frame_kernel, frame_ideal, frame_ideal_tame, frame_reference, frame_reference_tame,
    frame_kernel2, frame_ideal2, frame_ideal2_tame, frame_reference2, frame_reference2_tame,
    frame_kernel3, frame_ideal3, frame_reference3, frame_kernel4, frame_ideal4, frame_reference4, frame_kernel5, frame_ideal5, frame_reference5,
    frame_kernel6, frame_ideal6, frame_reference6,
    frame_kernel7, frame_ideal7, frame_ideal7_tame, frame_reference7, frame_reference7_tame,
    trivial, algebraic, trivial, algebraic2, trivial, algebraic3, trivial, algebraic4, trivial, algebraic5, trivial, algebraic6, trivial, algebraic7⟩

end Cert.Proof
